-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)) (v4 : (c : Dev Cert.KernelIdeal.nD) → Buf (Elt Ideal) ((c.tc : Thread Cert.KernelIdeal.nD Cert.KernelIdeal.τ).loc Cert.KernelIdeal.main_v25_4)) (v5 : (c : Dev Cert.KernelIdeal.nD) → Buf (Elt Ideal) ((c.tc : Thread Cert.KernelIdeal.nD Cert.KernelIdeal.τ).loc Cert.KernelIdeal.main_v25_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_v25_4) = v4 c
          ∧ r.2.mem ((c.tc : Thread Cert.KernelIdeal.nD Cert.KernelIdeal.τ).loc Cert.KernelIdeal.main_v25_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_v59) = v4 c
          ∧ r.2.mem ((c.tc : Thread Cert.ReferenceIdeal.nD Cert.ReferenceIdeal.τ).loc Cert.ReferenceIdeal.main_v55) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)) (v4 : (c : Dev Cert.Kernel5Ideal.nD) → Buf (Elt Ideal) ((c.tc : Thread Cert.Kernel5Ideal.nD Cert.Kernel5Ideal.τ).loc Cert.Kernel5Ideal.main_v4_4)) (v5 : (c : Dev Cert.Kernel5Ideal.nD) → Buf (Elt Ideal) ((c.tc : Thread Cert.Kernel5Ideal.nD Cert.Kernel5Ideal.τ).loc Cert.Kernel5Ideal.main_v4_5)) (v6 : (c : Dev Cert.Kernel5Ideal.nD) → Buf (Elt Ideal) ((c.tc : Thread Cert.Kernel5Ideal.nD Cert.Kernel5Ideal.τ).loc Cert.Kernel5Ideal.main_v4_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_v4_4) = v4 c
          ∧ r.2.mem ((c.tc : Thread Cert.Kernel5Ideal.nD Cert.Kernel5Ideal.τ).loc Cert.Kernel5Ideal.main_v4_5) = v5 c
          ∧ r.2.mem ((c.tc : Thread Cert.Kernel5Ideal.nD Cert.Kernel5Ideal.τ).loc Cert.Kernel5Ideal.main_v4_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v104) = v0 c
          ∧ r.2.mem ((c.tc : Thread Cert.Reference5Ideal.nD Cert.Reference5Ideal.τ).loc Cert.Reference5Ideal.main_v110) = v1 c
          ∧ r.2.mem ((c.tc : Thread Cert.Reference5Ideal.nD Cert.Reference5Ideal.τ).loc Cert.Reference5Ideal.main_v111) = v2 c
          ∧ r.2.mem ((c.tc : Thread Cert.Reference5Ideal.nD Cert.Reference5Ideal.τ).loc Cert.Reference5Ideal.main_v112) = v3 c
          ∧ r.2.mem ((c.tc : Thread Cert.Reference5Ideal.nD Cert.Reference5Ideal.τ).loc Cert.Reference5Ideal.main_v113) = v4 c
          ∧ r.2.mem ((c.tc : Thread Cert.Reference5Ideal.nD Cert.Reference5Ideal.τ).loc Cert.Reference5Ideal.main_v114) = v5 c
          ∧ r.2.mem ((c.tc : Thread Cert.Reference5Ideal.nD Cert.Reference5Ideal.τ).loc Cert.Reference5Ideal.main_v109) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v6_0)) (v1 : (c : Dev Cert.Kernel10Ideal.nD) → Buf (Elt Ideal) ((c.tc : Thread Cert.Kernel10Ideal.nD Cert.Kernel10Ideal.τ).loc Cert.Kernel10Ideal.main_v6_1)) (v2 : (c : Dev Cert.Kernel10Ideal.nD) → Buf (Elt Ideal) ((c.tc : Thread Cert.Kernel10Ideal.nD Cert.Kernel10Ideal.τ).loc Cert.Kernel10Ideal.main_v6_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6_0) = v0 c
          ∧ r.2.mem ((c.tc : Thread Cert.Kernel10Ideal.nD Cert.Kernel10Ideal.τ).loc Cert.Kernel10Ideal.main_v6_1) = v1 c
          ∧ r.2.mem ((c.tc : Thread Cert.Kernel10Ideal.nD Cert.Kernel10Ideal.τ).loc Cert.Kernel10Ideal.main_v6_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_v17) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v3_0)) (v1 : (c : Dev Cert.Kernel17Ideal.nD) → Buf (Elt Ideal) ((c.tc : Thread Cert.Kernel17Ideal.nD Cert.Kernel17Ideal.τ).loc Cert.Kernel17Ideal.main_v3_1)) (v2 : (c : Dev Cert.Kernel17Ideal.nD) → Buf (Elt Ideal) ((c.tc : Thread Cert.Kernel17Ideal.nD Cert.Kernel17Ideal.τ).loc Cert.Kernel17Ideal.main_v3_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3_0) = v0 c
          ∧ r.2.mem ((c.tc : Thread Cert.Kernel17Ideal.nD Cert.Kernel17Ideal.τ).loc Cert.Kernel17Ideal.main_v3_1) = v1 c
          ∧ r.2.mem ((c.tc : Thread Cert.Kernel17Ideal.nD Cert.Kernel17Ideal.τ).loc Cert.Kernel17Ideal.main_v3_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v25) = v0 c
          ∧ r.2.mem ((c.tc : Thread Cert.Reference17Ideal.nD Cert.Reference17Ideal.τ).loc Cert.Reference17Ideal.main_v26) = v1 c
          ∧ r.2.mem ((c.tc : Thread Cert.Reference17Ideal.nD Cert.Reference17Ideal.τ).loc Cert.Reference17Ideal.main_v27) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v5_0)) (v1 : (c : Dev Cert.Kernel19Ideal.nD) → Buf (Elt Ideal) ((c.tc : Thread Cert.Kernel19Ideal.nD Cert.Kernel19Ideal.τ).loc Cert.Kernel19Ideal.main_v5_1)) (v2 : (c : Dev Cert.Kernel19Ideal.nD) → Buf (Elt Ideal) ((c.tc : Thread Cert.Kernel19Ideal.nD Cert.Kernel19Ideal.τ).loc Cert.Kernel19Ideal.main_v5_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v5_0) = v0 c
          ∧ r.2.mem ((c.tc : Thread Cert.Kernel19Ideal.nD Cert.Kernel19Ideal.τ).loc Cert.Kernel19Ideal.main_v5_1) = v1 c
          ∧ r.2.mem ((c.tc : Thread Cert.Kernel19Ideal.nD Cert.Kernel19Ideal.τ).loc Cert.Kernel19Ideal.main_v5_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v15) = v0 c
          ∧ r.2.mem ((c.tc : Thread Cert.Reference19Ideal.nD Cert.Reference19Ideal.τ).loc Cert.Reference19Ideal.main_v16) = v1 c
          ∧ r.2.mem ((c.tc : Thread Cert.Reference19Ideal.nD Cert.Reference19Ideal.τ).loc Cert.Reference19Ideal.main_v19) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v5_0)) (v1 : (c : Dev Cert.Kernel20Ideal.nD) → Buf (Elt Ideal) ((c.tc : Thread Cert.Kernel20Ideal.nD Cert.Kernel20Ideal.τ).loc Cert.Kernel20Ideal.main_v5_1)) (v2 : (c : Dev Cert.Kernel20Ideal.nD) → Buf (Elt Ideal) ((c.tc : Thread Cert.Kernel20Ideal.nD Cert.Kernel20Ideal.τ).loc Cert.Kernel20Ideal.main_v5_2)) (v3 : (c : Dev Cert.Kernel20Ideal.nD) → Buf (Elt Ideal) ((c.tc : Thread Cert.Kernel20Ideal.nD Cert.Kernel20Ideal.τ).loc Cert.Kernel20Ideal.main_v5_3)) (v4 : (c : Dev Cert.Kernel20Ideal.nD) → Buf (Elt Ideal) ((c.tc : Thread Cert.Kernel20Ideal.nD Cert.Kernel20Ideal.τ).loc Cert.Kernel20Ideal.main_v5_4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5_0) = v0 c
          ∧ r.2.mem ((c.tc : Thread Cert.Kernel20Ideal.nD Cert.Kernel20Ideal.τ).loc Cert.Kernel20Ideal.main_v5_1) = v1 c
          ∧ r.2.mem ((c.tc : Thread Cert.Kernel20Ideal.nD Cert.Kernel20Ideal.τ).loc Cert.Kernel20Ideal.main_v5_2) = v2 c
          ∧ r.2.mem ((c.tc : Thread Cert.Kernel20Ideal.nD Cert.Kernel20Ideal.τ).loc Cert.Kernel20Ideal.main_v5_3) = v3 c
          ∧ r.2.mem ((c.tc : Thread Cert.Kernel20Ideal.nD Cert.Kernel20Ideal.τ).loc Cert.Kernel20Ideal.main_v5_4) = v4 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v75) = v0 c
          ∧ r.2.mem ((c.tc : Thread Cert.Reference20Ideal.nD Cert.Reference20Ideal.τ).loc Cert.Reference20Ideal.main_v76) = v1 c
          ∧ r.2.mem ((c.tc : Thread Cert.Reference20Ideal.nD Cert.Reference20Ideal.τ).loc Cert.Reference20Ideal.main_v38) = v2 c
          ∧ r.2.mem ((c.tc : Thread Cert.Reference20Ideal.nD Cert.Reference20Ideal.τ).loc Cert.Reference20Ideal.main_v77) = v3 c
          ∧ r.2.mem ((c.tc : Thread Cert.Reference20Ideal.nD Cert.Reference20Ideal.τ).loc Cert.Reference20Ideal.main_v78) = v4 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v6)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v6) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v105) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Kernel.lean ====
abbrev S4096x1024 : Shape := ⟨2, ![4096, 1024]⟩
abbrev S1024 : Shape := ⟨1, ![1024]⟩
abbrev S1024x4096 : Shape := ⟨2, ![1024, 4096]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S512x1024 : Shape := ⟨2, ![512, 1024]⟩
abbrev S4096x512 : Shape := ⟨2, ![4096, 512]⟩
abbrev S8x1024 : Shape := ⟨2, ![8, 1024]⟩
abbrev S1x1024x1024 : Shape := ⟨3, ![1, 1024, 1024]⟩
abbrev S512x512 : Shape := ⟨2, ![512, 512]⟩
abbrev S512 : Shape := ⟨1, ![512]⟩
abbrev S512x1 : Shape := ⟨2, ![512, 1]⟩

abbrev nBuf : Space → Nat
  | .hbm => 42
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .bf16⟩
  | .hbm, ⟨27, _⟩ => ⟨S1024x4x1024, .f32⟩
  | .hbm, ⟨28, _⟩ => ⟨S4x1024x1024, .f32⟩
  | .hbm, ⟨29, _⟩ => ⟨S4x1024x1024, .bf16⟩
  | .hbm, ⟨30, _⟩ => ⟨S1024x1024, .bf16⟩
  | .hbm, ⟨31, _⟩ => ⟨S4096x1024, .bf16⟩
  | .hbm, ⟨32, _⟩ => ⟨S1x1024, .f32⟩
  | .hbm, ⟨33, _⟩ => ⟨S4096x1024, .bf16⟩
  | .hbm, ⟨34, _⟩ => ⟨S512x1024, .bf16⟩
  | .hbm, ⟨35, _⟩ => ⟨S512x1024, .bf16⟩
  | .hbm, ⟨36, _⟩ => ⟨S4096x4096, .bf16⟩
  | .hbm, ⟨37, _⟩ => ⟨S4096x1024, .f32⟩
  | .hbm, ⟨38, _⟩ => ⟨S4096x1024, .bf16⟩
  | .hbm, ⟨39, _⟩ => ⟨S4096x512, .f32⟩
  | .hbm, ⟨40, _⟩ => ⟨S4096x512, .f32⟩
  | .hbm, ⟨41, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024x1024, .bf16⟩
  | .local _ .vmem, ⟨10, _⟩ => ⟨S1x1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S8x1024, .f32⟩
  | .local _ .vmem, ⟨26, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev main_v25_4 : Ref sig .tc := ⟨.hbm, 40, rfl⟩
abbrev main_v25_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_20 : BitVec 32 := 0#32
  let v31 : BitVec 1 := Scalar.cmpi .ne v30 c0_i32_20
  v31

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== ReferenceIdeal.lean ====
abbrev S4096x1024 : Shape := ⟨2, ![4096, 1024]⟩
abbrev S1024 : Shape := ⟨1, ![1024]⟩
abbrev S1024x4096 : Shape := ⟨2, ![1024, 4096]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S8x1024 : Shape := ⟨2, ![8, 1024]⟩
abbrev S4096x512 : Shape := ⟨2, ![4096, 512]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .i1⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x1024, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1x1024, .f32⟩
  | .hbm, ⟨77, _⟩ => ⟨S_, .i32⟩
  | .hbm, ⟨78, _⟩ => ⟨S_, .f32⟩
  | .hbm, ⟨79, _⟩ => ⟨S8x1024, .f32⟩
  | .hbm, ⟨80, _⟩ => ⟨S4096x4096, .bf16⟩
  | .hbm, ⟨81, _⟩ => ⟨S4096x1024, .bf16⟩
  | .hbm, ⟨82, _⟩ => ⟨S4096x512, .f32⟩
  | .hbm, ⟨83, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c : Ref sig .tc := ⟨.hbm, 77, rfl⟩
abbrev main_call1_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S4096x2824 : Shape := ⟨2, ![4096, 2824]⟩
abbrev S1024x2824 : Shape := ⟨2, ![1024, 2824]⟩
abbrev S2824x1024 : Shape := ⟨2, ![2824, 1024]⟩
abbrev S_ : Shape := ⟨0, ![]⟩
abbrev S2944x1024 : Shape := ⟨2, ![2944, 1024]⟩
abbrev S4096x2944 : Shape := ⟨2, ![4096, 2944]⟩
abbrev S512x1024 : Shape := ⟨2, ![512, 1024]⟩
abbrev S128x1024 : Shape := ⟨2, ![128, 1024]⟩
abbrev S2176x1024 : Shape := ⟨2, ![2176, 1024]⟩
abbrev S1x1024 : Shape := ⟨2, ![1, 1024]⟩
abbrev S4096x512 : Shape := ⟨2, ![4096, 512]⟩
abbrev S4096x128 : Shape := ⟨2, ![4096, 128]⟩
abbrev S4096x2176 : Shape := ⟨2, ![4096, 2176]⟩
abbrev S8x1024 : Shape := ⟨2, ![8, 1024]⟩
abbrev S512x512 : Shape := ⟨2, ![512, 512]⟩
abbrev S512x128 : Shape := ⟨2, ![512, 128]⟩
abbrev S512x2176 : Shape := ⟨2, ![512, 2176]⟩
abbrev S512 : Shape := ⟨1, ![512]⟩
abbrev S512x1 : Shape := ⟨2, ![512, 1]⟩

abbrev nBuf : Space → Nat
  | .hbm => 25
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x2824, .f32⟩
  | .hbm, ⟨4, _⟩ => ⟨S1024x2824, .f32⟩
  | .hbm, ⟨5, _⟩ => ⟨S2824x1024, .f32⟩
  | .hbm, ⟨6, _⟩ => ⟨S_, .i32⟩
  | .hbm, ⟨7, _⟩ => ⟨S_, .f32⟩
  | .hbm, ⟨8, _⟩ => ⟨S2944x1024, .f32⟩
  | .hbm, ⟨9, _⟩ => ⟨S2944x1024, .bf16⟩
  | .hbm, ⟨10, _⟩ => ⟨S_, .i32⟩
  | .hbm, ⟨11, _⟩ => ⟨S_, .f32⟩
  | .hbm, ⟨12, _⟩ => ⟨S4096x2944, .f32⟩
  | .hbm, ⟨13, _⟩ => ⟨S4096x2944, .bf16⟩
  | .hbm, ⟨14, _⟩ => ⟨S512x1024, .bf16⟩
  | .hbm, ⟨15, _⟩ => ⟨S128x1024, .bf16⟩
  | .hbm, ⟨16, _⟩ => ⟨S128x1024, .bf16⟩
  | .hbm, ⟨17, _⟩ => ⟨S2176x1024, .bf16⟩
  | .hbm, ⟨18, _⟩ => ⟨S1x1024, .f32⟩
  | .hbm, ⟨19, _⟩ => ⟨S4096x512, .bf16⟩
  | .hbm, ⟨20, _⟩ => ⟨S4096x128, .bf16⟩
  | .hbm, ⟨21, _⟩ => ⟨S4096x128, .bf16⟩
  | .hbm, ⟨22, _⟩ => ⟨S4096x2176, .bf16⟩
  | .hbm, ⟨23, _⟩ => ⟨S4096x1024, .f32⟩
  | .hbm, ⟨24, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x512, .bf16⟩
  | .local _ .vmem, ⟨6, _⟩ => ⟨S512x512, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x2176, .bf16⟩
  | .local _ .vmem, ⟨12, _⟩ => ⟨S512x2176, .bf16⟩
  | .local _ .vmem, ⟨13, _⟩ => ⟨S512x1024, .bf16⟩
  | .local _ .vmem, ⟨14, _⟩ => ⟨S128x1024, .bf16⟩
  | .local _ .vmem, ⟨15, _⟩ => ⟨S128x1024, .bf16⟩
  | .local _ .vmem, ⟨16, _⟩ => ⟨S2176x1024, .bf16⟩
  | .local _ .vmem, ⟨17, _⟩ => ⟨S512x1024, .f32⟩
  | .local _ .vmem, ⟨18, _⟩ => ⟨S512x1024, .f32⟩
  | .local _ .vmem, ⟨19, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2176 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2176x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S4096x1024 : Shape := ⟨2, ![4096, 1024]⟩
abbrev S1024 : Shape := ⟨1, ![1024]⟩
abbrev S4096x2824 : Shape := ⟨2, ![4096, 2824]⟩
abbrev S1024x2824 : Shape := ⟨2, ![1024, 2824]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x2824, .f32⟩
  | .hbm, ⟨4, _⟩ => ⟨S1024x2824, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2824, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | .hbm, ⟨54, _⟩ => ⟨S_, .i32⟩
  | .hbm, ⟨55, _⟩ => ⟨S_, .f32⟩
  | .hbm, ⟨56, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_call0_v0 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Kernel3.lean ====
abbrev S4096x1024 : Shape := ⟨2, ![4096, 1024]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x4096 : Shape := ⟨2, ![4096, 4096]⟩
abbrev S4096x1024 : Shape := ⟨2, ![4096, 1024]⟩
abbrev S_ : Shape := ⟨0, ![]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S4096x1024, .bf16⟩
  | .hbm, ⟨7, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel5.lean ====
abbrev S4096x1024 : Shape := ⟨2, ![4096, 1024]⟩
abbrev S4096x256 : Shape := ⟨2, ![4096, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S8x1024 : Shape := ⟨2, ![8, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 18
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S256x1024, .f32⟩
  | .hbm, ⟨7, _⟩ => ⟨S1x1024, .f32⟩
  | .hbm, ⟨8, _⟩ => ⟨S1x1024, .f32⟩
  | .hbm, ⟨9, _⟩ => ⟨S1024x1024, .bf16⟩
  | .hbm, ⟨10, _⟩ => ⟨S256x1024, .bf16⟩
  | .hbm, ⟨11, _⟩ => ⟨S4096x1024, .f32⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x256, .bf16⟩
  | .hbm, ⟨17, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x256, .bf16⟩
  | .local _ .vmem, ⟨21, _⟩ => ⟨S512x256, .bf16⟩
  | .local _ .vmem, ⟨22, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference5Ideal.lean ====
abbrev S4096x1024 : Shape := ⟨2, ![4096, 1024]⟩
abbrev S4096x256 : Shape := ⟨2, ![4096, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S5x1024 : Shape := ⟨2, ![5, 1024]⟩
abbrev S8x1024 : Shape := ⟨2, ![8, 1024]⟩

abbrev nBuf : Space → Nat
  | .hbm => 152
  | .vmem => 0
  | .smem => 0
  | _ => 0

abbrev hbmTy0_0 (i : Nat) : BufTy := match i % 128 with
  | 0 => ⟨S4096x1024, .f32⟩
  | 1 => ⟨S4096x256, .f32⟩
  | 2 => ⟨S4096x1024, .f32⟩
  | 3 => ⟨S1024, .f32⟩
  | 4 => ⟨S1024, .f32⟩
  | 5 => ⟨S1024x1024, .f32⟩
  | 6 => ⟨S256x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S1x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x1024, .f32⟩
  | 59 => ⟨S4096x1024, .f32⟩
  | 60 => ⟨S1x1024, .f32⟩
  | 61 => ⟨S4096x1024, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096, .f32⟩
  | 70 => ⟨S_, .f32⟩
  | 71 => ⟨S4096, .f32⟩
  | 72 => ⟨S4096, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S4096, .f32⟩
  | 81 => ⟨S_, .f32⟩
  | 82 => ⟨S4096, .f32⟩
  | 83 => ⟨S4096, .f32⟩
  | 84 => ⟨S4096x1024, .f32⟩
  | 85 => ⟨S4096x1024, .f32⟩
  | 86 => ⟨S4096x1024, .f32⟩
  | 87 => ⟨S_, .f32⟩
  | 88 => ⟨S1024, .f32⟩
  | 89 => ⟨S1x1024, .f32⟩
  | 90 => ⟨S4096x1024, .f32⟩
  | 91 => ⟨S4096x1024, .f32⟩
  | 92 => ⟨S_, .f32⟩
  | 93 => ⟨S1024, .f32⟩
  | 94 => ⟨S4096x1024, .f32⟩
  | 95 => ⟨S_, .f32⟩
  | 96 => ⟨S4096, .f32⟩
  | 97 => ⟨S4096x1, .f32⟩
  | 98 => ⟨S4096x1024, .f32⟩
  | 99 => ⟨S4096x1024, .f32⟩
  | 100 => ⟨S4096x1, .f32⟩
  | 101 => ⟨S_, .f32⟩
  | 102 => ⟨S4096x1, .f32⟩
  | 103 => ⟨S4096x1, .f32⟩
  | 104 => ⟨S_, .f32⟩
  | 105 => ⟨S4096, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S_, .f32⟩
  | 117 => ⟨S1024, .f32⟩
  | 118 => ⟨S1x1024, .f32⟩
  | 119 => ⟨S4096x1024, .f32⟩
  | 120 => ⟨S4096x1024, .f32⟩
  | 121 => ⟨S_, .f32⟩
  | 122 => ⟨S1024, .f32⟩
  | 123 => ⟨S4096x1024, .f32⟩
  | 124 => ⟨S_, .f32⟩
  | 125 => ⟨S4096, .f32⟩
  | 126 => ⟨S4096x1, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1, .f32⟩
  | 2 => ⟨S_, .f32⟩
  | 3 => ⟨S4096x1, .f32⟩
  | 4 => ⟨S4096x1, .f32⟩
  | 5 => ⟨S_, .f32⟩
  | 6 => ⟨S4096, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S1x1024, .f32⟩
  | 14 => ⟨S1x1024, .f32⟩
  | 15 => ⟨S1x1024, .f32⟩
  | 16 => ⟨S_, .f32⟩
  | 17 => ⟨S5x1024, .f32⟩
  | 18 => ⟨S8x1024, .f32⟩
  | 19 => ⟨S4096x1024, .bf16⟩
  | 20 => ⟨S4096x1024, .bf16⟩
  | 21 => ⟨S4096x1024, .bf16⟩
  | 22 => ⟨S4096x1024, .bf16⟩
  | 23 => ⟨S4096x256, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_cst_15 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_19 : Ref sig .tc := ⟨.hbm, 92, rfl⟩
abbrev main_v65 : Ref sig .tc := ⟨.hbm, 93, rfl⟩
abbrev main_v66 : Ref sig .tc := ⟨.hbm, 94, rfl⟩
abbrev main_cst_20 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_21 : Ref sig .tc := ⟨.hbm, 101, rfl⟩
abbrev main_v72 : Ref sig .tc := ⟨.hbm, 102, rfl⟩
abbrev main_v73 : Ref sig .tc := ⟨.hbm, 103, rfl⟩
abbrev main_cst_22 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_23 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_24 : Ref sig .tc := ⟨.hbm, 121, rfl⟩
abbrev main_v89 : Ref sig .tc := ⟨.hbm, 122, rfl⟩
abbrev main_v90 : Ref sig .tc := ⟨.hbm, 123, rfl⟩
abbrev main_cst_25 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_26 : Ref sig .tc := ⟨.hbm, 130, rfl⟩
abbrev main_v96 : Ref sig .tc := ⟨.hbm, 131, rfl⟩
abbrev main_v97 : Ref sig .tc := ⟨.hbm, 132, rfl⟩
abbrev main_cst_27 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_28 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩

abbrev nD : Nat := 1
abbrev τ : Topo := Topo.v7x

variable {F : FTy → Type} [FloatOps F]
-- ==== Kernel6.lean ====
abbrev S4096x1024 : Shape := ⟨2, ![4096, 1024]⟩
abbrev S4096x2824 : Shape := ⟨2, ![4096, 2824]⟩
abbrev S_ : Shape := ⟨0, ![]⟩
abbrev S4096x2944 : Shape := ⟨2, ![4096, 2944]⟩
abbrev S4096x512 : Shape := ⟨2, ![4096, 512]⟩
abbrev S4096x128 : Shape := ⟨2, ![4096, 128]⟩
abbrev S4096x2176 : Shape := ⟨2, ![4096, 2176]⟩
abbrev S2944x1024 : Shape := ⟨2, ![2944, 1024]⟩
abbrev S1024x512 : Shape := ⟨2, ![1024, 512]⟩
abbrev S1024x128 : Shape := ⟨2, ![1024, 128]⟩
abbrev S1024x2176 : Shape := ⟨2, ![1024, 2176]⟩
abbrev S1024x1024 : Shape := ⟨2, ![1024, 1024]⟩
abbrev S512x1024 : Shape := ⟨2, ![512, 1024]⟩
abbrev S128x1024 : Shape := ⟨2, ![128, 1024]⟩
abbrev S2176x1024 : Shape := ⟨2, ![2176, 1024]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x2824, .f32⟩
  | .hbm, ⟨2, _⟩ => ⟨S_, .i32⟩
  | .hbm, ⟨3, _⟩ => ⟨S_, .f32⟩
  | .hbm, ⟨4, _⟩ => ⟨S4096x2944, .f32⟩
  | .hbm, ⟨5, _⟩ => ⟨S4096x2944, .bf16⟩
  | .hbm, ⟨6, _⟩ => ⟨S4096x512, .bf16⟩
  | .hbm, ⟨7, _⟩ => ⟨S4096x128, .bf16⟩
  | .hbm, ⟨8, _⟩ => ⟨S4096x128, .bf16⟩
  | .hbm, ⟨9, _⟩ => ⟨S4096x2176, .bf16⟩
  | .hbm, ⟨10, _⟩ => ⟨S4096x1024, .bf16⟩
  | .hbm, ⟨11, _⟩ => ⟨S2944x1024, .f32⟩
  | .local _ .vmem, ⟨0, _⟩ => ⟨S1024x512, .bf16⟩
  | .local _ .vmem, ⟨1, _⟩ => ⟨S1024x512, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x2176, .bf16⟩
  | .local _ .vmem, ⟨7, _⟩ => ⟨S1024x2176, .bf16⟩
  | .local _ .vmem, ⟨8, _⟩ => ⟨S1024x1024, .bf16⟩
  | .local _ .vmem, ⟨9, _⟩ => ⟨S1024x1024, .bf16⟩
  | .local _ .vmem, ⟨10, _⟩ => ⟨S2944x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2176 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2944x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference6Ideal.lean ====
abbrev S4096x1024 : Shape := ⟨2, ![4096, 1024]⟩
abbrev S4096x2824 : Shape := ⟨2, ![4096, 2824]⟩
abbrev S_ : Shape := ⟨0, ![]⟩
abbrev S1024x2824 : Shape := ⟨2, ![1024, 2824]⟩
abbrev S2824x1024 : Shape := ⟨2, ![2824, 1024]⟩
abbrev S2944x1024 : Shape := ⟨2, ![2944, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2824, .f32⟩
  | .hbm, ⟨2, _⟩ => ⟨S_, .f32⟩
  | .hbm, ⟨3, _⟩ => ⟨S1024x2824, .f32⟩
  | .hbm, ⟨4, _⟩ => ⟨S4096x2824, .f32⟩
  | .hbm, ⟨5, _⟩ => ⟨S2824x1024, .f32⟩
  | .hbm, ⟨6, _⟩ => ⟨S1024x2824, .f32⟩
  | .hbm, ⟨7, _⟩ => ⟨S2824x1024, .f32⟩
  | .hbm, ⟨8, _⟩ => ⟨S_, .i32⟩
  | .hbm, ⟨9, _⟩ => ⟨S_, .f32⟩
  | .hbm, ⟨10, _⟩ => ⟨S2944x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel7.lean ====
abbrev S4096x1024 : Shape := ⟨2, ![4096, 1024]⟩
abbrev S4096x512 : Shape := ⟨2, ![4096, 512]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x512, .bf16⟩
  | .hbm, ⟨4, _⟩ => ⟨S4096x512, .bf16⟩
  | .hbm, ⟨5, _⟩ => ⟨S4096x1024, .bf16⟩
  | .hbm, ⟨6, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x256 : Shape := ⟨2, ![4096, 256]⟩
abbrev S4096x1024 : Shape := ⟨2, ![4096, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S4096x256, .bf16⟩
  | .hbm, ⟨3, _⟩ => ⟨S4096x1024, .bf16⟩
  | .hbm, ⟨4, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S1024x256, .f32⟩
  | .hbm, ⟨6, _⟩ => ⟨S256x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S1024 : Shape := ⟨1, ![1024]⟩
abbrev S1024x2824 : Shape := ⟨2, ![1024, 2824]⟩
abbrev S2824x1024 : Shape := ⟨2, ![2824, 1024]⟩
abbrev S_ : Shape := ⟨0, ![]⟩
abbrev S2944x1024 : Shape := ⟨2, ![2944, 1024]⟩
abbrev S1x1024 : Shape := ⟨2, ![1, 1024]⟩
abbrev S768x1024 : Shape := ⟨2, ![768, 1024]⟩
abbrev S2176x1024 : Shape := ⟨2, ![2176, 1024]⟩
abbrev S4096x768 : Shape := ⟨2, ![4096, 768]⟩
abbrev S4096x2176 : Shape := ⟨2, ![4096, 2176]⟩
abbrev S512x1024 : Shape := ⟨2, ![512, 1024]⟩
abbrev S512x768 : Shape := ⟨2, ![512, 768]⟩
abbrev S512x2176 : Shape := ⟨2, ![512, 2176]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2824, .f32⟩
  | .hbm, ⟨3, _⟩ => ⟨S2824x1024, .f32⟩
  | .hbm, ⟨4, _⟩ => ⟨S_, .i32⟩
  | .hbm, ⟨5, _⟩ => ⟨S_, .f32⟩
  | .hbm, ⟨6, _⟩ => ⟨S2944x1024, .f32⟩
  | .hbm, ⟨7, _⟩ => ⟨S2944x1024, .bf16⟩
  | .hbm, ⟨8, _⟩ => ⟨S1x1024, .f32⟩
  | .hbm, ⟨9, _⟩ => ⟨S768x1024, .bf16⟩
  | .hbm, ⟨10, _⟩ => ⟨S2176x1024, .bf16⟩
  | .hbm, ⟨11, _⟩ => ⟨S4096x1024, .bf16⟩
  | .hbm, ⟨12, _⟩ => ⟨S4096x768, .f32⟩
  | .hbm, ⟨13, _⟩ => ⟨S4096x2176, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S768x1024, .bf16⟩
  | .local _ .vmem, ⟨4, _⟩ => ⟨S2176x1024, .bf16⟩
  | .local _ .vmem, ⟨5, _⟩ => ⟨S512x1024, .bf16⟩
  | .local _ .vmem, ⟨6, _⟩ => ⟨S512x1024, .bf16⟩
  | .local _ .vmem, ⟨7, _⟩ => ⟨S512x768, .f32⟩
  | .local _ .vmem, ⟨8, _⟩ => ⟨S512x768, .f32⟩
  | .local _ .vmem, ⟨9, _⟩ => ⟨S512x2176, .f32⟩
  | .local _ .vmem, ⟨10, _⟩ => ⟨S512x2176, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2176x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2176 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S4096x1024 : Shape := ⟨2, ![4096, 1024]⟩
abbrev S1024 : Shape := ⟨1, ![1024]⟩
abbrev S1024x2824 : Shape := ⟨2, ![1024, 2824]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2824 : Shape := ⟨2, ![4096, 2824]⟩
abbrev S4096x2944 : Shape := ⟨2, ![4096, 2944]⟩
abbrev S4096x768 : Shape := ⟨2, ![4096, 768]⟩
abbrev S4096x2176 : Shape := ⟨2, ![4096, 2176]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2824, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x2824, .f32⟩
  | .hbm, ⟨20, _⟩ => ⟨S_, .i32⟩
  | .hbm, ⟨21, _⟩ => ⟨S_, .f32⟩
  | .hbm, ⟨22, _⟩ => ⟨S4096x2944, .f32⟩
  | .hbm, ⟨23, _⟩ => ⟨S4096x1024, .bf16⟩
  | .hbm, ⟨24, _⟩ => ⟨S4096x768, .f32⟩
  | .hbm, ⟨25, _⟩ => ⟨S4096x2176, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩
abbrev S512x512 : Shape := ⟨2, ![512, 512]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .bf16⟩
  | .hbm, ⟨4, _⟩ => ⟨S4096x1024, .bf16⟩
  | .hbm, ⟨5, _⟩ => ⟨S4096x512, .bf16⟩
  | .hbm, ⟨6, _⟩ => ⟨S4096x512, .bf16⟩
  | .hbm, ⟨7, _⟩ => ⟨S512x1024, .bf16⟩
  | .hbm, ⟨8, _⟩ => ⟨S512x1024, .bf16⟩
  | .hbm, ⟨9, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S256x1024 : Shape := ⟨2, ![256, 1024]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x128, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference12Ideal.lean ====
abbrev S256x1024 : Shape := ⟨2, ![256, 1024]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x128, .f32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel13.lean ====
abbrev S1024x1024 : Shape := ⟨2, ![1024, 1024]⟩
abbrev S8x128 : Shape := ⟨2, ![8, 128]⟩
abbrev S256x1024 : Shape := ⟨2, ![256, 1024]⟩

abbrev nBuf : Space → Nat
  | .hbm => 8
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x128, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S1024x1024 : Shape := ⟨2, ![1024, 1024]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x128, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S_, .f32⟩
  | .hbm, ⟨36, _⟩ => ⟨S1024x1024, .f32⟩
  | .hbm, ⟨37, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel14.lean ====
abbrev S1024x1024 : Shape := ⟨2, ![1024, 1024]⟩
abbrev S8x128 : Shape := ⟨2, ![8, 128]⟩
abbrev S256x1024 : Shape := ⟨2, ![256, 1024]⟩

abbrev nBuf : Space → Nat
  | .hbm => 8
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x128, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S1024x1024 : Shape := ⟨2, ![1024, 1024]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x128, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S_, .f32⟩
  | .hbm, ⟨36, _⟩ => ⟨S1024x1024, .f32⟩
  | .hbm, ⟨37, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel15.lean ====
abbrev S256x1024 : Shape := ⟨2, ![256, 1024]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x128, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S256x1024 : Shape := ⟨2, ![256, 1024]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x128, .f32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel16.lean ====
abbrev S256x256 : Shape := ⟨2, ![256, 256]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x128, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S256x256 : Shape := ⟨2, ![256, 256]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x128, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S_, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S256x256, .f32⟩
  | .hbm, ⟨27, _⟩ => ⟨S_, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel17.lean ====
abbrev S1024x706 : Shape := ⟨2, ![1024, 706]⟩
abbrev S706x1024 : Shape := ⟨2, ![706, 1024]⟩
abbrev S8x128 : Shape := ⟨2, ![8, 128]⟩
abbrev S706x256 : Shape := ⟨2, ![706, 256]⟩

abbrev nBuf : Space → Nat
  | .hbm => 11
  | .vmem => 14
  | .smem => 0
  | _ => 0

abbrev bufTy : (tb : Table) → Fin (tcTables nBuf tb) → BufTy
  | .hbm, ⟨0, _⟩ => ⟨S1024x706, .f32⟩
  | .hbm, ⟨1, _⟩ => ⟨S706x1024, .f32⟩
  | .hbm, ⟨2, _⟩ => ⟨S1024x706, .f32⟩
  | .hbm, ⟨3, _⟩ => ⟨S1024x706, .f32⟩
  | .hbm, ⟨4, _⟩ => ⟨S8x128, .f32⟩
  | .hbm, ⟨5, _⟩ => ⟨S706x1024, .f32⟩
  | .hbm, ⟨6, _⟩ => ⟨S706x1024, .f32⟩
  | .hbm, ⟨7, _⟩ => ⟨S706x1024, .f32⟩
  | .hbm, ⟨8, _⟩ => ⟨S706x1024, .f32⟩
  | .hbm, ⟨9, _⟩ => ⟨S706x1024, .f32⟩
  | .hbm, ⟨10, _⟩ => ⟨S706x1024, .f32⟩
  | .local _ .vmem, ⟨0, _⟩ => ⟨S706x256, .f32⟩
  | .local _ .vmem, ⟨1, _⟩ => ⟨S706x256, .f32⟩
  | .local _ .vmem, ⟨2, _⟩ => ⟨S706x256, .f32⟩
  | .local _ .vmem, ⟨3, _⟩ => ⟨S706x256, .f32⟩
  | .local _ .vmem, ⟨4, _⟩ => ⟨S706x256, .f32⟩
  | .local _ .vmem, ⟨5, _⟩ => ⟨S706x256, .f32⟩
  | .local _ .vmem, ⟨6, _⟩ => ⟨S706x256, .f32⟩
  | .local _ .vmem, ⟨7, _⟩ => ⟨S706x256, .f32⟩
  | .local _ .vmem, ⟨8, _⟩ => ⟨S706x256, .f32⟩
  | .local _ .vmem, ⟨9, _⟩ => ⟨S706x256, .f32⟩
  | .local _ .vmem, ⟨10, _⟩ => ⟨S706x256, .f32⟩
  | .local _ .vmem, ⟨11, _⟩ => ⟨S706x256, .f32⟩
  | .local _ .vmem, ⟨12, _⟩ => ⟨S706x256, .f32⟩
  | .local _ .vmem, ⟨13, _⟩ => ⟨S706x256, .f32⟩
  | _, _ => ⟨S1024x706, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S706x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S706x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S706x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S706x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S706x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S706x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S706x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1024x706 : Shape := ⟨2, ![1024, 706]⟩
abbrev S706x1024 : Shape := ⟨2, ![706, 1024]⟩
abbrev S8x128 : Shape := ⟨2, ![8, 128]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1024x706, .f32⟩
  | .hbm, ⟨1, _⟩ => ⟨S706x1024, .f32⟩
  | .hbm, ⟨2, _⟩ => ⟨S1024x706, .f32⟩
  | .hbm, ⟨3, _⟩ => ⟨S1024x706, .f32⟩
  | .hbm, ⟨4, _⟩ => ⟨S8x128, .f32⟩
  | .hbm, ⟨5, _⟩ => ⟨S1024x706, .f32⟩
  | .hbm, ⟨6, _⟩ => ⟨S_, .f32⟩
  | .hbm, ⟨7, _⟩ => ⟨S1024x706, .f32⟩
  | .hbm, ⟨8, _⟩ => ⟨S1024x706, .f32⟩
  | .hbm, ⟨9, _⟩ => ⟨S_, .f32⟩
  | .hbm, ⟨10, _⟩ => ⟨S1024x706, .f32⟩
  | .hbm, ⟨11, _⟩ => ⟨S1024x706, .f32⟩
  | .hbm, ⟨12, _⟩ => ⟨S1024x706, .f32⟩
  | .hbm, ⟨13, _⟩ => ⟨S_, .f32⟩
  | .hbm, ⟨14, _⟩ => ⟨S1024x706, .f32⟩
  | .hbm, ⟨15, _⟩ => ⟨S1024x706, .f32⟩
  | .hbm, ⟨16, _⟩ => ⟨S1024x706, .f32⟩
  | .hbm, ⟨17, _⟩ => ⟨S_, .f32⟩
  | .hbm, ⟨18, _⟩ => ⟨S1024x706, .f32⟩
  | .hbm, ⟨19, _⟩ => ⟨S1024x706, .f32⟩
  | .hbm, ⟨20, _⟩ => ⟨S1024x706, .f32⟩
  | .hbm, ⟨21, _⟩ => ⟨S_, .f32⟩
  | .hbm, ⟨22, _⟩ => ⟨S1024x706, .f32⟩
  | .hbm, ⟨23, _⟩ => ⟨S1024x706, .f32⟩
  | .hbm, ⟨24, _⟩ => ⟨S_, .f32⟩
  | .hbm, ⟨25, _⟩ => ⟨S1024x706, .f32⟩
  | .hbm, ⟨26, _⟩ => ⟨S1024x706, .f32⟩
  | .hbm, ⟨27, _⟩ => ⟨S1024x706, .f32⟩
  | .hbm, ⟨28, _⟩ => ⟨S_, .f32⟩
  | .hbm, ⟨29, _⟩ => ⟨S1024x706, .f32⟩
  | .hbm, ⟨30, _⟩ => ⟨S1024x706, .f32⟩
  | .hbm, ⟨31, _⟩ => ⟨S1024x706, .f32⟩
  | .hbm, ⟨32, _⟩ => ⟨S_, .f32⟩
  | .hbm, ⟨33, _⟩ => ⟨S1024x706, .f32⟩
  | .hbm, ⟨34, _⟩ => ⟨S1024x706, .f32⟩
  | .hbm, ⟨35, _⟩ => ⟨S1024x706, .f32⟩
  | .hbm, ⟨36, _⟩ => ⟨S_, .f32⟩
  | .hbm, ⟨37, _⟩ => ⟨S1024x706, .f32⟩
  | .hbm, ⟨38, _⟩ => ⟨S1024x706, .f32⟩
  | .hbm, ⟨39, _⟩ => ⟨S706x1024, .f32⟩
  | .hbm, ⟨40, _⟩ => ⟨S706x1024, .f32⟩
  | .hbm, ⟨41, _⟩ => ⟨S706x1024, .f32⟩
  | _, _ => ⟨S1024x706, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel18.lean ====
abbrev S16x1536 : Shape := ⟨2, ![16, 1536]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S16x1536, .f32⟩
  | .hbm, ⟨1, _⟩ => ⟨S16x1536, .f32⟩
  | .hbm, ⟨2, _⟩ => ⟨S16x1536, .f32⟩
  | .hbm, ⟨3, _⟩ => ⟨S16x1536, .f32⟩
  | .hbm, ⟨4, _⟩ => ⟨S8x128, .f32⟩
  | .hbm, ⟨5, _⟩ => ⟨S16x1536, .f32⟩
  | .hbm, ⟨6, _⟩ => ⟨S16x1536, .f32⟩
  | .hbm, ⟨7, _⟩ => ⟨S16x1536, .f32⟩
  | .local _ .vmem, ⟨0, _⟩ => ⟨S16x1536, .f32⟩
  | .local _ .vmem, ⟨1, _⟩ => ⟨S16x1536, .f32⟩
  | .local _ .vmem, ⟨2, _⟩ => ⟨S16x1536, .f32⟩
  | .local _ .vmem, ⟨3, _⟩ => ⟨S16x1536, .f32⟩
  | .local _ .vmem, ⟨4, _⟩ => ⟨S16x1536, .f32⟩
  | .local _ .vmem, ⟨5, _⟩ => ⟨S16x1536, .f32⟩
  | .local _ .vmem, ⟨6, _⟩ => ⟨S16x1536, .f32⟩
  | _, _ => ⟨S16x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S16x1536 : Shape := ⟨2, ![16, 1536]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S16x1536, .f32⟩
  | .hbm, ⟨1, _⟩ => ⟨S16x1536, .f32⟩
  | .hbm, ⟨2, _⟩ => ⟨S16x1536, .f32⟩
  | .hbm, ⟨3, _⟩ => ⟨S16x1536, .f32⟩
  | .hbm, ⟨4, _⟩ => ⟨S8x128, .f32⟩
  | .hbm, ⟨5, _⟩ => ⟨S_, .f32⟩
  | .hbm, ⟨6, _⟩ => ⟨S16x1536, .f32⟩
  | .hbm, ⟨7, _⟩ => ⟨S16x1536, .f32⟩
  | .hbm, ⟨8, _⟩ => ⟨S_, .f32⟩
  | .hbm, ⟨9, _⟩ => ⟨S16x1536, .f32⟩
  | .hbm, ⟨10, _⟩ => ⟨S16x1536, .f32⟩
  | .hbm, ⟨11, _⟩ => ⟨S16x1536, .f32⟩
  | .hbm, ⟨12, _⟩ => ⟨S_, .f32⟩
  | .hbm, ⟨13, _⟩ => ⟨S16x1536, .f32⟩
  | .hbm, ⟨14, _⟩ => ⟨S16x1536, .f32⟩
  | .hbm, ⟨15, _⟩ => ⟨S16x1536, .f32⟩
  | .hbm, ⟨16, _⟩ => ⟨S_, .f32⟩
  | .hbm, ⟨17, _⟩ => ⟨S16x1536, .f32⟩
  | .hbm, ⟨18, _⟩ => ⟨S16x1536, .f32⟩
  | .hbm, ⟨19, _⟩ => ⟨S16x1536, .f32⟩
  | .hbm, ⟨20, _⟩ => ⟨S_, .f32⟩
  | .hbm, ⟨21, _⟩ => ⟨S16x1536, .f32⟩
  | .hbm, ⟨22, _⟩ => ⟨S16x1536, .f32⟩
  | .hbm, ⟨23, _⟩ => ⟨S_, .f32⟩
  | .hbm, ⟨24, _⟩ => ⟨S16x1536, .f32⟩
  | .hbm, ⟨25, _⟩ => ⟨S16x1536, .f32⟩
  | .hbm, ⟨26, _⟩ => ⟨S16x1536, .f32⟩
  | .hbm, ⟨27, _⟩ => ⟨S_, .f32⟩
  | .hbm, ⟨28, _⟩ => ⟨S16x1536, .f32⟩
  | .hbm, ⟨29, _⟩ => ⟨S16x1536, .f32⟩
  | .hbm, ⟨30, _⟩ => ⟨S16x1536, .f32⟩
  | .hbm, ⟨31, _⟩ => ⟨S_, .f32⟩
  | .hbm, ⟨32, _⟩ => ⟨S16x1536, .f32⟩
  | .hbm, ⟨33, _⟩ => ⟨S16x1536, .f32⟩
  | .hbm, ⟨34, _⟩ => ⟨S16x1536, .f32⟩
  | .hbm, ⟨35, _⟩ => ⟨S_, .f32⟩
  | .hbm, ⟨36, _⟩ => ⟨S16x1536, .f32⟩
  | .hbm, ⟨37, _⟩ => ⟨S16x1536, .f32⟩
  | _, _ => ⟨S16x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel19.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S4096x4096 : Shape := ⟨2, ![4096, 4096]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | .hbm, ⟨7, _⟩ => ⟨S1x1024, .f32⟩
  | .hbm, ⟨8, _⟩ => ⟨S4096x1024, .bf16⟩
  | .hbm, ⟨9, _⟩ => ⟨S4096x1024, .bf16⟩
  | .hbm, ⟨10, _⟩ => ⟨S4096x4096, .bf16⟩
  | .hbm, ⟨11, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference19Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x1024, .bf16⟩
  | .hbm, ⟨25, _⟩ => ⟨S4096x4096, .bf16⟩
  | .hbm, ⟨26, _⟩ => ⟨S4096x4096, .f32⟩
  | .hbm, ⟨27, _⟩ => ⟨S4096x1024, .f32⟩
  | .hbm, ⟨28, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel20.lean ====
abbrev S4096x2056 : Shape := ⟨2, ![4096, 2056]⟩
abbrev S4x1536 : Shape := ⟨2, ![4, 1536]⟩
abbrev S4 : Shape := ⟨1, ![4]⟩
abbrev S_ : Shape := ⟨0, ![]⟩
abbrev S4096x2176 : Shape := ⟨2, ![4096, 2176]⟩
abbrev S128 : Shape := ⟨1, ![128]⟩
abbrev S1x128 : Shape := ⟨2, ![1, 128]⟩
abbrev S4096x512 : Shape := ⟨2, ![4096, 512]⟩
abbrev S4096x128 : Shape := ⟨2, ![4096, 128]⟩
abbrev S8x4096 : Shape := ⟨2, ![8, 4096]⟩
abbrev S512x1536 : Shape := ⟨2, ![512, 1536]⟩
abbrev S8x1536 : Shape := ⟨2, ![8, 1536]⟩
abbrev S512x128 : Shape := ⟨2, ![512, 128]⟩
abbrev S512x512 : Shape := ⟨2, ![512, 512]⟩
abbrev S8x512 : Shape := ⟨2, ![8, 512]⟩
abbrev S520x1536 : Shape := ⟨2, ![520, 1536]⟩
abbrev S1x1536 : Shape := ⟨2, ![1, 1536]⟩
abbrev S512 : Shape := ⟨1, ![512]⟩
abbrev S512x1 : Shape := ⟨2, ![512, 1]⟩
abbrev S128x512 : Shape := ⟨2, ![128, 512]⟩

abbrev nBuf : Space → Nat
  | .hbm => 20
  | .vmem => 20
  | .smem => 0
  | _ => 0

abbrev bufTy : (tb : Table) → Fin (tcTables nBuf tb) → BufTy
  | .hbm, ⟨0, _⟩ => ⟨S4096x2056, .f32⟩
  | .hbm, ⟨1, _⟩ => ⟨S4x1536, .f32⟩
  | .hbm, ⟨2, _⟩ => ⟨S4, .f32⟩
  | .hbm, ⟨3, _⟩ => ⟨S4, .f32⟩
  | .hbm, ⟨4, _⟩ => ⟨S_, .i32⟩
  | .hbm, ⟨5, _⟩ => ⟨S_, .f32⟩
  | .hbm, ⟨6, _⟩ => ⟨S4096x2176, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x128, .f32⟩
  | .hbm, ⟨19, _⟩ => ⟨S8x4096, .f32⟩
  | .local _ .vmem, ⟨0, _⟩ => ⟨S512x1536, .f32⟩
  | .local _ .vmem, ⟨1, _⟩ => ⟨S512x1536, .f32⟩
  | .local _ .vmem, ⟨2, _⟩ => ⟨S8x1536, .f32⟩
  | .local _ .vmem, ⟨3, _⟩ => ⟨S8x1536, .f32⟩
  | .local _ .vmem, ⟨4, _⟩ => ⟨S512x128, .f32⟩
  | .local _ .vmem, ⟨5, _⟩ => ⟨S512x128, .f32⟩
  | .local _ .vmem, ⟨6, _⟩ => ⟨S4x1536, .f32⟩
  | .local _ .vmem, ⟨7, _⟩ => ⟨S1x128, .f32⟩
  | .local _ .vmem, ⟨8, _⟩ => ⟨S1x128, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x128, .f32⟩
  | .local _ .vmem, ⟨16, _⟩ => ⟨S512x128, .f32⟩
  | .local _ .vmem, ⟨17, _⟩ => ⟨S8x512, .f32⟩
  | .local _ .vmem, ⟨18, _⟩ => ⟨S8x512, .f32⟩
  | .local _ .vmem, ⟨19, _⟩ => ⟨S520x1536, .f32⟩
  | _, _ => ⟨S4096x2056, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference20Ideal.lean ====
abbrev S4096x2056 : Shape := ⟨2, ![4096, 2056]⟩
abbrev S4x1536 : Shape := ⟨2, ![4, 1536]⟩
abbrev S4 : Shape := ⟨1, ![4]⟩
abbrev S4096x512 : Shape := ⟨2, ![4096, 512]⟩
abbrev S4096x4 : Shape := ⟨2, ![4096, 4]⟩
abbrev S4096x1536 : Shape := ⟨2, ![4096, 1536]⟩
abbrev S_ : Shape := ⟨0, ![]⟩
abbrev S4099x1536 : Shape := ⟨2, ![4099, 1536]⟩
abbrev S1x1536 : Shape := ⟨2, ![1, 1536]⟩
abbrev S1536 : Shape := ⟨1, ![1536]⟩
abbrev S4096x4x128 : Shape := ⟨3, ![4096, 4, 128]⟩
abbrev S4096x4x1 : Shape := ⟨3, ![4096, 4, 1]⟩
abbrev S1x4 : Shape := ⟨2, ![1, 4]⟩
abbrev S4096x8 : Shape := ⟨2, ![4096, 8]⟩
abbrev S4096x128 : Shape := ⟨2, ![4096, 128]⟩
abbrev S8x4096 : Shape := ⟨2, ![8, 4096]⟩

abbrev nBuf : Space → Nat
  | .hbm => 115
  | .vmem => 0
  | .smem => 0
  | _ => 0

abbrev bufTy : (tb : Table) → Fin (tcTables nBuf tb) → BufTy
  | .hbm, ⟨0, _⟩ => ⟨S4096x2056, .f32⟩
  | .hbm, ⟨1, _⟩ => ⟨S4x1536, .f32⟩
  | .hbm, ⟨2, _⟩ => ⟨S4, .f32⟩
  | .hbm, ⟨3, _⟩ => ⟨S4, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x4, .f32⟩
  | .hbm, ⟨9, _⟩ => ⟨S4096x4, .f32⟩
  | .hbm, ⟨10, _⟩ => ⟨S4096x1536, .f32⟩
  | .hbm, ⟨11, _⟩ => ⟨S_, .i32⟩
  | .hbm, ⟨12, _⟩ => ⟨S_, .f32⟩
  | .hbm, ⟨13, _⟩ => ⟨S4099x1536, .f32⟩
  | .hbm, ⟨14, _⟩ => ⟨S1x1536, .f32⟩
  | .hbm, ⟨15, _⟩ => ⟨S1536, .f32⟩
  | .hbm, ⟨16, _⟩ => ⟨S4096x1536, .f32⟩
  | .hbm, ⟨17, _⟩ => ⟨S1x1536, .f32⟩
  | .hbm, ⟨18, _⟩ => ⟨S4096x1536, .f32⟩
  | .hbm, ⟨19, _⟩ => ⟨S4096x1536, .f32⟩
  | .hbm, ⟨20, _⟩ => ⟨S1x1536, .f32⟩
  | .hbm, ⟨21, _⟩ => ⟨S1536, .f32⟩
  | .hbm, ⟨22, _⟩ => ⟨S4096x1536, .f32⟩
  | .hbm, ⟨23, _⟩ => ⟨S1x1536, .f32⟩
  | .hbm, ⟨24, _⟩ => ⟨S4096x1536, .f32⟩
  | .hbm, ⟨25, _⟩ => ⟨S4096x1536, .f32⟩
  | .hbm, ⟨26, _⟩ => ⟨S4096x1536, .f32⟩
  | .hbm, ⟨27, _⟩ => ⟨S1x1536, .f32⟩
  | .hbm, ⟨28, _⟩ => ⟨S1536, .f32⟩
  | .hbm, ⟨29, _⟩ => ⟨S4096x1536, .f32⟩
  | .hbm, ⟨30, _⟩ => ⟨S1x1536, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S1x1536, .f32⟩
  | .hbm, ⟨35, _⟩ => ⟨S1536, .f32⟩
  | .hbm, ⟨36, _⟩ => ⟨S4096x1536, .f32⟩
  | .hbm, ⟨37, _⟩ => ⟨S1x1536, .f32⟩
  | .hbm, ⟨38, _⟩ => ⟨S4096x1536, .f32⟩
  | .hbm, ⟨39, _⟩ => ⟨S4096x1536, .f32⟩
  | .hbm, ⟨40, _⟩ => ⟨S4096x1536, .f32⟩
  | .hbm, ⟨41, _⟩ => ⟨S4096x1536, .f32⟩
  | .hbm, ⟨42, _⟩ => ⟨S4096x1536, .f32⟩
  | .hbm, ⟨43, _⟩ => ⟨S_, .f32⟩
  | .hbm, ⟨44, _⟩ => ⟨S4096x1536, .f32⟩
  | .hbm, ⟨45, _⟩ => ⟨S4096x1536, .f32⟩
  | .hbm, ⟨46, _⟩ => ⟨S_, .f32⟩
  | .hbm, ⟨47, _⟩ => ⟨S4096x1536, .f32⟩
  | .hbm, ⟨48, _⟩ => ⟨S4096x1536, .f32⟩
  | .hbm, ⟨49, _⟩ => ⟨S4096x1536, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x4x128, .f32⟩
  | .hbm, ⟨54, _⟩ => ⟨S4096x4x128, .f32⟩
  | .hbm, ⟨55, _⟩ => ⟨S_, .f32⟩
  | .hbm, ⟨56, _⟩ => ⟨S4096x4, .f32⟩
  | .hbm, ⟨57, _⟩ => ⟨S4096x4x1, .f32⟩
  | .hbm, ⟨58, _⟩ => ⟨S_, .f32⟩
  | .hbm, ⟨59, _⟩ => ⟨S4096x4x1, .f32⟩
  | .hbm, ⟨60, _⟩ => ⟨S4096x4x1, .f32⟩
  | .hbm, ⟨61, _⟩ => ⟨S4096x4x1, .f32⟩
  | .hbm, ⟨62, _⟩ => ⟨S4096x4x128, .f32⟩
  | .hbm, ⟨63, _⟩ => ⟨S4096x4x128, .f32⟩
  | .hbm, ⟨64, _⟩ => ⟨S_, .f32⟩
  | .hbm, ⟨65, _⟩ => ⟨S4096x4x128, .f32⟩
  | .hbm, ⟨66, _⟩ => ⟨S4096x4x128, .f32⟩
  | .hbm, ⟨67, _⟩ => ⟨S4096x4x128, .f32⟩
  | .hbm, ⟨68, _⟩ => ⟨S4096x4x128, .f32⟩
  | .hbm, ⟨69, _⟩ => ⟨S_, .f32⟩
  | .hbm, ⟨70, _⟩ => ⟨S4096x4, .f32⟩
  | .hbm, ⟨71, _⟩ => ⟨S4096x4x1, .f32⟩
  | .hbm, ⟨72, _⟩ => ⟨S_, .f32⟩
  | .hbm, ⟨73, _⟩ => ⟨S4096x4x1, .f32⟩
  | .hbm, ⟨74, _⟩ => ⟨S4096x4x1, .f32⟩
  | .hbm, ⟨75, _⟩ => ⟨S4096x4x1, .f32⟩
  | .hbm, ⟨76, _⟩ => ⟨S4096x4x128, .f32⟩
  | .hbm, ⟨77, _⟩ => ⟨S4096x4x128, .f32⟩
  | .hbm, ⟨78, _⟩ => ⟨S4096x4, .f32⟩
  | .hbm, ⟨79, _⟩ => ⟨S4096x4, .f32⟩
  | .hbm, ⟨80, _⟩ => ⟨S_, .f32⟩
  | .hbm, ⟨81, _⟩ => ⟨S4096x4, .f32⟩
  | .hbm, ⟨82, _⟩ => ⟨S4096x4, .f32⟩
  | .hbm, ⟨83, _⟩ => ⟨S_, .f32⟩
  | .hbm, ⟨84, _⟩ => ⟨S4096x4, .f32⟩
  | .hbm, ⟨85, _⟩ => ⟨S4096x4, .f32⟩
  | .hbm, ⟨86, _⟩ => ⟨S4, .f32⟩
  | .hbm, ⟨87, _⟩ => ⟨S4, .f32⟩
  | .hbm, ⟨88, _⟩ => ⟨S1x4, .f32⟩
  | .hbm, ⟨89, _⟩ => ⟨S4096x4, .f32⟩
  | .hbm, ⟨90, _⟩ => ⟨S4096x4, .f32⟩
  | .hbm, ⟨91, _⟩ => ⟨S_, .f32⟩
  | .hbm, ⟨92, _⟩ => ⟨S4096x4, .f32⟩
  | .hbm, ⟨93, _⟩ => ⟨S4096x4, .f32⟩
  | .hbm, ⟨94, _⟩ => ⟨S4096x4, .f32⟩
  | .hbm, ⟨95, _⟩ => ⟨S4096x4, .f32⟩
  | .hbm, ⟨96, _⟩ => ⟨S4096x4, .i1⟩
  | .hbm, ⟨97, _⟩ => ⟨S4096x4, .f32⟩
  | .hbm, ⟨98, _⟩ => ⟨S4096x4, .f32⟩
  | .hbm, ⟨99, _⟩ => ⟨S4096x4, .f32⟩
  | .hbm, ⟨100, _⟩ => ⟨S4096x4, .f32⟩
  | .hbm, ⟨101, _⟩ => ⟨S4096x4, .f32⟩
  | .hbm, ⟨102, _⟩ => ⟨S4096x4, .f32⟩
  | .hbm, ⟨103, _⟩ => ⟨S4096x4, .f32⟩
  | .hbm, ⟨104, _⟩ => ⟨S4096x4, .f32⟩
  | .hbm, ⟨105, _⟩ => ⟨S1x4, .f32⟩
  | .hbm, ⟨106, _⟩ => ⟨S4096x4, .f32⟩
  | .hbm, ⟨107, _⟩ => ⟨S4096x4, .f32⟩
  | .hbm, ⟨108, _⟩ => ⟨S4096x8, .f32⟩
  | .hbm, ⟨109, _⟩ => ⟨S4096x512, .f32⟩
  | .hbm, ⟨110, _⟩ => ⟨S4096x512, .f32⟩
  | .hbm, ⟨111, _⟩ => ⟨S_, .i32⟩
  | .hbm, ⟨112, _⟩ => ⟨S_, .f32⟩
  | .hbm, ⟨113, _⟩ => ⟨S4096x128, .f32⟩
  | .hbm, ⟨114, _⟩ => ⟨S8x4096, .f32⟩
  | _, _ => ⟨S4096x2056, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst : Ref sig .tc := ⟨.hbm, 55, rfl⟩
abbrev main_v41 : Ref sig .tc := ⟨.hbm, 56, rfl⟩
abbrev main_v42 : Ref sig .tc := ⟨.hbm, 57, rfl⟩
abbrev main_cst_0 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_1 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_2 : Ref sig .tc := ⟨.hbm, 69, rfl⟩
abbrev main_v52 : Ref sig .tc := ⟨.hbm, 70, rfl⟩
abbrev main_v53 : Ref sig .tc := ⟨.hbm, 71, rfl⟩
abbrev main_cst_3 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_4 : Ref sig .tc := ⟨.hbm, 80, rfl⟩
abbrev main_v61 : Ref sig .tc := ⟨.hbm, 81, rfl⟩
abbrev main_v62 : Ref sig .tc := ⟨.hbm, 82, rfl⟩
abbrev main_cst_5 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_6 : Ref sig .tc := ⟨.hbm, 111, rfl⟩
abbrev main_call3_v0 : Ref sig .tc := ⟨.hbm, 112, rfl⟩
abbrev main_v77 : Ref sig .tc := ⟨.hbm, 113, rfl⟩
abbrev main_v78 : Ref sig .tc := ⟨.hbm, 114, rfl⟩

abbrev nD : Nat := 1
abbrev τ : Topo := Topo.v7x

variable {F : FTy → Type} [FloatOps F]
-- ==== Kernel21.lean ====
abbrev S4096x768 : Shape := ⟨2, ![4096, 768]⟩
abbrev S4096x32 : Shape := ⟨2, ![4096, 32]⟩
abbrev S8 : Shape := ⟨1, ![8]⟩
abbrev S4096x128 : Shape := ⟨2, ![4096, 128]⟩
abbrev S_ : Shape := ⟨0, ![]⟩
abbrev S128 : Shape := ⟨1, ![128]⟩
abbrev S1x128 : Shape := ⟨2, ![1, 128]⟩
abbrev S4096x512 : Shape := ⟨2, ![4096, 512]⟩
abbrev S256x512 : Shape := ⟨2, ![256, 512]⟩
abbrev S256x128 : Shape := ⟨2, ![256, 128]⟩
abbrev S128x128 : Shape := ⟨2, ![128, 128]⟩
abbrev S128x64 : Shape := ⟨2, ![128, 64]⟩
abbrev S256x64 : Shape := ⟨2, ![256, 64]⟩
abbrev S64x256 : Shape := ⟨2, ![64, 256]⟩
abbrev S1 : Shape := ⟨1, ![1]⟩
abbrev S1x1 : Shape := ⟨2, ![1, 1]⟩
abbrev S64x128 : Shape := ⟨2, ![64, 128]⟩

abbrev nBuf : Space → Nat
  | .hbm => 13
  | .vmem => 21
  | .smem => 0
  | _ => 0

abbrev bufTy : (tb : Table) → Fin (tcTables nBuf tb) → BufTy
  | .hbm, ⟨0, _⟩ => ⟨S4096x768, .f32⟩
  | .hbm, ⟨1, _⟩ => ⟨S4096x32, .f32⟩
  | .hbm, ⟨2, _⟩ => ⟨S4096x32, .f32⟩
  | .hbm, ⟨3, _⟩ => ⟨S8, .f32⟩
  | .hbm, ⟨4, _⟩ => ⟨S4096x128, .f32⟩
  | .hbm, ⟨5, _⟩ => ⟨S4096x32, .f32⟩
  | .hbm, ⟨6, _⟩ => ⟨S4096x32, .f32⟩
  | .hbm, ⟨7, _⟩ => ⟨S4096x128, .f32⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S4096x512, .bf16⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S128x128, .f32⟩
  | .local _ .vmem, ⟨5, _⟩ => ⟨S128x128, .f32⟩
  | .local _ .vmem, ⟨6, _⟩ => ⟨S256x128, .f32⟩
  | .local _ .vmem, ⟨7, _⟩ => ⟨S256x128, .f32⟩
  | .local _ .vmem, ⟨8, _⟩ => ⟨S128x128, .f32⟩
  | .local _ .vmem, ⟨9, _⟩ => ⟨S128x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S256x512, .bf16⟩
  | .local _ .vmem, ⟨20, _⟩ => ⟨S256x512, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.muli c2_i32 v0
  let c1_i32 : BitVec 32 := 1#32
  let v2 : BitVec 32 := Scalar.subi v1 c1_i32
  let c0_i32 : BitVec 32 := 0#32
  let v3 : BitVec 32 := Scalar.maxsi v2 c0_i32
  let c4_i32 : BitVec 32 := 4#32
  let c0_i32_0 : BitVec 32 := 0#32
  ![v3.toNat, c4_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.muli c2_i32 v0
  let c1_i32 : BitVec 32 := 1#32
  let v2 : BitVec 32 := Scalar.subi v1 c1_i32
  let c0_i32 : BitVec 32 := 0#32
  let v3 : BitVec 32 := Scalar.maxsi v2 c0_i32
  let c5_i32 : BitVec 32 := 5#32
  let c0_i32_0 : BitVec 32 := 0#32
  ![v3.toNat, c5_i32.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.muli c2_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.muli c2_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference21Ideal.lean ====
abbrev S4096x768 : Shape := ⟨2, ![4096, 768]⟩
abbrev S4096x32 : Shape := ⟨2, ![4096, 32]⟩
abbrev S8 : Shape := ⟨1, ![8]⟩
abbrev S4096x512 : Shape := ⟨2, ![4096, 512]⟩
abbrev S4096x128 : Shape := ⟨2, ![4096, 128]⟩
abbrev S4096x8x64 : Shape := ⟨3, ![4096, 8, 64]⟩
abbrev S4096x1x32 : Shape := ⟨3, ![4096, 1, 32]⟩
abbrev S4096x8x32 : Shape := ⟨3, ![4096, 8, 32]⟩
abbrev S4096x2x64 : Shape := ⟨3, ![4096, 2, 64]⟩
abbrev S4096x2x32 : Shape := ⟨3, ![4096, 2, 32]⟩
abbrev S32x128x2x4x64 : Shape := ⟨5, ![32, 128, 2, 4, 64]⟩
abbrev S32x128x2x64 : Shape := ⟨4, ![32, 128, 2, 64]⟩
abbrev S1x128x2x64 : Shape := ⟨4, ![1, 128, 2, 64]⟩
abbrev S_ : Shape := ⟨0, ![]⟩
abbrev S31x128x2x64 : Shape := ⟨4, ![31, 128, 2, 64]⟩
abbrev S32x256x2x64 : Shape := ⟨4, ![32, 256, 2, 64]⟩
abbrev S32x2x256x128x4 : Shape := ⟨5, ![32, 2, 256, 128, 4]⟩
abbrev S32x2x4x128x256 : Shape := ⟨5, ![32, 2, 4, 128, 256]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S256 : Shape := ⟨1, ![256]⟩
abbrev S1x1x256 : Shape := ⟨3, ![1, 1, 256]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S1x2x4x1 : Shape := ⟨4, ![1, 2, 4, 1]⟩
abbrev S32x2x4x128 : Shape := ⟨4, ![32, 2, 4, 128]⟩
abbrev S32x2x4x128x1 : Shape := ⟨5, ![32, 2, 4, 128, 1]⟩
abbrev S32x2x64x4x128 : Shape := ⟨5, ![32, 2, 64, 4, 128]⟩

abbrev nBuf : Space → Nat
  | .hbm => 125
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x32, .f32⟩
  | .hbm, ⟨2, _⟩ => ⟨S4096x32, .f32⟩
  | .hbm, ⟨3, _⟩ => ⟨S8, .f32⟩
  | .hbm, ⟨4, _⟩ => ⟨S4096x512, .f32⟩
  | .hbm, ⟨5, _⟩ => ⟨S4096x128, .f32⟩
  | .hbm, ⟨6, _⟩ => ⟨S4096x128, .f32⟩
  | .hbm, ⟨7, _⟩ => ⟨S4096x8x64, .f32⟩
  | .hbm, ⟨8, _⟩ => ⟨S4096x1x32, .f32⟩
  | .hbm, ⟨9, _⟩ => ⟨S4096x1x32, .f32⟩
  | .hbm, ⟨10, _⟩ => ⟨S4096x8x32, .f32⟩
  | .hbm, ⟨11, _⟩ => ⟨S4096x8x32, .f32⟩
  | .hbm, ⟨12, _⟩ => ⟨S4096x8x32, .f32⟩
  | .hbm, ⟨13, _⟩ => ⟨S4096x8x32, .f32⟩
  | .hbm, ⟨14, _⟩ => ⟨S4096x8x32, .f32⟩
  | .hbm, ⟨15, _⟩ => ⟨S4096x8x32, .f32⟩
  | .hbm, ⟨16, _⟩ => ⟨S4096x8x32, .f32⟩
  | .hbm, ⟨17, _⟩ => ⟨S4096x8x32, .f32⟩
  | .hbm, ⟨18, _⟩ => ⟨S4096x8x32, .f32⟩
  | .hbm, ⟨19, _⟩ => ⟨S4096x8x32, .f32⟩
  | .hbm, ⟨20, _⟩ => ⟨S4096x8x32, .f32⟩
  | .hbm, ⟨21, _⟩ => ⟨S4096x8x32, .f32⟩
  | .hbm, ⟨22, _⟩ => ⟨S4096x8x64, .f32⟩
  | .hbm, ⟨23, _⟩ => ⟨S4096x2x64, .f32⟩
  | .hbm, ⟨24, _⟩ => ⟨S4096x1x32, .f32⟩
  | .hbm, ⟨25, _⟩ => ⟨S4096x1x32, .f32⟩
  | .hbm, ⟨26, _⟩ => ⟨S4096x2x32, .f32⟩
  | .hbm, ⟨27, _⟩ => ⟨S4096x2x32, .f32⟩
  | .hbm, ⟨28, _⟩ => ⟨S4096x2x32, .f32⟩
  | .hbm, ⟨29, _⟩ => ⟨S4096x2x32, .f32⟩
  | .hbm, ⟨30, _⟩ => ⟨S4096x2x32, .f32⟩
  | .hbm, ⟨31, _⟩ => ⟨S4096x2x32, .f32⟩
  | .hbm, ⟨32, _⟩ => ⟨S4096x2x32, .f32⟩
  | .hbm, ⟨33, _⟩ => ⟨S4096x2x32, .f32⟩
  | .hbm, ⟨34, _⟩ => ⟨S4096x2x32, .f32⟩
  | .hbm, ⟨35, _⟩ => ⟨S4096x2x32, .f32⟩
  | .hbm, ⟨36, _⟩ => ⟨S4096x2x32, .f32⟩
  | .hbm, ⟨37, _⟩ => ⟨S4096x2x32, .f32⟩
  | .hbm, ⟨38, _⟩ => ⟨S4096x2x64, .f32⟩
  | .hbm, ⟨39, _⟩ => ⟨S32x128x2x4x64, .f32⟩
  | .hbm, ⟨40, _⟩ => ⟨S32x128x2x64, .f32⟩
  | .hbm, ⟨41, _⟩ => ⟨S32x128x2x64, .f32⟩
  | .hbm, ⟨42, _⟩ => ⟨S1x128x2x64, .f32⟩
  | .hbm, ⟨43, _⟩ => ⟨S_, .f32⟩
  | .hbm, ⟨44, _⟩ => ⟨S1x128x2x64, .f32⟩
  | .hbm, ⟨45, _⟩ => ⟨S31x128x2x64, .f32⟩
  | .hbm, ⟨46, _⟩ => ⟨S32x128x2x64, .f32⟩
  | .hbm, ⟨47, _⟩ => ⟨S32x256x2x64, .f32⟩
  | .hbm, ⟨48, _⟩ => ⟨S1x128x2x64, .f32⟩
  | .hbm, ⟨49, _⟩ => ⟨S_, .f32⟩
  | .hbm, ⟨50, _⟩ => ⟨S1x128x2x64, .f32⟩
  | .hbm, ⟨51, _⟩ => ⟨S31x128x2x64, .f32⟩
  | .hbm, ⟨52, _⟩ => ⟨S32x128x2x64, .f32⟩
  | .hbm, ⟨53, _⟩ => ⟨S32x256x2x64, .f32⟩
  | .hbm, ⟨54, _⟩ => ⟨S32x2x256x128x4, .f32⟩
  | .hbm, ⟨55, _⟩ => ⟨S32x2x4x128x256, .f32⟩
  | .hbm, ⟨56, _⟩ => ⟨S_, .f32⟩
  | .hbm, ⟨57, _⟩ => ⟨S32x2x4x128x256, .f32⟩
  | .hbm, ⟨58, _⟩ => ⟨S32x2x4x128x256, .f32⟩
  | .hbm, ⟨59, _⟩ => ⟨S32, .i32⟩
  | .hbm, ⟨60, _⟩ => ⟨S32x1x1, .i32⟩
  | .hbm, ⟨61, _⟩ => ⟨S_, .i32⟩
  | .hbm, ⟨62, _⟩ => ⟨S32x1x1, .i32⟩
  | .hbm, ⟨63, _⟩ => ⟨S32x1x1, .i32⟩
  | .hbm, ⟨64, _⟩ => ⟨S128, .i32⟩
  | .hbm, ⟨65, _⟩ => ⟨S1x128x1, .i32⟩
  | .hbm, ⟨66, _⟩ => ⟨S32x128x1, .i32⟩
  | .hbm, ⟨67, _⟩ => ⟨S32x128x1, .i32⟩
  | .hbm, ⟨68, _⟩ => ⟨S32x128x1, .i32⟩
  | .hbm, ⟨69, _⟩ => ⟨S_, .i32⟩
  | .hbm, ⟨70, _⟩ => ⟨S32x1x1, .i32⟩
  | .hbm, ⟨71, _⟩ => ⟨S32x1x1, .i32⟩
  | .hbm, ⟨72, _⟩ => ⟨S_, .i32⟩
  | .hbm, ⟨73, _⟩ => ⟨S32x1x1, .i32⟩
  | .hbm, ⟨74, _⟩ => ⟨S32x1x1, .i32⟩
  | .hbm, ⟨75, _⟩ => ⟨S256, .i32⟩
  | .hbm, ⟨76, _⟩ => ⟨S1x1x256, .i32⟩
  | .hbm, ⟨77, _⟩ => ⟨S32x1x256, .i32⟩
  | .hbm, ⟨78, _⟩ => ⟨S32x1x256, .i32⟩
  | .hbm, ⟨79, _⟩ => ⟨S32x1x256, .i32⟩
  | .hbm, ⟨80, _⟩ => ⟨S32x128x256, .i32⟩
  | .hbm, ⟨81, _⟩ => ⟨S32x128x256, .i32⟩
  | .hbm, ⟨82, _⟩ => ⟨S32x128x256, .i1⟩
  | .hbm, ⟨83, _⟩ => ⟨S32x128x256, .i32⟩
  | .hbm, ⟨84, _⟩ => ⟨S32x128x256, .i32⟩
  | .hbm, ⟨85, _⟩ => ⟨S32x128x256, .i32⟩
  | .hbm, ⟨86, _⟩ => ⟨S_, .i32⟩
  | .hbm, ⟨87, _⟩ => ⟨S32x128x256, .i32⟩
  | .hbm, ⟨88, _⟩ => ⟨S32x128x256, .i1⟩
  | .hbm, ⟨89, _⟩ => ⟨S32x128x256, .i1⟩
  | .hbm, ⟨90, _⟩ => ⟨S_, .i32⟩
  | .hbm, ⟨91, _⟩ => ⟨S32x1x256, .i32⟩
  | .hbm, ⟨92, _⟩ => ⟨S32x1x256, .i1⟩
  | .hbm, ⟨93, _⟩ => ⟨S32x128x256, .i1⟩
  | .hbm, ⟨94, _⟩ => ⟨S32x128x256, .i1⟩
  | .hbm, ⟨95, _⟩ => ⟨S32x1x1x128x256, .i1⟩
  | .hbm, ⟨96, _⟩ => ⟨S_, .f32⟩
  | .hbm, ⟨97, _⟩ => ⟨S_, .f32⟩
  | .hbm, ⟨98, _⟩ => ⟨S32x2x4x128x256, .i1⟩
  | .hbm, ⟨99, _⟩ => ⟨S32x2x4x128x256, .f32⟩
  | .hbm, ⟨100, _⟩ => ⟨S32x2x4x128x256, .f32⟩
  | .hbm, ⟨101, _⟩ => ⟨S1x2x4x1, .f32⟩
  | .hbm, ⟨102, _⟩ => ⟨S32x2x4x128, .f32⟩
  | .hbm, ⟨103, _⟩ => ⟨S_, .f32⟩
  | .hbm, ⟨104, _⟩ => ⟨S32x2x4x128, .f32⟩
  | .hbm, ⟨105, _⟩ => ⟨S32x2x4x128, .f32⟩
  | .hbm, ⟨106, _⟩ => ⟨S32x2x4x128x1, .f32⟩
  | .hbm, ⟨107, _⟩ => ⟨S32x2x4x128x256, .f32⟩
  | .hbm, ⟨108, _⟩ => ⟨S32x2x4x128x256, .f32⟩
  | .hbm, ⟨109, _⟩ => ⟨S32x2x4x128x256, .f32⟩
  | .hbm, ⟨110, _⟩ => ⟨S_, .f32⟩
  | .hbm, ⟨111, _⟩ => ⟨S32x2x4x128, .f32⟩
  | .hbm, ⟨112, _⟩ => ⟨S32x2x4x128, .f32⟩
  | .hbm, ⟨113, _⟩ => ⟨S32x2x4x128, .f32⟩
  | .hbm, ⟨114, _⟩ => ⟨S32x2x4x128, .f32⟩
  | .hbm, ⟨115, _⟩ => ⟨S_, .f32⟩
  | .hbm, ⟨116, _⟩ => ⟨S32x2x4x128, .f32⟩
  | .hbm, ⟨117, _⟩ => ⟨S32x2x4x128, .f32⟩
  | .hbm, ⟨118, _⟩ => ⟨S32x2x4x128x1, .f32⟩
  | .hbm, ⟨119, _⟩ => ⟨S32x2x4x128x256, .f32⟩
  | .hbm, ⟨120, _⟩ => ⟨S32x2x4x128x256, .f32⟩
  | .hbm, ⟨121, _⟩ => ⟨S32x2x64x4x128, .f32⟩
  | .hbm, ⟨122, _⟩ => ⟨S32x128x2x4x64, .f32⟩
  | .hbm, ⟨123, _⟩ => ⟨S4096x512, .f32⟩
  | .hbm, ⟨124, _⟩ => ⟨S4096x512, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_0 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_1 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_c : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_c_2 : Ref sig .tc := ⟨.hbm, 69, rfl⟩
abbrev main_v61 : Ref sig .tc := ⟨.hbm, 70, rfl⟩
abbrev main_v62 : Ref sig .tc := ⟨.hbm, 71, rfl⟩
abbrev main_c_3 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_c_4 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_c_5 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_6 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_7 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_8 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_9 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩

abbrev nD : Nat := 1
abbrev τ : Topo := Topo.v7x

variable {F : FTy → Type} [FloatOps F]
-- ==== Proof.MlpPoint.lean ====
/-
  What one grid point of the MLP backward kernel leaves behind, as the kernel's named payloads of the point's input
  blocks. Every statement is about `stAt0`, the step of the carried state: its components are the six outputs' staging
  blocks and the accumulator of the gradient after the norm, carried from point to point.

    step_da          each point leaves the block of the pre-activation's gradient it computes;
    step_acc_first   at the first point of a row block the carried accumulator starts from zero;
    step_acc_next    at the other points the point's product is added onto what the point before left;
    step_dh …        at the last point of a row block the row outputs are computed from the full accumulator;
    step_g_zero / step_g_keep / step_g_last / step_g_rest
                     the norm weight's gradient is zeroed at point 0, kept, and added to in row 0 at a last point, which
                     leaves the other rows.
-/
module

public import proofs.«01_k».proof.Proof.Gen.KernelIdeal.Value
public import Idealize.ShloMosaic.Lib.ValueIdx
public import Idealize.ShloMosaic.Lib.WritesUnit

@[expose] public section

set_option maxRecDepth 16384

noncomputable section

open Idealize.ShloMosaic Idealize.ShloMosaic.TcCoe Idealize.ShloMosaic.ValueIdx Idealize.SL.Sem

namespace Cert.KernelIdeal.Step

open Cert.KernelIdeal Cert.KernelIdeal.Gen Cert.KernelIdeal.Value

variable {F : FTy → Type} [FloatOps F]
variable (m : (ℓ : Loc nD τ sig) → Buf (Elt F) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- The carried state: the six outputs' staging blocks and the accumulator. -/
abbrev St (F : FTy → Type) [FloatOps F] : Type :=
  Vec F S512x1024 .bf16 × Vec F S512x1024 .f32 × Vec F S512x1024 .bf16 × Vec F S512x512 .f32 × Vec F S512x512 .f32
    × Vec F S8x1024 .f32 × Vec F S512x1024 .f32

/-- The accumulator's component. -/
abbrev St.dm (s : St F) : Vec F S512x1024 .f32 := s.2.2.2.2.2.2
/-- The norm weight's gradient's component. -/
abbrev St.dg (s : St F) : Vec F S8x1024 .f32 := s.2.2.2.2.2.1

/-- The product's share of the accumulator at point `t`, over what the accumulator held before. -/
abbrev addDm (c : Dev nD) (t : Fin cfg0.N) (acc : Vec F S512x1024 .f32) : Vec F S512x1024 .f32 :=
  k0_pay12 (iblk m c 1 t) (iblk m c 6 t) (iblk m c 2 t) acc (iblk m c 5 t)

/-- The accumulator's buffer, whole, read where it holds `w`. -/
theorem read_dm (w : Vec F S512x1024 .f32) :
    View.read (Elt F) (View.whole cc0_scratch0) (Memref.IsWhole.unread (m := scM0_0) (Memref.isWhole_whole _) w) = w :=
  Memref.IsWhole.read_unread (m := scM0_0) (Memref.isWhole_whole _) w

theorem step_da (c : Dev nD) (t : Fin cfg0.N) (s : St F) :
    (stAt0 m c t.val t.isLt s).1 = k0_pay11 (iblk m c 1 t) (iblk m c 6 t) (iblk m c 2 t) := by
  have hN := lt_of_lt_of_eq t.isLt N_0
  by_cases h0 : t.val % 32 = 0 <;> by_cases h1 : t.val % 4 = 0 <;> by_cases h2 : t.val % 4 = 3
  all_goals try (exfalso; omega)
  · rw [stAt0_A m c t s h0 h1 h2]
    dsimp only
    unfold out0_A_9
    rw [View.read_writes_eq_canon]
    swap
    · exact fun y => cover0_A_9 ..
    unfold kernelRun0_A
    dsimp only
    rw [View.canon_unit_zero hz]
    simp only [View.readAt_eq_ld, Memref.IsWhole.read_unread, View.ld_unit_zero (S := S512x1024) hz,
      View.ld_unit_zero (S := S1024x1024) hz]
  · rw [stAt0_D m c t s h0 h1 h2]
    dsimp only
    unfold out0_D_9
    rw [View.read_writes_eq_canon]
    swap
    · exact fun y => cover0_D_9 ..
    unfold kernelRun0_D
    dsimp only
    rw [View.canon_unit_zero hz]
    simp only [View.readAt_eq_ld, Memref.IsWhole.read_unread, View.ld_unit_zero (S := S512x1024) hz,
      View.ld_unit_zero (S := S1024x1024) hz]
  · rw [stAt0_C m c t s h0 h1 h2]
    dsimp only
    unfold out0_C_9
    rw [View.read_writes_eq_canon]
    swap
    · exact fun y => cover0_C_9 ..
    unfold kernelRun0_C
    dsimp only
    rw [View.canon_unit_zero hz]
    simp only [View.readAt_eq_ld, Memref.IsWhole.read_unread, View.ld_unit_zero (S := S512x1024) hz,
      View.ld_unit_zero (S := S1024x1024) hz]
  · rw [stAt0_B m c t s h0 h1 h2]
    dsimp only
    unfold out0_B_9
    rw [View.read_writes_eq_canon]
    swap
    · exact fun y => cover0_B_9 ..
    unfold kernelRun0_B
    dsimp only
    rw [View.canon_unit_zero hz]
    simp only [View.readAt_eq_ld, Memref.IsWhole.read_unread, View.ld_unit_zero (S := S512x1024) hz,
      View.ld_unit_zero (S := S1024x1024) hz]

theorem step_acc_first (c : Dev nD) (t : Fin cfg0.N) (s : St F) (h1 : t.val % 4 = 0) :
    St.dm (stAt0 m c t.val t.isLt s) = addDm m c t (k0_pay10 (F := F)) := by
  have hN := lt_of_lt_of_eq t.isLt N_0
  have h2 : ¬t.val % 4 = 3 := by omega
  by_cases h0 : t.val % 32 = 0
  · rw [stAt0_A m c t s h0 h1 h2]
    dsimp only [St.dm]
    unfold sout0_A_0
    rw [View.read_writes_eq_canon]
    swap
    · exact fun y => scover0_A_0 ..
    unfold kernelRun0_A
    dsimp only
    sl_unfold_words
    rw [View.canon_cons_unit_zero (S := S512x1024) hz, View.readCov_unit_zero (S := S512x1024) _ hz]
    simp only [View.readAt_eq_ld, Memref.IsWhole.read_unread, View.ld_unit_zero (S := S512x1024) hz,
      View.ld_unit_zero (S := S1024x1024) hz, View.ld_unit_zero (S := S1x1024x1024) hz3]
  · rw [stAt0_D m c t s h0 h1 h2]
    dsimp only [St.dm]
    unfold sout0_D_0
    rw [View.read_writes_eq_canon]
    swap
    · exact fun y => scover0_D_0 ..
    unfold kernelRun0_D
    dsimp only
    sl_unfold_words
    rw [View.canon_cons_unit_zero (S := S512x1024) hz, View.readCov_unit_zero (S := S512x1024) _ hz]
    simp only [View.readAt_eq_ld, Memref.IsWhole.read_unread, View.ld_unit_zero (S := S512x1024) hz,
      View.ld_unit_zero (S := S1024x1024) hz, View.ld_unit_zero (S := S1x1024x1024) hz3]

theorem step_acc_next (c : Dev nD) (t : Fin cfg0.N) (s : St F) (h1 : ¬t.val % 4 = 0) :
    St.dm (stAt0 m c t.val t.isLt s) = addDm m c t s.dm := by
  have h0 : ¬t.val % 32 = 0 := by omega
  by_cases h2 : t.val % 4 = 3
  · rw [stAt0_C m c t s h0 h1 h2]
    dsimp only [St.dm]
    unfold sout0_C_0
    rw [View.read_writes_eq_canon]
    swap
    · exact fun y => scover0_C_0 ..
    unfold kernelRun0_C
    dsimp only
    sl_unfold_words
    rw [View.canon_unit_zero hz]
    simp only [View.readAt_eq_ld, Memref.IsWhole.read_unread, View.ld_unit_zero (S := S512x1024) hz,
      View.ld_unit_zero (S := S1024x1024) hz, View.ld_unit_zero (S := S1x1024x1024) hz3]
    exact congrArg (fun z => k0_pay12 _ _ _ z _) (read_dm s.dm)
  · rw [stAt0_B m c t s h0 h1 h2]
    dsimp only [St.dm]
    unfold sout0_B_0
    rw [View.read_writes_eq_canon]
    swap
    · exact fun y => scover0_B_0 ..
    unfold kernelRun0_B
    dsimp only
    rw [View.canon_unit_zero hz]
    simp only [View.readAt_eq_ld, Memref.IsWhole.read_unread, View.ld_unit_zero (S := S512x1024) hz,
      View.ld_unit_zero (S := S1024x1024) hz, View.ld_unit_zero (S := S1x1024x1024) hz3]
    exact congrArg (fun z => k0_pay12 _ _ _ z _) (read_dm s.dm)

/-- At the last point of a row block: the gradient at the block's input, from the full accumulator, … -/
theorem step_dh (c : Dev nD) (t : Fin cfg0.N) (s : St F) (h2 : t.val % 4 = 3) :
    (stAt0 m c t.val t.isLt s).2.1
      = k0_pay6 (iblk m c 3 t) (iblk m c 4 t) (addDm m c t s.dm) (iblk m c 0 t) := by
  have h0 : ¬t.val % 32 = 0 := by omega
  have h1 : ¬t.val % 4 = 0 := by omega
  rw [stAt0_C m c t s h0 h1 h2]
  dsimp only
  unfold out0_C_10
  rw [View.read_writes_eq_canon]
  swap
  · exact fun y => cover0_C_10 ..
  unfold kernelRun0_C
  dsimp only
  sl_unfold_words
  rw [View.canon_unit_zero hz]
  simp only [View.readAt_eq_ld, Memref.IsWhole.read_unread, View.ld_unit_zero (S := S512x1024) hz,
    View.ld_unit_zero (S := S1024x1024) hz, View.ld_unit_zero (S := S1x1024x1024) hz3,
    View.ld_unit_zero (S := S1x1024) hz, View.readCov_unit_zero (S := S512x1024) _ hz]
  exact congrArg (fun z => k0_pay6 (iblk m c 3 t) (iblk m c 4 t) (k0_pay12 _ _ _ z _) (iblk m c 0 t)) (read_dm s.dm)

/-- … the same rounded, … -/
theorem step_dhb (c : Dev nD) (t : Fin cfg0.N) (s : St F) (h2 : t.val % 4 = 3) :
    (stAt0 m c t.val t.isLt s).2.2.1
      = k0_pay7 (iblk m c 3 t) (iblk m c 4 t) (addDm m c t s.dm) (iblk m c 0 t) := by
  have h0 : ¬t.val % 32 = 0 := by omega
  have h1 : ¬t.val % 4 = 0 := by omega
  rw [stAt0_C m c t s h0 h1 h2]
  dsimp only
  unfold out0_C_11
  rw [View.read_writes_eq_canon]
  swap
  · exact fun y => cover0_C_11 ..
  unfold kernelRun0_C
  dsimp only
  sl_unfold_words
  rw [View.canon_unit_zero hz]
  simp only [View.readAt_eq_ld, Memref.IsWhole.read_unread, View.ld_unit_zero (S := S512x1024) hz,
    View.ld_unit_zero (S := S1024x1024) hz, View.ld_unit_zero (S := S1x1024x1024) hz3,
    View.ld_unit_zero (S := S1x1024) hz, View.readCov_unit_zero (S := S512x1024) _ hz]
  exact congrArg (fun z => k0_pay7 (iblk m c 3 t) (iblk m c 4 t) (k0_pay12 _ _ _ z _) (iblk m c 0 t)) (read_dm s.dm)

/-- … and its products with the two halves of the output projection. -/
theorem step_dao (c : Dev nD) (t : Fin cfg0.N) (s : St F) (h2 : t.val % 4 = 3) :
    (stAt0 m c t.val t.isLt s).2.2.2.1
      = k0_pay8 (iblk m c 3 t) (iblk m c 4 t) (addDm m c t s.dm) (iblk m c 0 t) (iblk m c 7 t) := by
  have h0 : ¬t.val % 32 = 0 := by omega
  have h1 : ¬t.val % 4 = 0 := by omega
  rw [stAt0_C m c t s h0 h1 h2]
  dsimp only
  unfold out0_C_12
  rw [View.read_writes_eq_canon]
  swap
  · exact fun y => cover0_C_12 ..
  unfold kernelRun0_C
  dsimp only
  sl_unfold_words
  rw [View.canon_unit_zero hz]
  simp only [View.readAt_eq_ld, Memref.IsWhole.read_unread, View.ld_unit_zero (S := S512x1024) hz,
    View.ld_unit_zero (S := S1024x1024) hz, View.ld_unit_zero (S := S1x1024x1024) hz3,
    View.ld_unit_zero (S := S1x1024) hz, View.readCov_unit_zero (S := S512x1024) _ hz]
  exact congrArg (fun z => k0_pay8 (iblk m c 3 t) (iblk m c 4 t) (k0_pay12 _ _ _ z _) (iblk m c 0 t) (iblk m c 7 t)) (read_dm s.dm)

/-- The product with the second half. -/
theorem step_ddn (c : Dev nD) (t : Fin cfg0.N) (s : St F) (h2 : t.val % 4 = 3) :
    (stAt0 m c t.val t.isLt s).2.2.2.2.1
      = k0_pay1 (k0_pay7 (iblk m c 3 t) (iblk m c 4 t) (addDm m c t s.dm) (iblk m c 0 t)) (iblk m c 8 t) := by
  have h0 : ¬t.val % 32 = 0 := by omega
  have h1 : ¬t.val % 4 = 0 := by omega
  rw [stAt0_C m c t s h0 h1 h2]
  dsimp only
  unfold out0_C_13
  rw [View.read_writes_eq_canon]
  swap
  · exact fun y => cover0_C_13 ..
  unfold kernelRun0_C
  dsimp only
  sl_unfold_words
  rw [View.canon_unit_zero hz]
  simp only [View.readAt_eq_ld, Memref.IsWhole.read_unread, View.ld_unit_zero (S := S512x1024) hz,
    View.ld_unit_zero (S := S1024x1024) hz, View.ld_unit_zero (S := S1x1024x1024) hz3,
    View.ld_unit_zero (S := S1x1024) hz, View.readCov_unit_zero (S := S512x1024) _ hz]
  exact congrArg (fun z => k0_pay1 (k0_pay7 (iblk m c 3 t) (iblk m c 4 t) (k0_pay12 _ _ _ z _) (iblk m c 0 t)) (iblk m c 8 t)) (read_dm s.dm)

theorem step_g_zero (c : Dev nD) (t : Fin cfg0.N) (s : St F) (h0 : t.val % 32 = 0) :
    St.dg (stAt0 m c t.val t.isLt s) = k0_pay9 (F := F) := by
  have h1 : t.val % 4 = 0 := by omega
  have h2 : ¬t.val % 4 = 3 := by omega
  rw [stAt0_A m c t s h0 h1 h2]
  dsimp only [St.dg]
  unfold out0_A_14
  rw [View.read_writes_eq_canon]
  swap
  · exact fun y => cover0_A_14 ..
  unfold kernelRun0_A
  dsimp only
  rw [View.canon_unit_zero hz]

theorem step_g_keep (c : Dev nD) (t : Fin cfg0.N) (s : St F) (h0 : ¬t.val % 32 = 0) (h2 : ¬t.val % 4 = 3) :
    St.dg (stAt0 m c t.val t.isLt s) = s.dg := by
  by_cases h1 : t.val % 4 = 0
  · rw [stAt0_D m c t s h0 h1 h2]
    rfl
  · rw [stAt0_B m c t s h0 h1 h2]
    rfl

/-- The row of the norm weight's gradient that a last point adds to. -/
abbrev row0 (g : Vec F S8x1024 .f32) : Vec F S1x1024 .f32 :=
  View.ld g (Rect.unit ![0, 0] ![1, 1024] inb_S8x1024_S1x1024_0_0)

theorem step_g_last (c : Dev nD) (t : Fin cfg0.N) (s : St F) (h2 : t.val % 4 = 3) (b : Fin 1024) :
    St.dg (stAt0 m c t.val t.isLt s) (ix2 0 b)
      = k0_pay2 (k0_pay5 (iblk m c 3 t) (addDm m c t s.dm)) (row0 s.dg) (ix2 0 b) := by
  have h0 : ¬t.val % 32 = 0 := by omega
  have h1 : ¬t.val % 4 = 0 := by omega
  rw [stAt0_C m c t s h0 h1 h2]
  dsimp only [St.dg]
  unfold out0_C_14
  unfold kernelRun0_C
  dsimp only
  sl_unfold_words
  simp only [View.readAt_eq_ld, Memref.IsWhole.read_unread, View.ld_unit_zero (S := S512x1024) hz,
    View.ld_unit_zero (S := S1024x1024) hz, View.ld_unit_zero (S := S1x1024x1024) hz3,
    View.ld_unit_zero (S := S1x1024) hz, View.readCov_unit_zero (S := S512x1024) _ hz]
  refine (View.read_writes_cons_unit_of_mem _ _ _ _ _ _ (ix2 0 b) rfl fun a => ?_).trans ?_
  · match a with
    | ⟨0, _⟩ => rfl
    | ⟨1, _⟩ => exact (Nat.zero_add _).symm
  · exact congrArg (fun z => k0_pay2 (k0_pay5 _ (k0_pay12 _ _ _ z _)) _ _) (read_dm s.dm)

theorem step_g_rest (c : Dev nD) (t : Fin cfg0.N) (s : St F) (h2 : t.val % 4 = 3) (r : Fin 8) (hr : r ≠ 0) (b : Fin 1024) :
    St.dg (stAt0 m c t.val t.isLt s) (ix2 r b) = s.dg (ix2 r b) := by
  have h0 : ¬t.val % 32 = 0 := by omega
  have h1 : ¬t.val % 4 = 0 := by omega
  rw [stAt0_C m c t s h0 h1 h2]
  dsimp only [St.dg]
  unfold out0_C_14
  unfold kernelRun0_C
  dsimp only
  refine (View.read_writes_cons_unit_of_not_mem _ _ _ _ _ _ rfl 0 (Or.inr ?_)).trans ?_
  · show 0 + 1 ≤ r.val
    have := Fin.val_ne_of_ne hr
    simp only [Fin.val_zero] at this
    omega
  · exact congrFun (Memref.IsWhole.read_unread _ s.dg) _

end Cert.KernelIdeal.Step

end
-- ==== Proof.MlpAlgebra.lean ====
/-
  The arithmetic on extended reals that the MLP backward claim rests on, away from any program.

    word_1024, word_eps, word_neg_half   what three constant patterns denote;
    sum_mul_coe       a sum times a nonnegative real is the sum of the products, infinities included;
    row_eq            the kernel's form of the root-mean-square norm's input gradient (the normalised row times its
                      mean product, subtracted, the rest scaled by the reciprocal root) is the form that differentiating
                      the norm's own lines gives (two equal correction terms through the mean of squares). It holds for
                      every row of extended reals: where the row holds an infinity both forms are zero;
    gate_eq           differentiating the squared rectifier: the rectifier's factor already vanishes where its selection
                      does.
-/
module

public import Idealize.ShloMosaic.Lib.IdealHost
public import Idealize.ShloMosaic.PureOps.Ideal.Laws

@[expose] public section

noncomputable section

open Idealize.ShloMosaic

namespace Cert.KernelIdeal.Algebra

/-- The pattern of the row's length. -/
theorem word_1024 : Ideal.ofBits .f32 0x44800000#32 = ((1024 : ℝ) : EReal) := by
  simp [Ideal.ofBits, Ideal.ieee, -EReal.coe_mul]; norm_num

/-- The pattern of the norm's epsilon is a positive real. -/
theorem word_eps : ∃ e : ℝ, 0 < e ∧ Ideal.ofBits .f32 0x358637BD#32 = (e : EReal) := by
  refine ⟨_, ?_, by simp [Ideal.ofBits, Ideal.ieee, -EReal.coe_mul]; rfl⟩
  positivity

/-- The pattern of minus one half. -/
theorem word_neg_half : Ideal.ofBits .f32 0xBF000000#32 = ((-(1 / 2) : ℝ) : EReal) := by
  simp [Ideal.ofBits, Ideal.ieee, -EReal.coe_mul, -EReal.coe_neg]; norm_num

/-- A sum times a nonnegative real, term by term. -/
theorem sum_mul_coe {n : ℕ} (f : Fin n → EReal) {a : ℝ} (ha : 0 ≤ a) :
    ∑ k, f k * (a : EReal) = (∑ k, f k) * (a : EReal) := by
  classical
  induction (Finset.univ : Finset (Fin n)) using Finset.induction_on with
  | empty => simp
  | insert i s hi ih =>
    rw [Finset.sum_insert hi, Finset.sum_insert hi, ih,
      EReal.right_distrib_of_nonneg_of_ne_top (EReal.coe_nonneg.mpr ha) (EReal.coe_ne_top a)]

/-- A sum of reals. -/
theorem coe_sum {n : ℕ} (f : Fin n → ℝ) : ((∑ k, f k : ℝ) : EReal) = ∑ k, (f k : EReal) := by
  classical
  induction (Finset.univ : Finset (Fin n)) using Finset.induction_on with
  | empty => simp
  | insert i s hi ih => rw [Finset.sum_insert hi, Finset.sum_insert hi, EReal.coe_add, ih]

/-- Twice a real multiple. -/
theorem coe_mul_add_self (a : ℝ) (S : EReal) : (a : EReal) * S + (a : EReal) * S = ((2 * a : ℝ) : EReal) * S := by
  induction S with
  | coe s => norm_cast; ring
  | top =>
    rcases lt_trichotomy a 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy a 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

/-- The mean of a row's squares plus an epsilon, `N` the row's length. -/
def msq {n : ℕ} (X : Fin n → EReal) (N e : EReal) : EReal := Ideal.div (∑ k, X k * X k) N + e

/-- A square is not negative. -/
theorem sq_nonneg' (x : EReal) : 0 ≤ x * x := by
  induction x with
  | coe s => norm_cast; exact mul_self_nonneg s
  | top => simp
  | bot => simp

/-- A row that holds an infinity has an infinite mean of squares. -/
theorem msq_top {n : ℕ} (X : Fin n → EReal) {N e : ℝ} (hN : 0 < N) (k : Fin n) (hk : X k = ⊤ ∨ X k = ⊥) :
    msq X (N : EReal) (e : EReal) = ⊤ := by
  have hs : ∑ k, X k * X k = ⊤ := by
    refine top_le_iff.mp ?_
    calc (⊤ : EReal) = X k * X k := by rcases hk with h | h <;> rw [h] <;> rfl
      _ ≤ ∑ k, X k * X k := Finset.single_le_sum (f := fun k => X k * X k) (fun i _ => sq_nonneg' _) (Finset.mem_univ k)
  rw [msq, hs, Ideal.div_coe hN.ne', EReal.top_mul_coe_of_pos (by positivity)]
  exact EReal.top_add_coe e

/-- A row of reals has a positive real mean of squares plus epsilon. -/
theorem msq_coe {n : ℕ} (x : Fin n → ℝ) {N e : ℝ} (hN : 0 < N) (he : 0 < e) :
    ∃ w : ℝ, 0 < w ∧ msq (fun k => (x k : EReal)) (N : EReal) (e : EReal) = (w : EReal) := by
  refine ⟨(∑ k, x k * x k) * (1 / N) + e, ?_, ?_⟩
  · have : 0 ≤ ∑ k, x k * x k := Finset.sum_nonneg fun k _ => mul_self_nonneg _
    positivity
  · rw [msq, Ideal.div_coe hN.ne']
    rw [EReal.coe_add, EReal.coe_mul, coe_sum]
    simp only [EReal.coe_mul]

/-- The two forms of the norm's input gradient agree on every row of extended reals. -/
theorem row_eq {n : ℕ} (X D : Fin n → EReal) {N e : ℝ} (hN : 0 < N) (he : 0 < e) (c : Fin n) :
    Ideal.rsqrt (msq X N e)
        * (D c - X c * Ideal.rsqrt (msq X N e) * Ideal.div (∑ k, D k * (X k * Ideal.rsqrt (msq X N e))) N)
      = D c * Ideal.rsqrt (msq X N e)
          + X c * Ideal.div ((∑ k, X k * D k)
              * (((-(1 / 2) : ℝ) : EReal) * Ideal.div (Ideal.rsqrt (msq X N e)) (msq X N e))) N
          + Ideal.div ((∑ k, X k * D k)
              * (((-(1 / 2) : ℝ) : EReal) * Ideal.div (Ideal.rsqrt (msq X N e)) (msq X N e))) N * X c := by
  by_cases hX : ∃ k, X k = ⊤ ∨ X k = ⊥
  · obtain ⟨k, hk⟩ := hX
    rw [msq_top X hN k hk]
    have h1 : Ideal.rsqrt ⊤ = 0 := rfl
    have h2 : Ideal.div 0 (N : EReal) = 0 := by rw [Ideal.div_coe hN.ne', zero_mul]
    have h3 : Ideal.div 0 (⊤ : EReal) = 0 := by rw [Ideal.div, if_neg (by simp), zero_mul]
    rw [h1, h3, mul_zero (D c), mul_zero ((-(1 / 2) : ℝ) : EReal), mul_zero (∑ k, X k * D k), h2, zero_mul, mul_zero,
      zero_mul, add_zero, add_zero]
  · have hx : ∀ k, ∃ x : ℝ, X k = (x : EReal) := fun k => by
      have := not_exists.mp hX k
      exact ⟨(X k).toReal, (EReal.coe_toReal (fun h => this (.inl h)) (fun h => this (.inr h))).symm⟩
    choose x hx using hx
    obtain rfl : X = fun k => (x k : EReal) := funext hx
    obtain ⟨w, hw, hms⟩ := msq_coe x hN he
    rw [hms]
    have hr : Ideal.rsqrt (w : EReal) = (((√w)⁻¹ : ℝ) : EReal) := by
      rw [Ideal.rsqrt_coe, if_neg (not_lt.mpr hw.le), if_neg hw.ne']
    have hs : 0 < √w := Real.sqrt_pos.mpr hw
    have hsw : √w * √w = w := Real.mul_self_sqrt hw.le
    generalize √w = s at hr hs hsw
    have hρ : 0 < s⁻¹ := inv_pos.mpr hs
    rw [hr]
    have hS : ∑ k, D k * ((x k : EReal) * ((s⁻¹ : ℝ) : EReal)) = (∑ k, (x k : EReal) * D k) * ((s⁻¹ : ℝ) : EReal) := by
      rw [← sum_mul_coe _ hρ.le]
      exact Finset.sum_congr rfl fun k _ => by rw [← mul_assoc, mul_comm (D k)]
    dsimp only
    rw [hS]
    generalize (∑ k, (x k : EReal) * D k) = S
    rw [Ideal.div_coe hN.ne', Ideal.div_coe hN.ne', Ideal.div_coe hw.ne']
    -- the kernel's side: the scale over the difference
    have hk : ((s⁻¹ : ℝ) : EReal) * (D c - (x c : EReal) * ((s⁻¹ : ℝ) : EReal) * (S * ((s⁻¹ : ℝ) : EReal) * ((1 / N : ℝ) : EReal)))
        = D c * ((s⁻¹ : ℝ) : EReal) + ((-(x c * s⁻¹ * s⁻¹ * s⁻¹ * (1 / N)) : ℝ) : EReal) * S := by
      rw [sub_eq_add_neg, EReal.left_distrib_of_nonneg_of_ne_top (EReal.coe_nonneg.mpr hρ.le) (EReal.coe_ne_top _),
        mul_comm (D c), EReal.coe_neg, EReal.neg_mul]
      congr 1
      rw [mul_neg]
      push_cast
      congr 1
      ac_rfl
    rw [hk, add_assoc]
    congr 1
    have hq : S * (((-(1 / 2) : ℝ) : EReal) * (((s⁻¹ : ℝ) : EReal) * ((1 / w : ℝ) : EReal))) * ((1 / N : ℝ) : EReal)
        = ((-(1 / 2) * (s⁻¹ * (1 / w)) * (1 / N) : ℝ) : EReal) * S := by
      rw [EReal.coe_mul, EReal.coe_mul, EReal.coe_mul]
      ac_rfl
    rw [hq, mul_comm _ (x c : EReal), ← mul_assoc, ← EReal.coe_mul, coe_mul_add_self]
    congr 2
    rw [← hsw]
    field_simp

/-- The squared rectifier's derivative: where the rectifier is zero the product is. -/
theorem gate_eq (d t a : EReal) :
    d * (t * max a 0) = if 0 < a then d * (t * max a 0) else 0 := by
  split
  · rfl
  · next h => rw [max_eq_right (not_lt.mp h), mul_zero, mul_zero]

end Cert.KernelIdeal.Algebra

end
-- ==== Proof.MlpPay.lean ====
/-
  The MLP backward kernel's payloads read element by element over the extended reals: each named value of the body at a
  row `a` and a column `b` of its block, as sums, products and quotients of elements of the blocks it is computed from.
-/
module

public import proofs.«01_k».proof.Proof.Gen.KernelIdeal.Skeleton
public import proofs.«01_k».proof.Proof.MlpAlgebra
public import Idealize.ShloMosaic.Lib.Pipeline.Value
public import Idealize.ShloMosaic.Lib.ValueIdx

@[expose] public section

set_option maxRecDepth 16384

noncomputable section

open Idealize.ShloMosaic Idealize.ShloMosaic.TcCoe Idealize.ShloMosaic.ValueIdx Idealize.SL.Sem

namespace Cert.KernelIdeal.Pay

open Cert.KernelIdeal Cert.KernelIdeal.Gen Cert.KernelIdeal.Algebra

/-- A product of a matrix by the transpose of another, into zero, at an element: the sum over the shared axis. -/
theorem nt_apply {p q r : ℕ} {φ ψ : FTy} (d : DotDims ⟨2, ![p, q]⟩ ⟨2, ![r, q]⟩ ⟨2, ![p, r]⟩) (hr : d.contr.rank = 1)
    (hs : d.contr.size ⟨0, by omega⟩ = q)
    (hl0 : ∀ j k, (d.lhsIdx j k 0).val = (j 0).val) (hl1 : ∀ j k, (d.lhsIdx j k 1).val = (k ⟨0, by omega⟩).val)
    (hr0 : ∀ j k, (d.rhsIdx j k 0).val = (j 1).val) (hr1 : ∀ j k, (d.rhsIdx j k 1).val = (k ⟨0, by omega⟩).val)
    (u : FVec Ideal ⟨2, ![p, q]⟩ φ) (v : FVec Ideal ⟨2, ![r, q]⟩ ψ) (a : Fin p) (b : Fin r) :
    FloatOps.matmul d none u v (constant ⟨2, ![p, r]⟩ .f32 0x00000000#32) (ix2 a b)
      = ∑ k : Fin q, (u (ix2 a k) : EReal) * v (ix2 b k) := by
  rw [Ideal.matmul_constant_zero_apply, ← Equiv.sum_comp (contrEquiv1 d q hr hs).symm]
  refine Finset.sum_congr rfl fun k _ => ?_
  have hk := contrEquiv1_symm_val d q hr hs k
  rw [show d.lhsIdx (ix2 a b) ((contrEquiv1 d q hr hs).symm k) = ix2 a k from funext fun e => Fin.ext (by
      match e with
      | ⟨0, _⟩ => exact hl0 _ _
      | ⟨1, _⟩ => exact (hl1 _ _).trans hk),
    show d.rhsIdx (ix2 a b) ((contrEquiv1 d q hr hs).symm k) = ix2 b k from funext fun e => Fin.ext (by
      match e with
      | ⟨0, _⟩ => exact hr0 _ _
      | ⟨1, _⟩ => exact (hr1 _ _).trans hk)]

/-- The products of the body are of that form: the wide one … -/
theorem dot_wide (u : FVec Ideal S512x1024 .bf16) (v : FVec Ideal S1024x1024 .bf16) (a : Fin 512) (b : Fin 1024) :
    matmul (F := Ideal) dot_S512x1024_S1024x1024_S512x1024_1_1_0_0_n_n none u v (constant S512x1024 .f32 0x00000000#32) (ix2 a b)
      = ∑ k : Fin 1024, (u (ix2 a k) : EReal) * v (ix2 b k) :=
  nt_apply dot_S512x1024_S1024x1024_S512x1024_1_1_0_0_n_n rfl rfl (fun _ _ => rfl)
    (fun j k => dot_S512x1024_S1024x1024_S512x1024_1_1_0_0_n_n.lhsIdx_val_of_single rfl j k) (fun _ _ => rfl)
    (fun j k => dot_S512x1024_S1024x1024_S512x1024_1_1_0_0_n_n.rhsIdx_val_of_single rfl j k) u v a b

/-- … and the one by half of the output projection. -/
theorem dot_half (u v : FVec Ideal S512x1024 .bf16) (a b : Fin 512) :
    matmul (F := Ideal) dot_S512x1024_S512x1024_S512x512_1_1_0_0_n_n none u v (constant S512x512 .f32 0x00000000#32) (ix2 a b)
      = ∑ k : Fin 1024, (u (ix2 a k) : EReal) * v (ix2 b k) :=
  nt_apply dot_S512x1024_S512x1024_S512x512_1_1_0_0_n_n rfl rfl (fun _ _ => rfl)
    (fun j k => dot_S512x1024_S512x1024_S512x512_1_1_0_0_n_n.lhsIdx_val_of_single rfl j k) (fun _ _ => rfl)
    (fun j k => dot_S512x1024_S512x1024_S512x512_1_1_0_0_n_n.rhsIdx_val_of_single rfl j k) u v a b

/-- The gradient at the pre-activation. -/
theorem pay11_apply (dy : Vec Ideal S512x1024 .bf16) (wd : Vec Ideal S1024x1024 .bf16) (r : Vec Ideal S512x1024 .bf16)
    (a : Fin 512) (b : Fin 1024) :
    (k0_pay11 dy wd r (ix2 a b) : EReal) = (∑ k : Fin 1024, (dy (ix2 a k) : EReal) * wd (ix2 b k))
      * (Ideal.ofBits .f32 0x40000000#32 * r (ix2 a b)) := by
  unfold k0_pay11
  simp only [shapeCast_self]
  exact congrArg (· * _) (dot_wide dy wd a b)

/-- The accumulator after a point: what it held plus the point's share of the product with the up-projection. -/
theorem pay12_apply (dy : Vec Ideal S512x1024 .bf16) (wd : Vec Ideal S1024x1024 .bf16) (r : Vec Ideal S512x1024 .bf16)
    (acc : Vec Ideal S512x1024 .f32) (wu : Vec Ideal S1x1024x1024 .bf16) (a : Fin 512) (b : Fin 1024) :
    (k0_pay12 dy wd r acc wu (ix2 a b) : EReal)
      = acc (ix2 a b) + ∑ j : Fin 1024, (k0_pay11 dy wd r (ix2 a j) : EReal) * wu (ix3 0 b j) := by
  unfold k0_pay12
  simp only [shapeCast_self]
  refine congrArg (_ + ·) ((dot_wide _ _ a b).trans (Finset.sum_congr rfl fun j _ => congrArg (_ * ·) ?_))
  refine (shapeCast_apply wu shapeCasts_S1x1024x1024_S1024x1024 (ix2 b j) (ix3 0 b j) ?_)
  rewrite [Shape.rowMajor_val_two, Shape.rowMajor_val_three]
  show (0 * 1024 + b.val) * 1024 + j.val = b.val * 1024 + j.val
  omega

/-- The accumulator starts at zero, and so does the norm weight's gradient. -/
theorem pay10_apply (i : S512x1024.Idx) : (k0_pay10 (F := Ideal) i : EReal) = 0 := by
  unfold k0_pay10
  simp only [shapeCast_self]
  exact Ideal.ofBits_zero_f32

theorem pay9_apply (i : S8x1024.Idx) : (k0_pay9 (F := Ideal) i : EReal) = 0 := Ideal.ofBits_zero_f32

/-- A sum over a block's columns, kept as a column. -/
theorem rowSum (u : FVec Ideal S512x1024 .f32) (a : Fin 512) :
    (shapeCast S512x1 (multiReduction .add [1] S512 u 0x00000000#32 reduces_S512x1024_S512 (.inl rfl) rfl)
      shapeCasts_S512_S512x1 (ix2 a 0) : EReal) = ∑ k : Fin 1024, (u (ix2 a k) : EReal) := by
  refine (shapeCast_apply _ shapeCasts_S512_S512x1 (ix2 a 0) (ix1 a) ?_).trans ?_
  · rewrite [Shape.rowMajor_val_one, Shape.rowMajor_val_two]
    show a.val = a.val * 1 + 0
    omega
  · refine (Ideal.multiReduction_add_single u 0x00000000#32 reduces_S512x1024_S512 (.inl rfl) rfl (ix1 a)).trans ?_
    exact Finset.sum_congr rfl fun k _ => congrArg u (funext fun e => Fin.ext (by match e with | ⟨0, _⟩ => rfl | ⟨1, _⟩ => rfl))

/-- A column spread over a block's columns. -/
theorem spreadCol (u : FVec Ideal S512x1 .f32) (a : Fin 512) (b : Fin 1024) :
    broadcastTo S512x1024 u broadcasts_S512x1_S512x1024 (ix2 a b) = u (ix2 a 0) :=
  broadcastTo_apply u broadcasts_S512x1_S512x1024 (ix2 a b) (ix2 a 0) (fun d => match d with
    | ⟨0, _⟩ => by show a.val = if (512 : Nat) = 1 then 0 else a.val; rw [if_neg (by decide)]
    | ⟨1, _⟩ => by show 0 = if (1 : Nat) = 1 then 0 else b.val; rw [if_pos rfl])

/-- A row spread over a block's rows. -/
theorem spreadRow (u : FVec Ideal S1x1024 .f32) (a : Fin 512) (b : Fin 1024) :
    broadcastTo S512x1024 u broadcasts_S1x1024_S512x1024 (ix2 a b) = u (ix2 0 b) :=
  broadcastTo_apply u broadcasts_S1x1024_S512x1024 (ix2 a b) (ix2 0 b) (fun d => match d with
    | ⟨0, _⟩ => by show 0 = if (1 : Nat) = 1 then 0 else a.val; rw [if_pos rfl]
    | ⟨1, _⟩ => by show b.val = if (1024 : Nat) = 1 then 0 else b.val; rw [if_neg (by decide)])

/-- The reciprocal root of a row's mean square. -/
def root (u : S512x1024.Idx → EReal) (a : Fin 512) : EReal :=
  Ideal.rsqrt (msq (fun k : Fin 1024 => u (ix2 a k)) (Ideal.ofBits .f32 0x44800000#32) (Ideal.ofBits .f32 0x358637BD#32))

theorem pay3_apply (x : Vec Ideal S512x1024 .f32) (a : Fin 512) : (k0_pay3 x (ix2 a 0) : EReal) = root x a := by
  unfold k0_pay3
  exact congrArg (fun s => Ideal.rsqrt (Ideal.div s _ + _)) (rowSum (mulf x x) a)

theorem pay4_apply (x : Vec Ideal S512x1024 .f32) (a : Fin 512) (b : Fin 1024) :
    (k0_pay4 x (ix2 a b) : EReal) = x (ix2 a b) * root x a := by
  unfold k0_pay4
  exact congrArg (_ * ·) ((spreadCol _ a b).trans (pay3_apply x a))

/-- The block's share of the norm weight's gradient. -/
theorem pay5_apply (x dm : Vec Ideal S512x1024 .f32) (b : Fin 1024) :
    (k0_pay5 x dm (ix2 0 b) : EReal) = ∑ a : Fin 512, (dm (ix2 a b) : EReal) * (x (ix2 a b) * root x a) := by
  unfold k0_pay5
  refine (shapeCast_apply _ shapeCasts_S1024_S1x1024 (ix2 0 b) (ix1 b) ?_).trans ?_
  · rewrite [Shape.rowMajor_val_one, Shape.rowMajor_val_two]
    show b.val = 0 * 1024 + b.val
    omega
  · refine (Ideal.multiReduction_add_single _ 0x00000000#32 reduces_S512x1024_S1024 (.inl rfl) rfl (ix1 b)).trans ?_
    refine Finset.sum_congr rfl fun a _ => ?_
    rw [show reduces_S512x1024_S1024.lift (ix1 b) a = ix2 (n0 := 512) (n1 := 1024) a b from
      funext fun e => Fin.ext (by match e with | ⟨0, _⟩ => rfl | ⟨1, _⟩ => rfl)]
    exact congrArg (_ * ·) (pay4_apply x a b)

/-- The gradient at the block's input. -/
theorem pay6_apply (x : Vec Ideal S512x1024 .f32) (g : Vec Ideal S1x1024 .f32) (dm dy : Vec Ideal S512x1024 .f32)
    (a : Fin 512) (b : Fin 1024) :
    (k0_pay6 x g dm dy (ix2 a b) : EReal) = dy (ix2 a b) + root x a
      * (dm (ix2 a b) * g (ix2 0 b) - x (ix2 a b) * root x a
          * Ideal.div (∑ k : Fin 1024, (dm (ix2 a k) * g (ix2 0 k)) * (x (ix2 a k) * root x a)) (Ideal.ofBits .f32 0x44800000#32)) := by
  unfold k0_pay6
  simp only [shapeCast_self]
  have hd : ∀ k : Fin 1024, (mulf (F := Ideal) (φ := .f32) dm (broadcastTo S512x1024 g broadcasts_S1x1024_S512x1024) (ix2 a k) : EReal)
      = dm (ix2 a k) * g (ix2 0 k) := fun k => congrArg (fun s : EReal => (dm (ix2 a k) : EReal) * s) (spreadRow g a k)
  have hs := (spreadCol (divf (shapeCast S512x1 (multiReduction .add [1] S512
      (mulf (mulf dm (broadcastTo S512x1024 g broadcasts_S1x1024_S512x1024)) (k0_pay4 x)) 0x00000000#32 reduces_S512x1024_S512
      (.inl rfl) rfl) shapeCasts_S512_S512x1) (broadcast S512x1 (Scalar.ofBits .f32 0x44800000#32))) a b).trans
    (congrArg (fun s => Ideal.div s (Ideal.ofBits .f32 0x44800000#32)) ((rowSum _ a).trans
      (Finset.sum_congr rfl fun k _ => congrArg₂ (fun p q : EReal => p * q) (hd k) (pay4_apply x a k))))
  refine congrArg (fun s : EReal => dy (ix2 a b) + s) ?_
  refine congrArg₂ (fun p q : EReal => p * q) ((spreadCol _ a b).trans (pay3_apply x a)) ?_
  exact congrArg₂ (fun p q : EReal => p - q) (hd b) (congrArg₂ (fun p q : EReal => p * q) (pay4_apply x a b) hs)

theorem pay7_apply (x : Vec Ideal S512x1024 .f32) (g : Vec Ideal S1x1024 .f32) (dm dy : Vec Ideal S512x1024 .f32)
    (i : S512x1024.Idx) : (k0_pay7 x g dm dy i : EReal) = k0_pay6 x g dm dy i := rfl

/-- The gradient at the attention's output: the product with half of the output projection. -/
theorem pay8_apply (x : Vec Ideal S512x1024 .f32) (g : Vec Ideal S1x1024 .f32) (dm dy : Vec Ideal S512x1024 .f32)
    (w : Vec Ideal S512x1024 .bf16) (a b : Fin 512) :
    (k0_pay8 x g dm dy w (ix2 a b) : EReal) = ∑ k : Fin 1024, (k0_pay6 x g dm dy (ix2 a k) : EReal) * w (ix2 b k) := by
  unfold k0_pay8
  simp only [shapeCast_self]
  exact dot_half _ w a b

theorem pay1_apply (u w : Vec Ideal S512x1024 .bf16) (a b : Fin 512) :
    (k0_pay1 u w (ix2 a b) : EReal) = ∑ k : Fin 1024, (u (ix2 a k) : EReal) * w (ix2 b k) := by
  unfold k0_pay1
  simp only [shapeCast_self]
  exact dot_half u w a b

theorem pay2_apply (s acc : Vec Ideal S1x1024 .f32) (i : S1x1024.Idx) : (k0_pay2 s acc i : EReal) = acc i + s i := by
  unfold k0_pay2
  simp only [shapeCast_self]
  rfl

end Cert.KernelIdeal.Pay

end
-- ==== Proof.MlpHost.lean ====
/-
  What the host code that prepares the MLP backward call leaves in the call's arguments, element by element over the
  extended reals: the rectified products of the normed activations (the reference's own lines), the regrouped
  up-projection, the two halves of the output projection, and casts, which over the extended reals change nothing.
-/
module

public import proofs.«01_k».proof.Proof.Gen.KernelIdeal.Frame.Runs
public import proofs.«01_k».proof.Proof.Gen.ReferenceIdeal.Read
public import Idealize.ShloMosaic.Lib.StableHlo.RunRead

@[expose] public section

set_option maxRecDepth 16384

noncomputable section

open Idealize.ShloMosaic Idealize.ShloMosaic.TcCoe Idealize.ShloMosaic.ValueIdx Idealize.SL.Sem

namespace Cert.KernelIdeal.Host

open Cert.KernelIdeal Cert.KernelIdeal.Gen

variable (m : (ℓ : Loc nD τ sig) → Buf (Elt Ideal) ℓ) (c : Dev nD)

/-- The arguments, over the extended reals: the gradient arriving at the block's output, the block's input, the norm's
    weight, the two projections of the layer and the attention's output projection. -/
abbrev dy : S4096x1024.Idx → EReal := m ((c : Thread nD τ).loc main_arg0)
abbrev x : S4096x1024.Idx → EReal := m ((c : Thread nD τ).loc main_arg1)
abbrev g : S1024.Idx → EReal := m ((c : Thread nD τ).loc main_arg2)
abbrev wup : S1024x4096.Idx → EReal := m ((c : Thread nD τ).loc main_arg3)
abbrev wdown : S4096x1024.Idx → EReal := m ((c : Thread nD τ).loc main_arg4)
abbrev wo : S1024x1024.Idx → EReal := m ((c : Thread nD τ).loc main_arg5)

/-- The rectified products the kernel is given are the reference's. -/
theorem V_r (i : S4096x4096.Idx) : (V m c main_v15 : S4096x4096.Idx → EReal) i
    = Cert.ReferenceIdeal.Read.val_main_v17 (F := Ideal) (x m c) (g m c) (wup m c) i := by
  unfold V hostOps0 hostOps0_1 hostOps0_2
  simp only [List.flatten_cons, List.flatten_nil, List.append_nil, List.cons_append, List.nil_append]
  after_reads_simp
  rfl

/-- The incoming gradient's second copy. -/
theorem V_dyb (i : S4096x1024.Idx) : (V m c main_v20 : S4096x1024.Idx → EReal) i = dy m c i := by
  unfold V hostOps0 hostOps0_1 hostOps0_2
  simp only [List.flatten_cons, List.flatten_nil, List.append_nil, List.cons_append, List.nil_append]
  after_reads_simp
  rfl

/-- The down-projection. -/
theorem V_wdown (i : S4096x1024.Idx) : (V m c main_v22 : S4096x1024.Idx → EReal) i = wdown m c i := by
  unfold V hostOps0 hostOps0_1 hostOps0_2
  simp only [List.flatten_cons, List.flatten_nil, List.append_nil, List.cons_append, List.nil_append]
  after_reads_simp
  rfl

/-- The norm's weight as one row. -/
theorem V_g (k : Fin 1024) : (V m c main_v21 : S1x1024.Idx → EReal) (ix2 0 k) = g m c (ix1 k) := by
  unfold V hostOps0 hostOps0_1 hostOps0_2
  simp only [List.flatten_cons, List.flatten_nil, List.append_nil, List.cons_append, List.nil_append]
  after_reads_simp
  exact broadcastInDim_apply _ bcast_S1024_S1x1024_1 (g m c) (ix2 0 k) (ix1 k) (fun a => match a with
    | ⟨0, _⟩ => by show k.val = if (1024 : Nat) = 1 then 0 else k.val; rw [if_neg (by decide)])

/-- The up-projection's column blocks: block `b` holds the columns from `1024 b` on. -/
theorem V_wup (b : Fin 4) (k j : Fin 1024) : (V m c main_v18 : S4x1024x1024.Idx → EReal) (ix3 b k j)
    = wup m c (ix2 k ⟨1024 * b.val + j.val, by omega⟩) := by
  unfold V hostOps0 hostOps0_1 hostOps0_2
  simp only [List.flatten_cons, List.flatten_nil, List.append_nil, List.cons_append, List.nil_append]
  after_reads_simp
  show transpose S4x1024x1024 [1, 0, 2] (shapeCast S1024x4x1024 (wup m c) shapeCasts_S1024x4096_S1024x4x1024)
    transposes_S1024x4x1024_S4x1024x1024_1_0_2 (ix3 b k j) = _
  refine (transpose_apply [1, 0, 2] _ transposes_S1024x4x1024_S4x1024x1024_1_0_2 (ix3 b k j) (ix3 k b j) (fun a => match a with
    | ⟨0, _⟩ => rfl | ⟨1, _⟩ => rfl | ⟨2, _⟩ => rfl)).trans ?_
  refine shapeCast_apply (wup m c) shapeCasts_S1024x4096_S1024x4x1024 (ix3 k b j) _ ?_
  rewrite [Shape.rowMajor_val_two, Shape.rowMajor_val_three]
  show k.val * 4096 + (1024 * b.val + j.val) = (k.val * 4 + b.val) * 1024 + j.val
  omega

/-- The output projection's first rows. -/
theorem V_woa (a : Fin 512) (k : Fin 1024) : (V m c main_v23 : S512x1024.Idx → EReal) (ix2 a k)
    = wo m c (ix2 ⟨a.val, by omega⟩ k) := by
  unfold V hostOps0 hostOps0_1 hostOps0_2
  simp only [List.flatten_cons, List.flatten_nil, List.append_nil, List.cons_append, List.nil_append]
  after_reads_simp
  refine extractStridedSlice_apply ![0, 0] (wo m c) slices_S1024x1024_S512x1024_0_0 (ix2 a k) _ (fun d => match d with
    | ⟨0, _⟩ => by show a.val = 0 + a.val; omega
    | ⟨1, _⟩ => by show k.val = 0 + k.val; omega)

/-- The output projection's last rows. -/
theorem V_wod (a : Fin 512) (k : Fin 1024) : (V m c main_v24 : S512x1024.Idx → EReal) (ix2 a k)
    = wo m c (ix2 ⟨512 + a.val, by omega⟩ k) := by
  unfold V hostOps0 hostOps0_1 hostOps0_2
  simp only [List.flatten_cons, List.flatten_nil, List.append_nil, List.cons_append, List.nil_append]
  after_reads_simp
  refine extractStridedSlice_apply ![512, 0] (wo m c) slices_S1024x1024_S512x1024_512_0 (ix2 a k) _ (fun d => match d with
    | ⟨0, _⟩ => by show 512 + a.val = 512 + a.val; rfl
    | ⟨1, _⟩ => by show k.val = 0 + k.val; omega)

/-! ## The windows' blocks

At point `t` of the grid the row block is `t / 4` and the column block of the wide layer `t % 4`. -/

theorem N_eq (t : Fin cfg0.N) : t.val < 32 := lt_of_lt_of_eq t.isLt N_0

theorem idx_0 : ∀ t : Fin grid0.N, (win0_0.index t 0 = t.val / 4) ∧ (win0_0.index t 1 = 0) := by decide +kernel
theorem idx_1 : ∀ t : Fin grid0.N, (win0_1.index t 0 = t.val / 4) ∧ (win0_1.index t 1 = 0) := by decide +kernel
theorem idx_2 : ∀ t : Fin grid0.N, (win0_2.index t 0 = t.val / 4) ∧ (win0_2.index t 1 = t.val % 4) := by decide +kernel
theorem idx_3 : ∀ t : Fin grid0.N, (win0_3.index t 0 = t.val / 4) ∧ (win0_3.index t 1 = 0) := by decide +kernel
theorem idx_4 : ∀ t : Fin grid0.N, (win0_4.index t 0 = 0) ∧ (win0_4.index t 1 = 0) := by decide +kernel
theorem idx_5 : ∀ t : Fin grid0.N, (win0_5.index t 0 = t.val % 4) ∧ (win0_5.index t 1 = 0) ∧ (win0_5.index t 2 = 0) := by
  decide +kernel
theorem idx_6 : ∀ t : Fin grid0.N, (win0_6.index t 0 = t.val % 4) ∧ (win0_6.index t 1 = 0) := by decide +kernel
theorem idx_7 : ∀ t : Fin grid0.N, (win0_7.index t 0 = 0) ∧ (win0_7.index t 1 = 0) := by decide +kernel
theorem idx_8 : ∀ t : Fin grid0.N, (win0_8.index t 0 = 0) ∧ (win0_8.index t 1 = 0) := by decide +kernel

/-- The block of the incoming gradient. -/
theorem iblk_dy (t : Fin cfg0.N) (a : Fin 512) (b : Fin 1024) : (iblk m c 0 t : S512x1024.Idx → EReal) (ix2 a b)
    = dy m c (ix2 ⟨512 * (t.val / 4) + a.val, by have := N_eq t; omega⟩ b) := by
  unfold iblk
  rw [View.read_apply]
  show V m c main_arg0 _ = _
  rw [V_main_arg0]
  refine congrArg (dy m c) (funext fun d => Fin.ext ?_)
  match d with
  | ⟨0, _⟩ => show win0_0.index t 0 * 512 + 1 * a.val = 512 * (t.val / 4) + a.val; rw [(idx_0 t).1]; omega
  | ⟨1, _⟩ => show win0_0.index t 1 * 1024 + 1 * b.val = b.val; rw [(idx_0 t).2]; omega

/-- The same block of its second copy. -/
theorem iblk_dyb (t : Fin cfg0.N) (a : Fin 512) (b : Fin 1024) : (iblk m c 1 t : S512x1024.Idx → EReal) (ix2 a b)
    = dy m c (ix2 ⟨512 * (t.val / 4) + a.val, by have := N_eq t; omega⟩ b) := by
  unfold iblk
  rw [View.read_apply]
  show (V m c main_v20 : S4096x1024.Idx → EReal) _ = _
  rw [V_dyb]
  refine congrArg (dy m c) (funext fun d => Fin.ext ?_)
  match d with
  | ⟨0, _⟩ => show win0_1.index t 0 * 512 + 1 * a.val = 512 * (t.val / 4) + a.val; rw [(idx_1 t).1]; omega
  | ⟨1, _⟩ => show win0_1.index t 1 * 1024 + 1 * b.val = b.val; rw [(idx_1 t).2]; omega

/-- The block of the rectified products. -/
theorem iblk_r (t : Fin cfg0.N) (a : Fin 512) (b : Fin 1024) : (iblk m c 2 t : S512x1024.Idx → EReal) (ix2 a b)
    = Cert.ReferenceIdeal.Read.val_main_v17 (F := Ideal) (x m c) (g m c) (wup m c)
        (ix2 ⟨512 * (t.val / 4) + a.val, by have := N_eq t; omega⟩ ⟨1024 * (t.val % 4) + b.val, by omega⟩) := by
  unfold iblk
  rw [View.read_apply]
  show (V m c main_v15 : S4096x4096.Idx → EReal) _ = _
  rw [V_r]
  refine congrArg (Cert.ReferenceIdeal.Read.val_main_v17 (F := Ideal) (x m c) (g m c) (wup m c)) (funext fun d => Fin.ext ?_)
  match d with
  | ⟨0, _⟩ => show win0_2.index t 0 * 512 + 1 * a.val = 512 * (t.val / 4) + a.val; rw [(idx_2 t).1]; omega
  | ⟨1, _⟩ => show win0_2.index t 1 * 1024 + 1 * b.val = 1024 * (t.val % 4) + b.val; rw [(idx_2 t).2]; omega

/-- The block of the layer's input. -/
theorem iblk_x (t : Fin cfg0.N) (a : Fin 512) (b : Fin 1024) : (iblk m c 3 t : S512x1024.Idx → EReal) (ix2 a b)
    = x m c (ix2 ⟨512 * (t.val / 4) + a.val, by have := N_eq t; omega⟩ b) := by
  unfold iblk
  rw [View.read_apply]
  show V m c main_arg1 _ = _
  rw [V_main_arg1]
  refine congrArg (x m c) (funext fun d => Fin.ext ?_)
  match d with
  | ⟨0, _⟩ => show win0_3.index t 0 * 512 + 1 * a.val = 512 * (t.val / 4) + a.val; rw [(idx_3 t).1]; omega
  | ⟨1, _⟩ => show win0_3.index t 1 * 1024 + 1 * b.val = b.val; rw [(idx_3 t).2]; omega

/-- The norm's weight, the same at every point. -/
theorem iblk_g (t : Fin cfg0.N) (b : Fin 1024) : (iblk m c 4 t : S1x1024.Idx → EReal) (ix2 0 b)
    = g m c (ix1 b) := by
  unfold iblk
  rw [View.read_apply]
  refine Eq.trans (congrArg (V m c main_v21 : S1x1024.Idx → EReal) (funext fun d => Fin.ext ?_)) (V_g m c b)
  match d with
  | ⟨0, _⟩ => show win0_4.index t 0 * 1 + 1 * 0 = 0; rw [(idx_4 t).1]
  | ⟨1, _⟩ => show win0_4.index t 1 * 1024 + 1 * b.val = b.val; rw [(idx_4 t).2]; omega

/-- The column block of the up-projection. -/
theorem iblk_wup (t : Fin cfg0.N) (k j : Fin 1024) : (iblk m c 5 t : S1x1024x1024.Idx → EReal) (ix3 0 k j)
    = wup m c (ix2 k ⟨1024 * (t.val % 4) + j.val, by omega⟩) := by
  unfold iblk
  rw [View.read_apply]
  refine Eq.trans (congrArg (V m c main_v18 : S4x1024x1024.Idx → EReal) (funext fun d => Fin.ext ?_))
    (V_wup m c ⟨t.val % 4, by omega⟩ k j)
  match d with
  | ⟨0, _⟩ => show win0_5.index t 0 * 1 + 1 * 0 = t.val % 4; rw [(idx_5 t).1]; omega
  | ⟨1, _⟩ => show win0_5.index t 1 * 1024 + 1 * k.val = k.val; rw [(idx_5 t).2.1]; omega
  | ⟨2, _⟩ => show win0_5.index t 2 * 1024 + 1 * j.val = j.val; rw [(idx_5 t).2.2]; omega

/-- The row block of the down-projection. -/
theorem iblk_wdown (t : Fin cfg0.N) (j k : Fin 1024) : (iblk m c 6 t : S1024x1024.Idx → EReal) (ix2 j k)
    = wdown m c (ix2 ⟨1024 * (t.val % 4) + j.val, by omega⟩ k) := by
  unfold iblk
  rw [View.read_apply]
  show (V m c main_v22 : S4096x1024.Idx → EReal) _ = _
  rw [V_wdown]
  refine congrArg (wdown m c) (funext fun d => Fin.ext ?_)
  match d with
  | ⟨0, _⟩ => show win0_6.index t 0 * 1024 + 1 * j.val = 1024 * (t.val % 4) + j.val; rw [(idx_6 t).1]; omega
  | ⟨1, _⟩ => show win0_6.index t 1 * 1024 + 1 * k.val = k.val; rw [(idx_6 t).2]; omega

/-- The first half of the output projection, the same at every point. -/
theorem iblk_woa (t : Fin cfg0.N) (a : Fin 512) (k : Fin 1024) : (iblk m c 7 t : S512x1024.Idx → EReal) (ix2 a k)
    = wo m c (ix2 ⟨a.val, by omega⟩ k) := by
  unfold iblk
  rw [View.read_apply]
  refine Eq.trans (congrArg (V m c main_v23 : S512x1024.Idx → EReal) (funext fun d => Fin.ext ?_)) (V_woa m c a k)
  match d with
  | ⟨0, _⟩ => show win0_7.index t 0 * 512 + 1 * a.val = a.val; rw [(idx_7 t).1]; omega
  | ⟨1, _⟩ => show win0_7.index t 1 * 1024 + 1 * k.val = k.val; rw [(idx_7 t).2]; omega

/-- The second half of the output projection, the same at every point. -/
theorem iblk_wod (t : Fin cfg0.N) (a : Fin 512) (k : Fin 1024) : (iblk m c 8 t : S512x1024.Idx → EReal) (ix2 a k)
    = wo m c (ix2 ⟨512 + a.val, by omega⟩ k) := by
  unfold iblk
  rw [View.read_apply]
  refine Eq.trans (congrArg (V m c main_v24 : S512x1024.Idx → EReal) (funext fun d => Fin.ext ?_)) (V_wod m c a k)
  match d with
  | ⟨0, _⟩ => show win0_8.index t 0 * 512 + 1 * a.val = a.val; rw [(idx_8 t).1]; omega
  | ⟨1, _⟩ => show win0_8.index t 1 * 1024 + 1 * k.val = k.val; rw [(idx_8 t).2]; omega

end Cert.KernelIdeal.Host

end
-- ==== Proof.MlpRef.lean ====
/-
  The reference of the MLP backward call read element by element over the extended reals, in the form the kernel computes:
  the gradient at the pre-activation without the rectifier's case split, the product with the up-projection, the norm's
  input gradient as one difference scaled by the row's reciprocal root, the product with the output projection, and the
  norm weight's gradient as one sum over all rows.
-/
module

public import proofs.«01_k».proof.Proof.Gen.ReferenceIdeal.Read
public import proofs.«01_k».proof.Proof.MlpAlgebra
public import Idealize.ShloMosaic.Lib.KernelVsHost

@[expose] public section

set_option maxRecDepth 16384

noncomputable section

open Idealize.ShloMosaic Idealize.ShloMosaic.TcCoe Idealize.ShloMosaic.ValueIdx Idealize.SL.Sem

namespace Cert.KernelIdeal.Ref

open Cert.ReferenceIdeal Cert.ReferenceIdeal.Read Cert.KernelIdeal.Algebra

variable (dy x : S4096x1024.Idx → EReal) (g : S1024.Idx → EReal) (wup : S1024x4096.Idx → EReal)
  (wdown : S4096x1024.Idx → EReal) (wo : S1024x1024.Idx → EReal)

/-- Row `i`'s reciprocal root. -/
def root (i : Fin 4096) : EReal :=
  Ideal.rsqrt (msq (fun k : Fin 1024 => x (ix2 i k)) (Ideal.ofBits .f32 0x44800000#32) (Ideal.ofBits .f32 0x358637BD#32))

/-- The gradient at the pre-activation. -/
def da (i j : Fin 4096) : EReal := val_main_v28 (F := Ideal) dy x g wup wdown (ix2 i j)

/-- The gradient after the norm. -/
def dm (i : Fin 4096) (b : Fin 1024) : EReal := ∑ k : Fin 4096, da dy x g wup wdown i k * wup (ix2 b k)

/-- The gradient at the block's input. -/
def dh (i : Fin 4096) (b : Fin 1024) : EReal :=
  dy (ix2 i b) + root x i
      * (dm dy x g wup wdown i b * g (ix1 b) - x (ix2 i b) * root x i
          * Ideal.div (∑ k : Fin 1024, (dm dy x g wup wdown i k * g (ix1 k)) * (x (ix2 i k) * root x i)) (Ideal.ofBits .f32 0x44800000#32))

/-- The gradient at the attention's output. -/
def dmix (i : Fin 4096) (j : Fin 1024) : EReal := ∑ k : Fin 1024, dh dy x g wup wdown i k * wo (ix2 j k)

/-- The gradient at the norm's weight. -/
def dg (b : Fin 1024) : EReal := ∑ i : Fin 4096, dm dy x g wup wdown i b * (x (ix2 i b) * root x i)

theorem ms_eq (i : Fin 4096) : (val_main_v6 (F := Ideal) x (ix2 i 0) : EReal)
    = msq (fun k : Fin 1024 => x (ix2 i k)) (Ideal.ofBits .f32 0x44800000#32) (Ideal.ofBits .f32 0x358637BD#32) := by
  rw [val_main_v6_apply, val_main_v4_apply, val_main_v2_apply, val_main_v1_apply]
  show Ideal.div (Ideal.ofBits .f32 0x00000000#32 + _) _ + _ = _
  rw [Ideal.ofBits_zero_f32, zero_add]
  refine congrArg (fun s : EReal => Ideal.div s _ + _) (Finset.sum_congr rfl fun k _ => ?_)
  rw [val_main_v0_apply, show idx_main_v1 (idx_main_v2 (ix2 i 0)) k = ix2 i k from eq_ix2 _]
  rfl

theorem root_eq (i : Fin 4096) : (val_main_v7 (F := Ideal) x (ix2 i 0) : EReal) = root x i := by
  rw [val_main_v7_apply]
  exact congrArg Ideal.rsqrt (ms_eq x i)

/-- The reference's gate: a select on the pre-activation's sign, which the doubled rectifier already makes. -/
theorem da_eq (i j : Fin 4096) : da dy x g wup wdown i j
    = (∑ k : Fin 1024, dy (ix2 i k) * wdown (ix2 j k))
      * (Ideal.ofBits .f32 0x40000000#32 * val_main_v17 (F := Ideal) x g wup (ix2 i j)) := by
  unfold da
  rw [val_main_v28_apply, val_main_v26_apply, val_main_v25_apply, val_main_v19_apply, val_main_v23_apply, val_main_v17_apply]
  have hl : ∀ k, lidx_main_v25 (ix2 i j) k = ix2 i k := fun k => eq_ix2 _
  have hr : ∀ k, ridx_main_v25 (ix2 i j) k = ix2 j k := fun k => eq_ix2 _
  simp only [hl, hr]
  generalize (val_main_v16 (F := Ideal) x g wup (ix2 i j)) = a
  generalize (∑ k : Fin 1024, dy (ix2 i k) * wdown (ix2 j k)) = d
  show Scalar.select (Ideal.cmp .ogt a (Ideal.ofBits .f32 0x00000000#32))
      (d * (Ideal.ofBits .f32 0x40000000#32 * max a (Ideal.ofBits .f32 0x00000000#32))) (Ideal.ofBits .f32 0x00000000#32)
    = d * (Ideal.ofBits .f32 0x40000000#32 * max a (Ideal.ofBits .f32 0x00000000#32))
  rw [Ideal.ofBits_zero_f32, gate_eq]
  by_cases h : 0 < a
  · simp [Scalar.select, Ideal.cmp, h]
  · simp [Scalar.select, Ideal.cmp, h]

theorem dm_eq (i : Fin 4096) (b : Fin 1024) :
    (val_main_v29 (F := Ideal) dy x g wup wdown (ix2 i b) : EReal) = dm dy x g wup wdown i b := by
  rw [val_main_v29_apply]
  refine Finset.sum_congr rfl fun k _ => ?_
  rw [show lidx_main_v29 (ix2 i b) k = ix2 i k from eq_ix2 _, show ridx_main_v29 (ix2 i b) k = ix2 b k from eq_ix2 _]
  rfl

/-- The gradient after the norm's scale. -/
theorem dn_eq (i : Fin 4096) (b : Fin 1024) :
    (val_main_v34 (F := Ideal) dy x g wup wdown (ix2 i b) : EReal) = dm dy x g wup wdown i b * g (ix1 b) := by
  rw [val_main_v34_apply, dm_eq, val_main_v33_apply, val_main_v13_apply,
    show idx_main_v13 (idx_main_v33 (ix2 i b)) = ix1 b from eq_ix1 _]
  rfl

/-- The row's coefficient in the reference's gradient of the reciprocal root. -/
theorem coef_eq (i : Fin 4096) : (val_main_v44 (F := Ideal) dy x g wup wdown (ix1 i) : EReal)
    = Ideal.div ((∑ k : Fin 1024, x (ix2 i k) * (dm dy x g wup wdown i k * g (ix1 k)))
        * (Ideal.ofBits .f32 0xBF000000#32
          * Ideal.div (root x i)
              (msq (fun k : Fin 1024 => x (ix2 i k)) (Ideal.ofBits .f32 0x44800000#32) (Ideal.ofBits .f32 0x358637BD#32))))
        (Ideal.ofBits .f32 0x44800000#32) := by
  rw [val_main_v44_apply, Fin.sum_univ_one, show idx_main_v44 (ix1 i) 0 = ix2 i 0 from eq_ix2 _, val_main_v43_apply,
    val_main_v41_apply, val_main_v38_apply, val_main_v37_apply, val_main_v10_apply, val_main_v8_apply, ms_eq, root_eq]
  have hk : ∀ k, (val_main_v36 (F := Ideal) dy x g wup wdown (idx_main_v37 (idx_main_v38 (ix2 i 0)) k) : EReal)
      = x (ix2 i k) * (dm dy x g wup wdown i k * g (ix1 k)) := fun k => by
    rw [show idx_main_v37 (idx_main_v38 (ix2 i 0)) k = ix2 i k from (eq_ix2 _).trans (congrArg₂ ix2 (Fin.ext (by
      show i.val * 1 + 0 = i.val; omega)) rfl), val_main_v36_apply, dn_eq]
    rfl
  show Ideal.ofBits .f32 0x00000000#32 + Ideal.div ((Ideal.ofBits .f32 0x00000000#32 + ∑ k : Fin 1024, (_ : EReal)) * _) _ = _
  simp only [hk]
  rw [Ideal.ofBits_zero_f32, zero_add, zero_add]
  rfl

theorem dh_eq (i : Fin 4096) (b : Fin 1024) :
    (val_main_v50 (F := Ideal) dy x g wup wdown (ix2 i b) : EReal) = dh dy x g wup wdown i b := by
  obtain ⟨e, he, hew⟩ := word_eps
  rw [val_main_v50_apply, val_main_v49_apply, val_main_v47_apply, val_main_v40_apply, val_main_v46_apply,
    val_main_v48_apply, val_main_v45_apply, val_main_v39_apply, dn_eq,
    show idx_main_v45 (ix2 i b) = ix1 i from eq_ix1 _, show idx_main_v39 (ix2 i b) = ix2 i 0 from eq_ix2 _, coef_eq, root_eq]
  have h := row_eq (fun k : Fin 1024 => x (ix2 i k)) (fun k => dm dy x g wup wdown i k * g (ix1 k)) (N := 1024) (by norm_num) he b
  unfold dh
  refine congrArg (fun s : EReal => dy (ix2 i b) + s) ?_
  unfold root
  rw [word_neg_half, word_1024, hew]
  exact h.symm

theorem dmix_eq (i : Fin 4096) (j : Fin 1024) :
    (val_main_v53 (F := Ideal) dy x g wup wdown wo (ix2 i j) : EReal) = dmix dy x g wup wdown wo i j := by
  rw [val_main_v53_apply]
  refine Finset.sum_congr rfl fun k _ => ?_
  rw [show lidx_main_v53 (ix2 i j) k = ix2 i k from eq_ix2 _, show ridx_main_v53 (ix2 i j) k = ix2 j k from eq_ix2 _, dh_eq]

theorem dg_eq (b : Fin 1024) :
    (val_main_v54 (F := Ideal) dy x g wup wdown (ix2 0 b) : EReal) = dg dy x g wup wdown b := by
  rw [val_main_v54_apply, val_main_v35_apply, Fin.sum_univ_one, val_main_v32_apply, val_main_v31_apply]
  show Ideal.ofBits .f32 0x00000000#32 + (Ideal.ofBits .f32 0x00000000#32 + ∑ k : Fin 4096, (_ : EReal)) = _
  rw [Ideal.ofBits_zero_f32, zero_add, zero_add]
  refine Finset.sum_congr rfl fun k _ => ?_
  rw [show idx_main_v31 (idx_main_v32 (idx_main_v35 (idx_main_v54 (ix2 0 b)) 0)) k = ix2 k b from (eq_ix2 _).trans
    (congrArg₂ ix2 rfl (Fin.ext (by show 0 * 1024 + b.val = b.val; omega))),
    val_main_v30_apply, val_main_v12_apply, val_main_v11_apply, dm_eq, show idx_main_v11 (ix2 k b) = ix2 k 0 from eq_ix2 _, root_eq]
  exact mul_comm _ _

/-- The row of the norm weight's gradient above seven rows of zeros. -/
theorem acc_eq (r : Fin 8) (b : Fin 1024) : (val_main_v55 (F := Ideal) dy x g wup wdown (ix2 r b) : EReal)
    = if r = 0 then dg dy x g wup wdown b else 0 := by
  unfold val_main_v55
  split
  · next h =>
    subst h
    rw [← dg_eq]
    refine pad_apply_of_inside _ _ _ _ _ _ _ (ix2 0 b) (ix2 0 b) fun a => ?_
    match a with
    | ⟨0, _⟩ => rfl
    | ⟨1, _⟩ => show b.val = 0 + b.val * (0 + 1); omega
  · next h =>
    refine (pad_apply_of_not_inside _ _ _ _ _ _ _ (ix2 r b) 0 fun hh => ?_).trans ?_
    · have h2 : (r.val - 0) / (0 + 1) < 1 := hh.2.2
      exact h (Fin.ext (by simpa using h2))
    · rw [val_main_call1_v0_apply, val_main_c_apply]
      show (((0#32 : BitVec 32).toInt : ℝ) : EReal) = 0
      simp

end Cert.KernelIdeal.Ref

end
-- ==== Proof.MlpFold.lean ====
/-
  The MLP backward kernel's results over the extended reals: the carried state followed through the grid, 4 points per block
  of 512 rows, and read at the points that write the results back. Each result's array is, element by element, the
  reference's function of the six arguments (Proof/MlpRef.lean).
-/
module

public import proofs.«01_k».proof.Proof.MlpPoint
public import proofs.«01_k».proof.Proof.MlpPay
public import proofs.«01_k».proof.Proof.MlpHost
public import proofs.«01_k».proof.Proof.MlpRef

@[expose] public section

set_option maxRecDepth 16384

noncomputable section

open Idealize.ShloMosaic Idealize.ShloMosaic.TcCoe Idealize.ShloMosaic.ValueIdx Idealize.SL.Sem

namespace Cert.KernelIdeal.Fold

open Cert.KernelIdeal Cert.KernelIdeal.Gen Cert.KernelIdeal.Value Cert.KernelIdeal.Host Cert.KernelIdeal.Pay Cert.KernelIdeal.Step

variable (m : (ℓ : Loc nD τ sig) → Buf (Elt Ideal) ℓ) (c : Dev nD)

/-- The reference's functions at the arguments. -/
abbrev rda (i j : Fin 4096) : EReal := Ref.da (dy m c) (x m c) (g m c) (wup m c) (wdown m c) i j
abbrev rdm (i : Fin 4096) (b : Fin 1024) : EReal := Ref.dm (dy m c) (x m c) (g m c) (wup m c) (wdown m c) i b
abbrev rdh (i : Fin 4096) (b : Fin 1024) : EReal := Ref.dh (dy m c) (x m c) (g m c) (wup m c) (wdown m c) i b
abbrev rroot (i : Fin 4096) : EReal := Ref.root (x m c) i

/-- Row `a` of row block `q`. -/
abbrev row (q : Fin 8) (a : Fin 512) : Fin 4096 := ⟨512 * q.val + a.val, by omega⟩
/-- Column `b` of column block `k`. -/
abbrev col (k : Fin 4) (b : Fin 1024) : Fin 4096 := ⟨1024 * k.val + b.val, by omega⟩
/-- The point of row block `q` and column block `k`. -/
abbrev pt (q : Fin 8) (k : Fin 4) : Fin cfg0.N := ⟨4 * q.val + k.val, by rw [show cfg0.N = 32 from N_0]; omega⟩

/-- A sum over blocks of a sum over places is the sum over all. -/
theorem sum_blocks {p q N : ℕ} (h : p * q = N) (f : Fin N → EReal) (hb : ∀ (s : Fin p) (j : Fin q), q * s.val + j.val < N) :
    ∑ s : Fin p, ∑ j : Fin q, f ⟨q * s.val + j.val, hb s j⟩ = ∑ k, f k := by
  subst h
  rw [← Fintype.sum_prod_type', ← Equiv.sum_comp finProdFinEquiv]
  refine Finset.sum_congr rfl fun s _ => congrArg f (Fin.ext ?_)
  exact Nat.add_comm _ _

/-- The point's gradient at the pre-activation. -/
theorem pay11_at (q : Fin 8) (k : Fin 4) (a : Fin 512) (b : Fin 1024) :
    (k0_pay11 (iblk m c 1 (pt q k)) (iblk m c 6 (pt q k)) (iblk m c 2 (pt q k)) (ix2 a b) : EReal)
      = rda m c (row q a) (col k b) := by
  have hq : (4 * q.val + k.val) / 4 = q.val := by omega
  have hk : (4 * q.val + k.val) % 4 = k.val := by omega
  rw [pay11_apply, iblk_r]
  simp only [iblk_dyb, iblk_wdown, hq, hk]
  exact (Ref.da_eq _ _ _ _ _ _ _).symm

/-- The point's share of the gradient after the norm. -/
theorem addDm_at (q : Fin 8) (k : Fin 4) (acc : S512x1024.Idx → EReal) (a : Fin 512) (b : Fin 1024) :
    (addDm m c (pt q k) acc (ix2 a b) : EReal)
      = acc (ix2 a b) + ∑ j : Fin 1024, rda m c (row q a) (col k j) * wup m c (ix2 b (col k j)) := by
  have hk : (4 * q.val + k.val) % 4 = k.val := by omega
  refine (pay12_apply _ _ _ _ _ a b).trans (congrArg (fun s : EReal => acc (ix2 a b) + s) (Finset.sum_congr rfl fun j _ => ?_))
  rw [pay11_at, iblk_wup]
  simp only [hk]

/-- The state before a point, after the point before it. -/
theorem outs_eq (n : ℕ) (h : n + 1 < cfg0.N) :
    outsAt0 m c (n + 1) h = stAt0 m c (n + 1) h (outsAt0 m c n (Nat.lt_of_succ_lt h)) := rfl

/-- At every point the state is the step of some state. -/
theorem outs_step (t : Fin cfg0.N) : ∃ s : St Ideal, outsAt0 m c t.val t.isLt = stAt0 m c t.val t.isLt s := by
  obtain ⟨n, h⟩ := t
  match n, h with
  | 0, h => exact ⟨junk0, outsAt0_zero m c h⟩
  | n + 1, h => exact ⟨_, rfl⟩

/-- The share of one column block. -/
abbrev share (q : Fin 8) (k : Fin 4) (a : Fin 512) (b : Fin 1024) : EReal :=
  ∑ j : Fin 1024, rda m c (row q a) (col k j) * wup m c (ix2 b (col k j))

/-- The accumulator after the first, second, third and fourth point of a row block. -/
theorem dm_0 (q : Fin 8) (a : Fin 512) (b : Fin 1024) :
    (St.dm (outsAt0 m c (pt q 0).val (pt q 0).isLt) (ix2 a b) : EReal) = share m c q 0 a b := by
  obtain ⟨s, hs⟩ := outs_step m c (pt q 0)
  rw [hs, step_acc_first m c (pt q 0) s (by show (4 * q.val + 0) % 4 = 0; omega), addDm_at, pay10_apply, zero_add]

theorem dm_1 (q : Fin 8) (a : Fin 512) (b : Fin 1024) :
    (St.dm (outsAt0 m c (pt q 1).val (pt q 1).isLt) (ix2 a b) : EReal) = share m c q 0 a b + share m c q 1 a b := by
  rw [show outsAt0 m c (pt q 1).val (pt q 1).isLt = stAt0 m c (pt q 1).val (pt q 1).isLt _ from outs_eq m c (4 * q.val) (pt q 1).isLt,
    step_acc_next m c (pt q 1) _ (by show ¬(4 * q.val + 1) % 4 = 0; omega), addDm_at]
  exact congrArg (fun s : EReal => s + _) (dm_0 m c q a b)

theorem dm_2 (q : Fin 8) (a : Fin 512) (b : Fin 1024) :
    (St.dm (outsAt0 m c (pt q 2).val (pt q 2).isLt) (ix2 a b) : EReal)
      = share m c q 0 a b + share m c q 1 a b + share m c q 2 a b := by
  rw [show outsAt0 m c (pt q 2).val (pt q 2).isLt = stAt0 m c (pt q 2).val (pt q 2).isLt _ from outs_eq m c (4 * q.val + 1) (pt q 2).isLt,
    step_acc_next m c (pt q 2) _ (by show ¬(4 * q.val + 2) % 4 = 0; omega), addDm_at]
  exact congrArg (fun s : EReal => s + _) (dm_1 m c q a b)

/-- The full accumulator, at the last point of a row block, is the reference's product with the whole up-projection. -/
theorem full (q : Fin 8) (a : Fin 512) (b : Fin 1024) :
    (addDm m c (pt q 3) (St.dm (outsAt0 m c (pt q 2).val (pt q 2).isLt)) (ix2 a b) : EReal) = rdm m c (row q a) b := by
  rw [addDm_at, dm_2]
  refine Eq.trans ?_ (sum_blocks (p := 4) (q := 1024) (by norm_num)
    (fun k => rda m c (row q a) k * wup m c (ix2 b k)) (fun s j => by omega))
  rw [Fin.sum_univ_four]

theorem last_eq (q : Fin 8) : outsAt0 m c (pt q 3).val (pt q 3).isLt
    = stAt0 m c (pt q 3).val (pt q 3).isLt (outsAt0 m c (pt q 2).val (pt q 2).isLt) := outs_eq m c (4 * q.val + 2) (pt q 3).isLt

/-- The row's reciprocal root, from the block. -/
theorem root_at (q : Fin 8) (k : Fin 4) (a : Fin 512) : Pay.root (iblk m c 3 (pt q k)) a = rroot m c (row q a) := by
  have hq : (4 * q.val + k.val) / 4 = q.val := by omega
  unfold Pay.root rroot Ref.root
  simp only [iblk_x, hq]

/-- The row block's gradient at its input. -/
theorem pay6_at (q : Fin 8) (a : Fin 512) (b : Fin 1024) :
    (k0_pay6 (iblk m c 3 (pt q 3)) (iblk m c 4 (pt q 3)) (addDm m c (pt q 3) (St.dm (outsAt0 m c (pt q 2).val (pt q 2).isLt)))
      (iblk m c 0 (pt q 3)) (ix2 a b) : EReal) = rdh m c (row q a) b := by
  have hq : (4 * q.val + (3 : Fin 4).val) / 4 = q.val := by show (4 * q.val + 3) / 4 = q.val; omega
  have hf := full m c q a
  generalize addDm m c (pt q 3) (St.dm (outsAt0 m c (pt q 2).val (pt q 2).isLt)) = D at hf ⊢
  rw [pay6_apply, root_at]
  simp only [iblk_x, iblk_dy, iblk_g, hf, hq]
  rfl

/-- The row block's share of the norm weight's gradient. -/
theorem pay5_at (q : Fin 8) (b : Fin 1024) :
    (k0_pay5 (iblk m c 3 (pt q 3)) (addDm m c (pt q 3) (St.dm (outsAt0 m c (pt q 2).val (pt q 2).isLt))) (ix2 0 b) : EReal)
      = ∑ a : Fin 512, rdm m c (row q a) b * (x m c (ix2 (row q a) b) * rroot m c (row q a)) := by
  have hq : (4 * q.val + (3 : Fin 4).val) / 4 = q.val := by show (4 * q.val + 3) / 4 = q.val; omega
  rw [pay5_apply]
  refine Finset.sum_congr rfl fun a _ => ?_
  rw [full, root_at, iblk_x]
  simp only [hq]

/-! ## The norm weight's gradient, through all the points -/

/-- The row blocks' shares, numbered by naturals. -/
def gshare (b : Fin 1024) (q : ℕ) : EReal :=
  if h : q < 8 then ∑ a : Fin 512, rdm m c (row ⟨q, h⟩ a) b * (x m c (ix2 (row ⟨q, h⟩ a) b) * rroot m c (row ⟨q, h⟩ a)) else 0

/-- After any point, row 0 holds the shares of the row blocks that are done, and the other rows zero. -/
theorem dg_at : ∀ (n : ℕ) (h : n < cfg0.N) (r : Fin 8) (b : Fin 1024), (St.dg (outsAt0 m c n h) (ix2 r b) : EReal)
    = if r = 0 then ∑ q ∈ Finset.range ((n + 1) / 4), gshare m c b q else 0
  | 0, h, r, b => by
    rw [outsAt0_zero m c h]
    refine (congrFun (step_g_zero m c ⟨0, h⟩ junk0 rfl) (ix2 r b)).trans ((pay9_apply _).trans ?_)
    simp
  | n + 1, h, r, b => by
    have hN : n + 1 < 32 := lt_of_lt_of_eq h N_0
    have ih := dg_at n (Nat.lt_of_succ_lt h) r b
    rw [outs_eq m c n h]
    by_cases h2 : (n + 1) % 4 = 3
    · by_cases hr : r = 0
      · subst hr
        rw [if_pos rfl] at ih ⊢
        obtain ⟨q, hq⟩ : ∃ q, n + 1 = 4 * q + 3 := ⟨(n + 1) / 4, by omega⟩
        obtain rfl : n = 4 * q + 2 := by omega
        refine (step_g_last m c ⟨4 * q + 2 + 1, h⟩ _ h2 b).trans ((pay2_apply _ _ _).trans ?_)
        rw [show (4 * q + 2 + 1 + 1) / 4 = (4 * q + 2 + 1) / 4 + 1 from by omega, Finset.sum_range_succ, ← ih,
          show (4 * q + 2 + 1) / 4 = q from by omega]
        refine congrArg₂ (fun s t : EReal => s + t) (congrArg (St.dg _) ((eq_ix2 _).trans (congrArg₂ ix2 (Fin.ext rfl)
          (Fin.ext (by show 0 + 1 * b.val = b.val; omega))))) ?_
        unfold gshare
        rw [dif_pos (by omega)]
        exact pay5_at m c ⟨q, by omega⟩ b
      · rw [if_neg hr] at ih ⊢
        exact (step_g_rest m c ⟨n + 1, h⟩ _ h2 r hr b).trans ih
    · refine (congrFun (step_g_keep m c ⟨n + 1, h⟩ _ ?_ h2) (ix2 r b)).trans (ih.trans ?_)
      · show ¬(n + 1) % 32 = 0
        omega
      · rw [show (n + 1 + 1) / 4 = (n + 1) / 4 from by omega]

/-! ## The results -/

/-- The fold at a point is the state after it. -/
theorem acc_at (t : Fin cfg0.N) (n : ℕ) (h : 0 + n < cfg0.N) (e : n = t.val) :
    Pipeline.accAt (fun n h => stAt0 m c n h junk0) (stAt0 m c) 0 n h = outsAt0 m c t.val t.isLt := by
  subst e
  exact (outsAt0_sweep m c _ _).symm

/-- Every row is a row of a row block, every column a column of a column block. -/
theorem row_split (i : Fin 4096) : i = row ⟨i.val / 512, by omega⟩ ⟨i.val % 512, by omega⟩ := Fin.ext (by
  show i.val = 512 * (i.val / 512) + i.val % 512; omega)
theorem col_split (i : Fin 4096) : i = col ⟨i.val / 1024, by omega⟩ ⟨i.val % 1024, by omega⟩ := Fin.ext (by
  show i.val = 1024 * (i.val / 1024) + i.val % 1024; omega)

theorem res_da (i j : Fin 4096) : (G9 m c (ix2 i j) : EReal) = rda m c i j := by
  have hp : pt9Of (ix2 i j) = (pt ⟨i.val / 512, by omega⟩ ⟨j.val / 1024, by omega⟩).val := by
    show 4 * (i.val / 512 - 0) + 1 * (j.val / 1024 - 0) = 4 * (i.val / 512) + j.val / 1024
    omega
  have hl : loc9Of (ix2 i j) = ix2 ⟨i.val % 512, by omega⟩ ⟨j.val % 1024, by omega⟩ := eq_ix2 _
  unfold G9
  rw [dif_pos (by rw [hp]; exact (pt _ _).isLt), acc_at m c _ _ _ hp, hl]
  obtain ⟨s, hs⟩ := outs_step m c (pt ⟨i.val / 512, by omega⟩ ⟨j.val / 1024, by omega⟩)
  rw [hs, step_da, pay11_at, ← row_split, ← col_split]

/-- The point that writes a row block's results back. -/
theorem last_val (q : Fin 8) : (pt q 3).val = 4 * q.val + 3 := rfl

theorem res_dh (i : Fin 4096) (b : Fin 1024) : (G10 m c (ix2 i b) : EReal) = rdh m c i b := by
  have hp : pt10Of (ix2 i b) = (pt ⟨i.val / 512, by omega⟩ 3).val := by
    rw [last_val]
    show 4 * (1 * (i.val / 512 - 0) + 1 * (b.val / 1024 - 0)) + 3 = 4 * (i.val / 512) + 3
    omega
  have hl : loc10Of (ix2 i b) = ix2 ⟨i.val % 512, by omega⟩ b := (eq_ix2 _).trans (congrArg₂ ix2 rfl (Fin.ext (by
    show b.val % 1024 = b.val; omega)))
  unfold G10
  rw [dif_pos (by rw [hp]; exact (pt _ _).isLt), acc_at m c _ _ _ hp, hl, last_eq,
    step_dh m c (pt _ 3) _ (by show (4 * (i.val / 512) + 3) % 4 = 3; omega), pay6_at, ← row_split]

theorem res_dhb (i : Fin 4096) (b : Fin 1024) : (G11 m c (ix2 i b) : EReal) = rdh m c i b := by
  have hp : pt11Of (ix2 i b) = (pt ⟨i.val / 512, by omega⟩ 3).val := by
    rw [last_val]
    show 4 * (1 * (i.val / 512 - 0) + 1 * (b.val / 1024 - 0)) + 3 = 4 * (i.val / 512) + 3
    omega
  have hl : loc11Of (ix2 i b) = ix2 ⟨i.val % 512, by omega⟩ b := (eq_ix2 _).trans (congrArg₂ ix2 rfl (Fin.ext (by
    show b.val % 1024 = b.val; omega)))
  unfold G11
  rw [dif_pos (by rw [hp]; exact (pt _ _).isLt), acc_at m c _ _ _ hp, hl, last_eq,
    step_dhb m c (pt _ 3) _ (by show (4 * (i.val / 512) + 3) % 4 = 3; omega), pay7_apply, pay6_at, ← row_split]

theorem res_dao (i : Fin 4096) (d : Fin 512) : (G12 m c (ix2 i d) : EReal)
    = Ref.dmix (dy m c) (x m c) (g m c) (wup m c) (wdown m c) (wo m c) i ⟨d.val, by omega⟩ := by
  have hp : pt12Of (ix2 i d) = (pt ⟨i.val / 512, by omega⟩ 3).val := by
    rw [last_val]
    show 4 * (1 * (i.val / 512 - 0) + 1 * (d.val / 512 - 0)) + 3 = 4 * (i.val / 512) + 3
    omega
  have hl : loc12Of (ix2 i d) = ix2 ⟨i.val % 512, by omega⟩ d := (eq_ix2 _).trans (congrArg₂ ix2 rfl (Fin.ext (by
    show d.val % 512 = d.val; omega)))
  unfold G12
  rw [dif_pos (by rw [hp]; exact (pt _ _).isLt), acc_at m c _ _ _ hp, hl, last_eq,
    step_dao m c (pt _ 3) _ (by show (4 * (i.val / 512) + 3) % 4 = 3; omega), pay8_apply]
  refine Finset.sum_congr (M := EReal) rfl fun k _ => ?_
  rw [pay6_at, iblk_woa, ← row_split]

theorem res_ddn (i : Fin 4096) (d : Fin 512) : (G13 m c (ix2 i d) : EReal)
    = Ref.dmix (dy m c) (x m c) (g m c) (wup m c) (wdown m c) (wo m c) i ⟨512 + d.val, by omega⟩ := by
  have hp : pt13Of (ix2 i d) = (pt ⟨i.val / 512, by omega⟩ 3).val := by
    rw [last_val]
    show 4 * (1 * (i.val / 512 - 0) + 1 * (d.val / 512 - 0)) + 3 = 4 * (i.val / 512) + 3
    omega
  have hl : loc13Of (ix2 i d) = ix2 ⟨i.val % 512, by omega⟩ d := (eq_ix2 _).trans (congrArg₂ ix2 rfl (Fin.ext (by
    show d.val % 512 = d.val; omega)))
  unfold G13
  rw [dif_pos (by rw [hp]; exact (pt _ _).isLt), acc_at m c _ _ _ hp, hl, last_eq,
    step_ddn m c (pt _ 3) _ (by show (4 * (i.val / 512) + 3) % 4 = 3; omega), pay1_apply]
  refine Finset.sum_congr (M := EReal) rfl fun k _ => ?_
  rw [pay7_apply, pay6_at, iblk_wod, ← row_split]

theorem res_dg (r : Fin 8) (b : Fin 1024) : (G14 m c (ix2 r b) : EReal)
    = if r = 0 then Ref.dg (dy m c) (x m c) (g m c) (wup m c) (wdown m c) b else 0 := by
  rw [G14_last, acc_at m c ⟨31, lt_of_lt_of_eq (by decide) N_0.symm⟩ 31 _ rfl]
  refine (dg_at m c 31 _ r b).trans (if_congr Iff.rfl ?_ rfl)
  rw [show (31 + 1) / 4 = 8 from rfl, Finset.sum_range]
  refine Eq.trans (Finset.sum_congr rfl fun q _ => ?_) (sum_blocks (p := 8) (q := 512) (by norm_num)
    (fun i => rdm m c i b * (x m c (ix2 i b) * rroot m c i)) (fun s j => by omega))
  unfold gshare
  rw [dif_pos q.isLt]

end Cert.KernelIdeal.Fold

end
-- ==== Proof.MlpRun.lean ====
/-
  The MLP backward kernel against its reference: each of the kernel's six result arrays, over the extended reals, is the
  reference's array of the same six arguments; with the two programs' runs this is the value claim.
-/
module

public import proofs.«01_k».proof.Defs
public import proofs.«01_k».proof.Proof.MlpFold
public import proofs.«01_k».proof.Proof.Gen.ReferenceIdeal.Run

@[expose] public section

set_option maxRecDepth 16384

noncomputable section

open Idealize.ShloMosaic Idealize.ShloMosaic.TcCoe Idealize.ShloMosaic.ValueIdx Idealize.SL.Sem

namespace Cert.KernelIdeal.Result

open Cert.KernelIdeal Cert.KernelIdeal.Gen Cert.KernelIdeal.Value Cert.KernelIdeal.Host Cert.KernelIdeal.Fold
open Cert.ReferenceIdeal.Read

variable (m : (ℓ : Loc nD τ sig) → Buf (Elt Ideal) ℓ) (c : Dev nD)

/-- Two arrays of two axes are the same array if they agree at every row and column. -/
theorem ext2 {a b : ℕ} (f h : (⟨2, ![a, b]⟩ : Shape).Idx → EReal) (e : ∀ i j, f (ix2 i j) = h (ix2 i j)) : f = h :=
  funext fun i => by rw [eq_ix2 i]; exact e _ _

/-- The gradient at the pre-activation. -/
theorem G9_eq : (G9 m c : S4096x4096.Idx → EReal) = val_main_v56 (F := Ideal) (dy m c) (x m c) (g m c) (wup m c) (wdown m c) := by
  refine ext2 _ _ fun i j => ?_
  refine (res_da m c i j).trans ?_
  rw [val_main_v56_apply]
  rfl

/-- The gradient at the block's input. -/
theorem G10_eq : (G10 m c : S4096x1024.Idx → EReal) = val_main_v50 (F := Ideal) (dy m c) (x m c) (g m c) (wup m c) (wdown m c) := by
  refine ext2 _ _ fun i j => ?_
  exact (res_dh m c i j).trans (Ref.dh_eq _ _ _ _ _ i j).symm

/-- Its copy in the matrix unit's type. -/
theorem G11_eq : (G11 m c : S4096x1024.Idx → EReal) = val_main_v57 (F := Ideal) (dy m c) (x m c) (g m c) (wup m c) (wdown m c) := by
  refine ext2 _ _ fun i j => ?_
  refine (res_dhb m c i j).trans ?_
  rw [val_main_v57_apply]
  exact (Ref.dh_eq _ _ _ _ _ i j).symm

/-- The gradient at the attention's half of the mixed heads. -/
theorem G12_eq : (G12 m c : S4096x512.Idx → EReal) = val_main_v58 (F := Ideal) (dy m c) (x m c) (g m c) (wup m c) (wdown m c) (wo m c) := by
  refine ext2 _ _ fun i j => ?_
  refine (res_dao m c i j).trans ?_
  rw [val_main_v58_apply]
  refine (Ref.dmix_eq _ _ _ _ _ _ i ⟨j.val, by omega⟩).symm.trans ?_
  exact congrArg _ (eq_ix2 _).symm

/-- The gradient at the recurrence's half of the mixed heads. -/
theorem G13_eq : (G13 m c : S4096x512.Idx → EReal) = val_main_v59 (F := Ideal) (dy m c) (x m c) (g m c) (wup m c) (wdown m c) (wo m c) := by
  refine ext2 _ _ fun i j => ?_
  refine (res_ddn m c i j).trans ?_
  rw [val_main_v59_apply]
  refine (Ref.dmix_eq _ _ _ _ _ _ i ⟨512 + j.val, by omega⟩).symm.trans ?_
  exact congrArg _ (eq_ix2 _).symm

/-- The gradient at the norm's weight, in row 0 of eight rows. -/
theorem G14_eq : (G14 m c : S8x1024.Idx → EReal) = val_main_v55 (F := Ideal) (dy m c) (x m c) (g m c) (wup m c) (wdown m c) := by
  refine ext2 _ _ fun i j => ?_
  exact (res_dg m c i j).trans (Ref.acc_eq _ _ _ _ _ i j).symm

end Cert.KernelIdeal.Result

namespace Cert.Proof

open Cert.KernelIdeal.Host Cert.KernelIdeal.Result Cert.ReferenceIdeal.Read

/-- The reference terminates, its arguments are unchanged, and it declares no semaphore. -/
theorem frame_reference : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

/-- The two programs, run on memories that hold the same arguments, leave the same six results. -/
theorem algebraic_mlp : Cert.algebraic_KernelIdeal_ReferenceIdeal := by
  intro m ρ m' ρ' _ hagree
  refine ⟨fun c => val_main_v56 (F := Ideal) (dy m c) (x m c) (g m c) (wup m c) (wdown m c), fun c => val_main_v50 (F := Ideal) (dy m c) (x m c) (g m c) (wup m c) (wdown m c),
    fun c => val_main_v57 (F := Ideal) (dy m c) (x m c) (g m c) (wup m c) (wdown m c), fun c => val_main_v58 (F := Ideal) (dy m c) (x m c) (g m c) (wup m c) (wdown m c) (wo m c),
    fun c => val_main_v59 (F := Ideal) (dy m c) (x m c) (g m c) (wup m c) (wdown m c) (wo m c), fun c => val_main_v55 (F := Ideal) (dy m c) (x m c) (g m c) (wup m c) (wdown m c), ?_, ?_⟩
  · refine (θ_run Cert.KernelIdeal.defs _ _).mono (fun r h c => ?_) (Cert.KernelIdeal.Value.run (F := Ideal) m ρ)
    obtain ⟨h0, h1, h2, h3, h4, h5, ha⟩ := h c
    exact ⟨h0.trans (G9_eq m c), h1.trans (G10_eq m c), h2.trans (G11_eq m c), h3.trans (G12_eq m c),
      h4.trans (G13_eq m c), h5.trans (G14_eq m c), ha⟩
  · refine (θ_run Cert.ReferenceIdeal.defs _ _).mono (fun r h c => ?_) (Cert.ReferenceIdeal.Value.run (F := Ideal) m' ρ')
    obtain ⟨h0, h1, h2, h3, h4, h5, ha⟩ := h c
    obtain ⟨a0, a1, a2, a3, a4, a5⟩ := hagree c
    refine ⟨(h0.trans (val_main_v56_eq ..)).trans ?_, (h1.trans (val_main_v50_eq m' c)).trans ?_,
      (h2.trans (val_main_v57_eq m' c)).trans ?_, (h3.trans (val_main_v58_eq m' c)).trans ?_,
      (h4.trans (val_main_v59_eq m' c)).trans ?_, (h5.trans (val_main_v55_eq ..)).trans ?_, ha⟩
    · rw [a0, a1, a2, a3, a4]
    · rw [a0, a1, a2, a3, a4]
    · rw [a0, a1, a2, a3, a4]
    · rw [a0, a1, a2, a3, a4, a5]
    · rw [a0, a1, a2, a3, a4, a5]
    · rw [a0, a1, a2, a3, a4]

end Cert.Proof

end
-- ==== Proof.Shared.lean ====
/-
  Facts that the calls after the first share: products of matrices read at an element in the two forms the bodies use,
  sums over blocks of an axis, and arrays that agree at every row and column.
-/
module

public import proofs.«01_k».proof.Proof.MlpAlgebra
public import Idealize.ShloMosaic.Lib.Pipeline.Value
public import Idealize.ShloMosaic.Lib.ValueIdx
public import Idealize.ShloMosaic.PureOps.Ideal.Laws

@[expose] public section

noncomputable section

open Idealize.ShloMosaic Idealize.ShloMosaic.TcCoe Idealize.ShloMosaic.ValueIdx Idealize.SL.Sem

namespace Cert.Shared

/-- A product of the transpose of a matrix by another, into zero, at an element: the sum over the shared rows. -/
theorem tn_apply {p q r : ℕ} {φ ψ : FTy} (d : DotDims ⟨2, ![q, p]⟩ ⟨2, ![q, r]⟩ ⟨2, ![p, r]⟩) (hr : d.contr.rank = 1)
    (hs : d.contr.size ⟨0, by omega⟩ = q)
    (hl0 : ∀ j k, (d.lhsIdx j k 0).val = (k ⟨0, by omega⟩).val) (hl1 : ∀ j k, (d.lhsIdx j k 1).val = (j 0).val)
    (hr0 : ∀ j k, (d.rhsIdx j k 0).val = (k ⟨0, by omega⟩).val) (hr1 : ∀ j k, (d.rhsIdx j k 1).val = (j 1).val)
    (u : FVec Ideal ⟨2, ![q, p]⟩ φ) (v : FVec Ideal ⟨2, ![q, r]⟩ ψ) (a : Fin p) (b : Fin r) :
    FloatOps.matmul d none u v (constant ⟨2, ![p, r]⟩ .f32 0x00000000#32) (ix2 a b)
      = ∑ k : Fin q, (u (ix2 k a) : EReal) * v (ix2 k b) := by
  rw [Ideal.matmul_constant_zero_apply, ← Equiv.sum_comp (contrEquiv1 d q hr hs).symm]
  refine Finset.sum_congr rfl fun k _ => ?_
  have hk := contrEquiv1_symm_val d q hr hs k
  rw [show d.lhsIdx (ix2 a b) ((contrEquiv1 d q hr hs).symm k) = ix2 k a from funext fun e => Fin.ext (by
      match e with
      | ⟨0, _⟩ => exact (hl0 _ _).trans hk
      | ⟨1, _⟩ => exact hl1 _ _),
    show d.rhsIdx (ix2 a b) ((contrEquiv1 d q hr hs).symm k) = ix2 k b from funext fun e => Fin.ext (by
      match e with
      | ⟨0, _⟩ => exact (hr0 _ _).trans hk
      | ⟨1, _⟩ => exact hr1 _ _)]

/-- A product of two matrices, into zero, at an element. -/
theorem nn_apply {p q r : ℕ} {φ ψ : FTy} (d : DotDims ⟨2, ![p, q]⟩ ⟨2, ![q, r]⟩ ⟨2, ![p, r]⟩) (hr : d.contr.rank = 1)
    (hs : d.contr.size ⟨0, by omega⟩ = q)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (u : FVec Ideal ⟨2, ![p, q]⟩ φ) (v : FVec Ideal ⟨2, ![q, r]⟩ ψ) (a : Fin p) (b : Fin r) :
    FloatOps.matmul d none u v (constant ⟨2, ![p, r]⟩ .f32 0x00000000#32) (ix2 a b)
      = ∑ k : Fin q, (u (ix2 a k) : EReal) * v (ix2 k b) := by
  rw [Ideal.matmul_constant_zero_apply, ← Equiv.sum_comp (contrEquiv1 d q hr hs).symm]
  refine Finset.sum_congr rfl fun k _ => ?_
  have hk := contrEquiv1_symm_val d q hr hs k
  rw [show d.lhsIdx (ix2 a b) ((contrEquiv1 d q hr hs).symm k) = ix2 a k from funext fun e => Fin.ext (by
      match e with
      | ⟨0, _⟩ => exact hl0 _ _
      | ⟨1, _⟩ => exact (hl1 _ _).trans hk),
    show d.rhsIdx (ix2 a b) ((contrEquiv1 d q hr hs).symm k) = ix2 k b from funext fun e => Fin.ext (by
      match e with
      | ⟨0, _⟩ => exact (hr0 _ _).trans hk
      | ⟨1, _⟩ => exact hr1 _ _)]

/-- A product of a matrix by the transpose of another, into zero, at an element. -/
theorem nt_apply {p q r : ℕ} {φ ψ : FTy} (d : DotDims ⟨2, ![p, q]⟩ ⟨2, ![r, q]⟩ ⟨2, ![p, r]⟩) (hr : d.contr.rank = 1)
    (hs : d.contr.size ⟨0, by omega⟩ = q)
    (hl0 : ∀ j k, (d.lhsIdx j k 0).val = (j 0).val) (hl1 : ∀ j k, (d.lhsIdx j k 1).val = (k ⟨0, by omega⟩).val)
    (hr0 : ∀ j k, (d.rhsIdx j k 0).val = (j 1).val) (hr1 : ∀ j k, (d.rhsIdx j k 1).val = (k ⟨0, by omega⟩).val)
    (u : FVec Ideal ⟨2, ![p, q]⟩ φ) (v : FVec Ideal ⟨2, ![r, q]⟩ ψ) (a : Fin p) (b : Fin r) :
    FloatOps.matmul d none u v (constant ⟨2, ![p, r]⟩ .f32 0x00000000#32) (ix2 a b)
      = ∑ k : Fin q, (u (ix2 a k) : EReal) * v (ix2 b k) := by
  rw [Ideal.matmul_constant_zero_apply, ← Equiv.sum_comp (contrEquiv1 d q hr hs).symm]
  refine Finset.sum_congr rfl fun k _ => ?_
  have hk := contrEquiv1_symm_val d q hr hs k
  rw [show d.lhsIdx (ix2 a b) ((contrEquiv1 d q hr hs).symm k) = ix2 a k from funext fun e => Fin.ext (by
      match e with
      | ⟨0, _⟩ => exact hl0 _ _
      | ⟨1, _⟩ => exact (hl1 _ _).trans hk),
    show d.rhsIdx (ix2 a b) ((contrEquiv1 d q hr hs).symm k) = ix2 b k from funext fun e => Fin.ext (by
      match e with
      | ⟨0, _⟩ => exact hr0 _ _
      | ⟨1, _⟩ => exact (hr1 _ _).trans hk)]

/-- A sum over blocks of a sum over places is the sum over all. -/
theorem sum_blocks {p q N : ℕ} (h : p * q = N) (f : Fin N → EReal) (hb : ∀ (s : Fin p) (j : Fin q), q * s.val + j.val < N) :
    ∑ s : Fin p, ∑ j : Fin q, f ⟨q * s.val + j.val, hb s j⟩ = ∑ k, f k := by
  subst h
  rw [← Fintype.sum_prod_type', ← Equiv.sum_comp finProdFinEquiv]
  refine Finset.sum_congr rfl fun s _ => congrArg f (Fin.ext ?_)
  exact Nat.add_comm _ _

/-- A sum over an axis cut in two at `p`. -/
theorem sum_cut {p q N : ℕ} (h : p + q = N) (f : Fin N → EReal) :
    ∑ k, f k = (∑ j : Fin p, f ⟨j.val, by omega⟩) + ∑ j : Fin q, f ⟨p + j.val, by omega⟩ := by
  subst h
  rw [Fin.sum_univ_add]
  rfl

/-- Two arrays of two axes are the same array if they agree at every row and column. -/
theorem ext2 {a b : ℕ} (f h : (⟨2, ![a, b]⟩ : Shape).Idx → EReal) (e : ∀ i j, f (ix2 i j) = h (ix2 i j)) : f = h :=
  funext fun i => by rw [eq_ix2 i]; exact e _ _

/-- Two arrays of three axes are the same array if they agree everywhere. -/
theorem ext3 {a b d : ℕ} (f h : (⟨3, ![a, b, d]⟩ : Shape).Idx → EReal) (e : ∀ i j k, f (ix3 i j k) = h (ix3 i j k)) : f = h :=
  funext fun i => by rw [eq_ix3 i]; exact e _ _ _

end Cert.Shared

end
-- ==== Proof.InprojBwdPoint.lean ====
/-
  The input projection's backward call: what one grid point leaves behind, and the body's payloads element by element.

    point_dx        each point leaves its row block of the gradient at the layer's input;
    point_g_first   point 0 zeroes the norm weight's gradient and adds its rows' share in row 0;
    point_g_next    the other points add their share in row 0;
    point_g_rest    and leave the other rows as they were;
    pay…_apply      the payloads at a row and a column, as sums, products and quotients of elements.
-/
module

public import proofs.«01_k».proof.Proof.Shared
public import proofs.«01_k».proof.Proof.Gen.Kernel2Ideal.Value
public import Idealize.ShloMosaic.Lib.ValueIdx
public import Idealize.ShloMosaic.Lib.WritesUnit
public import Idealize.ShloMosaic.Lib.Pipeline.RowLoads

@[expose] public section

set_option maxRecDepth 16384

noncomputable section

open Idealize.ShloMosaic Idealize.ShloMosaic.TcCoe Idealize.ShloMosaic.ValueIdx Idealize.SL.Sem

namespace Cert.Kernel2Ideal.Point

open Cert.Kernel2Ideal Cert.Kernel2Ideal.Gen Cert.Kernel2Ideal.Value Cert.Shared Cert.KernelIdeal.Algebra

section Steps

variable {F : FTy → Type} [FloatOps F]
variable (m : (ℓ : Loc nD τ sig) → Buf (Elt F) ℓ)

theorem hz : (![0, 0] : Fin 2 → Nat) = fun _ => 0 := funext fun a => by fin_cases a <;> rfl

/-- The four products of a point, summed. -/
abbrev du (c : Dev nD) (t : Fin cfg0.N) : FVec F S512x1024 .f32 :=
  k0_pay6 (iblk m c 3 t) (iblk m c 7 t) (iblk m c 4 t) (iblk m c 8 t) (iblk m c 5 t) (iblk m c 9 t) (iblk m c 6 t) (iblk m c 10 t)

/-- The row of the norm weight's gradient that a point adds to. -/
abbrev row0 (g : Vec F S8x1024 .f32) : Vec F S1x1024 .f32 :=
  View.ld g (Rect.unit ![0, 0] ![1, 1024] inb_S8x1024_S1x1024_0_0)

theorem point_dx (c : Dev nD) (t : Fin cfg0.N) :
    (outsAt0 m c t.val t.isLt).1 = k0_pay3 (du m c t) (iblk m c 0 t) (k0_pay7 (iblk m c 2 t)) (k0_pay8 (iblk m c 0 t)) (iblk m c 1 t) := by
  by_cases h0 : t.val % 8 = 0
  · rw [outsAt0_A m c t h0]
    dsimp only
    unfold out0_A_11
    rw [View.read_writes_eq_canon]
    swap
    · exact fun y => cover0_A_11 ..
    unfold kernelRun0_A
    dsimp only
    try sl_unfold_words
    rw [View.canon_unit_zero hz]
    simp only [View.readAt_eq_ld, Memref.IsWhole.read_unread, View.ld_unit_zero (S := S512x1024) hz,
      View.ld_unit_zero (S := S1x1024) hz, View.ld_unit_zero (S := S512x512) hz, View.ld_unit_zero (S := S512x128) hz,
      View.ld_unit_zero (S := S512x2176) hz, View.ld_unit_zero (S := S128x1024) hz, View.ld_unit_zero (S := S2176x1024) hz]
  · rw [outsAt0_B m c t h0]
    dsimp only
    unfold out0_B_11
    rw [View.read_writes_eq_canon]
    swap
    · exact fun y => cover0_B_11 ..
    unfold kernelRun0_B
    dsimp only
    try sl_unfold_words
    rw [View.canon_unit_zero hz]
    simp only [View.readAt_eq_ld, Memref.IsWhole.read_unread, View.ld_unit_zero (S := S512x1024) hz,
      View.ld_unit_zero (S := S1x1024) hz, View.ld_unit_zero (S := S512x512) hz, View.ld_unit_zero (S := S512x128) hz,
      View.ld_unit_zero (S := S512x2176) hz, View.ld_unit_zero (S := S128x1024) hz, View.ld_unit_zero (S := S2176x1024) hz]

theorem point_g_next (c : Dev nD) (t : Fin cfg0.N) (h0 : ¬t.val % 8 = 0) (b : Fin 1024) :
    (outsAt0 m c t.val t.isLt).2 (ix2 0 b)
      = k0_pay4 (du m c t) (iblk m c 0 t) (k0_pay8 (iblk m c 0 t))
          (row0 (outsAt0 m c (t.val - 1) (Nat.lt_of_le_of_lt (Nat.sub_le _ _) t.isLt)).2) (ix2 0 b) := by
  rw [outsAt0_B m c t h0]
  dsimp only
  unfold out0_B_12 kernelRun0_B
  dsimp only
  try sl_unfold_words
  simp only [View.readAt_eq_ld, Memref.IsWhole.read_unread, View.ld_unit_zero (S := S512x1024) hz,
      View.ld_unit_zero (S := S1x1024) hz, View.ld_unit_zero (S := S512x512) hz, View.ld_unit_zero (S := S512x128) hz,
      View.ld_unit_zero (S := S512x2176) hz, View.ld_unit_zero (S := S128x1024) hz, View.ld_unit_zero (S := S2176x1024) hz]
  refine (View.read_writes_cons_unit_of_mem _ _ _ _ _ _ (ix2 0 b) rfl fun a => ?_).trans ?_
  · match a with
    | ⟨0, _⟩ => rfl
    | ⟨1, _⟩ => exact (Nat.zero_add _).symm
  · rfl

theorem point_g_rest (c : Dev nD) (t : Fin cfg0.N) (h0 : ¬t.val % 8 = 0) (r : Fin 8) (hr : r ≠ 0) (b : Fin 1024) :
    (outsAt0 m c t.val t.isLt).2 (ix2 r b)
      = (outsAt0 m c (t.val - 1) (Nat.lt_of_le_of_lt (Nat.sub_le _ _) t.isLt)).2 (ix2 r b) := by
  rw [outsAt0_B m c t h0]
  dsimp only
  unfold out0_B_12 kernelRun0_B
  dsimp only
  refine (View.read_writes_cons_unit_of_not_mem _ _ _ _ _ _ rfl 0 (Or.inr ?_)).trans ?_
  · show 0 + 1 ≤ r.val
    have := Fin.val_ne_of_ne hr
    simp only [Fin.val_zero] at this
    omega
  · exact congrFun (Memref.IsWhole.read_unread _ _) _

theorem point_g_first (c : Dev nD) (t : Fin cfg0.N) (h0 : t.val % 8 = 0) (b : Fin 1024) :
    (outsAt0 m c t.val t.isLt).2 (ix2 0 b)
      = k0_pay4 (du m c t) (iblk m c 0 t) (k0_pay8 (iblk m c 0 t)) (row0 (k0_pay5 (F := F))) (ix2 0 b) := by
  rw [outsAt0_A m c t h0]
  dsimp only
  unfold out0_A_12 kernelRun0_A
  dsimp only
  try sl_unfold_words
  simp only [View.readAt_eq_ld, Memref.IsWhole.read_unread, View.ld_unit_zero (S := S512x1024) hz,
      View.ld_unit_zero (S := S1x1024) hz, View.ld_unit_zero (S := S512x512) hz, View.ld_unit_zero (S := S512x128) hz,
      View.ld_unit_zero (S := S512x2176) hz, View.ld_unit_zero (S := S128x1024) hz, View.ld_unit_zero (S := S2176x1024) hz]
  refine (View.read_writes_cons_unit_of_mem _ _ _ _ _ _ (ix2 0 b) rfl fun a => ?_).trans ?_
  · match a with
    | ⟨0, _⟩ => rfl
    | ⟨1, _⟩ => exact (Nat.zero_add _).symm
  · rw [View.readCov_eq_canon', View.canon_unit_zero (S := S8x1024) hz]
    rfl

theorem point_g_first_rest (c : Dev nD) (t : Fin cfg0.N) (h0 : t.val % 8 = 0) (r : Fin 8) (hr : r ≠ 0) (b : Fin 1024) :
    (outsAt0 m c t.val t.isLt).2 (ix2 r b) = k0_pay5 (F := F) (ix2 r b) := by
  rw [outsAt0_A m c t h0]
  dsimp only
  unfold out0_A_12 kernelRun0_A
  dsimp only
  try sl_unfold_words
  refine (View.read_writes_cons_unit_of_not_mem _ _ _ _ _ _ rfl 0 (Or.inr ?_)).trans ?_
  · show 0 + 1 ≤ r.val
    have := Fin.val_ne_of_ne hr
    simp only [Fin.val_zero] at this
    omega
  · refine (View.read_writes_cons_unit_of_mem _ _ _ _ _ _ (ix2 r b) rfl fun a => ?_)
    match a with
    | ⟨0, _⟩ => exact (Nat.zero_add _).symm
    | ⟨1, _⟩ => exact (Nat.zero_add _).symm

end Steps

/-! ## The payloads -/

/-- The zeroed rows. -/
theorem pay5_apply (i : S8x1024.Idx) : (k0_pay5 (F := Ideal) i : EReal) = 0 := Ideal.ofBits_zero_f32

/-- The four products, at an element. -/
theorem pay6_apply (u0 : Vec Ideal S512x512 .bf16) (w0 : Vec Ideal S512x1024 .bf16) (u1 : Vec Ideal S512x128 .bf16)
    (w1 : Vec Ideal S128x1024 .bf16) (u2 : Vec Ideal S512x128 .bf16) (w2 : Vec Ideal S128x1024 .bf16)
    (u3 : Vec Ideal S512x2176 .bf16) (w3 : Vec Ideal S2176x1024 .bf16) (a : Fin 512) (b : Fin 1024) :
    (k0_pay6 u0 w0 u1 w1 u2 w2 u3 w3 (ix2 a b) : EReal)
      = (∑ k : Fin 512, (u0 (ix2 a k) : EReal) * w0 (ix2 k b)) + (∑ k : Fin 128, (u1 (ix2 a k) : EReal) * w1 (ix2 k b))
        + (∑ k : Fin 128, (u2 (ix2 a k) : EReal) * w2 (ix2 k b)) + ∑ k : Fin 2176, (u3 (ix2 a k) : EReal) * w3 (ix2 k b) := by
  unfold k0_pay6
  simp only [shapeCast_self]
  exact congrArg₂ (fun p q : EReal => p + q) (congrArg₂ (fun p q : EReal => p + q) (congrArg₂ (fun p q : EReal => p + q)
    (nn_apply (φ := .bf16) (ψ := .bf16) dot_S512x512_S512x1024_S512x1024_1_0_0_1_n_n rfl rfl (fun _ _ => rfl)
      (fun j k => dot_S512x512_S512x1024_S512x1024_1_0_0_1_n_n.lhsIdx_val_of_single rfl j k)
      (fun j k => dot_S512x512_S512x1024_S512x1024_1_0_0_1_n_n.rhsIdx_val_of_single rfl j k) (fun _ _ => rfl) u0 w0 a b)
    (nn_apply (φ := .bf16) (ψ := .bf16) dot_S512x128_S128x1024_S512x1024_1_0_0_1_n_n rfl rfl (fun _ _ => rfl)
      (fun j k => dot_S512x128_S128x1024_S512x1024_1_0_0_1_n_n.lhsIdx_val_of_single rfl j k)
      (fun j k => dot_S512x128_S128x1024_S512x1024_1_0_0_1_n_n.rhsIdx_val_of_single rfl j k) (fun _ _ => rfl) u1 w1 a b))
    (nn_apply (φ := .bf16) (ψ := .bf16) dot_S512x128_S128x1024_S512x1024_1_0_0_1_n_n rfl rfl (fun _ _ => rfl)
      (fun j k => dot_S512x128_S128x1024_S512x1024_1_0_0_1_n_n.lhsIdx_val_of_single rfl j k)
      (fun j k => dot_S512x128_S128x1024_S512x1024_1_0_0_1_n_n.rhsIdx_val_of_single rfl j k) (fun _ _ => rfl) u2 w2 a b))
    (nn_apply (φ := .bf16) (ψ := .bf16) dot_S512x2176_S2176x1024_S512x1024_1_0_0_1_n_n rfl rfl (fun _ _ => rfl)
      (fun j k => dot_S512x2176_S2176x1024_S512x1024_1_0_0_1_n_n.lhsIdx_val_of_single rfl j k)
      (fun j k => dot_S512x2176_S2176x1024_S512x1024_1_0_0_1_n_n.rhsIdx_val_of_single rfl j k) (fun _ _ => rfl) u3 w3 a b)

/-- A sum over a block's columns. -/
theorem rowSum (u : FVec Ideal S512x1024 .f32) (a : Fin 512) :
    (multiReduction .add [1] S512 u 0x00000000#32 reduces_S512x1024_S512 (.inl rfl) rfl (ix1 a) : EReal)
      = ∑ k : Fin 1024, (u (ix2 a k) : EReal) := by
  refine (Ideal.multiReduction_add_single u 0x00000000#32 reduces_S512x1024_S512 (.inl rfl) rfl (ix1 a)).trans ?_
  exact Finset.sum_congr rfl fun k _ => congrArg u (funext fun e => Fin.ext (by match e with | ⟨0, _⟩ => rfl | ⟨1, _⟩ => rfl))

/-- A column of numbers seen as a column of a matrix. -/
theorem asCol (u : FVec Ideal S512 .f32) (a : Fin 512) : (shapeCast S512x1 u shapeCasts_S512_S512x1 (ix2 a 0) : EReal) = u (ix1 a) :=
  shapeCast_apply _ shapeCasts_S512_S512x1 (ix2 a 0) (ix1 a) (by
    rewrite [Shape.rowMajor_val_one, Shape.rowMajor_val_two]
    show a.val = a.val * 1 + 0
    omega)

/-- A column spread over a block's columns. -/
theorem spreadCol (u : FVec Ideal S512x1 .f32) (a : Fin 512) (b : Fin 1024) :
    broadcastTo S512x1024 u broadcasts_S512x1_S512x1024 (ix2 a b) = u (ix2 a 0) :=
  broadcastTo_apply u broadcasts_S512x1_S512x1024 (ix2 a b) (ix2 a 0) (fun d => match d with
    | ⟨0, _⟩ => by show a.val = if (512 : Nat) = 1 then 0 else a.val; rw [if_neg (by decide)]
    | ⟨1, _⟩ => by show 0 = if (1 : Nat) = 1 then 0 else b.val; rw [if_pos rfl])

/-- A row spread over a block's rows. -/
theorem spreadRow (u : FVec Ideal S1x1024 .f32) (a : Fin 512) (b : Fin 1024) :
    broadcastTo S512x1024 u broadcasts_S1x1024_S512x1024 (ix2 a b) = u (ix2 0 b) :=
  broadcastTo_apply u broadcasts_S1x1024_S512x1024 (ix2 a b) (ix2 0 b) (fun d => match d with
    | ⟨0, _⟩ => by show 0 = if (1 : Nat) = 1 then 0 else a.val; rw [if_pos rfl]
    | ⟨1, _⟩ => by show b.val = if (1024 : Nat) = 1 then 0 else b.val; rw [if_neg (by decide)])

/-- The reciprocal root of a row's mean square. -/
def root (u : S512x1024.Idx → EReal) (a : Fin 512) : EReal :=
  Ideal.rsqrt (msq (fun k : Fin 1024 => u (ix2 a k)) (Ideal.ofBits .f32 0x44800000#32) (Ideal.ofBits .f32 0x358637BD#32))

theorem pay1_apply (x : Vec Ideal S512x1024 .f32) (a : Fin 512) : (k0_pay1 (k0_pay8 x) (ix2 a 0) : EReal) = root x a := by
  unfold k0_pay1 k0_pay8
  exact congrArg (fun s => Ideal.rsqrt (Ideal.div s _ + _)) ((asCol _ a).trans (rowSum (mulf x x) a))

theorem pay2_apply (x : Vec Ideal S512x1024 .f32) (a : Fin 512) (b : Fin 1024) :
    (k0_pay2 x (k0_pay8 x) (ix2 a b) : EReal) = x (ix2 a b) * root x a := by
  unfold k0_pay2
  exact congrArg (_ * ·) ((spreadCol _ a b).trans (pay1_apply x a))

/-- The row block of the gradient at the layer's input. -/
theorem pay3_apply (d x : Vec Ideal S512x1024 .f32) (g : Vec Ideal S1x1024 .f32) (dh : Vec Ideal S512x1024 .f32) (a : Fin 512) (b : Fin 1024) :
    (k0_pay3 d x (k0_pay7 g) (k0_pay8 x) dh (ix2 a b) : EReal) = dh (ix2 a b) + root x a
      * (d (ix2 a b) * g (ix2 0 b) - x (ix2 a b) * root x a
          * Ideal.div (∑ k : Fin 1024, (d (ix2 a k) * g (ix2 0 k)) * (x (ix2 a k) * root x a)) (Ideal.ofBits .f32 0x44800000#32)) := by
  unfold k0_pay3 k0_pay7
  simp only [shapeCast_self]
  have hd : ∀ k : Fin 1024, (mulf (F := Ideal) (φ := .f32) d (broadcastTo S512x1024 g broadcasts_S1x1024_S512x1024) (ix2 a k) : EReal)
      = d (ix2 a k) * g (ix2 0 k) := fun k => congrArg (fun s : EReal => (d (ix2 a k) : EReal) * s) (spreadRow g a k)
  have hs := (spreadCol (divf (shapeCast S512x1 (multiReduction .add [1] S512
      (mulf (mulf d (broadcastTo S512x1024 g broadcasts_S1x1024_S512x1024)) (k0_pay2 x (k0_pay8 x))) 0x00000000#32 reduces_S512x1024_S512
      (.inl rfl) rfl) shapeCasts_S512_S512x1) (broadcast S512x1 (Scalar.ofBits .f32 0x44800000#32))) a b).trans
    (congrArg (fun s => Ideal.div s (Ideal.ofBits .f32 0x44800000#32)) (((asCol _ a).trans (rowSum _ a)).trans
      (Finset.sum_congr rfl fun k _ => congrArg₂ (fun p q : EReal => p * q) (hd k) (pay2_apply x a k))))
  refine congrArg (fun s : EReal => dh (ix2 a b) + s) ?_
  refine congrArg₂ (fun p q : EReal => p * q) ((spreadCol _ a b).trans (pay1_apply x a)) ?_
  exact congrArg₂ (fun p q : EReal => p - q) (hd b) (congrArg₂ (fun p q : EReal => p * q) (pay2_apply x a b) hs)

/-- The row that holds the norm weight's gradient, after the point's share. -/
theorem pay4_apply (d x : Vec Ideal S512x1024 .f32) (acc : Vec Ideal S1x1024 .f32) (b : Fin 1024) :
    (k0_pay4 d x (k0_pay8 x) acc (ix2 0 b) : EReal) = acc (ix2 0 b) + ∑ a : Fin 512, (d (ix2 a b) : EReal) * (x (ix2 a b) * root x a) := by
  unfold k0_pay4
  simp only [shapeCast_self]
  refine congrArg (fun s : EReal => acc (ix2 0 b) + s) ?_
  refine (shapeCast_apply _ shapeCasts_S1024_S1x1024 (ix2 0 b) (ix1 b) ?_).trans ?_
  · rewrite [Shape.rowMajor_val_one, Shape.rowMajor_val_two]
    show b.val = 0 * 1024 + b.val
    omega
  · refine (Ideal.multiReduction_add_single _ 0x00000000#32 reduces_S512x1024_S1024 (.inl rfl) rfl (ix1 b)).trans ?_
    refine Finset.sum_congr rfl fun a _ => ?_
    rw [show reduces_S512x1024_S1024.lift (ix1 b) a = ix2 (n0 := 512) (n1 := 1024) a b from
      funext fun e => Fin.ext (by match e with | ⟨0, _⟩ => rfl | ⟨1, _⟩ => rfl)]
    exact congrArg (_ * ·) (pay2_apply x a b)

end Cert.Kernel2Ideal.Point

end
-- ==== Proof.InprojBwd.lean ====
/-
  The input projection's backward call: the gradient at the layer's input and at the norm's weight, over the extended reals
  the derivative of the normed input times the projection.

    V_…, iblk_…    what the host code's padding, casts and cuts leave in the call's arguments, and in a point's blocks;
    sum_four       the four products of a point are one sum over the padded columns, whose last 120 terms are zero;
    g_at           the norm weight's gradient after each point, in row 0 of eight;
    dx_eq, g_eq    the two result arrays are the reference's;
    algebraic_in   the claim.
-/
module

public import proofs.«01_k».proof.Defs
public import proofs.«01_k».proof.Proof.InprojBwdPoint
public import proofs.«01_k».proof.Proof.Gen.Reference2Ideal.Read
public import Idealize.ShloMosaic.Lib.StableHlo.RunRead
public import Idealize.ShloMosaic.Lib.KernelVsHost

@[expose] public section

set_option maxRecDepth 16384

noncomputable section

open Idealize.ShloMosaic Idealize.ShloMosaic.TcCoe Idealize.ShloMosaic.ValueIdx Idealize.SL.Sem

namespace Cert.Kernel2Ideal.Result

open Cert.Kernel2Ideal Cert.Kernel2Ideal.Gen Cert.Kernel2Ideal.Value Cert.Kernel2Ideal.Point Cert.Shared Cert.KernelIdeal.Algebra

section Kernel

variable (m : (ℓ : Loc nD τ sig) → Buf (Elt Ideal) ℓ) (c : Dev nD)

/-- The arguments: the layer's input, the gradient past the block, the norm's weight, the gradient at the projections, and
    the projections' weight. -/
abbrev x : S4096x1024.Idx → EReal := m ((c : Thread nD τ).loc main_arg0)
abbrev dh1 : S4096x1024.Idx → EReal := m ((c : Thread nD τ).loc main_arg1)
abbrev g : S1024.Idx → EReal := m ((c : Thread nD τ).loc main_arg2)
abbrev dproj : S4096x2824.Idx → EReal := m ((c : Thread nD τ).loc main_arg3)
abbrev win : S1024x2824.Idx → EReal := m ((c : Thread nD τ).loc main_arg4)

/-- The value the host code pads with. -/
abbrev padv : (⟨S_, .f32⟩ : BufTy).Contents (Elt Ideal) := sitofp (F := Ideal) .f32 (constantI S_ 32 0#32)

theorem padv_eq (i : S_.Idx) : (padv i : EReal) = 0 := by
  show (((0#32 : BitVec 32).toInt : ℝ) : EReal) = 0
  simp

/-- The weight transposed and padded with rows of zeros; the gradient padded with columns of zeros. -/
abbrev wArr : (⟨S2944x1024, .f32⟩ : BufTy).Contents (Elt Ideal) :=
  pad S2944x1024 ![0, 0] ![120, 0] ![0, 0] (transpose S2824x1024 [1, 0] (win m c : (⟨S1024x2824, .f32⟩ : BufTy).Contents (Elt Ideal)) transposes_S1024x2824_S2824x1024_1_0)
    padv pads_S2824x1024_S2944x1024_01200_000 h_S_
abbrev dArr : (⟨S4096x2944, .f32⟩ : BufTy).Contents (Elt Ideal) :=
  pad S4096x2944 ![0, 0] ![0, 120] ![0, 0] (dproj m c : (⟨S4096x2824, .f32⟩ : BufTy).Contents (Elt Ideal)) padv pads_S4096x2824_S4096x2944_000_01200 h_S_

def wpad (k : Fin 2944) (b : Fin 1024) : EReal := if h : k.val < 2824 then win m c (ix2 b ⟨k.val, h⟩) else 0
def dpad (i : Fin 4096) (k : Fin 2944) : EReal := if h : k.val < 2824 then dproj m c (ix2 i ⟨k.val, h⟩) else 0

theorem wArr_apply (k : Fin 2944) (b : Fin 1024) : (wArr m c (ix2 k b) : EReal) = wpad m c k b := by
  unfold wpad
  split
  · next h =>
    refine (pad_apply_of_inside _ _ _ _ _ _ _ (ix2 k b) (ix2 ⟨k.val, h⟩ b) fun a => ?_).trans ?_
    · match a with
      | ⟨0, _⟩ => show k.val = 0 + k.val * (0 + 1); omega
      | ⟨1, _⟩ => show b.val = 0 + b.val * (0 + 1); omega
    · exact transpose_apply [1, 0] _ transposes_S1024x2824_S2824x1024_1_0 (ix2 ⟨k.val, h⟩ b) (ix2 b ⟨k.val, h⟩) (fun a => match a with
        | ⟨0, _⟩ => rfl | ⟨1, _⟩ => rfl)
  · next h =>
    refine (pad_apply_of_not_inside _ _ _ _ _ _ _ (ix2 k b) 0 fun hh => ?_).trans (padv_eq _)
    have h2 : (k.val - 0) / (0 + 1) < 2824 := hh.2.2
    omega

theorem dArr_apply (i : Fin 4096) (k : Fin 2944) : (dArr m c (ix2 i k) : EReal) = dpad m c i k := by
  unfold dpad
  split
  · next h =>
    refine pad_apply_of_inside _ _ _ _ _ _ _ (ix2 i k) (ix2 i ⟨k.val, h⟩) fun a => ?_
    match a with
    | ⟨0, _⟩ => show i.val = 0 + i.val * (0 + 1); omega
    | ⟨1, _⟩ => show k.val = 0 + k.val * (0 + 1); omega
  · next h =>
    refine (pad_apply_of_not_inside _ _ _ _ _ _ _ (ix2 i k) 1 fun hh => ?_).trans (padv_eq _)
    have h2 : (k.val - 0) / (0 + 1) < 2824 := hh.2.2
    omega

/-! ## The call's arguments -/

theorem V_v5 (k : Fin 512) (b : Fin 1024) : (V m c main_v5 : S512x1024.Idx → EReal) (ix2 k b) = wpad m c ⟨0 + k.val, by omega⟩ b := by
  have e : (V m c main_v5 : S512x1024.Idx → EReal) = extractStridedSlice S512x1024 ![0, 0] (wArr m c) slices_S2944x1024_S512x1024_0_0 := by
    unfold V hostOps0 hostOps0_1 hostOps0_2 hostOps0_3 hostOps0_4
    simp only [List.flatten_cons, List.flatten_nil, List.append_nil, List.cons_append, List.nil_append]
    after_reads_simp
    rfl
  rw [e]
  refine (extractStridedSlice_apply ![0, 0] _ slices_S2944x1024_S512x1024_0_0 (ix2 k b) (ix2 ⟨0 + k.val, by omega⟩ b) (fun d => match d with
    | ⟨0, _⟩ => rfl
    | ⟨1, _⟩ => (Nat.zero_add _).symm)).trans ?_
  exact wArr_apply m c _ b

theorem V_v6 (k : Fin 128) (b : Fin 1024) : (V m c main_v6 : S128x1024.Idx → EReal) (ix2 k b) = wpad m c ⟨512 + k.val, by omega⟩ b := by
  have e : (V m c main_v6 : S128x1024.Idx → EReal) = extractStridedSlice S128x1024 ![512, 0] (wArr m c) slices_S2944x1024_S128x1024_512_0 := by
    unfold V hostOps0 hostOps0_1 hostOps0_2 hostOps0_3 hostOps0_4
    simp only [List.flatten_cons, List.flatten_nil, List.append_nil, List.cons_append, List.nil_append]
    after_reads_simp
    rfl
  rw [e]
  refine (extractStridedSlice_apply ![512, 0] _ slices_S2944x1024_S128x1024_512_0 (ix2 k b) (ix2 ⟨512 + k.val, by omega⟩ b) (fun d => match d with
    | ⟨0, _⟩ => rfl
    | ⟨1, _⟩ => (Nat.zero_add _).symm)).trans ?_
  exact wArr_apply m c _ b

theorem V_v7 (k : Fin 128) (b : Fin 1024) : (V m c main_v7 : S128x1024.Idx → EReal) (ix2 k b) = wpad m c ⟨640 + k.val, by omega⟩ b := by
  have e : (V m c main_v7 : S128x1024.Idx → EReal) = extractStridedSlice S128x1024 ![640, 0] (wArr m c) slices_S2944x1024_S128x1024_640_0 := by
    unfold V hostOps0 hostOps0_1 hostOps0_2 hostOps0_3 hostOps0_4
    simp only [List.flatten_cons, List.flatten_nil, List.append_nil, List.cons_append, List.nil_append]
    after_reads_simp
    rfl
  rw [e]
  refine (extractStridedSlice_apply ![640, 0] _ slices_S2944x1024_S128x1024_640_0 (ix2 k b) (ix2 ⟨640 + k.val, by omega⟩ b) (fun d => match d with
    | ⟨0, _⟩ => rfl
    | ⟨1, _⟩ => (Nat.zero_add _).symm)).trans ?_
  exact wArr_apply m c _ b

theorem V_v8 (k : Fin 2176) (b : Fin 1024) : (V m c main_v8 : S2176x1024.Idx → EReal) (ix2 k b) = wpad m c ⟨768 + k.val, by omega⟩ b := by
  have e : (V m c main_v8 : S2176x1024.Idx → EReal) = extractStridedSlice S2176x1024 ![768, 0] (wArr m c) slices_S2944x1024_S2176x1024_768_0 := by
    unfold V hostOps0 hostOps0_1 hostOps0_2 hostOps0_3 hostOps0_4
    simp only [List.flatten_cons, List.flatten_nil, List.append_nil, List.cons_append, List.nil_append]
    after_reads_simp
    rfl
  rw [e]
  refine (extractStridedSlice_apply ![768, 0] _ slices_S2944x1024_S2176x1024_768_0 (ix2 k b) (ix2 ⟨768 + k.val, by omega⟩ b) (fun d => match d with
    | ⟨0, _⟩ => rfl
    | ⟨1, _⟩ => (Nat.zero_add _).symm)).trans ?_
  exact wArr_apply m c _ b

theorem V_v10 (i : Fin 4096) (k : Fin 512) : (V m c main_v10 : S4096x512.Idx → EReal) (ix2 i k) = dpad m c i ⟨0 + k.val, by omega⟩ := by
  have e : (V m c main_v10 : S4096x512.Idx → EReal) = extractStridedSlice S4096x512 ![0, 0] (dArr m c) slices_S4096x2944_S4096x512_0_0 := by
    unfold V hostOps0 hostOps0_1 hostOps0_2 hostOps0_3 hostOps0_4
    simp only [List.flatten_cons, List.flatten_nil, List.append_nil, List.cons_append, List.nil_append]
    after_reads_simp
    rfl
  rw [e]
  refine (extractStridedSlice_apply ![0, 0] _ slices_S4096x2944_S4096x512_0_0 (ix2 i k) (ix2 i ⟨0 + k.val, by omega⟩) (fun d => match d with
    | ⟨0, _⟩ => (Nat.zero_add _).symm
    | ⟨1, _⟩ => rfl)).trans ?_
  exact dArr_apply m c i _

theorem V_v11 (i : Fin 4096) (k : Fin 128) : (V m c main_v11 : S4096x128.Idx → EReal) (ix2 i k) = dpad m c i ⟨512 + k.val, by omega⟩ := by
  have e : (V m c main_v11 : S4096x128.Idx → EReal) = extractStridedSlice S4096x128 ![0, 512] (dArr m c) slices_S4096x2944_S4096x128_0_512 := by
    unfold V hostOps0 hostOps0_1 hostOps0_2 hostOps0_3 hostOps0_4
    simp only [List.flatten_cons, List.flatten_nil, List.append_nil, List.cons_append, List.nil_append]
    after_reads_simp
    rfl
  rw [e]
  refine (extractStridedSlice_apply ![0, 512] _ slices_S4096x2944_S4096x128_0_512 (ix2 i k) (ix2 i ⟨512 + k.val, by omega⟩) (fun d => match d with
    | ⟨0, _⟩ => (Nat.zero_add _).symm
    | ⟨1, _⟩ => rfl)).trans ?_
  exact dArr_apply m c i _

theorem V_v12 (i : Fin 4096) (k : Fin 128) : (V m c main_v12 : S4096x128.Idx → EReal) (ix2 i k) = dpad m c i ⟨640 + k.val, by omega⟩ := by
  have e : (V m c main_v12 : S4096x128.Idx → EReal) = extractStridedSlice S4096x128 ![0, 640] (dArr m c) slices_S4096x2944_S4096x128_0_640 := by
    unfold V hostOps0 hostOps0_1 hostOps0_2 hostOps0_3 hostOps0_4
    simp only [List.flatten_cons, List.flatten_nil, List.append_nil, List.cons_append, List.nil_append]
    after_reads_simp
    rfl
  rw [e]
  refine (extractStridedSlice_apply ![0, 640] _ slices_S4096x2944_S4096x128_0_640 (ix2 i k) (ix2 i ⟨640 + k.val, by omega⟩) (fun d => match d with
    | ⟨0, _⟩ => (Nat.zero_add _).symm
    | ⟨1, _⟩ => rfl)).trans ?_
  exact dArr_apply m c i _

theorem V_v13 (i : Fin 4096) (k : Fin 2176) : (V m c main_v13 : S4096x2176.Idx → EReal) (ix2 i k) = dpad m c i ⟨768 + k.val, by omega⟩ := by
  have e : (V m c main_v13 : S4096x2176.Idx → EReal) = extractStridedSlice S4096x2176 ![0, 768] (dArr m c) slices_S4096x2944_S4096x2176_0_768 := by
    unfold V hostOps0 hostOps0_1 hostOps0_2 hostOps0_3 hostOps0_4
    simp only [List.flatten_cons, List.flatten_nil, List.append_nil, List.cons_append, List.nil_append]
    after_reads_simp
    rfl
  rw [e]
  refine (extractStridedSlice_apply ![0, 768] _ slices_S4096x2944_S4096x2176_0_768 (ix2 i k) (ix2 i ⟨768 + k.val, by omega⟩) (fun d => match d with
    | ⟨0, _⟩ => (Nat.zero_add _).symm
    | ⟨1, _⟩ => rfl)).trans ?_
  exact dArr_apply m c i _

theorem V_g (k : Fin 1024) : (V m c main_v9 : S1x1024.Idx → EReal) (ix2 0 k) = g m c (ix1 k) := by
  unfold V hostOps0 hostOps0_1 hostOps0_2 hostOps0_3 hostOps0_4
  simp only [List.flatten_cons, List.flatten_nil, List.append_nil, List.cons_append, List.nil_append]
  after_reads_simp
  exact broadcastInDim_apply _ bcast_S1024_S1x1024_1 (g m c) (ix2 0 k) (ix1 k) (fun a => match a with
    | ⟨0, _⟩ => by show k.val = if (1024 : Nat) = 1 then 0 else k.val; rw [if_neg (by decide)])

/-! ## A point's blocks

Point `t` of the grid has the rows from `512 t` on. -/

theorem N_eq (t : Fin cfg0.N) : t.val < 8 := lt_of_lt_of_eq t.isLt N_0

/-- Row `a` of point `t`. -/
abbrev rw' (t : Fin cfg0.N) (a : Fin 512) : Fin 4096 := ⟨512 * t.val + a.val, by have := N_eq t; omega⟩

theorem idx_0 : ∀ t : Fin grid0.N, (win0_0.index t 0 = t.val) ∧ (win0_0.index t 1 = 0) := by decide +kernel
theorem idx_1 : ∀ t : Fin grid0.N, (win0_1.index t 0 = t.val) ∧ (win0_1.index t 1 = 0) := by decide +kernel
theorem idx_3 : ∀ t : Fin grid0.N, (win0_3.index t 0 = t.val) ∧ (win0_3.index t 1 = 0) := by decide +kernel
theorem idx_4 : ∀ t : Fin grid0.N, (win0_4.index t 0 = t.val) ∧ (win0_4.index t 1 = 0) := by decide +kernel
theorem idx_5 : ∀ t : Fin grid0.N, (win0_5.index t 0 = t.val) ∧ (win0_5.index t 1 = 0) := by decide +kernel
theorem idx_6 : ∀ t : Fin grid0.N, (win0_6.index t 0 = t.val) ∧ (win0_6.index t 1 = 0) := by decide +kernel
theorem idx_11 : ∀ t : Fin grid0.N, (win0_11.index t 0 = t.val) ∧ (win0_11.index t 1 = 0) := by decide +kernel
theorem idx_2 : ∀ t : Fin grid0.N, (win0_2.index t 0 = 0) ∧ (win0_2.index t 1 = 0) := by decide +kernel
theorem idx_7 : ∀ t : Fin grid0.N, (win0_7.index t 0 = 0) ∧ (win0_7.index t 1 = 0) := by decide +kernel
theorem idx_8 : ∀ t : Fin grid0.N, (win0_8.index t 0 = 0) ∧ (win0_8.index t 1 = 0) := by decide +kernel
theorem idx_9 : ∀ t : Fin grid0.N, (win0_9.index t 0 = 0) ∧ (win0_9.index t 1 = 0) := by decide +kernel
theorem idx_10 : ∀ t : Fin grid0.N, (win0_10.index t 0 = 0) ∧ (win0_10.index t 1 = 0) := by decide +kernel
theorem idx_12 : ∀ t : Fin grid0.N, (win0_12.index t 0 = 0) ∧ (win0_12.index t 1 = 0) := by decide +kernel

theorem iblk_x (t : Fin cfg0.N) (a : Fin 512) (b : Fin 1024) : (iblk m c 0 t : S512x1024.Idx → EReal) (ix2 a b) = x m c (ix2 (rw' t a) b) := by
  unfold iblk
  rw [View.read_apply]
  show V m c main_arg0 _ = _
  rw [V_main_arg0]
  refine congrArg (x m c) (funext fun d => Fin.ext ?_)
  match d with
  | ⟨0, _⟩ => show win0_0.index t 0 * 512 + 1 * a.val = 512 * t.val + a.val; rw [(idx_0 t).1]; omega
  | ⟨1, _⟩ => show win0_0.index t 1 * 1024 + 1 * b.val = b.val; rw [(idx_0 t).2]; omega

theorem iblk_dh1 (t : Fin cfg0.N) (a : Fin 512) (b : Fin 1024) : (iblk m c 1 t : S512x1024.Idx → EReal) (ix2 a b) = dh1 m c (ix2 (rw' t a) b) := by
  unfold iblk
  rw [View.read_apply]
  show V m c main_arg1 _ = _
  rw [V_main_arg1]
  refine congrArg (dh1 m c) (funext fun d => Fin.ext ?_)
  match d with
  | ⟨0, _⟩ => show win0_1.index t 0 * 512 + 1 * a.val = 512 * t.val + a.val; rw [(idx_1 t).1]; omega
  | ⟨1, _⟩ => show win0_1.index t 1 * 1024 + 1 * b.val = b.val; rw [(idx_1 t).2]; omega

theorem iblk_g (t : Fin cfg0.N) (b : Fin 1024) : (iblk m c 2 t : S1x1024.Idx → EReal) (ix2 0 b) = g m c (ix1 b) := by
  unfold iblk
  rw [View.read_apply]
  refine Eq.trans (congrArg (V m c main_v9 : S1x1024.Idx → EReal) (funext fun d => Fin.ext ?_)) (V_g m c b)
  match d with
  | ⟨0, _⟩ => show win0_2.index t 0 * 1 + 1 * 0 = 0; rw [(idx_2 t).1]
  | ⟨1, _⟩ => show win0_2.index t 1 * 1024 + 1 * b.val = b.val; rw [(idx_2 t).2]; omega

theorem iblk_3 (t : Fin cfg0.N) (a : Fin 512) (k : Fin 512) : (iblk m c 3 t : S512x512.Idx → EReal) (ix2 a k) = dpad m c (rw' t a) ⟨0 + k.val, by omega⟩ := by
  unfold iblk
  rw [View.read_apply]
  refine Eq.trans (congrArg (V m c main_v10 : S4096x512.Idx → EReal) (funext fun d => Fin.ext ?_)) (V_v10 m c (rw' t a) k)
  match d with
  | ⟨0, _⟩ => show win0_3.index t 0 * 512 + 1 * a.val = 512 * t.val + a.val; rw [(idx_3 t).1]; omega
  | ⟨1, _⟩ => show win0_3.index t 1 * 512 + 1 * k.val = k.val; rw [(idx_3 t).2]; omega

theorem iblk_4 (t : Fin cfg0.N) (a : Fin 512) (k : Fin 128) : (iblk m c 4 t : S512x128.Idx → EReal) (ix2 a k) = dpad m c (rw' t a) ⟨512 + k.val, by omega⟩ := by
  unfold iblk
  rw [View.read_apply]
  refine Eq.trans (congrArg (V m c main_v11 : S4096x128.Idx → EReal) (funext fun d => Fin.ext ?_)) (V_v11 m c (rw' t a) k)
  match d with
  | ⟨0, _⟩ => show win0_4.index t 0 * 512 + 1 * a.val = 512 * t.val + a.val; rw [(idx_4 t).1]; omega
  | ⟨1, _⟩ => show win0_4.index t 1 * 128 + 1 * k.val = k.val; rw [(idx_4 t).2]; omega

theorem iblk_5 (t : Fin cfg0.N) (a : Fin 512) (k : Fin 128) : (iblk m c 5 t : S512x128.Idx → EReal) (ix2 a k) = dpad m c (rw' t a) ⟨640 + k.val, by omega⟩ := by
  unfold iblk
  rw [View.read_apply]
  refine Eq.trans (congrArg (V m c main_v12 : S4096x128.Idx → EReal) (funext fun d => Fin.ext ?_)) (V_v12 m c (rw' t a) k)
  match d with
  | ⟨0, _⟩ => show win0_5.index t 0 * 512 + 1 * a.val = 512 * t.val + a.val; rw [(idx_5 t).1]; omega
  | ⟨1, _⟩ => show win0_5.index t 1 * 128 + 1 * k.val = k.val; rw [(idx_5 t).2]; omega

theorem iblk_6 (t : Fin cfg0.N) (a : Fin 512) (k : Fin 2176) : (iblk m c 6 t : S512x2176.Idx → EReal) (ix2 a k) = dpad m c (rw' t a) ⟨768 + k.val, by omega⟩ := by
  unfold iblk
  rw [View.read_apply]
  refine Eq.trans (congrArg (V m c main_v13 : S4096x2176.Idx → EReal) (funext fun d => Fin.ext ?_)) (V_v13 m c (rw' t a) k)
  match d with
  | ⟨0, _⟩ => show win0_6.index t 0 * 512 + 1 * a.val = 512 * t.val + a.val; rw [(idx_6 t).1]; omega
  | ⟨1, _⟩ => show win0_6.index t 1 * 2176 + 1 * k.val = k.val; rw [(idx_6 t).2]; omega

theorem iblk_7 (t : Fin cfg0.N) (k : Fin 512) (b : Fin 1024) : (iblk m c 7 t : S512x1024.Idx → EReal) (ix2 k b) = wpad m c ⟨0 + k.val, by omega⟩ b := by
  unfold iblk
  rw [View.read_apply]
  refine Eq.trans (congrArg (V m c main_v5 : S512x1024.Idx → EReal) (funext fun d => Fin.ext ?_)) (V_v5 m c k b)
  match d with
  | ⟨0, _⟩ => show win0_7.index t 0 * 512 + 1 * k.val = k.val; rw [(idx_7 t).1]; omega
  | ⟨1, _⟩ => show win0_7.index t 1 * 1024 + 1 * b.val = b.val; rw [(idx_7 t).2]; omega

theorem iblk_8 (t : Fin cfg0.N) (k : Fin 128) (b : Fin 1024) : (iblk m c 8 t : S128x1024.Idx → EReal) (ix2 k b) = wpad m c ⟨512 + k.val, by omega⟩ b := by
  unfold iblk
  rw [View.read_apply]
  refine Eq.trans (congrArg (V m c main_v6 : S128x1024.Idx → EReal) (funext fun d => Fin.ext ?_)) (V_v6 m c k b)
  match d with
  | ⟨0, _⟩ => show win0_8.index t 0 * 128 + 1 * k.val = k.val; rw [(idx_8 t).1]; omega
  | ⟨1, _⟩ => show win0_8.index t 1 * 1024 + 1 * b.val = b.val; rw [(idx_8 t).2]; omega

theorem iblk_9 (t : Fin cfg0.N) (k : Fin 128) (b : Fin 1024) : (iblk m c 9 t : S128x1024.Idx → EReal) (ix2 k b) = wpad m c ⟨640 + k.val, by omega⟩ b := by
  unfold iblk
  rw [View.read_apply]
  refine Eq.trans (congrArg (V m c main_v7 : S128x1024.Idx → EReal) (funext fun d => Fin.ext ?_)) (V_v7 m c k b)
  match d with
  | ⟨0, _⟩ => show win0_9.index t 0 * 128 + 1 * k.val = k.val; rw [(idx_9 t).1]; omega
  | ⟨1, _⟩ => show win0_9.index t 1 * 1024 + 1 * b.val = b.val; rw [(idx_9 t).2]; omega

theorem iblk_10 (t : Fin cfg0.N) (k : Fin 2176) (b : Fin 1024) : (iblk m c 10 t : S2176x1024.Idx → EReal) (ix2 k b) = wpad m c ⟨768 + k.val, by omega⟩ b := by
  unfold iblk
  rw [View.read_apply]
  refine Eq.trans (congrArg (V m c main_v8 : S2176x1024.Idx → EReal) (funext fun d => Fin.ext ?_)) (V_v8 m c k b)
  match d with
  | ⟨0, _⟩ => show win0_10.index t 0 * 2176 + 1 * k.val = k.val; rw [(idx_10 t).1]; omega
  | ⟨1, _⟩ => show win0_10.index t 1 * 1024 + 1 * b.val = b.val; rw [(idx_10 t).2]; omega

/-! ## The products -/

/-- A sum over the padded columns in the kernel's four parts. -/
theorem sum_four (f : Fin 2944 → EReal) : (∑ k : Fin 512, f ⟨0 + k.val, by omega⟩) + (∑ k : Fin 128, f ⟨512 + k.val, by omega⟩)
    + (∑ k : Fin 128, f ⟨640 + k.val, by omega⟩) + (∑ k : Fin 2176, f ⟨768 + k.val, by omega⟩) = ∑ k, f k := by
  rw [sum_cut (p := 768) (q := 2176) (by norm_num) f, sum_cut (p := 640) (q := 128) (by norm_num) (fun k : Fin 768 => f ⟨k.val, by omega⟩),
    sum_cut (p := 512) (q := 128) (by norm_num) (fun k : Fin 640 => f ⟨k.val, by omega⟩)]
  refine congrArg (fun s : EReal => s + _ + _ + _) (Finset.sum_congr rfl fun k _ => congrArg f (Fin.ext ?_))
  exact Nat.zero_add _

/-- The gradient after the norm. -/
def rdu (i : Fin 4096) (b : Fin 1024) : EReal := ∑ k : Fin 2824, dproj m c (ix2 i k) * win m c (ix2 b k)

theorem padded_sum (i : Fin 4096) (b : Fin 1024) : ∑ k : Fin 2944, dpad m c i k * wpad m c k b = rdu m c i b := by
  rw [sum_cut (p := 2824) (q := 120) (by norm_num)]
  have hz : ∑ j : Fin 120, dpad m c i ⟨2824 + j.val, by omega⟩ * wpad m c ⟨2824 + j.val, by omega⟩ b = 0 :=
    Finset.sum_eq_zero fun j _ => by
      unfold dpad
      rw [dif_neg (by simp), zero_mul]
  rw [hz, add_zero]
  refine Finset.sum_congr rfl fun k _ => ?_
  unfold dpad wpad
  rw [dif_pos k.isLt, dif_pos k.isLt]

theorem du_at (t : Fin cfg0.N) (a : Fin 512) (b : Fin 1024) : (du m c t (ix2 a b) : EReal) = rdu m c (rw' t a) b := by
  refine (pay6_apply _ _ _ _ _ _ _ _ a b).trans (Eq.trans ?_ ((sum_four (fun k => dpad m c (rw' t a) k * wpad m c k b)).trans (padded_sum m c _ b)))
  refine congrArg₂ (fun p q : EReal => p + q) (congrArg₂ (fun p q : EReal => p + q) (congrArg₂ (fun p q : EReal => p + q) ?_ ?_) ?_) ?_
  · exact Finset.sum_congr rfl fun k _ => congrArg₂ (fun p q : EReal => p * q) (iblk_3 m c t a k) (iblk_7 m c t k b)
  · exact Finset.sum_congr rfl fun k _ => congrArg₂ (fun p q : EReal => p * q) (iblk_4 m c t a k) (iblk_8 m c t k b)
  · exact Finset.sum_congr rfl fun k _ => congrArg₂ (fun p q : EReal => p * q) (iblk_5 m c t a k) (iblk_9 m c t k b)
  · exact Finset.sum_congr rfl fun k _ => congrArg₂ (fun p q : EReal => p * q) (iblk_6 m c t a k) (iblk_10 m c t k b)

/-- Row `i`'s reciprocal root. -/
def rroot (i : Fin 4096) : EReal :=
  Ideal.rsqrt (msq (fun k : Fin 1024 => x m c (ix2 i k)) (Ideal.ofBits .f32 0x44800000#32) (Ideal.ofBits .f32 0x358637BD#32))

theorem root_at (t : Fin cfg0.N) (a : Fin 512) : root (iblk m c 0 t) a = rroot m c (rw' t a) := by
  unfold root rroot
  simp only [iblk_x]

/-- The gradient at the layer's input. -/
def rdx (i : Fin 4096) (b : Fin 1024) : EReal :=
  dh1 m c (ix2 i b) + rroot m c i
      * (rdu m c i b * g m c (ix1 b) - x m c (ix2 i b) * rroot m c i
          * Ideal.div (∑ k : Fin 1024, (rdu m c i k * g m c (ix1 k)) * (x m c (ix2 i k) * rroot m c i)) (Ideal.ofBits .f32 0x44800000#32))

theorem dx_at (t : Fin cfg0.N) (a : Fin 512) (b : Fin 1024) : ((outsAt0 m c t.val t.isLt).1 (ix2 a b) : EReal) = rdx m c (rw' t a) b := by
  rw [point_dx]
  refine (pay3_apply _ _ _ _ a b).trans ?_
  simp only [iblk_x, iblk_dh1, iblk_g, root_at, du_at]
  rfl

/-- A point's share of the norm weight's gradient. -/
def gshare (b : Fin 1024) (n : ℕ) : EReal :=
  if h : n < 8 then ∑ a : Fin 512, rdu m c ⟨512 * n + a.val, by omega⟩ b * (x m c (ix2 ⟨512 * n + a.val, by omega⟩ b) * rroot m c ⟨512 * n + a.val, by omega⟩)
  else 0

theorem share_at (t : Fin cfg0.N) (b : Fin 1024) (acc : Vec Ideal S1x1024 .f32) :
    (k0_pay4 (du m c t) (iblk m c 0 t) (k0_pay8 (iblk m c 0 t)) acc (ix2 0 b) : EReal) = acc (ix2 0 b) + gshare m c b t.val := by
  refine (pay4_apply _ _ _ b).trans (congrArg (fun s : EReal => acc (ix2 0 b) + s) ?_)
  unfold gshare
  rw [dif_pos (N_eq t)]
  refine Finset.sum_congr rfl fun a _ => ?_
  rw [root_at, du_at]
  exact congrArg (fun s : EReal => _ * (s * _)) (iblk_x m c t a b)

theorem row0_at (v : Vec Ideal S8x1024 .f32) (b : Fin 1024) : (row0 v (ix2 0 b) : EReal) = v (ix2 0 b) :=
  congrArg v ((eq_ix2 _).trans (congrArg₂ ix2 (Fin.ext rfl) (Fin.ext (by show 0 + 1 * b.val = b.val; omega))))

/-- The norm weight's gradient after point `n`. -/
theorem g_at : ∀ (n : ℕ) (h : n < cfg0.N) (r : Fin 8) (b : Fin 1024),
    ((outsAt0 m c n h).2 (ix2 r b) : EReal) = if r = 0 then ∑ q ∈ Finset.range (n + 1), gshare m c b q else 0
  | 0, h, r, b => by
    by_cases hr : r = 0
    · subst hr
      rw [if_pos rfl]
      refine (point_g_first m c ⟨0, h⟩ rfl b).trans ((share_at m c ⟨0, h⟩ b _).trans ?_)
      rw [row0_at, pay5_apply, zero_add, Finset.sum_range_one]
    · rw [if_neg hr]
      exact (point_g_first_rest m c ⟨0, h⟩ rfl r hr b).trans (pay5_apply _)
  | n + 1, h, r, b => by
    have hN : n + 1 < 8 := lt_of_lt_of_eq h N_0
    have ih := g_at n (Nat.lt_of_succ_lt h) r b
    have h0 : ¬(n + 1) % 8 = 0 := by omega
    by_cases hr : r = 0
    · subst hr
      rw [if_pos rfl] at ih ⊢
      refine (point_g_next m c ⟨n + 1, h⟩ h0 b).trans ((share_at m c ⟨n + 1, h⟩ b _).trans ?_)
      rw [row0_at, Finset.sum_range_succ, ← ih]
      rfl
    · rw [if_neg hr] at ih ⊢
      exact (point_g_rest m c ⟨n + 1, h⟩ h0 r hr b).trans ih

/-! ## The result arrays -/

theorem arr_dx (i : Fin 4096) (b : Fin 1024) : ((dats m 0 c).arrAt 11 cfg0.N : S4096x1024.Idx → EReal) (ix2 i b) = rdx m c i b := by
  have hq : i.val / 512 < cfg0.N := by rw [show cfg0.N = 8 from N_0]; omega
  have hi : i = rw' ⟨i.val / 512, hq⟩ ⟨i.val % 512, Nat.mod_lt _ (by norm_num)⟩ := Fin.ext (by show i.val = 512 * (i.val / 512) + i.val % 512; omega)
  generalize (⟨i.val / 512, hq⟩ : Fin cfg0.N) = t at hi
  generalize (⟨i.val % 512, Nat.mod_lt _ (by norm_num)⟩ : Fin 512) = a at hi
  subst hi
  have hb := congrFun (blocks11 m c t (flush0_11 t)) (ix2 (n0 := 512) (n1 := 1024) a b)
  rw [View.read_apply, flushed11] at hb
  refine Eq.trans (congrArg ((dats m 0 c).arrAt 11 cfg0.N : S4096x1024.Idx → EReal) (funext fun d => Fin.ext ?_)) (hb.trans (Eq.trans ?_ (dx_at m c t a b)))
  · match d with
    | ⟨0, _⟩ => show 512 * t.val + a.val = win0_11.index t 0 * 512 + 1 * a.val; rw [(idx_11 t).1]; omega
    | ⟨1, _⟩ => show b.val = win0_11.index t 1 * 1024 + 1 * b.val; rw [(idx_11 t).2]; omega
  · refine congrArg ((outsAt0 m c t.val t.isLt).1 : S512x1024.Idx → EReal) (funext fun d => Fin.ext ?_)
    match d with
    | ⟨0, _⟩ => rfl
    | ⟨1, _⟩ => rfl

/-- The sum over all rows that the norm weight's gradient is. -/
def rdg (b : Fin 1024) : EReal := ∑ i : Fin 4096, rdu m c i b * (x m c (ix2 i b) * rroot m c i)

theorem arr_g (r : Fin 8) (b : Fin 1024) : ((dats m 0 c).arrAt 12 cfg0.N : S8x1024.Idx → EReal) (ix2 r b) = if r = 0 then rdg m c b else 0 := by
  have h7 : 7 < cfg0.N := by rw [show cfg0.N = 8 from N_0]; omega
  have hf : (cfg0.win 12).flush ⟨7, h7⟩ = true := (flush0_12 ⟨7, h7⟩).mpr rfl
  have hd : ∀ t t' : Fin cfg0.N, (cfg0.win 12).flush t = true → (cfg0.win 12).flush t' = true → t ≠ t' →
      Disjoint ((cfg0.win 12).blk t).view.set ((cfg0.win 12).blk t').view.set := fun t t' h h' hne => absurd (Fin.ext (by
    have e := (flush0_12 t).mp h
    have e' := (flush0_12 t').mp h'
    have := N_eq t
    have := N_eq t'
    omega)) hne
  have hb := congrFun ((dats m 0 c).read_blk_arrAt_eq_flushed 12 hd cfg0.N ⟨7, h7⟩ h7 hf) (ix2 (n0 := 8) (n1 := 1024) r b)
  rw [View.read_apply, flushed12] at hb
  refine Eq.trans (congrArg ((dats m 0 c).arrAt 12 cfg0.N : S8x1024.Idx → EReal) (funext fun d => Fin.ext ?_)) (hb.trans (Eq.trans ?_ ((g_at m c 7 h7 r b).trans ?_)))
  · match d with
    | ⟨0, _⟩ => show r.val = win0_12.index ⟨7, h7⟩ 0 * 8 + 1 * r.val; rw [(idx_12 ⟨7, h7⟩).1]; omega
    | ⟨1, _⟩ => show b.val = win0_12.index ⟨7, h7⟩ 1 * 1024 + 1 * b.val; rw [(idx_12 ⟨7, h7⟩).2]; omega
  · refine congrArg ((outsAt0 m c 7 h7).2 : S8x1024.Idx → EReal) (funext fun d => Fin.ext ?_)
    match d with
    | ⟨0, _⟩ => rfl
    | ⟨1, _⟩ => rfl
  · refine if_congr Iff.rfl ?_ rfl
    rw [Finset.sum_range]
    refine Eq.trans (Finset.sum_congr rfl fun q _ => ?_) (sum_blocks (p := 8) (q := 512) (by norm_num)
      (fun i => rdu m c i b * (x m c (ix2 i b) * rroot m c i)) (fun s j => by omega))
    unfold gshare
    rw [dif_pos q.isLt]

end Kernel

end Cert.Kernel2Ideal.Result

end
-- ==== Proof.InprojBwdRun.lean ====
/-
  The input projection's backward call, concluded: the reference read element by element in the form the kernel computes, and
  the claim.
-/
module

public import proofs.«01_k».proof.Proof.InprojBwd
public import proofs.«01_k».proof.Proof.MlpAlgebra

@[expose] public section

set_option maxRecDepth 16384

noncomputable section

open Idealize.ShloMosaic Idealize.ShloMosaic.TcCoe Idealize.ShloMosaic.ValueIdx Idealize.SL.Sem

namespace Cert.Kernel2Ideal.Ref

open Cert.Reference2Ideal Cert.Reference2Ideal.Read Cert.KernelIdeal.Algebra

variable (x dh1 : S4096x1024.Idx → EReal) (g : S1024.Idx → EReal) (dp : S4096x2824.Idx → EReal) (w : S1024x2824.Idx → EReal)

def root (i : Fin 4096) : EReal :=
  Ideal.rsqrt (msq (fun k : Fin 1024 => x (ix2 i k)) (Ideal.ofBits .f32 0x44800000#32) (Ideal.ofBits .f32 0x358637BD#32))

def du (i : Fin 4096) (b : Fin 1024) : EReal := ∑ k : Fin 2824, dp (ix2 i k) * w (ix2 b k)

def dx (i : Fin 4096) (b : Fin 1024) : EReal :=
  dh1 (ix2 i b) + root x i
      * (du dp w i b * g (ix1 b) - x (ix2 i b) * root x i
          * Ideal.div (∑ k : Fin 1024, (du dp w i k * g (ix1 k)) * (x (ix2 i k) * root x i)) (Ideal.ofBits .f32 0x44800000#32))

def dg (b : Fin 1024) : EReal := ∑ i : Fin 4096, du dp w i b * (x (ix2 i b) * root x i)

theorem ms_eq (i : Fin 4096) : (val_main_v6 (F := Ideal) x (ix2 i 0) : EReal)
    = msq (fun k : Fin 1024 => x (ix2 i k)) (Ideal.ofBits .f32 0x44800000#32) (Ideal.ofBits .f32 0x358637BD#32) := by
  rw [val_main_v6_apply, val_main_v4_apply, val_main_v2_apply, val_main_v1_apply]
  show Ideal.div (Ideal.ofBits .f32 0x00000000#32 + _) _ + _ = _
  rw [Ideal.ofBits_zero_f32, zero_add]
  refine congrArg (fun s : EReal => Ideal.div s _ + _) (Finset.sum_congr rfl fun k _ => ?_)
  rw [val_main_v0_apply, show idx_main_v1 (idx_main_v2 (ix2 i 0)) k = ix2 i k from eq_ix2 _]
  rfl

theorem root_eq (i : Fin 4096) : (val_main_v7 (F := Ideal) x (ix2 i 0) : EReal) = root x i := by
  rw [val_main_v7_apply]
  exact congrArg Ideal.rsqrt (ms_eq x i)

theorem du_eq (i : Fin 4096) (b : Fin 1024) : (val_main_v17 (F := Ideal) dp w (ix2 i b) : EReal) = du dp w i b := by
  rw [val_main_v17_apply]
  refine Finset.sum_congr rfl fun k _ => ?_
  rw [show lidx_main_v17 (ix2 i b) k = ix2 i k from eq_ix2 _, show ridx_main_v17 (ix2 i b) k = ix2 b k from eq_ix2 _]

theorem dn_eq (i : Fin 4096) (b : Fin 1024) : (val_main_v22 (F := Ideal) g dp w (ix2 i b) : EReal) = du dp w i b * g (ix1 b) := by
  rw [val_main_v22_apply, du_eq, val_main_v21_apply, val_main_v13_apply, show idx_main_v13 (idx_main_v21 (ix2 i b)) = ix1 b from eq_ix1 _]
  rfl

theorem coef_eq (i : Fin 4096) : (val_main_v32 (F := Ideal) x g dp w (ix1 i) : EReal)
    = Ideal.div ((∑ k : Fin 1024, x (ix2 i k) * (du dp w i k * g (ix1 k)))
        * (Ideal.ofBits .f32 0xBF000000#32
          * Ideal.div (root x i)
              (msq (fun k : Fin 1024 => x (ix2 i k)) (Ideal.ofBits .f32 0x44800000#32) (Ideal.ofBits .f32 0x358637BD#32))))
        (Ideal.ofBits .f32 0x44800000#32) := by
  rw [val_main_v32_apply, Fin.sum_univ_one, show idx_main_v32 (ix1 i) 0 = ix2 i 0 from eq_ix2 _, val_main_v31_apply,
    val_main_v29_apply, val_main_v26_apply, val_main_v25_apply, val_main_v10_apply, val_main_v8_apply, ms_eq, root_eq]
  have hk : ∀ k, (val_main_v24 (F := Ideal) x g dp w (idx_main_v25 (idx_main_v26 (ix2 i 0)) k) : EReal)
      = x (ix2 i k) * (du dp w i k * g (ix1 k)) := fun k => by
    rw [show idx_main_v25 (idx_main_v26 (ix2 i 0)) k = ix2 i k from (eq_ix2 _).trans (congrArg₂ ix2 (Fin.ext (by
      show i.val * 1 + 0 = i.val; omega)) rfl), val_main_v24_apply, dn_eq]
    rfl
  show Ideal.ofBits .f32 0x00000000#32 + Ideal.div ((Ideal.ofBits .f32 0x00000000#32 + ∑ k : Fin 1024, (_ : EReal)) * _) _ = _
  simp only [hk]
  rw [Ideal.ofBits_zero_f32, zero_add, zero_add]
  rfl

theorem dx_eq (i : Fin 4096) (b : Fin 1024) : (val_main_v38 (F := Ideal) x dh1 g dp w (ix2 i b) : EReal) = dx x dh1 g dp w i b := by
  obtain ⟨e, he, hew⟩ := word_eps
  rw [val_main_v38_apply, val_main_v37_apply, val_main_v35_apply, val_main_v28_apply, val_main_v34_apply,
    val_main_v36_apply, val_main_v33_apply, val_main_v27_apply, dn_eq,
    show idx_main_v33 (ix2 i b) = ix1 i from eq_ix1 _, show idx_main_v27 (ix2 i b) = ix2 i 0 from eq_ix2 _, coef_eq, root_eq]
  have h := row_eq (fun k : Fin 1024 => x (ix2 i k)) (fun k => du dp w i k * g (ix1 k)) (N := 1024) (by norm_num) he b
  unfold dx
  refine congrArg (fun s : EReal => dh1 (ix2 i b) + s) ?_
  unfold root
  rw [word_neg_half, word_1024, hew]
  exact h.symm

theorem dg_eq (b : Fin 1024) : (val_main_v39 (F := Ideal) x dp w (ix2 0 b) : EReal) = dg x dp w b := by
  rw [val_main_v39_apply, val_main_v23_apply, Fin.sum_univ_one, val_main_v20_apply, val_main_v19_apply]
  show Ideal.ofBits .f32 0x00000000#32 + (Ideal.ofBits .f32 0x00000000#32 + ∑ k : Fin 4096, (_ : EReal)) = _
  rw [Ideal.ofBits_zero_f32, zero_add, zero_add]
  refine Finset.sum_congr rfl fun k _ => ?_
  rw [show idx_main_v19 (idx_main_v20 (idx_main_v23 (idx_main_v39 (ix2 0 b)) 0)) k = ix2 k b from (eq_ix2 _).trans
    (congrArg₂ ix2 rfl (Fin.ext (by show 0 * 1024 + b.val = b.val; omega))),
    val_main_v18_apply, val_main_v12_apply, val_main_v11_apply, du_eq, show idx_main_v11 (ix2 k b) = ix2 k 0 from eq_ix2 _, root_eq]
  exact mul_comm _ _

theorem acc_eq (r : Fin 8) (b : Fin 1024) : (val_main_v40 (F := Ideal) x dp w (ix2 r b) : EReal)
    = if r = 0 then dg x dp w b else 0 := by
  unfold val_main_v40
  split
  · next h =>
    subst h
    rw [← dg_eq]
    refine pad_apply_of_inside _ _ _ _ _ _ _ (ix2 0 b) (ix2 0 b) fun a => ?_
    match a with
    | ⟨0, _⟩ => rfl
    | ⟨1, _⟩ => show b.val = 0 + b.val * (0 + 1); omega
  · next h =>
    refine (pad_apply_of_not_inside _ _ _ _ _ _ _ (ix2 r b) 0 fun hh => ?_).trans ?_
    · have h2 : (r.val - 0) / (0 + 1) < 1 := hh.2.2
      exact h (Fin.ext (by simpa using h2))
    · rw [val_main_call0_v0_apply, val_main_c_apply]
      show (((0#32 : BitVec 32).toInt : ℝ) : EReal) = 0
      simp

end Cert.Kernel2Ideal.Ref

namespace Cert.Proof

open Cert.Kernel2Ideal.Gen Cert.Kernel2Ideal.Result Cert.Reference2Ideal.Read Cert.Shared

/-- The reference's run leaves its arguments and closes every semaphore. -/
theorem frame_reference2 : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

/-- The two programs, run on memories that hold the same arguments, leave the same two results. -/
theorem algebraic_in : Cert.algebraic_Kernel2Ideal_Reference2Ideal := by
  intro m ρ m' ρ' _ hagree
  refine ⟨fun c => val_main_v38 (F := Ideal) (x m c) (dh1 m c) (g m c) (dproj m c) (win m c),
    fun c => val_main_v40 (F := Ideal) (x m c) (dproj m c) (win m c), ?_, ?_⟩
  · refine (θ_run Cert.Kernel2Ideal.defs _ _).mono (fun r h c => ?_) (Cert.Kernel2Ideal.Value.run_blocks (F := Ideal) m ρ)
    obtain ⟨h0, h1, ha⟩ := h c
    exact ⟨h0.trans (ext2 _ _ fun i b => (arr_dx m c i b).trans (Cert.Kernel2Ideal.Ref.dx_eq _ _ _ _ _ i b).symm),
      h1.trans (ext2 _ _ fun r b => (arr_g m c r b).trans (Cert.Kernel2Ideal.Ref.acc_eq _ _ _ r b).symm), ha⟩
  · refine (θ_run Cert.Reference2Ideal.defs _ _).mono (fun r h c => ?_) (Cert.Reference2Ideal.Value.run (F := Ideal) m' ρ')
    obtain ⟨h0, h1, ha⟩ := h c
    obtain ⟨a0, a1, a2, a3, a4⟩ := hagree c
    refine ⟨(h0.trans (val_main_v38_eq m' c)).trans ?_, (h1.trans (val_main_v40_eq ..)).trans ?_, ha⟩
    · rw [a0, a1, a2, a3, a4]
    · rw [a0, a3, a4]

end Cert.Proof

end
-- ==== Proof.WgradUp.lean ====
/-
  The call that computes the gradient at the up-projection's weight: for each of four column blocks, the product of the
  normed activations' transpose with the gradient at the pre-activation, accumulated over two blocks of 2048 rows. Over the
  extended reals its result is the derivative of the product, regrouped in column blocks.
-/
module

public import proofs.«01_k».proof.Defs
public import proofs.«01_k».proof.Proof.Shared
public import proofs.«01_k».proof.Proof.Gen.Kernel3Ideal.Value
public import proofs.«01_k».proof.Proof.Gen.Reference3Ideal.Read
public import Idealize.ShloMosaic.Lib.StableHlo.RunRead

@[expose] public section

set_option maxRecDepth 16384

noncomputable section

open Idealize.ShloMosaic Idealize.ShloMosaic.TcCoe Idealize.ShloMosaic.ValueIdx Idealize.SL.Sem

namespace Cert.Kernel3Ideal.Result

open Cert.Kernel3Ideal Cert.Kernel3Ideal.Gen Cert.Kernel3Ideal.Value Cert.Shared Cert.Reference3Ideal.Read

variable (m : (ℓ : Loc nD τ sig) → Buf (Elt Ideal) ℓ) (c : Dev nD)

/-- The arguments: the normed activations and the gradient at the pre-activation. -/
abbrev act : S4096x1024.Idx → EReal := m ((c : Thread nD τ).loc main_arg0)
abbrev grd : S4096x4096.Idx → EReal := m ((c : Thread nD τ).loc main_arg1)

theorem V_act (i : S4096x1024.Idx) : (V m c main_v0 : S4096x1024.Idx → EReal) i = act m c i := by
  unfold V hostOps0
  after_reads_simp
  rfl

theorem V_grd (i : S4096x4096.Idx) : (V m c main_v1 : S4096x4096.Idx → EReal) i = grd m c i := by
  unfold V hostOps0
  after_reads_simp
  rfl

/-- The point of column block `q` and row block `s`. -/
abbrev pt (q : Fin 4) (s : Fin 2) : Fin cfg0.N := ⟨2 * q.val + s.val, by rw [show cfg0.N = 8 from N_0]; omega⟩

theorem idx_0 : ∀ t : Fin grid0.N, (win0_0.index t 0 = t.val % 2) ∧ (win0_0.index t 1 = 0) := by decide +kernel
theorem idx_1 : ∀ t : Fin grid0.N, (win0_1.index t 0 = t.val % 2) ∧ (win0_1.index t 1 = t.val / 2) := by decide +kernel

theorem iblk_act (q : Fin 4) (s : Fin 2) (k : Fin 2048) (a : Fin 1024) :
    (iblk m c 0 (pt q s) : S2048x1024.Idx → EReal) (ix2 k a) = act m c (ix2 ⟨2048 * s.val + k.val, by omega⟩ a) := by
  unfold iblk
  rw [View.read_apply]
  show (V m c main_v0 : S4096x1024.Idx → EReal) _ = _
  rw [V_act]
  refine congrArg (act m c) (funext fun d => Fin.ext ?_)
  match d with
  | ⟨0, _⟩ => show win0_0.index (pt q s) 0 * 2048 + 1 * k.val = 2048 * s.val + k.val; rw [(idx_0 _).1]; show (2 * q.val + s.val) % 2 * 2048 + 1 * k.val = _; omega
  | ⟨1, _⟩ => show win0_0.index (pt q s) 1 * 1024 + 1 * a.val = a.val; rw [(idx_0 _).2]; omega

theorem iblk_grd (q : Fin 4) (s : Fin 2) (k : Fin 2048) (b : Fin 1024) :
    (iblk m c 1 (pt q s) : S2048x1024.Idx → EReal) (ix2 k b)
      = grd m c (ix2 ⟨2048 * s.val + k.val, by omega⟩ ⟨1024 * q.val + b.val, by omega⟩) := by
  unfold iblk
  rw [View.read_apply]
  show (V m c main_v1 : S4096x4096.Idx → EReal) _ = _
  rw [V_grd]
  refine congrArg (grd m c) (funext fun d => Fin.ext ?_)
  match d with
  | ⟨0, _⟩ => show win0_1.index (pt q s) 0 * 2048 + 1 * k.val = 2048 * s.val + k.val; rw [(idx_1 _).1]; show (2 * q.val + s.val) % 2 * 2048 + 1 * k.val = _; omega
  | ⟨1, _⟩ => show win0_1.index (pt q s) 1 * 1024 + 1 * b.val = 1024 * q.val + b.val; rw [(idx_1 _).2]; show (2 * q.val + s.val) / 2 * 1024 + 1 * b.val = _; omega

/-- The accumulator starts at zero. -/
theorem pay1_apply (i : S1x1024x1024.Idx) : (k0_pay1 (F := Ideal) i : EReal) = 0 := Ideal.ofBits_zero_f32

/-- A point adds its rows' share of the product. -/
theorem pay2_apply (u v : Vec Ideal S2048x1024 .bf16) (acc : Vec Ideal S1x1024x1024 .f32) (a b : Fin 1024) :
    (k0_pay2 u acc v (ix3 0 a b) : EReal) = acc (ix3 0 a b) + ∑ k : Fin 2048, (u (ix2 k a) : EReal) * v (ix2 k b) := by
  unfold k0_pay2
  simp only [shapeCast_self]
  refine (shapeCast_apply _ shapeCasts_S1024x1024_S1x1024x1024 (ix3 0 a b) (ix2 a b) ?_).trans ?_
  · rewrite [Shape.rowMajor_val_two, Shape.rowMajor_val_three]
    show a.val * 1024 + b.val = (0 * 1024 + a.val) * 1024 + b.val
    omega
  · refine congrArg₂ (fun p q : EReal => p + q) (shapeCast_apply acc shapeCasts_S1x1024x1024_S1024x1024 (ix2 a b) (ix3 0 a b) ?_) ?_
    · rewrite [Shape.rowMajor_val_two, Shape.rowMajor_val_three]
      show (0 * 1024 + a.val) * 1024 + b.val = a.val * 1024 + b.val
      omega
    · exact tn_apply dot_S2048x1024_S2048x1024_S1024x1024_0_0_1_1_n_n rfl rfl
        (fun j k => dot_S2048x1024_S2048x1024_S1024x1024_0_0_1_1_n_n.lhsIdx_val_of_single rfl j k) (fun _ _ => rfl)
        (fun j k => dot_S2048x1024_S2048x1024_S1024x1024_0_0_1_1_n_n.rhsIdx_val_of_single rfl j k) (fun _ _ => rfl) u v a b

/-- The result at a column block, a row and a column of the block. -/
theorem res (q : Fin 4) (a b : Fin 1024) : (G2 m c (ix3 q a b) : EReal)
    = ∑ k : Fin 4096, act m c (ix2 k a) * grd m c (ix2 k ⟨1024 * q.val + b.val, by omega⟩) := by
  have hp : run2Of (ix3 q a b) = q.val := by
    show 1 * (q.val / 1 - 0) + 1 * (a.val / 1024 - 0) + 1 * (b.val / 1024 - 0) = q.val
    omega
  have hl : loc2Of (ix3 q a b) = ix3 0 a b := funext fun d => Fin.ext (by
    match d with
    | ⟨0, _⟩ => show q.val % 1 = 0; omega
    | ⟨1, _⟩ => show a.val % 1024 = a.val; omega
    | ⟨2, _⟩ => show b.val % 1024 = b.val; omega)
  have hN : 2 * run2Of (ix3 q a b) + 1 < cfg0.N := by rw [hp, show cfg0.N = 8 from N_0]; omega
  unfold G2
  rw [dif_pos hN, hl]
  have e : ∀ (n : ℕ) (h : 2 * n + 1 < cfg0.N), n = q.val → Pipeline.accAt (reset2 m c) (step2 m c) (2 * n) 1 h
      = step2 m c (pt q 1).val (pt q 1).isLt (reset2 m c (pt q 0).val (pt q 0).isLt) := fun n h hn => by subst hn; rfl
  rw [e _ hN hp]
  unfold step2 reset2
  refine (pay2_apply _ _ _ a b).trans ?_
  refine (congrArg₂ (fun p q : EReal => p + q) (pay2_apply _ _ _ a b) rfl).trans ?_
  rw [pay1_apply, zero_add]
  refine Eq.trans ?_ (sum_blocks (p := 2) (q := 2048) (by norm_num)
    (fun k => act m c (ix2 k a) * grd m c (ix2 k ⟨1024 * q.val + b.val, by omega⟩)) (fun s j => by omega))
  rw [Fin.sum_univ_two]
  refine congrArg₂ (fun p q : EReal => p + q) (Finset.sum_congr rfl fun k _ => ?_) (Finset.sum_congr rfl fun k _ => ?_)
  · exact congrArg₂ (fun p q : EReal => p * q) (iblk_act m c q 0 k a) (iblk_grd m c q 0 k b)
  · exact congrArg₂ (fun p q : EReal => p * q) (iblk_act m c q 1 k a) (iblk_grd m c q 1 k b)

theorem ref_eq (u : S4096x1024.Idx → EReal) (v : S4096x4096.Idx → EReal) (q : Fin 4) (a b : Fin 1024) :
    (val_main_v5 (F := Ideal) u v (ix3 q a b) : EReal) = ∑ k : Fin 4096, u (ix2 k a) * v (ix2 k ⟨1024 * q.val + b.val, by omega⟩) := by
  rw [val_main_v5_apply, val_main_v4_apply, val_main_v3_apply, val_main_v2_apply]
  refine Finset.sum_congr rfl fun k _ => ?_
  rw [mul_comm]
  refine congrArg₂ (fun p q : EReal => p * q) (congrArg u ((eq_ix2 _).trans (congrArg₂ ix2 rfl (Fin.ext ?_))))
    (congrArg v ((eq_ix2 _).trans (congrArg₂ ix2 rfl (Fin.ext ?_))))
  · show ((a.val * 4 + q.val) * 1024 + b.val) / 4096 = a.val
    omega
  · show ((a.val * 4 + q.val) * 1024 + b.val) % 4096 = 1024 * q.val + b.val
    omega

theorem G2_eq : (G2 m c : S4x1024x1024.Idx → EReal) = val_main_v5 (F := Ideal) (act m c) (grd m c) :=
  ext3 _ _ fun q a b => (res m c q a b).trans (ref_eq _ _ q a b).symm

end Cert.Kernel3Ideal.Result

namespace Cert.Proof

open Cert.Kernel3Ideal.Result Cert.Reference3Ideal.Read

theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The two programs, run on memories that hold the same arguments, leave the same result. -/
theorem algebraic_up : Cert.algebraic_Kernel3Ideal_Reference3Ideal := by
  intro m ρ m' ρ' _ hagree
  refine ⟨fun c => val_main_v5 (F := Ideal) (act m c) (grd m c), ?_, ?_⟩
  · refine (θ_run Cert.Kernel3Ideal.defs _ _).mono (fun r h c => ?_) (Cert.Kernel3Ideal.Value.run (F := Ideal) m ρ)
    obtain ⟨h0, ha⟩ := h c
    exact ⟨h0.trans (G2_eq m c), ha⟩
  · refine (θ_run Cert.Reference3Ideal.defs _ _).mono (fun r h c => ?_) (Cert.Reference3Ideal.Value.run (F := Ideal) m' ρ')
    obtain ⟨h0, ha⟩ := h c
    obtain ⟨a0, a1⟩ := hagree c
    refine ⟨(h0.trans (val_main_v5_eq ..)).trans ?_, ha⟩
    rw [a0, a1]

end Cert.Proof

end
-- ==== Proof.WgradDown.lean ====
/-
  The call that computes the gradient at the down-projection's weight: for each of four row blocks, the product of the
  squared activations' transpose with the gradient at the block's output, accumulated over two blocks of 2048 rows. Over the
  extended reals its result is the derivative of the product.
-/
module

public import proofs.«01_k».proof.Defs
public import proofs.«01_k».proof.Proof.Shared
public import proofs.«01_k».proof.Proof.Gen.Kernel4Ideal.Value
public import proofs.«01_k».proof.Proof.Gen.Reference4Ideal.Read
public import Idealize.ShloMosaic.Lib.StableHlo.RunRead

@[expose] public section

set_option maxRecDepth 16384

noncomputable section

open Idealize.ShloMosaic Idealize.ShloMosaic.TcCoe Idealize.ShloMosaic.ValueIdx Idealize.SL.Sem

namespace Cert.Kernel4Ideal.Result

open Cert.Kernel4Ideal Cert.Kernel4Ideal.Gen Cert.Kernel4Ideal.Value Cert.Shared Cert.Reference4Ideal.Read

variable (m : (ℓ : Loc nD τ sig) → Buf (Elt Ideal) ℓ) (c : Dev nD)

/-- The two arguments. -/
abbrev act : S4096x4096.Idx → EReal := m ((c : Thread nD τ).loc main_arg0)
abbrev grd : S4096x1024.Idx → EReal := m ((c : Thread nD τ).loc main_arg1)

/-- The left factor as the call receives it. -/
abbrev lft : S4096x4096.Idx → EReal := val_main_v1 (F := Ideal) (act m c)

theorem V_lft (i : S4096x4096.Idx) : (V m c main_v1 : S4096x4096.Idx → EReal) i = lft m c i := by
  unfold V hostOps0 hostOps0_1
  simp only [List.flatten_cons, List.flatten_nil, List.append_nil, List.cons_append, List.nil_append]
  after_reads_simp
  rfl

theorem V_grd (i : S4096x1024.Idx) : (V m c main_v2 : S4096x1024.Idx → EReal) i = grd m c i := by
  unfold V hostOps0 hostOps0_1
  simp only [List.flatten_cons, List.flatten_nil, List.append_nil, List.cons_append, List.nil_append]
  after_reads_simp
  rfl

/-- The point of row block `q` of the result and row block `s` of the arguments. -/
abbrev pt (q : Fin 4) (s : Fin 2) : Fin cfg0.N := ⟨2 * q.val + s.val, by rw [show cfg0.N = 8 from N_0]; omega⟩

theorem idx_0 : ∀ t : Fin grid0.N, (win0_0.index t 0 = t.val % 2) ∧ (win0_0.index t 1 = t.val / 2) := by decide +kernel
theorem idx_1 : ∀ t : Fin grid0.N, (win0_1.index t 0 = t.val % 2) ∧ (win0_1.index t 1 = 0) := by decide +kernel

theorem iblk_lft (q : Fin 4) (s : Fin 2) (k : Fin 2048) (a : Fin 1024) :
    (iblk m c 0 (pt q s) : S2048x1024.Idx → EReal) (ix2 k a)
      = lft m c (ix2 ⟨2048 * s.val + k.val, by omega⟩ ⟨1024 * q.val + a.val, by omega⟩) := by
  unfold iblk
  rw [View.read_apply]
  show (V m c main_v1 : S4096x4096.Idx → EReal) _ = _
  rw [V_lft]
  refine congrArg (lft m c) (funext fun d => Fin.ext ?_)
  match d with
  | ⟨0, _⟩ => show win0_0.index (pt q s) 0 * 2048 + 1 * k.val = 2048 * s.val + k.val; rw [(idx_0 _).1]; show (2 * q.val + s.val) % 2 * 2048 + 1 * k.val = _; omega
  | ⟨1, _⟩ => show win0_0.index (pt q s) 1 * 1024 + 1 * a.val = 1024 * q.val + a.val; rw [(idx_0 _).2]; show (2 * q.val + s.val) / 2 * 1024 + 1 * a.val = _; omega

theorem iblk_grd (q : Fin 4) (s : Fin 2) (k : Fin 2048) (b : Fin 1024) :
    (iblk m c 1 (pt q s) : S2048x1024.Idx → EReal) (ix2 k b) = grd m c (ix2 ⟨2048 * s.val + k.val, by omega⟩ b) := by
  unfold iblk
  rw [View.read_apply]
  show (V m c main_v2 : S4096x1024.Idx → EReal) _ = _
  rw [V_grd]
  refine congrArg (grd m c) (funext fun d => Fin.ext ?_)
  match d with
  | ⟨0, _⟩ => show win0_1.index (pt q s) 0 * 2048 + 1 * k.val = 2048 * s.val + k.val; rw [(idx_1 _).1]; show (2 * q.val + s.val) % 2 * 2048 + 1 * k.val = _; omega
  | ⟨1, _⟩ => show win0_1.index (pt q s) 1 * 1024 + 1 * b.val = b.val; rw [(idx_1 _).2]; omega

/-- The accumulator starts at zero. -/
theorem pay1_apply (i : S1024x1024.Idx) : (k0_pay1 (F := Ideal) i : EReal) = 0 := Ideal.ofBits_zero_f32

/-- A point adds its rows' share of the product. -/
theorem pay2_apply (u : Vec Ideal S2048x1024 .bf16) (v : Vec Ideal S2048x1024 .bf16) (acc : Vec Ideal S1024x1024 .f32) (a : Fin 1024) (b : Fin 1024) :
    (k0_pay2 u acc v (ix2 a b) : EReal) = acc (ix2 a b) + ∑ k : Fin 2048, ((u (ix2 k a) : EReal) * (u (ix2 k a) : EReal)) * v (ix2 k b) := by
  unfold k0_pay2
  simp only [shapeCast_self]
  exact congrArg (fun p : EReal => acc (ix2 a b) + p) (tn_apply (φ := .bf16) (ψ := .bf16) dot_S2048x1024_S2048x1024_S1024x1024_0_0_1_1_n_n rfl rfl
    (fun j k => dot_S2048x1024_S2048x1024_S1024x1024_0_0_1_1_n_n.lhsIdx_val_of_single rfl j k) (fun _ _ => rfl)
    (fun j k => dot_S2048x1024_S2048x1024_S1024x1024_0_0_1_1_n_n.rhsIdx_val_of_single rfl j k) (fun _ _ => rfl) (truncf .bf16 (mulf (extf .f32 u bitsLt_bf16_f32) (extf .f32 u bitsLt_bf16_f32)) bitsLt_bf16_f32) v a b)

/-- The result at a row block, a row of the block and a column. -/
theorem res (q : Fin 4) (a : Fin 1024) (b : Fin 1024) : (G2 m c (ix2 ⟨1024 * q.val + a.val, by omega⟩ b) : EReal)
    = ∑ k : Fin 4096, (lft m c (ix2 k ⟨1024 * q.val + a.val, by omega⟩) * lft m c (ix2 k ⟨1024 * q.val + a.val, by omega⟩)) * grd m c (ix2 k b) := by
  have hp : run2Of (ix2 (⟨1024 * q.val + a.val, by omega⟩ : Fin 4096) b) = q.val := by
    show 1 * ((1024 * q.val + a.val) / 1024 - 0) + 1 * (b.val / 1024 - 0) = q.val
    omega
  have hl : loc2Of (ix2 (⟨1024 * q.val + a.val, by omega⟩ : Fin 4096) b) = ix2 a b := funext fun d => Fin.ext (by
    match d with
    | ⟨0, _⟩ => show (1024 * q.val + a.val) % 1024 = a.val; omega
    | ⟨1, _⟩ => show b.val % 1024 = b.val; omega)
  have hN : 2 * run2Of (ix2 (⟨1024 * q.val + a.val, by omega⟩ : Fin 4096) b) + 1 < cfg0.N := by rw [hp, show cfg0.N = 8 from N_0]; omega
  unfold G2
  rw [dif_pos hN, hl]
  have e : ∀ (n : ℕ) (h : 2 * n + 1 < cfg0.N), n = q.val → Pipeline.accAt (reset2 m c) (step2 m c) (2 * n) 1 h
      = step2 m c (pt q 1).val (pt q 1).isLt (reset2 m c (pt q 0).val (pt q 0).isLt) := fun n h hn => by subst hn; rfl
  rw [e _ hN hp]
  unfold step2 reset2
  refine (pay2_apply _ _ _ a b).trans ?_
  refine (congrArg₂ (fun p q : EReal => p + q) (pay2_apply _ _ _ a b) rfl).trans ?_
  rw [pay1_apply, zero_add]
  refine Eq.trans ?_ (sum_blocks (p := 2) (q := 2048) (by norm_num)
    (fun k => (lft m c (ix2 k ⟨1024 * q.val + a.val, by omega⟩) * lft m c (ix2 k ⟨1024 * q.val + a.val, by omega⟩)) * grd m c (ix2 k b)) (fun s j => by omega))
  rw [Fin.sum_univ_two]
  have term : ∀ s : Fin 2, (∑ k : Fin 2048, (fun p q : EReal => p * p * q) ((iblk m c 0 (pt q s) : S2048x1024.Idx → EReal) (ix2 k a)) ((iblk m c 1 (pt q s) : S2048x1024.Idx → EReal) (ix2 k b)))
      = ∑ k : Fin 2048, (lft m c (ix2 ⟨2048 * s.val + k.val, by omega⟩ ⟨1024 * q.val + a.val, by omega⟩) * lft m c (ix2 ⟨2048 * s.val + k.val, by omega⟩ ⟨1024 * q.val + a.val, by omega⟩)) * grd m c (ix2 ⟨2048 * s.val + k.val, by omega⟩ b) :=
    fun s => Finset.sum_congr rfl fun k _ => congrArg₂ (fun p q : EReal => p * p * q) (iblk_lft m c q s k a) (iblk_grd m c q s k b)
  exact congrArg₂ (fun p q : EReal => p + q) ((term 0)) (term 1)

theorem ref_eq (u : S4096x4096.Idx → EReal) (v : S4096x1024.Idx → EReal) (a : Fin 4096) (b : Fin 1024) :
    (val_main_v5 (F := Ideal) u v (ix2 a b) : EReal) = ∑ k : Fin 4096, (val_main_v1 (F := Ideal) u (ix2 k a) * val_main_v1 (F := Ideal) u (ix2 k a) : EReal) * v (ix2 k b) := by
  rw [val_main_v5_apply, val_main_v4_apply]
  refine Finset.sum_congr rfl fun k _ => ?_
  rw [mul_comm]
  refine congrArg₂ (fun p q : EReal => p * q) ?_ (congrArg v (eq_ix2 _))
  exact congrArg (fun i => (val_main_v1 (F := Ideal) u i * val_main_v1 (F := Ideal) u i : EReal)) (eq_ix2 _)

theorem G2_eq : (G2 m c : S4096x1024.Idx → EReal) = val_main_v5 (F := Ideal) (act m c) (grd m c) :=
  ext2 _ _ fun i j => by
    have hq : i.val / 1024 < 4 := by omega
    have hi : i = (⟨1024 * (⟨i.val / 1024, hq⟩ : Fin 4).val + (⟨i.val % 1024, Nat.mod_lt _ (by norm_num)⟩ : Fin 1024).val, by simp only []; omega⟩ : Fin 4096) :=
      Fin.ext (by simp only []; omega)
    rw [hi]
    exact (res m c ⟨i.val / 1024, hq⟩ ⟨i.val % 1024, Nat.mod_lt _ (by norm_num)⟩ j).trans (ref_eq _ _ _ j).symm

end Cert.Kernel4Ideal.Result

namespace Cert.Proof

open Cert.Kernel4Ideal.Result Cert.Reference4Ideal.Read

theorem frame_reference4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The two programs, run on memories that hold the same arguments, leave the same result. -/
theorem algebraic_down : Cert.algebraic_Kernel4Ideal_Reference4Ideal := by
  intro m ρ m' ρ' _ hagree
  refine ⟨fun c => val_main_v5 (F := Ideal) (act m c) (grd m c), ?_, ?_⟩
  · refine (θ_run Cert.Kernel4Ideal.defs _ _).mono (fun r h c => ?_) (Cert.Kernel4Ideal.Value.run (F := Ideal) m ρ)
    obtain ⟨h0, ha⟩ := h c
    exact ⟨h0.trans (G2_eq m c), ha⟩
  · refine (θ_run Cert.Reference4Ideal.defs _ _).mono (fun r h c => ?_) (Cert.Reference4Ideal.Value.run (F := Ideal) m' ρ')
    obtain ⟨h0, ha⟩ := h c
    obtain ⟨a0, a1⟩ := hagree c
    refine ⟨(h0.trans (val_main_v5_eq ..)).trans ?_, ha⟩
    rw [a0, a1]

end Cert.Proof

end
-- ==== Proof.PlePoint.lean ====
/-
  The embedding and loss call: what one grid point leaves behind, as the body's payloads of the point's seven blocks.

    point_dh, point_dhb, point_dgp, point_dpp, point_n3, point_pb   the row blocks of the first six results;
    point_acc_first, point_acc_next   the sums' rows: point 0 zeroes them, and every point adds its share to the rows 0 to 2.
-/
module

public import proofs.«01_k».proof.Proof.Gen.Kernel5Ideal.Value
public import Idealize.ShloMosaic.Lib.ValueIdx
public import Idealize.ShloMosaic.Lib.WritesUnit
public import Idealize.ShloMosaic.Lib.Pipeline.ReadBack

@[expose] public section

set_option maxRecDepth 16384

noncomputable section

open Idealize.ShloMosaic Idealize.ShloMosaic.TcCoe Idealize.ShloMosaic.ValueIdx Idealize.SL.Sem

namespace Cert.Kernel5Ideal.Point

open Cert.Kernel5Ideal Cert.Kernel5Ideal.Gen Cert.Kernel5Ideal.Value

theorem hz : (![0, 0] : Fin 2 → Nat) = fun _ => 0 := funext fun a => by fin_cases a <;> rfl

section Rows

variable {F : FTy → Type} [FloatOps F]

/-- A row of the sums. -/
abbrev row0 (v : Vec F S8x1024 .f32) : Vec F S1x1024 .f32 := View.ld v (Rect.unit ![0, 0] ![1, 1024] inb_S8x1024_S1x1024_0_0)
abbrev row1 (v : Vec F S8x1024 .f32) : Vec F S1x1024 .f32 := View.ld v (Rect.unit ![1, 0] ![1, 1024] inb_S8x1024_S1x1024_1_0)
abbrev row2 (v : Vec F S8x1024 .f32) : Vec F S1x1024 .f32 := View.ld v (Rect.unit ![2, 0] ![1, 1024] inb_S8x1024_S1x1024_2_0)

/-- Three rows set over an array. -/
def rows (p0 p1 p2 : Vec F S1x1024 .f32) (v : Vec F S8x1024 .f32) (r : Fin 8) (b : Fin 1024) : F .f32 :=
  if r.val = 2 then p2 (ix2 0 b) else if r.val = 1 then p1 (ix2 0 b) else if r.val = 0 then p0 (ix2 0 b) else v (ix2 r b)

theorem read_rows {κ : Kind} {sp : Space} (w : View sig κ sp S8x1024 .f32) (f : w.ty.Contents (Elt F))
    (p0 p1 p2 : Vec F S1x1024 .f32) (L : List (View.Piece (Elt F) S8x1024 .f32)) (r : Fin 8) (b : Fin 1024) :
    View.read (Elt F) w (w.writes (Elt F) f (⟨Rect.unit ![2, 0] ![1, 1024] inb_S8x1024_S1x1024_2_0, p2⟩
        :: ⟨Rect.unit ![1, 0] ![1, 1024] inb_S8x1024_S1x1024_1_0, p1⟩
        :: ⟨Rect.unit ![0, 0] ![1, 1024] inb_S8x1024_S1x1024_0_0, p0⟩ :: L)) (ix2 r b)
      = rows p0 p1 p2 (View.read (Elt F) w (w.writes (Elt F) f L)) r b := by
  unfold rows
  split
  · next h =>
    refine View.read_writes_cons_unit_of_mem w f inb_S8x1024_S1x1024_2_0 p2 _ (ix2 r b) (ix2 0 b) rfl fun a => ?_
    match a with
    | ⟨0, _⟩ => exact h
    | ⟨1, _⟩ => exact (Nat.zero_add _).symm
  · next h =>
    refine (View.read_writes_cons_unit_of_not_mem _ _ _ _ _ _ rfl 0 (show r.val < 2 ∨ 2 + 1 ≤ r.val by omega)).trans ?_
    split
    · next h =>
      refine View.read_writes_cons_unit_of_mem w f inb_S8x1024_S1x1024_1_0 p1 _ (ix2 r b) (ix2 0 b) rfl fun a => ?_
      match a with
      | ⟨0, _⟩ => exact h
      | ⟨1, _⟩ => exact (Nat.zero_add _).symm
    · next h =>
      refine (View.read_writes_cons_unit_of_not_mem _ _ _ _ _ _ rfl 0 (show r.val < 1 ∨ 1 + 1 ≤ r.val by omega)).trans ?_
      split
      · next h =>
        refine View.read_writes_cons_unit_of_mem w f inb_S8x1024_S1x1024_0_0 p0 _ (ix2 r b) (ix2 0 b) rfl fun a => ?_
        match a with
        | ⟨0, _⟩ => exact h
        | ⟨1, _⟩ => exact (Nat.zero_add _).symm
      · next h =>
        exact View.read_writes_cons_unit_of_not_mem _ _ _ _ _ _ rfl 0 (show r.val < 0 ∨ 0 + 1 ≤ r.val by omega)

end Rows

section Steps

variable {F : FTy → Type} [FloatOps F]
variable (m : (ℓ : Loc nD τ sig) → Buf (Elt F) ℓ) (c : Dev nD) (t : Fin cfg0.N)

/-- The gate, the embedding's product, and what the last norm's gradient is made of, on a point's blocks. -/
abbrev gate : FVec F S512x1024 .f32 := k0_pay9 (iblk m c 0 t) (iblk m c 3 t) (iblk m c 5 t)
abbrev pb : FVec F S512x256 .bf16 := k0_pay10 (iblk m c 1 t)
abbrev pp : FVec F S512x1024 .f32 := k0_pay11 (pb m c t) (iblk m c 6 t)
abbrev root3 : FVec F S512x1 .f32 := k0_pay13 (iblk m c 0 t) (gate m c t) (pb m c t) (iblk m c 6 t)
abbrev dxh : FVec F S512x1024 .f32 := k0_pay19 (iblk m c 0 t) (k0_pay7 (iblk m c 4 t)) (gate m c t) (pb m c t) (iblk m c 6 t) (iblk m c 2 t)
abbrev back : FVec F S512x1024 .f32 := k0_pay20 (iblk m c 0 t) (k0_pay7 (iblk m c 4 t)) (gate m c t) (pb m c t) (iblk m c 6 t) (iblk m c 2 t)
abbrev dh2 : FVec F S512x1024 .f32 :=
  k0_pay28 (iblk m c 0 t) (k0_pay6 (iblk m c 3 t)) (gate m c t) (pp m c t) (root3 m c t) (dxh m c t) (back m c t) (iblk m c 5 t)

/-- The sums after a point, from the sums before it. -/
def step (v : Vec F S8x1024 .f32) (r : Fin 8) (b : Fin 1024) : F .f32 :=
  rows (k0_pay2 (k0_pay18 (iblk m c 0 t) (k0_pay7 (iblk m c 4 t)) (gate m c t) (pb m c t) (iblk m c 6 t) (iblk m c 2 t)) (row0 v))
    (k0_pay3 (k0_pay27 (iblk m c 0 t) (gate m c t) (pp m c t) (root3 m c t) (dxh m c t) (back m c t) (iblk m c 5 t)) (row1 v))
    (k0_pay4 (k0_pay16 (iblk m c 0 t) (k0_pay7 (iblk m c 4 t)) (gate m c t) (pb m c t) (iblk m c 6 t) (iblk m c 2 t)) (row2 v)) v r b

theorem point_dh : (outsAt0 m c t.val t.isLt).1 = dh2 m c t := by
  by_cases h0 : t.val % 8 = 0
  · rw [outsAt0_A m c t h0]
    dsimp only
    unfold out0_A_7
    rw [View.read_writes_eq_canon]
    swap
    · exact fun y => cover0_A_7 ..
    unfold kernelRun0_A
    dsimp only
    try sl_unfold_words
    rw [View.canon_unit_zero hz]
    simp only [View.readAt_eq_ld, Memref.IsWhole.read_unread, View.ld_unit_zero (S := S512x1024) hz,
      View.ld_unit_zero (S := S1x1024) hz, View.ld_unit_zero (S := S512x256) hz, View.ld_unit_zero (S := S1024x1024) hz,
      View.ld_unit_zero (S := S256x1024) hz]
  · rw [outsAt0_B m c t h0]
    dsimp only
    unfold out0_B_7
    rw [View.read_writes_eq_canon]
    swap
    · exact fun y => cover0_B_7 ..
    unfold kernelRun0_B
    dsimp only
    try sl_unfold_words
    rw [View.canon_unit_zero hz]
    simp only [View.readAt_eq_ld, Memref.IsWhole.read_unread, View.ld_unit_zero (S := S512x1024) hz,
      View.ld_unit_zero (S := S1x1024) hz, View.ld_unit_zero (S := S512x256) hz, View.ld_unit_zero (S := S1024x1024) hz,
      View.ld_unit_zero (S := S256x1024) hz]

theorem point_dhb : (outsAt0 m c t.val t.isLt).2.1 = k0_pay1 (dh2 m c t) := by
  by_cases h0 : t.val % 8 = 0
  · rw [outsAt0_A m c t h0]
    dsimp only
    unfold out0_A_8
    rw [View.read_writes_eq_canon]
    swap
    · exact fun y => cover0_A_8 ..
    unfold kernelRun0_A
    dsimp only
    try sl_unfold_words
    rw [View.canon_unit_zero hz]
    simp only [View.readAt_eq_ld, Memref.IsWhole.read_unread, View.ld_unit_zero (S := S512x1024) hz,
      View.ld_unit_zero (S := S1x1024) hz, View.ld_unit_zero (S := S512x256) hz, View.ld_unit_zero (S := S1024x1024) hz,
      View.ld_unit_zero (S := S256x1024) hz]
  · rw [outsAt0_B m c t h0]
    dsimp only
    unfold out0_B_8
    rw [View.read_writes_eq_canon]
    swap
    · exact fun y => cover0_B_8 ..
    unfold kernelRun0_B
    dsimp only
    try sl_unfold_words
    rw [View.canon_unit_zero hz]
    simp only [View.readAt_eq_ld, Memref.IsWhole.read_unread, View.ld_unit_zero (S := S512x1024) hz,
      View.ld_unit_zero (S := S1x1024) hz, View.ld_unit_zero (S := S512x256) hz, View.ld_unit_zero (S := S1024x1024) hz,
      View.ld_unit_zero (S := S256x1024) hz]

theorem point_dgp : (outsAt0 m c t.val t.isLt).2.2.1 = k0_pay23 (gate m c t) (pp m c t) (root3 m c t) (dxh m c t) (back m c t) := by
  by_cases h0 : t.val % 8 = 0
  · rw [outsAt0_A m c t h0]
    dsimp only
    unfold out0_A_9
    rw [View.read_writes_eq_canon]
    swap
    · exact fun y => cover0_A_9 ..
    unfold kernelRun0_A
    dsimp only
    try sl_unfold_words
    rw [View.canon_unit_zero hz]
    simp only [View.readAt_eq_ld, Memref.IsWhole.read_unread, View.ld_unit_zero (S := S512x1024) hz,
      View.ld_unit_zero (S := S1x1024) hz, View.ld_unit_zero (S := S512x256) hz, View.ld_unit_zero (S := S1024x1024) hz,
      View.ld_unit_zero (S := S256x1024) hz]
  · rw [outsAt0_B m c t h0]
    dsimp only
    unfold out0_B_9
    rw [View.read_writes_eq_canon]
    swap
    · exact fun y => cover0_B_9 ..
    unfold kernelRun0_B
    dsimp only
    try sl_unfold_words
    rw [View.canon_unit_zero hz]
    simp only [View.readAt_eq_ld, Memref.IsWhole.read_unread, View.ld_unit_zero (S := S512x1024) hz,
      View.ld_unit_zero (S := S1x1024) hz, View.ld_unit_zero (S := S512x256) hz, View.ld_unit_zero (S := S1024x1024) hz,
      View.ld_unit_zero (S := S256x1024) hz]

theorem point_dpp : (outsAt0 m c t.val t.isLt).2.2.2.1 = k0_pay22 (gate m c t) (root3 m c t) (dxh m c t) (back m c t) := by
  by_cases h0 : t.val % 8 = 0
  · rw [outsAt0_A m c t h0]
    dsimp only
    unfold out0_A_10
    rw [View.read_writes_eq_canon]
    swap
    · exact fun y => cover0_A_10 ..
    unfold kernelRun0_A
    dsimp only
    try sl_unfold_words
    rw [View.canon_unit_zero hz]
    simp only [View.readAt_eq_ld, Memref.IsWhole.read_unread, View.ld_unit_zero (S := S512x1024) hz,
      View.ld_unit_zero (S := S1x1024) hz, View.ld_unit_zero (S := S512x256) hz, View.ld_unit_zero (S := S1024x1024) hz,
      View.ld_unit_zero (S := S256x1024) hz]
  · rw [outsAt0_B m c t h0]
    dsimp only
    unfold out0_B_10
    rw [View.read_writes_eq_canon]
    swap
    · exact fun y => cover0_B_10 ..
    unfold kernelRun0_B
    dsimp only
    try sl_unfold_words
    rw [View.canon_unit_zero hz]
    simp only [View.readAt_eq_ld, Memref.IsWhole.read_unread, View.ld_unit_zero (S := S512x1024) hz,
      View.ld_unit_zero (S := S1x1024) hz, View.ld_unit_zero (S := S512x256) hz, View.ld_unit_zero (S := S1024x1024) hz,
      View.ld_unit_zero (S := S256x1024) hz]

theorem point_n3 : (outsAt0 m c t.val t.isLt).2.2.2.2.1 = k0_pay8 (iblk m c 0 t) (iblk m c 3 t) := by
  by_cases h0 : t.val % 8 = 0
  · rw [outsAt0_A m c t h0]
    dsimp only
    unfold out0_A_11
    rw [View.read_writes_eq_canon]
    swap
    · exact fun y => cover0_A_11 ..
    unfold kernelRun0_A
    dsimp only
    try sl_unfold_words
    rw [View.canon_unit_zero hz]
    simp only [View.readAt_eq_ld, Memref.IsWhole.read_unread, View.ld_unit_zero (S := S512x1024) hz,
      View.ld_unit_zero (S := S1x1024) hz, View.ld_unit_zero (S := S512x256) hz, View.ld_unit_zero (S := S1024x1024) hz,
      View.ld_unit_zero (S := S256x1024) hz]
  · rw [outsAt0_B m c t h0]
    dsimp only
    unfold out0_B_11
    rw [View.read_writes_eq_canon]
    swap
    · exact fun y => cover0_B_11 ..
    unfold kernelRun0_B
    dsimp only
    try sl_unfold_words
    rw [View.canon_unit_zero hz]
    simp only [View.readAt_eq_ld, Memref.IsWhole.read_unread, View.ld_unit_zero (S := S512x1024) hz,
      View.ld_unit_zero (S := S1x1024) hz, View.ld_unit_zero (S := S512x256) hz, View.ld_unit_zero (S := S1024x1024) hz,
      View.ld_unit_zero (S := S256x1024) hz]

theorem point_pb : (outsAt0 m c t.val t.isLt).2.2.2.2.2.1 = pb m c t := by
  by_cases h0 : t.val % 8 = 0
  · rw [outsAt0_A m c t h0]
    dsimp only
    unfold out0_A_12
    rw [View.read_writes_eq_canon]
    swap
    · exact fun y => cover0_A_12 ..
    unfold kernelRun0_A
    dsimp only
    try sl_unfold_words
    rw [View.canon_unit_zero hz]
    simp only [View.readAt_eq_ld, Memref.IsWhole.read_unread, View.ld_unit_zero (S := S512x1024) hz,
      View.ld_unit_zero (S := S1x1024) hz, View.ld_unit_zero (S := S512x256) hz, View.ld_unit_zero (S := S1024x1024) hz,
      View.ld_unit_zero (S := S256x1024) hz]
  · rw [outsAt0_B m c t h0]
    dsimp only
    unfold out0_B_12
    rw [View.read_writes_eq_canon]
    swap
    · exact fun y => cover0_B_12 ..
    unfold kernelRun0_B
    dsimp only
    try sl_unfold_words
    rw [View.canon_unit_zero hz]
    simp only [View.readAt_eq_ld, Memref.IsWhole.read_unread, View.ld_unit_zero (S := S512x1024) hz,
      View.ld_unit_zero (S := S1x1024) hz, View.ld_unit_zero (S := S512x256) hz, View.ld_unit_zero (S := S1024x1024) hz,
      View.ld_unit_zero (S := S256x1024) hz]

theorem point_acc_next (h0 : ¬t.val % 8 = 0) (r : Fin 8) (b : Fin 1024) :
    (outsAt0 m c t.val t.isLt).2.2.2.2.2.2 (ix2 r b)
      = step m c t (outsAt0 m c (t.val - 1) (Nat.lt_of_le_of_lt (Nat.sub_le _ _) t.isLt)).2.2.2.2.2.2 r b := by
  rw [outsAt0_B m c t h0]
  dsimp only
  unfold out0_B_13 kernelRun0_B
  dsimp only
  try sl_unfold_words
  simp only [View.readAt_eq_ld, Memref.IsWhole.read_unread, View.ld_unit_zero (S := S512x1024) hz,
    View.ld_unit_zero (S := S1x1024) hz, View.ld_unit_zero (S := S512x256) hz, View.ld_unit_zero (S := S1024x1024) hz,
    View.ld_unit_zero (S := S256x1024) hz]
  refine (read_rows _ _ _ _ _ _ r b).trans ?_
  unfold step
  refine congrArg (fun v => rows _ _ _ v r b) ?_
  exact Memref.IsWhole.read_unread _ _

theorem point_acc_first (h0 : t.val % 8 = 0) (r : Fin 8) (b : Fin 1024) :
    (outsAt0 m c t.val t.isLt).2.2.2.2.2.2 (ix2 r b) = step m c t (k0_pay5 (F := F)) r b := by
  rw [outsAt0_A m c t h0]
  dsimp only
  unfold out0_A_13 kernelRun0_A
  dsimp only
  try sl_unfold_words
  simp only [View.readAt_eq_ld, Memref.IsWhole.read_unread, View.ld_unit_zero (S := S512x1024) hz,
    View.ld_unit_zero (S := S1x1024) hz, View.ld_unit_zero (S := S512x256) hz, View.ld_unit_zero (S := S1024x1024) hz,
    View.ld_unit_zero (S := S256x1024) hz]
  refine (read_rows _ _ _ _ _ _ r b).trans ?_
  unfold step
  have e0 := View.readCov_fill (Val := Elt F) (ms0_13 t).view inb_S8x1024_S8x1024_0_0 (k0_pay5 (F := F)) []
    (Rect.unit ![0, 0] ![1, 1024] inb_S8x1024_S1x1024_0_0) (fun a => congrFun hz a)
  have e1 : ∀ p0, (ms0_13 t).view.readCov (Val := Elt F) [⟨Rect.unit ![0, 0] ![1, 1024] inb_S8x1024_S1x1024_0_0, p0⟩,
      ⟨Rect.unit ![0, 0] ![8, 1024] inb_S8x1024_S8x1024_0_0, k0_pay5 (F := F)⟩] (Rect.unit ![1, 0] ![1, 1024] inb_S8x1024_S1x1024_1_0).toLoadRect
      = row1 (k0_pay5 (F := F)) := fun p0 =>
    (View.readCov_skip _ _ _ _ _ (by decide +kernel)).trans (View.readCov_fill _ inb_S8x1024_S8x1024_0_0 _ [] _ (fun a => congrFun hz a))
  have e2 : ∀ p0 p1, (ms0_13 t).view.readCov (Val := Elt F) [⟨Rect.unit ![1, 0] ![1, 1024] inb_S8x1024_S1x1024_1_0, p1⟩,
      ⟨Rect.unit ![0, 0] ![1, 1024] inb_S8x1024_S1x1024_0_0, p0⟩,
      ⟨Rect.unit ![0, 0] ![8, 1024] inb_S8x1024_S8x1024_0_0, k0_pay5 (F := F)⟩] (Rect.unit ![2, 0] ![1, 1024] inb_S8x1024_S1x1024_2_0).toLoadRect
      = row2 (k0_pay5 (F := F)) := fun p0 p1 =>
    (View.readCov_skip _ _ _ _ _ (by decide +kernel)).trans ((View.readCov_skip _ _ _ _ _ (by decide +kernel)).trans
      (View.readCov_fill _ inb_S8x1024_S8x1024_0_0 _ [] _ (fun a => congrFun hz a)))
  have e3 : View.read (Elt F) VO0_13 (VO0_13.writes (Elt F) VO0_13.junk
      [⟨Rect.unit ![0, 0] ![8, 1024] inb_S8x1024_S8x1024_0_0, k0_pay5 (F := F)⟩]) = k0_pay5 (F := F) :=
    (View.read_writes_junk_eq_canon _ _).trans (View.canon_unit_zero (S := S8x1024) hz _ _)
  rw [e2, e1, e0]
  exact congrArg (fun v => rows _ _ _ v r b) e3

end Steps

end Cert.Kernel5Ideal.Point

end
-- ==== Proof.PleMath.lean ====
/-
  The embedding and loss call on one row, as arithmetic on extended reals: the layer's last part (a norm, a gate, the
  per-layer embedding added through it), the last norm, the row's loss, and the gradients back to the row.
-/
module

public import proofs.«01_k».proof.Proof.MlpAlgebra

@[expose] public section

noncomputable section

open Idealize.ShloMosaic

namespace Cert.Ple

open Cert.KernelIdeal.Algebra

/-- The row's length, the norms' epsilon, one, one half and the reciprocal of the row's length. -/
abbrev len : EReal := Ideal.ofBits .f32 0x44800000#32
abbrev eps : EReal := Ideal.ofBits .f32 0x358637BD#32
abbrev one : EReal := Ideal.ofBits .f32 0x3F800000#32
abbrev half : EReal := Ideal.ofBits .f32 0x3F000000#32
abbrev inv : EReal := Ideal.ofBits .f32 0x3A800000#32

/-- The reciprocal root of a row's mean square. -/
def root (X : Fin 1024 → EReal) : EReal := Ideal.rsqrt (msq X len eps)

/-- What a row of the call reads: the row, its embedding and its target; the two norms' weights; the gate's and the
    embedding's weights. -/
structure Row where
  X : Fin 1024 → EReal
  P : Fin 256 → EReal
  T : Fin 1024 → EReal
  gp : Fin 1024 → EReal
  gf : Fin 1024 → EReal
  Wg : Fin 1024 → Fin 1024 → EReal
  Wp : Fin 256 → Fin 1024 → EReal

namespace Row

variable (A : Row) (b : Fin 1024)

/-- Forward: the normed row, the gate, the embedding's product, the layer's output, its norm, the error, the loss. -/
def xn : EReal := A.X b * root A.X
def n3 : EReal := A.xn b * A.gp b
def gate : EReal := Ideal.div one (one + Ideal.exp (Ideal.ofBits .f32 0x00000000#32 - ∑ k, A.n3 k * A.Wg k b))
def pp : EReal := ∑ k, A.P k * A.Wp k b
def h3 : EReal := A.X b + A.gate b * A.pp b
def xh : EReal := A.h3 b * root A.h3
def err : EReal := A.xh b * A.gf b - A.T b
def loss : EReal := Ideal.div (∑ k, A.err k * A.err k) len

/-- Backward: through the loss and the last norm, the gate and the embedding's product, and the first norm. -/
def dy : EReal := A.err b * inv
def dxh : EReal := A.dy b * A.gf b
def dh3 : EReal := root A.h3 * (A.dxh b - A.xh b * Ideal.div (∑ k, A.dxh k * A.xh k) len)
def dpp : EReal := A.dh3 b * A.gate b
def dgp : EReal := A.dh3 b * A.pp b * A.gate b * (one - A.gate b)
def dn : EReal := ∑ k, A.dgp k * A.Wg b k
def dx : EReal := root A.X * (A.dn b * A.gp b - A.xn b * Ideal.div (∑ k, A.dn k * A.gp k * A.xn k) len)
def dh2 : EReal := A.dh3 b + A.dx b

end Row

/-! ## What the reference's form of these takes -/

theorem word_half : half = ((1 / 2 : ℝ) : EReal) := by
  simp [half, Ideal.ofBits, Ideal.ieee, -EReal.coe_mul]; norm_num

theorem word_one : one = ((1 : ℝ) : EReal) := by
  simp [one, Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_inv : inv = ((1 / 1024 : ℝ) : EReal) := by
  simp [inv, Ideal.ofBits, Ideal.ieee, -EReal.coe_mul]; norm_num

/-- The gradient of half the mean of squares: a half of the mean's weight times twice the error. -/
theorem dy_form (e : EReal) : Ideal.div (half * one) len * (Ideal.ofBits .f32 0x40000000#32 * e) = e * inv := by
  rw [word_half, word_one, word_two, word_inv, len, word_1024, Ideal.div_coe (by norm_num), ← mul_assoc, ← EReal.coe_mul, ← EReal.coe_mul,
    ← EReal.coe_mul, mul_comm e]
  norm_num

/-- The gradient through a norm, as differentiating the norm's own lines gives it. -/
theorem norm_form (X D : Fin 1024 → EReal) (c : Fin 1024) :
    D c * root X
        + X c * Ideal.div ((∑ k, X k * D k) * (Ideal.ofBits .f32 0xBF000000#32 * Ideal.div (root X) (msq X len eps))) len
        + Ideal.div ((∑ k, X k * D k) * (Ideal.ofBits .f32 0xBF000000#32 * Ideal.div (root X) (msq X len eps))) len * X c
      = root X * (D c - X c * root X * Ideal.div (∑ k, D k * (X k * root X)) len) := by
  obtain ⟨e, he, hew⟩ := word_eps
  unfold root len eps
  rw [word_neg_half, word_1024, hew]
  exact (row_eq X D (N := 1024) (by norm_num) he c).symm

end Cert.Ple

end
-- ==== Proof.PlePay.lean ====
/-
  The embedding and loss call: each of the body's values, at a row and a column of a point's blocks, is the row's value.
-/
module

public import proofs.«01_k».proof.Proof.PleMath
public import proofs.«01_k».proof.Proof.Shared
public import proofs.«01_k».proof.Proof.Gen.Kernel5Ideal.Value
public import Idealize.ShloMosaic.Lib.ValueIdx

@[expose] public section

set_option maxRecDepth 16384

noncomputable section

open Idealize.ShloMosaic Idealize.ShloMosaic.TcCoe Idealize.ShloMosaic.ValueIdx Idealize.SL.Sem

namespace Cert.Kernel5Ideal.Pay

open Cert.Kernel5Ideal Cert.Kernel5Ideal.Gen Cert.Shared Cert.KernelIdeal.Algebra Cert.Ple

/-! ## Sums and spreads -/

/-- A sum over a block's columns, as a column. -/
theorem rowSum (u : FVec Ideal S512x1024 .f32) (a : Fin 512) :
    (shapeCast S512x1 (multiReduction .add [1] S512 u 0x00000000#32 reduces_S512x1024_S512 (.inl rfl) rfl) shapeCasts_S512_S512x1 (ix2 a 0) : EReal)
      = ∑ k : Fin 1024, (u (ix2 a k) : EReal) := by
  refine (shapeCast_apply _ shapeCasts_S512_S512x1 (ix2 a 0) (ix1 a) ?_).trans ?_
  · rewrite [Shape.rowMajor_val_one, Shape.rowMajor_val_two]
    show a.val = a.val * 1 + 0
    omega
  · refine (Ideal.multiReduction_add_single u 0x00000000#32 reduces_S512x1024_S512 (.inl rfl) rfl (ix1 a)).trans ?_
    exact Finset.sum_congr rfl fun k _ => congrArg u (funext fun e => Fin.ext (by match e with | ⟨0, _⟩ => rfl | ⟨1, _⟩ => rfl))

/-- A sum over a block's rows, as a row. -/
theorem colSum (u : FVec Ideal S512x1024 .f32) (b : Fin 1024) :
    (shapeCast S1x1024 (multiReduction .add [0] S1024 u 0x00000000#32 reduces_S512x1024_S1024 (.inl rfl) rfl) shapeCasts_S1024_S1x1024 (ix2 0 b) : EReal)
      = ∑ a : Fin 512, (u (ix2 a b) : EReal) := by
  refine (shapeCast_apply _ shapeCasts_S1024_S1x1024 (ix2 0 b) (ix1 b) ?_).trans ?_
  · rewrite [Shape.rowMajor_val_one, Shape.rowMajor_val_two]
    show b.val = 0 * 1024 + b.val
    omega
  · refine (Ideal.multiReduction_add_single u 0x00000000#32 reduces_S512x1024_S1024 (.inl rfl) rfl (ix1 b)).trans ?_
    exact Finset.sum_congr rfl fun k _ => congrArg u (funext fun e => Fin.ext (by match e with | ⟨0, _⟩ => rfl | ⟨1, _⟩ => rfl))

/-- A column's sum, as the one element of a matrix. -/
theorem oneSum (u : FVec Ideal S512x1 .f32) :
    (shapeCast S1x1 (multiReduction .add [0] S1 u 0x00000000#32 reduces_S512x1_S1 (.inl rfl) rfl) shapeCasts_S1_S1x1 (ix2 0 0) : EReal)
      = ∑ a : Fin 512, (u (ix2 a 0) : EReal) := by
  refine (shapeCast_apply _ shapeCasts_S1_S1x1 (ix2 0 0) (ix1 0) ?_).trans ?_
  · rewrite [Shape.rowMajor_val_one, Shape.rowMajor_val_two]
    rfl
  · refine (Ideal.multiReduction_add_single u 0x00000000#32 reduces_S512x1_S1 (.inl rfl) rfl (ix1 0)).trans ?_
    exact Finset.sum_congr rfl fun k _ => congrArg u (funext fun e => Fin.ext (by match e with | ⟨0, _⟩ => rfl | ⟨1, _⟩ => rfl))

/-- A column spread over a block's columns. -/
theorem spreadCol (u : FVec Ideal S512x1 .f32) (a : Fin 512) (b : Fin 1024) :
    broadcastTo S512x1024 u broadcasts_S512x1_S512x1024 (ix2 a b) = u (ix2 a 0) :=
  broadcastTo_apply u broadcasts_S512x1_S512x1024 (ix2 a b) (ix2 a 0) (fun d => match d with
    | ⟨0, _⟩ => by show a.val = if (512 : Nat) = 1 then 0 else a.val; rw [if_neg (by decide)]
    | ⟨1, _⟩ => by show 0 = if (1 : Nat) = 1 then 0 else b.val; rw [if_pos rfl])

/-- A row spread over a block's rows. -/
theorem spreadRow (u : FVec Ideal S1x1024 .f32) (a : Fin 512) (b : Fin 1024) :
    broadcastTo S512x1024 u broadcasts_S1x1024_S512x1024 (ix2 a b) = u (ix2 0 b) :=
  broadcastTo_apply u broadcasts_S1x1024_S512x1024 (ix2 a b) (ix2 0 b) (fun d => match d with
    | ⟨0, _⟩ => by show 0 = if (1 : Nat) = 1 then 0 else a.val; rw [if_pos rfl]
    | ⟨1, _⟩ => by show b.val = if (1024 : Nat) = 1 then 0 else b.val; rw [if_neg (by decide)])

/-- One element spread over a row. -/
theorem spreadOne (u : FVec Ideal S1x1 .f32) (b : Fin 1024) :
    broadcastTo S1x1024 u broadcasts_S1x1_S1x1024 (ix2 0 b) = u (ix2 0 0) :=
  broadcastTo_apply u broadcasts_S1x1_S1x1024 (ix2 0 b) (ix2 0 0) (fun d => match d with
    | ⟨0, _⟩ => by show 0 = if (1 : Nat) = 1 then 0 else 0; rw [if_pos rfl]
    | ⟨1, _⟩ => by show 0 = if (1 : Nat) = 1 then 0 else b.val; rw [if_pos rfl])

/-- A mean over a block's columns, spread over them. -/
theorem meanSpread (u : FVec Ideal S512x1024 .f32) (a : Fin 512) (b : Fin 1024) :
    (broadcastTo S512x1024 (divf (shapeCast S512x1 (multiReduction .add [1] S512 u 0x00000000#32 reduces_S512x1024_S512 (.inl rfl) rfl)
        shapeCasts_S512_S512x1) (broadcast S512x1 (Scalar.ofBits .f32 0x44800000#32))) broadcasts_S512x1_S512x1024 (ix2 a b) : EReal)
      = Ideal.div (∑ k : Fin 1024, (u (ix2 a k) : EReal)) len :=
  (spreadCol _ a b).trans (congrArg (fun s => Ideal.div s len) (rowSum u a))

/-! ## A point's blocks -/

/-- The seven blocks a point reads. -/
structure Blocks where
  x0 : Vec Ideal S512x1024 .f32
  x1 : Vec Ideal S512x256 .f32
  x2 : Vec Ideal S512x1024 .f32
  x3 : Vec Ideal S1x1024 .f32
  x4 : Vec Ideal S1x1024 .f32
  x5 : Vec Ideal S1024x1024 .bf16
  x6 : Vec Ideal S256x1024 .bf16

namespace Blocks

variable (B : Blocks)

/-- A row of the blocks. -/
def row (a : Fin 512) : Row where
  X k := B.x0 (ix2 a k)
  P k := B.x1 (ix2 a k)
  T k := B.x2 (ix2 a k)
  gp k := B.x3 (ix2 0 k)
  gf k := B.x4 (ix2 0 k)
  Wg k b := B.x5 (ix2 k b)
  Wp k b := B.x6 (ix2 k b)

abbrev gate : FVec Ideal S512x1024 .f32 := k0_pay9 B.x0 B.x3 B.x5
abbrev pb : FVec Ideal S512x256 .bf16 := k0_pay10 B.x1
abbrev pp : FVec Ideal S512x1024 .f32 := k0_pay11 B.pb B.x6
abbrev root3 : FVec Ideal S512x1 .f32 := k0_pay13 B.x0 B.gate B.pb B.x6
abbrev dxh : FVec Ideal S512x1024 .f32 := k0_pay19 B.x0 (k0_pay7 B.x4) B.gate B.pb B.x6 B.x2
abbrev back : FVec Ideal S512x1024 .f32 := k0_pay20 B.x0 (k0_pay7 B.x4) B.gate B.pb B.x6 B.x2

end Blocks

variable (B : Blocks) (a : Fin 512) (b : Fin 1024)

/-- The reciprocal root of each row's mean square, as a column. -/
abbrev rootOf (u : FVec Ideal S512x1024 .f32) : FVec Ideal S512x1 .f32 :=
  rsqrt (addf (divf (shapeCast S512x1 (multiReduction .add [1] S512 (mulf u u) 0x00000000#32 reduces_S512x1024_S512 (.inl rfl) rfl)
    shapeCasts_S512_S512x1) (broadcast S512x1 (Scalar.ofBits .f32 0x44800000#32))) (broadcast S512x1 (Scalar.ofBits .f32 0x358637BD#32)))

theorem rootOf_apply (u : FVec Ideal S512x1024 .f32) : (rootOf u (ix2 a 0) : EReal) = root (fun k => u (ix2 a k)) :=
  congrArg (fun s => Ideal.rsqrt (Ideal.div s len + eps)) (rowSum (mulf u u) a)

theorem xn_apply : (k0_pay26 B.x0 (ix2 a b) : EReal) = (B.row a).xn b :=
  congrArg (fun s : EReal => (B.x0 (ix2 a b) : EReal) * s) ((spreadCol _ a b).trans (rootOf_apply a B.x0))

theorem n3_apply : (k0_pay8 B.x0 B.x3 (ix2 a b) : EReal) = (B.row a).n3 b := by
  unfold k0_pay8 k0_pay6
  simp only [shapeCast_self]
  exact congrArg₂ (fun p q : EReal => p * q) (xn_apply B a b) (spreadRow B.x3 a b)

theorem gate_apply : (B.gate (ix2 a b) : EReal) = (B.row a).gate b := by
  unfold Blocks.gate k0_pay9
  simp only [shapeCast_self]
  refine congrArg (fun z => Ideal.div one (one + Ideal.exp (Ideal.ofBits .f32 0x00000000#32 - z)))
    ((nn_apply (φ := .bf16) (ψ := .bf16) dot_S512x1024_S1024x1024_S512x1024_1_0_0_1_n_n rfl rfl (fun _ _ => rfl)
      (fun j k => dot_S512x1024_S1024x1024_S512x1024_1_0_0_1_n_n.lhsIdx_val_of_single rfl j k)
      (fun j k => dot_S512x1024_S1024x1024_S512x1024_1_0_0_1_n_n.rhsIdx_val_of_single rfl j k) (fun _ _ => rfl) _ B.x5 a b).trans ?_)
  exact Finset.sum_congr rfl fun k _ => congrArg (fun s : EReal => s * _) (n3_apply B a k)

theorem pp_apply : (B.pp (ix2 a b) : EReal) = (B.row a).pp b := by
  unfold Blocks.pp k0_pay11
  simp only [shapeCast_self]
  exact nn_apply (φ := .bf16) (ψ := .bf16) dot_S512x256_S256x1024_S512x1024_1_0_0_1_n_n rfl rfl (fun _ _ => rfl)
    (fun j k => dot_S512x256_S256x1024_S512x1024_1_0_0_1_n_n.lhsIdx_val_of_single rfl j k)
    (fun j k => dot_S512x256_S256x1024_S512x1024_1_0_0_1_n_n.rhsIdx_val_of_single rfl j k) (fun _ _ => rfl) _ B.x6 a b

theorem h3_apply : (k0_pay12 B.x0 B.gate B.pb B.x6 (ix2 a b) : EReal) = (B.row a).h3 b :=
  congrArg (fun s : EReal => (B.x0 (ix2 a b) : EReal) + s) (congrArg₂ (fun p q : EReal => p * q) (gate_apply B a b) (pp_apply B a b))

theorem root3_apply : (B.root3 (ix2 a 0) : EReal) = root (B.row a).h3 :=
  (rootOf_apply a (k0_pay12 B.x0 B.gate B.pb B.x6)).trans (congrArg root (funext fun k => h3_apply B a k))

theorem xh_apply : (k0_pay14 B.x0 B.gate B.pb B.x6 (ix2 a b) : EReal) = (B.row a).xh b :=
  congrArg₂ (fun p q : EReal => p * q) (h3_apply B a b) ((spreadCol _ a b).trans (root3_apply B a))

theorem gf_apply : (broadcastTo S512x1024 (k0_pay7 B.x4) broadcasts_S1x1024_S512x1024 (ix2 a b) : EReal) = (B.row a).gf b := by
  unfold k0_pay7
  simp only [shapeCast_self]
  exact spreadRow B.x4 a b

theorem err_apply : (k0_pay15 B.x0 (k0_pay7 B.x4) B.gate B.pb B.x6 B.x2 (ix2 a b) : EReal) = (B.row a).err b :=
  congrArg (fun s : EReal => s - (B.x2 (ix2 a b) : EReal)) (congrArg₂ (fun p q : EReal => p * q) (xh_apply B a b) (gf_apply B a b))

/-- The point's share of the loss. -/
theorem loss_apply : (k0_pay16 B.x0 (k0_pay7 B.x4) B.gate B.pb B.x6 B.x2 (ix2 0 0) : EReal) = half * ∑ a, (B.row a).loss :=
  congrArg (fun s : EReal => half * s) ((oneSum _).trans (Finset.sum_congr rfl fun a _ => congrArg (fun s => Ideal.div s len)
    ((rowSum _ a).trans (Finset.sum_congr rfl fun k _ => congrArg (fun s : EReal => s * s) (err_apply B a k)))))

theorem dy_apply : (k0_pay17 B.x0 (k0_pay7 B.x4) B.gate B.pb B.x6 B.x2 (ix2 a b) : EReal) = (B.row a).dy b :=
  congrArg (fun s : EReal => s * inv) (err_apply B a b)

/-- The point's share of the last norm's weight's gradient. -/
theorem dgf_apply : (k0_pay18 B.x0 (k0_pay7 B.x4) B.gate B.pb B.x6 B.x2 (ix2 0 b) : EReal) = ∑ a, (B.row a).dy b * (B.row a).xh b :=
  (colSum _ b).trans (Finset.sum_congr rfl fun a _ => congrArg₂ (fun p q : EReal => p * q) (dy_apply B a b) (xh_apply B a b))

theorem dxh_apply : (B.dxh (ix2 a b) : EReal) = (B.row a).dxh b :=
  congrArg₂ (fun p q : EReal => p * q) (dy_apply B a b) (gf_apply B a b)

theorem back_apply : (B.back (ix2 a b) : EReal)
    = (B.row a).xh b * Ideal.div (∑ k, (B.row a).dxh k * (B.row a).xh k) len :=
  congrArg₂ (fun p q : EReal => p * q) (xh_apply B a b) ((meanSpread _ a b).trans (congrArg (fun s => Ideal.div s len)
    (Finset.sum_congr rfl fun k _ => congrArg₂ (fun p q : EReal => p * q) (dxh_apply B a k) (xh_apply B a k))))

theorem dh3_apply : (k0_pay21 B.root3 B.dxh B.back (ix2 a b) : EReal) = (B.row a).dh3 b :=
  congrArg₂ (fun p q : EReal => p * q) ((spreadCol _ a b).trans (root3_apply B a))
    (congrArg₂ (fun p q : EReal => p - q) (dxh_apply B a b) (back_apply B a b))

theorem dpp_apply : (k0_pay22 B.gate B.root3 B.dxh B.back (ix2 a b) : EReal) = (B.row a).dpp b :=
  congrArg₂ (fun p q : EReal => p * q) (dh3_apply B a b) (gate_apply B a b)

theorem dgp_apply : (k0_pay23 B.gate B.pp B.root3 B.dxh B.back (ix2 a b) : EReal) = (B.row a).dgp b :=
  congrArg₂ (fun p q : EReal => p * q) (congrArg₂ (fun p q : EReal => p * q) (congrArg₂ (fun p q : EReal => p * q) (dh3_apply B a b)
    (pp_apply B a b)) (gate_apply B a b)) (congrArg (fun s : EReal => one - s) (gate_apply B a b))

theorem dn_apply : (k0_pay24 B.gate B.pp B.root3 B.dxh B.back B.x5 (ix2 a b) : EReal) = (B.row a).dn b := by
  unfold k0_pay24
  simp only [shapeCast_self]
  refine (nt_apply (φ := .bf16) (ψ := .bf16) dot_S512x1024_S1024x1024_S512x1024_1_1_0_0_n_n rfl rfl (fun _ _ => rfl)
    (fun j k => dot_S512x1024_S1024x1024_S512x1024_1_1_0_0_n_n.lhsIdx_val_of_single rfl j k) (fun _ _ => rfl)
    (fun j k => dot_S512x1024_S1024x1024_S512x1024_1_1_0_0_n_n.rhsIdx_val_of_single rfl j k) _ B.x5 a b).trans ?_
  exact Finset.sum_congr rfl fun k _ => congrArg (fun s : EReal => s * _) (dgp_apply B a k)

/-- The point's share of the first norm's weight's gradient. -/
theorem dgple_apply : (k0_pay27 B.x0 B.gate B.pp B.root3 B.dxh B.back B.x5 (ix2 0 b) : EReal) = ∑ a, (B.row a).dn b * (B.row a).xn b :=
  (colSum _ b).trans (Finset.sum_congr rfl fun a _ => congrArg₂ (fun p q : EReal => p * q) (dn_apply B a b) (xn_apply B a b))

theorem dh2_apply : (k0_pay28 B.x0 (k0_pay6 B.x3) B.gate B.pp B.root3 B.dxh B.back B.x5 (ix2 a b) : EReal) = (B.row a).dh2 b := by
  unfold k0_pay28 k0_pay6
  simp only [shapeCast_self]
  have hd : ∀ k, (mulf (F := Ideal) (φ := .f32) (k0_pay24 B.gate B.pp B.root3 B.dxh B.back B.x5)
      (broadcastTo S512x1024 B.x3 broadcasts_S1x1024_S512x1024) (ix2 a k) : EReal) = (B.row a).dn k * (B.row a).gp k := fun k =>
    congrArg₂ (fun p q : EReal => p * q) (dn_apply B a k) (spreadRow B.x3 a k)
  refine congrArg₂ (fun p q : EReal => p + q) (dh3_apply B a b) ?_
  refine congrArg₂ (fun p q : EReal => p * q) ((spreadCol _ a b).trans (rootOf_apply a B.x0)) ?_
  refine congrArg₂ (fun p q : EReal => p - q) (hd b) ?_
  refine congrArg₂ (fun p q : EReal => p * q) (xn_apply B a b) ((meanSpread _ a b).trans (congrArg (fun s => Ideal.div s len) ?_))
  exact Finset.sum_congr rfl fun k _ => congrArg₂ (fun p q : EReal => p * q) (hd k) (xn_apply B a k)

/-! ## The sums' rows -/

theorem pay2_apply (u v : Vec Ideal S1x1024 .f32) : (k0_pay2 u v (ix2 0 b) : EReal) = v (ix2 0 b) + u (ix2 0 b) := by
  unfold k0_pay2
  simp only [shapeCast_self]
  rfl

theorem pay3_apply (u v : Vec Ideal S1x1024 .f32) : (k0_pay3 u v (ix2 0 b) : EReal) = v (ix2 0 b) + u (ix2 0 b) := by
  unfold k0_pay3
  simp only [shapeCast_self]
  rfl

theorem pay4_apply (u : Vec Ideal S1x1 .f32) (v : Vec Ideal S1x1024 .f32) : (k0_pay4 u v (ix2 0 b) : EReal) = v (ix2 0 b) + u (ix2 0 0) := by
  unfold k0_pay4
  simp only [shapeCast_self]
  exact congrArg (fun s : EReal => (v (ix2 0 b) : EReal) + s) (spreadOne u b)

theorem pay5_apply (i : S8x1024.Idx) : (k0_pay5 (F := Ideal) i : EReal) = 0 := Ideal.ofBits_zero_f32

end Cert.Kernel5Ideal.Pay

end
-- ==== Proof.PleRef.lean ====
/-
  The embedding and loss call's reference, element by element: each of its results at a row is the row's value.
-/
module

public import proofs.«01_k».proof.Proof.PleMath
public import proofs.«01_k».proof.Proof.Shared
public import proofs.«01_k».proof.Proof.Gen.Reference5Ideal.Read
public import Idealize.ShloMosaic.Lib.ValueIdx
public import Idealize.ShloMosaic.Lib.KernelVsHost

@[expose] public section

set_option maxRecDepth 16384

noncomputable section

open Idealize.ShloMosaic Idealize.ShloMosaic.TcCoe Idealize.ShloMosaic.ValueIdx Idealize.SL.Sem

namespace Cert.Kernel5Ideal.Ref

open Cert.Reference5Ideal Cert.Reference5Ideal.Read Cert.KernelIdeal.Algebra Cert.Ple

/-- A row of the arguments. -/
def arow (h : S4096x1024.Idx → EReal) (p : S4096x256.Idx → EReal) (y : S4096x1024.Idx → EReal) (gp gf : S1024.Idx → EReal)
    (wg : S1024x1024.Idx → EReal) (wp : S256x1024.Idx → EReal) (i : Fin 4096) : Row where
  X k := h (ix2 i k)
  P k := p (ix2 i k)
  T k := y (ix2 i k)
  gp k := gp (ix1 k)
  gf k := gf (ix1 k)
  Wg k b := wg (ix2 k b)
  Wp k b := wp (ix2 k b)

variable (h : S4096x1024.Idx → EReal) (p : S4096x256.Idx → EReal) (y : S4096x1024.Idx → EReal) (gp gf : S1024.Idx → EReal)
  (wg : S1024x1024.Idx → EReal) (wp : S256x1024.Idx → EReal) (i : Fin 4096) (b : Fin 1024)

/-! ## Forward -/

theorem ms_eq : (val_main_v6 (F := Ideal) h (ix2 i 0) : EReal) = msq (fun k : Fin 1024 => h (ix2 i k)) len eps := by
  rw [val_main_v6_apply, val_main_v4_apply, val_main_v2_apply, val_main_v1_apply]
  show Ideal.div (Ideal.ofBits .f32 0x00000000#32 + _) _ + _ = _
  rw [Ideal.ofBits_zero_f32, zero_add]
  refine congrArg (fun s : EReal => Ideal.div s _ + _) (Finset.sum_congr rfl fun k _ => ?_)
  rw [val_main_v0_apply, show idx_main_v1 (idx_main_v2 (ix2 i 0)) k = ix2 i k from eq_ix2 _]
  rfl

theorem root_eq : (val_main_v7 (F := Ideal) h (ix2 i 0) : EReal) = root (fun k : Fin 1024 => h (ix2 i k)) := by
  rw [val_main_v7_apply]
  exact congrArg Ideal.rsqrt (ms_eq h i)

theorem xn_eq : (val_main_v12 (F := Ideal) h (ix2 i b) : EReal) = (arow h p y gp gf wg wp i).xn b := by
  rw [val_main_v12_apply, val_main_v11_apply, show idx_main_v11 (ix2 i b) = ix2 i 0 from eq_ix2 _, root_eq]
  rfl

theorem n3_eq : (val_main_v15 (F := Ideal) h gp (ix2 i b) : EReal) = (arow h p y gp gf wg wp i).n3 b := by
  rw [val_main_v15_apply, xn_eq h p y gp gf wg wp, val_main_v14_apply, val_main_v13_apply,
    show idx_main_v13 (idx_main_v14 (ix2 i b)) = ix1 b from eq_ix1 _]
  rfl

theorem gate_eq : (val_main_v23 (F := Ideal) h gp wg (ix2 i b) : EReal) = (arow h p y gp gf wg wp i).gate b := by
  rw [val_main_v23_apply, val_main_v21_apply, val_main_v19_apply, val_main_v18_apply, ← Ideal.subf_zero_eq_hostNegf, val_main_v16_apply]
  refine congrArg (fun z => Ideal.div one (one + Ideal.exp (Ideal.ofBits .f32 0x00000000#32 - z))) (Finset.sum_congr rfl fun k _ => ?_)
  rw [show lidx_main_v16 (ix2 i b) k = ix2 i k from eq_ix2 _, show ridx_main_v16 (ix2 i b) k = ix2 k b from eq_ix2 _,
    n3_eq h p y gp gf wg wp]
  rfl

theorem pp_eq : (val_main_v17 (F := Ideal) p wp (ix2 i b) : EReal) = (arow h p y gp gf wg wp i).pp b := by
  rw [val_main_v17_apply]
  refine Finset.sum_congr rfl fun k _ => ?_
  rw [show lidx_main_v17 (ix2 i b) k = ix2 i k from eq_ix2 _, show ridx_main_v17 (ix2 i b) k = ix2 k b from eq_ix2 _]
  rfl

theorem h3_eq : (val_main_v28 (F := Ideal) h p gp wg wp (ix2 i b) : EReal) = (arow h p y gp gf wg wp i).h3 b := by
  rw [val_main_v28_apply, val_main_v27_apply, gate_eq h p y gp gf wg wp, pp_eq h p y gp gf wg wp]
  rfl

theorem ms3_eq : (val_main_v35 (F := Ideal) h p gp wg wp (ix2 i 0) : EReal) = msq (arow h p y gp gf wg wp i).h3 len eps := by
  rw [val_main_v35_apply, val_main_v33_apply, val_main_v31_apply, val_main_v30_apply]
  show Ideal.div (Ideal.ofBits .f32 0x00000000#32 + _) _ + _ = _
  rw [Ideal.ofBits_zero_f32, zero_add]
  refine congrArg (fun s : EReal => Ideal.div s _ + _) (Finset.sum_congr rfl fun k _ => ?_)
  rw [val_main_v29_apply, show idx_main_v30 (idx_main_v31 (ix2 i 0)) k = ix2 i k from eq_ix2 _, h3_eq h p y gp gf wg wp]
  rfl

theorem root3_eq : (val_main_v36 (F := Ideal) h p gp wg wp (ix2 i 0) : EReal) = root (arow h p y gp gf wg wp i).h3 := by
  rw [val_main_v36_apply]
  exact congrArg Ideal.rsqrt (ms3_eq h p y gp gf wg wp i)

theorem xh_eq : (val_main_v41 (F := Ideal) h p gp wg wp (ix2 i b) : EReal) = (arow h p y gp gf wg wp i).xh b := by
  rw [val_main_v41_apply, val_main_v40_apply, show idx_main_v40 (ix2 i b) = ix2 i 0 from eq_ix2 _, h3_eq h p y gp gf wg wp,
    root3_eq h p y gp gf wg wp]
  rfl

theorem err_eq : (val_main_v45 (F := Ideal) h p y gp gf wg wp (ix2 i b) : EReal) = (arow h p y gp gf wg wp i).err b := by
  rw [val_main_v45_apply, val_main_v44_apply, xh_eq h p y gp gf wg wp, val_main_v43_apply, val_main_v42_apply,
    show idx_main_v42 (idx_main_v43 (ix2 i b)) = ix1 b from eq_ix1 _]
  rfl

theorem loss_eq : (val_main_v51 (F := Ideal) h p y gp gf wg wp (ix1 i) : EReal) = (arow h p y gp gf wg wp i).loss := by
  rw [val_main_v51_apply, val_main_v49_apply]
  show Ideal.div (Ideal.ofBits .f32 0x00000000#32 + _) _ = _
  rw [Ideal.ofBits_zero_f32, zero_add]
  refine congrArg (fun s : EReal => Ideal.div s _) (Finset.sum_congr rfl fun k _ => ?_)
  rw [val_main_v46_apply, show idx_main_v49 (ix1 i) k = ix2 i k from eq_ix2 _, err_eq]
  rfl

/-- The loss, before the sum over the devices. -/
theorem total_eq (j : S_.Idx) : (val_main_v53 (F := Ideal) h p y gp gf wg wp j : EReal) = half * ∑ i, (arow h p y gp gf wg wp i).loss := by
  rw [val_main_v53_apply, val_main_v52_apply]
  show half * (Ideal.ofBits .f32 0x00000000#32 + _) = _
  rw [Ideal.ofBits_zero_f32, zero_add]
  refine congrArg (fun s : EReal => half * s) ?_
  let e : Fin 4096 ≃ S4096.Idx := ⟨fun i => ix1 i, fun j => j 0, fun i => rfl, fun j => (eq_ix1 j).symm⟩
  rw [← Equiv.sum_comp e]
  exact Finset.sum_congr rfl fun i _ => loss_eq h p y gp gf wg wp i

/-! ## Backward -/

theorem dy_eq : (val_main_v59 (F := Ideal) h p y gp gf wg wp (ix2 i b) : EReal) = (arow h p y gp gf wg wp i).dy b := by
  rw [val_main_v59_apply, val_main_v58_apply, val_main_v57_apply, val_main_v48_apply, err_eq]
  exact dy_form _

theorem dxh_eq : (val_main_v64 (F := Ideal) h p y gp gf wg wp (ix2 i b) : EReal) = (arow h p y gp gf wg wp i).dxh b := by
  rw [val_main_v64_apply, dy_eq, val_main_v63_apply, val_main_v42_apply, show idx_main_v42 (idx_main_v63 (ix2 i b)) = ix1 b from eq_ix1 _]
  rfl

theorem coef3_eq : (val_main_v74 (F := Ideal) h p y gp gf wg wp (ix1 i) : EReal)
    = Ideal.div ((∑ k, (arow h p y gp gf wg wp i).h3 k * (arow h p y gp gf wg wp i).dxh k)
        * (Ideal.ofBits .f32 0xBF000000#32 * Ideal.div (root (arow h p y gp gf wg wp i).h3) (msq (arow h p y gp gf wg wp i).h3 len eps))) len := by
  rw [val_main_v74_apply, Fin.sum_univ_one, show idx_main_v74 (ix1 i) 0 = ix2 i 0 from eq_ix2 _, val_main_v73_apply,
    val_main_v71_apply, val_main_v68_apply, val_main_v67_apply, val_main_v39_apply, val_main_v37_apply, ms3_eq h p y gp gf wg wp,
    root3_eq h p y gp gf wg wp]
  have hk : ∀ k, (val_main_v66 (F := Ideal) h p y gp gf wg wp (idx_main_v67 (idx_main_v68 (ix2 i 0)) k) : EReal)
      = (arow h p y gp gf wg wp i).h3 k * (arow h p y gp gf wg wp i).dxh k := fun k => by
    rw [show idx_main_v67 (idx_main_v68 (ix2 i 0)) k = ix2 i k from (eq_ix2 _).trans (congrArg₂ ix2 (Fin.ext (by
      show i.val * 1 + 0 = i.val; omega)) rfl), val_main_v66_apply, dxh_eq, h3_eq h p y gp gf wg wp]
    rfl
  show Ideal.ofBits .f32 0x00000000#32 + Ideal.div ((Ideal.ofBits .f32 0x00000000#32 + ∑ k : Fin 1024, (_ : EReal)) * _) _ = _
  simp only [hk]
  rw [Ideal.ofBits_zero_f32, zero_add, zero_add]
  rfl

theorem dh3_eq : (val_main_v79 (F := Ideal) h p y gp gf wg wp (ix2 i b) : EReal) = (arow h p y gp gf wg wp i).dh3 b := by
  rw [val_main_v79_apply, val_main_v77_apply, val_main_v70_apply, val_main_v76_apply, val_main_v78_apply, val_main_v75_apply,
    val_main_v69_apply, dxh_eq, h3_eq h p y gp gf wg wp, show idx_main_v75 (ix2 i b) = ix1 i from eq_ix1 _,
    show idx_main_v69 (ix2 i b) = ix2 i 0 from eq_ix2 _, coef3_eq, root3_eq h p y gp gf wg wp]
  exact norm_form (arow h p y gp gf wg wp i).h3 (arow h p y gp gf wg wp i).dxh b

theorem dpp_eq : (val_main_v80 (F := Ideal) h p y gp gf wg wp (ix2 i b) : EReal) = (arow h p y gp gf wg wp i).dpp b := by
  rw [val_main_v80_apply, dh3_eq, gate_eq h p y gp gf wg wp]
  exact mul_comm _ _

theorem dgp_eq : (val_main_v82 (F := Ideal) h p y gp gf wg wp (ix2 i b) : EReal) = (arow h p y gp gf wg wp i).dgp b := by
  rw [val_main_v82_apply, val_main_v81_apply, dh3_eq, pp_eq h p y gp gf wg wp, val_main_v26_apply, val_main_v25_apply,
    gate_eq h p y gp gf wg wp]
  exact (mul_assoc _ _ _).symm

theorem dn_eq : (val_main_v83 (F := Ideal) h p y gp gf wg wp (ix2 i b) : EReal) = (arow h p y gp gf wg wp i).dn b := by
  rw [val_main_v83_apply]
  refine Finset.sum_congr rfl fun k _ => ?_
  rw [show lidx_main_v83 (ix2 i b) k = ix2 i k from eq_ix2 _, show ridx_main_v83 (ix2 i b) k = ix2 b k from eq_ix2 _, dgp_eq]
  rfl

theorem dng_eq : (val_main_v88 (F := Ideal) h p y gp gf wg wp (ix2 i b) : EReal)
    = (arow h p y gp gf wg wp i).dn b * (arow h p y gp gf wg wp i).gp b := by
  rw [val_main_v88_apply, dn_eq, val_main_v87_apply, val_main_v13_apply, show idx_main_v13 (idx_main_v87 (ix2 i b)) = ix1 b from eq_ix1 _]
  rfl

theorem coef_eq : (val_main_v98 (F := Ideal) h p y gp gf wg wp (ix1 i) : EReal)
    = Ideal.div ((∑ k, (arow h p y gp gf wg wp i).X k * ((arow h p y gp gf wg wp i).dn k * (arow h p y gp gf wg wp i).gp k))
        * (Ideal.ofBits .f32 0xBF000000#32 * Ideal.div (root (arow h p y gp gf wg wp i).X) (msq (arow h p y gp gf wg wp i).X len eps))) len := by
  rw [val_main_v98_apply, Fin.sum_univ_one, show idx_main_v98 (ix1 i) 0 = ix2 i 0 from eq_ix2 _, val_main_v97_apply,
    val_main_v95_apply, val_main_v92_apply, val_main_v91_apply, val_main_v10_apply, val_main_v8_apply, ms_eq, root_eq]
  have hk : ∀ k, (val_main_v90 (F := Ideal) h p y gp gf wg wp (idx_main_v91 (idx_main_v92 (ix2 i 0)) k) : EReal)
      = (arow h p y gp gf wg wp i).X k * ((arow h p y gp gf wg wp i).dn k * (arow h p y gp gf wg wp i).gp k) := fun k => by
    rw [show idx_main_v91 (idx_main_v92 (ix2 i 0)) k = ix2 i k from (eq_ix2 _).trans (congrArg₂ ix2 (Fin.ext (by
      show i.val * 1 + 0 = i.val; omega)) rfl), val_main_v90_apply, dng_eq]
    rfl
  show Ideal.ofBits .f32 0x00000000#32 + Ideal.div ((Ideal.ofBits .f32 0x00000000#32 + ∑ k : Fin 1024, (_ : EReal)) * _) _ = _
  simp only [hk]
  rw [Ideal.ofBits_zero_f32, zero_add, zero_add]
  rfl

theorem dh2_eq : (val_main_v104 (F := Ideal) h p y gp gf wg wp (ix2 i b) : EReal) = (arow h p y gp gf wg wp i).dh2 b := by
  rw [val_main_v104_apply, val_main_v103_apply, val_main_v101_apply, val_main_v94_apply, val_main_v100_apply, val_main_v102_apply,
    val_main_v99_apply, val_main_v93_apply, dh3_eq, dng_eq, show idx_main_v99 (ix2 i b) = ix1 i from eq_ix1 _,
    show idx_main_v93 (ix2 i b) = ix2 i 0 from eq_ix2 _, coef_eq, root_eq]
  exact congrArg (fun s : EReal => (arow h p y gp gf wg wp i).dh3 b + s) (norm_form (arow h p y gp gf wg wp i).X
    (fun k => (arow h p y gp gf wg wp i).dn k * (arow h p y gp gf wg wp i).gp k) b)

/-! ## The sums -/

theorem dgf_eq : (val_main_v105 (F := Ideal) h p y gp gf wg wp (ix2 0 b) : EReal)
    = ∑ i, (arow h p y gp gf wg wp i).dy b * (arow h p y gp gf wg wp i).xh b := by
  rw [val_main_v105_apply, val_main_v65_apply, Fin.sum_univ_one, val_main_v62_apply, val_main_v61_apply]
  show Ideal.ofBits .f32 0x00000000#32 + (Ideal.ofBits .f32 0x00000000#32 + ∑ k : Fin 4096, (_ : EReal)) = _
  rw [Ideal.ofBits_zero_f32, zero_add, zero_add]
  refine Finset.sum_congr rfl fun k _ => ?_
  rw [show idx_main_v61 (idx_main_v62 (idx_main_v65 (idx_main_v105 (ix2 0 b)) 0)) k = ix2 k b from (eq_ix2 _).trans
    (congrArg₂ ix2 rfl (Fin.ext (by show 0 * 1024 + b.val = b.val; omega))), val_main_v60_apply, xh_eq h p y gp gf wg wp, dy_eq]
  exact mul_comm _ _

theorem dgple_eq : (val_main_v106 (F := Ideal) h p y gp gf wg wp (ix2 0 b) : EReal)
    = ∑ i, (arow h p y gp gf wg wp i).dn b * (arow h p y gp gf wg wp i).xn b := by
  rw [val_main_v106_apply, val_main_v89_apply, Fin.sum_univ_one, val_main_v86_apply, val_main_v85_apply]
  show Ideal.ofBits .f32 0x00000000#32 + (Ideal.ofBits .f32 0x00000000#32 + ∑ k : Fin 4096, (_ : EReal)) = _
  rw [Ideal.ofBits_zero_f32, zero_add, zero_add]
  refine Finset.sum_congr rfl fun k _ => ?_
  rw [show idx_main_v85 (idx_main_v86 (idx_main_v89 (idx_main_v106 (ix2 0 b)) 0)) k = ix2 k b from (eq_ix2 _).trans
    (congrArg₂ ix2 rfl (Fin.ext (by show 0 * 1024 + b.val = b.val; omega))), val_main_v84_apply, xn_eq h p y gp gf wg wp, dn_eq]
  exact mul_comm _ _

/-- The eight rows of sums: two norm weights' gradients, the loss in every column, and five rows of zeros. -/
def sums (r : Fin 8) : EReal :=
  if r.val = 2 then half * ∑ i, (arow h p y gp gf wg wp i).loss
  else if r.val = 1 then ∑ i, (arow h p y gp gf wg wp i).dn b * (arow h p y gp gf wg wp i).xn b
  else if r.val = 0 then ∑ i, (arow h p y gp gf wg wp i).dy b * (arow h p y gp gf wg wp i).xh b
  else 0

theorem sums_eq (r : Fin 8) : (val_main_v109 (F := Ideal) h p y gp gf wg wp (ix2 r b) : EReal) = sums h p y gp gf wg wp b r := by
  unfold val_main_v109 sums
  have off : ∀ (s : Fin 2), s ≠ 0 → s = 1 := by decide
  split
  · next hr =>
    refine (concatenate_apply_piece _ _ _ (ix2 r b) 2 (by exact (show (2 : ℕ) < 4 by decide)) S1x1024 _ rfl rfl 2 rfl (ix2 0 b) (fun d hd => ?_) ?_).trans ?_
    · obtain rfl := off d hd
      rfl
    · exact hr.symm
    · rw [val_main_v107_apply]
      exact total_eq h p y gp gf wg wp _
  · next hr2 =>
    split
    · next hr =>
      refine (concatenate_apply_piece _ _ _ (ix2 r b) 1 (by exact (show (1 : ℕ) < 4 by decide)) S1x1024 _ rfl rfl 1 rfl (ix2 0 b) (fun d hd => ?_) ?_).trans ?_
      · obtain rfl := off d hd
        rfl
      · exact hr.symm
      · exact dgple_eq h p y gp gf wg wp b
    · next hr1 =>
      split
      · next hr =>
        refine (concatenate_apply_piece _ _ _ (ix2 r b) 0 (by exact (show (0 : ℕ) < 4 by decide)) S1x1024 _ rfl rfl 0 rfl (ix2 0 b) (fun d hd => ?_) ?_).trans ?_
        · obtain rfl := off d hd
          rfl
        · exact hr.symm
        · exact dgf_eq h p y gp gf wg wp b
      · next hr0 =>
        refine (concatenate_apply_piece _ _ _ (ix2 r b) 3 (by exact (show (3 : ℕ) < 4 by decide)) S5x1024 _ rfl rfl 3 rfl (ix2 ⟨r.val - 3, by omega⟩ b) (fun d hd => ?_) ?_).trans ?_
        · obtain rfl := off d hd
          rfl
        · show 3 + (r.val - 3) = r.val
          omega
        · rw [val_main_v108_apply]
          exact Ideal.ofBits_zero_f32

end Cert.Kernel5Ideal.Ref

end
-- ==== Proof.PleRun.lean ====
/-
  The embedding and loss call: the seven result arrays are the reference's.

    iblk_…, blk_row   a point's blocks are rows of the arguments;
    acc_at            the sums after each point;
    arr_…             the result arrays, element by element;
    algebraic_ple     the claim.
-/
module

public import proofs.«01_k».proof.Defs
public import proofs.«01_k».proof.Proof.PlePoint
public import proofs.«01_k».proof.Proof.PlePay
public import proofs.«01_k».proof.Proof.PleRef
public import Idealize.ShloMosaic.Lib.StableHlo.RunRead

@[expose] public section

set_option maxRecDepth 16384

noncomputable section

open Idealize.ShloMosaic Idealize.ShloMosaic.TcCoe Idealize.ShloMosaic.ValueIdx Idealize.SL.Sem

namespace Cert.Kernel5Ideal.Result

open Cert.Kernel5Ideal Cert.Kernel5Ideal.Gen Cert.Kernel5Ideal.Value Cert.Kernel5Ideal.Point Cert.Kernel5Ideal.Pay Cert.Shared
open Cert.KernelIdeal.Algebra Cert.Ple

section Kernel

variable (m : (ℓ : Loc nD τ sig) → Buf (Elt Ideal) ℓ) (c : Dev nD)

/-- The arguments: the stream, the embeddings, the targets, the two norms' weights, the gate's weight and the projection's. -/
abbrev h : S4096x1024.Idx → EReal := m ((c : Thread nD τ).loc main_arg0)
abbrev p : S4096x256.Idx → EReal := m ((c : Thread nD τ).loc main_arg1)
abbrev y : S4096x1024.Idx → EReal := m ((c : Thread nD τ).loc main_arg2)
abbrev gp : S1024.Idx → EReal := m ((c : Thread nD τ).loc main_arg3)
abbrev gf : S1024.Idx → EReal := m ((c : Thread nD τ).loc main_arg4)
abbrev wg : S1024x1024.Idx → EReal := m ((c : Thread nD τ).loc main_arg5)
abbrev wp : S256x1024.Idx → EReal := m ((c : Thread nD τ).loc main_arg6)

/-- Row `i` of the arguments. -/
abbrev R (i : Fin 4096) : Row := Ref.arow (h m c) (p m c) (y m c) (gp m c) (gf m c) (wg m c) (wp m c) i

theorem V_gp (k : Fin 1024) : (V m c main_v0 : S1x1024.Idx → EReal) (ix2 0 k) = gp m c (ix1 k) := by
  unfold V hostOps0
  after_reads_simp
  exact broadcastInDim_apply _ bcast_S1024_S1x1024_1 (gp m c) (ix2 0 k) (ix1 k) (fun a => match a with
    | ⟨0, _⟩ => by show k.val = if (1024 : Nat) = 1 then 0 else k.val; rw [if_neg (by decide)])

theorem V_gf (k : Fin 1024) : (V m c main_v1 : S1x1024.Idx → EReal) (ix2 0 k) = gf m c (ix1 k) := by
  unfold V hostOps0
  after_reads_simp
  exact broadcastInDim_apply _ bcast_S1024_S1x1024_1 (gf m c) (ix2 0 k) (ix1 k) (fun a => match a with
    | ⟨0, _⟩ => by show k.val = if (1024 : Nat) = 1 then 0 else k.val; rw [if_neg (by decide)])

theorem V_wg : (V m c main_v2 : S1024x1024.Idx → EReal) = wg m c := by
  unfold V hostOps0
  after_reads_simp
  rfl

theorem V_wp : (V m c main_v3 : S256x1024.Idx → EReal) = wp m c := by
  unfold V hostOps0
  after_reads_simp
  rfl

/-! ## A point's blocks

Point `t` of the grid has the rows from `512 t` on. -/

theorem N_eq (t : Fin cfg0.N) : t.val < 8 := lt_of_lt_of_eq t.isLt N_0

/-- Row `a` of point `t`. -/
abbrev rw' (t : Fin cfg0.N) (a : Fin 512) : Fin 4096 := ⟨512 * t.val + a.val, by have := N_eq t; omega⟩

theorem idx_0 : ∀ t : Fin grid0.N, (win0_0.index t 0 = t.val) ∧ (win0_0.index t 1 = 0) := by decide +kernel
theorem idx_1 : ∀ t : Fin grid0.N, (win0_1.index t 0 = t.val) ∧ (win0_1.index t 1 = 0) := by decide +kernel
theorem idx_2 : ∀ t : Fin grid0.N, (win0_2.index t 0 = t.val) ∧ (win0_2.index t 1 = 0) := by decide +kernel
theorem idx_7 : ∀ t : Fin grid0.N, (win0_7.index t 0 = t.val) ∧ (win0_7.index t 1 = 0) := by decide +kernel
theorem idx_8 : ∀ t : Fin grid0.N, (win0_8.index t 0 = t.val) ∧ (win0_8.index t 1 = 0) := by decide +kernel
theorem idx_9 : ∀ t : Fin grid0.N, (win0_9.index t 0 = t.val) ∧ (win0_9.index t 1 = 0) := by decide +kernel
theorem idx_10 : ∀ t : Fin grid0.N, (win0_10.index t 0 = t.val) ∧ (win0_10.index t 1 = 0) := by decide +kernel
theorem idx_11 : ∀ t : Fin grid0.N, (win0_11.index t 0 = t.val) ∧ (win0_11.index t 1 = 0) := by decide +kernel
theorem idx_12 : ∀ t : Fin grid0.N, (win0_12.index t 0 = t.val) ∧ (win0_12.index t 1 = 0) := by decide +kernel
theorem idx_3 : ∀ t : Fin grid0.N, (win0_3.index t 0 = 0) ∧ (win0_3.index t 1 = 0) := by decide +kernel
theorem idx_4 : ∀ t : Fin grid0.N, (win0_4.index t 0 = 0) ∧ (win0_4.index t 1 = 0) := by decide +kernel
theorem idx_5 : ∀ t : Fin grid0.N, (win0_5.index t 0 = 0) ∧ (win0_5.index t 1 = 0) := by decide +kernel
theorem idx_6 : ∀ t : Fin grid0.N, (win0_6.index t 0 = 0) ∧ (win0_6.index t 1 = 0) := by decide +kernel
theorem idx_13 : ∀ t : Fin grid0.N, (win0_13.index t 0 = 0) ∧ (win0_13.index t 1 = 0) := by decide +kernel

theorem iblk_h (t : Fin cfg0.N) (a : Fin 512) (b : Fin 1024) : (iblk m c 0 t : S512x1024.Idx → EReal) (ix2 a b) = h m c (ix2 (rw' t a) b) := by
  unfold iblk
  rw [View.read_apply]
  show V m c main_arg0 _ = _
  rw [V_main_arg0]
  refine congrArg (h m c) (funext fun d => Fin.ext ?_)
  match d with
  | ⟨0, _⟩ => show win0_0.index t 0 * 512 + 1 * a.val = 512 * t.val + a.val; rw [(idx_0 t).1]; omega
  | ⟨1, _⟩ => show win0_0.index t 1 * 1024 + 1 * b.val = b.val; rw [(idx_0 t).2]; omega

theorem iblk_p (t : Fin cfg0.N) (a : Fin 512) (b : Fin 256) : (iblk m c 1 t : S512x256.Idx → EReal) (ix2 a b) = p m c (ix2 (rw' t a) b) := by
  unfold iblk
  rw [View.read_apply]
  show V m c main_arg1 _ = _
  rw [V_main_arg1]
  refine congrArg (p m c) (funext fun d => Fin.ext ?_)
  match d with
  | ⟨0, _⟩ => show win0_1.index t 0 * 512 + 1 * a.val = 512 * t.val + a.val; rw [(idx_1 t).1]; omega
  | ⟨1, _⟩ => show win0_1.index t 1 * 256 + 1 * b.val = b.val; rw [(idx_1 t).2]; omega

theorem iblk_y (t : Fin cfg0.N) (a : Fin 512) (b : Fin 1024) : (iblk m c 2 t : S512x1024.Idx → EReal) (ix2 a b) = y m c (ix2 (rw' t a) b) := by
  unfold iblk
  rw [View.read_apply]
  show V m c main_arg2 _ = _
  rw [V_main_arg2]
  refine congrArg (y m c) (funext fun d => Fin.ext ?_)
  match d with
  | ⟨0, _⟩ => show win0_2.index t 0 * 512 + 1 * a.val = 512 * t.val + a.val; rw [(idx_2 t).1]; omega
  | ⟨1, _⟩ => show win0_2.index t 1 * 1024 + 1 * b.val = b.val; rw [(idx_2 t).2]; omega

theorem iblk_gp (t : Fin cfg0.N) (b : Fin 1024) : (iblk m c 3 t : S1x1024.Idx → EReal) (ix2 0 b) = gp m c (ix1 b) := by
  unfold iblk
  rw [View.read_apply]
  refine Eq.trans (congrArg (V m c main_v0 : S1x1024.Idx → EReal) (funext fun d => Fin.ext ?_)) (V_gp m c b)
  match d with
  | ⟨0, _⟩ => show win0_3.index t 0 * 1 + 1 * 0 = 0; rw [(idx_3 t).1]
  | ⟨1, _⟩ => show win0_3.index t 1 * 1024 + 1 * b.val = b.val; rw [(idx_3 t).2]; omega

theorem iblk_gf (t : Fin cfg0.N) (b : Fin 1024) : (iblk m c 4 t : S1x1024.Idx → EReal) (ix2 0 b) = gf m c (ix1 b) := by
  unfold iblk
  rw [View.read_apply]
  refine Eq.trans (congrArg (V m c main_v1 : S1x1024.Idx → EReal) (funext fun d => Fin.ext ?_)) (V_gf m c b)
  match d with
  | ⟨0, _⟩ => show win0_4.index t 0 * 1 + 1 * 0 = 0; rw [(idx_4 t).1]
  | ⟨1, _⟩ => show win0_4.index t 1 * 1024 + 1 * b.val = b.val; rw [(idx_4 t).2]; omega

theorem iblk_wg (t : Fin cfg0.N) (k : Fin 1024) (b : Fin 1024) : (iblk m c 5 t : S1024x1024.Idx → EReal) (ix2 k b) = wg m c (ix2 k b) := by
  unfold iblk
  rw [View.read_apply]
  refine Eq.trans (congrArg (V m c main_v2 : S1024x1024.Idx → EReal) (funext fun d => Fin.ext ?_)) (congrFun (V_wg m c) (ix2 k b))
  match d with
  | ⟨0, _⟩ => show win0_5.index t 0 * 1024 + 1 * k.val = k.val; rw [(idx_5 t).1]; omega
  | ⟨1, _⟩ => show win0_5.index t 1 * 1024 + 1 * b.val = b.val; rw [(idx_5 t).2]; omega

theorem iblk_wp (t : Fin cfg0.N) (k : Fin 256) (b : Fin 1024) : (iblk m c 6 t : S256x1024.Idx → EReal) (ix2 k b) = wp m c (ix2 k b) := by
  unfold iblk
  rw [View.read_apply]
  refine Eq.trans (congrArg (V m c main_v3 : S256x1024.Idx → EReal) (funext fun d => Fin.ext ?_)) (congrFun (V_wp m c) (ix2 k b))
  match d with
  | ⟨0, _⟩ => show win0_6.index t 0 * 256 + 1 * k.val = k.val; rw [(idx_6 t).1]; omega
  | ⟨1, _⟩ => show win0_6.index t 1 * 1024 + 1 * b.val = b.val; rw [(idx_6 t).2]; omega

/-- The blocks of a point. -/
abbrev B (t : Fin cfg0.N) : Blocks :=
  ⟨iblk m c 0 t, iblk m c 1 t, iblk m c 2 t, iblk m c 3 t, iblk m c 4 t, iblk m c 5 t, iblk m c 6 t⟩

theorem blk_row (t : Fin cfg0.N) (a : Fin 512) : (B m c t).row a = R m c (rw' t a) := by
  unfold Blocks.row R Ref.arow
  simp only [iblk_h, iblk_p, iblk_y, iblk_gp, iblk_gf, iblk_wg, iblk_wp]

/-! ## The sums -/

/-- What a point adds to the sums. -/
def share (r : Fin 8) (b : Fin 1024) (n : ℕ) : EReal :=
  if hn : n < 8 then
    if r.val = 2 then half * ∑ a : Fin 512, (R m c ⟨512 * n + a.val, by omega⟩).loss
    else if r.val = 1 then ∑ a : Fin 512, (R m c ⟨512 * n + a.val, by omega⟩).dn b * (R m c ⟨512 * n + a.val, by omega⟩).xn b
    else if r.val = 0 then ∑ a : Fin 512, (R m c ⟨512 * n + a.val, by omega⟩).dy b * (R m c ⟨512 * n + a.val, by omega⟩).xh b
    else 0
  else 0

theorem row0_at (v : Vec Ideal S8x1024 .f32) (r : Fin 8) (hr : r.val = 0) (b : Fin 1024) : (row0 v (ix2 0 b) : EReal) = v (ix2 r b) :=
  congrArg v ((eq_ix2 _).trans (congrArg₂ ix2 (Fin.ext hr.symm) (Fin.ext (by show 0 + 1 * b.val = b.val; omega))))

theorem row1_at (v : Vec Ideal S8x1024 .f32) (r : Fin 8) (hr : r.val = 1) (b : Fin 1024) : (row1 v (ix2 0 b) : EReal) = v (ix2 r b) :=
  congrArg v ((eq_ix2 _).trans (congrArg₂ ix2 (Fin.ext hr.symm) (Fin.ext (by show 0 + 1 * b.val = b.val; omega))))

theorem row2_at (v : Vec Ideal S8x1024 .f32) (r : Fin 8) (hr : r.val = 2) (b : Fin 1024) : (row2 v (ix2 0 b) : EReal) = v (ix2 r b) :=
  congrArg v ((eq_ix2 _).trans (congrArg₂ ix2 (Fin.ext hr.symm) (Fin.ext (by show 0 + 1 * b.val = b.val; omega))))

theorem loss_at (t : Fin cfg0.N) :
    (k0_pay16 (iblk m c 0 t) (k0_pay7 (iblk m c 4 t)) (gate m c t) (pb m c t) (iblk m c 6 t) (iblk m c 2 t) (ix2 0 0) : EReal)
      = half * ∑ a : Fin 512, (R m c (rw' t a)).loss := by
  simp only [← blk_row]
  exact loss_apply (B m c t)

theorem dgple_at (t : Fin cfg0.N) (b : Fin 1024) :
    (k0_pay27 (iblk m c 0 t) (gate m c t) (pp m c t) (root3 m c t) (dxh m c t) (back m c t) (iblk m c 5 t) (ix2 0 b) : EReal)
      = ∑ a : Fin 512, (R m c (rw' t a)).dn b * (R m c (rw' t a)).xn b := by
  simp only [← blk_row]
  exact dgple_apply (B m c t) b

theorem dgf_at (t : Fin cfg0.N) (b : Fin 1024) :
    (k0_pay18 (iblk m c 0 t) (k0_pay7 (iblk m c 4 t)) (gate m c t) (pb m c t) (iblk m c 6 t) (iblk m c 2 t) (ix2 0 b) : EReal)
      = ∑ a : Fin 512, (R m c (rw' t a)).dy b * (R m c (rw' t a)).xh b := by
  simp only [← blk_row]
  exact dgf_apply (B m c t) b

theorem step_at (t : Fin cfg0.N) (v : Vec Ideal S8x1024 .f32) (r : Fin 8) (b : Fin 1024) :
    (step m c t v r b : EReal) = v (ix2 r b) + share m c r b t.val := by
  unfold step rows share
  rw [dif_pos (N_eq t)]
  split
  · next hr => rw [pay4_apply, row2_at v r hr b, loss_at]
  · split
    · next hr => rw [pay3_apply, row1_at v r hr b, dgple_at]
    · split
      · next hr => rw [pay2_apply, row0_at v r hr b, dgf_at]
      · exact (add_zero _).symm

/-- The sums after point `n`. -/
theorem acc_at : ∀ (n : ℕ) (hn : n < cfg0.N) (r : Fin 8) (b : Fin 1024),
    ((outsAt0 m c n hn).2.2.2.2.2.2 (ix2 r b) : EReal) = ∑ q ∈ Finset.range (n + 1), share m c r b q
  | 0, hn, r, b => by
    refine (point_acc_first m c ⟨0, hn⟩ rfl r b).trans ((step_at m c ⟨0, hn⟩ _ r b).trans ?_)
    rw [pay5_apply, zero_add, Finset.sum_range_one]
  | n + 1, hn, r, b => by
    have hN : n + 1 < 8 := lt_of_lt_of_eq hn N_0
    have ih := acc_at n (Nat.lt_of_succ_lt hn) r b
    refine (point_acc_next m c ⟨n + 1, hn⟩ (show ¬(n + 1) % 8 = 0 by omega) r b).trans ((step_at m c ⟨n + 1, hn⟩ _ r b).trans ?_)
    rw [Finset.sum_range_succ, ← ih]
    rfl

theorem share_sum (r : Fin 8) (b : Fin 1024) : ∑ q : Fin 8, share m c r b q.val
    = Ref.sums (h m c) (p m c) (y m c) (gp m c) (gf m c) (wg m c) (wp m c) b r := by
  unfold share Ref.sums
  split
  · simp only [Fin.is_lt, dite_true]
    rw [Finset.sum_congr rfl fun q _ => mul_comm half _, word_half, sum_mul_coe _ (by norm_num), mul_comm]
    exact congrArg (fun s : EReal => _ * s) (sum_blocks (p := 8) (q := 512) (by norm_num) (fun i => (R m c i).loss) (fun s j => by omega))
  · split
    · simp only [Fin.is_lt, dite_true]
      exact sum_blocks (p := 8) (q := 512) (by norm_num) (fun i => (R m c i).dn b * (R m c i).xn b) (fun s j => by omega)
    · split
      · simp only [Fin.is_lt, dite_true]
        exact sum_blocks (p := 8) (q := 512) (by norm_num) (fun i => (R m c i).dy b * (R m c i).xh b) (fun s j => by omega)
      · simp only [Fin.is_lt, dite_true]
        exact Finset.sum_const_zero

/-! ## The result arrays -/

theorem pay1_apply (u : FVec Ideal S512x1024 .f32) (a : Fin 512) (b : Fin 1024) : (k0_pay1 u (ix2 a b) : EReal) = u (ix2 a b) := rfl

/-- Every row is a row of a point. -/
theorem row_of (i : Fin 4096) : ∃ (t : Fin cfg0.N) (a : Fin 512), i = rw' t a :=
  ⟨⟨i.val / 512, by rw [show cfg0.N = 8 from N_0]; omega⟩, ⟨i.val % 512, Nat.mod_lt _ (by norm_num)⟩,
    Fin.ext (by show i.val = 512 * (i.val / 512) + i.val % 512; omega)⟩

theorem dh_at (t : Fin cfg0.N) (a : Fin 512) (b : Fin 1024) : ((outsAt0 m c t.val t.isLt).1 (ix2 a b) : EReal) = (R m c (rw' t a)).dh2 b := by
  rw [← blk_row]
  exact (congrFun (point_dh m c t) (ix2 a b)).trans (dh2_apply (B m c t) a b)

theorem arr_dh (i : Fin 4096) (b : Fin 1024) : ((dats m 0 c).arrAt 7 cfg0.N : S4096x1024.Idx → EReal) (ix2 i b) = (R m c i).dh2 b := by
  obtain ⟨t, a, rfl⟩ := row_of i
  have hb := congrFun (blocks7 m c t (flush0_7 t)) (ix2 (n0 := 512) (n1 := 1024) a b)
  rw [View.read_apply, flushed7] at hb
  refine Eq.trans (congrArg ((dats m 0 c).arrAt 7 cfg0.N : S4096x1024.Idx → EReal) (funext fun d => Fin.ext ?_)) (hb.trans (Eq.trans ?_ (dh_at m c t a b)))
  · match d with
    | ⟨0, _⟩ => show 512 * t.val + a.val = win0_7.index t 0 * 512 + 1 * a.val; rw [(idx_7 t).1]; omega
    | ⟨1, _⟩ => show b.val = win0_7.index t 1 * 1024 + 1 * b.val; rw [(idx_7 t).2]; omega
  · refine congrArg ((outsAt0 m c t.val t.isLt).1 : S512x1024.Idx → EReal) (funext fun d => Fin.ext ?_)
    match d with
    | ⟨0, _⟩ => rfl
    | ⟨1, _⟩ => rfl

theorem dhb_at (t : Fin cfg0.N) (a : Fin 512) (b : Fin 1024) : ((outsAt0 m c t.val t.isLt).2.1 (ix2 a b) : EReal) = (R m c (rw' t a)).dh2 b := by
  rw [← blk_row]
  exact (congrFun (point_dhb m c t) (ix2 a b)).trans ((pay1_apply _ a b).trans (dh2_apply (B m c t) a b))

theorem arr_dhb (i : Fin 4096) (b : Fin 1024) : ((dats m 0 c).arrAt 8 cfg0.N : S4096x1024.Idx → EReal) (ix2 i b) = (R m c i).dh2 b := by
  obtain ⟨t, a, rfl⟩ := row_of i
  have hb := congrFun (blocks8 m c t (flush0_8 t)) (ix2 (n0 := 512) (n1 := 1024) a b)
  rw [View.read_apply, flushed8] at hb
  refine Eq.trans (congrArg ((dats m 0 c).arrAt 8 cfg0.N : S4096x1024.Idx → EReal) (funext fun d => Fin.ext ?_)) (hb.trans (Eq.trans ?_ (dhb_at m c t a b)))
  · match d with
    | ⟨0, _⟩ => show 512 * t.val + a.val = win0_8.index t 0 * 512 + 1 * a.val; rw [(idx_8 t).1]; omega
    | ⟨1, _⟩ => show b.val = win0_8.index t 1 * 1024 + 1 * b.val; rw [(idx_8 t).2]; omega
  · refine congrArg ((outsAt0 m c t.val t.isLt).2.1 : S512x1024.Idx → EReal) (funext fun d => Fin.ext ?_)
    match d with
    | ⟨0, _⟩ => rfl
    | ⟨1, _⟩ => rfl

theorem dgp_at (t : Fin cfg0.N) (a : Fin 512) (b : Fin 1024) : ((outsAt0 m c t.val t.isLt).2.2.1 (ix2 a b) : EReal) = (R m c (rw' t a)).dgp b := by
  rw [← blk_row]
  exact (congrFun (point_dgp m c t) (ix2 a b)).trans (dgp_apply (B m c t) a b)

theorem arr_dgp (i : Fin 4096) (b : Fin 1024) : ((dats m 0 c).arrAt 9 cfg0.N : S4096x1024.Idx → EReal) (ix2 i b) = (R m c i).dgp b := by
  obtain ⟨t, a, rfl⟩ := row_of i
  have hb := congrFun (blocks9 m c t (flush0_9 t)) (ix2 (n0 := 512) (n1 := 1024) a b)
  rw [View.read_apply, flushed9] at hb
  refine Eq.trans (congrArg ((dats m 0 c).arrAt 9 cfg0.N : S4096x1024.Idx → EReal) (funext fun d => Fin.ext ?_)) (hb.trans (Eq.trans ?_ (dgp_at m c t a b)))
  · match d with
    | ⟨0, _⟩ => show 512 * t.val + a.val = win0_9.index t 0 * 512 + 1 * a.val; rw [(idx_9 t).1]; omega
    | ⟨1, _⟩ => show b.val = win0_9.index t 1 * 1024 + 1 * b.val; rw [(idx_9 t).2]; omega
  · refine congrArg ((outsAt0 m c t.val t.isLt).2.2.1 : S512x1024.Idx → EReal) (funext fun d => Fin.ext ?_)
    match d with
    | ⟨0, _⟩ => rfl
    | ⟨1, _⟩ => rfl

theorem dpp_at (t : Fin cfg0.N) (a : Fin 512) (b : Fin 1024) : ((outsAt0 m c t.val t.isLt).2.2.2.1 (ix2 a b) : EReal) = (R m c (rw' t a)).dpp b := by
  rw [← blk_row]
  exact (congrFun (point_dpp m c t) (ix2 a b)).trans (dpp_apply (B m c t) a b)

theorem arr_dpp (i : Fin 4096) (b : Fin 1024) : ((dats m 0 c).arrAt 10 cfg0.N : S4096x1024.Idx → EReal) (ix2 i b) = (R m c i).dpp b := by
  obtain ⟨t, a, rfl⟩ := row_of i
  have hb := congrFun (blocks10 m c t (flush0_10 t)) (ix2 (n0 := 512) (n1 := 1024) a b)
  rw [View.read_apply, flushed10] at hb
  refine Eq.trans (congrArg ((dats m 0 c).arrAt 10 cfg0.N : S4096x1024.Idx → EReal) (funext fun d => Fin.ext ?_)) (hb.trans (Eq.trans ?_ (dpp_at m c t a b)))
  · match d with
    | ⟨0, _⟩ => show 512 * t.val + a.val = win0_10.index t 0 * 512 + 1 * a.val; rw [(idx_10 t).1]; omega
    | ⟨1, _⟩ => show b.val = win0_10.index t 1 * 1024 + 1 * b.val; rw [(idx_10 t).2]; omega
  · refine congrArg ((outsAt0 m c t.val t.isLt).2.2.2.1 : S512x1024.Idx → EReal) (funext fun d => Fin.ext ?_)
    match d with
    | ⟨0, _⟩ => rfl
    | ⟨1, _⟩ => rfl

theorem n3_at (t : Fin cfg0.N) (a : Fin 512) (b : Fin 1024) : ((outsAt0 m c t.val t.isLt).2.2.2.2.1 (ix2 a b) : EReal) = (R m c (rw' t a)).n3 b := by
  rw [← blk_row]
  exact (congrFun (point_n3 m c t) (ix2 a b)).trans (n3_apply (B m c t) a b)

theorem arr_n3 (i : Fin 4096) (b : Fin 1024) : ((dats m 0 c).arrAt 11 cfg0.N : S4096x1024.Idx → EReal) (ix2 i b) = (R m c i).n3 b := by
  obtain ⟨t, a, rfl⟩ := row_of i
  have hb := congrFun (blocks11 m c t (flush0_11 t)) (ix2 (n0 := 512) (n1 := 1024) a b)
  rw [View.read_apply, flushed11] at hb
  refine Eq.trans (congrArg ((dats m 0 c).arrAt 11 cfg0.N : S4096x1024.Idx → EReal) (funext fun d => Fin.ext ?_)) (hb.trans (Eq.trans ?_ (n3_at m c t a b)))
  · match d with
    | ⟨0, _⟩ => show 512 * t.val + a.val = win0_11.index t 0 * 512 + 1 * a.val; rw [(idx_11 t).1]; omega
    | ⟨1, _⟩ => show b.val = win0_11.index t 1 * 1024 + 1 * b.val; rw [(idx_11 t).2]; omega
  · refine congrArg ((outsAt0 m c t.val t.isLt).2.2.2.2.1 : S512x1024.Idx → EReal) (funext fun d => Fin.ext ?_)
    match d with
    | ⟨0, _⟩ => rfl
    | ⟨1, _⟩ => rfl

theorem pb_at (t : Fin cfg0.N) (a : Fin 512) (b : Fin 256) : ((outsAt0 m c t.val t.isLt).2.2.2.2.2.1 (ix2 a b) : EReal) = (R m c (rw' t a)).P b := by
  rw [← blk_row]
  exact (congrFun (point_pb m c t) (ix2 a b)).trans (rfl)

theorem arr_pb (i : Fin 4096) (b : Fin 256) : ((dats m 0 c).arrAt 12 cfg0.N : S4096x256.Idx → EReal) (ix2 i b) = (R m c i).P b := by
  obtain ⟨t, a, rfl⟩ := row_of i
  have hb := congrFun (blocks12 m c t (flush0_12 t)) (ix2 (n0 := 512) (n1 := 256) a b)
  rw [View.read_apply, flushed12] at hb
  refine Eq.trans (congrArg ((dats m 0 c).arrAt 12 cfg0.N : S4096x256.Idx → EReal) (funext fun d => Fin.ext ?_)) (hb.trans (Eq.trans ?_ (pb_at m c t a b)))
  · match d with
    | ⟨0, _⟩ => show 512 * t.val + a.val = win0_12.index t 0 * 512 + 1 * a.val; rw [(idx_12 t).1]; omega
    | ⟨1, _⟩ => show b.val = win0_12.index t 1 * 256 + 1 * b.val; rw [(idx_12 t).2]; omega
  · refine congrArg ((outsAt0 m c t.val t.isLt).2.2.2.2.2.1 : S512x256.Idx → EReal) (funext fun d => Fin.ext ?_)
    match d with
    | ⟨0, _⟩ => rfl
    | ⟨1, _⟩ => rfl

theorem arr_acc (r : Fin 8) (b : Fin 1024) : ((dats m 0 c).arrAt 13 cfg0.N : S8x1024.Idx → EReal) (ix2 r b)
    = Ref.sums (h m c) (p m c) (y m c) (gp m c) (gf m c) (wg m c) (wp m c) b r := by
  have h7 : 7 < cfg0.N := by rw [show cfg0.N = 8 from N_0]; omega
  have hf : (cfg0.win 13).flush ⟨7, h7⟩ = true := (flush0_13 ⟨7, h7⟩).mpr rfl
  have hd : ∀ t t' : Fin cfg0.N, (cfg0.win 13).flush t = true → (cfg0.win 13).flush t' = true → t ≠ t' →
      Disjoint ((cfg0.win 13).blk t).view.set ((cfg0.win 13).blk t').view.set := fun t t' e e' hne => absurd (Fin.ext (by
    have e := (flush0_13 t).mp e
    have e' := (flush0_13 t').mp e'
    have := N_eq t
    have := N_eq t'
    omega)) hne
  have hb := congrFun ((dats m 0 c).read_blk_arrAt_eq_flushed 13 hd cfg0.N ⟨7, h7⟩ h7 hf) (ix2 (n0 := 8) (n1 := 1024) r b)
  rw [View.read_apply, flushed13] at hb
  refine Eq.trans (congrArg ((dats m 0 c).arrAt 13 cfg0.N : S8x1024.Idx → EReal) (funext fun d => Fin.ext ?_)) (hb.trans (Eq.trans ?_ ((acc_at m c 7 h7 r b).trans ?_)))
  · match d with
    | ⟨0, _⟩ => show r.val = win0_13.index ⟨7, h7⟩ 0 * 8 + 1 * r.val; rw [(idx_13 ⟨7, h7⟩).1]; omega
    | ⟨1, _⟩ => show b.val = win0_13.index ⟨7, h7⟩ 1 * 1024 + 1 * b.val; rw [(idx_13 ⟨7, h7⟩).2]; omega
  · refine congrArg ((outsAt0 m c 7 h7).2.2.2.2.2.2 : S8x1024.Idx → EReal) (funext fun d => Fin.ext ?_)
    match d with
    | ⟨0, _⟩ => rfl
    | ⟨1, _⟩ => rfl
  · rw [Finset.sum_range]
    exact share_sum m c r b

end Kernel

end Cert.Kernel5Ideal.Result

namespace Cert.Proof

open Cert.Kernel5Ideal.Result Cert.Reference5Ideal.Read Cert.Shared

/-- The reference's run leaves its arguments and closes every semaphore. -/
theorem frame_reference5 : Cert.quiescent_Reference5Ideal := fun m ρ _ =>
  (θ_run Cert.Reference5Ideal.defs _ _).mono (fun r h => ⟨fun c => (h c).2.2.2.2.2.2.2,
      Idealize.ShloMosaic.sem_eq_zero_of_no_sems (by decide) r.2⟩)
    (Cert.Reference5Ideal.Value.run (F := Ideal) m ρ)

/-- The two programs, run on memories that hold the same arguments, leave the same seven results. -/
theorem algebraic_ple : Cert.algebraic_Kernel5Ideal_Reference5Ideal := by
  intro m ρ m' ρ' _ hagree
  refine ⟨fun c => val_main_v104 (F := Ideal) (h m c) (p m c) (y m c) (gp m c) (gf m c) (wg m c) (wp m c),
    fun c => val_main_v110 (F := Ideal) (h m c) (p m c) (y m c) (gp m c) (gf m c) (wg m c) (wp m c),
    fun c => val_main_v111 (F := Ideal) (h m c) (p m c) (y m c) (gp m c) (gf m c) (wg m c) (wp m c),
    fun c => val_main_v112 (F := Ideal) (h m c) (p m c) (y m c) (gp m c) (gf m c) (wg m c) (wp m c),
    fun c => val_main_v113 (F := Ideal) (h m c) (gp m c), fun c => val_main_v114 (F := Ideal) (p m c),
    fun c => val_main_v109 (F := Ideal) (h m c) (p m c) (y m c) (gp m c) (gf m c) (wg m c) (wp m c), ?_, ?_⟩
  · refine (θ_run Cert.Kernel5Ideal.defs _ _).mono (fun r hr c => ?_) (Cert.Kernel5Ideal.Value.run_blocks (F := Ideal) m ρ)
    obtain ⟨h0, h1, h2, h3, h4, h5, h6, ha⟩ := hr c
    exact ⟨h0.trans (ext2 _ _ fun i b => (arr_dh m c i b).trans (Cert.Kernel5Ideal.Ref.dh2_eq _ _ _ _ _ _ _ i b).symm),
      h1.trans (ext2 _ _ fun i b => (arr_dhb m c i b).trans (Cert.Kernel5Ideal.Ref.dh2_eq _ _ _ _ _ _ _ i b).symm),
      h2.trans (ext2 _ _ fun i b => (arr_dgp m c i b).trans (Cert.Kernel5Ideal.Ref.dgp_eq _ _ _ _ _ _ _ i b).symm),
      h3.trans (ext2 _ _ fun i b => (arr_dpp m c i b).trans (Cert.Kernel5Ideal.Ref.dpp_eq _ _ _ _ _ _ _ i b).symm),
      h4.trans (ext2 _ _ fun i b => (arr_n3 m c i b).trans (Cert.Kernel5Ideal.Ref.n3_eq _ _ _ _ _ _ _ i b).symm),
      h5.trans (ext2 _ _ fun i b => arr_pb m c i b),
      h6.trans (ext2 _ _ fun r b => (arr_acc m c r b).trans (Cert.Kernel5Ideal.Ref.sums_eq _ _ _ _ _ _ _ b r).symm), ha⟩
  · refine (θ_run Cert.Reference5Ideal.defs _ _).mono (fun r hr c => ?_) (Cert.Reference5Ideal.Value.run (F := Ideal) m' ρ')
    obtain ⟨h0, h1, h2, h3, h4, h5, h6, ha⟩ := hr c
    obtain ⟨a0, a1, a2, a3, a4, a5, a6⟩ := hagree c
    have e0 : StableHlo.launchContents m' c (Proc.devRef .tc Cert.Reference5Ideal.main_arg0) = Cert.Kernel5Ideal.Result.h m c := a0
    have e1 : StableHlo.launchContents m' c (Proc.devRef .tc Cert.Reference5Ideal.main_arg1) = Cert.Kernel5Ideal.Result.p m c := a1
    have e2 : StableHlo.launchContents m' c (Proc.devRef .tc Cert.Reference5Ideal.main_arg2) = Cert.Kernel5Ideal.Result.y m c := a2
    have e3 : StableHlo.launchContents m' c (Proc.devRef .tc Cert.Reference5Ideal.main_arg3) = Cert.Kernel5Ideal.Result.gp m c := a3
    have e4 : StableHlo.launchContents m' c (Proc.devRef .tc Cert.Reference5Ideal.main_arg4) = Cert.Kernel5Ideal.Result.gf m c := a4
    have e5 : StableHlo.launchContents m' c (Proc.devRef .tc Cert.Reference5Ideal.main_arg5) = Cert.Kernel5Ideal.Result.wg m c := a5
    have e6 : StableHlo.launchContents m' c (Proc.devRef .tc Cert.Reference5Ideal.main_arg6) = Cert.Kernel5Ideal.Result.wp m c := a6
    refine ⟨(h0.trans (val_main_v104_eq ..)).trans ?_, (h1.trans (val_main_v110_eq ..)).trans ?_, (h2.trans (val_main_v111_eq ..)).trans ?_,
      (h3.trans (val_main_v112_eq ..)).trans ?_, (h4.trans (val_main_v113_eq ..)).trans ?_, (h5.trans (val_main_v114_eq ..)).trans ?_,
      (h6.trans (val_main_v109_eq ..)).trans ?_, ha⟩
    · rw [e0, e1, e2, e3, e4, e5, e6]
    · rw [e0, e1, e2, e3, e4, e5, e6]
    · rw [e0, e1, e2, e3, e4, e5, e6]
    · rw [e0, e1, e2, e3, e4, e5, e6]
    · rw [e0, e3]
    · rw [e1]
    · rw [e0, e1, e2, e3, e4, e5, e6]

end Cert.Proof

end
-- ==== Proof.WgradIn.lean ====
/-
  The call that computes the gradient at the layer's input projections, transposed: the product of the gradient at the
  projections, padded with columns of zeros and transposed, with the normalised input. The columns come in four parts, each
  feeding its own rows of the result, and the sums over the rows are accumulated over four blocks of 1024 rows. Over the
  extended reals the result is the derivative of the product, padded with rows of zeros.
-/
module

public import proofs.«01_k».proof.Defs
public import proofs.«01_k».proof.Proof.Shared
public import proofs.«01_k».proof.Proof.Gen.Kernel6Ideal.Value
public import proofs.«01_k».proof.Proof.Gen.Reference6Ideal.Run
public import proofs.«01_k».proof.Proof.Gen.Reference6Ideal.Read
public import Idealize.ShloMosaic.Lib.ValueIdx
public import Idealize.ShloMosaic.Lib.WritesUnit
public import Idealize.ShloMosaic.Lib.Pipeline.RowLoads
public import Idealize.ShloMosaic.Lib.StableHlo.RunRead
public import Idealize.ShloMosaic.Lib.KernelVsHost

@[expose] public section

set_option maxRecDepth 16384

noncomputable section

open Idealize.ShloMosaic Idealize.ShloMosaic.TcCoe Idealize.ShloMosaic.ValueIdx Idealize.SL.Sem

namespace Cert.Kernel6Ideal.Result

open Cert.Kernel6Ideal Cert.Kernel6Ideal.Gen Cert.Kernel6Ideal.Value Cert.Shared Cert.Reference6Ideal.Read

theorem hz : (![0, 0] : Fin 2 → Nat) = fun _ => 0 := funext fun a => by fin_cases a <;> rfl

variable (m : (ℓ : Loc nD τ sig) → Buf (Elt Ideal) ℓ) (c : Dev nD)

theorem N_eq (t : Fin cfg0.N) : t.val < 4 := lt_of_lt_of_eq t.isLt N_0

/-- The two arguments: the normalised input, and the gradient at the projections. -/
abbrev u : S4096x1024.Idx → EReal := m ((c : Thread nD τ).loc main_arg0)
abbrev dproj : S4096x2824.Idx → EReal := m ((c : Thread nD τ).loc main_arg1)

/-- The value the host code pads with. -/
abbrev padv : (⟨S_, .f32⟩ : BufTy).Contents (Elt Ideal) := sitofp (F := Ideal) .f32 (constantI S_ 32 0#32)

theorem padv_eq (i : S_.Idx) : (padv i : EReal) = 0 := by
  show (((0#32 : BitVec 32).toInt : ℝ) : EReal) = 0
  simp

/-- The left factor: the gradient padded with columns of zeros. -/
abbrev lArr : S4096x2944.Idx → EReal :=
  pad S4096x2944 ![0, 0] ![0, 120] ![0, 0] (dproj m c : (⟨S4096x2824, .f32⟩ : BufTy).Contents (Elt Ideal)) padv pads_S4096x2824_S4096x2944_000_01200 h_S_

def lft (i : Fin 4096) (k : Fin 2944) : EReal := if h : k.val < 2824 then dproj m c (ix2 i ⟨k.val, h⟩) else 0

theorem lArr_apply (i : Fin 4096) (k : Fin 2944) : (lArr m c (ix2 i k) : EReal) = lft m c i k := by
  unfold lft
  split
  · next h =>
    refine pad_apply_of_inside _ _ _ _ _ _ _ (ix2 i k) (ix2 i ⟨k.val, h⟩) fun a => ?_
    match a with
    | ⟨0, _⟩ => show i.val = 0 + i.val * (0 + 1); omega
    | ⟨1, _⟩ => show k.val = 0 + k.val * (0 + 1); omega
  · next h =>
    refine (pad_apply_of_not_inside _ _ _ _ _ _ _ (ix2 i k) 1 fun hh => ?_).trans (padv_eq _)
    have h2 : (k.val - 0) / (0 + 1) < 2824 := hh.2.2
    omega

/-! ## The call's arguments and a point's blocks -/

theorem V_0 (i : Fin 4096) (k : Fin 512) : (V m c main_v2 : S4096x512.Idx → EReal) (ix2 i k) = lft m c i ⟨0 + k.val, by omega⟩ := by
  have e : (V m c main_v2 : S4096x512.Idx → EReal) = extractStridedSlice S4096x512 ![0, 0] (lArr m c) slices_S4096x2944_S4096x512_0_0 := by
    unfold V hostOps0 hostOps0_1 hostOps0_2
    simp only [List.flatten_cons, List.flatten_nil, List.append_nil, List.cons_append, List.nil_append]
    after_reads_simp
    rfl
  rw [e]
  refine (extractStridedSlice_apply ![0, 0] _ slices_S4096x2944_S4096x512_0_0 (ix2 i k) (ix2 i ⟨0 + k.val, by omega⟩) (fun d => match d with
    | ⟨0, _⟩ => (Nat.zero_add _).symm
    | ⟨1, _⟩ => rfl)).trans ?_
  exact lArr_apply m c i _

theorem V_1 (i : Fin 4096) (k : Fin 128) : (V m c main_v3 : S4096x128.Idx → EReal) (ix2 i k) = lft m c i ⟨512 + k.val, by omega⟩ := by
  have e : (V m c main_v3 : S4096x128.Idx → EReal) = extractStridedSlice S4096x128 ![0, 512] (lArr m c) slices_S4096x2944_S4096x128_0_512 := by
    unfold V hostOps0 hostOps0_1 hostOps0_2
    simp only [List.flatten_cons, List.flatten_nil, List.append_nil, List.cons_append, List.nil_append]
    after_reads_simp
    rfl
  rw [e]
  refine (extractStridedSlice_apply ![0, 512] _ slices_S4096x2944_S4096x128_0_512 (ix2 i k) (ix2 i ⟨512 + k.val, by omega⟩) (fun d => match d with
    | ⟨0, _⟩ => (Nat.zero_add _).symm
    | ⟨1, _⟩ => rfl)).trans ?_
  exact lArr_apply m c i _

theorem V_2 (i : Fin 4096) (k : Fin 128) : (V m c main_v4 : S4096x128.Idx → EReal) (ix2 i k) = lft m c i ⟨640 + k.val, by omega⟩ := by
  have e : (V m c main_v4 : S4096x128.Idx → EReal) = extractStridedSlice S4096x128 ![0, 640] (lArr m c) slices_S4096x2944_S4096x128_0_640 := by
    unfold V hostOps0 hostOps0_1 hostOps0_2
    simp only [List.flatten_cons, List.flatten_nil, List.append_nil, List.cons_append, List.nil_append]
    after_reads_simp
    rfl
  rw [e]
  refine (extractStridedSlice_apply ![0, 640] _ slices_S4096x2944_S4096x128_0_640 (ix2 i k) (ix2 i ⟨640 + k.val, by omega⟩) (fun d => match d with
    | ⟨0, _⟩ => (Nat.zero_add _).symm
    | ⟨1, _⟩ => rfl)).trans ?_
  exact lArr_apply m c i _

theorem V_3 (i : Fin 4096) (k : Fin 2176) : (V m c main_v5 : S4096x2176.Idx → EReal) (ix2 i k) = lft m c i ⟨768 + k.val, by omega⟩ := by
  have e : (V m c main_v5 : S4096x2176.Idx → EReal) = extractStridedSlice S4096x2176 ![0, 768] (lArr m c) slices_S4096x2944_S4096x2176_0_768 := by
    unfold V hostOps0 hostOps0_1 hostOps0_2
    simp only [List.flatten_cons, List.flatten_nil, List.append_nil, List.cons_append, List.nil_append]
    after_reads_simp
    rfl
  rw [e]
  refine (extractStridedSlice_apply ![0, 768] _ slices_S4096x2944_S4096x2176_0_768 (ix2 i k) (ix2 i ⟨768 + k.val, by omega⟩) (fun d => match d with
    | ⟨0, _⟩ => (Nat.zero_add _).symm
    | ⟨1, _⟩ => rfl)).trans ?_
  exact lArr_apply m c i _

theorem V_grd (i : S4096x1024.Idx) : (V m c main_v6 : S4096x1024.Idx → EReal) i = u m c i := by
  unfold V hostOps0 hostOps0_1 hostOps0_2
  simp only [List.flatten_cons, List.flatten_nil, List.append_nil, List.cons_append, List.nil_append]
  after_reads_simp
  rfl

/-- The row of the arguments at row `k` of point `t`. -/
abbrev rw' (t : Fin cfg0.N) (k : Fin 1024) : Fin 4096 := ⟨1024 * t.val + k.val, by have := N_eq t; omega⟩

theorem idx_0 : ∀ t : Fin grid0.N, (win0_0.index t 0 = t.val) ∧ (win0_0.index t 1 = 0) := by decide +kernel
theorem idx_1 : ∀ t : Fin grid0.N, (win0_1.index t 0 = t.val) ∧ (win0_1.index t 1 = 0) := by decide +kernel
theorem idx_2 : ∀ t : Fin grid0.N, (win0_2.index t 0 = t.val) ∧ (win0_2.index t 1 = 0) := by decide +kernel
theorem idx_3 : ∀ t : Fin grid0.N, (win0_3.index t 0 = t.val) ∧ (win0_3.index t 1 = 0) := by decide +kernel
theorem idx_4 : ∀ t : Fin grid0.N, (win0_4.index t 0 = t.val) ∧ (win0_4.index t 1 = 0) := by decide +kernel
theorem idx_5 : ∀ t : Fin grid0.N, (win0_5.index t 0 = 0) ∧ (win0_5.index t 1 = 0) := by decide +kernel

theorem iblk_0 (t : Fin cfg0.N) (k : Fin 1024) (a : Fin 512) : (iblk m c 0 t : S1024x512.Idx → EReal) (ix2 k a) = lft m c (rw' t k) ⟨0 + a.val, by omega⟩ := by
  unfold iblk
  rw [View.read_apply]
  refine Eq.trans (congrArg (V m c main_v2 : S4096x512.Idx → EReal) (funext fun d => Fin.ext ?_)) (V_0 m c (rw' t k) a)
  match d with
  | ⟨0, _⟩ => show win0_0.index t 0 * 1024 + 1 * k.val = 1024 * t.val + k.val; rw [(idx_0 t).1]; omega
  | ⟨1, _⟩ => show win0_0.index t 1 * 512 + 1 * a.val = a.val; rw [(idx_0 t).2]; omega

theorem iblk_1 (t : Fin cfg0.N) (k : Fin 1024) (a : Fin 128) : (iblk m c 1 t : S1024x128.Idx → EReal) (ix2 k a) = lft m c (rw' t k) ⟨512 + a.val, by omega⟩ := by
  unfold iblk
  rw [View.read_apply]
  refine Eq.trans (congrArg (V m c main_v3 : S4096x128.Idx → EReal) (funext fun d => Fin.ext ?_)) (V_1 m c (rw' t k) a)
  match d with
  | ⟨0, _⟩ => show win0_1.index t 0 * 1024 + 1 * k.val = 1024 * t.val + k.val; rw [(idx_1 t).1]; omega
  | ⟨1, _⟩ => show win0_1.index t 1 * 128 + 1 * a.val = a.val; rw [(idx_1 t).2]; omega

theorem iblk_2 (t : Fin cfg0.N) (k : Fin 1024) (a : Fin 128) : (iblk m c 2 t : S1024x128.Idx → EReal) (ix2 k a) = lft m c (rw' t k) ⟨640 + a.val, by omega⟩ := by
  unfold iblk
  rw [View.read_apply]
  refine Eq.trans (congrArg (V m c main_v4 : S4096x128.Idx → EReal) (funext fun d => Fin.ext ?_)) (V_2 m c (rw' t k) a)
  match d with
  | ⟨0, _⟩ => show win0_2.index t 0 * 1024 + 1 * k.val = 1024 * t.val + k.val; rw [(idx_2 t).1]; omega
  | ⟨1, _⟩ => show win0_2.index t 1 * 128 + 1 * a.val = a.val; rw [(idx_2 t).2]; omega

theorem iblk_3 (t : Fin cfg0.N) (k : Fin 1024) (a : Fin 2176) : (iblk m c 3 t : S1024x2176.Idx → EReal) (ix2 k a) = lft m c (rw' t k) ⟨768 + a.val, by omega⟩ := by
  unfold iblk
  rw [View.read_apply]
  refine Eq.trans (congrArg (V m c main_v5 : S4096x2176.Idx → EReal) (funext fun d => Fin.ext ?_)) (V_3 m c (rw' t k) a)
  match d with
  | ⟨0, _⟩ => show win0_3.index t 0 * 1024 + 1 * k.val = 1024 * t.val + k.val; rw [(idx_3 t).1]; omega
  | ⟨1, _⟩ => show win0_3.index t 1 * 2176 + 1 * a.val = a.val; rw [(idx_3 t).2]; omega

theorem iblk_4 (t : Fin cfg0.N) (k : Fin 1024) (a : Fin 1024) : (iblk m c 4 t : S1024x1024.Idx → EReal) (ix2 k a) = u m c (ix2 (rw' t k) a) := by
  unfold iblk
  rw [View.read_apply]
  refine Eq.trans (congrArg (V m c main_v6 : S4096x1024.Idx → EReal) (funext fun d => Fin.ext ?_)) (V_grd m c (ix2 (rw' t k) a))
  match d with
  | ⟨0, _⟩ => show win0_4.index t 0 * 1024 + 1 * k.val = 1024 * t.val + k.val; rw [(idx_4 t).1]; omega
  | ⟨1, _⟩ => show win0_4.index t 1 * 1024 + 1 * a.val = a.val; rw [(idx_4 t).2]; omega

/-! ## What one point adds -/

/-- The accumulator starts at zero. -/
theorem zero_apply (i : S2944x1024.Idx) : (k0_pay2 (F := Ideal) i : EReal) = 0 := Ideal.ofBits_zero_f32

theorem pay_0_apply (x : Vec Ideal S1024x512 .bf16) (acc : Vec Ideal S512x1024 .f32) (v : Vec Ideal S1024x1024 .bf16) (a : Fin 512) (b : Fin 1024) :
    (k0_pay3 x acc v (ix2 a b) : EReal) = acc (ix2 a b) + ∑ k : Fin 1024, (x (ix2 k a) : EReal) * v (ix2 k b) := by
  unfold k0_pay3
  simp only [shapeCast_self]
  exact congrArg (fun p : EReal => acc (ix2 a b) + p) (tn_apply (φ := .bf16) (ψ := .bf16) dot_S1024x512_S1024x1024_S512x1024_0_0_1_1_n_n rfl rfl
    (fun j k => dot_S1024x512_S1024x1024_S512x1024_0_0_1_1_n_n.lhsIdx_val_of_single rfl j k) (fun _ _ => rfl)
    (fun j k => dot_S1024x512_S1024x1024_S512x1024_0_0_1_1_n_n.rhsIdx_val_of_single rfl j k) (fun _ _ => rfl) x v a b)

theorem pay_1_apply (x : Vec Ideal S1024x128 .bf16) (acc : Vec Ideal S128x1024 .f32) (v : Vec Ideal S1024x1024 .bf16) (a : Fin 128) (b : Fin 1024) :
    (k0_pay4 x acc v (ix2 a b) : EReal) = acc (ix2 a b) + ∑ k : Fin 1024, (x (ix2 k a) : EReal) * v (ix2 k b) := by
  unfold k0_pay4
  simp only [shapeCast_self]
  exact congrArg (fun p : EReal => acc (ix2 a b) + p) (tn_apply (φ := .bf16) (ψ := .bf16) dot_S1024x128_S1024x1024_S128x1024_0_0_1_1_n_n rfl rfl
    (fun j k => dot_S1024x128_S1024x1024_S128x1024_0_0_1_1_n_n.lhsIdx_val_of_single rfl j k) (fun _ _ => rfl)
    (fun j k => dot_S1024x128_S1024x1024_S128x1024_0_0_1_1_n_n.rhsIdx_val_of_single rfl j k) (fun _ _ => rfl) x v a b)

theorem pay_2_apply (x : Vec Ideal S1024x128 .bf16) (acc : Vec Ideal S128x1024 .f32) (v : Vec Ideal S1024x1024 .bf16) (a : Fin 128) (b : Fin 1024) :
    (k0_pay5 x acc v (ix2 a b) : EReal) = acc (ix2 a b) + ∑ k : Fin 1024, (x (ix2 k a) : EReal) * v (ix2 k b) := by
  unfold k0_pay5
  simp only [shapeCast_self]
  exact congrArg (fun p : EReal => acc (ix2 a b) + p) (tn_apply (φ := .bf16) (ψ := .bf16) dot_S1024x128_S1024x1024_S128x1024_0_0_1_1_n_n rfl rfl
    (fun j k => dot_S1024x128_S1024x1024_S128x1024_0_0_1_1_n_n.lhsIdx_val_of_single rfl j k) (fun _ _ => rfl)
    (fun j k => dot_S1024x128_S1024x1024_S128x1024_0_0_1_1_n_n.rhsIdx_val_of_single rfl j k) (fun _ _ => rfl) x v a b)

theorem pay_3_apply (x : Vec Ideal S1024x2176 .bf16) (acc : Vec Ideal S2176x1024 .f32) (v : Vec Ideal S1024x1024 .bf16) (a : Fin 2176) (b : Fin 1024) :
    (k0_pay1 x acc v (ix2 a b) : EReal) = acc (ix2 a b) + ∑ k : Fin 1024, (x (ix2 k a) : EReal) * v (ix2 k b) := by
  unfold k0_pay1
  simp only [shapeCast_self]
  exact congrArg (fun p : EReal => acc (ix2 a b) + p) (tn_apply (φ := .bf16) (ψ := .bf16) dot_S1024x2176_S1024x1024_S2176x1024_0_0_1_1_n_n rfl rfl
    (fun j k => dot_S1024x2176_S1024x1024_S2176x1024_0_0_1_1_n_n.lhsIdx_val_of_single rfl j k) (fun _ _ => rfl)
    (fun j k => dot_S1024x2176_S1024x1024_S2176x1024_0_0_1_1_n_n.rhsIdx_val_of_single rfl j k) (fun _ _ => rfl) x v a b)

/-- The share of row block `t` in the result at row `r`, column `b`. -/
def share (t : Fin cfg0.N) (r : Fin 2944) (b : Fin 1024) : EReal := ∑ k : Fin 1024, lft m c (rw' t k) r * u m c (ix2 (rw' t k) b)

theorem share_0 (t : Fin cfg0.N) (a : Fin 512) (b : Fin 1024) :
    (∑ k : Fin 1024, (fun p q : EReal => p * q) ((iblk m c 0 t : S1024x512.Idx → EReal) (ix2 k a)) ((iblk m c 4 t : S1024x1024.Idx → EReal) (ix2 k b)))
      = share m c t ⟨0 + a.val, by omega⟩ b :=
  Finset.sum_congr rfl fun k _ => congrArg₂ (fun p q : EReal => p * q) (iblk_0 m c t k a) (iblk_4 m c t k b)

theorem share_1 (t : Fin cfg0.N) (a : Fin 128) (b : Fin 1024) :
    (∑ k : Fin 1024, (fun p q : EReal => p * q) ((iblk m c 1 t : S1024x128.Idx → EReal) (ix2 k a)) ((iblk m c 4 t : S1024x1024.Idx → EReal) (ix2 k b)))
      = share m c t ⟨512 + a.val, by omega⟩ b :=
  Finset.sum_congr rfl fun k _ => congrArg₂ (fun p q : EReal => p * q) (iblk_1 m c t k a) (iblk_4 m c t k b)

theorem share_2 (t : Fin cfg0.N) (a : Fin 128) (b : Fin 1024) :
    (∑ k : Fin 1024, (fun p q : EReal => p * q) ((iblk m c 2 t : S1024x128.Idx → EReal) (ix2 k a)) ((iblk m c 4 t : S1024x1024.Idx → EReal) (ix2 k b)))
      = share m c t ⟨640 + a.val, by omega⟩ b :=
  Finset.sum_congr rfl fun k _ => congrArg₂ (fun p q : EReal => p * q) (iblk_2 m c t k a) (iblk_4 m c t k b)

theorem share_3 (t : Fin cfg0.N) (a : Fin 2176) (b : Fin 1024) :
    (∑ k : Fin 1024, (fun p q : EReal => p * q) ((iblk m c 3 t : S1024x2176.Idx → EReal) (ix2 k a)) ((iblk m c 4 t : S1024x1024.Idx → EReal) (ix2 k b)))
      = share m c t ⟨768 + a.val, by omega⟩ b :=
  Finset.sum_congr rfl fun k _ => congrArg₂ (fun p q : EReal => p * q) (iblk_3 m c t k a) (iblk_4 m c t k b)

theorem first_0 (t : Fin cfg0.N) (h0 : t.val % 4 = 0) (a : Fin 512) (b : Fin 1024) :
    (outsAt0 m c t.val t.isLt : S2944x1024.Idx → EReal) (ix2 ⟨0 + a.val, by omega⟩ b) = share m c t ⟨0 + a.val, by omega⟩ b := by
  rw [outsAt0_A m c t h0]
  unfold out0_A_5 kernelRun0_A
  dsimp only
  try sl_unfold_words
  simp only [View.readAt_eq_ld, Memref.IsWhole.read_unread, View.ld_unit_zero (S := S1024x1024) hz, View.ld_unit_zero (S := S1024x128) hz, View.ld_unit_zero (S := S1024x512) hz, View.ld_unit_zero (S := S1024x2176) hz]
  refine (View.read_writes_cons_unit_of_not_mem _ _ _ _ _ _ rfl 0 (Or.inl (show 0 + a.val < 768 by omega))).trans ?_
  refine (View.read_writes_cons_unit_of_not_mem _ _ _ _ _ _ rfl 0 (Or.inl (show 0 + a.val < 640 by omega))).trans ?_
  refine (View.read_writes_cons_unit_of_not_mem _ _ _ _ _ _ rfl 0 (Or.inl (show 0 + a.val < 512 by omega))).trans ?_
  refine (View.read_writes_cons_unit_of_mem _ _ _ _ _ _ (ix2 (n0 := 512) (n1 := 1024) a b) rfl fun d => ?_).trans ?_
  · match d with
    | ⟨0, _⟩ => rfl
    | ⟨1, _⟩ => exact (Nat.zero_add _).symm
  refine (pay_0_apply _ _ _ a b).trans ?_
  refine (congrArg₂ (fun p q : EReal => p + q) ?_ (share_0 m c t a b)).trans (zero_add _)
  · rw [View.readCov_eq_canon']
    dsimp only
    rw [View.canon_unit_zero (S := S2944x1024) hz]
    exact zero_apply _

theorem next_0 (t : Fin cfg0.N) (h0 : ¬t.val % 4 = 0) (a : Fin 512) (b : Fin 1024) :
    (outsAt0 m c t.val t.isLt : S2944x1024.Idx → EReal) (ix2 ⟨0 + a.val, by omega⟩ b)
      = (fun p q : EReal => p + q) ((outsAt0 m c (t.val - 1) (lt_of_le_of_lt (Nat.sub_le _ _) t.isLt) : S2944x1024.Idx → EReal) (ix2 ⟨0 + a.val, by omega⟩ b)) (share m c t ⟨0 + a.val, by omega⟩ b) := by
  rw [outsAt0_B m c t h0]
  unfold out0_B_5 kernelRun0_B
  dsimp only
  try sl_unfold_words
  simp only [View.readAt_eq_ld, Memref.IsWhole.read_unread, View.ld_unit_zero (S := S1024x1024) hz, View.ld_unit_zero (S := S1024x128) hz, View.ld_unit_zero (S := S1024x512) hz, View.ld_unit_zero (S := S1024x2176) hz]
  refine (View.read_writes_cons_unit_of_not_mem _ _ _ _ _ _ rfl 0 (Or.inl (show 0 + a.val < 768 by omega))).trans ?_
  refine (View.read_writes_cons_unit_of_not_mem _ _ _ _ _ _ rfl 0 (Or.inl (show 0 + a.val < 640 by omega))).trans ?_
  refine (View.read_writes_cons_unit_of_not_mem _ _ _ _ _ _ rfl 0 (Or.inl (show 0 + a.val < 512 by omega))).trans ?_
  refine (View.read_writes_cons_unit_of_mem _ _ _ _ _ _ (ix2 (n0 := 512) (n1 := 1024) a b) rfl fun d => ?_).trans ?_
  · match d with
    | ⟨0, _⟩ => rfl
    | ⟨1, _⟩ => exact (Nat.zero_add _).symm
  refine (pay_0_apply _ _ _ a b).trans ?_
  refine congrArg₂ (fun p q : EReal => p + q) ?_ (share_0 m c t a b)
  refine congrArg (outsAt0 m c (t.val - 1) (lt_of_le_of_lt (Nat.sub_le _ _) t.isLt) : S2944x1024.Idx → EReal) (funext fun d => Fin.ext ?_)
  match d with
  | ⟨0, _⟩ => show 0 + 1 * a.val = 0 + a.val; omega
  | ⟨1, _⟩ => show 0 + 1 * b.val = b.val; omega

theorem first_1 (t : Fin cfg0.N) (h0 : t.val % 4 = 0) (a : Fin 128) (b : Fin 1024) :
    (outsAt0 m c t.val t.isLt : S2944x1024.Idx → EReal) (ix2 ⟨512 + a.val, by omega⟩ b) = share m c t ⟨512 + a.val, by omega⟩ b := by
  rw [outsAt0_A m c t h0]
  unfold out0_A_5 kernelRun0_A
  dsimp only
  try sl_unfold_words
  simp only [View.readAt_eq_ld, Memref.IsWhole.read_unread, View.ld_unit_zero (S := S1024x1024) hz, View.ld_unit_zero (S := S1024x128) hz, View.ld_unit_zero (S := S1024x512) hz, View.ld_unit_zero (S := S1024x2176) hz]
  refine (View.read_writes_cons_unit_of_not_mem _ _ _ _ _ _ rfl 0 (Or.inl (show 512 + a.val < 768 by omega))).trans ?_
  refine (View.read_writes_cons_unit_of_not_mem _ _ _ _ _ _ rfl 0 (Or.inl (show 512 + a.val < 640 by omega))).trans ?_
  refine (View.read_writes_cons_unit_of_mem _ _ _ _ _ _ (ix2 (n0 := 128) (n1 := 1024) a b) rfl fun d => ?_).trans ?_
  · match d with
    | ⟨0, _⟩ => rfl
    | ⟨1, _⟩ => exact (Nat.zero_add _).symm
  refine (pay_1_apply _ _ _ a b).trans ?_
  refine (congrArg₂ (fun p q : EReal => p + q) ?_ (share_1 m c t a b)).trans (zero_add _)
  · rw [View.readCov_eq_canon']
    dsimp only
    refine (View.canon_cons_of_not_mem _ _ (fun hm => ?_)).trans ?_
    · obtain ⟨i, hi, he⟩ := (LoadRect.mem_set _).mp hm (0 : Fin 2)
      have hi1 : i < 512 := hi
      have he' : 512 + 1 * a.val = 0 + 1 * i := he
      omega
    rw [View.canon_unit_zero (S := S2944x1024) hz]
    exact zero_apply _

theorem next_1 (t : Fin cfg0.N) (h0 : ¬t.val % 4 = 0) (a : Fin 128) (b : Fin 1024) :
    (outsAt0 m c t.val t.isLt : S2944x1024.Idx → EReal) (ix2 ⟨512 + a.val, by omega⟩ b)
      = (fun p q : EReal => p + q) ((outsAt0 m c (t.val - 1) (lt_of_le_of_lt (Nat.sub_le _ _) t.isLt) : S2944x1024.Idx → EReal) (ix2 ⟨512 + a.val, by omega⟩ b)) (share m c t ⟨512 + a.val, by omega⟩ b) := by
  rw [outsAt0_B m c t h0]
  unfold out0_B_5 kernelRun0_B
  dsimp only
  try sl_unfold_words
  simp only [View.readAt_eq_ld, Memref.IsWhole.read_unread, View.ld_unit_zero (S := S1024x1024) hz, View.ld_unit_zero (S := S1024x128) hz, View.ld_unit_zero (S := S1024x512) hz, View.ld_unit_zero (S := S1024x2176) hz]
  refine (View.read_writes_cons_unit_of_not_mem _ _ _ _ _ _ rfl 0 (Or.inl (show 512 + a.val < 768 by omega))).trans ?_
  refine (View.read_writes_cons_unit_of_not_mem _ _ _ _ _ _ rfl 0 (Or.inl (show 512 + a.val < 640 by omega))).trans ?_
  refine (View.read_writes_cons_unit_of_mem _ _ _ _ _ _ (ix2 (n0 := 128) (n1 := 1024) a b) rfl fun d => ?_).trans ?_
  · match d with
    | ⟨0, _⟩ => rfl
    | ⟨1, _⟩ => exact (Nat.zero_add _).symm
  refine (pay_1_apply _ _ _ a b).trans ?_
  refine congrArg₂ (fun p q : EReal => p + q) ?_ (share_1 m c t a b)
  refine congrArg (outsAt0 m c (t.val - 1) (lt_of_le_of_lt (Nat.sub_le _ _) t.isLt) : S2944x1024.Idx → EReal) (funext fun d => Fin.ext ?_)
  match d with
  | ⟨0, _⟩ => show 512 + 1 * a.val = 512 + a.val; omega
  | ⟨1, _⟩ => show 0 + 1 * b.val = b.val; omega

theorem first_2 (t : Fin cfg0.N) (h0 : t.val % 4 = 0) (a : Fin 128) (b : Fin 1024) :
    (outsAt0 m c t.val t.isLt : S2944x1024.Idx → EReal) (ix2 ⟨640 + a.val, by omega⟩ b) = share m c t ⟨640 + a.val, by omega⟩ b := by
  rw [outsAt0_A m c t h0]
  unfold out0_A_5 kernelRun0_A
  dsimp only
  try sl_unfold_words
  simp only [View.readAt_eq_ld, Memref.IsWhole.read_unread, View.ld_unit_zero (S := S1024x1024) hz, View.ld_unit_zero (S := S1024x128) hz, View.ld_unit_zero (S := S1024x512) hz, View.ld_unit_zero (S := S1024x2176) hz]
  refine (View.read_writes_cons_unit_of_not_mem _ _ _ _ _ _ rfl 0 (Or.inl (show 640 + a.val < 768 by omega))).trans ?_
  refine (View.read_writes_cons_unit_of_mem _ _ _ _ _ _ (ix2 (n0 := 128) (n1 := 1024) a b) rfl fun d => ?_).trans ?_
  · match d with
    | ⟨0, _⟩ => rfl
    | ⟨1, _⟩ => exact (Nat.zero_add _).symm
  refine (pay_2_apply _ _ _ a b).trans ?_
  refine (congrArg₂ (fun p q : EReal => p + q) ?_ (share_2 m c t a b)).trans (zero_add _)
  · rw [View.readCov_eq_canon']
    dsimp only
    refine (View.canon_cons_of_not_mem _ _ (fun hm => ?_)).trans ?_
    · obtain ⟨i, hi, he⟩ := (LoadRect.mem_set _).mp hm (0 : Fin 2)
      have hi1 : i < 128 := hi
      have he' : 640 + 1 * a.val = 512 + 1 * i := he
      omega
    refine (View.canon_cons_of_not_mem _ _ (fun hm => ?_)).trans ?_
    · obtain ⟨i, hi, he⟩ := (LoadRect.mem_set _).mp hm (0 : Fin 2)
      have hi1 : i < 512 := hi
      have he' : 640 + 1 * a.val = 0 + 1 * i := he
      omega
    rw [View.canon_unit_zero (S := S2944x1024) hz]
    exact zero_apply _

theorem next_2 (t : Fin cfg0.N) (h0 : ¬t.val % 4 = 0) (a : Fin 128) (b : Fin 1024) :
    (outsAt0 m c t.val t.isLt : S2944x1024.Idx → EReal) (ix2 ⟨640 + a.val, by omega⟩ b)
      = (fun p q : EReal => p + q) ((outsAt0 m c (t.val - 1) (lt_of_le_of_lt (Nat.sub_le _ _) t.isLt) : S2944x1024.Idx → EReal) (ix2 ⟨640 + a.val, by omega⟩ b)) (share m c t ⟨640 + a.val, by omega⟩ b) := by
  rw [outsAt0_B m c t h0]
  unfold out0_B_5 kernelRun0_B
  dsimp only
  try sl_unfold_words
  simp only [View.readAt_eq_ld, Memref.IsWhole.read_unread, View.ld_unit_zero (S := S1024x1024) hz, View.ld_unit_zero (S := S1024x128) hz, View.ld_unit_zero (S := S1024x512) hz, View.ld_unit_zero (S := S1024x2176) hz]
  refine (View.read_writes_cons_unit_of_not_mem _ _ _ _ _ _ rfl 0 (Or.inl (show 640 + a.val < 768 by omega))).trans ?_
  refine (View.read_writes_cons_unit_of_mem _ _ _ _ _ _ (ix2 (n0 := 128) (n1 := 1024) a b) rfl fun d => ?_).trans ?_
  · match d with
    | ⟨0, _⟩ => rfl
    | ⟨1, _⟩ => exact (Nat.zero_add _).symm
  refine (pay_2_apply _ _ _ a b).trans ?_
  refine congrArg₂ (fun p q : EReal => p + q) ?_ (share_2 m c t a b)
  refine congrArg (outsAt0 m c (t.val - 1) (lt_of_le_of_lt (Nat.sub_le _ _) t.isLt) : S2944x1024.Idx → EReal) (funext fun d => Fin.ext ?_)
  match d with
  | ⟨0, _⟩ => show 640 + 1 * a.val = 640 + a.val; omega
  | ⟨1, _⟩ => show 0 + 1 * b.val = b.val; omega

theorem first_3 (t : Fin cfg0.N) (h0 : t.val % 4 = 0) (a : Fin 2176) (b : Fin 1024) :
    (outsAt0 m c t.val t.isLt : S2944x1024.Idx → EReal) (ix2 ⟨768 + a.val, by omega⟩ b) = share m c t ⟨768 + a.val, by omega⟩ b := by
  rw [outsAt0_A m c t h0]
  unfold out0_A_5 kernelRun0_A
  dsimp only
  try sl_unfold_words
  simp only [View.readAt_eq_ld, Memref.IsWhole.read_unread, View.ld_unit_zero (S := S1024x1024) hz, View.ld_unit_zero (S := S1024x128) hz, View.ld_unit_zero (S := S1024x512) hz, View.ld_unit_zero (S := S1024x2176) hz]
  refine (View.read_writes_cons_unit_of_mem _ _ _ _ _ _ (ix2 (n0 := 2176) (n1 := 1024) a b) rfl fun d => ?_).trans ?_
  · match d with
    | ⟨0, _⟩ => rfl
    | ⟨1, _⟩ => exact (Nat.zero_add _).symm
  refine (pay_3_apply _ _ _ a b).trans ?_
  refine (congrArg₂ (fun p q : EReal => p + q) ?_ (share_3 m c t a b)).trans (zero_add _)
  · rw [View.readCov_eq_canon']
    dsimp only
    refine (View.canon_cons_of_not_mem _ _ (fun hm => ?_)).trans ?_
    · obtain ⟨i, hi, he⟩ := (LoadRect.mem_set _).mp hm (0 : Fin 2)
      have hi1 : i < 128 := hi
      have he' : 768 + 1 * a.val = 640 + 1 * i := he
      omega
    refine (View.canon_cons_of_not_mem _ _ (fun hm => ?_)).trans ?_
    · obtain ⟨i, hi, he⟩ := (LoadRect.mem_set _).mp hm (0 : Fin 2)
      have hi1 : i < 128 := hi
      have he' : 768 + 1 * a.val = 512 + 1 * i := he
      omega
    refine (View.canon_cons_of_not_mem _ _ (fun hm => ?_)).trans ?_
    · obtain ⟨i, hi, he⟩ := (LoadRect.mem_set _).mp hm (0 : Fin 2)
      have hi1 : i < 512 := hi
      have he' : 768 + 1 * a.val = 0 + 1 * i := he
      omega
    rw [View.canon_unit_zero (S := S2944x1024) hz]
    exact zero_apply _

theorem next_3 (t : Fin cfg0.N) (h0 : ¬t.val % 4 = 0) (a : Fin 2176) (b : Fin 1024) :
    (outsAt0 m c t.val t.isLt : S2944x1024.Idx → EReal) (ix2 ⟨768 + a.val, by omega⟩ b)
      = (fun p q : EReal => p + q) ((outsAt0 m c (t.val - 1) (lt_of_le_of_lt (Nat.sub_le _ _) t.isLt) : S2944x1024.Idx → EReal) (ix2 ⟨768 + a.val, by omega⟩ b)) (share m c t ⟨768 + a.val, by omega⟩ b) := by
  rw [outsAt0_B m c t h0]
  unfold out0_B_5 kernelRun0_B
  dsimp only
  try sl_unfold_words
  simp only [View.readAt_eq_ld, Memref.IsWhole.read_unread, View.ld_unit_zero (S := S1024x1024) hz, View.ld_unit_zero (S := S1024x128) hz, View.ld_unit_zero (S := S1024x512) hz, View.ld_unit_zero (S := S1024x2176) hz]
  refine (View.read_writes_cons_unit_of_mem _ _ _ _ _ _ (ix2 (n0 := 2176) (n1 := 1024) a b) rfl fun d => ?_).trans ?_
  · match d with
    | ⟨0, _⟩ => rfl
    | ⟨1, _⟩ => exact (Nat.zero_add _).symm
  refine (pay_3_apply _ _ _ a b).trans ?_
  refine congrArg₂ (fun p q : EReal => p + q) ?_ (share_3 m c t a b)
  refine congrArg (outsAt0 m c (t.val - 1) (lt_of_le_of_lt (Nat.sub_le _ _) t.isLt) : S2944x1024.Idx → EReal) (funext fun d => Fin.ext ?_)
  match d with
  | ⟨0, _⟩ => show 768 + 1 * a.val = 768 + a.val; omega
  | ⟨1, _⟩ => show 0 + 1 * b.val = b.val; omega

/-- The first point leaves its share; a later point adds its share to what the previous point left. -/
theorem first (t : Fin cfg0.N) (h0 : t.val % 4 = 0) (r : Fin 2944) (b : Fin 1024) :
    (outsAt0 m c t.val t.isLt : S2944x1024.Idx → EReal) (ix2 r b) = share m c t r b := by
  by_cases hr0 : r.val < 512
  · have e : r = ⟨0 + (⟨r.val - 0, by omega⟩ : Fin 512).val, by simp only []; omega⟩ := Fin.ext (by simp only []; omega)
    rw [e]
    exact first_0 m c t h0 _ b
  by_cases hr1 : r.val < 640
  · have e : r = ⟨512 + (⟨r.val - 512, by omega⟩ : Fin 128).val, by simp only []; omega⟩ := Fin.ext (by simp only []; omega)
    rw [e]
    exact first_1 m c t h0 _ b
  by_cases hr2 : r.val < 768
  · have e : r = ⟨640 + (⟨r.val - 640, by omega⟩ : Fin 128).val, by simp only []; omega⟩ := Fin.ext (by simp only []; omega)
    rw [e]
    exact first_2 m c t h0 _ b
  have e : r = ⟨768 + (⟨r.val - 768, by omega⟩ : Fin 2176).val, by simp only []; omega⟩ := Fin.ext (by simp only []; omega)
  rw [e]
  exact first_3 m c t h0 _ b

theorem next (t : Fin cfg0.N) (h0 : ¬t.val % 4 = 0) (r : Fin 2944) (b : Fin 1024) :
    (outsAt0 m c t.val t.isLt : S2944x1024.Idx → EReal) (ix2 r b)
      = (fun p q : EReal => p + q) ((outsAt0 m c (t.val - 1) (lt_of_le_of_lt (Nat.sub_le _ _) t.isLt) : S2944x1024.Idx → EReal) (ix2 r b)) (share m c t r b) := by
  by_cases hr0 : r.val < 512
  · have e : r = ⟨0 + (⟨r.val - 0, by omega⟩ : Fin 512).val, by simp only []; omega⟩ := Fin.ext (by simp only []; omega)
    rw [e]
    exact next_0 m c t h0 _ b
  by_cases hr1 : r.val < 640
  · have e : r = ⟨512 + (⟨r.val - 512, by omega⟩ : Fin 128).val, by simp only []; omega⟩ := Fin.ext (by simp only []; omega)
    rw [e]
    exact next_1 m c t h0 _ b
  by_cases hr2 : r.val < 768
  · have e : r = ⟨640 + (⟨r.val - 640, by omega⟩ : Fin 128).val, by simp only []; omega⟩ := Fin.ext (by simp only []; omega)
    rw [e]
    exact next_2 m c t h0 _ b
  have e : r = ⟨768 + (⟨r.val - 768, by omega⟩ : Fin 2176).val, by simp only []; omega⟩ := Fin.ext (by simp only []; omega)
  rw [e]
  exact next_3 m c t h0 _ b

abbrev pt (s : Fin 4) : Fin cfg0.N := ⟨s.val, lt_of_lt_of_eq s.isLt N_0.symm⟩

theorem last (r : Fin 2944) (b : Fin 1024) : (outsAt0 m c (pt 3).val (pt 3).isLt : S2944x1024.Idx → EReal) (ix2 r b)
    = ∑ k : Fin 4096, lft m c k r * u m c (ix2 k b) := by
  refine Eq.trans ?_ (sum_blocks (p := 4) (q := 1024) (by norm_num) (fun k => lft m c k r * u m c (ix2 k b)) (fun s j => by omega))
  rw [Fin.sum_univ_four]
  refine (next m c (pt 3) (by decide) r b).trans (congrArg₂ (fun p q : EReal => p + q) ?_ rfl)
  refine (next m c (pt 2) (by decide) r b).trans (congrArg₂ (fun p q : EReal => p + q) ?_ rfl)
  refine (next m c (pt 1) (by decide) r b).trans (congrArg₂ (fun p q : EReal => p + q) ?_ rfl)
  exact first m c (pt 0) (by decide) r b

/-- The result array, written back at the last point. -/
theorem arr (r : Fin 2944) (b : Fin 1024) : ((dats m 0 c).arrAt 5 cfg0.N : S2944x1024.Idx → EReal) (ix2 r b)
    = ∑ k : Fin 4096, lft m c k r * u m c (ix2 k b) := by
  have hf : (cfg0.win 5).flush (pt 3) = true := (flush0_5 (pt 3)).mpr rfl
  have hd : ∀ t t' : Fin cfg0.N, (cfg0.win 5).flush t = true → (cfg0.win 5).flush t' = true → t ≠ t' →
      Disjoint ((cfg0.win 5).blk t).view.set ((cfg0.win 5).blk t').view.set := fun t t' h h' hne => absurd (Fin.ext (by
    have e := (flush0_5 t).mp h
    have e' := (flush0_5 t').mp h'
    have := N_eq t
    have := N_eq t'
    omega)) hne
  have hb := congrFun ((dats m 0 c).read_blk_arrAt_eq_flushed 5 hd cfg0.N (pt 3) (pt 3).isLt hf) (ix2 (n0 := 2944) (n1 := 1024) r b)
  rw [View.read_apply, flushed5] at hb
  refine Eq.trans (congrArg ((dats m 0 c).arrAt 5 cfg0.N : S2944x1024.Idx → EReal) (funext fun d => Fin.ext ?_)) (hb.trans (Eq.trans ?_ (last m c r b)))
  · match d with
    | ⟨0, _⟩ => show r.val = win0_5.index (pt 3) 0 * 2944 + 1 * r.val; rw [(idx_5 (pt 3)).1]; omega
    | ⟨1, _⟩ => show b.val = win0_5.index (pt 3) 1 * 1024 + 1 * b.val; rw [(idx_5 (pt 3)).2]; omega
  · refine congrArg (outsAt0 m c (pt 3).val (pt 3).isLt : S2944x1024.Idx → EReal) (funext fun d => Fin.ext ?_)
    match d with
    | ⟨0, _⟩ => rfl
    | ⟨1, _⟩ => rfl

/-! ## The reference -/

theorem ref_in (x : S4096x1024.Idx → EReal) (d : S4096x2824.Idx → EReal) (a : Fin 2824) (b : Fin 1024) :
    (val_main_v4 (F := Ideal) x d (ix2 a b) : EReal) = ∑ k : Fin 4096, d (ix2 k a) * x (ix2 k b) := by
  rw [val_main_v4_apply, val_main_v3_apply, val_main_v2_apply]
  refine Finset.sum_congr rfl fun k _ => ?_
  refine congrArg₂ (fun p q : EReal => p * q) (congrArg d (eq_ix2 _)) (congrArg x (eq_ix2 _))

theorem ref_eq (a : Fin 2944) (b : Fin 1024) :
    (val_main_v5 (F := Ideal) (u m c) (dproj m c) (ix2 a b) : EReal) = ∑ k : Fin 4096, lft m c k a * u m c (ix2 k b) := by
  unfold val_main_v5 lft
  by_cases h : a.val < 2824
  · simp only [dif_pos h]
    refine (pad_apply_of_inside _ _ _ _ _ _ _ (ix2 a b) (ix2 ⟨a.val, h⟩ b) fun d => ?_).trans (ref_in _ _ _ b)
    match d with
    | ⟨0, _⟩ => show a.val = 0 + a.val * (0 + 1); omega
    | ⟨1, _⟩ => show b.val = 0 + b.val * (0 + 1); omega
  · simp only [dif_neg h, zero_mul, Finset.sum_const_zero]
    refine (pad_apply_of_not_inside _ _ _ _ _ _ _ (ix2 a b) 0 fun hh => ?_).trans (padv_eq _)
    have h2 : (a.val - 0) / (0 + 1) < 2824 := hh.2.2
    omega

theorem result_eq : ((dats m 0 c).arrAt 5 cfg0.N : S2944x1024.Idx → EReal) = val_main_v5 (F := Ideal) (u m c) (dproj m c) :=
  ext2 _ _ fun i j => (arr m c i j).trans (ref_eq m c i j).symm

end Cert.Kernel6Ideal.Result

namespace Cert.Proof

open Cert.Kernel6Ideal.Result Cert.Reference6Ideal.Read

theorem frame_reference6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The two programs, run on memories that hold the same arguments, leave the same result. -/
theorem algebraic_wwin : Cert.algebraic_Kernel6Ideal_Reference6Ideal := by
  intro m ρ m' ρ' _ hagree
  refine ⟨fun c => val_main_v5 (F := Ideal) (u m c) (dproj m c), ?_, ?_⟩
  · refine (θ_run Cert.Kernel6Ideal.defs _ _).mono (fun r h c => ?_) (Cert.Kernel6Ideal.Value.run_blocks (F := Ideal) m ρ)
    obtain ⟨h0, ha⟩ := h c
    exact ⟨h0.trans (result_eq m c), ha⟩
  · refine (θ_run Cert.Reference6Ideal.defs _ _).mono (fun r h c => ?_) (Cert.Reference6Ideal.Value.run (F := Ideal) m' ρ')
    obtain ⟨h0, ha⟩ := h c
    obtain ⟨a0, a1⟩ := hagree c
    refine ⟨(h0.trans (val_main_v5_eq ..)).trans ?_, ha⟩
    rw [a0, a1]

end Cert.Proof

end
-- ==== Proof.WgradO.lean ====
/-
  The call that computes the gradient at the output projection's weight: the product of the mixed heads' transpose with the
  gradient past the projection. The heads come in two halves, each feeding its own 512 rows of the result, and the sums over
  the rows are accumulated over four blocks of 1024 rows. Over the extended reals the result is the derivative of the product.
-/
module

public import proofs.«01_k».proof.Defs
public import proofs.«01_k».proof.Proof.Shared
public import proofs.«01_k».proof.Proof.Gen.Kernel7Ideal.Value
public import proofs.«01_k».proof.Proof.Gen.Reference7Ideal.Run
public import proofs.«01_k».proof.Proof.Gen.Reference7Ideal.Read
public import Idealize.ShloMosaic.Lib.ValueIdx
public import Idealize.ShloMosaic.Lib.WritesUnit
public import Idealize.ShloMosaic.Lib.Pipeline.RowLoads
public import Idealize.ShloMosaic.Lib.StableHlo.RunRead
public import Idealize.ShloMosaic.Lib.KernelVsHost

@[expose] public section

set_option maxRecDepth 16384

noncomputable section

open Idealize.ShloMosaic Idealize.ShloMosaic.TcCoe Idealize.ShloMosaic.ValueIdx Idealize.SL.Sem

namespace Cert.Kernel7Ideal.Result

open Cert.Kernel7Ideal Cert.Kernel7Ideal.Gen Cert.Kernel7Ideal.Value Cert.Shared Cert.Reference7Ideal.Read

theorem hz : (![0, 0] : Fin 2 → Nat) = fun _ => 0 := funext fun a => by fin_cases a <;> rfl

variable (m : (ℓ : Loc nD τ sig) → Buf (Elt Ideal) ℓ) (c : Dev nD)

theorem N_eq (t : Fin cfg0.N) : t.val < 4 := lt_of_lt_of_eq t.isLt N_0

/-- The two arguments: the mixed heads, and the gradient past the projection. -/
abbrev mix : S4096x1024.Idx → EReal := m ((c : Thread nD τ).loc main_arg0)
abbrev dh1 : S4096x1024.Idx → EReal := m ((c : Thread nD τ).loc main_arg1)

/-- The left factor. -/
abbrev lArr : S4096x1024.Idx → EReal := mix m c

def lft (i : Fin 4096) (k : Fin 1024) : EReal := mix m c (ix2 i k)

theorem lArr_apply (i : Fin 4096) (k : Fin 1024) : (lArr m c (ix2 i k) : EReal) = lft m c i k := rfl

/-! ## The call's arguments and a point's blocks -/

theorem V_0 (i : Fin 4096) (k : Fin 512) : (V m c main_v1 : S4096x512.Idx → EReal) (ix2 i k) = lft m c i ⟨0 + k.val, by omega⟩ := by
  have e : (V m c main_v1 : S4096x512.Idx → EReal) = extractStridedSlice S4096x512 ![0, 0] (lArr m c) slices_S4096x1024_S4096x512_0_0 := by
    unfold V hostOps0
    after_reads_simp
    rfl
  rw [e]
  refine (extractStridedSlice_apply ![0, 0] _ slices_S4096x1024_S4096x512_0_0 (ix2 i k) (ix2 i ⟨0 + k.val, by omega⟩) (fun d => match d with
    | ⟨0, _⟩ => (Nat.zero_add _).symm
    | ⟨1, _⟩ => rfl)).trans ?_
  exact lArr_apply m c i _

theorem V_1 (i : Fin 4096) (k : Fin 512) : (V m c main_v2 : S4096x512.Idx → EReal) (ix2 i k) = lft m c i ⟨512 + k.val, by omega⟩ := by
  have e : (V m c main_v2 : S4096x512.Idx → EReal) = extractStridedSlice S4096x512 ![0, 512] (lArr m c) slices_S4096x1024_S4096x512_0_512 := by
    unfold V hostOps0
    after_reads_simp
    rfl
  rw [e]
  refine (extractStridedSlice_apply ![0, 512] _ slices_S4096x1024_S4096x512_0_512 (ix2 i k) (ix2 i ⟨512 + k.val, by omega⟩) (fun d => match d with
    | ⟨0, _⟩ => (Nat.zero_add _).symm
    | ⟨1, _⟩ => rfl)).trans ?_
  exact lArr_apply m c i _

theorem V_grd (i : S4096x1024.Idx) : (V m c main_v3 : S4096x1024.Idx → EReal) i = dh1 m c i := by
  unfold V hostOps0
  after_reads_simp
  rfl

/-- The row of the arguments at row `k` of point `t`. -/
abbrev rw' (t : Fin cfg0.N) (k : Fin 1024) : Fin 4096 := ⟨1024 * t.val + k.val, by have := N_eq t; omega⟩

theorem idx_0 : ∀ t : Fin grid0.N, (win0_0.index t 0 = t.val) ∧ (win0_0.index t 1 = 0) := by decide +kernel
theorem idx_1 : ∀ t : Fin grid0.N, (win0_1.index t 0 = t.val) ∧ (win0_1.index t 1 = 0) := by decide +kernel
theorem idx_2 : ∀ t : Fin grid0.N, (win0_2.index t 0 = t.val) ∧ (win0_2.index t 1 = 0) := by decide +kernel
theorem idx_3 : ∀ t : Fin grid0.N, (win0_3.index t 0 = 0) ∧ (win0_3.index t 1 = 0) := by decide +kernel

theorem iblk_0 (t : Fin cfg0.N) (k : Fin 1024) (a : Fin 512) : (iblk m c 0 t : S1024x512.Idx → EReal) (ix2 k a) = lft m c (rw' t k) ⟨0 + a.val, by omega⟩ := by
  unfold iblk
  rw [View.read_apply]
  refine Eq.trans (congrArg (V m c main_v1 : S4096x512.Idx → EReal) (funext fun d => Fin.ext ?_)) (V_0 m c (rw' t k) a)
  match d with
  | ⟨0, _⟩ => show win0_0.index t 0 * 1024 + 1 * k.val = 1024 * t.val + k.val; rw [(idx_0 t).1]; omega
  | ⟨1, _⟩ => show win0_0.index t 1 * 512 + 1 * a.val = a.val; rw [(idx_0 t).2]; omega

theorem iblk_1 (t : Fin cfg0.N) (k : Fin 1024) (a : Fin 512) : (iblk m c 1 t : S1024x512.Idx → EReal) (ix2 k a) = lft m c (rw' t k) ⟨512 + a.val, by omega⟩ := by
  unfold iblk
  rw [View.read_apply]
  refine Eq.trans (congrArg (V m c main_v2 : S4096x512.Idx → EReal) (funext fun d => Fin.ext ?_)) (V_1 m c (rw' t k) a)
  match d with
  | ⟨0, _⟩ => show win0_1.index t 0 * 1024 + 1 * k.val = 1024 * t.val + k.val; rw [(idx_1 t).1]; omega
  | ⟨1, _⟩ => show win0_1.index t 1 * 512 + 1 * a.val = a.val; rw [(idx_1 t).2]; omega

theorem iblk_2 (t : Fin cfg0.N) (k : Fin 1024) (a : Fin 1024) : (iblk m c 2 t : S1024x1024.Idx → EReal) (ix2 k a) = dh1 m c (ix2 (rw' t k) a) := by
  unfold iblk
  rw [View.read_apply]
  refine Eq.trans (congrArg (V m c main_v3 : S4096x1024.Idx → EReal) (funext fun d => Fin.ext ?_)) (V_grd m c (ix2 (rw' t k) a))
  match d with
  | ⟨0, _⟩ => show win0_2.index t 0 * 1024 + 1 * k.val = 1024 * t.val + k.val; rw [(idx_2 t).1]; omega
  | ⟨1, _⟩ => show win0_2.index t 1 * 1024 + 1 * a.val = a.val; rw [(idx_2 t).2]; omega

/-! ## What one point adds -/

/-- The accumulator starts at zero. -/
theorem zero_apply (i : S1024x1024.Idx) : (k0_pay1 (F := Ideal) i : EReal) = 0 := Ideal.ofBits_zero_f32

theorem pay_0_apply (x : Vec Ideal S1024x512 .bf16) (acc : Vec Ideal S512x1024 .f32) (v : Vec Ideal S1024x1024 .bf16) (a : Fin 512) (b : Fin 1024) :
    (k0_pay2 x acc v (ix2 a b) : EReal) = acc (ix2 a b) + ∑ k : Fin 1024, (x (ix2 k a) : EReal) * v (ix2 k b) := by
  unfold k0_pay2
  simp only [shapeCast_self]
  exact congrArg (fun p : EReal => acc (ix2 a b) + p) (tn_apply (φ := .bf16) (ψ := .bf16) dot_S1024x512_S1024x1024_S512x1024_0_0_1_1_n_n rfl rfl
    (fun j k => dot_S1024x512_S1024x1024_S512x1024_0_0_1_1_n_n.lhsIdx_val_of_single rfl j k) (fun _ _ => rfl)
    (fun j k => dot_S1024x512_S1024x1024_S512x1024_0_0_1_1_n_n.rhsIdx_val_of_single rfl j k) (fun _ _ => rfl) x v a b)

theorem pay_1_apply (x : Vec Ideal S1024x512 .bf16) (acc : Vec Ideal S512x1024 .f32) (v : Vec Ideal S1024x1024 .bf16) (a : Fin 512) (b : Fin 1024) :
    (k0_pay3 x acc v (ix2 a b) : EReal) = acc (ix2 a b) + ∑ k : Fin 1024, (x (ix2 k a) : EReal) * v (ix2 k b) := by
  unfold k0_pay3
  simp only [shapeCast_self]
  exact congrArg (fun p : EReal => acc (ix2 a b) + p) (tn_apply (φ := .bf16) (ψ := .bf16) dot_S1024x512_S1024x1024_S512x1024_0_0_1_1_n_n rfl rfl
    (fun j k => dot_S1024x512_S1024x1024_S512x1024_0_0_1_1_n_n.lhsIdx_val_of_single rfl j k) (fun _ _ => rfl)
    (fun j k => dot_S1024x512_S1024x1024_S512x1024_0_0_1_1_n_n.rhsIdx_val_of_single rfl j k) (fun _ _ => rfl) x v a b)

/-- The share of row block `t` in the result at row `r`, column `b`. -/
def share (t : Fin cfg0.N) (r : Fin 1024) (b : Fin 1024) : EReal := ∑ k : Fin 1024, lft m c (rw' t k) r * dh1 m c (ix2 (rw' t k) b)

theorem share_0 (t : Fin cfg0.N) (a : Fin 512) (b : Fin 1024) :
    (∑ k : Fin 1024, (fun p q : EReal => p * q) ((iblk m c 0 t : S1024x512.Idx → EReal) (ix2 k a)) ((iblk m c 2 t : S1024x1024.Idx → EReal) (ix2 k b)))
      = share m c t ⟨0 + a.val, by omega⟩ b :=
  Finset.sum_congr rfl fun k _ => congrArg₂ (fun p q : EReal => p * q) (iblk_0 m c t k a) (iblk_2 m c t k b)

theorem share_1 (t : Fin cfg0.N) (a : Fin 512) (b : Fin 1024) :
    (∑ k : Fin 1024, (fun p q : EReal => p * q) ((iblk m c 1 t : S1024x512.Idx → EReal) (ix2 k a)) ((iblk m c 2 t : S1024x1024.Idx → EReal) (ix2 k b)))
      = share m c t ⟨512 + a.val, by omega⟩ b :=
  Finset.sum_congr rfl fun k _ => congrArg₂ (fun p q : EReal => p * q) (iblk_1 m c t k a) (iblk_2 m c t k b)

theorem first_0 (t : Fin cfg0.N) (h0 : t.val % 4 = 0) (a : Fin 512) (b : Fin 1024) :
    (outsAt0 m c t.val t.isLt : S1024x1024.Idx → EReal) (ix2 ⟨0 + a.val, by omega⟩ b) = share m c t ⟨0 + a.val, by omega⟩ b := by
  rw [outsAt0_A m c t h0]
  unfold out0_A_3 kernelRun0_A
  dsimp only
  try sl_unfold_words
  simp only [View.readAt_eq_ld, Memref.IsWhole.read_unread, View.ld_unit_zero (S := S1024x1024) hz, View.ld_unit_zero (S := S1024x512) hz]
  refine (View.read_writes_cons_unit_of_not_mem _ _ _ _ _ _ rfl 0 (Or.inl (show 0 + a.val < 512 by omega))).trans ?_
  refine (View.read_writes_cons_unit_of_mem _ _ _ _ _ _ (ix2 (n0 := 512) (n1 := 1024) a b) rfl fun d => ?_).trans ?_
  · match d with
    | ⟨0, _⟩ => rfl
    | ⟨1, _⟩ => exact (Nat.zero_add _).symm
  refine (pay_0_apply _ _ _ a b).trans ?_
  refine (congrArg₂ (fun p q : EReal => p + q) ?_ (share_0 m c t a b)).trans (zero_add _)
  · rw [View.readCov_eq_canon']
    dsimp only
    rw [View.canon_unit_zero (S := S1024x1024) hz]
    exact zero_apply _

theorem next_0 (t : Fin cfg0.N) (h0 : ¬t.val % 4 = 0) (a : Fin 512) (b : Fin 1024) :
    (outsAt0 m c t.val t.isLt : S1024x1024.Idx → EReal) (ix2 ⟨0 + a.val, by omega⟩ b)
      = (fun p q : EReal => p + q) ((outsAt0 m c (t.val - 1) (lt_of_le_of_lt (Nat.sub_le _ _) t.isLt) : S1024x1024.Idx → EReal) (ix2 ⟨0 + a.val, by omega⟩ b)) (share m c t ⟨0 + a.val, by omega⟩ b) := by
  rw [outsAt0_B m c t h0]
  unfold out0_B_3 kernelRun0_B
  dsimp only
  try sl_unfold_words
  simp only [View.readAt_eq_ld, Memref.IsWhole.read_unread, View.ld_unit_zero (S := S1024x1024) hz, View.ld_unit_zero (S := S1024x512) hz]
  refine (View.read_writes_cons_unit_of_not_mem _ _ _ _ _ _ rfl 0 (Or.inl (show 0 + a.val < 512 by omega))).trans ?_
  refine (View.read_writes_cons_unit_of_mem _ _ _ _ _ _ (ix2 (n0 := 512) (n1 := 1024) a b) rfl fun d => ?_).trans ?_
  · match d with
    | ⟨0, _⟩ => rfl
    | ⟨1, _⟩ => exact (Nat.zero_add _).symm
  refine (pay_0_apply _ _ _ a b).trans ?_
  refine congrArg₂ (fun p q : EReal => p + q) ?_ (share_0 m c t a b)
  refine congrArg (outsAt0 m c (t.val - 1) (lt_of_le_of_lt (Nat.sub_le _ _) t.isLt) : S1024x1024.Idx → EReal) (funext fun d => Fin.ext ?_)
  match d with
  | ⟨0, _⟩ => show 0 + 1 * a.val = 0 + a.val; omega
  | ⟨1, _⟩ => show 0 + 1 * b.val = b.val; omega

theorem first_1 (t : Fin cfg0.N) (h0 : t.val % 4 = 0) (a : Fin 512) (b : Fin 1024) :
    (outsAt0 m c t.val t.isLt : S1024x1024.Idx → EReal) (ix2 ⟨512 + a.val, by omega⟩ b) = share m c t ⟨512 + a.val, by omega⟩ b := by
  rw [outsAt0_A m c t h0]
  unfold out0_A_3 kernelRun0_A
  dsimp only
  try sl_unfold_words
  simp only [View.readAt_eq_ld, Memref.IsWhole.read_unread, View.ld_unit_zero (S := S1024x1024) hz, View.ld_unit_zero (S := S1024x512) hz]
  refine (View.read_writes_cons_unit_of_mem _ _ _ _ _ _ (ix2 (n0 := 512) (n1 := 1024) a b) rfl fun d => ?_).trans ?_
  · match d with
    | ⟨0, _⟩ => rfl
    | ⟨1, _⟩ => exact (Nat.zero_add _).symm
  refine (pay_1_apply _ _ _ a b).trans ?_
  refine (congrArg₂ (fun p q : EReal => p + q) ?_ (share_1 m c t a b)).trans (zero_add _)
  · rw [View.readCov_eq_canon']
    dsimp only
    refine (View.canon_cons_of_not_mem _ _ (fun hm => ?_)).trans ?_
    · obtain ⟨i, hi, he⟩ := (LoadRect.mem_set _).mp hm (0 : Fin 2)
      have hi1 : i < 512 := hi
      have he' : 512 + 1 * a.val = 0 + 1 * i := he
      omega
    rw [View.canon_unit_zero (S := S1024x1024) hz]
    exact zero_apply _

theorem next_1 (t : Fin cfg0.N) (h0 : ¬t.val % 4 = 0) (a : Fin 512) (b : Fin 1024) :
    (outsAt0 m c t.val t.isLt : S1024x1024.Idx → EReal) (ix2 ⟨512 + a.val, by omega⟩ b)
      = (fun p q : EReal => p + q) ((outsAt0 m c (t.val - 1) (lt_of_le_of_lt (Nat.sub_le _ _) t.isLt) : S1024x1024.Idx → EReal) (ix2 ⟨512 + a.val, by omega⟩ b)) (share m c t ⟨512 + a.val, by omega⟩ b) := by
  rw [outsAt0_B m c t h0]
  unfold out0_B_3 kernelRun0_B
  dsimp only
  try sl_unfold_words
  simp only [View.readAt_eq_ld, Memref.IsWhole.read_unread, View.ld_unit_zero (S := S1024x1024) hz, View.ld_unit_zero (S := S1024x512) hz]
  refine (View.read_writes_cons_unit_of_mem _ _ _ _ _ _ (ix2 (n0 := 512) (n1 := 1024) a b) rfl fun d => ?_).trans ?_
  · match d with
    | ⟨0, _⟩ => rfl
    | ⟨1, _⟩ => exact (Nat.zero_add _).symm
  refine (pay_1_apply _ _ _ a b).trans ?_
  refine congrArg₂ (fun p q : EReal => p + q) ?_ (share_1 m c t a b)
  refine congrArg (outsAt0 m c (t.val - 1) (lt_of_le_of_lt (Nat.sub_le _ _) t.isLt) : S1024x1024.Idx → EReal) (funext fun d => Fin.ext ?_)
  match d with
  | ⟨0, _⟩ => show 512 + 1 * a.val = 512 + a.val; omega
  | ⟨1, _⟩ => show 0 + 1 * b.val = b.val; omega

/-- The first point leaves its share; a later point adds its share to what the previous point left. -/
theorem first (t : Fin cfg0.N) (h0 : t.val % 4 = 0) (r : Fin 1024) (b : Fin 1024) :
    (outsAt0 m c t.val t.isLt : S1024x1024.Idx → EReal) (ix2 r b) = share m c t r b := by
  by_cases hr0 : r.val < 512
  · have e : r = ⟨0 + (⟨r.val - 0, by omega⟩ : Fin 512).val, by simp only []; omega⟩ := Fin.ext (by simp only []; omega)
    rw [e]
    exact first_0 m c t h0 _ b
  have e : r = ⟨512 + (⟨r.val - 512, by omega⟩ : Fin 512).val, by simp only []; omega⟩ := Fin.ext (by simp only []; omega)
  rw [e]
  exact first_1 m c t h0 _ b

theorem next (t : Fin cfg0.N) (h0 : ¬t.val % 4 = 0) (r : Fin 1024) (b : Fin 1024) :
    (outsAt0 m c t.val t.isLt : S1024x1024.Idx → EReal) (ix2 r b)
      = (fun p q : EReal => p + q) ((outsAt0 m c (t.val - 1) (lt_of_le_of_lt (Nat.sub_le _ _) t.isLt) : S1024x1024.Idx → EReal) (ix2 r b)) (share m c t r b) := by
  by_cases hr0 : r.val < 512
  · have e : r = ⟨0 + (⟨r.val - 0, by omega⟩ : Fin 512).val, by simp only []; omega⟩ := Fin.ext (by simp only []; omega)
    rw [e]
    exact next_0 m c t h0 _ b
  have e : r = ⟨512 + (⟨r.val - 512, by omega⟩ : Fin 512).val, by simp only []; omega⟩ := Fin.ext (by simp only []; omega)
  rw [e]
  exact next_1 m c t h0 _ b

abbrev pt (s : Fin 4) : Fin cfg0.N := ⟨s.val, lt_of_lt_of_eq s.isLt N_0.symm⟩

theorem last (r : Fin 1024) (b : Fin 1024) : (outsAt0 m c (pt 3).val (pt 3).isLt : S1024x1024.Idx → EReal) (ix2 r b)
    = ∑ k : Fin 4096, lft m c k r * dh1 m c (ix2 k b) := by
  refine Eq.trans ?_ (sum_blocks (p := 4) (q := 1024) (by norm_num) (fun k => lft m c k r * dh1 m c (ix2 k b)) (fun s j => by omega))
  rw [Fin.sum_univ_four]
  refine (next m c (pt 3) (by decide) r b).trans (congrArg₂ (fun p q : EReal => p + q) ?_ rfl)
  refine (next m c (pt 2) (by decide) r b).trans (congrArg₂ (fun p q : EReal => p + q) ?_ rfl)
  refine (next m c (pt 1) (by decide) r b).trans (congrArg₂ (fun p q : EReal => p + q) ?_ rfl)
  exact first m c (pt 0) (by decide) r b

/-- The result array, written back at the last point. -/
theorem arr (r : Fin 1024) (b : Fin 1024) : ((dats m 0 c).arrAt 3 cfg0.N : S1024x1024.Idx → EReal) (ix2 r b)
    = ∑ k : Fin 4096, lft m c k r * dh1 m c (ix2 k b) := by
  have hf : (cfg0.win 3).flush (pt 3) = true := (flush0_3 (pt 3)).mpr rfl
  have hd : ∀ t t' : Fin cfg0.N, (cfg0.win 3).flush t = true → (cfg0.win 3).flush t' = true → t ≠ t' →
      Disjoint ((cfg0.win 3).blk t).view.set ((cfg0.win 3).blk t').view.set := fun t t' h h' hne => absurd (Fin.ext (by
    have e := (flush0_3 t).mp h
    have e' := (flush0_3 t').mp h'
    have := N_eq t
    have := N_eq t'
    omega)) hne
  have hb := congrFun ((dats m 0 c).read_blk_arrAt_eq_flushed 3 hd cfg0.N (pt 3) (pt 3).isLt hf) (ix2 (n0 := 1024) (n1 := 1024) r b)
  rw [View.read_apply, flushed3] at hb
  refine Eq.trans (congrArg ((dats m 0 c).arrAt 3 cfg0.N : S1024x1024.Idx → EReal) (funext fun d => Fin.ext ?_)) (hb.trans (Eq.trans ?_ (last m c r b)))
  · match d with
    | ⟨0, _⟩ => show r.val = win0_3.index (pt 3) 0 * 1024 + 1 * r.val; rw [(idx_3 (pt 3)).1]; omega
    | ⟨1, _⟩ => show b.val = win0_3.index (pt 3) 1 * 1024 + 1 * b.val; rw [(idx_3 (pt 3)).2]; omega
  · refine congrArg (outsAt0 m c (pt 3).val (pt 3).isLt : S1024x1024.Idx → EReal) (funext fun d => Fin.ext ?_)
    match d with
    | ⟨0, _⟩ => rfl
    | ⟨1, _⟩ => rfl

/-! ## The reference -/

theorem ref_eq (u v : S4096x1024.Idx → EReal) (a b : Fin 1024) :
    (val_main_v3 (F := Ideal) u v (ix2 a b) : EReal) = ∑ k : Fin 4096, u (ix2 k a) * v (ix2 k b) := by
  rw [val_main_v3_apply, val_main_v2_apply]
  refine Finset.sum_congr rfl fun k _ => ?_
  rw [mul_comm]
  refine congrArg₂ (fun p q : EReal => p * q) ?_ (congrArg v (eq_ix2 _))
  exact congrArg u (eq_ix2 _)

theorem result_eq : ((dats m 0 c).arrAt 3 cfg0.N : S1024x1024.Idx → EReal) = val_main_v3 (F := Ideal) (mix m c) (dh1 m c) :=
  ext2 _ _ fun i j => (arr m c i j).trans (ref_eq _ _ i j).symm

end Cert.Kernel7Ideal.Result

namespace Cert.Proof

open Cert.Kernel7Ideal.Result Cert.Reference7Ideal.Read

theorem frame_reference7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The two programs, run on memories that hold the same arguments, leave the same result. -/
theorem algebraic_wo : Cert.algebraic_Kernel7Ideal_Reference7Ideal := by
  intro m ρ m' ρ' _ hagree
  refine ⟨fun c => val_main_v3 (F := Ideal) (mix m c) (dh1 m c), ?_, ?_⟩
  · refine (θ_run Cert.Kernel7Ideal.defs _ _).mono (fun r h c => ?_) (Cert.Kernel7Ideal.Value.run_blocks (F := Ideal) m ρ)
    obtain ⟨h0, ha⟩ := h c
    exact ⟨h0.trans (result_eq m c), ha⟩
  · refine (θ_run Cert.Reference7Ideal.defs _ _).mono (fun r h c => ?_) (Cert.Reference7Ideal.Value.run (F := Ideal) m' ρ')
    obtain ⟨h0, ha⟩ := h c
    obtain ⟨a0, a1⟩ := hagree c
    refine ⟨(h0.trans (val_main_v3_eq ..)).trans ?_, ha⟩
    rw [a0, a1]

end Cert.Proof

end
-- ==== Proof.WgradGate.lean ====
/-
  The call that computes the gradient at the gate's weight: the product of the normed activations' transpose with the
  gradient at the gate's pre-activation, accumulated over four blocks of 1024 rows. Over the extended reals its result is the
  derivative of the product.
-/
module

public import proofs.«01_k».proof.Defs
public import proofs.«01_k».proof.Proof.Shared
public import proofs.«01_k».proof.Proof.Gen.Kernel8Ideal.Value
public import proofs.«01_k».proof.Proof.Gen.Reference8Ideal.Read
public import Idealize.ShloMosaic.Lib.StableHlo.RunRead

@[expose] public section

set_option maxRecDepth 16384

noncomputable section

open Idealize.ShloMosaic Idealize.ShloMosaic.TcCoe Idealize.ShloMosaic.ValueIdx Idealize.SL.Sem

namespace Cert.Kernel8Ideal.Result

open Cert.Kernel8Ideal Cert.Kernel8Ideal.Gen Cert.Kernel8Ideal.Value Cert.Shared Cert.Reference8Ideal.Read

variable (m : (ℓ : Loc nD τ sig) → Buf (Elt Ideal) ℓ) (c : Dev nD)

/-- The two arguments. -/
abbrev act : S4096x1024.Idx → EReal := m ((c : Thread nD τ).loc main_arg0)
abbrev grd : S4096x1024.Idx → EReal := m ((c : Thread nD τ).loc main_arg1)

/-- The left factor as the call receives it. -/
abbrev lft : S4096x1024.Idx → EReal := act m c

theorem V_lft (i : S4096x1024.Idx) : (V m c main_v0 : S4096x1024.Idx → EReal) i = lft m c i := by
  unfold V hostOps0
  after_reads_simp
  rfl

theorem V_grd (i : S4096x1024.Idx) : (V m c main_v1 : S4096x1024.Idx → EReal) i = grd m c i := by
  unfold V hostOps0
  after_reads_simp
  rfl

/-- The point of row block `q` of the result and row block `s` of the arguments. -/
abbrev pt (q : Fin 1) (s : Fin 4) : Fin cfg0.N := ⟨4 * q.val + s.val, by rw [show cfg0.N = 4 from N_0]; omega⟩

theorem idx_0 : ∀ t : Fin grid0.N, (win0_0.index t 0 = t.val % 4) ∧ (win0_0.index t 1 = t.val / 4) := by decide +kernel
theorem idx_1 : ∀ t : Fin grid0.N, (win0_1.index t 0 = t.val % 4) ∧ (win0_1.index t 1 = 0) := by decide +kernel

theorem iblk_lft (q : Fin 1) (s : Fin 4) (k : Fin 1024) (a : Fin 1024) :
    (iblk m c 0 (pt q s) : S1024x1024.Idx → EReal) (ix2 k a)
      = lft m c (ix2 ⟨1024 * s.val + k.val, by omega⟩ ⟨1024 * q.val + a.val, by omega⟩) := by
  unfold iblk
  rw [View.read_apply]
  show (V m c main_v0 : S4096x1024.Idx → EReal) _ = _
  rw [V_lft]
  refine congrArg (lft m c) (funext fun d => Fin.ext ?_)
  match d with
  | ⟨0, _⟩ => show win0_0.index (pt q s) 0 * 1024 + 1 * k.val = 1024 * s.val + k.val; rw [(idx_0 _).1]; show (4 * q.val + s.val) % 4 * 1024 + 1 * k.val = _; omega
  | ⟨1, _⟩ => show win0_0.index (pt q s) 1 * 1024 + 1 * a.val = 1024 * q.val + a.val; rw [(idx_0 _).2]; show (4 * q.val + s.val) / 4 * 1024 + 1 * a.val = _; omega

theorem iblk_grd (q : Fin 1) (s : Fin 4) (k : Fin 1024) (b : Fin 1024) :
    (iblk m c 1 (pt q s) : S1024x1024.Idx → EReal) (ix2 k b) = grd m c (ix2 ⟨1024 * s.val + k.val, by omega⟩ b) := by
  unfold iblk
  rw [View.read_apply]
  show (V m c main_v1 : S4096x1024.Idx → EReal) _ = _
  rw [V_grd]
  refine congrArg (grd m c) (funext fun d => Fin.ext ?_)
  match d with
  | ⟨0, _⟩ => show win0_1.index (pt q s) 0 * 1024 + 1 * k.val = 1024 * s.val + k.val; rw [(idx_1 _).1]; show (4 * q.val + s.val) % 4 * 1024 + 1 * k.val = _; omega
  | ⟨1, _⟩ => show win0_1.index (pt q s) 1 * 1024 + 1 * b.val = b.val; rw [(idx_1 _).2]; omega

/-- The accumulator starts at zero. -/
theorem pay1_apply (i : S1024x1024.Idx) : (k0_pay1 (F := Ideal) i : EReal) = 0 := Ideal.ofBits_zero_f32

/-- A point adds its rows' share of the product. -/
theorem pay2_apply (u : Vec Ideal S1024x1024 .bf16) (v : Vec Ideal S1024x1024 .bf16) (acc : Vec Ideal S1024x1024 .f32) (a : Fin 1024) (b : Fin 1024) :
    (k0_pay2 u acc v (ix2 a b) : EReal) = acc (ix2 a b) + ∑ k : Fin 1024, (u (ix2 k a) : EReal) * v (ix2 k b) := by
  unfold k0_pay2
  simp only [shapeCast_self]
  exact congrArg (fun p : EReal => acc (ix2 a b) + p) (tn_apply (φ := .bf16) (ψ := .bf16) dot_S1024x1024_S1024x1024_S1024x1024_0_0_1_1_n_n rfl rfl
    (fun j k => dot_S1024x1024_S1024x1024_S1024x1024_0_0_1_1_n_n.lhsIdx_val_of_single rfl j k) (fun _ _ => rfl)
    (fun j k => dot_S1024x1024_S1024x1024_S1024x1024_0_0_1_1_n_n.rhsIdx_val_of_single rfl j k) (fun _ _ => rfl) u v a b)

/-- The result at a row block, a row of the block and a column. -/
theorem res (q : Fin 1) (a : Fin 1024) (b : Fin 1024) : (G2 m c (ix2 ⟨1024 * q.val + a.val, by omega⟩ b) : EReal)
    = ∑ k : Fin 4096, lft m c (ix2 k ⟨1024 * q.val + a.val, by omega⟩) * grd m c (ix2 k b) := by
  have hp : run2Of (ix2 (⟨1024 * q.val + a.val, by omega⟩ : Fin 1024) b) = q.val := by
    show 1 * ((1024 * q.val + a.val) / 1024 - 0) + 1 * (b.val / 1024 - 0) = q.val
    omega
  have hl : loc2Of (ix2 (⟨1024 * q.val + a.val, by omega⟩ : Fin 1024) b) = ix2 a b := funext fun d => Fin.ext (by
    match d with
    | ⟨0, _⟩ => show (1024 * q.val + a.val) % 1024 = a.val; omega
    | ⟨1, _⟩ => show b.val % 1024 = b.val; omega)
  have hN : 4 * run2Of (ix2 (⟨1024 * q.val + a.val, by omega⟩ : Fin 1024) b) + 3 < cfg0.N := by rw [hp, show cfg0.N = 4 from N_0]; omega
  unfold G2
  rw [dif_pos hN, hl]
  have e : ∀ (n : ℕ) (h : 4 * n + 3 < cfg0.N), n = q.val → Pipeline.accAt (reset2 m c) (step2 m c) (4 * n) 3 h
      = step2 m c (pt q 3).val (pt q 3).isLt (step2 m c (pt q 2).val (pt q 2).isLt (step2 m c (pt q 1).val (pt q 1).isLt (reset2 m c (pt q 0).val (pt q 0).isLt))) := fun n h hn => by subst hn; rfl
  rw [e _ hN hp]
  unfold step2 reset2
  refine (pay2_apply _ _ _ a b).trans ?_
  refine (congrArg₂ (fun p q : EReal => p + q) (pay2_apply _ _ _ a b) rfl).trans ?_
  refine (congrArg₂ (fun p q : EReal => p + q) (congrArg₂ (fun p q : EReal => p + q) (pay2_apply _ _ _ a b) rfl) rfl).trans ?_
  refine (congrArg₂ (fun p q : EReal => p + q) (congrArg₂ (fun p q : EReal => p + q) (congrArg₂ (fun p q : EReal => p + q) (pay2_apply _ _ _ a b) rfl) rfl) rfl).trans ?_
  rw [pay1_apply, zero_add]
  refine Eq.trans ?_ (sum_blocks (p := 4) (q := 1024) (by norm_num)
    (fun k => lft m c (ix2 k ⟨1024 * q.val + a.val, by omega⟩) * grd m c (ix2 k b)) (fun s j => by omega))
  rw [Fin.sum_univ_four]
  have term : ∀ s : Fin 4, (∑ k : Fin 1024, (fun p q : EReal => p * q) ((iblk m c 0 (pt q s) : S1024x1024.Idx → EReal) (ix2 k a)) ((iblk m c 1 (pt q s) : S1024x1024.Idx → EReal) (ix2 k b)))
      = ∑ k : Fin 1024, lft m c (ix2 ⟨1024 * s.val + k.val, by omega⟩ ⟨1024 * q.val + a.val, by omega⟩) * grd m c (ix2 ⟨1024 * s.val + k.val, by omega⟩ b) :=
    fun s => Finset.sum_congr rfl fun k _ => congrArg₂ (fun p q : EReal => p * q) (iblk_lft m c q s k a) (iblk_grd m c q s k b)
  exact congrArg₂ (fun p q : EReal => p + q) (congrArg₂ (fun p q : EReal => p + q) (congrArg₂ (fun p q : EReal => p + q) ((term 0)) (term 1)) (term 2)) (term 3)

theorem ref_eq (u : S4096x1024.Idx → EReal) (v : S4096x1024.Idx → EReal) (a : Fin 1024) (b : Fin 1024) :
    (val_main_v3 (F := Ideal) u v (ix2 a b) : EReal) = ∑ k : Fin 4096, u (ix2 k a) * v (ix2 k b) := by
  rw [val_main_v3_apply, val_main_v2_apply]
  refine Finset.sum_congr rfl fun k _ => ?_
  rw [mul_comm]
  refine congrArg₂ (fun p q : EReal => p * q) ?_ (congrArg v (eq_ix2 _))
  exact congrArg u (eq_ix2 _)

theorem G2_eq : (G2 m c : S1024x1024.Idx → EReal) = val_main_v3 (F := Ideal) (act m c) (grd m c) :=
  ext2 _ _ fun i j => by
    have hq : i.val / 1024 < 1 := by omega
    have hi : i = (⟨1024 * (⟨i.val / 1024, hq⟩ : Fin 1).val + (⟨i.val % 1024, Nat.mod_lt _ (by norm_num)⟩ : Fin 1024).val, by simp only []; omega⟩ : Fin 1024) :=
      Fin.ext (by simp only []; omega)
    rw [hi]
    exact (res m c ⟨i.val / 1024, hq⟩ ⟨i.val % 1024, Nat.mod_lt _ (by norm_num)⟩ j).trans (ref_eq _ _ _ j).symm

end Cert.Kernel8Ideal.Result

namespace Cert.Proof

open Cert.Kernel8Ideal.Result Cert.Reference8Ideal.Read

theorem frame_reference8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- The two programs, run on memories that hold the same arguments, leave the same result. -/
theorem algebraic_gate : Cert.algebraic_Kernel8Ideal_Reference8Ideal := by
  intro m ρ m' ρ' _ hagree
  refine ⟨fun c => val_main_v3 (F := Ideal) (act m c) (grd m c), ?_, ?_⟩
  · refine (θ_run Cert.Kernel8Ideal.defs _ _).mono (fun r h c => ?_) (Cert.Kernel8Ideal.Value.run (F := Ideal) m ρ)
    obtain ⟨h0, ha⟩ := h c
    exact ⟨h0.trans (G2_eq m c), ha⟩
  · refine (θ_run Cert.Reference8Ideal.defs _ _).mono (fun r h c => ?_) (Cert.Reference8Ideal.Value.run (F := Ideal) m' ρ')
    obtain ⟨h0, ha⟩ := h c
    obtain ⟨a0, a1⟩ := hagree c
    refine ⟨(h0.trans (val_main_v3_eq ..)).trans ?_, ha⟩
    rw [a0, a1]

end Cert.Proof

end
-- ==== Proof.WgradProj.lean ====
/-
  The call that computes the gradient at the embedding's projection: the product of the embeddings' transpose with the
  gradient at their projection, accumulated over four blocks of 1024 rows. Over the extended reals its result is the
  derivative of the product.
-/
module

public import proofs.«01_k».proof.Defs
public import proofs.«01_k».proof.Proof.Shared
public import proofs.«01_k».proof.Proof.Gen.Kernel9Ideal.Value
public import proofs.«01_k».proof.Proof.Gen.Reference9Ideal.Read
public import Idealize.ShloMosaic.Lib.StableHlo.RunRead

@[expose] public section

set_option maxRecDepth 16384

noncomputable section

open Idealize.ShloMosaic Idealize.ShloMosaic.TcCoe Idealize.ShloMosaic.ValueIdx Idealize.SL.Sem

namespace Cert.Kernel9Ideal.Result

open Cert.Kernel9Ideal Cert.Kernel9Ideal.Gen Cert.Kernel9Ideal.Value Cert.Shared Cert.Reference9Ideal.Read

variable (m : (ℓ : Loc nD τ sig) → Buf (Elt Ideal) ℓ) (c : Dev nD)

/-- The two arguments. -/
abbrev act : S4096x256.Idx → EReal := m ((c : Thread nD τ).loc main_arg0)
abbrev grd : S4096x1024.Idx → EReal := m ((c : Thread nD τ).loc main_arg1)

/-- The left factor as the call receives it. -/
abbrev lft : S4096x256.Idx → EReal := act m c

theorem V_lft (i : S4096x256.Idx) : (V m c main_v0 : S4096x256.Idx → EReal) i = lft m c i := by
  unfold V hostOps0
  after_reads_simp
  rfl

theorem V_grd (i : S4096x1024.Idx) : (V m c main_v1 : S4096x1024.Idx → EReal) i = grd m c i := by
  unfold V hostOps0
  after_reads_simp
  rfl

/-- The point of row block `q` of the result and row block `s` of the arguments. -/
abbrev pt (q : Fin 1) (s : Fin 4) : Fin cfg0.N := ⟨4 * q.val + s.val, by rw [show cfg0.N = 4 from N_0]; omega⟩

theorem idx_0 : ∀ t : Fin grid0.N, (win0_0.index t 0 = t.val % 4) ∧ (win0_0.index t 1 = t.val / 4) := by decide +kernel
theorem idx_1 : ∀ t : Fin grid0.N, (win0_1.index t 0 = t.val % 4) ∧ (win0_1.index t 1 = 0) := by decide +kernel

theorem iblk_lft (q : Fin 1) (s : Fin 4) (k : Fin 1024) (a : Fin 256) :
    (iblk m c 0 (pt q s) : S1024x256.Idx → EReal) (ix2 k a)
      = lft m c (ix2 ⟨1024 * s.val + k.val, by omega⟩ ⟨256 * q.val + a.val, by omega⟩) := by
  unfold iblk
  rw [View.read_apply]
  show (V m c main_v0 : S4096x256.Idx → EReal) _ = _
  rw [V_lft]
  refine congrArg (lft m c) (funext fun d => Fin.ext ?_)
  match d with
  | ⟨0, _⟩ => show win0_0.index (pt q s) 0 * 1024 + 1 * k.val = 1024 * s.val + k.val; rw [(idx_0 _).1]; show (4 * q.val + s.val) % 4 * 1024 + 1 * k.val = _; omega
  | ⟨1, _⟩ => show win0_0.index (pt q s) 1 * 256 + 1 * a.val = 256 * q.val + a.val; rw [(idx_0 _).2]; show (4 * q.val + s.val) / 4 * 256 + 1 * a.val = _; omega

theorem iblk_grd (q : Fin 1) (s : Fin 4) (k : Fin 1024) (b : Fin 1024) :
    (iblk m c 1 (pt q s) : S1024x1024.Idx → EReal) (ix2 k b) = grd m c (ix2 ⟨1024 * s.val + k.val, by omega⟩ b) := by
  unfold iblk
  rw [View.read_apply]
  show (V m c main_v1 : S4096x1024.Idx → EReal) _ = _
  rw [V_grd]
  refine congrArg (grd m c) (funext fun d => Fin.ext ?_)
  match d with
  | ⟨0, _⟩ => show win0_1.index (pt q s) 0 * 1024 + 1 * k.val = 1024 * s.val + k.val; rw [(idx_1 _).1]; show (4 * q.val + s.val) % 4 * 1024 + 1 * k.val = _; omega
  | ⟨1, _⟩ => show win0_1.index (pt q s) 1 * 1024 + 1 * b.val = b.val; rw [(idx_1 _).2]; omega

/-- The accumulator starts at zero. -/
theorem pay1_apply (i : S256x1024.Idx) : (k0_pay1 (F := Ideal) i : EReal) = 0 := Ideal.ofBits_zero_f32

/-- A point adds its rows' share of the product. -/
theorem pay2_apply (u : Vec Ideal S1024x256 .bf16) (v : Vec Ideal S1024x1024 .bf16) (acc : Vec Ideal S256x1024 .f32) (a : Fin 256) (b : Fin 1024) :
    (k0_pay2 u acc v (ix2 a b) : EReal) = acc (ix2 a b) + ∑ k : Fin 1024, (u (ix2 k a) : EReal) * v (ix2 k b) := by
  unfold k0_pay2
  simp only [shapeCast_self]
  exact congrArg (fun p : EReal => acc (ix2 a b) + p) (tn_apply (φ := .bf16) (ψ := .bf16) dot_S1024x256_S1024x1024_S256x1024_0_0_1_1_n_n rfl rfl
    (fun j k => dot_S1024x256_S1024x1024_S256x1024_0_0_1_1_n_n.lhsIdx_val_of_single rfl j k) (fun _ _ => rfl)
    (fun j k => dot_S1024x256_S1024x1024_S256x1024_0_0_1_1_n_n.rhsIdx_val_of_single rfl j k) (fun _ _ => rfl) u v a b)

/-- The result at a row block, a row of the block and a column. -/
theorem res (q : Fin 1) (a : Fin 256) (b : Fin 1024) : (G2 m c (ix2 ⟨256 * q.val + a.val, by omega⟩ b) : EReal)
    = ∑ k : Fin 4096, lft m c (ix2 k ⟨256 * q.val + a.val, by omega⟩) * grd m c (ix2 k b) := by
  have hp : run2Of (ix2 (⟨256 * q.val + a.val, by omega⟩ : Fin 256) b) = q.val := by
    show 1 * ((256 * q.val + a.val) / 256 - 0) + 1 * (b.val / 1024 - 0) = q.val
    omega
  have hl : loc2Of (ix2 (⟨256 * q.val + a.val, by omega⟩ : Fin 256) b) = ix2 a b := funext fun d => Fin.ext (by
    match d with
    | ⟨0, _⟩ => show (256 * q.val + a.val) % 256 = a.val; omega
    | ⟨1, _⟩ => show b.val % 1024 = b.val; omega)
  have hN : 4 * run2Of (ix2 (⟨256 * q.val + a.val, by omega⟩ : Fin 256) b) + 3 < cfg0.N := by rw [hp, show cfg0.N = 4 from N_0]; omega
  unfold G2
  rw [dif_pos hN, hl]
  have e : ∀ (n : ℕ) (h : 4 * n + 3 < cfg0.N), n = q.val → Pipeline.accAt (reset2 m c) (step2 m c) (4 * n) 3 h
      = step2 m c (pt q 3).val (pt q 3).isLt (step2 m c (pt q 2).val (pt q 2).isLt (step2 m c (pt q 1).val (pt q 1).isLt (reset2 m c (pt q 0).val (pt q 0).isLt))) := fun n h hn => by subst hn; rfl
  rw [e _ hN hp]
  unfold step2 reset2
  refine (pay2_apply _ _ _ a b).trans ?_
  refine (congrArg₂ (fun p q : EReal => p + q) (pay2_apply _ _ _ a b) rfl).trans ?_
  refine (congrArg₂ (fun p q : EReal => p + q) (congrArg₂ (fun p q : EReal => p + q) (pay2_apply _ _ _ a b) rfl) rfl).trans ?_
  refine (congrArg₂ (fun p q : EReal => p + q) (congrArg₂ (fun p q : EReal => p + q) (congrArg₂ (fun p q : EReal => p + q) (pay2_apply _ _ _ a b) rfl) rfl) rfl).trans ?_
  rw [pay1_apply, zero_add]
  refine Eq.trans ?_ (sum_blocks (p := 4) (q := 1024) (by norm_num)
    (fun k => lft m c (ix2 k ⟨256 * q.val + a.val, by omega⟩) * grd m c (ix2 k b)) (fun s j => by omega))
  rw [Fin.sum_univ_four]
  have term : ∀ s : Fin 4, (∑ k : Fin 1024, (fun p q : EReal => p * q) ((iblk m c 0 (pt q s) : S1024x256.Idx → EReal) (ix2 k a)) ((iblk m c 1 (pt q s) : S1024x1024.Idx → EReal) (ix2 k b)))
      = ∑ k : Fin 1024, lft m c (ix2 ⟨1024 * s.val + k.val, by omega⟩ ⟨256 * q.val + a.val, by omega⟩) * grd m c (ix2 ⟨1024 * s.val + k.val, by omega⟩ b) :=
    fun s => Finset.sum_congr rfl fun k _ => congrArg₂ (fun p q : EReal => p * q) (iblk_lft m c q s k a) (iblk_grd m c q s k b)
  exact congrArg₂ (fun p q : EReal => p + q) (congrArg₂ (fun p q : EReal => p + q) (congrArg₂ (fun p q : EReal => p + q) ((term 0)) (term 1)) (term 2)) (term 3)

theorem ref_eq (u : S4096x256.Idx → EReal) (v : S4096x1024.Idx → EReal) (a : Fin 256) (b : Fin 1024) :
    (val_main_v3 (F := Ideal) u v (ix2 a b) : EReal) = ∑ k : Fin 4096, u (ix2 k a) * v (ix2 k b) := by
  rw [val_main_v3_apply, val_main_v2_apply]
  refine Finset.sum_congr rfl fun k _ => ?_
  rw [mul_comm]
  refine congrArg₂ (fun p q : EReal => p * q) ?_ (congrArg v (eq_ix2 _))
  exact congrArg u (eq_ix2 _)

theorem G2_eq : (G2 m c : S256x1024.Idx → EReal) = val_main_v3 (F := Ideal) (act m c) (grd m c) :=
  ext2 _ _ fun i j => by
    have hq : i.val / 256 < 1 := by omega
    have hi : i = (⟨256 * (⟨i.val / 256, hq⟩ : Fin 1).val + (⟨i.val % 256, Nat.mod_lt _ (by norm_num)⟩ : Fin 256).val, by simp only []; omega⟩ : Fin 256) :=
      Fin.ext (by simp only []; omega)
    rw [hi]
    exact (res m c ⟨i.val / 256, hq⟩ ⟨i.val % 256, Nat.mod_lt _ (by norm_num)⟩ j).trans (ref_eq _ _ _ j).symm

end Cert.Kernel9Ideal.Result

namespace Cert.Proof

open Cert.Kernel9Ideal.Result Cert.Reference9Ideal.Read

theorem frame_reference9 : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- The two programs, run on memories that hold the same arguments, leave the same result. -/
theorem algebraic_proj : Cert.algebraic_Kernel9Ideal_Reference9Ideal := by
  intro m ρ m' ρ' _ hagree
  refine ⟨fun c => val_main_v3 (F := Ideal) (act m c) (grd m c), ?_, ?_⟩
  · refine (θ_run Cert.Kernel9Ideal.defs _ _).mono (fun r h c => ?_) (Cert.Kernel9Ideal.Value.run (F := Ideal) m ρ)
    obtain ⟨h0, ha⟩ := h c
    exact ⟨h0.trans (G2_eq m c), ha⟩
  · refine (θ_run Cert.Reference9Ideal.defs _ _).mono (fun r h c => ?_) (Cert.Reference9Ideal.Value.run (F := Ideal) m' ρ')
    obtain ⟨h0, ha⟩ := h c
    obtain ⟨a0, a1⟩ := hagree c
    refine ⟨(h0.trans (val_main_v3_eq ..)).trans ?_, ha⟩
    rw [a0, a1]

end Cert.Proof

end
-- ==== Proof.Inproj.lean ====
/-
  The input projection's forward call: the normed input, and its product with the projections' weight in two parts, the
  second with the columns that the host code pads the weight by. Over the extended reals its three results are the normed
  input and the two parts of the padded product.
-/
module

public import proofs.«01_k».proof.Defs
public import proofs.«01_k».proof.Proof.Shared
public import proofs.«01_k».proof.Proof.MlpAlgebra
public import proofs.«01_k».proof.Proof.Gen.Kernel10Ideal.Value
public import proofs.«01_k».proof.Proof.Gen.Reference10Ideal.Read
public import Idealize.ShloMosaic.Lib.StableHlo.RunRead
public import Idealize.ShloMosaic.Lib.KernelVsHost

@[expose] public section

set_option maxRecDepth 16384

noncomputable section

open Idealize.ShloMosaic Idealize.ShloMosaic.TcCoe Idealize.ShloMosaic.ValueIdx Idealize.SL.Sem

namespace Cert.Kernel10Ideal.Result

open Cert.Kernel10Ideal Cert.Kernel10Ideal.Gen Cert.Kernel10Ideal.Value Cert.Shared Cert.Reference10Ideal.Read Cert.KernelIdeal.Algebra

variable (m : (ℓ : Loc nD τ sig) → Buf (Elt Ideal) ℓ) (c : Dev nD)

/-- The three arguments: the layer's input, the norm's weight, the projections' weight. -/
abbrev x : S4096x1024.Idx → EReal := m ((c : Thread nD τ).loc main_arg0)
abbrev g : S1024.Idx → EReal := m ((c : Thread nD τ).loc main_arg1)
abbrev win : S1024x2824.Idx → EReal := m ((c : Thread nD τ).loc main_arg2)

/-- The value the host code pads with. -/
abbrev padv : (⟨S_, .f32⟩ : BufTy).Contents (Elt Ideal) := sitofp (F := Ideal) .f32 (constantI S_ 32 0#32)

theorem padv_eq (i : S_.Idx) : (padv i : EReal) = 0 := by
  show (((0#32 : BitVec 32).toInt : ℝ) : EReal) = 0
  simp

/-- The weight transposed and padded with rows of zeros. -/
abbrev wArr : (⟨S2944x1024, .f32⟩ : BufTy).Contents (Elt Ideal) :=
  pad S2944x1024 ![0, 0] ![120, 0] ![0, 0] (transpose S2824x1024 [1, 0] (win m c : (⟨S1024x2824, .f32⟩ : BufTy).Contents (Elt Ideal)) transposes_S1024x2824_S2824x1024_1_0)
    padv pads_S2824x1024_S2944x1024_01200_000 h_S_

def wpad (k : Fin 2944) (b : Fin 1024) : EReal := if h : k.val < 2824 then win m c (ix2 b ⟨k.val, h⟩) else 0

theorem wArr_apply (k : Fin 2944) (b : Fin 1024) : (wArr m c (ix2 k b) : EReal) = wpad m c k b := by
  unfold wpad
  split
  · next h =>
    refine (pad_apply_of_inside _ _ _ _ _ _ _ (ix2 k b) (ix2 ⟨k.val, h⟩ b) fun a => ?_).trans ?_
    · match a with
      | ⟨0, _⟩ => show k.val = 0 + k.val * (0 + 1); omega
      | ⟨1, _⟩ => show b.val = 0 + b.val * (0 + 1); omega
    · exact transpose_apply [1, 0] _ transposes_S1024x2824_S2824x1024_1_0 (ix2 ⟨k.val, h⟩ b) (ix2 b ⟨k.val, h⟩) (fun a => match a with
        | ⟨0, _⟩ => rfl | ⟨1, _⟩ => rfl)
  · next h =>
    refine (pad_apply_of_not_inside _ _ _ _ _ _ _ (ix2 k b) 0 fun hh => ?_).trans (padv_eq _)
    have h2 : (k.val - 0) / (0 + 1) < 2824 := hh.2.2
    omega

theorem V_v4 (k : Fin 768) (b : Fin 1024) : (V m c main_v4 : S768x1024.Idx → EReal) (ix2 k b) = wpad m c ⟨0 + k.val, by omega⟩ b := by
  have e : (V m c main_v4 : S768x1024.Idx → EReal) = extractStridedSlice S768x1024 ![0, 0] (wArr m c) slices_S2944x1024_S768x1024_0_0 := by
    unfold V hostOps0 hostOps0_1 hostOps0_2
    simp only [List.flatten_cons, List.flatten_nil, List.append_nil, List.cons_append, List.nil_append]
    after_reads_simp
    rfl
  rw [e]
  refine (extractStridedSlice_apply ![0, 0] _ slices_S2944x1024_S768x1024_0_0 (ix2 k b) (ix2 ⟨0 + k.val, by omega⟩ b) (fun d => match d with
    | ⟨0, _⟩ => rfl
    | ⟨1, _⟩ => (Nat.zero_add _).symm)).trans ?_
  exact wArr_apply m c _ b

theorem V_v5 (k : Fin 2176) (b : Fin 1024) : (V m c main_v5 : S2176x1024.Idx → EReal) (ix2 k b) = wpad m c ⟨768 + k.val, by omega⟩ b := by
  have e : (V m c main_v5 : S2176x1024.Idx → EReal) = extractStridedSlice S2176x1024 ![768, 0] (wArr m c) slices_S2944x1024_S2176x1024_768_0 := by
    unfold V hostOps0 hostOps0_1 hostOps0_2
    simp only [List.flatten_cons, List.flatten_nil, List.append_nil, List.cons_append, List.nil_append]
    after_reads_simp
    rfl
  rw [e]
  refine (extractStridedSlice_apply ![768, 0] _ slices_S2944x1024_S2176x1024_768_0 (ix2 k b) (ix2 ⟨768 + k.val, by omega⟩ b) (fun d => match d with
    | ⟨0, _⟩ => rfl
    | ⟨1, _⟩ => (Nat.zero_add _).symm)).trans ?_
  exact wArr_apply m c _ b

theorem V_g (k : Fin 1024) : (V m c main_v3 : S1x1024.Idx → EReal) (ix2 0 k) = g m c (ix1 k) := by
  unfold V hostOps0 hostOps0_1 hostOps0_2
  simp only [List.flatten_cons, List.flatten_nil, List.append_nil, List.cons_append, List.nil_append]
  after_reads_simp
  exact broadcastInDim_apply _ bcast_S1024_S1x1024_1 (g m c) (ix2 0 k) (ix1 k) (fun a => match a with
    | ⟨0, _⟩ => by show k.val = if (1024 : Nat) = 1 then 0 else k.val; rw [if_neg (by decide)])

theorem N_eq (t : Fin cfg0.N) : t.val < 8 := lt_of_lt_of_eq t.isLt N_0

/-- Row `a` of point `t`. -/
abbrev rw' (t : Fin cfg0.N) (a : Fin 512) : Fin 4096 := ⟨512 * t.val + a.val, by have := N_eq t; omega⟩

theorem hz : (![0, 0] : Fin 2 → Nat) = fun _ => 0 := funext fun a => by fin_cases a <;> rfl

theorem idx_0 : ∀ t : Fin grid0.N, (win0_0.index t 0 = t.val) ∧ (win0_0.index t 1 = 0) := by decide +kernel
theorem idx_4 : ∀ t : Fin grid0.N, (win0_4.index t 0 = t.val) ∧ (win0_4.index t 1 = 0) := by decide +kernel
theorem idx_5 : ∀ t : Fin grid0.N, (win0_5.index t 0 = t.val) ∧ (win0_5.index t 1 = 0) := by decide +kernel
theorem idx_6 : ∀ t : Fin grid0.N, (win0_6.index t 0 = t.val) ∧ (win0_6.index t 1 = 0) := by decide +kernel
theorem idx_1 : ∀ t : Fin grid0.N, (win0_1.index t 0 = 0) ∧ (win0_1.index t 1 = 0) := by decide +kernel
theorem idx_2 : ∀ t : Fin grid0.N, (win0_2.index t 0 = 0) ∧ (win0_2.index t 1 = 0) := by decide +kernel
theorem idx_3 : ∀ t : Fin grid0.N, (win0_3.index t 0 = 0) ∧ (win0_3.index t 1 = 0) := by decide +kernel

theorem iblk_0 (t : Fin cfg0.N) (a : Fin 512) (k : Fin 1024) : (iblk m c 0 t : S512x1024.Idx → EReal) (ix2 a k) = x m c (ix2 (rw' t a) k) := by
  unfold iblk
  rw [View.read_apply]
  refine Eq.trans (congrArg (V m c main_arg0 : S4096x1024.Idx → EReal) (funext fun d => Fin.ext ?_)) (congrFun (V_main_arg0 m c) _)
  match d with
  | ⟨0, _⟩ => show win0_0.index t 0 * 512 + 1 * a.val = 512 * t.val + a.val; rw [(idx_0 t).1]; omega
  | ⟨1, _⟩ => show win0_0.index t 1 * 1024 + 1 * k.val = k.val; rw [(idx_0 t).2]; omega

theorem iblk_g (t : Fin cfg0.N) (b : Fin 1024) : (iblk m c 1 t : S1x1024.Idx → EReal) (ix2 0 b) = g m c (ix1 b) := by
  unfold iblk
  rw [View.read_apply]
  refine Eq.trans (congrArg (V m c main_v3 : S1x1024.Idx → EReal) (funext fun d => Fin.ext ?_)) (V_g m c b)
  match d with
  | ⟨0, _⟩ => show win0_1.index t 0 * 1 + 1 * 0 = 0; rw [(idx_1 t).1]
  | ⟨1, _⟩ => show win0_1.index t 1 * 1024 + 1 * b.val = b.val; rw [(idx_1 t).2]; omega

theorem iblk_2 (t : Fin cfg0.N) (k : Fin 768) (b : Fin 1024) : (iblk m c 2 t : S768x1024.Idx → EReal) (ix2 k b) = wpad m c ⟨0 + k.val, by omega⟩ b := by
  unfold iblk
  rw [View.read_apply]
  refine Eq.trans (congrArg (V m c main_v4 : S768x1024.Idx → EReal) (funext fun d => Fin.ext ?_)) (V_v4 m c k b)
  match d with
  | ⟨0, _⟩ => show win0_2.index t 0 * 768 + 1 * k.val = k.val; rw [(idx_2 t).1]; omega
  | ⟨1, _⟩ => show win0_2.index t 1 * 1024 + 1 * b.val = b.val; rw [(idx_2 t).2]; omega

theorem iblk_3 (t : Fin cfg0.N) (k : Fin 2176) (b : Fin 1024) : (iblk m c 3 t : S2176x1024.Idx → EReal) (ix2 k b) = wpad m c ⟨768 + k.val, by omega⟩ b := by
  unfold iblk
  rw [View.read_apply]
  refine Eq.trans (congrArg (V m c main_v5 : S2176x1024.Idx → EReal) (funext fun d => Fin.ext ?_)) (V_v5 m c k b)
  match d with
  | ⟨0, _⟩ => show win0_3.index t 0 * 2176 + 1 * k.val = k.val; rw [(idx_3 t).1]; omega
  | ⟨1, _⟩ => show win0_3.index t 1 * 1024 + 1 * b.val = b.val; rw [(idx_3 t).2]; omega

/-- A sum over a block's columns. -/
theorem rowSum (u : FVec Ideal S512x1024 .f32) (a : Fin 512) :
    (multiReduction .add [1] S512 u 0x00000000#32 reduces_S512x1024_S512 (.inl rfl) rfl (ix1 a) : EReal)
      = ∑ k : Fin 1024, (u (ix2 a k) : EReal) := by
  refine (Ideal.multiReduction_add_single u 0x00000000#32 reduces_S512x1024_S512 (.inl rfl) rfl (ix1 a)).trans ?_
  exact Finset.sum_congr rfl fun k _ => congrArg u (funext fun e => Fin.ext (by match e with | ⟨0, _⟩ => rfl | ⟨1, _⟩ => rfl))

/-- A column of numbers seen as a column of a matrix. -/
theorem asCol (u : FVec Ideal S512 .f32) (a : Fin 512) : (shapeCast S512x1 u shapeCasts_S512_S512x1 (ix2 a 0) : EReal) = u (ix1 a) :=
  shapeCast_apply _ shapeCasts_S512_S512x1 (ix2 a 0) (ix1 a) (by
    rewrite [Shape.rowMajor_val_one, Shape.rowMajor_val_two]
    show a.val = a.val * 1 + 0
    omega)

/-- A column spread over a block's columns. -/
theorem spreadCol (u : FVec Ideal S512x1 .f32) (a : Fin 512) (b : Fin 1024) :
    broadcastTo S512x1024 u broadcasts_S512x1_S512x1024 (ix2 a b) = u (ix2 a 0) :=
  broadcastTo_apply u broadcasts_S512x1_S512x1024 (ix2 a b) (ix2 a 0) (fun d => match d with
    | ⟨0, _⟩ => by show a.val = if (512 : Nat) = 1 then 0 else a.val; rw [if_neg (by decide)]
    | ⟨1, _⟩ => by show 0 = if (1 : Nat) = 1 then 0 else b.val; rw [if_pos rfl])

/-- A row spread over a block's rows. -/
theorem spreadRow (u : FVec Ideal S1x1024 .f32) (a : Fin 512) (b : Fin 1024) :
    broadcastTo S512x1024 u broadcasts_S1x1024_S512x1024 (ix2 a b) = u (ix2 0 b) :=
  broadcastTo_apply u broadcasts_S1x1024_S512x1024 (ix2 a b) (ix2 0 b) (fun d => match d with
    | ⟨0, _⟩ => by show 0 = if (1 : Nat) = 1 then 0 else a.val; rw [if_pos rfl]
    | ⟨1, _⟩ => by show b.val = if (1024 : Nat) = 1 then 0 else b.val; rw [if_neg (by decide)])

/-- The reciprocal root of a row's mean square. -/
def root (u : S512x1024.Idx → EReal) (a : Fin 512) : EReal :=
  Ideal.rsqrt (msq (fun k : Fin 1024 => u (ix2 a k)) (Ideal.ofBits .f32 0x44800000#32) (Ideal.ofBits .f32 0x358637BD#32))

/-- The normed input. -/
theorem pay1_apply (v : Vec Ideal S512x1024 .f32) (w : Vec Ideal S1x1024 .f32) (a : Fin 512) (b : Fin 1024) :
    (k0_pay1 v w (ix2 a b) : EReal) = v (ix2 a b) * root v a * w (ix2 0 b) := by
  unfold k0_pay1
  simp only [shapeCast_self]
  refine congrArg₂ (fun p q : EReal => (v (ix2 a b) : EReal) * p * q) ((spreadCol _ a b).trans ?_) (spreadRow w a b)
  exact congrArg (fun s => Ideal.rsqrt (Ideal.div s _ + _)) ((asCol _ a).trans (rowSum (mulf v v) a))

theorem pay2_apply (v : Vec Ideal S512x1024 .f32) (w : Vec Ideal S1x1024 .f32) (u : Vec Ideal S768x1024 .bf16) (a : Fin 512) (b : Fin 768) :
    (k0_pay2 v w u (ix2 a b) : EReal) = ∑ k : Fin 1024, (v (ix2 a k) * root v a * w (ix2 0 k)) * (u (ix2 b k) : EReal) := by
  unfold k0_pay2
  simp only [shapeCast_self]
  refine (nt_apply (φ := .bf16) (ψ := .bf16) dot_S512x1024_S768x1024_S512x768_1_1_0_0_n_n rfl rfl (fun _ _ => rfl)
      (fun j k => dot_S512x1024_S768x1024_S512x768_1_1_0_0_n_n.lhsIdx_val_of_single rfl j k) (fun _ _ => rfl)
      (fun j k => dot_S512x1024_S768x1024_S512x768_1_1_0_0_n_n.rhsIdx_val_of_single rfl j k) (k0_pay1 v w) u a b).trans ?_
  exact Finset.sum_congr rfl fun k _ => congrArg (fun s : EReal => s * u (ix2 b k)) (pay1_apply v w a k)

theorem pay3_apply (v : Vec Ideal S512x1024 .f32) (w : Vec Ideal S1x1024 .f32) (u : Vec Ideal S2176x1024 .bf16) (a : Fin 512) (b : Fin 2176) :
    (k0_pay3 v w u (ix2 a b) : EReal) = ∑ k : Fin 1024, (v (ix2 a k) * root v a * w (ix2 0 k)) * (u (ix2 b k) : EReal) := by
  unfold k0_pay3
  simp only [shapeCast_self]
  refine (nt_apply (φ := .bf16) (ψ := .bf16) dot_S512x1024_S2176x1024_S512x2176_1_1_0_0_n_n rfl rfl (fun _ _ => rfl)
      (fun j k => dot_S512x1024_S2176x1024_S512x2176_1_1_0_0_n_n.lhsIdx_val_of_single rfl j k) (fun _ _ => rfl)
      (fun j k => dot_S512x1024_S2176x1024_S512x2176_1_1_0_0_n_n.rhsIdx_val_of_single rfl j k) (k0_pay1 v w) u a b).trans ?_
  exact Finset.sum_congr rfl fun k _ => congrArg (fun s : EReal => s * u (ix2 b k)) (pay1_apply v w a k)

theorem out4_eq (x0 : Vec Ideal S512x1024 .f32) (x1 : Vec Ideal S1x1024 .f32) (x2 : Vec Ideal S768x1024 .bf16) (x3 : Vec Ideal S2176x1024 .bf16) :
    out0_4 x0 x1 x2 x3 = k0_pay1 x0 x1 := by
  unfold out0_4
  rw [View.canon_unit_zero (S := S512x1024) hz]
  simp only [View.ld_unit_zero (S := S512x1024) hz, View.ld_unit_zero (S := S1x1024) hz, View.ld_unit_zero (S := S768x1024) hz, View.ld_unit_zero (S := S2176x1024) hz]

theorem out5_eq (x0 : Vec Ideal S512x1024 .f32) (x1 : Vec Ideal S1x1024 .f32) (x2 : Vec Ideal S768x1024 .bf16) (x3 : Vec Ideal S2176x1024 .bf16) :
    out0_5 x0 x1 x2 x3 = k0_pay2 x0 x1 x2 := by
  unfold out0_5
  rw [View.canon_unit_zero (S := S512x768) hz]
  simp only [View.ld_unit_zero (S := S512x1024) hz, View.ld_unit_zero (S := S1x1024) hz, View.ld_unit_zero (S := S768x1024) hz, View.ld_unit_zero (S := S2176x1024) hz]

theorem out6_eq (x0 : Vec Ideal S512x1024 .f32) (x1 : Vec Ideal S1x1024 .f32) (x2 : Vec Ideal S768x1024 .bf16) (x3 : Vec Ideal S2176x1024 .bf16) :
    out0_6 x0 x1 x2 x3 = k0_pay3 x0 x1 x3 := by
  unfold out0_6
  rw [View.canon_unit_zero (S := S512x2176) hz]
  simp only [View.ld_unit_zero (S := S512x1024) hz, View.ld_unit_zero (S := S1x1024) hz, View.ld_unit_zero (S := S768x1024) hz, View.ld_unit_zero (S := S2176x1024) hz]

/-- Row `i`'s reciprocal root, the normed input, and its product with the padded weight. -/
def rroot (i : Fin 4096) : EReal :=
  Ideal.rsqrt (msq (fun k : Fin 1024 => x m c (ix2 i k)) (Ideal.ofBits .f32 0x44800000#32) (Ideal.ofBits .f32 0x358637BD#32))

def nx (i : Fin 4096) (b : Fin 1024) : EReal := x m c (ix2 i b) * rroot m c i * g m c (ix1 b)

def proj (i : Fin 4096) (j : Fin 2944) : EReal := ∑ k : Fin 1024, nx m c i k * wpad m c j k

theorem root_at (t : Fin cfg0.N) (a : Fin 512) : root (iblk m c 0 t) a = rroot m c (rw' t a) := by
  unfold root rroot
  simp only [iblk_0]

theorem u_at (t : Fin cfg0.N) (a : Fin 512) (b : Fin 1024) :
    (out0_4 (iblk m c 0 t) (iblk m c 1 t) (iblk m c 2 t) (iblk m c 3 t) (ix2 a b) : EReal) = nx m c (rw' t a) b := by
  rw [out4_eq]
  refine (pay1_apply _ _ a b).trans ?_
  rw [root_at]
  simp only [iblk_0, iblk_g]
  rfl

theorem lo_at (t : Fin cfg0.N) (a : Fin 512) (b : Fin 768) :
    (out0_5 (iblk m c 0 t) (iblk m c 1 t) (iblk m c 2 t) (iblk m c 3 t) (ix2 a b) : EReal) = proj m c (rw' t a) ⟨0 + b.val, by omega⟩ := by
  rw [out5_eq]
  refine (pay2_apply _ _ _ a b).trans ?_
  rw [root_at]
  simp only [iblk_0, iblk_g, iblk_2]
  rfl

theorem hi_at (t : Fin cfg0.N) (a : Fin 512) (b : Fin 2176) :
    (out0_6 (iblk m c 0 t) (iblk m c 1 t) (iblk m c 2 t) (iblk m c 3 t) (ix2 a b) : EReal) = proj m c (rw' t a) ⟨768 + b.val, by omega⟩ := by
  rw [out6_eq]
  refine (pay3_apply _ _ _ a b).trans ?_
  rw [root_at]
  simp only [iblk_0, iblk_g, iblk_3]
  rfl

theorem arr_u (i : Fin 4096) (b : Fin 1024) : ((dats m 0 c).arrAt 4 cfg0.N : S4096x1024.Idx → EReal) (ix2 i b) = nx m c i b := by
  have hq : i.val / 512 < cfg0.N := by rw [show cfg0.N = 8 from N_0]; omega
  have hi : i = rw' ⟨i.val / 512, hq⟩ ⟨i.val % 512, Nat.mod_lt _ (by norm_num)⟩ := Fin.ext (by show i.val = 512 * (i.val / 512) + i.val % 512; omega)
  generalize (⟨i.val / 512, hq⟩ : Fin cfg0.N) = t at hi
  generalize (⟨i.val % 512, Nat.mod_lt _ (by norm_num)⟩ : Fin 512) = a at hi
  subst hi
  have hb := congrFun (blocks4 m c t (flush0_4 t)) (ix2 (n0 := 512) (n1 := 1024) a b)
  rw [View.read_apply, flushed4] at hb
  refine Eq.trans (congrArg ((dats m 0 c).arrAt 4 cfg0.N : S4096x1024.Idx → EReal) (funext fun d => Fin.ext ?_)) (hb.trans (Eq.trans ?_ (u_at m c t a b)))
  · match d with
    | ⟨0, _⟩ => show 512 * t.val + a.val = win0_4.index t 0 * 512 + 1 * a.val; rw [(idx_4 t).1]; omega
    | ⟨1, _⟩ => show b.val = win0_4.index t 1 * 1024 + 1 * b.val; rw [(idx_4 t).2]; omega
  · refine congrArg (out0_4 (iblk m c 0 t) (iblk m c 1 t) (iblk m c 2 t) (iblk m c 3 t) : S512x1024.Idx → EReal) (funext fun d => Fin.ext ?_)
    match d with
    | ⟨0, _⟩ => rfl
    | ⟨1, _⟩ => rfl

theorem arr_lo (i : Fin 4096) (b : Fin 768) : ((dats m 0 c).arrAt 5 cfg0.N : S4096x768.Idx → EReal) (ix2 i b) = proj m c i ⟨0 + b.val, by omega⟩ := by
  have hq : i.val / 512 < cfg0.N := by rw [show cfg0.N = 8 from N_0]; omega
  have hi : i = rw' ⟨i.val / 512, hq⟩ ⟨i.val % 512, Nat.mod_lt _ (by norm_num)⟩ := Fin.ext (by show i.val = 512 * (i.val / 512) + i.val % 512; omega)
  generalize (⟨i.val / 512, hq⟩ : Fin cfg0.N) = t at hi
  generalize (⟨i.val % 512, Nat.mod_lt _ (by norm_num)⟩ : Fin 512) = a at hi
  subst hi
  have hb := congrFun (blocks5 m c t (flush0_5 t)) (ix2 (n0 := 512) (n1 := 768) a b)
  rw [View.read_apply, flushed5] at hb
  refine Eq.trans (congrArg ((dats m 0 c).arrAt 5 cfg0.N : S4096x768.Idx → EReal) (funext fun d => Fin.ext ?_)) (hb.trans (Eq.trans ?_ (lo_at m c t a b)))
  · match d with
    | ⟨0, _⟩ => show 512 * t.val + a.val = win0_5.index t 0 * 512 + 1 * a.val; rw [(idx_5 t).1]; omega
    | ⟨1, _⟩ => show b.val = win0_5.index t 1 * 768 + 1 * b.val; rw [(idx_5 t).2]; omega
  · refine congrArg (out0_5 (iblk m c 0 t) (iblk m c 1 t) (iblk m c 2 t) (iblk m c 3 t) : S512x768.Idx → EReal) (funext fun d => Fin.ext ?_)
    match d with
    | ⟨0, _⟩ => rfl
    | ⟨1, _⟩ => rfl

theorem arr_hi (i : Fin 4096) (b : Fin 2176) : ((dats m 0 c).arrAt 6 cfg0.N : S4096x2176.Idx → EReal) (ix2 i b) = proj m c i ⟨768 + b.val, by omega⟩ := by
  have hq : i.val / 512 < cfg0.N := by rw [show cfg0.N = 8 from N_0]; omega
  have hi : i = rw' ⟨i.val / 512, hq⟩ ⟨i.val % 512, Nat.mod_lt _ (by norm_num)⟩ := Fin.ext (by show i.val = 512 * (i.val / 512) + i.val % 512; omega)
  generalize (⟨i.val / 512, hq⟩ : Fin cfg0.N) = t at hi
  generalize (⟨i.val % 512, Nat.mod_lt _ (by norm_num)⟩ : Fin 512) = a at hi
  subst hi
  have hb := congrFun (blocks6 m c t (flush0_6 t)) (ix2 (n0 := 512) (n1 := 2176) a b)
  rw [View.read_apply, flushed6] at hb
  refine Eq.trans (congrArg ((dats m 0 c).arrAt 6 cfg0.N : S4096x2176.Idx → EReal) (funext fun d => Fin.ext ?_)) (hb.trans (Eq.trans ?_ (hi_at m c t a b)))
  · match d with
    | ⟨0, _⟩ => show 512 * t.val + a.val = win0_6.index t 0 * 512 + 1 * a.val; rw [(idx_6 t).1]; omega
    | ⟨1, _⟩ => show b.val = win0_6.index t 1 * 2176 + 1 * b.val; rw [(idx_6 t).2]; omega
  · refine congrArg (out0_6 (iblk m c 0 t) (iblk m c 1 t) (iblk m c 2 t) (iblk m c 3 t) : S512x2176.Idx → EReal) (funext fun d => Fin.ext ?_)
    match d with
    | ⟨0, _⟩ => rfl
    | ⟨1, _⟩ => rfl

/-! ## The reference -/

theorem ms_eq (i : Fin 4096) : (val_main_v6 (F := Ideal) (x m c) (ix2 i 0) : EReal)
    = msq (fun k : Fin 1024 => x m c (ix2 i k)) (Ideal.ofBits .f32 0x44800000#32) (Ideal.ofBits .f32 0x358637BD#32) := by
  rw [val_main_v6_apply, val_main_v4_apply, val_main_v2_apply, val_main_v1_apply]
  show Ideal.div (Ideal.ofBits .f32 0x00000000#32 + _) _ + _ = _
  rw [Ideal.ofBits_zero_f32, zero_add]
  refine congrArg (fun s : EReal => Ideal.div s _ + _) (Finset.sum_congr rfl fun k _ => ?_)
  rw [val_main_v0_apply, show idx_main_v1 (idx_main_v2 (ix2 i 0)) k = ix2 i k from eq_ix2 _]
  rfl

theorem root_eq (i : Fin 4096) : (val_main_v7 (F := Ideal) (x m c) (ix2 i 0) : EReal) = rroot m c i := by
  rw [val_main_v7_apply]
  exact congrArg Ideal.rsqrt (ms_eq m c i)

theorem nx_eq (i : Fin 4096) (b : Fin 1024) : (val_main_v12 (F := Ideal) (x m c) (g m c) (ix2 i b) : EReal) = nx m c i b := by
  rw [val_main_v12_apply, val_main_v9_apply, val_main_v8_apply, val_main_v11_apply, val_main_v10_apply,
    show idx_main_v8 (ix2 i b) = ix2 i 0 from eq_ix2 _, root_eq, show idx_main_v10 (idx_main_v11 (ix2 i b)) = ix1 b from eq_ix1 _]
  rfl

theorem proj_eq (i : Fin 4096) (j : Fin 2944) : (val_main_v14 (F := Ideal) (x m c) (g m c) (win m c) (ix2 i j) : EReal) = proj m c i j := by
  unfold val_main_v14 proj
  by_cases h : j.val < 2824
  · refine (pad_apply_of_inside _ _ _ _ _ _ _ (ix2 i j) (ix2 i ⟨j.val, h⟩) fun a => ?_).trans ?_
    · match a with
      | ⟨0, _⟩ => show i.val = 0 + i.val * (0 + 1); omega
      | ⟨1, _⟩ => show j.val = 0 + j.val * (0 + 1); omega
    · rw [val_main_v13_apply]
      refine Finset.sum_congr rfl fun k _ => ?_
      rw [show lidx_main_v13 (ix2 i ⟨j.val, h⟩) k = ix2 i k from eq_ix2 _, show ridx_main_v13 (ix2 i ⟨j.val, h⟩) k = ix2 k ⟨j.val, h⟩ from eq_ix2 _, nx_eq]
      unfold wpad
      rw [dif_pos h]
  · refine (pad_apply_of_not_inside _ _ _ _ _ _ _ (ix2 i j) 1 fun hh => ?_).trans ?_
    · have h2 : (j.val - 0) / (0 + 1) < 2824 := hh.2.2
      omega
    · rw [val_main_call0_v0_apply, val_main_c_apply]
      refine Eq.trans (b := (0 : EReal)) ?_ (Finset.sum_eq_zero fun k _ => ?_).symm
      · show (((0#32 : BitVec 32).toInt : ℝ) : EReal) = 0
        simp
      · unfold wpad
        rw [dif_neg h, mul_zero]

theorem ref_u (i : Fin 4096) (b : Fin 1024) : (val_main_v15 (F := Ideal) (x m c) (g m c) (ix2 i b) : EReal) = nx m c i b := nx_eq m c i b

theorem ref_lo (i : Fin 4096) (b : Fin 768) : (val_main_v16 (F := Ideal) (x m c) (g m c) (win m c) (ix2 i b) : EReal) = proj m c i ⟨0 + b.val, by omega⟩ := by
  rw [val_main_v16_apply, show idx_main_v16 (ix2 i b) = ix2 i ⟨0 + b.val, by omega⟩ from (eq_ix2 _).trans (congrArg₂ ix2 rfl (Fin.ext (Nat.zero_add _).symm))]
  exact proj_eq m c i _

theorem ref_hi (i : Fin 4096) (b : Fin 2176) : (val_main_v17 (F := Ideal) (x m c) (g m c) (win m c) (ix2 i b) : EReal) = proj m c i ⟨768 + b.val, by omega⟩ := by
  rw [val_main_v17_apply, show idx_main_v17 (ix2 i b) = ix2 i ⟨768 + b.val, by omega⟩ from eq_ix2 _]
  exact proj_eq m c i _

end Cert.Kernel10Ideal.Result

namespace Cert.Proof

open Cert.Kernel10Ideal.Gen Cert.Kernel10Ideal.Result Cert.Reference10Ideal.Read Cert.Shared

theorem frame_reference10 : Cert.quiescent_Reference10Ideal := fun m ρ _ =>
  (θ_run Cert.Reference10Ideal.defs _ _).mono (fun r h => ⟨fun c => (h c).2.2.2,
      Idealize.ShloMosaic.sem_eq_zero_of_no_sems (by decide) r.2⟩)
    (Cert.Reference10Ideal.Value.run (F := Ideal) m ρ)

/-- The two programs, run on memories that hold the same arguments, leave the same three results. -/
theorem algebraic_inproj : Cert.algebraic_Kernel10Ideal_Reference10Ideal := by
  intro m ρ m' ρ' _ hagree
  refine ⟨fun c => val_main_v15 (F := Ideal) (x m c) (g m c), fun c => val_main_v16 (F := Ideal) (x m c) (g m c) (win m c),
    fun c => val_main_v17 (F := Ideal) (x m c) (g m c) (win m c), ?_, ?_⟩
  · refine (θ_run Cert.Kernel10Ideal.defs _ _).mono (fun r h c => ?_) (Cert.Kernel10Ideal.Value.run_blocks (F := Ideal) m ρ)
    obtain ⟨h0, h1, h2, ha⟩ := h c
    exact ⟨h0.trans (ext2 _ _ fun i b => (arr_u m c i b).trans (ref_u m c i b).symm),
      h1.trans (ext2 _ _ fun i b => (arr_lo m c i b).trans (ref_lo m c i b).symm),
      h2.trans (ext2 _ _ fun i b => (arr_hi m c i b).trans (ref_hi m c i b).symm), ha⟩
  · refine (θ_run Cert.Reference10Ideal.defs _ _).mono (fun r h c => ?_) (Cert.Reference10Ideal.Value.run (F := Ideal) m' ρ')
    obtain ⟨h0, h1, h2, ha⟩ := h c
    obtain ⟨a0, a1, a2⟩ := hagree c
    refine ⟨(h0.trans (val_main_v15_eq ..)).trans ?_, (h1.trans (val_main_v16_eq ..)).trans ?_, (h2.trans (val_main_v17_eq ..)).trans ?_, ha⟩
    · rw [a0, a1]
    · rw [a0, a1, a2]
    · rw [a0, a1, a2]

end Cert.Proof

end
-- ==== Proof.Oproj.lean ====
/-
  The output projection's forward call: the layer's input plus the product of the mixed heads with the projection's weight,
  the product cut into two halves of the contracted columns. Over the extended reals its result is the sum.
-/
module

public import proofs.«01_k».proof.Defs
public import proofs.«01_k».proof.Proof.Shared
public import proofs.«01_k».proof.Proof.Gen.Kernel11Ideal.Value
public import proofs.«01_k».proof.Proof.Gen.Reference11Ideal.Read
public import Idealize.ShloMosaic.Lib.StableHlo.RunRead
public import Idealize.ShloMosaic.Lib.KernelVsHost

@[expose] public section

set_option maxRecDepth 16384

noncomputable section

open Idealize.ShloMosaic Idealize.ShloMosaic.TcCoe Idealize.ShloMosaic.ValueIdx Idealize.SL.Sem

namespace Cert.Kernel11Ideal.Result

open Cert.Kernel11Ideal Cert.Kernel11Ideal.Gen Cert.Kernel11Ideal.Value Cert.Shared Cert.Reference11Ideal.Read

variable (m : (ℓ : Loc nD τ sig) → Buf (Elt Ideal) ℓ) (c : Dev nD)

/-- The three arguments: the layer's input, the mixed heads, the weight. -/
abbrev x : S4096x1024.Idx → EReal := m ((c : Thread nD τ).loc main_arg0)
abbrev mix : S4096x1024.Idx → EReal := m ((c : Thread nD τ).loc main_arg1)
abbrev wo : S1024x1024.Idx → EReal := m ((c : Thread nD τ).loc main_arg2)

theorem V_v2 (i : Fin 4096) (k : Fin 512) : (V m c main_v2 : S4096x512.Idx → EReal) (ix2 i k) = mix m c (ix2 i ⟨0 + k.val, by omega⟩) := by
  have e : (V m c main_v2 : S4096x512.Idx → EReal) = extractStridedSlice S4096x512 ![0, 0] (mix m c) slices_S4096x1024_S4096x512_0_0 := by
    unfold V hostOps0
    after_reads_simp
    rfl
  rw [e]
  exact extractStridedSlice_apply ![0, 0] _ slices_S4096x1024_S4096x512_0_0 (ix2 i k) (ix2 i ⟨0 + k.val, by omega⟩) (fun d => match d with
    | ⟨0, _⟩ => (Nat.zero_add _).symm
    | ⟨1, _⟩ => rfl)

theorem V_v3 (i : Fin 4096) (k : Fin 512) : (V m c main_v3 : S4096x512.Idx → EReal) (ix2 i k) = mix m c (ix2 i ⟨512 + k.val, by omega⟩) := by
  have e : (V m c main_v3 : S4096x512.Idx → EReal) = extractStridedSlice S4096x512 ![0, 512] (mix m c) slices_S4096x1024_S4096x512_0_512 := by
    unfold V hostOps0
    after_reads_simp
    rfl
  rw [e]
  exact extractStridedSlice_apply ![0, 512] _ slices_S4096x1024_S4096x512_0_512 (ix2 i k) (ix2 i ⟨512 + k.val, by omega⟩) (fun d => match d with
    | ⟨0, _⟩ => (Nat.zero_add _).symm
    | ⟨1, _⟩ => rfl)

theorem V_v4 (k : Fin 512) (b : Fin 1024) : (V m c main_v4 : S512x1024.Idx → EReal) (ix2 k b) = wo m c (ix2 ⟨0 + k.val, by omega⟩ b) := by
  have e : (V m c main_v4 : S512x1024.Idx → EReal) = extractStridedSlice S512x1024 ![0, 0] (wo m c) slices_S1024x1024_S512x1024_0_0 := by
    unfold V hostOps0
    after_reads_simp
    rfl
  rw [e]
  exact extractStridedSlice_apply ![0, 0] _ slices_S1024x1024_S512x1024_0_0 (ix2 k b) (ix2 ⟨0 + k.val, by omega⟩ b) (fun d => match d with
    | ⟨0, _⟩ => rfl
    | ⟨1, _⟩ => (Nat.zero_add _).symm)

theorem V_v5 (k : Fin 512) (b : Fin 1024) : (V m c main_v5 : S512x1024.Idx → EReal) (ix2 k b) = wo m c (ix2 ⟨512 + k.val, by omega⟩ b) := by
  have e : (V m c main_v5 : S512x1024.Idx → EReal) = extractStridedSlice S512x1024 ![512, 0] (wo m c) slices_S1024x1024_S512x1024_512_0 := by
    unfold V hostOps0
    after_reads_simp
    rfl
  rw [e]
  exact extractStridedSlice_apply ![512, 0] _ slices_S1024x1024_S512x1024_512_0 (ix2 k b) (ix2 ⟨512 + k.val, by omega⟩ b) (fun d => match d with
    | ⟨0, _⟩ => rfl
    | ⟨1, _⟩ => (Nat.zero_add _).symm)

theorem N_eq (t : Fin cfg0.N) : t.val < 8 := lt_of_lt_of_eq t.isLt N_0

/-- Row `a` of point `t`. -/
abbrev rw' (t : Fin cfg0.N) (a : Fin 512) : Fin 4096 := ⟨512 * t.val + a.val, by have := N_eq t; omega⟩

theorem hz : (![0, 0] : Fin 2 → Nat) = fun _ => 0 := funext fun a => by fin_cases a <;> rfl

theorem idx_0 : ∀ t : Fin grid0.N, (win0_0.index t 0 = t.val) ∧ (win0_0.index t 1 = 0) := by decide +kernel
theorem idx_1 : ∀ t : Fin grid0.N, (win0_1.index t 0 = t.val) ∧ (win0_1.index t 1 = 0) := by decide +kernel
theorem idx_2 : ∀ t : Fin grid0.N, (win0_2.index t 0 = t.val) ∧ (win0_2.index t 1 = 0) := by decide +kernel
theorem idx_5 : ∀ t : Fin grid0.N, (win0_5.index t 0 = t.val) ∧ (win0_5.index t 1 = 0) := by decide +kernel
theorem idx_3 : ∀ t : Fin grid0.N, (win0_3.index t 0 = 0) ∧ (win0_3.index t 1 = 0) := by decide +kernel
theorem idx_4 : ∀ t : Fin grid0.N, (win0_4.index t 0 = 0) ∧ (win0_4.index t 1 = 0) := by decide +kernel

theorem iblk_0 (t : Fin cfg0.N) (a : Fin 512) (k : Fin 1024) : (iblk m c 0 t : S512x1024.Idx → EReal) (ix2 a k) = x m c (ix2 (rw' t a) k) := by
  unfold iblk
  rw [View.read_apply]
  refine Eq.trans (congrArg (V m c main_arg0 : S4096x1024.Idx → EReal) (funext fun d => Fin.ext ?_)) (congrFun (V_main_arg0 m c) _)
  match d with
  | ⟨0, _⟩ => show win0_0.index t 0 * 512 + 1 * a.val = 512 * t.val + a.val; rw [(idx_0 t).1]; omega
  | ⟨1, _⟩ => show win0_0.index t 1 * 1024 + 1 * k.val = k.val; rw [(idx_0 t).2]; omega

theorem iblk_1 (t : Fin cfg0.N) (a : Fin 512) (k : Fin 512) : (iblk m c 1 t : S512x512.Idx → EReal) (ix2 a k) = mix m c (ix2 (rw' t a) ⟨0 + k.val, by omega⟩) := by
  unfold iblk
  rw [View.read_apply]
  refine Eq.trans (congrArg (V m c main_v2 : S4096x512.Idx → EReal) (funext fun d => Fin.ext ?_)) (V_v2 m c (rw' t a) k)
  match d with
  | ⟨0, _⟩ => show win0_1.index t 0 * 512 + 1 * a.val = 512 * t.val + a.val; rw [(idx_1 t).1]; omega
  | ⟨1, _⟩ => show win0_1.index t 1 * 512 + 1 * k.val = k.val; rw [(idx_1 t).2]; omega

theorem iblk_2 (t : Fin cfg0.N) (a : Fin 512) (k : Fin 512) : (iblk m c 2 t : S512x512.Idx → EReal) (ix2 a k) = mix m c (ix2 (rw' t a) ⟨512 + k.val, by omega⟩) := by
  unfold iblk
  rw [View.read_apply]
  refine Eq.trans (congrArg (V m c main_v3 : S4096x512.Idx → EReal) (funext fun d => Fin.ext ?_)) (V_v3 m c (rw' t a) k)
  match d with
  | ⟨0, _⟩ => show win0_2.index t 0 * 512 + 1 * a.val = 512 * t.val + a.val; rw [(idx_2 t).1]; omega
  | ⟨1, _⟩ => show win0_2.index t 1 * 512 + 1 * k.val = k.val; rw [(idx_2 t).2]; omega

theorem iblk_3 (t : Fin cfg0.N) (k : Fin 512) (b : Fin 1024) : (iblk m c 3 t : S512x1024.Idx → EReal) (ix2 k b) = wo m c (ix2 ⟨0 + k.val, by omega⟩ b) := by
  unfold iblk
  rw [View.read_apply]
  refine Eq.trans (congrArg (V m c main_v4 : S512x1024.Idx → EReal) (funext fun d => Fin.ext ?_)) (V_v4 m c k b)
  match d with
  | ⟨0, _⟩ => show win0_3.index t 0 * 512 + 1 * k.val = k.val; rw [(idx_3 t).1]; omega
  | ⟨1, _⟩ => show win0_3.index t 1 * 1024 + 1 * b.val = b.val; rw [(idx_3 t).2]; omega

theorem iblk_4 (t : Fin cfg0.N) (k : Fin 512) (b : Fin 1024) : (iblk m c 4 t : S512x1024.Idx → EReal) (ix2 k b) = wo m c (ix2 ⟨512 + k.val, by omega⟩ b) := by
  unfold iblk
  rw [View.read_apply]
  refine Eq.trans (congrArg (V m c main_v5 : S512x1024.Idx → EReal) (funext fun d => Fin.ext ?_)) (V_v5 m c k b)
  match d with
  | ⟨0, _⟩ => show win0_4.index t 0 * 512 + 1 * k.val = k.val; rw [(idx_4 t).1]; omega
  | ⟨1, _⟩ => show win0_4.index t 1 * 1024 + 1 * b.val = b.val; rw [(idx_4 t).2]; omega

theorem pay1_apply (v0 : Vec Ideal S512x1024 .f32) (u1 : Vec Ideal S512x512 .bf16) (w1 : Vec Ideal S512x1024 .bf16)
    (u2 : Vec Ideal S512x512 .bf16) (w2 : Vec Ideal S512x1024 .bf16) (a : Fin 512) (b : Fin 1024) :
    (k0_pay1 v0 u1 w1 u2 w2 (ix2 a b) : EReal)
      = v0 (ix2 a b) + (∑ k : Fin 512, (u1 (ix2 a k) : EReal) * w1 (ix2 k b)) + ∑ k : Fin 512, (u2 (ix2 a k) : EReal) * w2 (ix2 k b) := by
  unfold k0_pay1
  simp only [shapeCast_self]
  exact congrArg₂ (fun p q : EReal => (v0 (ix2 a b) : EReal) + p + q)
    (nn_apply (φ := .bf16) (ψ := .bf16) dot_S512x512_S512x1024_S512x1024_1_0_0_1_n_n rfl rfl (fun _ _ => rfl)
      (fun j k => dot_S512x512_S512x1024_S512x1024_1_0_0_1_n_n.lhsIdx_val_of_single rfl j k)
      (fun j k => dot_S512x512_S512x1024_S512x1024_1_0_0_1_n_n.rhsIdx_val_of_single rfl j k) (fun _ _ => rfl) u1 w1 a b)
    (nn_apply (φ := .bf16) (ψ := .bf16) dot_S512x512_S512x1024_S512x1024_1_0_0_1_n_n rfl rfl (fun _ _ => rfl)
      (fun j k => dot_S512x512_S512x1024_S512x1024_1_0_0_1_n_n.lhsIdx_val_of_single rfl j k)
      (fun j k => dot_S512x512_S512x1024_S512x1024_1_0_0_1_n_n.rhsIdx_val_of_single rfl j k) (fun _ _ => rfl) u2 w2 a b)

theorem out_eq (x0 : Vec Ideal S512x1024 .f32) (x1 x2 : Vec Ideal S512x512 .bf16) (x3 x4 : Vec Ideal S512x1024 .bf16) :
    out0_5 x0 x1 x2 x3 x4 = k0_pay1 x0 x1 x3 x2 x4 := by
  unfold out0_5
  rw [View.canon_unit_zero (S := S512x1024) hz]
  simp only [View.ld_unit_zero (S := S512x1024) hz, View.ld_unit_zero (S := S512x512) hz]

/-- The result: the input plus the product. -/
def res (i : Fin 4096) (b : Fin 1024) : EReal := x m c (ix2 i b) + ∑ k : Fin 1024, mix m c (ix2 i k) * wo m c (ix2 k b)

theorem out_at (t : Fin cfg0.N) (a : Fin 512) (b : Fin 1024) :
    (out0_5 (iblk m c 0 t) (iblk m c 1 t) (iblk m c 2 t) (iblk m c 3 t) (iblk m c 4 t) (ix2 a b) : EReal) = res m c (rw' t a) b := by
  rw [out_eq]
  refine (pay1_apply _ _ _ _ _ a b).trans ?_
  simp only [iblk_0, iblk_1, iblk_2, iblk_3, iblk_4]
  unfold res
  rw [sum_cut (p := 512) (q := 512) (by norm_num) (fun k : Fin 1024 => mix m c (ix2 (rw' t a) k) * wo m c (ix2 k b)), ← add_assoc]
  simp only [Nat.zero_add]

theorem arr_out (i : Fin 4096) (b : Fin 1024) : ((dats m 0 c).arrAt 5 cfg0.N : S4096x1024.Idx → EReal) (ix2 i b) = res m c i b := by
  have hq : i.val / 512 < cfg0.N := by rw [show cfg0.N = 8 from N_0]; omega
  have hi : i = rw' ⟨i.val / 512, hq⟩ ⟨i.val % 512, Nat.mod_lt _ (by norm_num)⟩ := Fin.ext (by show i.val = 512 * (i.val / 512) + i.val % 512; omega)
  generalize (⟨i.val / 512, hq⟩ : Fin cfg0.N) = t at hi
  generalize (⟨i.val % 512, Nat.mod_lt _ (by norm_num)⟩ : Fin 512) = a at hi
  subst hi
  have hb := congrFun (blocks5 m c t (flush0_5 t)) (ix2 (n0 := 512) (n1 := 1024) a b)
  rw [View.read_apply, flushed5] at hb
  refine Eq.trans (congrArg ((dats m 0 c).arrAt 5 cfg0.N : S4096x1024.Idx → EReal) (funext fun d => Fin.ext ?_)) (hb.trans (Eq.trans ?_ (out_at m c t a b)))
  · match d with
    | ⟨0, _⟩ => show 512 * t.val + a.val = win0_5.index t 0 * 512 + 1 * a.val; rw [(idx_5 t).1]; omega
    | ⟨1, _⟩ => show b.val = win0_5.index t 1 * 1024 + 1 * b.val; rw [(idx_5 t).2]; omega
  · refine congrArg (out0_5 (iblk m c 0 t) (iblk m c 1 t) (iblk m c 2 t) (iblk m c 3 t) (iblk m c 4 t) : S512x1024.Idx → EReal) (funext fun d => Fin.ext ?_)
    match d with
    | ⟨0, _⟩ => rfl
    | ⟨1, _⟩ => rfl

theorem ref_eq (i : Fin 4096) (b : Fin 1024) : (val_main_v1 (F := Ideal) (x m c) (mix m c) (wo m c) (ix2 i b) : EReal) = res m c i b := by
  rw [val_main_v1_apply, val_main_v0_apply]
  refine congrArg (fun s : EReal => x m c (ix2 i b) + s) (Finset.sum_congr rfl fun k _ => ?_)
  exact congrArg₂ (fun p q : EReal => p * q) (congrArg (mix m c) (eq_ix2 _)) (congrArg (wo m c) (eq_ix2 _))

end Cert.Kernel11Ideal.Result

namespace Cert.Proof

open Cert.Kernel11Ideal.Gen Cert.Kernel11Ideal.Result Cert.Reference11Ideal.Read Cert.Shared

theorem frame_reference11 : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

/-- The two programs, run on memories that hold the same arguments, leave the same result. -/
theorem algebraic_oproj : Cert.algebraic_Kernel11Ideal_Reference11Ideal := by
  intro m ρ m' ρ' _ hagree
  refine ⟨fun c => val_main_v1 (F := Ideal) (x m c) (mix m c) (wo m c), ?_, ?_⟩
  · refine (θ_run Cert.Kernel11Ideal.defs _ _).mono (fun r h c => ?_) (Cert.Kernel11Ideal.Value.run_blocks (F := Ideal) m ρ)
    obtain ⟨h0, ha⟩ := h c
    exact ⟨h0.trans (ext2 _ _ fun i b => (arr_out m c i b).trans (ref_eq m c i b).symm), ha⟩
  · refine (θ_run Cert.Reference11Ideal.defs _ _).mono (fun r h c => ?_) (Cert.Reference11Ideal.Value.run (F := Ideal) m' ρ')
    obtain ⟨h0, ha⟩ := h c
    obtain ⟨a0, a1, a2⟩ := hagree c
    refine ⟨(h0.trans (val_main_v1_eq ..)).trans ?_, ha⟩
    rw [a0, a1, a2]

end Cert.Proof

end
-- ==== Proof.AdamStep.lean ====
/-
  One step of the optimiser at one element: the new first and second moments, and the change of the weight, as terms of the
  four numbers that they are computed from. The constants are the words of the two moments' rates, of their corrections at the
  tenth step, of the learning rate, of the weight decay and of the constant under the root.
-/
module

public import Idealize.ShloMosaic.PureOps.Ideal

@[expose] public section

noncomputable section

open Idealize.ShloMosaic

namespace Cert.Adam

/-- The new first moment. -/
def moment (g m : Ideal .f32) : Ideal .f32 :=
  FloatOps.addf (FloatOps.mulf (FloatOps.ofBits .f32 0x3F666666#32) m) (FloatOps.mulf (FloatOps.ofBits .f32 0x3DCCCCCD#32) g)

/-- The new second moment. -/
def second (g v : Ideal .f32) : Ideal .f32 :=
  FloatOps.addf (FloatOps.mulf (FloatOps.ofBits .f32 0x3F7FBE77#32) v) (FloatOps.mulf (FloatOps.ofBits .f32 0x3A83126F#32) (FloatOps.mulf g g))

/-- The change of the weight. -/
def change (w g m v : Ideal .f32) : Ideal .f32 :=
  FloatOps.mulf (FloatOps.ofBits .f32 0xBA83126F#32)
    (FloatOps.addf
      (FloatOps.divf (FloatOps.divf (moment g m) (FloatOps.ofBits .f32 0x3F26BD02#32))
        (FloatOps.addf (FloatOps.sqrt (FloatOps.divf (second g v) (FloatOps.ofBits .f32 0x3C231ACC#32))) (FloatOps.ofBits .f32 0x322BCC77#32)))
      (FloatOps.mulf (FloatOps.ofBits .f32 0x3C23D70A#32) w))

end Cert.Adam

end
-- ==== Proof.AdamO.lean ====
/-
  The optimiser's call for the output projection. Over the extended reals its three results are the change of the weight and the two new
  moments, element by element.
-/
module

public import proofs.«01_k».proof.Defs
public import proofs.«01_k».proof.Proof.Shared
public import proofs.«01_k».proof.Proof.AdamStep
public import proofs.«01_k».proof.Proof.Gen.Kernel12Ideal.Value
public import proofs.«01_k».proof.Proof.Gen.Reference12Ideal.Run
public import proofs.«01_k».proof.Proof.Gen.Reference12Ideal.Read
public import Idealize.ShloMosaic.Lib.ValueIdx
public import Idealize.ShloMosaic.Lib.Pipeline.ValueKit
public import Idealize.ShloMosaic.Lib.StableHlo.RunRead
public import Idealize.ShloMosaic.Lib.KernelVsHost

@[expose] public section

set_option maxRecDepth 16384

noncomputable section

open Idealize.ShloMosaic Idealize.ShloMosaic.TcCoe Idealize.ShloMosaic.ValueIdx Idealize.SL.Sem

namespace Cert.Kernel12Ideal.Result

open Cert.Kernel12Ideal Cert.Kernel12Ideal.Gen Cert.Kernel12Ideal.Value Cert.Shared Cert.Reference12Ideal.Read Cert.Adam

theorem hz : (![0, 0] : Fin 2 → Nat) = fun _ => 0 := funext fun a => by fin_cases a <;> rfl

variable (m : (ℓ : Loc nD τ sig) → Buf (Elt Ideal) ℓ) (c : Dev nD)

/-- The weight, the gradient and the two moments. -/
abbrev wt : S256x1024.Idx → EReal := m ((c : Thread nD τ).loc main_arg0)
abbrev grd : S256x1024.Idx → EReal := m ((c : Thread nD τ).loc main_arg1)
abbrev mo : S256x1024.Idx → EReal := m ((c : Thread nD τ).loc main_arg2)
abbrev ve : S256x1024.Idx → EReal := m ((c : Thread nD τ).loc main_arg3)

/-- The change of the weight, as the call leaves it. -/
theorem arr_4 : ((dats m 0 c).arrAt 4 cfg0.N : S256x1024.Idx → EReal) = fun i => change (wt m c i) (grd m c i) (mo m c i) (ve m c i) := by
  refine (dats m 0 c).arrAt_eq_of_covers 4 _ (by decide +kernel) fun t hf y => ?_
  blk_simp
  rw [after0_4]
  unfold outsAt0
  dsimp only
  frame_out
  show change (iblk m c 0 t y) (iblk m c 1 t y) (iblk m c 2 t y) (iblk m c 3 t y) = _
  rfl

/-- The new first moment, as the call leaves it. -/
theorem arr_5 : ((dats m 0 c).arrAt 5 cfg0.N : S256x1024.Idx → EReal) = fun i => moment (grd m c i) (mo m c i) := by
  refine (dats m 0 c).arrAt_eq_of_covers 5 _ (by decide +kernel) fun t hf y => ?_
  blk_simp
  rw [after0_5]
  unfold outsAt0
  dsimp only
  frame_out
  show moment (iblk m c 1 t y) (iblk m c 2 t y) = _
  rfl

/-- The new second moment, as the call leaves it. -/
theorem arr_6 : ((dats m 0 c).arrAt 6 cfg0.N : S256x1024.Idx → EReal) = fun i => second (grd m c i) (ve m c i) := by
  refine (dats m 0 c).arrAt_eq_of_covers 6 _ (by decide +kernel) fun t hf y => ?_
  blk_simp
  rw [after0_6]
  unfold outsAt0
  dsimp only
  frame_out
  show second (iblk m c 1 t y) (iblk m c 3 t y) = _
  rfl

/-! ## The reference -/

theorem ref_change (wt : S256x1024.Idx → EReal) (grd : S256x1024.Idx → EReal) (mo : S256x1024.Idx → EReal) (ve : S256x1024.Idx → EReal) : (val_main_v23 (F := Ideal) wt grd mo ve : S256x1024.Idx → EReal) = fun i => change (wt i) (grd i) (mo i) (ve i) := by
  funext i
  rfl

theorem ref_moment (grd : S256x1024.Idx → EReal) (mo : S256x1024.Idx → EReal) : (val_main_v4 (F := Ideal) grd mo : S256x1024.Idx → EReal) = fun i => moment (grd i) (mo i) := by
  funext i
  rfl

theorem ref_second (grd : S256x1024.Idx → EReal) (ve : S256x1024.Idx → EReal) : (val_main_v10 (F := Ideal) grd ve : S256x1024.Idx → EReal) = fun i => second (grd i) (ve i) := by
  funext i
  rfl

end Cert.Kernel12Ideal.Result

namespace Cert.Proof

open Cert.Kernel12Ideal.Result Cert.Reference12Ideal.Read

theorem frame_reference12 : Cert.quiescent_Reference12Ideal := fun m ρ _ =>
  (θ_run Cert.Reference12Ideal.defs _ _).mono (fun r h => ⟨fun c => (h c).2.2.2,
      Idealize.ShloMosaic.sem_eq_zero_of_no_sems (by decide) r.2⟩)
    (Cert.Reference12Ideal.Value.run (F := Ideal) m ρ)

/-- The two programs, run on memories that hold the same arguments, leave the same three results. -/
theorem algebraic_adam_o : Cert.algebraic_Kernel12Ideal_Reference12Ideal := by
  intro m ρ m' ρ' _ hagree
  refine ⟨fun c => val_main_v23 (F := Ideal) (wt m c) (grd m c) (mo m c) (ve m c), fun c => val_main_v4 (F := Ideal) (grd m c) (mo m c),
    fun c => val_main_v10 (F := Ideal) (grd m c) (ve m c), ?_, ?_⟩
  · refine (θ_run Cert.Kernel12Ideal.defs _ _).mono (fun r h c => ?_) (Cert.Kernel12Ideal.Value.run_blocks (F := Ideal) m ρ)
    obtain ⟨h0, h1, h2, ha⟩ := h c
    exact ⟨h0.trans ((arr_4 m c).trans (ref_change _ _ _ _).symm), h1.trans ((arr_5 m c).trans (ref_moment _ _).symm),
      h2.trans ((arr_6 m c).trans (ref_second _ _).symm), ha⟩
  · refine (θ_run Cert.Reference12Ideal.defs _ _).mono (fun r h c => ?_) (Cert.Reference12Ideal.Value.run (F := Ideal) m' ρ')
    obtain ⟨h0, h1, h2, ha⟩ := h c
    obtain ⟨a0, a1, a2, a3, -⟩ := hagree c
    refine ⟨(h0.trans (val_main_v23_eq ..)).trans ?_, (h1.trans (val_main_v4_eq ..)).trans ?_, (h2.trans (val_main_v10_eq ..)).trans ?_, ha⟩
    · rw [a0, a1, a2, a3]
    · rw [a1, a2]
    · rw [a1, a3]

end Cert.Proof

end
-- ==== Proof.AdamUp.lean ====
/-
  The optimiser's call for the MLP's first weight. Over the extended reals its three results are the change of the weight and the two new
  moments, element by element.
-/
module

public import proofs.«01_k».proof.Defs
public import proofs.«01_k».proof.Proof.Shared
public import proofs.«01_k».proof.Proof.AdamStep
public import proofs.«01_k».proof.Proof.Gen.Kernel13Ideal.Value
public import proofs.«01_k».proof.Proof.Gen.Reference13Ideal.Run
public import proofs.«01_k».proof.Proof.Gen.Reference13Ideal.Read
public import Idealize.ShloMosaic.Lib.ValueIdx
public import Idealize.ShloMosaic.Lib.Pipeline.ValueKit
public import Idealize.ShloMosaic.Lib.StableHlo.RunRead
public import Idealize.ShloMosaic.Lib.KernelVsHost

@[expose] public section

set_option maxRecDepth 16384

noncomputable section

open Idealize.ShloMosaic Idealize.ShloMosaic.TcCoe Idealize.ShloMosaic.ValueIdx Idealize.SL.Sem

namespace Cert.Kernel13Ideal.Result

open Cert.Kernel13Ideal Cert.Kernel13Ideal.Gen Cert.Kernel13Ideal.Value Cert.Shared Cert.Reference13Ideal.Read Cert.Adam

theorem hz : (![0, 0] : Fin 2 → Nat) = fun _ => 0 := funext fun a => by fin_cases a <;> rfl

variable (m : (ℓ : Loc nD τ sig) → Buf (Elt Ideal) ℓ) (c : Dev nD)

/-- The weight, the gradient and the two moments. -/
abbrev wt : S1024x1024.Idx → EReal := m ((c : Thread nD τ).loc main_arg0)
abbrev grd : S1024x1024.Idx → EReal := m ((c : Thread nD τ).loc main_arg1)
abbrev mo : S1024x1024.Idx → EReal := m ((c : Thread nD τ).loc main_arg2)
abbrev ve : S1024x1024.Idx → EReal := m ((c : Thread nD τ).loc main_arg3)

/-- The change of the weight, as the call leaves it. -/
theorem arr_4 : ((dats m 0 c).arrAt 4 cfg0.N : S1024x1024.Idx → EReal) = fun i => change (wt m c i) (grd m c i) (mo m c i) (ve m c i) := by
  refine (dats m 0 c).arrAt_eq_of_covers 4 _ (by decide +kernel) fun t hf y => ?_
  blk_simp
  rw [after0_4]
  unfold outsAt0
  dsimp only
  frame_out
  show change (iblk m c 0 t y) (iblk m c 1 t y) (iblk m c 2 t y) (iblk m c 3 t y) = _
  rfl

/-- The new first moment, as the call leaves it. -/
theorem arr_5 : ((dats m 0 c).arrAt 5 cfg0.N : S1024x1024.Idx → EReal) = fun i => moment (grd m c i) (mo m c i) := by
  refine (dats m 0 c).arrAt_eq_of_covers 5 _ (by decide +kernel) fun t hf y => ?_
  blk_simp
  rw [after0_5]
  unfold outsAt0
  dsimp only
  frame_out
  show moment (iblk m c 1 t y) (iblk m c 2 t y) = _
  rfl

/-- The new second moment, as the call leaves it. -/
theorem arr_6 : ((dats m 0 c).arrAt 6 cfg0.N : S1024x1024.Idx → EReal) = fun i => second (grd m c i) (ve m c i) := by
  refine (dats m 0 c).arrAt_eq_of_covers 6 _ (by decide +kernel) fun t hf y => ?_
  blk_simp
  rw [after0_6]
  unfold outsAt0
  dsimp only
  frame_out
  show second (iblk m c 1 t y) (iblk m c 3 t y) = _
  rfl

/-! ## The reference -/

theorem ref_change (wt : S1024x1024.Idx → EReal) (grd : S1024x1024.Idx → EReal) (mo : S1024x1024.Idx → EReal) (ve : S1024x1024.Idx → EReal) : (val_main_v23 (F := Ideal) wt grd mo ve : S1024x1024.Idx → EReal) = fun i => change (wt i) (grd i) (mo i) (ve i) := by
  funext i
  rfl

theorem ref_moment (grd : S1024x1024.Idx → EReal) (mo : S1024x1024.Idx → EReal) : (val_main_v4 (F := Ideal) grd mo : S1024x1024.Idx → EReal) = fun i => moment (grd i) (mo i) := by
  funext i
  rfl

theorem ref_second (grd : S1024x1024.Idx → EReal) (ve : S1024x1024.Idx → EReal) : (val_main_v10 (F := Ideal) grd ve : S1024x1024.Idx → EReal) = fun i => second (grd i) (ve i) := by
  funext i
  rfl

end Cert.Kernel13Ideal.Result

namespace Cert.Proof

open Cert.Kernel13Ideal.Result Cert.Reference13Ideal.Read

theorem frame_reference13 : Cert.quiescent_Reference13Ideal := fun m ρ _ =>
  (θ_run Cert.Reference13Ideal.defs _ _).mono (fun r h => ⟨fun c => (h c).2.2.2,
      Idealize.ShloMosaic.sem_eq_zero_of_no_sems (by decide) r.2⟩)
    (Cert.Reference13Ideal.Value.run (F := Ideal) m ρ)

/-- The two programs, run on memories that hold the same arguments, leave the same three results. -/
theorem algebraic_adam_up : Cert.algebraic_Kernel13Ideal_Reference13Ideal := by
  intro m ρ m' ρ' _ hagree
  refine ⟨fun c => val_main_v23 (F := Ideal) (wt m c) (grd m c) (mo m c) (ve m c), fun c => val_main_v4 (F := Ideal) (grd m c) (mo m c),
    fun c => val_main_v10 (F := Ideal) (grd m c) (ve m c), ?_, ?_⟩
  · refine (θ_run Cert.Kernel13Ideal.defs _ _).mono (fun r h c => ?_) (Cert.Kernel13Ideal.Value.run_blocks (F := Ideal) m ρ)
    obtain ⟨h0, h1, h2, ha⟩ := h c
    exact ⟨h0.trans ((arr_4 m c).trans (ref_change _ _ _ _).symm), h1.trans ((arr_5 m c).trans (ref_moment _ _).symm),
      h2.trans ((arr_6 m c).trans (ref_second _ _).symm), ha⟩
  · refine (θ_run Cert.Reference13Ideal.defs _ _).mono (fun r h c => ?_) (Cert.Reference13Ideal.Value.run (F := Ideal) m' ρ')
    obtain ⟨h0, h1, h2, ha⟩ := h c
    obtain ⟨a0, a1, a2, a3, -⟩ := hagree c
    refine ⟨(h0.trans (val_main_v23_eq ..)).trans ?_, (h1.trans (val_main_v4_eq ..)).trans ?_, (h2.trans (val_main_v10_eq ..)).trans ?_, ha⟩
    · rw [a0, a1, a2, a3]
    · rw [a1, a2]
    · rw [a1, a3]

end Cert.Proof

end
-- ==== Proof.AdamDown.lean ====
/-
  The optimiser's call for the MLP's second weight. Over the extended reals its three results are the change of the weight and the two new
  moments, element by element.
-/
module

public import proofs.«01_k».proof.Defs
public import proofs.«01_k».proof.Proof.Shared
public import proofs.«01_k».proof.Proof.AdamStep
public import proofs.«01_k».proof.Proof.Gen.Kernel14Ideal.Value
public import proofs.«01_k».proof.Proof.Gen.Reference14Ideal.Run
public import proofs.«01_k».proof.Proof.Gen.Reference14Ideal.Read
public import Idealize.ShloMosaic.Lib.ValueIdx
public import Idealize.ShloMosaic.Lib.Pipeline.ValueKit
public import Idealize.ShloMosaic.Lib.StableHlo.RunRead
public import Idealize.ShloMosaic.Lib.KernelVsHost

@[expose] public section

set_option maxRecDepth 16384

noncomputable section

open Idealize.ShloMosaic Idealize.ShloMosaic.TcCoe Idealize.ShloMosaic.ValueIdx Idealize.SL.Sem

namespace Cert.Kernel14Ideal.Result

open Cert.Kernel14Ideal Cert.Kernel14Ideal.Gen Cert.Kernel14Ideal.Value Cert.Shared Cert.Reference14Ideal.Read Cert.Adam

theorem hz : (![0, 0] : Fin 2 → Nat) = fun _ => 0 := funext fun a => by fin_cases a <;> rfl

variable (m : (ℓ : Loc nD τ sig) → Buf (Elt Ideal) ℓ) (c : Dev nD)

/-- The weight, the gradient and the two moments. -/
abbrev wt : S1024x1024.Idx → EReal := m ((c : Thread nD τ).loc main_arg0)
abbrev grd : S1024x1024.Idx → EReal := m ((c : Thread nD τ).loc main_arg1)
abbrev mo : S1024x1024.Idx → EReal := m ((c : Thread nD τ).loc main_arg2)
abbrev ve : S1024x1024.Idx → EReal := m ((c : Thread nD τ).loc main_arg3)

/-- The change of the weight, as the call leaves it. -/
theorem arr_4 : ((dats m 0 c).arrAt 4 cfg0.N : S1024x1024.Idx → EReal) = fun i => change (wt m c i) (grd m c i) (mo m c i) (ve m c i) := by
  refine (dats m 0 c).arrAt_eq_of_covers 4 _ (by decide +kernel) fun t hf y => ?_
  blk_simp
  rw [after0_4]
  unfold outsAt0
  dsimp only
  frame_out
  show change (iblk m c 0 t y) (iblk m c 1 t y) (iblk m c 2 t y) (iblk m c 3 t y) = _
  rfl

/-- The new first moment, as the call leaves it. -/
theorem arr_5 : ((dats m 0 c).arrAt 5 cfg0.N : S1024x1024.Idx → EReal) = fun i => moment (grd m c i) (mo m c i) := by
  refine (dats m 0 c).arrAt_eq_of_covers 5 _ (by decide +kernel) fun t hf y => ?_
  blk_simp
  rw [after0_5]
  unfold outsAt0
  dsimp only
  frame_out
  show moment (iblk m c 1 t y) (iblk m c 2 t y) = _
  rfl

/-- The new second moment, as the call leaves it. -/
theorem arr_6 : ((dats m 0 c).arrAt 6 cfg0.N : S1024x1024.Idx → EReal) = fun i => second (grd m c i) (ve m c i) := by
  refine (dats m 0 c).arrAt_eq_of_covers 6 _ (by decide +kernel) fun t hf y => ?_
  blk_simp
  rw [after0_6]
  unfold outsAt0
  dsimp only
  frame_out
  show second (iblk m c 1 t y) (iblk m c 3 t y) = _
  rfl

/-! ## The reference -/

theorem ref_change (wt : S1024x1024.Idx → EReal) (grd : S1024x1024.Idx → EReal) (mo : S1024x1024.Idx → EReal) (ve : S1024x1024.Idx → EReal) : (val_main_v23 (F := Ideal) wt grd mo ve : S1024x1024.Idx → EReal) = fun i => change (wt i) (grd i) (mo i) (ve i) := by
  funext i
  rfl

theorem ref_moment (grd : S1024x1024.Idx → EReal) (mo : S1024x1024.Idx → EReal) : (val_main_v4 (F := Ideal) grd mo : S1024x1024.Idx → EReal) = fun i => moment (grd i) (mo i) := by
  funext i
  rfl

theorem ref_second (grd : S1024x1024.Idx → EReal) (ve : S1024x1024.Idx → EReal) : (val_main_v10 (F := Ideal) grd ve : S1024x1024.Idx → EReal) = fun i => second (grd i) (ve i) := by
  funext i
  rfl

end Cert.Kernel14Ideal.Result

namespace Cert.Proof

open Cert.Kernel14Ideal.Result Cert.Reference14Ideal.Read

theorem frame_reference14 : Cert.quiescent_Reference14Ideal := fun m ρ _ =>
  (θ_run Cert.Reference14Ideal.defs _ _).mono (fun r h => ⟨fun c => (h c).2.2.2,
      Idealize.ShloMosaic.sem_eq_zero_of_no_sems (by decide) r.2⟩)
    (Cert.Reference14Ideal.Value.run (F := Ideal) m ρ)

/-- The two programs, run on memories that hold the same arguments, leave the same three results. -/
theorem algebraic_adam_down : Cert.algebraic_Kernel14Ideal_Reference14Ideal := by
  intro m ρ m' ρ' _ hagree
  refine ⟨fun c => val_main_v23 (F := Ideal) (wt m c) (grd m c) (mo m c) (ve m c), fun c => val_main_v4 (F := Ideal) (grd m c) (mo m c),
    fun c => val_main_v10 (F := Ideal) (grd m c) (ve m c), ?_, ?_⟩
  · refine (θ_run Cert.Kernel14Ideal.defs _ _).mono (fun r h c => ?_) (Cert.Kernel14Ideal.Value.run_blocks (F := Ideal) m ρ)
    obtain ⟨h0, h1, h2, ha⟩ := h c
    exact ⟨h0.trans ((arr_4 m c).trans (ref_change _ _ _ _).symm), h1.trans ((arr_5 m c).trans (ref_moment _ _).symm),
      h2.trans ((arr_6 m c).trans (ref_second _ _).symm), ha⟩
  · refine (θ_run Cert.Reference14Ideal.defs _ _).mono (fun r h c => ?_) (Cert.Reference14Ideal.Value.run (F := Ideal) m' ρ')
    obtain ⟨h0, h1, h2, ha⟩ := h c
    obtain ⟨a0, a1, a2, a3, -⟩ := hagree c
    refine ⟨(h0.trans (val_main_v23_eq ..)).trans ?_, (h1.trans (val_main_v4_eq ..)).trans ?_, (h2.trans (val_main_v10_eq ..)).trans ?_, ha⟩
    · rw [a0, a1, a2, a3]
    · rw [a1, a2]
    · rw [a1, a3]

end Cert.Proof

end
-- ==== Proof.AdamGate.lean ====
/-
  The optimiser's call for the weight of the embedding's gate. Over the extended reals its three results are the change of the weight and the two new
  moments, element by element.
-/
module

public import proofs.«01_k».proof.Defs
public import proofs.«01_k».proof.Proof.Shared
public import proofs.«01_k».proof.Proof.AdamStep
public import proofs.«01_k».proof.Proof.Gen.Kernel15Ideal.Value
public import proofs.«01_k».proof.Proof.Gen.Reference15Ideal.Run
public import proofs.«01_k».proof.Proof.Gen.Reference15Ideal.Read
public import Idealize.ShloMosaic.Lib.ValueIdx
public import Idealize.ShloMosaic.Lib.Pipeline.ValueKit
public import Idealize.ShloMosaic.Lib.StableHlo.RunRead
public import Idealize.ShloMosaic.Lib.KernelVsHost

@[expose] public section

set_option maxRecDepth 16384

noncomputable section

open Idealize.ShloMosaic Idealize.ShloMosaic.TcCoe Idealize.ShloMosaic.ValueIdx Idealize.SL.Sem

namespace Cert.Kernel15Ideal.Result

open Cert.Kernel15Ideal Cert.Kernel15Ideal.Gen Cert.Kernel15Ideal.Value Cert.Shared Cert.Reference15Ideal.Read Cert.Adam

theorem hz : (![0, 0] : Fin 2 → Nat) = fun _ => 0 := funext fun a => by fin_cases a <;> rfl

variable (m : (ℓ : Loc nD τ sig) → Buf (Elt Ideal) ℓ) (c : Dev nD)

/-- The weight, the gradient and the two moments. -/
abbrev wt : S256x1024.Idx → EReal := m ((c : Thread nD τ).loc main_arg0)
abbrev grd : S256x1024.Idx → EReal := m ((c : Thread nD τ).loc main_arg1)
abbrev mo : S256x1024.Idx → EReal := m ((c : Thread nD τ).loc main_arg2)
abbrev ve : S256x1024.Idx → EReal := m ((c : Thread nD τ).loc main_arg3)

/-- The change of the weight, as the call leaves it. -/
theorem arr_4 : ((dats m 0 c).arrAt 4 cfg0.N : S256x1024.Idx → EReal) = fun i => change (wt m c i) (grd m c i) (mo m c i) (ve m c i) := by
  refine (dats m 0 c).arrAt_eq_of_covers 4 _ (by decide +kernel) fun t hf y => ?_
  blk_simp
  rw [after0_4]
  unfold outsAt0
  dsimp only
  frame_out
  show change (iblk m c 0 t y) (iblk m c 1 t y) (iblk m c 2 t y) (iblk m c 3 t y) = _
  rfl

/-- The new first moment, as the call leaves it. -/
theorem arr_5 : ((dats m 0 c).arrAt 5 cfg0.N : S256x1024.Idx → EReal) = fun i => moment (grd m c i) (mo m c i) := by
  refine (dats m 0 c).arrAt_eq_of_covers 5 _ (by decide +kernel) fun t hf y => ?_
  blk_simp
  rw [after0_5]
  unfold outsAt0
  dsimp only
  frame_out
  show moment (iblk m c 1 t y) (iblk m c 2 t y) = _
  rfl

/-- The new second moment, as the call leaves it. -/
theorem arr_6 : ((dats m 0 c).arrAt 6 cfg0.N : S256x1024.Idx → EReal) = fun i => second (grd m c i) (ve m c i) := by
  refine (dats m 0 c).arrAt_eq_of_covers 6 _ (by decide +kernel) fun t hf y => ?_
  blk_simp
  rw [after0_6]
  unfold outsAt0
  dsimp only
  frame_out
  show second (iblk m c 1 t y) (iblk m c 3 t y) = _
  rfl

/-! ## The reference -/

theorem ref_change (wt : S256x1024.Idx → EReal) (grd : S256x1024.Idx → EReal) (mo : S256x1024.Idx → EReal) (ve : S256x1024.Idx → EReal) : (val_main_v23 (F := Ideal) wt grd mo ve : S256x1024.Idx → EReal) = fun i => change (wt i) (grd i) (mo i) (ve i) := by
  funext i
  rfl

theorem ref_moment (grd : S256x1024.Idx → EReal) (mo : S256x1024.Idx → EReal) : (val_main_v4 (F := Ideal) grd mo : S256x1024.Idx → EReal) = fun i => moment (grd i) (mo i) := by
  funext i
  rfl

theorem ref_second (grd : S256x1024.Idx → EReal) (ve : S256x1024.Idx → EReal) : (val_main_v10 (F := Ideal) grd ve : S256x1024.Idx → EReal) = fun i => second (grd i) (ve i) := by
  funext i
  rfl

end Cert.Kernel15Ideal.Result

namespace Cert.Proof

open Cert.Kernel15Ideal.Result Cert.Reference15Ideal.Read

theorem frame_reference15 : Cert.quiescent_Reference15Ideal := fun m ρ _ =>
  (θ_run Cert.Reference15Ideal.defs _ _).mono (fun r h => ⟨fun c => (h c).2.2.2,
      Idealize.ShloMosaic.sem_eq_zero_of_no_sems (by decide) r.2⟩)
    (Cert.Reference15Ideal.Value.run (F := Ideal) m ρ)

/-- The two programs, run on memories that hold the same arguments, leave the same three results. -/
theorem algebraic_adam_gate : Cert.algebraic_Kernel15Ideal_Reference15Ideal := by
  intro m ρ m' ρ' _ hagree
  refine ⟨fun c => val_main_v23 (F := Ideal) (wt m c) (grd m c) (mo m c) (ve m c), fun c => val_main_v4 (F := Ideal) (grd m c) (mo m c),
    fun c => val_main_v10 (F := Ideal) (grd m c) (ve m c), ?_, ?_⟩
  · refine (θ_run Cert.Kernel15Ideal.defs _ _).mono (fun r h c => ?_) (Cert.Kernel15Ideal.Value.run_blocks (F := Ideal) m ρ)
    obtain ⟨h0, h1, h2, ha⟩ := h c
    exact ⟨h0.trans ((arr_4 m c).trans (ref_change _ _ _ _).symm), h1.trans ((arr_5 m c).trans (ref_moment _ _).symm),
      h2.trans ((arr_6 m c).trans (ref_second _ _).symm), ha⟩
  · refine (θ_run Cert.Reference15Ideal.defs _ _).mono (fun r h c => ?_) (Cert.Reference15Ideal.Value.run (F := Ideal) m' ρ')
    obtain ⟨h0, h1, h2, ha⟩ := h c
    obtain ⟨a0, a1, a2, a3, -⟩ := hagree c
    refine ⟨(h0.trans (val_main_v23_eq ..)).trans ?_, (h1.trans (val_main_v4_eq ..)).trans ?_, (h2.trans (val_main_v10_eq ..)).trans ?_, ha⟩
    · rw [a0, a1, a2, a3]
    · rw [a1, a2]
    · rw [a1, a3]

end Cert.Proof

end
-- ==== Proof.AdamProj.lean ====
/-
  The optimiser's call for the weight of the embedding's projection. Over the extended reals its three results are the change of the weight and the two new
  moments, element by element.
-/
module

public import proofs.«01_k».proof.Defs
public import proofs.«01_k».proof.Proof.Shared
public import proofs.«01_k».proof.Proof.AdamStep
public import proofs.«01_k».proof.Proof.Gen.Kernel16Ideal.Value
public import proofs.«01_k».proof.Proof.Gen.Reference16Ideal.Run
public import proofs.«01_k».proof.Proof.Gen.Reference16Ideal.Read
public import Idealize.ShloMosaic.Lib.ValueIdx
public import Idealize.ShloMosaic.Lib.Pipeline.ValueKit
public import Idealize.ShloMosaic.Lib.StableHlo.RunRead
public import Idealize.ShloMosaic.Lib.KernelVsHost

@[expose] public section

set_option maxRecDepth 16384

noncomputable section

open Idealize.ShloMosaic Idealize.ShloMosaic.TcCoe Idealize.ShloMosaic.ValueIdx Idealize.SL.Sem

namespace Cert.Kernel16Ideal.Result

open Cert.Kernel16Ideal Cert.Kernel16Ideal.Gen Cert.Kernel16Ideal.Value Cert.Shared Cert.Reference16Ideal.Read Cert.Adam

theorem hz : (![0, 0] : Fin 2 → Nat) = fun _ => 0 := funext fun a => by fin_cases a <;> rfl

variable (m : (ℓ : Loc nD τ sig) → Buf (Elt Ideal) ℓ) (c : Dev nD)

/-- The weight, the gradient and the two moments. -/
abbrev wt : S256x256.Idx → EReal := m ((c : Thread nD τ).loc main_arg0)
abbrev grd : S256x256.Idx → EReal := m ((c : Thread nD τ).loc main_arg1)
abbrev mo : S256x256.Idx → EReal := m ((c : Thread nD τ).loc main_arg2)
abbrev ve : S256x256.Idx → EReal := m ((c : Thread nD τ).loc main_arg3)

/-- The change of the weight, as the call leaves it. -/
theorem arr_4 : ((dats m 0 c).arrAt 4 cfg0.N : S256x256.Idx → EReal) = fun i => change (wt m c i) (grd m c i) (mo m c i) (ve m c i) := by
  refine (dats m 0 c).arrAt_eq_of_covers 4 _ (by decide +kernel) fun t hf y => ?_
  blk_simp
  rw [after0_4]
  unfold outsAt0
  dsimp only
  frame_out
  show change (iblk m c 0 t y) (iblk m c 1 t y) (iblk m c 2 t y) (iblk m c 3 t y) = _
  rfl

/-- The new first moment, as the call leaves it. -/
theorem arr_5 : ((dats m 0 c).arrAt 5 cfg0.N : S256x256.Idx → EReal) = fun i => moment (grd m c i) (mo m c i) := by
  refine (dats m 0 c).arrAt_eq_of_covers 5 _ (by decide +kernel) fun t hf y => ?_
  blk_simp
  rw [after0_5]
  unfold outsAt0
  dsimp only
  frame_out
  show moment (iblk m c 1 t y) (iblk m c 2 t y) = _
  rfl

/-- The new second moment, as the call leaves it. -/
theorem arr_6 : ((dats m 0 c).arrAt 6 cfg0.N : S256x256.Idx → EReal) = fun i => second (grd m c i) (ve m c i) := by
  refine (dats m 0 c).arrAt_eq_of_covers 6 _ (by decide +kernel) fun t hf y => ?_
  blk_simp
  rw [after0_6]
  unfold outsAt0
  dsimp only
  frame_out
  show second (iblk m c 1 t y) (iblk m c 3 t y) = _
  rfl

/-! ## The reference -/

theorem ref_change (wt : S256x256.Idx → EReal) (grd : S256x256.Idx → EReal) (mo : S256x256.Idx → EReal) (ve : S256x256.Idx → EReal) : (val_main_v23 (F := Ideal) wt grd mo ve : S256x256.Idx → EReal) = fun i => change (wt i) (grd i) (mo i) (ve i) := by
  funext i
  rfl

theorem ref_moment (grd : S256x256.Idx → EReal) (mo : S256x256.Idx → EReal) : (val_main_v4 (F := Ideal) grd mo : S256x256.Idx → EReal) = fun i => moment (grd i) (mo i) := by
  funext i
  rfl

theorem ref_second (grd : S256x256.Idx → EReal) (ve : S256x256.Idx → EReal) : (val_main_v10 (F := Ideal) grd ve : S256x256.Idx → EReal) = fun i => second (grd i) (ve i) := by
  funext i
  rfl

end Cert.Kernel16Ideal.Result

namespace Cert.Proof

open Cert.Kernel16Ideal.Result Cert.Reference16Ideal.Read

theorem frame_reference16 : Cert.quiescent_Reference16Ideal := fun m ρ _ =>
  (θ_run Cert.Reference16Ideal.defs _ _).mono (fun r h => ⟨fun c => (h c).2.2.2,
      Idealize.ShloMosaic.sem_eq_zero_of_no_sems (by decide) r.2⟩)
    (Cert.Reference16Ideal.Value.run (F := Ideal) m ρ)

/-- The two programs, run on memories that hold the same arguments, leave the same three results. -/
theorem algebraic_adam_proj : Cert.algebraic_Kernel16Ideal_Reference16Ideal := by
  intro m ρ m' ρ' _ hagree
  refine ⟨fun c => val_main_v23 (F := Ideal) (wt m c) (grd m c) (mo m c) (ve m c), fun c => val_main_v4 (F := Ideal) (grd m c) (mo m c),
    fun c => val_main_v10 (F := Ideal) (grd m c) (ve m c), ?_, ?_⟩
  · refine (θ_run Cert.Kernel16Ideal.defs _ _).mono (fun r h c => ?_) (Cert.Kernel16Ideal.Value.run_blocks (F := Ideal) m ρ)
    obtain ⟨h0, h1, h2, ha⟩ := h c
    exact ⟨h0.trans ((arr_4 m c).trans (ref_change _ _ _ _).symm), h1.trans ((arr_5 m c).trans (ref_moment _ _).symm),
      h2.trans ((arr_6 m c).trans (ref_second _ _).symm), ha⟩
  · refine (θ_run Cert.Reference16Ideal.defs _ _).mono (fun r h c => ?_) (Cert.Reference16Ideal.Value.run (F := Ideal) m' ρ')
    obtain ⟨h0, h1, h2, ha⟩ := h c
    obtain ⟨a0, a1, a2, a3, -⟩ := hagree c
    refine ⟨(h0.trans (val_main_v23_eq ..)).trans ?_, (h1.trans (val_main_v4_eq ..)).trans ?_, (h2.trans (val_main_v10_eq ..)).trans ?_, ha⟩
    · rw [a0, a1, a2, a3]
    · rw [a1, a2]
    · rw [a1, a3]

end Cert.Proof

end
-- ==== Proof.AdamIn.lean ====
/-
  The optimiser's call for the input projections, transposed. Over the extended reals its three results are the change of the weight and the two new
  moments, element by element.
-/
module

public import proofs.«01_k».proof.Defs
public import proofs.«01_k».proof.Proof.Shared
public import proofs.«01_k».proof.Proof.AdamStep
public import proofs.«01_k».proof.Proof.Gen.Kernel17Ideal.Value
public import proofs.«01_k».proof.Proof.Gen.Reference17Ideal.Run
public import proofs.«01_k».proof.Proof.Gen.Reference17Ideal.Read
public import Idealize.ShloMosaic.Lib.ValueIdx
public import Idealize.ShloMosaic.Lib.Pipeline.ValueKit
public import Idealize.ShloMosaic.Lib.StableHlo.RunRead
public import Idealize.ShloMosaic.Lib.KernelVsHost

@[expose] public section

set_option maxRecDepth 16384

noncomputable section

open Idealize.ShloMosaic Idealize.ShloMosaic.TcCoe Idealize.ShloMosaic.ValueIdx Idealize.SL.Sem

namespace Cert.Kernel17Ideal.Result

open Cert.Kernel17Ideal Cert.Kernel17Ideal.Gen Cert.Kernel17Ideal.Value Cert.Shared Cert.Reference17Ideal.Read Cert.Adam

theorem hz : (![0, 0] : Fin 2 → Nat) = fun _ => 0 := funext fun a => by fin_cases a <;> rfl

variable (m : (ℓ : Loc nD τ sig) → Buf (Elt Ideal) ℓ) (c : Dev nD)

/-- The weight, the gradient and the two moments. -/
abbrev wt : S1024x706.Idx → EReal := m ((c : Thread nD τ).loc main_arg0)
abbrev grd : S706x1024.Idx → EReal := m ((c : Thread nD τ).loc main_arg1)
abbrev mo : S1024x706.Idx → EReal := m ((c : Thread nD τ).loc main_arg2)
abbrev ve : S1024x706.Idx → EReal := m ((c : Thread nD τ).loc main_arg3)

/-- The same as the call receives them: the weight and the moments transposed. -/
abbrev tp (i : S706x1024.Idx) : S1024x706.Idx := ValueIdx.ix2 (i 1) (i 0)

theorem V_wt (i : S706x1024.Idx) : (V m c main_v0 : S706x1024.Idx → EReal) i = wt m c (tp i) := by
  have e : (V m c main_v0 : S706x1024.Idx → EReal) = transpose S706x1024 [1, 0] (wt m c : (⟨S1024x706, .f32⟩ : BufTy).Contents (Elt Ideal)) transposes_S1024x706_S706x1024_1_0 := by
    unfold V hostOps0
    after_reads_simp
  rw [e]
  exact transpose_apply [1, 0] _ transposes_S1024x706_S706x1024_1_0 i (tp i) (fun a => match a with
    | ⟨0, _⟩ => rfl | ⟨1, _⟩ => rfl)

theorem V_grd (i : S706x1024.Idx) : (V m c main_arg1 : S706x1024.Idx → EReal) i = grd m c i := by
  unfold V hostOps0
  after_reads_simp

theorem V_mo (i : S706x1024.Idx) : (V m c main_v1 : S706x1024.Idx → EReal) i = mo m c (tp i) := by
  have e : (V m c main_v1 : S706x1024.Idx → EReal) = transpose S706x1024 [1, 0] (mo m c : (⟨S1024x706, .f32⟩ : BufTy).Contents (Elt Ideal)) transposes_S1024x706_S706x1024_1_0 := by
    unfold V hostOps0
    after_reads_simp
  rw [e]
  exact transpose_apply [1, 0] _ transposes_S1024x706_S706x1024_1_0 i (tp i) (fun a => match a with
    | ⟨0, _⟩ => rfl | ⟨1, _⟩ => rfl)

theorem V_ve (i : S706x1024.Idx) : (V m c main_v2 : S706x1024.Idx → EReal) i = ve m c (tp i) := by
  have e : (V m c main_v2 : S706x1024.Idx → EReal) = transpose S706x1024 [1, 0] (ve m c : (⟨S1024x706, .f32⟩ : BufTy).Contents (Elt Ideal)) transposes_S1024x706_S706x1024_1_0 := by
    unfold V hostOps0
    after_reads_simp
  rw [e]
  exact transpose_apply [1, 0] _ transposes_S1024x706_S706x1024_1_0 i (tp i) (fun a => match a with
    | ⟨0, _⟩ => rfl | ⟨1, _⟩ => rfl)

theorem pay1_at (g p : S706x256.Idx → EReal) (y : S706x256.Idx) : (k0_pay1 (F := Ideal) g p : S706x256.Idx → EReal) y = moment (g y) (p y) := by
  unfold k0_pay1
  rw [shapeCast_self]
  rfl

theorem pay2_at (g q : S706x256.Idx → EReal) (y : S706x256.Idx) : (k0_pay2 (F := Ideal) g q : S706x256.Idx → EReal) y = second (g y) (q y) := by
  unfold k0_pay2
  rw [shapeCast_self]
  rfl

theorem pay3_at (w g p q : S706x256.Idx → EReal) (y : S706x256.Idx) : (k0_pay3 (F := Ideal) w g p q : S706x256.Idx → EReal) y = change (w y) (g y) (p y) (q y) := by
  unfold k0_pay3
  unfold k0_pay1 k0_pay2
  simp only [shapeCast_self]
  rfl

/-- The change of the weight, as the call leaves it. -/
theorem arr_4 : ((dats m 0 c).arrAt 4 cfg0.N : S706x1024.Idx → EReal) = fun i => change (wt m c (tp i)) (grd m c i) (mo m c (tp i)) (ve m c (tp i)) := by
  refine (dats m 0 c).arrAt_eq_of_covers 4 _ (by decide +kernel) fun t hf y => ?_
  blk_simp
  rw [after0_4]
  unfold outsAt0
  dsimp only
  frame_out
  refine (pay3_at ..).trans ?_
  show change (iblk m c 0 t y) (iblk m c 1 t y) (iblk m c 2 t y) (iblk m c 3 t y) = _
  exact congr (congr (congr (congrArg change (V_wt m c _)) (V_grd m c _)) (V_mo m c _)) (V_ve m c _)

/-- The new first moment, as the call leaves it. -/
theorem arr_5 : ((dats m 0 c).arrAt 5 cfg0.N : S706x1024.Idx → EReal) = fun i => moment (grd m c i) (mo m c (tp i)) := by
  refine (dats m 0 c).arrAt_eq_of_covers 5 _ (by decide +kernel) fun t hf y => ?_
  blk_simp
  rw [after0_5]
  unfold outsAt0
  dsimp only
  frame_out
  refine (pay1_at ..).trans ?_
  show moment (iblk m c 1 t y) (iblk m c 2 t y) = _
  exact congrArg₂ moment (V_grd m c _) (V_mo m c _)

/-- The new second moment, as the call leaves it. -/
theorem arr_6 : ((dats m 0 c).arrAt 6 cfg0.N : S706x1024.Idx → EReal) = fun i => second (grd m c i) (ve m c (tp i)) := by
  refine (dats m 0 c).arrAt_eq_of_covers 6 _ (by decide +kernel) fun t hf y => ?_
  blk_simp
  rw [after0_6]
  unfold outsAt0
  dsimp only
  frame_out
  refine (pay2_at ..).trans ?_
  show second (iblk m c 1 t y) (iblk m c 3 t y) = _
  exact congrArg₂ second (V_grd m c _) (V_ve m c _)

/-! ## The reference -/

theorem ref_change (wt : S1024x706.Idx → EReal) (grd : S706x1024.Idx → EReal) (mo : S1024x706.Idx → EReal) (ve : S1024x706.Idx → EReal) : (val_main_v25 (F := Ideal) wt grd mo ve : S706x1024.Idx → EReal) = fun i => change (wt (tp i)) (grd i) (mo (tp i)) (ve (tp i)) := by
  funext i
  rw [val_main_v25_apply]
  have e : idx_main_v25 i = tp i := ValueIdx.eq_ix2 _
  rw [e]
  have e' : ∀ x : S706x1024.Idx → EReal, (val_main_v0 (F := Ideal) x : S1024x706.Idx → EReal) (tp i) = x i := fun x => by
    rw [val_main_v0_apply]
    exact congrArg x (funext fun a => match a with | ⟨0, _⟩ => rfl | ⟨1, _⟩ => rfl)
  rw [val_main_v24_apply, val_main_v22_apply, val_main_v21_apply, val_main_v19_apply, val_main_v18_apply, val_main_v16_apply, val_main_v15_apply, val_main_v13_apply, val_main_v11_apply, val_main_v10_apply, val_main_v8_apply, val_main_v7_apply, val_main_v5_apply, val_main_v4_apply, e']; rfl

theorem ref_moment (grd : S706x1024.Idx → EReal) (mo : S1024x706.Idx → EReal) : (val_main_v26 (F := Ideal) grd mo : S706x1024.Idx → EReal) = fun i => moment (grd i) (mo (tp i)) := by
  funext i
  rw [val_main_v26_apply]
  have e : idx_main_v26 i = tp i := ValueIdx.eq_ix2 _
  rw [e]
  have e' : ∀ x : S706x1024.Idx → EReal, (val_main_v0 (F := Ideal) x : S1024x706.Idx → EReal) (tp i) = x i := fun x => by
    rw [val_main_v0_apply]
    exact congrArg x (funext fun a => match a with | ⟨0, _⟩ => rfl | ⟨1, _⟩ => rfl)
  rw [val_main_v5_apply, val_main_v4_apply, e']; rfl

theorem ref_second (grd : S706x1024.Idx → EReal) (ve : S1024x706.Idx → EReal) : (val_main_v27 (F := Ideal) grd ve : S706x1024.Idx → EReal) = fun i => second (grd i) (ve (tp i)) := by
  funext i
  rw [val_main_v27_apply]
  have e : idx_main_v27 i = tp i := ValueIdx.eq_ix2 _
  rw [e]
  have e' : ∀ x : S706x1024.Idx → EReal, (val_main_v0 (F := Ideal) x : S1024x706.Idx → EReal) (tp i) = x i := fun x => by
    rw [val_main_v0_apply]
    exact congrArg x (funext fun a => match a with | ⟨0, _⟩ => rfl | ⟨1, _⟩ => rfl)
  rw [val_main_v11_apply, val_main_v10_apply, val_main_v8_apply, e']; rfl

end Cert.Kernel17Ideal.Result

namespace Cert.Proof

open Cert.Kernel17Ideal.Result Cert.Reference17Ideal.Read

theorem frame_reference17 : Cert.quiescent_Reference17Ideal := fun m ρ _ =>
  (θ_run Cert.Reference17Ideal.defs _ _).mono (fun r h => ⟨fun c => (h c).2.2.2,
      Idealize.ShloMosaic.sem_eq_zero_of_no_sems (by decide) r.2⟩)
    (Cert.Reference17Ideal.Value.run (F := Ideal) m ρ)

/-- The two programs, run on memories that hold the same arguments, leave the same three results. -/
theorem algebraic_adam_in : Cert.algebraic_Kernel17Ideal_Reference17Ideal := by
  intro m ρ m' ρ' _ hagree
  refine ⟨fun c => val_main_v25 (F := Ideal) (wt m c) (grd m c) (mo m c) (ve m c), fun c => val_main_v26 (F := Ideal) (grd m c) (mo m c),
    fun c => val_main_v27 (F := Ideal) (grd m c) (ve m c), ?_, ?_⟩
  · refine (θ_run Cert.Kernel17Ideal.defs _ _).mono (fun r h c => ?_) (Cert.Kernel17Ideal.Value.run_blocks (F := Ideal) m ρ)
    obtain ⟨h0, h1, h2, ha⟩ := h c
    exact ⟨h0.trans ((arr_4 m c).trans (ref_change _ _ _ _).symm), h1.trans ((arr_5 m c).trans (ref_moment _ _).symm),
      h2.trans ((arr_6 m c).trans (ref_second _ _).symm), ha⟩
  · refine (θ_run Cert.Reference17Ideal.defs _ _).mono (fun r h c => ?_) (Cert.Reference17Ideal.Value.run (F := Ideal) m' ρ')
    obtain ⟨h0, h1, h2, ha⟩ := h c
    obtain ⟨a0, a1, a2, a3, -⟩ := hagree c
    refine ⟨(h0.trans (val_main_v25_eq ..)).trans ?_, (h1.trans (val_main_v26_eq ..)).trans ?_, (h2.trans (val_main_v27_eq ..)).trans ?_, ha⟩
    · rw [a0, a1, a2, a3]
    · rw [a1, a2]
    · rw [a1, a3]

end Cert.Proof

end
-- ==== Proof.AdamSmall.lean ====
/-
  The optimiser's call for the nine small weights, packed in the rows of one block. Over the extended reals its three results are the change of the weight and the two new
  moments, element by element.
-/
module

public import proofs.«01_k».proof.Defs
public import proofs.«01_k».proof.Proof.Shared
public import proofs.«01_k».proof.Proof.AdamStep
public import proofs.«01_k».proof.Proof.Gen.Kernel18Ideal.Value
public import proofs.«01_k».proof.Proof.Gen.Reference18Ideal.Run
public import proofs.«01_k».proof.Proof.Gen.Reference18Ideal.Read
public import Idealize.ShloMosaic.Lib.ValueIdx
public import Idealize.ShloMosaic.Lib.Pipeline.ValueKit
public import Idealize.ShloMosaic.Lib.StableHlo.RunRead
public import Idealize.ShloMosaic.Lib.KernelVsHost

@[expose] public section

set_option maxRecDepth 16384

noncomputable section

open Idealize.ShloMosaic Idealize.ShloMosaic.TcCoe Idealize.ShloMosaic.ValueIdx Idealize.SL.Sem

namespace Cert.Kernel18Ideal.Result

open Cert.Kernel18Ideal Cert.Kernel18Ideal.Gen Cert.Kernel18Ideal.Value Cert.Shared Cert.Reference18Ideal.Read Cert.Adam

theorem hz : (![0, 0] : Fin 2 → Nat) = fun _ => 0 := funext fun a => by fin_cases a <;> rfl

variable (m : (ℓ : Loc nD τ sig) → Buf (Elt Ideal) ℓ) (c : Dev nD)

/-- The weight, the gradient and the two moments. -/
abbrev wt : S16x1536.Idx → EReal := m ((c : Thread nD τ).loc main_arg0)
abbrev grd : S16x1536.Idx → EReal := m ((c : Thread nD τ).loc main_arg1)
abbrev mo : S16x1536.Idx → EReal := m ((c : Thread nD τ).loc main_arg2)
abbrev ve : S16x1536.Idx → EReal := m ((c : Thread nD τ).loc main_arg3)

/-- The change of the weight, as the call leaves it. -/
theorem arr_4 : ((dats m 0 c).arrAt 4 cfg0.N : S16x1536.Idx → EReal) = fun i => change (wt m c i) (grd m c i) (mo m c i) (ve m c i) := by
  refine (dats m 0 c).arrAt_eq_of_covers 4 _ (by decide +kernel) fun t hf y => ?_
  blk_simp
  rw [after0_4]
  unfold outsAt0
  dsimp only
  frame_out
  show change (iblk m c 0 t y) (iblk m c 1 t y) (iblk m c 2 t y) (iblk m c 3 t y) = _
  rfl

/-- The new first moment, as the call leaves it. -/
theorem arr_5 : ((dats m 0 c).arrAt 5 cfg0.N : S16x1536.Idx → EReal) = fun i => moment (grd m c i) (mo m c i) := by
  refine (dats m 0 c).arrAt_eq_of_covers 5 _ (by decide +kernel) fun t hf y => ?_
  blk_simp
  rw [after0_5]
  unfold outsAt0
  dsimp only
  frame_out
  show moment (iblk m c 1 t y) (iblk m c 2 t y) = _
  rfl

/-- The new second moment, as the call leaves it. -/
theorem arr_6 : ((dats m 0 c).arrAt 6 cfg0.N : S16x1536.Idx → EReal) = fun i => second (grd m c i) (ve m c i) := by
  refine (dats m 0 c).arrAt_eq_of_covers 6 _ (by decide +kernel) fun t hf y => ?_
  blk_simp
  rw [after0_6]
  unfold outsAt0
  dsimp only
  frame_out
  show second (iblk m c 1 t y) (iblk m c 3 t y) = _
  rfl

/-! ## The reference -/

theorem ref_change (wt : S16x1536.Idx → EReal) (grd : S16x1536.Idx → EReal) (mo : S16x1536.Idx → EReal) (ve : S16x1536.Idx → EReal) : (val_main_v23 (F := Ideal) wt grd mo ve : S16x1536.Idx → EReal) = fun i => change (wt i) (grd i) (mo i) (ve i) := by
  funext i
  rfl

theorem ref_moment (grd : S16x1536.Idx → EReal) (mo : S16x1536.Idx → EReal) : (val_main_v4 (F := Ideal) grd mo : S16x1536.Idx → EReal) = fun i => moment (grd i) (mo i) := by
  funext i
  rfl

theorem ref_second (grd : S16x1536.Idx → EReal) (ve : S16x1536.Idx → EReal) : (val_main_v10 (F := Ideal) grd ve : S16x1536.Idx → EReal) = fun i => second (grd i) (ve i) := by
  funext i
  rfl

end Cert.Kernel18Ideal.Result

namespace Cert.Proof

open Cert.Kernel18Ideal.Result Cert.Reference18Ideal.Read

theorem frame_reference18 : Cert.quiescent_Reference18Ideal := fun m ρ _ =>
  (θ_run Cert.Reference18Ideal.defs _ _).mono (fun r h => ⟨fun c => (h c).2.2.2,
      Idealize.ShloMosaic.sem_eq_zero_of_no_sems (by decide) r.2⟩)
    (Cert.Reference18Ideal.Value.run (F := Ideal) m ρ)

/-- The two programs, run on memories that hold the same arguments, leave the same three results. -/
theorem algebraic_adam_small : Cert.algebraic_Kernel18Ideal_Reference18Ideal := by
  intro m ρ m' ρ' _ hagree
  refine ⟨fun c => val_main_v23 (F := Ideal) (wt m c) (grd m c) (mo m c) (ve m c), fun c => val_main_v4 (F := Ideal) (grd m c) (mo m c),
    fun c => val_main_v10 (F := Ideal) (grd m c) (ve m c), ?_, ?_⟩
  · refine (θ_run Cert.Kernel18Ideal.defs _ _).mono (fun r h c => ?_) (Cert.Kernel18Ideal.Value.run_blocks (F := Ideal) m ρ)
    obtain ⟨h0, h1, h2, ha⟩ := h c
    exact ⟨h0.trans ((arr_4 m c).trans (ref_change _ _ _ _).symm), h1.trans ((arr_5 m c).trans (ref_moment _ _).symm),
      h2.trans ((arr_6 m c).trans (ref_second _ _).symm), ha⟩
  · refine (θ_run Cert.Reference18Ideal.defs _ _).mono (fun r h c => ?_) (Cert.Reference18Ideal.Value.run (F := Ideal) m' ρ')
    obtain ⟨h0, h1, h2, ha⟩ := h c
    obtain ⟨a0, a1, a2, a3, -⟩ := hagree c
    refine ⟨(h0.trans (val_main_v23_eq ..)).trans ?_, (h1.trans (val_main_v4_eq ..)).trans ?_, (h2.trans (val_main_v10_eq ..)).trans ?_, ha⟩
    · rw [a0, a1, a2, a3]
    · rw [a1, a2]
    · rw [a1, a3]

end Cert.Proof

end
-- ==== Proof.MlpFwdBody.lean ====
/-
  The body of the MLP's forward call on whole buffers, in its three cases: the first of the four points of a tile of tokens
  (normalise the tile, clear the sum, add the first block's product), a point in the middle (add the next block's product to
  what the point before left), and the last one (the same, then the result from the sum).
-/
module

public import proofs.«01_k».proof.Proof.Gen.Kernel19Ideal.Frame
public import proofs.«01_k».proof.Proof.Gen.Kernel19Ideal.Skeleton
public import Idealize.ShloMosaic.Lib.Pipeline.ValueKit
public import Idealize.ShloMosaic.Lib.VecWindow

@[expose] public section

set_option maxRecDepth 16384

noncomputable section

namespace Cert.Kernel19Ideal.Result

open Cert.Kernel19Ideal Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load of a whole buffer reads what the buffer holds. -/
theorem whole {sp : Space} {s : Shape} {e : EltTy} {a : Memref sig .tc sp s e} (h : a.IsWhole) {off : Fin s.rank → Nat}
    (inb : ∀ j, off j + s.size j ≤ s.size j) (x : s.Idx → Elt F e) : a.view.readAt (Elt F) (Rect.unit off s.size inb).toLoadRect (h.unread x) = x := by
  rw [View.readAt_full, h.read_unread]

section
variable (c : Dev nD) (i : grid0.Coords) (a2 : Memref sig .tc .vmem S1024x1024 .f32) (h2 : a2.IsWhole) (a3 : Memref sig .tc .vmem S1x1024 .f32) (h3 : a3.IsWhole)
  (a4 : Memref sig .tc .vmem S1x1024x1024 .bf16) (h4 : a4.IsWhole) (a5 : Memref sig .tc .vmem S1024x1024 .bf16) (h5 : a5.IsWhole)
  (a6 : Memref sig .tc .vmem S1024x1024 .bf16) (h6 : a6.IsWhole) (a7 : Memref sig .tc .vmem S1024x1024 .bf16) (h7 : a7.IsWhole)
  (a8 : Memref sig .tc .vmem S1024x1024 .f32) (h8 : a8.IsWhole) (a9 : Memref sig .tc .vmem S1024x1024 .f32) (h9 : a9.IsWhole)
  (x : Vec F S1024x1024 .f32) (g : Vec F S1x1024 .f32) (u : Vec F S1x1024x1024 .bf16) (d : Vec F S1024x1024 .bf16)

/-- The first point of a tile. -/
theorem body_first (hc0 : k0_cond1 i = 1#1) (hc1 : ¬k0_cond2 i = 1#1) (y : Vec F S1024x1024 .f32) (E : Set ℕ) (K : PUnit → sProp 𝕄) :
    iprop(owns (c : Thread nD τ) a2 fullShare x ∗ owns (c : Thread nD τ) a3 fullShare g ∗ owns (c : Thread nD τ) a4 fullShare u ∗ owns (c : Thread nD τ) a5 fullShare d
        ∗ (∃ z, owns (c : Thread nD τ) a6 fullShare z) ∗ (∃ z, owns (c : Thread nD τ) a7 fullShare z) ∗ owns (c : Thread nD τ) a8 fullShare y ∗ (∃ z, owns (c : Thread nD τ) a9 fullShare z)
        ∗ (iprop(owns (c : Thread nD τ) a2 fullShare x ∗ owns (c : Thread nD τ) a3 fullShare g ∗ owns (c : Thread nD τ) a4 fullShare u ∗ owns (c : Thread nD τ) a5 fullShare d
          ∗ owns (c : Thread nD τ) a6 fullShare (k0_pay1 x g) ∗ owns (c : Thread nD τ) a7 fullShare (k0_pay4 (k0_pay1 x g) u) ∗ owns (c : Thread nD τ) a8 fullShare y
          ∗ owns (c : Thread nD τ) a9 fullShare (k0_pay5 (k0_pay1 x g) u k0_pay2 d)) -∗ K ⟨⟩))
      ⊢ wp frame (wpE (defs₀ (F := F)) Variants.none c none) E (cc0_mlp_fwd i a2 h2 a3 h3 a4 h4 a5 h5 a6 h6 a7 h7 a8 h8 a9 h9) K := by
  simp only [cc0_mlp_fwd_eq_skeleton]; unfold cc0_mlp_fwd_skel
  unfold owns
  iintro ⟨⟨%f2, %e2, H2⟩, ⟨%f3, %e3, H3⟩, ⟨%f4, %e4, H4⟩, ⟨%f5, %e5, H5⟩, ⟨%d6, %f6, -, H6⟩, ⟨%d7, %f7, -, H7⟩, ⟨%f8, %e8, H8⟩, ⟨%d9, %f9, -, H9⟩, Hk⟩
  obtain rfl := h2.eq_unread e2; obtain rfl := h3.eq_unread e3; obtain rfl := h4.eq_unread e4; obtain rfl := h5.eq_unread e5; obtain rfl := h8.eq_unread e8
  sl_exec (disch := first | sl_exact hc0 | sl_exact hc1)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    exact (View.read_writes_full _ _ _ _ _).trans (congr (congrArg k0_pay1 (whole h2 _ x)) (whole h3 _ g))
  isplitl [H7]
  · iexists _; isplitr
    swap; · iexact H7
    ipureintro
    exact (View.read_writes_full _ _ _ _ _).trans (congr (congrArg k0_pay4 ((View.readCov_full _ _ _ _ _).trans (congr (congrArg k0_pay1 (whole h2 _ x)) (whole h3 _ g)))) (whole h4 _ u))
  isplitl [H8]
  · iexists _; isplitr; · ipureintro; exact h8.read_unread _
    iexact H8
  iexists _; isplitr
  swap; · iexact H9
  ipureintro
  exact (View.read_writes_full _ _ _ _ _).trans (congr (congr (congr (congrArg k0_pay5 ((View.readCov_full _ _ _ _ _).trans (congr (congrArg k0_pay1 (whole h2 _ x)) (whole h3 _ g)))) (whole h4 _ u)) (View.readCov_full _ _ _ _ _)) (whole h5 _ d))

/-- A point in the middle of a tile. -/
theorem body_middle (hc0 : ¬k0_cond1 i = 1#1) (hc1 : ¬k0_cond2 i = 1#1) (m : Vec F S1024x1024 .bf16) (y : Vec F S1024x1024 .f32) (s : Vec F S1024x1024 .f32) (E : Set ℕ) (K : PUnit → sProp 𝕄) :
    iprop(owns (c : Thread nD τ) a2 fullShare x ∗ owns (c : Thread nD τ) a3 fullShare g ∗ owns (c : Thread nD τ) a4 fullShare u ∗ owns (c : Thread nD τ) a5 fullShare d
        ∗ owns (c : Thread nD τ) a6 fullShare m ∗ (∃ z, owns (c : Thread nD τ) a7 fullShare z) ∗ owns (c : Thread nD τ) a8 fullShare y ∗ owns (c : Thread nD τ) a9 fullShare s
        ∗ (iprop(owns (c : Thread nD τ) a2 fullShare x ∗ owns (c : Thread nD τ) a3 fullShare g ∗ owns (c : Thread nD τ) a4 fullShare u ∗ owns (c : Thread nD τ) a5 fullShare d
          ∗ owns (c : Thread nD τ) a6 fullShare m ∗ owns (c : Thread nD τ) a7 fullShare (k0_pay4 m u) ∗ owns (c : Thread nD τ) a8 fullShare y
          ∗ owns (c : Thread nD τ) a9 fullShare (k0_pay5 m u s d)) -∗ K ⟨⟩))
      ⊢ wp frame (wpE (defs₀ (F := F)) Variants.none c none) E (cc0_mlp_fwd i a2 h2 a3 h3 a4 h4 a5 h5 a6 h6 a7 h7 a8 h8 a9 h9) K := by
  simp only [cc0_mlp_fwd_eq_skeleton]; unfold cc0_mlp_fwd_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%f8, %e8, H8⟩, ⟨%f9, %e9, H9⟩, Hk⟩
  obtain rfl := h2.eq_unread e2; obtain rfl := h3.eq_unread e3; obtain rfl := h4.eq_unread e4; obtain rfl := h5.eq_unread e5
  obtain rfl := h6.eq_unread e6; obtain rfl := h8.eq_unread e8; obtain rfl := h9.eq_unread e9
  sl_exec (disch := first | sl_exact hc0 | sl_exact hc1)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr
    swap; · iexact H7
    ipureintro
    exact (View.read_writes_full _ _ _ _ _).trans (congr (congrArg k0_pay4 (whole h6 _ m)) (whole h4 _ u))
  isplitl [H8]
  · iexists _; isplitr; · ipureintro; exact h8.read_unread _
    iexact H8
  iexists _; isplitr
  swap; · iexact H9
  ipureintro
  exact (View.read_writes_full _ _ _ _ _).trans (congr (congr (congr (congrArg k0_pay5 (whole h6 _ m)) (whole h4 _ u)) (whole h9 _ s)) (whole h5 _ d))

/-- The last point of a tile. -/
theorem body_last (hc0 : ¬k0_cond1 i = 1#1) (hc1 : k0_cond2 i = 1#1) (m : Vec F S1024x1024 .bf16) (s : Vec F S1024x1024 .f32) (E : Set ℕ) (K : PUnit → sProp 𝕄) :
    iprop(owns (c : Thread nD τ) a2 fullShare x ∗ owns (c : Thread nD τ) a3 fullShare g ∗ owns (c : Thread nD τ) a4 fullShare u ∗ owns (c : Thread nD τ) a5 fullShare d
        ∗ owns (c : Thread nD τ) a6 fullShare m ∗ (∃ z, owns (c : Thread nD τ) a7 fullShare z) ∗ (∃ z, owns (c : Thread nD τ) a8 fullShare z) ∗ owns (c : Thread nD τ) a9 fullShare s
        ∗ (iprop(owns (c : Thread nD τ) a2 fullShare x ∗ owns (c : Thread nD τ) a3 fullShare g ∗ owns (c : Thread nD τ) a4 fullShare u ∗ owns (c : Thread nD τ) a5 fullShare d
          ∗ owns (c : Thread nD τ) a6 fullShare m ∗ owns (c : Thread nD τ) a7 fullShare (k0_pay4 m u) ∗ owns (c : Thread nD τ) a8 fullShare (k0_pay6 x (k0_pay5 m u s d))
          ∗ owns (c : Thread nD τ) a9 fullShare (k0_pay5 m u s d)) -∗ K ⟨⟩))
      ⊢ wp frame (wpE (defs₀ (F := F)) Variants.none c none) E (cc0_mlp_fwd i a2 h2 a3 h3 a4 h4 a5 h5 a6 h6 a7 h7 a8 h8 a9 h9) K := by
  simp only [cc0_mlp_fwd_eq_skeleton]; unfold cc0_mlp_fwd_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%f9, %e9, H9⟩, Hk⟩
  obtain rfl := h2.eq_unread e2; obtain rfl := h3.eq_unread e3; obtain rfl := h4.eq_unread e4; obtain rfl := h5.eq_unread e5
  obtain rfl := h6.eq_unread e6; obtain rfl := h9.eq_unread e9
  sl_exec (disch := first | sl_exact hc0 | sl_exact hc1)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr
    swap; · iexact H7
    ipureintro
    exact (View.read_writes_full _ _ _ _ _).trans (congr (congrArg k0_pay4 (whole h6 _ m)) (whole h4 _ u))
  isplitl [H8]
  · iexists _; isplitr
    swap; · iexact H8
    ipureintro
    exact (View.read_writes_full _ _ _ _ _).trans (congr (congrArg k0_pay6 (whole h2 _ x)) ((View.readCov_full _ _ _ _ _).trans (congr (congr (congr (congrArg k0_pay5 (whole h6 _ m)) (whole h4 _ u)) (whole h9 _ s)) (whole h5 _ d))))
  iexists _; isplitr
  swap; · iexact H9
  ipureintro
  exact (View.read_writes_full _ _ _ _ _).trans (congr (congr (congr (congrArg k0_pay5 (whole h6 _ m)) (whole h4 _ u)) (whole h9 _ s)) (whole h5 _ d))

end

end Cert.Kernel19Ideal.Result

end
-- ==== Proof.MlpFwdRun.lean ====
/-
  The MLP's forward call as a whole: what each buffer holds after every one of its sixteen points, and the run of the program
  from there.  The points go four to a tile of tokens.  The normalised tile is written at the first of the four and only read at
  the other three, so its buffer is carried; the sum over the hidden blocks lives in a buffer of the kernel's own, is cleared at
  the first of the four and added to the tile at the last.
-/
module

public import proofs.«01_k».proof.Proof.MlpFwdBody
public import proofs.«01_k».proof.Proof.Gen.Kernel19Ideal.Launch
public import proofs.«01_k».proof.Proof.Gen.Kernel19Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.Claim

@[expose] public section

set_option maxRecDepth 16384

noncomputable section

namespace Cert.Kernel19Ideal.Result

open Cert.Kernel19Ideal Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where a point stands in its tile -/

theorem points (t : Fin cfg0.N) : t.val < 16 := lt_of_lt_of_eq t.isLt (show cfg0.N = 16 from N_0)

theorem opens_iff : ∀ t : Fin cfg0.N, k0_cond1 (grid0.coords t) = 1#1 ↔ t.val % 4 = 0 :=
  (by decide +kernel : ∀ t : Fin grid0.N, k0_cond1 (grid0.coords t) = 1#1 ↔ t.val % 4 = 0)

theorem closes_iff : ∀ t : Fin cfg0.N, k0_cond2 (grid0.coords t) = 1#1 ↔ t.val % 4 = 3 :=
  (by decide +kernel : ∀ t : Fin grid0.N, k0_cond2 (grid0.coords t) = 1#1 ↔ t.val % 4 = 3)

/-- The normalised tile is stored at the first of the four points only. -/
theorem idle_norm : ∀ t : Fin cfg0.N, cfg0.idle 4 (grid0.coords t) = !decide (t.val % 4 = 0) :=
  (by decide +kernel : ∀ t : Fin grid0.N, cfg0.idle 4 (grid0.coords t) = !decide (t.val % 4 = 0))

/-- The result is stored at the last of the four only. -/
theorem idle_sum : ∀ t : Fin cfg0.N, cfg0.idle 6 (grid0.coords t) = !decide (t.val % 4 = 3) :=
  (by decide +kernel : ∀ t : Fin grid0.N, cfg0.idle 6 (grid0.coords t) = !decide (t.val % 4 = 3))

/-- Before which points the normalised tile's buffer holds nothing of the tile yet: the first of each four. -/
theorem fresh_norm (t : Fin cfg0.N) : cfg0.fresh 4 t.val = decide (t.val % 4 = 0) :=
  Pipeline.Cfg.fresh_tab cfg0 4 (fun n => decide (n % 4 = 0)) rfl (by decide +kernel) t.val (Nat.le_of_lt t.isLt)

/-- The first point of the tile a point belongs to. -/
def opening (t : Fin cfg0.N) : Fin cfg0.N := ⟨t.val / 4 * 4, lt_of_le_of_lt (Nat.div_mul_le_self _ _) t.isLt⟩

theorem opening_self (t : Fin cfg0.N) (h : t.val % 4 = 0) : opening t = t := Fin.ext (by show t.val / 4 * 4 = t.val; omega)

theorem opening_prev (t : Fin cfg0.N) (h : ¬t.val % 4 = 0) : opening ⟨t.val - 1, by omega⟩ = opening t :=
  Fin.ext (by show (t.val - 1) / 4 * 4 = t.val / 4 * 4; omega)

/-! ## What the buffers hold -/

/-- The normalised tile. -/
def normed (c : Dev nD) (t : Fin cfg0.N) : Vec F S1024x1024 .bf16 := k0_pay1 (iblk m c 0 (opening t)) (iblk m c 1 (opening t))

/-- The sum over the tile's hidden blocks up to a point's. -/
def summed (c : Dev nD) : (n : ℕ) → n < cfg0.N → Vec F S1024x1024 .f32
  | 0, h => k0_pay5 (normed m c ⟨0, h⟩) (iblk m c 2 ⟨0, h⟩) k0_pay2 (iblk m c 3 ⟨0, h⟩)
  | n + 1, h => k0_pay5 (normed m c ⟨n + 1, h⟩) (iblk m c 2 ⟨n + 1, h⟩) (if (n + 1) % 4 = 0 then k0_pay2 else summed c n (Nat.lt_of_succ_lt h)) (iblk m c 3 ⟨n + 1, h⟩)

theorem summed_first (c : Dev nD) (t : Fin cfg0.N) (h : t.val % 4 = 0) :
    summed m c t.val t.isLt = k0_pay5 (k0_pay1 (iblk m c 0 t) (iblk m c 1 t)) (iblk m c 2 t) k0_pay2 (iblk m c 3 t) := by
  have e : normed m c t = k0_pay1 (iblk m c 0 t) (iblk m c 1 t) := by unfold normed; rw [opening_self t h]
  rw [← e]
  obtain ⟨n, hn⟩ := t
  cases n with
  | zero => rfl
  | succ n => show k0_pay5 _ _ (if (n + 1) % 4 = 0 then _ else _) _ = _; rw [if_pos h]

theorem summed_next (c : Dev nD) (t : Fin cfg0.N) (h : ¬t.val % 4 = 0) :
    summed m c t.val t.isLt = k0_pay5 (normed m c t) (iblk m c 2 t) (summed m c (t.val - 1) (by omega)) (iblk m c 3 t) := by
  obtain ⟨n, hn⟩ := t
  cases n with
  | zero => exact absurd rfl h
  | succ n => show k0_pay5 _ _ (if (n + 1) % 4 = 0 then _ else _) _ = _; rw [if_neg h]; rfl

/-- The kernel's own buffer, and the pipeline's buffers at a point. -/
abbrev own0 : Memref sig .tc .vmem S1024x1024 .f32 := Memref.whole cc0_scratch0
abbrev buf0 (t : Fin cfg0.N) : Memref sig .tc .vmem S1024x1024 .f32 := win0_0.stage (cfg0.slots t 0)
abbrev buf1 (t : Fin cfg0.N) : Memref sig .tc .vmem S1x1024 .f32 := win0_1.stage (cfg0.slots t 1)
abbrev buf2 (t : Fin cfg0.N) : Memref sig .tc .vmem S1x1024x1024 .bf16 := win0_2.stage (cfg0.slots t 2)
abbrev buf3 (t : Fin cfg0.N) : Memref sig .tc .vmem S1024x1024 .bf16 := win0_3.stage (cfg0.slots t 3)
abbrev buf4 (t : Fin cfg0.N) : Memref sig .tc .vmem S1024x1024 .bf16 := win0_4.stage (cfg0.slots t 4)
abbrev buf5 (t : Fin cfg0.N) : Memref sig .tc .vmem S1024x1024 .bf16 := win0_5.stage (cfg0.slots t 5)
abbrev buf6 (t : Fin cfg0.N) : Memref sig .tc .vmem S1024x1024 .f32 := win0_6.stage (cfg0.slots t 6)

/-- What holds beside the windows before point `n`: the kernel's buffer at the sum so far, or at anything before the first. -/
def beside (c : Dev nD) : (n : ℕ) → n ≤ cfg0.N → sProp 𝕄
  | 0, _ => Pipeline.ΦA spec0 c
  | n + 1, h => iprop(owns (c : Thread nD τ) own0 fullShare (summed m c n h) ∗ (∃ r, prngReg c r))

theorem launch_eq (c : Dev nD) :
    (Pipeline.ΦA spec0 c : sProp 𝕄) = iprop((∃ d, owns (c : Thread nD τ) own0 fullShare d) ∗ (∃ r, prngReg c r)) := by
  unfold Pipeline.ΦA; rw [scopedRest0_eq]; simp only [own0, owns_whole]; try rfl

theorem beside_pos (c : Dev nD) (n : ℕ) (h : n ≤ cfg0.N) (hz : n ≠ 0) :
    beside m c n h = iprop(owns (c : Thread nD τ) own0 fullShare (summed m c (n - 1) (by omega)) ∗ (∃ r, prngReg c r)) := by
  cases n with
  | zero => exact absurd rfl hz
  | succ n => rfl

/-- Whatever the kernel's buffer holds, it holds something. -/
theorem beside_any (c : Dev nD) (n : ℕ) (h : n ≤ cfg0.N) :
    beside m c n h ⊢ iprop((∃ d, owns (c : Thread nD τ) own0 fullShare d) ∗ (∃ r, prngReg c r)) := by
  cases n with
  | zero => show Pipeline.ΦA spec0 c ⊢ _; rw [launch_eq]
  | succ n =>
    show iprop(owns (c : Thread nD τ) own0 fullShare (summed m c n h) ∗ (∃ r, prngReg c r)) ⊢ _
    iintro ⟨H, Hg⟩
    isplitl [H]
    · iexists _; iexact H
    iexact Hg

/-- What every window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => normed m c t
    | ⟨5, _⟩ => k0_pay4 (normed m c t) (iblk m c 2 t)
    | ⟨6, _⟩ => k0_pay6 (iblk m c 0 t) (summed m c t.val t.isLt)
  Φ t := beside m c t.val (Nat.le_of_lt_succ t.isLt)
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = normed m c t := by dsimp only [dats]
theorem after0_5 (c : Dev nD) (t : Fin cfg0.N) : (dats m 0 c).after 5 t = k0_pay4 (normed m c t) (iblk m c 2 t) := by dsimp only [dats]
theorem after0_6 (c : Dev nD) (t : Fin cfg0.N) : (dats m 0 c).after 6 t = k0_pay6 (iblk m c 0 t) (summed m c t.val t.isLt) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

/-- Past a tile's first point the normalised tile is where that point left it. -/
theorem before0_4 (c : Dev nD) (t : Fin cfg0.N) (h : ¬t.val % 4 = 0) (d) : (dats m 0 c).before 4 t d = normed m c t := by
  have step : ∀ t : Fin cfg0.N, ¬t.val % 4 = 0 → (dats m 0 c).after 4 ⟨t.val - 1, by omega⟩ = normed m c t := fun t h => by
    rw [after0_4]; unfold normed; rw [opening_prev t h]
  rw [Dat.before_out_traj _ 4 rfl (fun _ _ => rfl) (fun t _ hi _ => ?_) t.val t rfl d, if_neg (by rw [fresh_norm t, decide_eq_false h]; exact Bool.false_ne_true)]
  · exact step t h
  · have h' : ¬t.val % 4 = 0 := fun e => by rw [idle_norm, decide_eq_true e] at hi; exact absurd hi Bool.false_ne_true
    rw [step t h', after0_4]

/-! ## The body at a point -/

/-- A window the body stores into, or only reads, at a point is left at what is stated of it. -/
theorem left (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- So is one it does not store into at a point where the block is written back. -/
theorem left_flushed (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d)) ∗ (∃ d, owns (c : Thread nD τ) (buf1 t) fullShare ((dats m 0 c).before 1 t d))
    ∗ (∃ d, owns (c : Thread nD τ) (buf2 t) fullShare ((dats m 0 c).before 2 t d)) ∗ (∃ d, owns (c : Thread nD τ) (buf3 t) fullShare ((dats m 0 c).before 3 t d))
    ∗ (∃ d, owns (c : Thread nD τ) (buf4 t) fullShare ((dats m 0 c).before 4 t d)) ∗ (∃ d, owns (c : Thread nD τ) (buf5 t) fullShare ((dats m 0 c).before 5 t d))
    ∗ (∃ d, owns (c : Thread nD τ) (buf6 t) fullShare ((dats m 0 c).before 6 t d)))

def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t ∗ (dats m 0 c).leavesExact 6 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl, show (dats m 0 c).Φ t.castSucc = beside m c t.val (Nat.le_of_lt t.isLt) from rfl,
    show (dats m 0 c).Φ t.succ = iprop(owns (c : Thread nD τ) own0 fullShare (summed m c t.val t.isLt) ∗ (∃ r, prngReg c r)) from rfl,
    left m c 0 t rfl, left m c 1 t rfl, left m c 2 t rfl, left m c 3 t rfl, left m c 5 t rfl, after0_0, after0_1, after0_2, after0_3, after0_5]
  by_cases h0 : t.val % 4 = 0
  · have h3 : ¬t.val % 4 = 3 := by omega
    have e4 : normed m c t = k0_pay1 (iblk m c 0 t) (iblk m c 1 t) := by unfold normed; rw [opening_self t h0]
    rw [left m c 4 t (by rw [idle_norm, decide_eq_true h0]; rfl), after0_4, e4, summed_first m c t h0,
      Dat.leavesExact_idle (dats m 0 c) 6 t ((idle_sum t).trans (by rw [decide_eq_false h3]; rfl)) (Bool.eq_false_iff.mpr fun h => h3 ((flush0_6 t).mp h))]
    iintro ⟨HS, Ho, ⟨%d0, H0⟩, ⟨%d1, H1⟩, ⟨%d2, H2⟩, ⟨%d3, H3⟩, ⟨%d4, H4⟩, ⟨%d5, H5⟩, ⟨%d6, H6⟩⟩
    ihave HS := (beside_any m c t.val (Nat.le_of_lt t.isLt)) $$ HS
    icases HS with ⟨HS, Hg⟩
    iapply (body_first c (grid0.coords t) _ _ _ _ _ _ _ _ _ _ _ _ _ _ _ _ (iblk m c 0 t) (iblk m c 1 t) (iblk m c 2 t) (iblk m c 3 t)
      ((opens_iff t).mpr h0) (fun h => h3 ((closes_iff t).mp h)) _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · rw [beside_pos m c t.val _ (fun e => h0 (by rw [e])), summed_next m c t h0]
    have i4 : cfg0.idle 4 (grid0.coords t) = true := by rw [idle_norm, decide_eq_false h0]; rfl
    by_cases h3 : t.val % 4 = 3
    · rw [left_flushed m c 4 t i4 ((flush0_4 t).mpr h3), after0_4, left m c 6 t (by rw [idle_sum, decide_eq_true h3]; rfl), after0_6, summed_next m c t h0]
      simp only [before0_4 m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply (body_last c (grid0.coords t) _ _ _ _ _ _ _ _ _ _ _ _ _ _ _ _ (iblk m c 0 t) (iblk m c 1 t) (iblk m c 2 t) (iblk m c 3 t)
        (fun h => h0 ((opens_iff t).mp h)) ((closes_iff t).mpr h3) (normed m c t) (summed m c (t.val - 1) (by omega)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, H5, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats m 0 c) 4 t i4 (Bool.eq_false_iff.mpr fun h => h3 ((flush0_4 t).mp h)),
        Dat.leavesExact_idle (dats m 0 c) 6 t ((idle_sum t).trans (by rw [decide_eq_false h3]; rfl)) (Bool.eq_false_iff.mpr fun h => h3 ((flush0_6 t).mp h))]
      simp only [before0_4 m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply (body_middle c (grid0.coords t) _ _ _ _ _ _ _ _ _ _ _ _ _ _ _ _ (iblk m c 0 t) (iblk m c 1 t) (iblk m c 2 t) (iblk m c 3 t)
        (fun h => h0 ((opens_iff t).mp h)) (fun h => h3 ((closes_iff t).mp h)) (normed m c t) _ (summed m c (t.val - 1) (by omega)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      iintro ⟨H0, H1, H2, H3, H4, H5, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexists d4; iexact H4
      isplitl [H5]; · iexact H5
      iexists _; iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [launch_eq, show (dats m 0 c).Φ (Fin.last cfg0.N) = beside m c cfg0.N (Nat.le_refl _) from rfl]; exact beside_any m c _ _

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The program ends with its arguments as they were and nothing outstanding. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Kernel19Ideal.Result

end
-- ==== Proof.MlpFwdValue.lean ====
/-
  The MLP's forward call, element by element over the extended reals: its three results are the normed input, the rectified
  products of it with the up-projection, and the input plus the squares of those times the down-projection.  The call adds the
  last product up over four blocks of hidden units; the reference takes it at once.
-/
module

public import proofs.«01_k».proof.Defs
public import proofs.«01_k».proof.Proof.Shared
public import proofs.«01_k».proof.Proof.MlpAlgebra
public import proofs.«01_k».proof.Proof.MlpFwdRun
public import proofs.«01_k».proof.Proof.Gen.Kernel19
public import proofs.«01_k».proof.Proof.Gen.Reference19Ideal.Read
public import Idealize.ShloMosaic.Lib.ValueIdx
public import Idealize.ShloMosaic.Lib.Pipeline.ValueKit
public import Idealize.ShloMosaic.Lib.StableHlo.RunRead
public import Idealize.ShloMosaic.Lib.KernelVsHost

@[expose] public section

set_option maxRecDepth 16384

noncomputable section

open Idealize.ShloMosaic hiding ix1 ix2 ix3 eq_ix1 eq_ix2 eq_ix3
open Idealize.ShloMosaic.TcCoe Idealize.ShloMosaic.ValueIdx Idealize.SL.Sem

namespace Cert.Kernel19Ideal.Result

open Cert.Kernel19Ideal Cert.Kernel19Ideal.Gen Cert.Shared Cert.Reference19Ideal.Read Cert.KernelIdeal.Algebra

variable (m : (ℓ : Loc nD τ sig) → Buf (Elt Ideal) ℓ) (c : Dev nD)

/-- The residual stream, the norm's weight and the two projections. -/
abbrev x : S4096x1024.Idx → EReal := m ((c : Thread nD τ).loc main_arg0)
abbrev g : S1024.Idx → EReal := m ((c : Thread nD τ).loc main_arg1)
abbrev wup : S1024x4096.Idx → EReal := m ((c : Thread nD τ).loc main_arg2)
abbrev wdown : S4096x1024.Idx → EReal := m ((c : Thread nD τ).loc main_arg3)

/-! ## What the results are to be -/

/-- Row `i`'s reciprocal root, the normed input, the rectified product, and the part of the output that one block adds. -/
def rroot (i : Fin 4096) : EReal :=
  Ideal.rsqrt (msq (fun k : Fin 1024 => x m c (ix2 i k)) (Ideal.ofBits .f32 0x44800000#32) (Ideal.ofBits .f32 0x358637BD#32))

def nx (i : Fin 4096) (b : Fin 1024) : EReal := x m c (ix2 i b) * rroot m c i * g m c (ix1 b)

def act (i j : Fin 4096) : EReal := max (∑ k : Fin 1024, nx m c i k * wup m c (ix2 k j)) 0

def part (i : Fin 4096) (b : Fin 1024) (s : Fin 4) : EReal :=
  ∑ j : Fin 1024, act m c i ⟨1024 * s.val + j.val, by omega⟩ * act m c i ⟨1024 * s.val + j.val, by omega⟩
    * wdown m c (ix2 ⟨1024 * s.val + j.val, by omega⟩ b)

def out (i : Fin 4096) (b : Fin 1024) : EReal := x m c (ix2 i b) + ∑ j : Fin 4096, act m c i j * act m c i j * wdown m c (ix2 j b)

theorem out_parts (i : Fin 4096) (b : Fin 1024) : x m c (ix2 i b) + ∑ s : Fin 4, part m c i b s = out m c i b :=
  congrArg (x m c (ix2 i b) + ·)
    (sum_blocks (p := 4) (q := 1024) rfl (fun j => act m c i j * act m c i j * wdown m c (ix2 j b)) fun s j => by omega)

/-! ## The windows' blocks -/

theorem V_wup (b : Fin 4) (k j : Fin 1024) : (V m c main_v2 : S4x1024x1024.Idx → EReal) (ix3 b k j)
    = wup m c (ix2 k ⟨1024 * b.val + j.val, by omega⟩) := by
  unfold V hostOps0
  after_reads_simp
  show transpose S4x1024x1024 [1, 0, 2] (shapeCast S1024x4x1024 (wup m c) shapeCasts_S1024x4096_S1024x4x1024)
    transposes_S1024x4x1024_S4x1024x1024_1_0_2 (ix3 b k j) = _
  refine (transpose_apply [1, 0, 2] _ transposes_S1024x4x1024_S4x1024x1024_1_0_2 (ix3 b k j) (ix3 k b j) (fun a => match a with
    | ⟨0, _⟩ => rfl | ⟨1, _⟩ => rfl | ⟨2, _⟩ => rfl)).trans ?_
  refine shapeCast_apply (wup m c) shapeCasts_S1024x4096_S1024x4x1024 (ix3 k b j) _ ?_
  rewrite [Shape.rowMajor_val_two, Shape.rowMajor_val_three]
  show k.val * 4096 + (1024 * b.val + j.val) = (k.val * 4 + b.val) * 1024 + j.val
  omega

theorem V_g (k : Fin 1024) : (V m c main_v3 : S1x1024.Idx → EReal) (ix2 0 k) = g m c (ix1 k) := by
  unfold V hostOps0
  after_reads_simp
  exact broadcastInDim_apply _ bcast_S1024_S1x1024_1 (g m c) (ix2 0 k) (ix1 k) (fun a => match a with
    | ⟨0, _⟩ => by show k.val = if (1024 : Nat) = 1 then 0 else k.val; rw [if_neg (by decide)])

theorem V_wdown (i : S4096x1024.Idx) : (V m c main_v4 : S4096x1024.Idx → EReal) i = wdown m c i := by
  unfold V hostOps0
  after_reads_simp
  rfl

/-- Row `a` of the tile that point `t` works on, and hidden unit `j` of its block. -/
abbrev row (t : Fin cfg0.N) (a : Fin 1024) : Fin 4096 := ⟨1024 * (t.val / 4) + a.val, by have := points t; omega⟩
abbrev unit (t : Fin cfg0.N) (j : Fin 1024) : Fin 4096 := ⟨1024 * (t.val % 4) + j.val, by omega⟩

theorem row_opening (t : Fin cfg0.N) (a : Fin 1024) : row (opening t) a = row t a :=
  Fin.ext (by show 1024 * (t.val / 4 * 4 / 4) + a.val = 1024 * (t.val / 4) + a.val; omega)

theorem idx_0 : ∀ t : Fin grid0.N, (win0_0.index t 0 = t.val / 4) ∧ (win0_0.index t 1 = 0) := by decide +kernel
theorem idx_1 : ∀ t : Fin grid0.N, (win0_1.index t 0 = 0) ∧ (win0_1.index t 1 = 0) := by decide +kernel
theorem idx_2 : ∀ t : Fin grid0.N, (win0_2.index t 0 = t.val % 4) ∧ (win0_2.index t 1 = 0) ∧ (win0_2.index t 2 = 0) := by decide +kernel
theorem idx_3 : ∀ t : Fin grid0.N, (win0_3.index t 0 = t.val % 4) ∧ (win0_3.index t 1 = 0) := by decide +kernel
theorem idx_4 : ∀ t : Fin grid0.N, (win0_4.index t 0 = t.val / 4) ∧ (win0_4.index t 1 = 0) := by decide +kernel
theorem idx_5 : ∀ t : Fin grid0.N, (win0_5.index t 0 = t.val / 4) ∧ (win0_5.index t 1 = t.val % 4) := by decide +kernel
theorem idx_6 : ∀ t : Fin grid0.N, (win0_6.index t 0 = t.val / 4) ∧ (win0_6.index t 1 = 0) := by decide +kernel

theorem iblk_x (t : Fin cfg0.N) (a b : Fin 1024) : (iblk m c 0 t : S1024x1024.Idx → EReal) (ix2 a b) = x m c (ix2 (row t a) b) := by
  unfold iblk
  rw [View.read_apply]
  refine Eq.trans (congrArg (V m c main_arg0 : S4096x1024.Idx → EReal) (funext fun d => Fin.ext ?_)) (congrFun (V_main_arg0 m c) _)
  match d with
  | ⟨0, _⟩ => show win0_0.index t 0 * 1024 + 1 * a.val = 1024 * (t.val / 4) + a.val; rw [(idx_0 t).1]; omega
  | ⟨1, _⟩ => show win0_0.index t 1 * 1024 + 1 * b.val = b.val; rw [(idx_0 t).2]; omega

theorem iblk_g (t : Fin cfg0.N) (b : Fin 1024) : (iblk m c 1 t : S1x1024.Idx → EReal) (ix2 0 b) = g m c (ix1 b) := by
  unfold iblk
  rw [View.read_apply]
  refine Eq.trans (congrArg (V m c main_v3 : S1x1024.Idx → EReal) (funext fun d => Fin.ext ?_)) (V_g m c b)
  match d with
  | ⟨0, _⟩ => show win0_1.index t 0 * 1 + 1 * 0 = 0; rw [(idx_1 t).1]
  | ⟨1, _⟩ => show win0_1.index t 1 * 1024 + 1 * b.val = b.val; rw [(idx_1 t).2]; omega

theorem iblk_wup (t : Fin cfg0.N) (k j : Fin 1024) : (iblk m c 2 t : S1x1024x1024.Idx → EReal) (ix3 0 k j) = wup m c (ix2 k (unit t j)) := by
  unfold iblk
  rw [View.read_apply]
  refine Eq.trans (congrArg (V m c main_v2 : S4x1024x1024.Idx → EReal) (funext fun d => Fin.ext ?_)) (V_wup m c ⟨t.val % 4, by omega⟩ k j)
  match d with
  | ⟨0, _⟩ => show win0_2.index t 0 * 1 + 1 * 0 = t.val % 4; rw [(idx_2 t).1]; omega
  | ⟨1, _⟩ => show win0_2.index t 1 * 1024 + 1 * k.val = k.val; rw [(idx_2 t).2.1]; omega
  | ⟨2, _⟩ => show win0_2.index t 2 * 1024 + 1 * j.val = j.val; rw [(idx_2 t).2.2]; omega

theorem iblk_wdown (t : Fin cfg0.N) (j b : Fin 1024) : (iblk m c 3 t : S1024x1024.Idx → EReal) (ix2 j b) = wdown m c (ix2 (unit t j) b) := by
  unfold iblk
  rw [View.read_apply]
  refine Eq.trans (congrArg (V m c main_v4 : S4096x1024.Idx → EReal) (funext fun d => Fin.ext ?_)) (V_wdown m c _)
  match d with
  | ⟨0, _⟩ => show win0_3.index t 0 * 1024 + 1 * j.val = 1024 * (t.val % 4) + j.val; rw [(idx_3 t).1]; omega
  | ⟨1, _⟩ => show win0_3.index t 1 * 1024 + 1 * b.val = b.val; rw [(idx_3 t).2]; omega

/-! ## One point's values -/

theorem rowSum (u : FVec Ideal S1024x1024 .f32) (a : Fin 1024) :
    (multiReduction .add [1] S1024 u 0x00000000#32 reduces_S1024x1024_S1024 (.inl rfl) rfl (ix1 a) : EReal)
      = ∑ k : Fin 1024, (u (ix2 a k) : EReal) := by
  refine (Ideal.multiReduction_add_single u 0x00000000#32 reduces_S1024x1024_S1024 (.inl rfl) rfl (ix1 a)).trans ?_
  exact Finset.sum_congr rfl fun k _ => congrArg u (funext fun e => Fin.ext (by match e with | ⟨0, _⟩ => rfl | ⟨1, _⟩ => rfl))

theorem asCol (u : FVec Ideal S1024 .f32) (a : Fin 1024) : (shapeCast S1024x1 u shapeCasts_S1024_S1024x1 (ix2 a 0) : EReal) = u (ix1 a) :=
  shapeCast_apply _ shapeCasts_S1024_S1024x1 (ix2 a 0) (ix1 a) (by
    rewrite [Shape.rowMajor_val_one, Shape.rowMajor_val_two]
    show a.val = a.val * 1 + 0
    omega)

theorem spreadCol (u : FVec Ideal S1024x1 .f32) (a b : Fin 1024) :
    broadcastTo S1024x1024 u broadcasts_S1024x1_S1024x1024 (ix2 a b) = u (ix2 a 0) :=
  broadcastTo_apply u broadcasts_S1024x1_S1024x1024 (ix2 a b) (ix2 a 0) (fun d => match d with
    | ⟨0, _⟩ => by show a.val = if (1024 : Nat) = 1 then 0 else a.val; rw [if_neg (by decide)]
    | ⟨1, _⟩ => by show 0 = if (1 : Nat) = 1 then 0 else b.val; rw [if_pos rfl])

theorem spreadRow (u : FVec Ideal S1x1024 .f32) (a b : Fin 1024) :
    broadcastTo S1024x1024 u broadcasts_S1x1024_S1024x1024 (ix2 a b) = u (ix2 0 b) :=
  broadcastTo_apply u broadcasts_S1x1024_S1024x1024 (ix2 a b) (ix2 0 b) (fun d => match d with
    | ⟨0, _⟩ => by show 0 = if (1 : Nat) = 1 then 0 else a.val; rw [if_pos rfl]
    | ⟨1, _⟩ => by show b.val = if (1024 : Nat) = 1 then 0 else b.val; rw [if_neg (by decide)])

/-- The reciprocal root of a row's mean square. -/
def root (u : S1024x1024.Idx → EReal) (a : Fin 1024) : EReal :=
  Ideal.rsqrt (msq (fun k : Fin 1024 => u (ix2 a k)) (Ideal.ofBits .f32 0x44800000#32) (Ideal.ofBits .f32 0x358637BD#32))

theorem pay1_apply (v : Vec Ideal S1024x1024 .f32) (w : Vec Ideal S1x1024 .f32) (a b : Fin 1024) :
    (k0_pay1 v w (ix2 a b) : EReal) = v (ix2 a b) * root v a * w (ix2 0 b) := by
  unfold k0_pay1
  simp only [shapeCast_self]
  refine congrArg₂ (fun p q : EReal => (v (ix2 a b) : EReal) * p * q) ((spreadCol _ a b).trans ?_) (spreadRow w a b)
  exact congrArg (fun s => Ideal.rsqrt (Ideal.div s _ + _)) ((asCol _ a).trans (rowSum (mulf v v) a))

/-- A product of two tiles. -/
theorem tiles (u v : FVec Ideal S1024x1024 .bf16) (a b : Fin 1024) :
    (matmul dot_S1024x1024_S1024x1024_S1024x1024_1_0_0_1_n_n none u v (constant S1024x1024 .f32 0x00000000#32) (ix2 a b) : EReal)
      = ∑ k : Fin 1024, (u (ix2 a k) : EReal) * v (ix2 k b) :=
  nn_apply (φ := .bf16) (ψ := .bf16) dot_S1024x1024_S1024x1024_S1024x1024_1_0_0_1_n_n rfl rfl (fun _ _ => rfl)
    (fun j k => dot_S1024x1024_S1024x1024_S1024x1024_1_0_0_1_n_n.lhsIdx_val_of_single rfl j k)
    (fun j k => dot_S1024x1024_S1024x1024_S1024x1024_1_0_0_1_n_n.rhsIdx_val_of_single rfl j k) (fun _ _ => rfl) u v a b

theorem slab (u : Vec Ideal S1x1024x1024 .bf16) (k j : Fin 1024) :
    (shapeCast S1024x1024 u shapeCasts_S1x1024x1024_S1024x1024 (ix2 k j) : EReal) = u (ix3 0 k j) :=
  shapeCast_apply _ shapeCasts_S1x1024x1024_S1024x1024 (ix2 k j) (ix3 0 k j) (by
    rewrite [Shape.rowMajor_val_three, Shape.rowMajor_val_two]
    show (0 * 1024 + k.val) * 1024 + j.val = k.val * 1024 + j.val
    omega)

theorem pay3_apply (u : Vec Ideal S1024x1024 .bf16) (w : Vec Ideal S1x1024x1024 .bf16) (a j : Fin 1024) :
    (k0_pay3 u w (ix2 a j) : EReal) = max (∑ k : Fin 1024, (u (ix2 a k) : EReal) * w (ix3 0 k j)) 0 := by
  unfold k0_pay3
  simp only [shapeCast_self]
  refine congrArg₂ (max : EReal → EReal → EReal) ((tiles _ _ a j).trans ?_) Ideal.ofBits_zero_f32
  exact Finset.sum_congr rfl fun k _ => congrArg (fun s : EReal => (u (ix2 a k) : EReal) * s) (slab w k j)

theorem pay5_apply (u : Vec Ideal S1024x1024 .bf16) (w : Vec Ideal S1x1024x1024 .bf16) (s : Vec Ideal S1024x1024 .f32)
    (d : Vec Ideal S1024x1024 .bf16) (a b : Fin 1024) :
    (k0_pay5 u w s d (ix2 a b) : EReal) = s (ix2 a b) + ∑ j : Fin 1024, (k0_pay3 u w (ix2 a j) : EReal) * k0_pay3 u w (ix2 a j) * d (ix2 j b) := by
  unfold k0_pay5
  simp only [shapeCast_self]
  exact congrArg (fun r : EReal => (s (ix2 a b) : EReal) + r) (tiles _ _ a b)

theorem pay2_apply (a b : Fin 1024) : (k0_pay2 (F := Ideal) (ix2 a b) : EReal) = 0 := by
  unfold k0_pay2
  simp only [shapeCast_self]
  exact Ideal.ofBits_zero_f32

theorem normed_at (t : Fin cfg0.N) (a b : Fin 1024) : (normed m c t (ix2 a b) : EReal) = nx m c (row t a) b := by
  unfold normed
  refine (pay1_apply _ _ a b).trans ?_
  unfold root nx rroot
  simp only [iblk_x, iblk_g, row_opening]

theorem act_at (t : Fin cfg0.N) (a j : Fin 1024) : (k0_pay3 (normed m c t) (iblk m c 2 t) (ix2 a j) : EReal) = act m c (row t a) (unit t j) := by
  refine (pay3_apply _ _ a j).trans ?_
  unfold act
  simp only [normed_at, iblk_wup]

/-- What a point adds to the sum it finds. -/
theorem step_at (t : Fin cfg0.N) (s : Vec Ideal S1024x1024 .f32) (a b : Fin 1024) :
    (k0_pay5 (normed m c t) (iblk m c 2 t) s (iblk m c 3 t) (ix2 a b) : EReal)
      = s (ix2 a b) + part m c (row t a) b ⟨t.val % 4, by omega⟩ := by
  refine (pay5_apply _ _ _ _ a b).trans ?_
  unfold part
  simp only [act_at, iblk_wdown]

/-- The sum after a point: the parts of the blocks up to its own. -/
theorem sum_first (t : Fin cfg0.N) (h : t.val % 4 = 0) (a b : Fin 1024) :
    (summed m c t.val t.isLt (ix2 a b) : EReal) = part m c (row t a) b 0 := by
  have e : summed m c t.val t.isLt = k0_pay5 (normed m c t) (iblk m c 2 t) (k0_pay2 (F := Ideal)) (iblk m c 3 t) := by
    rw [summed_first m c t h]; unfold normed; rw [opening_self t h]
  rw [e]
  refine (step_at m c t _ a b).trans ?_
  rw [pay2_apply, zero_add]
  exact congrArg (part m c (row t a) b) (Fin.ext h)

theorem sum_next (t : Fin cfg0.N) (h : ¬t.val % 4 = 0) (a b : Fin 1024) :
    (summed m c t.val t.isLt (ix2 a b) : EReal)
      = (summed m c (t.val - 1) (by omega) (ix2 a b) : EReal) + part m c (row t a) b ⟨t.val % 4, by omega⟩ := by
  rw [summed_next m c t h]
  exact step_at m c t _ a b

theorem sum_last (t : Fin cfg0.N) (h : t.val % 4 = 3) (a b : Fin 1024) :
    (summed m c t.val t.isLt (ix2 a b) : EReal) = ∑ s : Fin 4, part m c (row t a) b s := by
  have hr (d : ℕ) (hd : d ≤ 3) (hl : t.val - d < cfg0.N) : row ⟨t.val - d, hl⟩ a = row t a :=
    Fin.ext (by show 1024 * ((t.val - d) / 4) + a.val = 1024 * (t.val / 4) + a.val; omega)
  have e3 := sum_next m c t (by omega) a b
  have e2 := sum_next m c ⟨t.val - 1, by omega⟩ (by show ¬(t.val - 1) % 4 = 0; omega) a b
  have e1 := sum_next m c ⟨t.val - 2, by omega⟩ (by show ¬(t.val - 2) % 4 = 0; omega) a b
  have e0 := sum_first m c ⟨t.val - 3, by omega⟩ (by show (t.val - 3) % 4 = 0; omega) a b
  rw [hr 3 (by omega)] at e0
  rw [hr 2 (by omega)] at e1
  rw [hr 1 (by omega)] at e2
  rw [Fin.sum_univ_four]
  refine e3.trans (congrArg₂ (fun p q : EReal => p + q) (e2.trans (congrArg₂ (fun p q : EReal => p + q) (e1.trans (congrArg₂ (fun p q : EReal => p + q) e0 ?_)) ?_)) ?_)
  · exact congrArg (part m c (row t a) b) (Fin.ext (by show (t.val - 2) % 4 = 1; omega))
  · exact congrArg (part m c (row t a) b) (Fin.ext (by show (t.val - 1) % 4 = 2; omega))
  · exact congrArg (part m c (row t a) b) (Fin.ext h)

/-! ## The three results -/

/-- The normed input. -/
theorem arr_norm : ((dats m 0 c).arrAt 4 cfg0.N : S4096x1024.Idx → EReal) = fun i => nx m c (i 0) (i 1) := by
  refine (dats m 0 c).arrAt_eq_of_covers 4 _ (by decide +kernel) fun t hf y => ?_
  blk_simp
  rw [after0_4]
  obtain ⟨a, b, rfl⟩ : ∃ a b : Fin 1024, y = ix2 a b := ⟨_, _, eq_ix2 (n0 := 1024) (n1 := 1024) y⟩
  refine (normed_at m c t a b).trans (congrArg₂ (nx m c) (Fin.ext ?_) (Fin.ext ?_))
  · show 1024 * (t.val / 4) + a.val = win0_4.index t 0 * 1024 + 1 * a.val; rw [(idx_4 t).1]; omega
  · show b.val = win0_4.index t 1 * 1024 + 1 * b.val; rw [(idx_4 t).2]; omega

/-- The rectified products. -/
theorem arr_act : ((dats m 0 c).arrAt 5 cfg0.N : S4096x4096.Idx → EReal) = fun i => act m c (i 0) (i 1) := by
  refine (dats m 0 c).arrAt_eq_of_covers 5 _ (by decide +kernel) fun t hf y => ?_
  blk_simp
  rw [after0_5]
  obtain ⟨a, j, rfl⟩ : ∃ a b : Fin 1024, y = ix2 a b := ⟨_, _, eq_ix2 (n0 := 1024) (n1 := 1024) y⟩
  refine (act_at m c t a j).trans (congrArg₂ (act m c) (Fin.ext ?_) (Fin.ext ?_))
  · show 1024 * (t.val / 4) + a.val = win0_5.index t 0 * 1024 + 1 * a.val; rw [(idx_5 t).1]; omega
  · show 1024 * (t.val % 4) + j.val = win0_5.index t 1 * 1024 + 1 * j.val; rw [(idx_5 t).2]; omega

/-- The output. -/
theorem arr_out : ((dats m 0 c).arrAt 6 cfg0.N : S4096x1024.Idx → EReal) = fun i => out m c (i 0) (i 1) := by
  refine (dats m 0 c).arrAt_eq_of_covers 6 _ (by decide +kernel) fun t hf y => ?_
  have h3 : t.val % 4 = 3 := (flush0_6 t).mp hf
  blk_simp
  rw [after0_6]
  obtain ⟨a, b, rfl⟩ : ∃ a b : Fin 1024, y = ix2 a b := ⟨_, _, eq_ix2 (n0 := 1024) (n1 := 1024) y⟩
  refine (congrArg₂ (fun p q : EReal => p + q) (iblk_x m c t a b) (sum_last m c t h3 a b)).trans
    ((out_parts m c (row t a) b).trans (congrArg₂ (out m c) (Fin.ext ?_) (Fin.ext ?_)))
  · show 1024 * (t.val / 4) + a.val = win0_6.index t 0 * 1024 + 1 * a.val; rw [(idx_6 t).1]; omega
  · show b.val = win0_6.index t 1 * 1024 + 1 * b.val; rw [(idx_6 t).2]; omega

/-! ## The reference -/

theorem ms_eq (i : Fin 4096) : (val_main_v6 (F := Ideal) (x m c) (ix2 i 0) : EReal)
    = msq (fun k : Fin 1024 => x m c (ix2 i k)) (Ideal.ofBits .f32 0x44800000#32) (Ideal.ofBits .f32 0x358637BD#32) := by
  rw [val_main_v6_apply, val_main_v4_apply, val_main_v2_apply, val_main_v1_apply]
  show Ideal.div (Ideal.ofBits .f32 0x00000000#32 + _) _ + _ = _
  rw [Ideal.ofBits_zero_f32, zero_add]
  refine congrArg (fun s : EReal => Ideal.div s _ + _) (Finset.sum_congr rfl fun k _ => ?_)
  rw [val_main_v0_apply, show idx_main_v1 (idx_main_v2 (ix2 i 0)) k = ix2 i k from eq_ix2 _]
  rfl

theorem nx_eq (i : Fin 4096) (b : Fin 1024) : (val_main_v12 (F := Ideal) (x m c) (g m c) (ix2 i b) : EReal) = nx m c i b := by
  rw [val_main_v12_apply, val_main_v9_apply, val_main_v8_apply, val_main_v11_apply, val_main_v10_apply, val_main_v7_apply,
    show idx_main_v8 (ix2 i b) = ix2 i 0 from eq_ix2 _, show idx_main_v10 (idx_main_v11 (ix2 i b)) = ix1 b from eq_ix1 _]
  exact congrArg (fun s : EReal => x m c (ix2 i b) * Ideal.rsqrt s * g m c (ix1 b)) (ms_eq m c i)

theorem act_eq (i j : Fin 4096) : (val_main_v14 (F := Ideal) (x m c) (g m c) (wup m c) (ix2 i j) : EReal) = act m c i j := by
  rw [val_main_v14_apply, val_main_call0_v0_apply, val_main_call0_cst_apply, val_main_v13_apply]
  refine congrArg₂ (max : EReal → EReal → EReal) (Finset.sum_congr rfl fun k _ => ?_) Ideal.ofBits_zero_f32
  rw [show lidx_main_v13 (ix2 i j) k = ix2 i k from eq_ix2 _, show ridx_main_v13 (ix2 i j) k = ix2 k j from eq_ix2 _, nx_eq]

theorem out_eq (i : Fin 4096) (b : Fin 1024) :
    (val_main_v19 (F := Ideal) (x m c) (g m c) (wup m c) (wdown m c) (ix2 i b) : EReal) = out m c i b := by
  rw [val_main_v19_apply, val_main_v18_apply]
  refine congrArg (fun s : EReal => x m c (ix2 i b) + s) (Finset.sum_congr rfl fun j _ => ?_)
  rw [show lidx_main_v18 (ix2 i b) j = ix2 i j from eq_ix2 _, show ridx_main_v18 (ix2 i b) j = ix2 j b from eq_ix2 _,
    val_main_v17_apply, act_eq]
  rfl

/-- The call's run: its three results hold these, its arguments what they held. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v5_0) = (dats m 0 c).arrAt 4 cfg0.N
      ∧ r.2.mem ((c.tc : Thread nD τ).loc main_v5_1) = (dats m 0 c).arrAt 5 cfg0.N
      ∧ r.2.mem ((c.tc : Thread nD τ).loc main_v5_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 4, (h.1 c).1 5, (h.1 c).1 6, h.2.1 c⟩) (θ_run_and (run_main m ρ) (unchanged m ρ))

end Cert.Kernel19Ideal.Result

namespace Cert.Proof

open Cert.Kernel19.Gen Cert.Kernel19Ideal.Gen Cert.Kernel19Ideal.Result Cert.Reference19Ideal.Read Cert.Shared

/-- The printed call's bodies are those of its print over the reals. -/
theorem same_bodies : Cert.Kernel19.defs₀ (F := Bits) = Cert.Kernel19Ideal.defs₀ (F := Bits) :=
  congrArg Defs.onTc (funext fun l => funext fun a => by
    match l, a with
    | ⟨0, _⟩, a => rfl
    | ⟨_ + 1, h⟩, _ => exact absurd h (Nat.not_lt.2 (Nat.le_add_left _ _)))

theorem same_table : Cert.Kernel19.defs (F := Bits) = Cert.Kernel19Ideal.defs (F := Bits) :=
  congrArg (Pipeline.defs Cert.Kernel19Ideal.pcfgs) same_bodies

/-- Both frames of the call come from the one run. -/
theorem frame_kernel19 : Cert.quiescent_Kernel19 := fun m ρ _ => by
  rw [same_table]
  exact unchanged (F := Bits) m ρ

theorem frame_kernel19Ideal : Cert.quiescent_Kernel19Ideal := fun m ρ _ => unchanged (F := Ideal) m ρ

theorem frame_reference19 : Cert.quiescent_Reference19Ideal := fun m ρ _ =>
  (θ_run Cert.Reference19Ideal.defs _ _).mono (fun r h => ⟨fun c => (h c).2.2.2,
      Idealize.ShloMosaic.sem_eq_zero_of_no_sems (by decide) r.2⟩)
    (Cert.Reference19Ideal.Value.run (F := Ideal) m ρ)

/-- The two programs, run on memories that hold the same arguments, leave the same three results. -/
theorem algebraic_mlp_fwd : Cert.algebraic_Kernel19Ideal_Reference19Ideal := by
  intro m ρ m' ρ' _ hagree
  refine ⟨fun c => val_main_v15 (F := Ideal) (x m c) (g m c), fun c => val_main_v16 (F := Ideal) (x m c) (g m c) (wup m c),
    fun c => val_main_v19 (F := Ideal) (x m c) (g m c) (wup m c) (wdown m c), ?_, ?_⟩
  · refine (θ_run Cert.Kernel19Ideal.defs _ _).mono (fun r h c => ?_) (run_values m ρ)
    obtain ⟨h0, h1, h2, ha⟩ := h c
    exact ⟨h0.trans (ext2 _ _ fun i b => (congrFun (arr_norm m c) (ix2 i b)).trans (nx_eq m c i b).symm),
      h1.trans (ext2 _ _ fun i j => (congrFun (arr_act m c) (ix2 i j)).trans (act_eq m c i j).symm),
      h2.trans (ext2 _ _ fun i b => (congrFun (arr_out m c) (ix2 i b)).trans (out_eq m c i b).symm), ha⟩
  · refine (θ_run Cert.Reference19Ideal.defs _ _).mono (fun r h c => ?_) (Cert.Reference19Ideal.Value.run (F := Ideal) m' ρ')
    obtain ⟨h0, h1, h2, ha⟩ := h c
    obtain ⟨a0, a1, a2, a3⟩ := hagree c
    refine ⟨(h0.trans (val_main_v15_eq ..)).trans ?_, (h1.trans (val_main_v16_eq ..)).trans ?_, (h2.trans (val_main_v19_eq ..)).trans ?_, ha⟩
    · rw [a0, a1]
    · rw [a0, a1, a2]
    · rw [a0, a1, a2, a3]

end Cert.Proof

end
-- ==== Proof.PrepPoint.lean ====
/-
  The convolution and gates: what one point's body leaves in its five blocks.

    past, load        the scratch (eight rows of the block before, then the point's rows), and a load from it;
    cols, read_cols   four stores side by side, read back;
    point_…           the five blocks, in the body's own values.
-/
module

public import proofs.«01_k».proof.Proof.Gen.Kernel20Ideal.Value
public import Idealize.ShloMosaic.Lib.ValueIdx
public import Idealize.ShloMosaic.Lib.WritesUnit
public import Idealize.ShloMosaic.Lib.Pipeline.ReadBack

@[expose] public section

set_option maxRecDepth 16384

noncomputable section

open Idealize.ShloMosaic Idealize.ShloMosaic.TcCoe Idealize.ShloMosaic.ValueIdx Idealize.SL.Sem

namespace Cert.Kernel20Ideal.Point

open Cert.Kernel20Ideal Cert.Kernel20Ideal.Gen Cert.Kernel20Ideal.Value

theorem hz : (![0, 0] : Fin 2 → Nat) = fun _ => 0 := funext fun a => by fin_cases a <;> rfl

section Stores

variable {F : FTy → Type} [FloatOps F]

/-- A row of the scratch: one of the eight rows before the block, or one of the block's. -/
def past (p : Vec F S8x1536 .f32) (x : Vec F S512x1536 .f32) (r : ℕ) (hr : r < 520) (b : Fin 1536) : F .f32 :=
  if h : r < 8 then p (ix2 ⟨r, h⟩ b) else x (ix2 ⟨r - 8, by omega⟩ b)

/-- The scratch's two stores. -/
abbrev pieces (p : Vec F S8x1536 .f32) (x : Vec F S512x1536 .f32) : List (View.Piece (Elt F) S520x1536 .f32) :=
  [⟨Rect.unit ![8, 0] S512x1536.size inb_S520x1536_S512x1536_8_0, x⟩, ⟨Rect.unit ![0, 0] S8x1536.size inb_S520x1536_S8x1536_0_0, p⟩]

theorem load {sig : RefSig} {κ : Kind} {sp : Space} (w : View sig κ sp S520x1536 .f32) (p : Vec F S8x1536 .f32) (x : Vec F S512x1536 .f32)
    (j : ℕ) (inb : ∀ a, (![j, 0] : Fin 2 → ℕ) a + S512x1536.size a ≤ S520x1536.size a) (hj : j ≤ 8) (a : Fin 512) (b : Fin 1536) :
    w.readCov (pieces p x) (Rect.unit (s := S520x1536) ![j, 0] S512x1536.size inb).toLoadRect (ix2 a b) = past p x (j + a.val) (by omega) b := by
  have e : (Rect.unit (s := S520x1536) ![j, 0] S512x1536.size inb).toLoadRect.idx (ix2 a b)
      = ix2 (n0 := 520) (n1 := 1536) ⟨j + a.val, by omega⟩ b := funext fun d => Fin.ext (by
    match d with
    | ⟨0, _⟩ => show j + 1 * a.val = j + a.val; omega
    | ⟨1, _⟩ => show 0 + 1 * b.val = b.val; omega)
  rw [View.readCov_eq_canon']
  show View.canon (pieces p x) ((Rect.unit (s := S520x1536) ![j, 0] S512x1536.size inb).toLoadRect.idx (ix2 a b)) = _
  rw [e, ← View.read_writes_junk_apply_eq_canon w]
  unfold past
  split
  · next h =>
    refine (View.read_writes_cons_unit_of_not_mem _ _ _ _ _ _ rfl 0 (show j + a.val < 8 ∨ 8 + 512 ≤ j + a.val by omega)).trans ?_
    refine View.read_writes_cons_unit_of_mem w _ inb_S520x1536_S8x1536_0_0 p _ _ (ix2 ⟨j + a.val, h⟩ b) rfl fun d => ?_
    match d with
    | ⟨0, _⟩ => exact (Nat.zero_add _).symm
    | ⟨1, _⟩ => exact (Nat.zero_add _).symm
  · next h =>
    refine View.read_writes_cons_unit_of_mem w _ inb_S520x1536_S512x1536_8_0 x _ _ (ix2 ⟨j + a.val - 8, by omega⟩ b) rfl fun d => ?_
    match d with
    | ⟨0, _⟩ => show j + a.val = 8 + (j + a.val - 8); omega
    | ⟨1, _⟩ => exact (Nat.zero_add _).symm

/-- Four blocks of columns side by side. -/
def cols (p0 p1 p2 p3 : Vec F S512x128 .f32) (a : Fin 512) (b : Fin 512) : F .f32 :=
  if h3 : 384 ≤ b.val then p3 (ix2 a ⟨b.val - 384, by omega⟩)
  else if h2 : 256 ≤ b.val then p2 (ix2 a ⟨b.val - 256, by omega⟩)
  else if h1 : 128 ≤ b.val then p1 (ix2 a ⟨b.val - 128, by omega⟩)
  else p0 (ix2 a ⟨b.val, by omega⟩)

theorem read_cols {sig : RefSig} {κ : Kind} {sp : Space} (w : View sig κ sp S512x512 .f32) (f : w.ty.Contents (Elt F))
    (p0 p1 p2 p3 : Vec F S512x128 .f32) (a : Fin 512) (b : Fin 512) :
    w.read (Elt F) (w.writes (Elt F) f [⟨Rect.unit ![0, 384] ![512, 128] inb_S512x512_S512x128_0_384, p3⟩,
      ⟨Rect.unit ![0, 256] ![512, 128] inb_S512x512_S512x128_0_256, p2⟩, ⟨Rect.unit ![0, 128] ![512, 128] inb_S512x512_S512x128_0_128, p1⟩,
      ⟨Rect.unit ![0, 0] ![512, 128] inb_S512x512_S512x128_0_0, p0⟩]) (ix2 a b) = cols p0 p1 p2 p3 a b := by
  unfold cols
  split
  · next h =>
    refine View.read_writes_cons_unit_of_mem w f inb_S512x512_S512x128_0_384 p3 _ (ix2 a b) (ix2 a ⟨b.val - 384, by omega⟩) rfl fun d => ?_
    match d with
    | ⟨0, _⟩ => exact (Nat.zero_add _).symm
    | ⟨1, _⟩ => show b.val = 384 + (b.val - 384); omega
  · next h =>
    refine (View.read_writes_cons_unit_of_not_mem _ _ _ _ _ _ rfl 1 (show b.val < 384 ∨ 384 + 128 ≤ b.val by omega)).trans ?_
    split
    · next h =>
      refine View.read_writes_cons_unit_of_mem w f inb_S512x512_S512x128_0_256 p2 _ (ix2 a b) (ix2 a ⟨b.val - 256, by omega⟩) rfl fun d => ?_
      match d with
      | ⟨0, _⟩ => exact (Nat.zero_add _).symm
      | ⟨1, _⟩ => show b.val = 256 + (b.val - 256); omega
    · next h =>
      refine (View.read_writes_cons_unit_of_not_mem _ _ _ _ _ _ rfl 1 (show b.val < 256 ∨ 256 + 128 ≤ b.val by omega)).trans ?_
      split
      · next h =>
        refine View.read_writes_cons_unit_of_mem w f inb_S512x512_S512x128_0_128 p1 _ (ix2 a b) (ix2 a ⟨b.val - 128, by omega⟩) rfl fun d => ?_
        match d with
        | ⟨0, _⟩ => exact (Nat.zero_add _).symm
        | ⟨1, _⟩ => show b.val = 128 + (b.val - 128); omega
      · next h =>
        refine (View.read_writes_cons_unit_of_not_mem _ _ _ _ _ _ rfl 1 (show b.val < 128 ∨ 128 + 128 ≤ b.val by omega)).trans ?_
        refine View.read_writes_cons_unit_of_mem w f inb_S512x512_S512x128_0_0 p0 _ (ix2 a b) (ix2 a ⟨b.val, by omega⟩) rfl fun d => ?_
        match d with
        | ⟨0, _⟩ => exact (Nat.zero_add _).symm
        | ⟨1, _⟩ => exact (Nat.zero_add _).symm

end Stores

section Steps

variable {F : FTy → Type} [FloatOps F]
variable (m : (ℓ : Loc nD τ sig) → Buf (Elt F) ℓ) (c : Dev nD) (t : Fin cfg0.N)

/-- A point's scratch stores. -/
abbrev scr : List (View.Piece (Elt F) S520x1536 .f32) := pieces (k0_pay3 (grid0.coords t) (X0_1 m c t)) (k0_pay4 (X0_0 m c t))

/-- The first three taps' sum, and the last tap. -/
abbrev head : FVec F S512x1536 .f32 :=
  k0_pay5 (View.ld (iblk m c 3 t) (Rect.unit (s := S4x1536) ![0, 0] S1x1536.size inb_S4x1536_S1x1536_0_0))
    (scM0_0.view.readCov (scr m c t) (Rect.unit (s := S520x1536) ![5, 0] S512x1536.size inb_S520x1536_S512x1536_5_0).toLoadRect)
    (View.ld (iblk m c 3 t) (Rect.unit (s := S4x1536) ![1, 0] S1x1536.size inb_S4x1536_S1x1536_1_0))
    (scM0_0.view.readCov (scr m c t) (Rect.unit (s := S520x1536) ![6, 0] S512x1536.size inb_S520x1536_S512x1536_6_0).toLoadRect)
    (View.ld (iblk m c 3 t) (Rect.unit (s := S4x1536) ![2, 0] S1x1536.size inb_S4x1536_S1x1536_2_0))
    (scM0_0.view.readCov (scr m c t) (Rect.unit (s := S520x1536) ![7, 0] S512x1536.size inb_S520x1536_S512x1536_7_0).toLoadRect)
abbrev last : FVec F S512x1536 .f32 :=
  k0_pay6 (View.ld (iblk m c 3 t) (Rect.unit (s := S4x1536) ![3, 0] S1x1536.size inb_S4x1536_S1x1536_3_0))
    (scM0_0.view.readCov (scr m c t) (Rect.unit (s := S520x1536) ![8, 0] S512x1536.size inb_S520x1536_S512x1536_8_0).toLoadRect)

theorem point_v : (outsAt0 m c t).2.2.1 = k0_pay20 (k0_pay7 (head m c t) (last m c t)) := by
  unfold outsAt0
  dsimp only
  unfold out0_A_8
  rw [View.read_writes_eq_canon]
  swap
  · exact fun y => cover0_A_8 ..
  unfold kernelRun0_A
  dsimp only
  try sl_unfold_words
  rw [View.canon_unit_zero hz]
  simp only [View.readAt_eq_ld, Memref.IsWhole.read_unread, View.ld_unit_zero (S := S512x1536) hz, View.ld_unit_zero (S := S8x1536) hz]
  rfl

theorem point_q (a : Fin 512) (b : Fin 512) : (outsAt0 m c t).1 (ix2 a b)
    = cols (k0_pay8 (head m c t) (last m c t)) (k0_pay11 (head m c t) (last m c t)) (k0_pay13 (k0_pay7 (head m c t) (last m c t)))
        (k0_pay18 (k0_pay15 (k0_pay7 (head m c t) (last m c t))) (k0_pay17 (k0_pay7 (head m c t) (last m c t)))) a b := by
  unfold outsAt0
  dsimp only
  unfold out0_A_6
  unfold kernelRun0_A
  dsimp only
  try sl_unfold_words
  refine (read_cols _ _ _ _ _ _ a b).trans ?_
  simp only [View.readAt_eq_ld, Memref.IsWhole.read_unread, View.ld_unit_zero (S := S512x1536) hz, View.ld_unit_zero (S := S8x1536) hz]
  rfl

theorem point_k (a : Fin 512) (b : Fin 512) : (outsAt0 m c t).2.1 (ix2 a b)
    = cols (k0_pay9 (head m c t) (last m c t)) (k0_pay12 (k0_pay10 (head m c t) (last m c t))) (k0_pay14 (k0_pay7 (head m c t) (last m c t)))
        (k0_pay19 (k0_pay16 (k0_pay7 (head m c t) (last m c t)))) a b := by
  unfold outsAt0
  dsimp only
  unfold out0_A_7
  unfold kernelRun0_A
  dsimp only
  try sl_unfold_words
  refine (read_cols _ _ _ _ _ _ a b).trans ?_
  simp only [View.readAt_eq_ld, Memref.IsWhole.read_unread, View.ld_unit_zero (S := S512x1536) hz, View.ld_unit_zero (S := S8x1536) hz]
  rfl

theorem point_g : (outsAt0 m c t).2.2.2.1
    = k0_pay1 (k0_pay22 (iblk m c 2 t)) (k0_pay23 (iblk m c 2 t) (iblk m c 5 t)) (k0_pay24 (iblk m c 4 t)) (k0_pay25 (iblk m c 2 t) (iblk m c 5 t)) := by
  unfold outsAt0
  dsimp only
  unfold out0_A_9
  rw [View.read_writes_eq_canon]
  swap
  · exact fun y => cover0_A_9 ..
  unfold kernelRun0_A
  dsimp only
  try sl_unfold_words
  rw [View.canon_unit_zero hz]
  simp only [View.readAt_eq_ld, Memref.IsWhole.read_unread, View.ld_unit_zero (S := S512x128) hz, View.ld_unit_zero (S := S1x128) hz]

theorem point_gt : (outsAt0 m c t).2.2.2.2
    = k0_pay2 (k0_pay22 (iblk m c 2 t)) (k0_pay23 (iblk m c 2 t) (iblk m c 5 t)) (k0_pay24 (iblk m c 4 t)) (k0_pay25 (iblk m c 2 t) (iblk m c 5 t)) := by
  unfold outsAt0
  dsimp only
  unfold out0_A_10
  rw [View.read_writes_eq_canon]
  swap
  · exact fun y => cover0_A_10 ..
  unfold kernelRun0_A
  dsimp only
  try sl_unfold_words
  rw [View.canon_unit_zero hz]
  simp only [View.readAt_eq_ld, Memref.IsWhole.read_unread, View.ld_unit_zero (S := S512x128) hz, View.ld_unit_zero (S := S1x128) hz]

end Steps

end Cert.Kernel20Ideal.Point

end
-- ==== Proof.PrepMath.lean ====
/-
  The convolution and gates on one row, as arithmetic on extended reals: the silu of a value, a head's values over their
  root, and the two gates.
-/
module

public import Idealize.ShloMosaic.PureOps.Ideal.Laws

@[expose] public section

noncomputable section

open Idealize.ShloMosaic

namespace Cert.Prep

/-- Zero, one, the norm's epsilon and the scale of the queries. -/
abbrev zero : EReal := Ideal.ofBits .f32 0x00000000#32
abbrev one : EReal := Ideal.ofBits .f32 0x3F800000#32
abbrev eps : EReal := Ideal.ofBits .f32 0x358637BD#32
abbrev scale : EReal := Ideal.ofBits .f32 0x3DB504F3#32

/-- The first gate, and the silu of a value. -/
def beta (z : EReal) : EReal := Ideal.div one (one + Ideal.exp (zero - z))
def silu (y : EReal) : EReal := y * beta y

/-- The second gate. -/
def decay (z d l : EReal) : EReal :=
  (zero - Ideal.exp l) * (max (z + d) zero + Ideal.log (one + Ideal.exp (zero - max (z + d) (-(z + d)))))

/-- The reciprocal root of the squares' sum over the 128 columns from `o` on. -/
def root (s : Fin 1536 → EReal) (o : ℕ) (ho : o + 128 ≤ 1536) : EReal :=
  Ideal.rsqrt ((∑ k : Fin 128, s ⟨o + k.val, by omega⟩ * s ⟨o + k.val, by omega⟩) + eps)

theorem root_congr (s : Fin 1536 → EReal) {o o' : ℕ} (h : o = o') (ho : o + 128 ≤ 1536) (ho' : o' + 128 ≤ 1536) :
    root s o ho = root s o' ho' := by
  subst h
  rfl

/-- A row's queries, keys and values. -/
def qv (s : Fin 1536 → EReal) (b : Fin 512) : EReal :=
  s ⟨b.val, by omega⟩ * root s (128 * (b.val / 128)) (by omega) * scale
def kv (s : Fin 1536 → EReal) (b : Fin 512) : EReal :=
  s ⟨512 + b.val, by omega⟩ * root s (512 + 128 * (b.val / 128)) (by omega)
def vv (s : Fin 1536 → EReal) (b : Fin 512) : EReal := s ⟨1024 + b.val, by omega⟩

theorem word_one : one = 1 := by
  have h : one = ((1 : ℝ) : EReal) := by simp [one, Ideal.ofBits, Ideal.ieee, -EReal.coe_mul]; norm_num
  rw [h, EReal.coe_one]

/-- The row that tap `j` sees at row `i`: three rows less `j` before it, zero before the first. -/
def tap (x : Fin 4096 → Fin 2056 → EReal) (i : Fin 4096) (j : ℕ) (hj : j < 4) (b : Fin 1536) : EReal :=
  if h : 3 ≤ i.val + j then x ⟨i.val + j - 3, by omega⟩ ⟨b.val, by omega⟩ else zero

/-- The convolution's row after the silu, and a row's eight gates. -/
def conv (x : Fin 4096 → Fin 2056 → EReal) (w : Fin 4 → Fin 1536 → EReal) (i : Fin 4096) (b : Fin 1536) : EReal :=
  silu (w 0 b * tap x i 0 (by omega) b + w 1 b * tap x i 1 (by omega) b + w 2 b * tap x i 2 (by omega) b + w 3 b * tap x i 3 (by omega) b)
def gate (x : Fin 4096 → Fin 2056 → EReal) (al dt : Fin 4 → EReal) (i : Fin 4096) (l : Fin 8) : EReal :=
  if h : l.val < 4 then beta (x i ⟨2048 + l.val, by omega⟩)
  else decay (x i ⟨2048 + l.val, by omega⟩) (dt ⟨l.val - 4, by omega⟩) (al ⟨l.val - 4, by omega⟩)
def gates (x : Fin 4096 → Fin 2056 → EReal) (al dt : Fin 4 → EReal) (i : Fin 4096) (l : Fin 128) : EReal :=
  if h : l.val < 8 then gate x al dt i ⟨l.val, h⟩ else zero

theorem tap_congr (x : Fin 4096 → Fin 2056 → EReal) (i : Fin 4096) (j : ℕ) (hj : j < 4) (h : 3 ≤ i.val + j) (b : Fin 1536)
    (i' : Fin 4096) (b' : Fin 2056) (hi : i'.val + 3 = i.val + j) (hb : b'.val = b.val) : tap x i j hj b = x i' b' := by
  unfold tap
  rw [dif_pos h]
  exact congrArg₂ x (Fin.ext (by show i.val + j - 3 = i'.val; omega)) (Fin.ext hb.symm)

end Cert.Prep

end
-- ==== Proof.PrepPay.lean ====
/-
  The convolution and gates: each of the body's values, at a row and a column of a point's blocks, is the row's value.
-/
module

public import proofs.«01_k».proof.Proof.PrepMath
public import proofs.«01_k».proof.Proof.PrepPoint
public import Idealize.ShloMosaic.Lib.WordCmp
public import Idealize.ShloMosaic.PureOps.Ideal.Laws

@[expose] public section

set_option maxRecDepth 16384

noncomputable section

open Idealize.ShloMosaic Idealize.ShloMosaic.TcCoe Idealize.ShloMosaic.ValueIdx Idealize.SL.Sem

namespace Cert.Kernel20Ideal.Pay

open Cert.Kernel20Ideal Cert.Kernel20Ideal.Gen Cert.Kernel20Ideal.Point Cert.Prep

/-! ## Sums, spreads and parts -/

/-- A sum over a block's columns, as a column. -/
theorem rowSum (u : FVec Ideal S512x128 .f32) (a : Fin 512) :
    (shapeCast S512x1 (multiReduction .add [1] S512 u 0x00000000#32 reduces_S512x128_S512 (.inl rfl) rfl) shapeCasts_S512_S512x1 (ix2 a 0) : EReal)
      = ∑ k : Fin 128, (u (ix2 a k) : EReal) := by
  refine (shapeCast_apply _ shapeCasts_S512_S512x1 (ix2 a 0) (ix1 a) ?_).trans ?_
  · rewrite [Shape.rowMajor_val_one, Shape.rowMajor_val_two]
    show a.val = a.val * 1 + 0
    omega
  · refine (Ideal.multiReduction_add_single u 0x00000000#32 reduces_S512x128_S512 (.inl rfl) rfl (ix1 a)).trans ?_
    exact Finset.sum_congr rfl fun k _ => congrArg u (funext fun e => Fin.ext (by match e with | ⟨0, _⟩ => rfl | ⟨1, _⟩ => rfl))

/-- A column spread over a block's columns. -/
theorem spreadCol (u : FVec Ideal S512x1 .f32) (a : Fin 512) (b : Fin 128) :
    broadcastTo S512x128 u broadcasts_S512x1_S512x128 (ix2 a b) = u (ix2 a 0) :=
  broadcastTo_apply u broadcasts_S512x1_S512x128 (ix2 a b) (ix2 a 0) (fun d => match d with
    | ⟨0, _⟩ => by show a.val = if (512 : Nat) = 1 then 0 else a.val; rw [if_neg (by decide)]
    | ⟨1, _⟩ => by show 0 = if (1 : Nat) = 1 then 0 else b.val; rw [if_pos rfl])

/-- A row spread over a block's rows. -/
theorem spreadRow (u : FVec Ideal S1x1536 .f32) (a : Fin 512) (b : Fin 1536) :
    broadcastTo S512x1536 u broadcasts_S1x1536_S512x1536 (ix2 a b) = u (ix2 0 b) :=
  broadcastTo_apply u broadcasts_S1x1536_S512x1536 (ix2 a b) (ix2 0 b) (fun d => match d with
    | ⟨0, _⟩ => by show 0 = if (1 : Nat) = 1 then 0 else a.val; rw [if_pos rfl]
    | ⟨1, _⟩ => by show b.val = if (1536 : Nat) = 1 then 0 else b.val; rw [if_neg (by decide)])

theorem spreadLane (u : FVec Ideal S1x128 .f32) (a : Fin 512) (b : Fin 128) :
    broadcastTo S512x128 u broadcasts_S1x128_S512x128 (ix2 a b) = u (ix2 0 b) :=
  broadcastTo_apply u broadcasts_S1x128_S512x128 (ix2 a b) (ix2 0 b) (fun d => match d with
    | ⟨0, _⟩ => by show 0 = if (1 : Nat) = 1 then 0 else a.val; rw [if_pos rfl]
    | ⟨1, _⟩ => by show b.val = if (128 : Nat) = 1 then 0 else b.val; rw [if_neg (by decide)])

/-- A head's columns. -/
theorem part (u : FVec Ideal S512x1536 .f32) (o : ℕ) (ho : o + 128 ≤ 1536) (h : S512x1536.Slices ![0, o] S512x128) (a : Fin 512) (k : Fin 128) :
    extractStridedSlice S512x128 ![0, o] u h (ix2 a k) = u (ix2 a ⟨o + k.val, by omega⟩) :=
  extractStridedSlice_apply ![0, o] u h (ix2 a k) (ix2 a ⟨o + k.val, by omega⟩) (fun d => match d with
    | ⟨0, _⟩ => (Nat.zero_add _).symm
    | ⟨1, _⟩ => rfl)

/-- A block over its rows' roots. -/
abbrev unit (v : FVec Ideal S512x128 .f32) : FVec Ideal S512x128 .f32 :=
  mulf v (broadcastTo S512x128 (rsqrt (addf (shapeCast S512x1 (multiReduction .add [1] S512 (mulf v v) 0x00000000#32 reduces_S512x128_S512 (.inl rfl) rfl)
    shapeCasts_S512_S512x1) (broadcast S512x1 (Scalar.ofBits .f32 0x358637BD#32)))) broadcasts_S512x1_S512x128)

theorem unit_apply (v : FVec Ideal S512x128 .f32) (a : Fin 512) (k : Fin 128) :
    (unit v (ix2 a k) : EReal) = v (ix2 a k) * Ideal.rsqrt ((∑ j : Fin 128, (v (ix2 a j) : EReal) * v (ix2 a j)) + eps) :=
  congrArg (fun s : EReal => (v (ix2 a k) : EReal) * s) ((spreadCol _ a k).trans (congrArg (fun s : EReal => Ideal.rsqrt (s + eps)) (rowSum (mulf v v) a)))

theorem unit_part (u : FVec Ideal S512x1536 .f32) (o : ℕ) (ho : o + 128 ≤ 1536) (h : S512x1536.Slices ![0, o] S512x128) (a : Fin 512) (k : Fin 128) :
    (unit (extractStridedSlice S512x128 ![0, o] u h) (ix2 a k) : EReal)
      = u (ix2 a ⟨o + k.val, by omega⟩) * root (fun b => u (ix2 a b)) o ho := by
  rw [unit_apply, part u o ho h a k]
  unfold root
  refine congrArg (fun s : EReal => (u (ix2 a ⟨o + k.val, by omega⟩) : EReal) * Ideal.rsqrt (s + eps)) (Finset.sum_congr rfl fun j _ => ?_)
  rw [part u o ho h a j]

/-! ## The convolution -/

theorem conv_apply (w0 w1 w2 w3 : Vec Ideal S1x1536 .f32) (x0 x1 x2 x3 : Vec Ideal S512x1536 .f32) (a : Fin 512) (b : Fin 1536) :
    (k0_pay7 (k0_pay5 w0 x0 w1 x1 w2 x2) (k0_pay6 w3 x3) (ix2 a b) : EReal)
      = silu ((w0 (ix2 0 b) : EReal) * x0 (ix2 a b) + (w1 (ix2 0 b) : EReal) * x1 (ix2 a b) + (w2 (ix2 0 b) : EReal) * x2 (ix2 a b)
          + (w3 (ix2 0 b) : EReal) * x3 (ix2 a b)) := by
  rw [← spreadRow w0 a b, ← spreadRow w1 a b, ← spreadRow w2 a b, ← spreadRow w3 a b]
  rfl

/-! ## The queries, keys and values -/

variable (h l : FVec Ideal S512x1536 .f32) (a : Fin 512) (b : Fin 512)

theorem q_apply : (cols (k0_pay8 h l) (k0_pay11 h l) (k0_pay13 (k0_pay7 h l)) (k0_pay18 (k0_pay15 (k0_pay7 h l)) (k0_pay17 (k0_pay7 h l))) a b : EReal)
    = qv (fun b => k0_pay7 h l (ix2 a b)) b := by
  unfold cols qv
  generalize hu : k0_pay7 h l = u
  have e0 : k0_pay8 h l = mulf (unit (extractStridedSlice S512x128 ![0, 0] u slices_S512x1536_o0_0_S512x128)) (broadcast S512x128 (Scalar.ofBits .f32 0x3DB504F3#32)) := by
    rw [← hu]; rfl
  have e1 : k0_pay11 h l = mulf (unit (extractStridedSlice S512x128 ![0, 128] u slices_S512x1536_o0_128_S512x128)) (broadcast S512x128 (Scalar.ofBits .f32 0x3DB504F3#32)) := by
    rw [← hu]; rfl
  have e2 : k0_pay13 u = mulf (unit (extractStridedSlice S512x128 ![0, 256] u slices_S512x1536_o0_256_S512x128)) (broadcast S512x128 (Scalar.ofBits .f32 0x3DB504F3#32)) := rfl
  have e3 : k0_pay18 (k0_pay15 u) (k0_pay17 u) = mulf (unit (extractStridedSlice S512x128 ![0, 384] u slices_S512x1536_o0_384_S512x128)) (broadcast S512x128 (Scalar.ofBits .f32 0x3DB504F3#32)) := rfl
  rw [e0, e1, e2, e3]
  split
  · next h3 =>
    refine (congrArg (fun s : EReal => s * scale) (unit_part u 384 (by omega) _ a ⟨b.val - 384, by omega⟩)).trans ?_
    rw [root_congr _ (show 384 = 128 * (b.val / 128) by omega) _ (by omega)]
    exact congrArg (fun j => (u (ix2 a j) : EReal) * _ * scale) (Fin.ext (by show 384 + (b.val - 384) = b.val; omega))
  · split
    · next h3 h2 =>
      refine (congrArg (fun s : EReal => s * scale) (unit_part u 256 (by omega) _ a ⟨b.val - 256, by omega⟩)).trans ?_
      rw [root_congr _ (show 256 = 128 * (b.val / 128) by omega) _ (by omega)]
      exact congrArg (fun j => (u (ix2 a j) : EReal) * _ * scale) (Fin.ext (by show 256 + (b.val - 256) = b.val; omega))
    · split
      · next h3 h2 h1 =>
        refine (congrArg (fun s : EReal => s * scale) (unit_part u 128 (by omega) _ a ⟨b.val - 128, by omega⟩)).trans ?_
        rw [root_congr _ (show 128 = 128 * (b.val / 128) by omega) _ (by omega)]
        exact congrArg (fun j => (u (ix2 a j) : EReal) * _ * scale) (Fin.ext (by show 128 + (b.val - 128) = b.val; omega))
      · next h3 h2 h1 =>
        refine (congrArg (fun s : EReal => s * scale) (unit_part u 0 (by omega) _ a ⟨b.val, by omega⟩)).trans ?_
        rw [root_congr _ (show 0 = 128 * (b.val / 128) by omega) _ (by omega)]
        exact congrArg (fun j => (u (ix2 a j) : EReal) * _ * scale) (Fin.ext (by show 0 + b.val = b.val; omega))

theorem k_apply : (cols (k0_pay9 h l) (k0_pay12 (k0_pay10 h l)) (k0_pay14 (k0_pay7 h l)) (k0_pay19 (k0_pay16 (k0_pay7 h l))) a b : EReal)
    = kv (fun b => k0_pay7 h l (ix2 a b)) b := by
  unfold cols kv
  generalize hu : k0_pay7 h l = u
  have e0 : k0_pay9 h l = unit (extractStridedSlice S512x128 ![0, 512] u slices_S512x1536_o0_512_S512x128) := by
    rw [← hu]; rfl
  have e1 : k0_pay12 (k0_pay10 h l) = unit (extractStridedSlice S512x128 ![0, 640] u slices_S512x1536_o0_640_S512x128) := by
    rw [← hu]; rfl
  have e2 : k0_pay14 u = unit (extractStridedSlice S512x128 ![0, 768] u slices_S512x1536_o0_768_S512x128) := rfl
  have e3 : k0_pay19 (k0_pay16 u) = unit (extractStridedSlice S512x128 ![0, 896] u slices_S512x1536_o0_896_S512x128) := rfl
  rw [e0, e1, e2, e3]
  split
  · next h3 =>
    refine (unit_part u 896 (by omega) _ a ⟨b.val - 384, by omega⟩).trans ?_
    rw [root_congr _ (show 896 = 512 + 128 * (b.val / 128) by omega) _ (by omega)]
    exact congrArg (fun j => (u (ix2 a j) : EReal) * _) (Fin.ext (by show 896 + (b.val - 384) = 512 + b.val; omega))
  · split
    · next h3 h2 =>
      refine (unit_part u 768 (by omega) _ a ⟨b.val - 256, by omega⟩).trans ?_
      rw [root_congr _ (show 768 = 512 + 128 * (b.val / 128) by omega) _ (by omega)]
      exact congrArg (fun j => (u (ix2 a j) : EReal) * _) (Fin.ext (by show 768 + (b.val - 256) = 512 + b.val; omega))
    · split
      · next h3 h2 h1 =>
        refine (unit_part u 640 (by omega) _ a ⟨b.val - 128, by omega⟩).trans ?_
        rw [root_congr _ (show 640 = 512 + 128 * (b.val / 128) by omega) _ (by omega)]
        exact congrArg (fun j => (u (ix2 a j) : EReal) * _) (Fin.ext (by show 640 + (b.val - 128) = 512 + b.val; omega))
      · next h3 h2 h1 =>
        refine (unit_part u 512 (by omega) _ a ⟨b.val, by omega⟩).trans ?_
        rw [root_congr _ (show 512 = 512 + 128 * (b.val / 128) by omega) _ (by omega)]

theorem v_apply : (k0_pay20 (k0_pay7 h l) (ix2 a b) : EReal) = vv (fun b => k0_pay7 h l (ix2 a b)) b := by
  unfold k0_pay20 vv
  exact extractStridedSlice_apply ![0, 1024] _ slices_S512x1536_o0_1024_S512x512 (ix2 a b) (ix2 a ⟨1024 + b.val, by omega⟩) (fun d => match d with
    | ⟨0, _⟩ => (Nat.zero_add _).symm
    | ⟨1, _⟩ => rfl)

/-! ## The gates -/

theorem select_lane (j n : ℕ) (hj : j < 2 ^ 31) (hn : n < 2 ^ 31) (x y : EReal) :
    Scalar.select (IntOp.cmpi .slt (BitVec.ofNat 32 j) (BitVec.ofNat 32 n)) x y = if j < n then x else y := by
  rw [WordCmp.cmpi_slt_ofNat (w := 32) hj hn]
  unfold Scalar.select
  by_cases h : j < n <;> simp [h]

theorem g_apply (z : Vec Ideal S512x128 .f32) (d e : Vec Ideal S1x128 .f32) (j : Fin 128) :
    (k0_pay1 (k0_pay22 z) (k0_pay23 z d) (k0_pay24 e) (k0_pay25 z d) (ix2 a j) : EReal)
      = if j.val < 4 then beta (z (ix2 a j)) else if j.val < 8 then decay (z (ix2 a j)) (d (ix2 0 j)) (e (ix2 0 j)) else zero := by
  rw [← select_lane j.val 4 (by omega) (by norm_num), ← select_lane j.val 8 (by omega) (by norm_num)]
  have hz : (k0_pay21 z : FVec Ideal S512x128 .f32) = z := by
    unfold k0_pay21
    exact shapeCast_self ..
  have h23 : (k0_pay23 z d (ix2 a j) : EReal) = z (ix2 a j) + d (ix2 0 j) := by
    unfold k0_pay23
    simp only [shapeCast_self, hz]
    exact congrArg (fun s : EReal => (z (ix2 a j) : EReal) + s) (spreadLane d a j)
  have h24 : (broadcastTo S512x128 (k0_pay24 e) broadcasts_S1x128_S512x128 (ix2 a j) : EReal) = zero - Ideal.exp (e (ix2 0 j)) := by
    refine (spreadLane _ a j).trans ?_
    unfold k0_pay24
    simp only [shapeCast_self]
    rfl
  have h22 : (k0_pay22 z (ix2 a j) : EReal) = beta (z (ix2 a j)) := by
    unfold k0_pay22
    rw [hz]
    rfl
  rw [← h22]
  unfold decay
  rw [← h24, ← h23]
  unfold k0_pay1
  have hi : (iota Kind.tc S512x128 32 [1] iota_S512x128_d1_w32 : IVec S512x128 32) (ix2 a j) = BitVec.ofNat 32 j.val := iota_single_apply ..
  rw [← hi]
  rfl

theorem gt_apply (z : Vec Ideal S512x128 .f32) (d e : Vec Ideal S1x128 .f32) (j : Fin 8) :
    (k0_pay2 (k0_pay22 z) (k0_pay23 z d) (k0_pay24 e) (k0_pay25 z d) (ix2 j a) : EReal)
      = k0_pay1 (k0_pay22 z) (k0_pay23 z d) (k0_pay24 e) (k0_pay25 z d) (ix2 a ⟨j.val, by omega⟩) := by
  unfold k0_pay2
  refine (extractStridedSlice_apply ![0, 0] _ slices_S128x512_o0_0_S8x512 (ix2 j a) (ix2 ⟨j.val, by omega⟩ a) (fun d => match d with
    | ⟨0, _⟩ => (Nat.zero_add _).symm
    | ⟨1, _⟩ => (Nat.zero_add _).symm)).trans ?_
  exact transpose_apply [1, 0] _ transposes_S512x128_p1_0_S128x512 (ix2 ⟨j.val, by omega⟩ a) (ix2 a ⟨j.val, by omega⟩) (fun d => match d with
    | ⟨0, _⟩ => rfl | ⟨1, _⟩ => rfl)

end Cert.Kernel20Ideal.Pay

end
-- ==== Proof.PrepRef.lean ====
/-
  The convolution and gates' reference, element by element: each of its results at a row is the row's value.
-/
module

public import proofs.«01_k».proof.Proof.PrepMath
public import proofs.«01_k».proof.Proof.Shared
public import proofs.«01_k».proof.Proof.Gen.Reference20Ideal.Read
public import Idealize.ShloMosaic.Lib.ValueIdx
public import Idealize.ShloMosaic.Lib.KernelVsHost

@[expose] public section

set_option maxRecDepth 16384

noncomputable section

open Idealize.ShloMosaic Idealize.ShloMosaic.TcCoe Idealize.ShloMosaic.ValueIdx Idealize.SL.Sem

namespace Cert.Kernel20Ideal.Ref

open Cert.Reference20Ideal Cert.Reference20Ideal.Read Cert.Prep

variable (p : S4096x2056.Idx → EReal) (w : S4x1536.Idx → EReal) (al dt : S4.Idx → EReal) (i : Fin 4096)

/-- The arguments by their coordinates. -/
abbrev px (i : Fin 4096) (b : Fin 2056) : EReal := p (ix2 i b)
abbrev pw (j : Fin 4) (b : Fin 1536) : EReal := w (ix2 j b)
abbrev pv (u : S4.Idx → EReal) (j : Fin 4) : EReal := u (ix1 j)

/-! ## The convolution -/

theorem off (d : Fin 2) (h : d.cast rfl ≠ (1 : Fin 2)) : d = 0 := by
  match d, h with
  | ⟨0, _⟩, _ => rfl
  | ⟨1, _⟩, h => exact absurd rfl h

theorem part_eq (b : Fin 1536) : (val_main_v6 (F := Ideal) p (ix2 i b) : EReal) = p (ix2 i ⟨b.val, by omega⟩) := by
  unfold val_main_v6
  by_cases h0 : b.val < 512
  · refine (concatenate_apply_piece _ _ _ (ix2 i b) 0 (by exact (show (0:ℕ) < 3 by decide)) S4096x512 _ rfl rfl 0 rfl (ix2 i ⟨b.val, h0⟩) (fun d hd => ?_) ?_).trans ?_
    · obtain rfl := off d hd
      rfl
    · show 0 + b.val = b.val
      omega
    · rw [val_main_v0_apply]
      exact congrArg p (eq_ix2 _)
  · by_cases h1 : b.val < 1024
    · refine (concatenate_apply_piece _ _ _ (ix2 i b) 1 (by exact (show (1:ℕ) < 3 by decide)) S4096x512 _ rfl rfl 512 rfl (ix2 i ⟨b.val - 512, by omega⟩) (fun d hd => ?_) ?_).trans ?_
      · obtain rfl := off d hd
        rfl
      · show 512 + (b.val - 512) = b.val
        omega
      · rw [val_main_v1_apply]
        exact congrArg p ((eq_ix2 _).trans (congrArg (ix2 i) (Fin.ext (by show 512 + (b.val - 512) = b.val; omega))))
    · refine (concatenate_apply_piece _ _ _ (ix2 i b) 2 (by exact (show (2:ℕ) < 3 by decide)) S4096x512 _ rfl rfl 1024 rfl (ix2 i ⟨b.val - 1024, by omega⟩) (fun d hd => ?_) ?_).trans ?_
      · obtain rfl := off d hd
        rfl
      · show 1024 + (b.val - 1024) = b.val
        omega
      · rw [val_main_v2_apply]
        exact congrArg p ((eq_ix2 _).trans (congrArg (ix2 i) (Fin.ext (by show 1024 + (b.val - 1024) = b.val; omega))))

theorem fill_eq (k : S_.Idx) : (val_main_call0_v0 (F := Ideal) k : EReal) = zero := by
  rw [zero, Ideal.ofBits_zero_f32]
  show (((0#32 : BitVec 32).toInt : ℝ) : EReal) = 0
  simp

theorem tap_eq (j : ℕ) (hj : j < 4) (b : Fin 1536) : (val_main_v7 (F := Ideal) p (ix2 ⟨i.val + j, by omega⟩ b) : EReal) = tap (px p) i j hj b := by
  unfold val_main_v7 tap
  split
  · next h =>
    refine (pad_apply_of_inside _ _ _ _ _ _ _ _ (ix2 ⟨i.val + j - 3, by omega⟩ b) fun a => ?_).trans (part_eq p _ b)
    match a with
    | ⟨0, _⟩ => show i.val + j = 3 + (i.val + j - 3) * (0 + 1); omega
    | ⟨1, _⟩ => show b.val = 0 + b.val * (0 + 1); omega
  · next h =>
    refine (pad_apply_of_not_inside _ _ _ _ _ _ _ _ 0 fun hh => ?_).trans (fill_eq _)
    have h2 : 3 ≤ i.val + j := hh.1
    omega

theorem sum_eq (b : Fin 1536) : (val_main_v34 (F := Ideal) p w (ix2 i b) : EReal)
    = pw w 0 b * tap (px p) i 0 (by omega) b + pw w 1 b * tap (px p) i 1 (by omega) b + pw w 2 b * tap (px p) i 2 (by omega) b
        + pw w 3 b * tap (px p) i 3 (by omega) b := by
  have e0 : (val_main_v12 (F := Ideal) w (ix2 i b) : EReal) = pw w 0 b := by
    rw [val_main_v12_apply, val_main_v11_apply, val_main_v9_apply, val_main_v8_apply]
    exact congrArg w ((eq_ix2 _).trans (congrArg (ix2 0) (Fin.ext (Nat.mod_eq_of_lt b.isLt))))
  have e1 : (val_main_v18 (F := Ideal) w (ix2 i b) : EReal) = pw w 1 b := by
    rw [val_main_v18_apply, val_main_v17_apply, val_main_v15_apply, val_main_v14_apply]
    exact congrArg w ((eq_ix2 _).trans (congrArg (ix2 1) (Fin.ext (Nat.mod_eq_of_lt b.isLt))))
  have e2 : (val_main_v25 (F := Ideal) w (ix2 i b) : EReal) = pw w 2 b := by
    rw [val_main_v25_apply, val_main_v24_apply, val_main_v22_apply, val_main_v21_apply]
    exact congrArg w ((eq_ix2 _).trans (congrArg (ix2 2) (Fin.ext (Nat.mod_eq_of_lt b.isLt))))
  have e3 : (val_main_v32 (F := Ideal) w (ix2 i b) : EReal) = pw w 3 b := by
    rw [val_main_v32_apply, val_main_v31_apply, val_main_v29_apply, val_main_v28_apply]
    exact congrArg w ((eq_ix2 _).trans (congrArg (ix2 3) (Fin.ext (Nat.mod_eq_of_lt b.isLt))))
  have t0 : (val_main_v10 (F := Ideal) p (ix2 i b) : EReal) = tap (px p) i 0 (by omega) b := by
    rw [val_main_v10_apply, ← tap_eq]
    exact congrArg (val_main_v7 (F := Ideal) p) ((eq_ix2 _).trans (congrArg (fun r => ix2 r b) (Fin.ext (by show i.val = i.val + 0; omega))))
  have t1 : (val_main_v16 (F := Ideal) p (ix2 i b) : EReal) = tap (px p) i 1 (by omega) b := by
    rw [val_main_v16_apply, ← tap_eq]
    exact congrArg (val_main_v7 (F := Ideal) p) ((eq_ix2 _).trans (congrArg (fun r => ix2 r b) (Fin.ext (by show 1 + i.val = i.val + 1; omega))))
  have t2 : (val_main_v23 (F := Ideal) p (ix2 i b) : EReal) = tap (px p) i 2 (by omega) b := by
    rw [val_main_v23_apply, ← tap_eq]
    exact congrArg (val_main_v7 (F := Ideal) p) ((eq_ix2 _).trans (congrArg (fun r => ix2 r b) (Fin.ext (by show 2 + i.val = i.val + 2; omega))))
  have t3 : (val_main_v30 (F := Ideal) p (ix2 i b) : EReal) = tap (px p) i 3 (by omega) b := by
    rw [val_main_v30_apply, ← tap_eq]
    exact congrArg (val_main_v7 (F := Ideal) p) ((eq_ix2 _).trans (congrArg (fun r => ix2 r b) (Fin.ext (by show 3 + i.val = i.val + 3; omega))))
  rw [val_main_v34_apply, val_main_v33_apply, val_main_v27_apply, val_main_v26_apply, val_main_v20_apply, val_main_v19_apply, val_main_v13_apply,
    e0, e1, e2, e3, t0, t1, t2, t3]
  rfl

theorem conv_eq (b : Fin 1536) : (val_main_v35 (F := Ideal) p w (ix2 i b) : EReal) = conv (px p) (pw w) i b := by
  rw [val_main_v35_apply, val_main_call1_v5_apply, val_main_call1_v3_apply, val_main_call1_v1_apply, val_main_call1_v0_apply,
    ← Ideal.subf_zero_eq_hostNegf, sum_eq]
  rfl

/-! ## The queries, keys and values -/

theorem qroot_eq (g : Fin 4) (k : Fin 128) : (val_main_v46 (F := Ideal) p w (ix3 i g k) : EReal)
    = root (conv (px p) (pw w) i) (128 * g.val) (by omega) := by
  rw [val_main_v46_apply, val_main_v45_apply, val_main_v44_apply, val_main_v42_apply, val_main_v41_apply]
  unfold root
  show Ideal.rsqrt ((Ideal.ofBits .f32 0x00000000#32 + _) + eps) = _
  rw [Ideal.ofBits_zero_f32, zero_add]
  refine congrArg (fun s : EReal => Ideal.rsqrt (s + eps)) (Finset.sum_congr rfl fun j _ => ?_)
  rw [val_main_v40_apply, val_main_v39_apply, val_main_v36_apply]
  have e : idx_main_v36 (idx_main_v39 (idx_main_v41 (idx_main_v42 (idx_main_v46 (ix3 i g k))) j)) = ix2 i ⟨128 * g.val + j.val, by omega⟩ :=
    (eq_ix2 _).trans (congrArg₂ ix2 (Fin.ext (by show ((i.val * 4 + g.val) * 128 + j.val) / 512 = i.val; omega))
      (Fin.ext (by show ((i.val * 4 + g.val) * 128 + j.val) % 512 = 128 * g.val + j.val; omega)))
  rw [e, conv_eq]
  rfl

theorem q_eq (b : Fin 512) : (val_main_v75 (F := Ideal) p w (ix2 i b) : EReal) = qv (conv (px p) (pw w) i) b := by
  rw [val_main_v75_apply, show idx_main_v75 (ix2 i b) = ix3 i ⟨b.val / 128, by omega⟩ ⟨b.val % 128, by omega⟩ from
    funext fun d => Fin.ext (by
      match d with
      | ⟨0, _⟩ => show (i.val * 512 + b.val) / 512 = i.val; omega
      | ⟨1, _⟩ => show (i.val * 512 + b.val) / 128 % 4 = b.val / 128; omega
      | ⟨2, _⟩ => show (i.val * 512 + b.val) % 128 = b.val % 128; omega),
    val_main_v49_apply, val_main_v47_apply, qroot_eq, val_main_v39_apply, val_main_v36_apply]
  have e : idx_main_v36 (idx_main_v39 (ix3 i ⟨b.val / 128, by omega⟩ ⟨b.val % 128, by omega⟩)) = ix2 i ⟨b.val, by omega⟩ :=
    (eq_ix2 _).trans (congrArg₂ ix2 (Fin.ext (by show ((i.val * 4 + b.val / 128) * 128 + b.val % 128) / 512 = i.val; omega))
      (Fin.ext (by show ((i.val * 4 + b.val / 128) * 128 + b.val % 128) % 512 = b.val; omega)))
  rw [e, conv_eq]
  rfl

theorem kroot_eq (g : Fin 4) (k : Fin 128) : (val_main_v57 (F := Ideal) p w (ix3 i g k) : EReal)
    = root (conv (px p) (pw w) i) (512 + 128 * g.val) (by omega) := by
  rw [val_main_v57_apply, val_main_v56_apply, val_main_v55_apply, val_main_v53_apply, val_main_v52_apply]
  unfold root
  show Ideal.rsqrt ((Ideal.ofBits .f32 0x00000000#32 + _) + eps) = _
  rw [Ideal.ofBits_zero_f32, zero_add]
  refine congrArg (fun s : EReal => Ideal.rsqrt (s + eps)) (Finset.sum_congr rfl fun j _ => ?_)
  rw [val_main_v51_apply, val_main_v50_apply, val_main_v37_apply]
  have e : idx_main_v37 (idx_main_v50 (idx_main_v52 (idx_main_v53 (idx_main_v57 (ix3 i g k))) j)) = ix2 i ⟨512 + 128 * g.val + j.val, by omega⟩ :=
    (eq_ix2 _).trans (congrArg₂ ix2 (Fin.ext (by show ((i.val * 4 + g.val) * 128 + j.val) / 512 = i.val; omega))
      (Fin.ext (by show 512 + ((i.val * 4 + g.val) * 128 + j.val) % 512 = 512 + 128 * g.val + j.val; omega)))
  rw [e, conv_eq]
  rfl

theorem k_eq (b : Fin 512) : (val_main_v76 (F := Ideal) p w (ix2 i b) : EReal) = kv (conv (px p) (pw w) i) b := by
  rw [val_main_v76_apply, show idx_main_v76 (ix2 i b) = ix3 i ⟨b.val / 128, by omega⟩ ⟨b.val % 128, by omega⟩ from
    funext fun d => Fin.ext (by
      match d with
      | ⟨0, _⟩ => show (i.val * 512 + b.val) / 512 = i.val; omega
      | ⟨1, _⟩ => show (i.val * 512 + b.val) / 128 % 4 = b.val / 128; omega
      | ⟨2, _⟩ => show (i.val * 512 + b.val) % 128 = b.val % 128; omega),
    val_main_v58_apply, kroot_eq, val_main_v50_apply, val_main_v37_apply]
  have e : idx_main_v37 (idx_main_v50 (ix3 i ⟨b.val / 128, by omega⟩ ⟨b.val % 128, by omega⟩)) = ix2 i ⟨512 + b.val, by omega⟩ :=
    (eq_ix2 _).trans (congrArg₂ ix2 (Fin.ext (by show ((i.val * 4 + b.val / 128) * 128 + b.val % 128) / 512 = i.val; omega))
      (Fin.ext (by show 512 + ((i.val * 4 + b.val / 128) * 128 + b.val % 128) % 512 = 512 + b.val; omega)))
  rw [e, conv_eq]
  rfl

theorem v_eq (b : Fin 512) : (val_main_v38 (F := Ideal) p w (ix2 i b) : EReal) = vv (conv (px p) (pw w) i) b := by
  rw [val_main_v38_apply, show idx_main_v38 (ix2 i b) = ix2 i ⟨1024 + b.val, by omega⟩ from eq_ix2 _, conv_eq]
  rfl

/-! ## The gates -/

theorem beta_eq (l : Fin 4) : (val_main_v64 (F := Ideal) p (ix2 i l) : EReal) = beta (p (ix2 i ⟨2048 + l.val, by omega⟩)) := by
  rw [val_main_v64_apply, val_main_v62_apply, val_main_v60_apply, val_main_v59_apply, ← Ideal.subf_zero_eq_hostNegf, val_main_v4_apply,
    show idx_main_v4 (ix2 i l) = ix2 i ⟨2048 + l.val, by omega⟩ from eq_ix2 _]
  rfl

theorem pre_eq (l : Fin 4) : (val_main_v69 (F := Ideal) p dt (ix2 i l) : EReal) = p (ix2 i ⟨2052 + l.val, by omega⟩) + dt (ix1 l) := by
  rw [val_main_v69_apply, val_main_v5_apply, val_main_v68_apply, val_main_v67_apply,
    show idx_main_v5 (ix2 i l) = ix2 i ⟨2052 + l.val, by omega⟩ from eq_ix2 _, show idx_main_v67 (idx_main_v68 (ix2 i l)) = ix1 l from eq_ix1 _]
  rfl

theorem soft_eq (l : Fin 4) : (val_main_v70 (F := Ideal) p dt (ix2 i l) : EReal)
    = max (val_main_v69 (F := Ideal) p dt (ix2 i l) : EReal) zero
      + Ideal.log (one + Ideal.exp (zero - max (val_main_v69 (F := Ideal) p dt (ix2 i l) : EReal) (-(val_main_v69 (F := Ideal) p dt (ix2 i l) : EReal)))) := by
  rw [val_main_v70_apply, val_main_call2_v11_apply, val_main_call2_v10_apply, val_main_call2_v9_apply, val_main_call2_v8_apply,
    ← Ideal.subf_zero_eq_hostNegf, val_main_call2_v7_apply, val_main_call2_v4_apply, val_main_call2_v3_apply, val_main_call2_v1_apply]
  generalize (val_main_v69 (F := Ideal) p dt (ix2 i l) : EReal) = z
  have hz : (FloatOps.subf (F := Ideal) (φ := .f32) z (val_main_call2_v2 (F := Ideal) (ix2 i l)) : EReal) = z := by
    show z - Ideal.ofBits .f32 0x00000000#32 = z
    rw [Ideal.ofBits_zero_f32, sub_zero]
  rw [hz]
  have hn : FloatOps.cmpf (F := Ideal) (φ := .f32) .une z z = 0#1 := by
    show BitVec.ofBool (decide (z ≠ z)) = 0#1
    simp
  rw [hn]
  show max z zero + Ideal.log1p (Ideal.exp (zero - max z (-z))) = _
  rw [word_one]
  rfl

theorem decay_eq (l : Fin 4) : (val_main_v73 (F := Ideal) p al dt (ix2 i l) : EReal)
    = decay (p (ix2 i ⟨2052 + l.val, by omega⟩)) (dt (ix1 l)) (al (ix1 l)) := by
  rw [val_main_v73_apply, soft_eq, pre_eq, val_main_v72_apply, val_main_v71_apply, val_main_v66_apply, ← Ideal.subf_zero_eq_hostNegf, val_main_v65_apply,
    show idx_main_v71 (idx_main_v72 (ix2 i l)) = ix1 l from eq_ix1 _]
  rfl

theorem gate_eq (l : Fin 8) : (val_main_v74 (F := Ideal) p al dt (ix2 i l) : EReal) = gate (px p) (pv al) (pv dt) i l := by
  unfold val_main_v74 gate
  split
  · next h =>
    refine (concatenate_apply_piece _ _ _ (ix2 i l) 0 (by exact (show (0:ℕ) < 2 by decide)) S4096x4 _ rfl rfl 0 rfl (ix2 i ⟨l.val, h⟩) (fun d hd => ?_) ?_).trans ?_
    · obtain rfl := off d hd
      rfl
    · show 0 + l.val = l.val
      omega
    · exact beta_eq p i ⟨l.val, h⟩
  · next h =>
    refine (concatenate_apply_piece _ _ _ (ix2 i l) 1 (by exact (show (1:ℕ) < 2 by decide)) S4096x4 _ rfl rfl 4 rfl (ix2 i ⟨l.val - 4, by omega⟩) (fun d hd => ?_) ?_).trans ?_
    · obtain rfl := off d hd
      rfl
    · show 4 + (l.val - 4) = l.val
      omega
    · refine (decay_eq p al dt i ⟨l.val - 4, by omega⟩).trans ?_
      exact congrArg (fun b => decay (p (ix2 i b)) _ _) (Fin.ext (by show 2052 + (l.val - 4) = 2048 + l.val; omega))

theorem gates_eq (l : Fin 128) : (val_main_v77 (F := Ideal) p al dt (ix2 i l) : EReal) = gates (px p) (pv al) (pv dt) i l := by
  unfold val_main_v77 gates
  split
  · next h =>
    refine (pad_apply_of_inside _ _ _ _ _ _ _ _ (ix2 i ⟨l.val, h⟩) fun a => ?_).trans (gate_eq p al dt i ⟨l.val, h⟩)
    match a with
    | ⟨0, _⟩ => show i.val = 0 + i.val * (0 + 1); omega
    | ⟨1, _⟩ => show l.val = 0 + l.val * (0 + 1); omega
  · next h =>
    refine (pad_apply_of_not_inside _ _ _ _ _ _ _ _ 1 fun hh => ?_).trans (fill_eq _)
    have h2 : (l.val - 0) / (0 + 1) < 8 := hh.2.2
    omega

theorem gatesT_eq (l : Fin 8) : (val_main_v78 (F := Ideal) p al dt (ix2 l i) : EReal) = gate (px p) (pv al) (pv dt) i l := by
  rw [val_main_v78_apply, show idx_main_v78 (ix2 l i) = ix2 i l from eq_ix2 _, gate_eq]

end Cert.Kernel20Ideal.Ref

end
-- ==== Proof.PrepRun.lean ====
/-
  The convolution and gates: the five result arrays are the reference's.

    V_…, blk_…        the call's arguments and a point's blocks, from the program's arguments;
    tap_at, conv_at   the scratch's rows are the rows the taps see, and the convolution's row;
    arr_…             the result arrays, element by element;
    algebraic_prep    the claim.
-/
module

public import proofs.«01_k».proof.Defs
public import proofs.«01_k».proof.Proof.PrepPoint
public import proofs.«01_k».proof.Proof.PrepPay
public import proofs.«01_k».proof.Proof.PrepRef
public import Idealize.ShloMosaic.Lib.StableHlo.RunRead

@[expose] public section

set_option maxRecDepth 16384

noncomputable section

open Idealize.ShloMosaic Idealize.ShloMosaic.TcCoe Idealize.ShloMosaic.ValueIdx Idealize.SL.Sem

namespace Cert.Kernel20Ideal.Result

open Cert.Kernel20Ideal Cert.Kernel20Ideal.Gen Cert.Kernel20Ideal.Value Cert.Kernel20Ideal.Point Cert.Kernel20Ideal.Pay Cert.Shared Cert.Prep

section Kernel

variable (m : (ℓ : Loc nD τ sig) → Buf (Elt Ideal) ℓ) (c : Dev nD)

/-- The arguments: the projections, the convolution's weights, the decay's logarithms and the gate's shifts. -/
abbrev p : S4096x2056.Idx → EReal := m ((c : Thread nD τ).loc main_arg0)
abbrev w : S4x1536.Idx → EReal := m ((c : Thread nD τ).loc main_arg1)
abbrev al : S4.Idx → EReal := m ((c : Thread nD τ).loc main_arg2)
abbrev dt : S4.Idx → EReal := m ((c : Thread nD τ).loc main_arg3)

abbrev padv : (⟨S_, .f32⟩ : BufTy).Contents (Elt Ideal) := sitofp (F := Ideal) .f32 (constantI S_ 32 0#32 : (⟨S_, .i32⟩ : BufTy).Contents (Elt Ideal))

theorem V_p (i : Fin 4096) (b : Fin 2176) (h : b.val < 2056) : (V m c main_v0 : S4096x2176.Idx → EReal) (ix2 i b) = p m c (ix2 i ⟨b.val, h⟩) := by
  have e : (V m c main_v0 : S4096x2176.Idx → EReal) = pad S4096x2176 ![0, 0] ![0, 120] ![0, 0] (p m c : (⟨S4096x2056, .f32⟩ : BufTy).Contents (Elt Ideal))
      padv pads_S4096x2056_S4096x2176_000_01200 h_S_ := by
    unfold V hostOps0 hostOps0_1 hostOps0_2 hostOps0_3 hostOps0_4 hostOps0_5 hostOps0_6
    simp only [List.flatten_cons, List.flatten_nil, List.append_nil, List.cons_append, List.nil_append]
    after_reads_simp
    rfl
  rw [e]
  refine pad_apply_of_inside _ _ _ _ _ _ _ (ix2 i b) (ix2 i ⟨b.val, h⟩) fun a => ?_
  match a with
  | ⟨0, _⟩ => show i.val = 0 + i.val * (0 + 1); omega
  | ⟨1, _⟩ => show b.val = 0 + b.val * (0 + 1); omega

theorem V_al (l : Fin 128) (h4 : ¬l.val < 4) (h8 : l.val < 8) : (V m c main_v2 : S1x128.Idx → EReal) (ix2 0 l) = al m c (ix1 ⟨l.val - 4, by omega⟩) := by
  have e : (V m c main_v2 : S1x128.Idx → EReal) = broadcastInDim S1x128 ![1] bcast_S128_S1x128_1 (pad S128 ![4] ![120] ![0]
      (al m c : (⟨S4, .f32⟩ : BufTy).Contents (Elt Ideal)) padv pads_S4_S128_41200 h_S_) := by
    unfold V hostOps0 hostOps0_1 hostOps0_2 hostOps0_3 hostOps0_4 hostOps0_5 hostOps0_6
    simp only [List.flatten_cons, List.flatten_nil, List.append_nil, List.cons_append, List.nil_append]
    after_reads_simp
    rfl
  rw [e]
  refine (broadcastInDim_apply _ bcast_S128_S1x128_1 _ (ix2 0 l) (ix1 l) (fun a => match a with
    | ⟨0, _⟩ => by show l.val = if (128 : Nat) = 1 then 0 else l.val; rw [if_neg (by decide)])).trans ?_
  refine pad_apply_of_inside _ _ _ _ _ _ _ (ix1 l) (ix1 ⟨l.val - 4, by omega⟩) fun a => ?_
  match a with
  | ⟨0, _⟩ => show l.val = 4 + (l.val - 4) * (0 + 1); omega

theorem V_dt (l : Fin 128) (h4 : ¬l.val < 4) (h8 : l.val < 8) : (V m c main_v4 : S1x128.Idx → EReal) (ix2 0 l) = dt m c (ix1 ⟨l.val - 4, by omega⟩) := by
  have e : (V m c main_v4 : S1x128.Idx → EReal) = broadcastInDim S1x128 ![1] bcast_S128_S1x128_1 (pad S128 ![4] ![120] ![0]
      (dt m c : (⟨S4, .f32⟩ : BufTy).Contents (Elt Ideal)) padv pads_S4_S128_41200 h_S_) := by
    unfold V hostOps0 hostOps0_1 hostOps0_2 hostOps0_3 hostOps0_4 hostOps0_5 hostOps0_6
    simp only [List.flatten_cons, List.flatten_nil, List.append_nil, List.cons_append, List.nil_append]
    after_reads_simp
    rfl
  rw [e]
  refine (broadcastInDim_apply _ bcast_S128_S1x128_1 _ (ix2 0 l) (ix1 l) (fun a => match a with
    | ⟨0, _⟩ => by show l.val = if (128 : Nat) = 1 then 0 else l.val; rw [if_neg (by decide)])).trans ?_
  refine pad_apply_of_inside _ _ _ _ _ _ _ (ix1 l) (ix1 ⟨l.val - 4, by omega⟩) fun a => ?_
  match a with
  | ⟨0, _⟩ => show l.val = 4 + (l.val - 4) * (0 + 1); omega

/-! ## A point's blocks

Point `t` of the grid has the rows from `512 t` on. -/

theorem N_eq (t : Fin cfg0.N) : t.val < 8 := lt_of_lt_of_eq t.isLt N_0

/-- Row `a` of point `t`. -/
abbrev rw' (t : Fin cfg0.N) (a : Fin 512) : Fin 4096 := ⟨512 * t.val + a.val, by have := N_eq t; omega⟩

theorem crd : ∀ t : Fin grid0.N, (grid0.coords t 0).val = t.val := by decide +kernel
theorem idx_0 : ∀ t : Fin grid0.N, (win0_0.index t 0 = t.val) ∧ (win0_0.index t 1 = 0) := by decide +kernel
theorem idx_1 : ∀ t : Fin grid0.N, (win0_1.index t 0 = 64 * t.val - 1) ∧ (win0_1.index t 1 = 0) := by decide +kernel
theorem idx_2 : ∀ t : Fin grid0.N, (win0_2.index t 0 = t.val) ∧ (win0_2.index t 1 = 16) := by decide +kernel
theorem idx_3 : ∀ t : Fin grid0.N, (win0_3.index t 0 = 0) ∧ (win0_3.index t 1 = 0) := by decide +kernel
theorem idx_4 : ∀ t : Fin grid0.N, (win0_4.index t 0 = 0) ∧ (win0_4.index t 1 = 0) := by decide +kernel
theorem idx_5 : ∀ t : Fin grid0.N, (win0_5.index t 0 = 0) ∧ (win0_5.index t 1 = 0) := by decide +kernel
theorem idx_6 : ∀ t : Fin grid0.N, (win0_6.index t 0 = t.val) ∧ (win0_6.index t 1 = 0) := by decide +kernel
theorem idx_7 : ∀ t : Fin grid0.N, (win0_7.index t 0 = t.val) ∧ (win0_7.index t 1 = 0) := by decide +kernel
theorem idx_8 : ∀ t : Fin grid0.N, (win0_8.index t 0 = t.val) ∧ (win0_8.index t 1 = 0) := by decide +kernel
theorem idx_9 : ∀ t : Fin grid0.N, (win0_9.index t 0 = t.val) ∧ (win0_9.index t 1 = 0) := by decide +kernel
theorem idx_10 : ∀ t : Fin grid0.N, (win0_10.index t 0 = 0) ∧ (win0_10.index t 1 = t.val) := by decide +kernel

theorem blk_cur (t : Fin cfg0.N) (a : Fin 512) (b : Fin 1536) : (X0_0 m c t (ix2 a b) : EReal) = p m c (ix2 (rw' t a) ⟨b.val, by omega⟩) := by
  unfold X0_0 Pipeline.Window.fill
  rw [dif_pos (moved0_0 t (ix2 a b))]
  unfold iblk
  rw [View.read_apply]
  refine Eq.trans (congrArg (V m c main_v0 : S4096x2176.Idx → EReal) (funext fun d => Fin.ext ?_)) (V_p m c (rw' t a) ⟨b.val, by omega⟩ (by show b.val < 2056; omega))
  match d with
  | ⟨0, _⟩ => show win0_0.index t 0 * 512 + 1 * a.val = 512 * t.val + a.val; rw [(idx_0 t).1]; omega
  | ⟨1, _⟩ => show win0_0.index t 1 * 1536 + 1 * b.val = b.val; rw [(idx_0 t).2]; omega

theorem blk_prev (t : Fin cfg0.N) (ht : 0 < t.val) (r : Fin 8) (b : Fin 1536) :
    (X0_1 m c t (ix2 r b) : EReal) = p m c (ix2 ⟨512 * t.val - 8 + r.val, by have := N_eq t; omega⟩ ⟨b.val, by omega⟩) := by
  unfold X0_1 Pipeline.Window.fill
  rw [dif_pos (moved0_1 t (ix2 r b))]
  unfold iblk
  rw [View.read_apply]
  refine Eq.trans (congrArg (V m c main_v0 : S4096x2176.Idx → EReal) (funext fun d => Fin.ext ?_))
    (V_p m c ⟨512 * t.val - 8 + r.val, by have := N_eq t; omega⟩ ⟨b.val, by omega⟩ (by show b.val < 2056; omega))
  match d with
  | ⟨0, _⟩ => show win0_1.index t 0 * 8 + 1 * r.val = 512 * t.val - 8 + r.val; rw [(idx_1 t).1]; omega
  | ⟨1, _⟩ => show win0_1.index t 1 * 1536 + 1 * b.val = b.val; rw [(idx_1 t).2]; omega

theorem blk_z (t : Fin cfg0.N) (a : Fin 512) (l : Fin 128) (h : l.val < 8) :
    ((iblk m c 2 t : S512x128.Idx → EReal) (ix2 a l) : EReal) = p m c (ix2 (rw' t a) ⟨2048 + l.val, by omega⟩) := by
  unfold iblk
  rw [View.read_apply]
  refine Eq.trans (congrArg (V m c main_v0 : S4096x2176.Idx → EReal) (funext fun d => Fin.ext ?_))
    (V_p m c (rw' t a) ⟨2048 + l.val, by omega⟩ (by show 2048 + l.val < 2056; omega))
  match d with
  | ⟨0, _⟩ => show win0_2.index t 0 * 512 + 1 * a.val = 512 * t.val + a.val; rw [(idx_2 t).1]; omega
  | ⟨1, _⟩ => show win0_2.index t 1 * 128 + 1 * l.val = 2048 + l.val; rw [(idx_2 t).2]; omega

theorem blk_w (t : Fin cfg0.N) (j : Fin 4) (b : Fin 1536) : ((iblk m c 3 t : S4x1536.Idx → EReal) (ix2 j b) : EReal) = w m c (ix2 j b) := by
  unfold iblk
  rw [View.read_apply]
  show V m c main_arg1 _ = _
  rw [V_main_arg1]
  refine congrArg (w m c) (funext fun d => Fin.ext ?_)
  match d with
  | ⟨0, _⟩ => show win0_3.index t 0 * 4 + 1 * j.val = j.val; rw [(idx_3 t).1]; omega
  | ⟨1, _⟩ => show win0_3.index t 1 * 1536 + 1 * b.val = b.val; rw [(idx_3 t).2]; omega

theorem blk_al (t : Fin cfg0.N) (l : Fin 128) (h4 : ¬l.val < 4) (h8 : l.val < 8) :
    ((iblk m c 4 t : S1x128.Idx → EReal) (ix2 0 l) : EReal) = al m c (ix1 ⟨l.val - 4, by omega⟩) := by
  unfold iblk
  rw [View.read_apply]
  refine Eq.trans (congrArg (V m c main_v2 : S1x128.Idx → EReal) (funext fun d => Fin.ext ?_)) (V_al m c l h4 h8)
  match d with
  | ⟨0, _⟩ => show win0_4.index t 0 * 1 + 1 * 0 = 0; rw [(idx_4 t).1]
  | ⟨1, _⟩ => show win0_4.index t 1 * 128 + 1 * l.val = l.val; rw [(idx_4 t).2]; omega

theorem blk_dt (t : Fin cfg0.N) (l : Fin 128) (h4 : ¬l.val < 4) (h8 : l.val < 8) :
    ((iblk m c 5 t : S1x128.Idx → EReal) (ix2 0 l) : EReal) = dt m c (ix1 ⟨l.val - 4, by omega⟩) := by
  unfold iblk
  rw [View.read_apply]
  refine Eq.trans (congrArg (V m c main_v4 : S1x128.Idx → EReal) (funext fun d => Fin.ext ?_)) (V_dt m c l h4 h8)
  match d with
  | ⟨0, _⟩ => show win0_5.index t 0 * 1 + 1 * 0 = 0; rw [(idx_5 t).1]
  | ⟨1, _⟩ => show win0_5.index t 1 * 128 + 1 * l.val = l.val; rw [(idx_5 t).2]; omega

/-! ## The convolution -/

theorem pay3_apply (i : grid0.Coords) (hi : (i 0).val < 2 ^ 31) (v : Vec Ideal S8x1536 .f32) (r : Fin 8) (b : Fin 1536) :
    (k0_pay3 i v (ix2 r b) : EReal) = if 0 < (i 0).val then (v (ix2 r b) : EReal) else zero := by
  unfold k0_pay3
  simp only [shapeCast_self]
  show (Scalar.select (IntOp.cmpi .sgt (BitVec.ofNat 32 (i 0).val) (BitVec.ofNat 32 0)) v _ (ix2 r b) : EReal) = _
  rw [WordCmp.cmpi_sgt_ofNat (w := 32) hi (by norm_num)]
  unfold Scalar.select
  by_cases h : 0 < (i 0).val
  · simp only [h, decide_true, if_true]
    rfl
  · simp only [h, decide_false, if_false]
    rfl

/-- A load from the scratch is the row that the tap sees. -/
theorem tap_at (t : Fin cfg0.N) (j : ℕ) (hj : j < 4) (a : Fin 512) (b : Fin 1536) :
    (past (k0_pay3 (grid0.coords t) (X0_1 m c t)) (k0_pay4 (X0_0 m c t)) (5 + j + a.val) (by omega) b : EReal)
      = tap (Ref.px (p m c)) (rw' t a) j hj b := by
  have hN := N_eq t
  have hc := crd t
  unfold past
  split
  · next h =>
    rw [pay3_apply _ (by rw [hc]; omega), hc]
    split
    · next ht =>
      rw [blk_prev m c t ht]
      exact (tap_congr (Ref.px (p m c)) (rw' t a) j hj (show 3 ≤ 512 * t.val + a.val + j by omega) b _ _
        (by show 512 * t.val - 8 + (5 + j + a.val) + 3 = 512 * t.val + a.val + j; omega) rfl).symm
    · next ht =>
      unfold tap
      rw [dif_neg (show ¬3 ≤ 512 * t.val + a.val + j by omega)]
  · next h =>
    have e : k0_pay4 (X0_0 m c t) = (X0_0 m c t : Vec Ideal S512x1536 .f32) := by
      unfold k0_pay4
      simp only [shapeCast_self]
    rw [e, blk_cur m c t]
    exact (tap_congr (Ref.px (p m c)) (rw' t a) j hj (show 3 ≤ 512 * t.val + a.val + j by omega) b _ _
      (by show 512 * t.val + (5 + j + a.val - 8) + 3 = 512 * t.val + a.val + j; omega) rfl).symm

theorem wrow_at (t : Fin cfg0.N) (j : ℕ) (inb : ∀ a, (![j, 0] : Fin 2 → ℕ) a + S1x1536.size a ≤ S4x1536.size a) (hj : j < 4) (b : Fin 1536) :
    (View.ld (iblk m c 3 t) (Rect.unit (s := S4x1536) ![j, 0] S1x1536.size inb) (ix2 0 b) : EReal) = w m c (ix2 ⟨j, hj⟩ b) := by
  refine Eq.trans (congrArg (iblk m c 3 t : S4x1536.Idx → EReal) (funext fun d => Fin.ext ?_)) (blk_w m c t ⟨j, hj⟩ b)
  match d with
  | ⟨0, _⟩ => show j + 1 * 0 = j; omega
  | ⟨1, _⟩ => show 0 + 1 * b.val = b.val; omega

theorem conv_at (t : Fin cfg0.N) (a : Fin 512) :
    (fun b => (k0_pay7 (head m c t) (last m c t) (ix2 a b) : EReal)) = conv (Ref.px (p m c)) (Ref.pw (w m c)) (rw' t a) := by
  funext b
  refine (conv_apply _ _ _ _ _ _ _ _ a b).trans ?_
  rw [wrow_at m c t 0 _ (by omega), wrow_at m c t 1 _ (by omega), wrow_at m c t 2 _ (by omega), wrow_at m c t 3 _ (by omega),
    load _ _ _ 5 _ (by omega), load _ _ _ 6 _ (by omega), load _ _ _ 7 _ (by omega), load _ _ _ 8 _ (by omega)]
  have t0 := tap_at m c t 0 (by omega) a b
  have t1 := tap_at m c t 1 (by omega) a b
  have t2 := tap_at m c t 2 (by omega) a b
  have t3 := tap_at m c t 3 (by omega) a b
  unfold conv
  rw [← t0, ← t1, ← t2, ← t3]
  rfl

/-! ## The result arrays -/

/-- Every row is a row of a point. -/
theorem row_of (i : Fin 4096) : ∃ (t : Fin cfg0.N) (a : Fin 512), i = rw' t a :=
  ⟨⟨i.val / 512, by rw [show cfg0.N = 8 from N_0]; omega⟩, ⟨i.val % 512, Nat.mod_lt _ (by norm_num)⟩,
    Fin.ext (by show i.val = 512 * (i.val / 512) + i.val % 512; omega)⟩

theorem q_at (t : Fin cfg0.N) (a : Fin 512) (b : Fin 512) : ((outsAt0 m c t).1 (ix2 a b) : EReal) = qv (conv (Ref.px (p m c)) (Ref.pw (w m c)) (rw' t a)) b := by
  rw [← conv_at]
  exact (point_q m c t a b).trans (q_apply (head m c t) (last m c t) a b)

theorem k_at (t : Fin cfg0.N) (a : Fin 512) (b : Fin 512) : ((outsAt0 m c t).2.1 (ix2 a b) : EReal) = kv (conv (Ref.px (p m c)) (Ref.pw (w m c)) (rw' t a)) b := by
  rw [← conv_at]
  exact (point_k m c t a b).trans (k_apply (head m c t) (last m c t) a b)

theorem v_at (t : Fin cfg0.N) (a : Fin 512) (b : Fin 512) : ((outsAt0 m c t).2.2.1 (ix2 a b) : EReal) = vv (conv (Ref.px (p m c)) (Ref.pw (w m c)) (rw' t a)) b := by
  rw [← conv_at]
  exact (congrFun (point_v m c t) (ix2 a b)).trans (v_apply (head m c t) (last m c t) a b)

theorem lanes_at (t : Fin cfg0.N) (a : Fin 512) (b : Fin 128) :
    (k0_pay1 (k0_pay22 (iblk m c 2 t)) (k0_pay23 (iblk m c 2 t) (iblk m c 5 t)) (k0_pay24 (iblk m c 4 t)) (k0_pay25 (iblk m c 2 t) (iblk m c 5 t)) (ix2 a b) : EReal)
      = gates (Ref.px (p m c)) (Ref.pv (al m c)) (Ref.pv (dt m c)) (rw' t a) b := by
  refine (g_apply a (iblk m c 2 t) (iblk m c 5 t) (iblk m c 4 t) b).trans ?_
  unfold gates gate
  by_cases h4 : b.val < 4
  · rw [if_pos h4, dif_pos (show b.val < 8 by omega), dif_pos h4, blk_z m c t a b (by omega)]
  · rw [if_neg h4]
    by_cases h8 : b.val < 8
    · rw [if_pos h8, dif_pos h8, dif_neg h4, blk_z m c t a b h8, blk_dt m c t b h4 h8, blk_al m c t b h4 h8]
    · rw [if_neg h8, dif_neg h8]

theorem g_at (t : Fin cfg0.N) (a : Fin 512) (b : Fin 128) : ((outsAt0 m c t).2.2.2.1 (ix2 a b) : EReal)
    = gates (Ref.px (p m c)) (Ref.pv (al m c)) (Ref.pv (dt m c)) (rw' t a) b :=
  (congrFun (point_g m c t) (ix2 a b)).trans (lanes_at m c t a b)

theorem gt_at (t : Fin cfg0.N) (a : Fin 512) (b : Fin 8) : ((outsAt0 m c t).2.2.2.2 (ix2 b a) : EReal)
    = gate (Ref.px (p m c)) (Ref.pv (al m c)) (Ref.pv (dt m c)) (rw' t a) b := by
  refine (congrFun (point_gt m c t) (ix2 b a)).trans ((gt_apply a (iblk m c 2 t) (iblk m c 5 t) (iblk m c 4 t) b).trans ((lanes_at m c t a _).trans ?_))
  unfold gates
  rw [dif_pos (show b.val < 8 from b.isLt)]

theorem arr_q (i : Fin 4096) (b : Fin 512) : ((dats m 0 c).arrAt 6 cfg0.N : S4096x512.Idx → EReal) (ix2 i b) = qv (conv (Ref.px (p m c)) (Ref.pw (w m c)) i) b := by
  obtain ⟨t, a, rfl⟩ := row_of i
  have hb := congrFun (blocks6 m c t (flush0_6 t)) (ix2 (n0 := 512) (n1 := 512) a b)
  rw [View.read_apply, flushed6] at hb
  refine Eq.trans (congrArg ((dats m 0 c).arrAt 6 cfg0.N : S4096x512.Idx → EReal) (funext fun d => Fin.ext ?_)) (hb.trans (Eq.trans ?_ (q_at m c t a b)))
  · match d with
    | ⟨0, _⟩ => show 512 * t.val + a.val = win0_6.index t 0 * 512 + 1 * a.val; rw [(idx_6 t).1]; omega
    | ⟨1, _⟩ => show b.val = win0_6.index t 1 * 512 + 1 * b.val; rw [(idx_6 t).2]; omega
  · refine congrArg ((outsAt0 m c t).1 : S512x512.Idx → EReal) (funext fun d => Fin.ext ?_)
    match d with
    | ⟨0, _⟩ => rfl
    | ⟨1, _⟩ => rfl

theorem arr_k (i : Fin 4096) (b : Fin 512) : ((dats m 0 c).arrAt 7 cfg0.N : S4096x512.Idx → EReal) (ix2 i b) = kv (conv (Ref.px (p m c)) (Ref.pw (w m c)) i) b := by
  obtain ⟨t, a, rfl⟩ := row_of i
  have hb := congrFun (blocks7 m c t (flush0_7 t)) (ix2 (n0 := 512) (n1 := 512) a b)
  rw [View.read_apply, flushed7] at hb
  refine Eq.trans (congrArg ((dats m 0 c).arrAt 7 cfg0.N : S4096x512.Idx → EReal) (funext fun d => Fin.ext ?_)) (hb.trans (Eq.trans ?_ (k_at m c t a b)))
  · match d with
    | ⟨0, _⟩ => show 512 * t.val + a.val = win0_7.index t 0 * 512 + 1 * a.val; rw [(idx_7 t).1]; omega
    | ⟨1, _⟩ => show b.val = win0_7.index t 1 * 512 + 1 * b.val; rw [(idx_7 t).2]; omega
  · refine congrArg ((outsAt0 m c t).2.1 : S512x512.Idx → EReal) (funext fun d => Fin.ext ?_)
    match d with
    | ⟨0, _⟩ => rfl
    | ⟨1, _⟩ => rfl

theorem arr_v (i : Fin 4096) (b : Fin 512) : ((dats m 0 c).arrAt 8 cfg0.N : S4096x512.Idx → EReal) (ix2 i b) = vv (conv (Ref.px (p m c)) (Ref.pw (w m c)) i) b := by
  obtain ⟨t, a, rfl⟩ := row_of i
  have hb := congrFun (blocks8 m c t (flush0_8 t)) (ix2 (n0 := 512) (n1 := 512) a b)
  rw [View.read_apply, flushed8] at hb
  refine Eq.trans (congrArg ((dats m 0 c).arrAt 8 cfg0.N : S4096x512.Idx → EReal) (funext fun d => Fin.ext ?_)) (hb.trans (Eq.trans ?_ (v_at m c t a b)))
  · match d with
    | ⟨0, _⟩ => show 512 * t.val + a.val = win0_8.index t 0 * 512 + 1 * a.val; rw [(idx_8 t).1]; omega
    | ⟨1, _⟩ => show b.val = win0_8.index t 1 * 512 + 1 * b.val; rw [(idx_8 t).2]; omega
  · refine congrArg ((outsAt0 m c t).2.2.1 : S512x512.Idx → EReal) (funext fun d => Fin.ext ?_)
    match d with
    | ⟨0, _⟩ => rfl
    | ⟨1, _⟩ => rfl

theorem arr_g (i : Fin 4096) (b : Fin 128) : ((dats m 0 c).arrAt 9 cfg0.N : S4096x128.Idx → EReal) (ix2 i b) = gates (Ref.px (p m c)) (Ref.pv (al m c)) (Ref.pv (dt m c)) i b := by
  obtain ⟨t, a, rfl⟩ := row_of i
  have hb := congrFun (blocks9 m c t (flush0_9 t)) (ix2 (n0 := 512) (n1 := 128) a b)
  rw [View.read_apply, flushed9] at hb
  refine Eq.trans (congrArg ((dats m 0 c).arrAt 9 cfg0.N : S4096x128.Idx → EReal) (funext fun d => Fin.ext ?_)) (hb.trans (Eq.trans ?_ (g_at m c t a b)))
  · match d with
    | ⟨0, _⟩ => show 512 * t.val + a.val = win0_9.index t 0 * 512 + 1 * a.val; rw [(idx_9 t).1]; omega
    | ⟨1, _⟩ => show b.val = win0_9.index t 1 * 128 + 1 * b.val; rw [(idx_9 t).2]; omega
  · refine congrArg ((outsAt0 m c t).2.2.2.1 : S512x128.Idx → EReal) (funext fun d => Fin.ext ?_)
    match d with
    | ⟨0, _⟩ => rfl
    | ⟨1, _⟩ => rfl

theorem arr_gt (i : Fin 4096) (b : Fin 8) : ((dats m 0 c).arrAt 10 cfg0.N : S8x4096.Idx → EReal) (ix2 b i) = gate (Ref.px (p m c)) (Ref.pv (al m c)) (Ref.pv (dt m c)) i b := by
  obtain ⟨t, a, rfl⟩ := row_of i
  have hb := congrFun (blocks10 m c t (flush0_10 t)) (ix2 (n0 := 8) (n1 := 512) b a)
  rw [View.read_apply, flushed10] at hb
  refine Eq.trans (congrArg ((dats m 0 c).arrAt 10 cfg0.N : S8x4096.Idx → EReal) (funext fun d => Fin.ext ?_)) (hb.trans (Eq.trans ?_ (gt_at m c t a b)))
  · match d with
    | ⟨0, _⟩ => show b.val = win0_10.index t 0 * 8 + 1 * b.val; rw [(idx_10 t).1]; omega
    | ⟨1, _⟩ => show 512 * t.val + a.val = win0_10.index t 1 * 512 + 1 * a.val; rw [(idx_10 t).2]; omega
  · refine congrArg ((outsAt0 m c t).2.2.2.2 : S8x512.Idx → EReal) (funext fun d => Fin.ext ?_)
    match d with
    | ⟨0, _⟩ => rfl
    | ⟨1, _⟩ => rfl

end Kernel

end Cert.Kernel20Ideal.Result

namespace Cert.Proof

open Cert.Kernel20Ideal.Result Cert.Reference20Ideal.Read Cert.Shared

/-- The reference's run leaves its arguments and closes every semaphore. -/
theorem frame_reference20 : Cert.quiescent_Reference20Ideal := fun m ρ _ =>
  (θ_run Cert.Reference20Ideal.defs _ _).mono (fun r h => ⟨fun c => (h c).2.2.2.2.2,
      Idealize.ShloMosaic.sem_eq_zero_of_no_sems (by decide) r.2⟩)
    (Cert.Reference20Ideal.Value.run (F := Ideal) m ρ)

/-- The two programs, run on memories that hold the same arguments, leave the same five results. -/
theorem algebraic_prep : Cert.algebraic_Kernel20Ideal_Reference20Ideal := by
  intro m ρ m' ρ' _ hagree
  refine ⟨fun c => val_main_v75 (F := Ideal) (p m c) (w m c), fun c => val_main_v76 (F := Ideal) (p m c) (w m c),
    fun c => val_main_v38 (F := Ideal) (p m c) (w m c), fun c => val_main_v77 (F := Ideal) (p m c) (al m c) (dt m c),
    fun c => val_main_v78 (F := Ideal) (p m c) (al m c) (dt m c), ?_, ?_⟩
  · refine (θ_run Cert.Kernel20Ideal.defs _ _).mono (fun r hr c => ?_) (Cert.Kernel20Ideal.Value.run_blocks (F := Ideal) m ρ)
    obtain ⟨h0, h1, h2, h3, h4, ha⟩ := hr c
    exact ⟨h0.trans (ext2 _ _ fun i b => (arr_q m c i b).trans (Cert.Kernel20Ideal.Ref.q_eq _ _ i b).symm),
      h1.trans (ext2 _ _ fun i b => (arr_k m c i b).trans (Cert.Kernel20Ideal.Ref.k_eq _ _ i b).symm),
      h2.trans (ext2 _ _ fun i b => (arr_v m c i b).trans (Cert.Kernel20Ideal.Ref.v_eq _ _ i b).symm),
      h3.trans (ext2 _ _ fun i b => (arr_g m c i b).trans (Cert.Kernel20Ideal.Ref.gates_eq _ _ _ i b).symm),
      h4.trans (ext2 _ _ fun b i => (arr_gt m c i b).trans (Cert.Kernel20Ideal.Ref.gatesT_eq _ _ _ i b).symm), ha⟩
  · refine (θ_run Cert.Reference20Ideal.defs _ _).mono (fun r hr c => ?_) (Cert.Reference20Ideal.Value.run (F := Ideal) m' ρ')
    obtain ⟨h0, h1, h2, h3, h4, ha⟩ := hr c
    obtain ⟨a0, a1, a2, a3⟩ := hagree c
    refine ⟨(h0.trans (val_main_v75_eq m' c)).trans ?_, (h1.trans (val_main_v76_eq m' c)).trans ?_, (h2.trans (val_main_v38_eq m' c)).trans ?_,
      (h3.trans (val_main_v77_eq ..)).trans ?_, (h4.trans (val_main_v78_eq ..)).trans ?_, ha⟩
    · exact congrArg₂ (val_main_v75 (F := Ideal)) a0 a1
    · exact congrArg₂ (val_main_v76 (F := Ideal)) a0 a1
    · exact congrArg₂ (val_main_v38 (F := Ideal)) a0 a1
    · rw [a0, a2, a3]
    · rw [a0, a2, a3]

end Cert.Proof

end
-- ==== Proof.AttnPoint.lean ====
/-
  The attention call: what one point's body leaves in its block, as sixteen pieces of 128 rows and 64 columns.

    scoreV, shareV, headV   the body's values for one half of the rows and one head;
    tile, read_tiles        the sixteen stores, read back;
    point                   the block, in the body's own values.
-/
module

public import proofs.«01_k».proof.Proof.Gen.Kernel21Ideal.Value
public import Idealize.ShloMosaic.Lib.ValueIdx
public import Idealize.ShloMosaic.Lib.WritesUnit
public import Idealize.ShloMosaic.Lib.Pipeline.ReadBack

@[expose] public section

set_option maxRecDepth 65536

noncomputable section

open Idealize.ShloMosaic Idealize.ShloMosaic.TcCoe Idealize.ShloMosaic.ValueIdx Idealize.SL.Sem

namespace Cert.Kernel21Ideal.Point

open Cert.Kernel21Ideal Cert.Kernel21Ideal.Gen Cert.Kernel21Ideal.Value

theorem hz : (![0, 0] : Fin 2 → Nat) = fun _ => 0 := funext fun a => by fin_cases a <;> rfl

section Stores

variable {F : FTy → Type} [FloatOps F]

/-- The scores of a half's 128 queries of one head against 256 keys. -/
def scoreV (o0 o1 : ℕ) (h : S256x512.Slices ![o0, o1] S128x64) (q : FVec F S256x512 .f32) (K : FVec F S256x64 .f32) : FVec F S256x128 .f32 :=
  matmul dot_S256x64_S128x64_S256x128_1_1_0_0_n_n none K (extractStridedSlice S128x64 ![o0, o1] q h) (constant S256x128 .f32 0x00000000#32)

/-- The sink of one head. -/
def sinkV (hw : BitVec 32) (sk : FVec F S1x128 .f32) : FVec F S1x1 .f32 :=
  shapeCast S1x1 (multiReduction .add [1] S1 (select (cmpi .eq (iota .tc S1x128 32 [1] iota_S1x128_d1_w32) (broadcast S1x128 hw)) sk
    (broadcast S1x128 (Scalar.ofBits .f32 0x00000000#32 : F .f32))) 0x00000000#32 reduces_S1x128_S1 (.inl rfl) rfl) shapeCasts_S1_S1x1

/-- The masked and scaled scores, the greatest of them and the sink, the exponentials, the shares. -/
def maskedV (mask : IVec S256x128 1) (st : FVec F S256x128 .f32) : FVec F S256x128 .f32 :=
  select mask (mulf st (broadcast S256x128 (Scalar.ofBits .f32 0x3E000000#32 : F .f32))) (broadcast S256x128 (Scalar.ofBits .f32 0xFF800000#32 : F .f32))
def topV (s1 : FVec F S1x1 .f32) (s : FVec F S256x128 .f32) : FVec F S1x128 .f32 :=
  maximumf (shapeCast S1x128 (multiReduction .maximumf [0] S128 s 0xFF800000#32 reduces_S256x128_S128 (.inl rfl) rfl) shapeCasts_S128_S1x128)
    (broadcastTo S1x128 s1 broadcasts_S1x1_S1x128)
def expV (mask : IVec S256x128 1) (s : FVec F S256x128 .f32) (m : FVec F S1x128 .f32) : FVec F S256x128 .f32 :=
  select mask (exp (subf s (broadcastTo S256x128 m broadcasts_S1x128_S256x128))) (broadcast S256x128 (Scalar.ofBits .f32 0x00000000#32 : F .f32))
def totalV (s1 : FVec F S1x1 .f32) (e : FVec F S256x128 .f32) (m : FVec F S1x128 .f32) : FVec F S1x128 .f32 :=
  addf (shapeCast S1x128 (multiReduction .add [0] S128 e 0x00000000#32 reduces_S256x128_S128 (.inl rfl) rfl) shapeCasts_S128_S1x128)
    (exp (subf (broadcastTo S1x128 s1 broadcasts_S1x1_S1x128) m))
def divV (e : FVec F S256x128 .f32) (d : FVec F S1x128 .f32) : FVec F S256x128 .f32 :=
  mulf e (broadcastTo S256x128 (divf (broadcast S1x128 (Scalar.ofBits .f32 0x3F800000#32 : F .f32)) d) broadcasts_S1x128_S256x128)
def shareV (s1 : FVec F S1x1 .f32) (mask : IVec S256x128 1) (s : FVec F S256x128 .f32) : FVec F S256x128 .f32 :=
  divV (expV mask s (topV s1 s)) (totalV s1 (expV mask s (topV s1 s)) (topV s1 s))

/-- A half's block of one head. -/
def outV (Vt : FVec F S64x256 .f32) (p : FVec F S256x128 .f32) : FVec F S128x64 .bf16 :=
  truncf .bf16 (transpose S128x64 [1, 0] (matmul dot_S64x256_S256x128_S64x128_1_0_0_1_n_n none Vt p (constant S64x128 .f32 0x00000000#32))
    transposes_S64x128_p1_0_S128x64) bitsLt_bf16_f32

theorem slc (s : Fin 2) (h : Fin 8) : S256x512.Slices ![128 * s.val, 64 * h.val] S128x64 := by
  revert s h; decide

def headV (sk : FVec F S1x128 .f32) (mask : Fin 2 → IVec S256x128 1) (q : FVec F S256x512 .f32) (K : Fin 2 → Fin 2 → FVec F S256x64 .f32)
    (Vt : Fin 2 → Fin 2 → FVec F S64x256 .f32) (s : Fin 2) (h : Fin 8) : FVec F S128x64 .bf16 :=
  outV (Vt s ⟨h.val / 4, by omega⟩) (shareV (sinkV (BitVec.ofNat 32 h.val) sk) (mask s)
    (maskedV (mask s) (scoreV (128 * s.val) (64 * h.val) (slc s h) q (K s ⟨h.val / 4, by omega⟩))))

/-- Sixteen blocks, two down and eight across. -/
def tile (p : Fin 2 → Fin 8 → Vec F S128x64 .bf16) (a : Fin 256) (b : Fin 512) : F .bf16 :=
  p ⟨a.val / 128, by omega⟩ ⟨b.val / 64, by omega⟩ (ix2 ⟨a.val % 128, by omega⟩ ⟨b.val % 64, by omega⟩)

theorem read_one {sig : RefSig} {κ : Kind} {sp : Space} (w : View sig κ sp S256x512 .bf16) (f : w.ty.Contents (Elt F))
    (p : Fin 2 → Fin 8 → Vec F S128x64 .bf16) (s : Fin 2) (h : Fin 8) (o0 o1 : ℕ) (h0 : o0 = 128 * s.val) (h1 : o1 = 64 * h.val)
    (inb : ∀ a, (![o0, o1] : Fin 2 → ℕ) a + (![128, 64] : Fin 2 → ℕ) a ≤ S256x512.size a) (L : List (View.Piece (Elt F) S256x512 .bf16))
    (a : Fin 256) (b : Fin 512)
    (n : ℕ) (hn : n = 8 * s.val + h.val) (hk : 8 * (a.val / 128) + b.val / 64 < n + 1)
    (hL : 8 * (a.val / 128) + b.val / 64 < n → w.read (Elt F) (w.writes (Elt F) f L) (ix2 a b) = tile p a b) :
    w.read (Elt F) (w.writes (Elt F) f (⟨Rect.unit ![o0, o1] ![128, 64] inb, p s h⟩ :: L)) (ix2 a b) = tile p a b := by
  by_cases hc : a.val / 128 = s.val ∧ b.val / 64 = h.val
  · refine (View.read_writes_cons_unit_of_mem w f inb (p s h) _ (ix2 a b) (ix2 ⟨a.val % 128, by omega⟩ ⟨b.val % 64, by omega⟩) rfl fun d => ?_).trans ?_
    · match d with
      | ⟨0, _⟩ => show a.val = o0 + a.val % 128; omega
      | ⟨1, _⟩ => show b.val = o1 + b.val % 64; omega
    · unfold tile
      rw [show (⟨a.val / 128, by omega⟩ : Fin 2) = s from Fin.ext hc.1, show (⟨b.val / 64, by omega⟩ : Fin 8) = h from Fin.ext hc.2]
  · refine Eq.trans ?_ (hL (by omega))
    by_cases h0' : a.val / 128 = s.val
    · exact View.read_writes_cons_unit_of_not_mem _ _ _ _ _ _ rfl 1 (show b.val < o1 ∨ o1 + 64 ≤ b.val by omega)
    · exact View.read_writes_cons_unit_of_not_mem _ _ _ _ _ _ rfl 0 (show a.val < o0 ∨ o0 + 128 ≤ a.val by omega)

theorem read_tiles {sig : RefSig} {κ : Kind} {sp : Space} (w : View sig κ sp S256x512 .bf16) (f : w.ty.Contents (Elt F))
    (p : Fin 2 → Fin 8 → Vec F S128x64 .bf16) (a : Fin 256) (b : Fin 512) :
    w.read (Elt F) (w.writes (Elt F) f [
      ⟨Rect.unit ![128, 448] ![128, 64] inb_S256x512_S128x64_128_448, p 1 7⟩,
      ⟨Rect.unit ![128, 384] ![128, 64] inb_S256x512_S128x64_128_384, p 1 6⟩,
      ⟨Rect.unit ![128, 320] ![128, 64] inb_S256x512_S128x64_128_320, p 1 5⟩,
      ⟨Rect.unit ![128, 256] ![128, 64] inb_S256x512_S128x64_128_256, p 1 4⟩,
      ⟨Rect.unit ![128, 192] ![128, 64] inb_S256x512_S128x64_128_192, p 1 3⟩,
      ⟨Rect.unit ![128, 128] ![128, 64] inb_S256x512_S128x64_128_128, p 1 2⟩,
      ⟨Rect.unit ![128, 64] ![128, 64] inb_S256x512_S128x64_128_64, p 1 1⟩,
      ⟨Rect.unit ![128, 0] ![128, 64] inb_S256x512_S128x64_128_0, p 1 0⟩,
      ⟨Rect.unit ![0, 448] ![128, 64] inb_S256x512_S128x64_0_448, p 0 7⟩,
      ⟨Rect.unit ![0, 384] ![128, 64] inb_S256x512_S128x64_0_384, p 0 6⟩,
      ⟨Rect.unit ![0, 320] ![128, 64] inb_S256x512_S128x64_0_320, p 0 5⟩,
      ⟨Rect.unit ![0, 256] ![128, 64] inb_S256x512_S128x64_0_256, p 0 4⟩,
      ⟨Rect.unit ![0, 192] ![128, 64] inb_S256x512_S128x64_0_192, p 0 3⟩,
      ⟨Rect.unit ![0, 128] ![128, 64] inb_S256x512_S128x64_0_128, p 0 2⟩,
      ⟨Rect.unit ![0, 64] ![128, 64] inb_S256x512_S128x64_0_64, p 0 1⟩,
      ⟨Rect.unit ![0, 0] ![128, 64] inb_S256x512_S128x64_0_0, p 0 0⟩]) (ix2 a b) = tile p a b := by
  have hk : 8 * (a.val / 128) + b.val / 64 < 15 + 1 := by omega
  refine read_one w f p 1 7 _ _ rfl rfl _ _ a b 15 rfl hk fun hk => ?_
  refine read_one w f p 1 6 _ _ rfl rfl _ _ a b 14 rfl hk fun hk => ?_
  refine read_one w f p 1 5 _ _ rfl rfl _ _ a b 13 rfl hk fun hk => ?_
  refine read_one w f p 1 4 _ _ rfl rfl _ _ a b 12 rfl hk fun hk => ?_
  refine read_one w f p 1 3 _ _ rfl rfl _ _ a b 11 rfl hk fun hk => ?_
  refine read_one w f p 1 2 _ _ rfl rfl _ _ a b 10 rfl hk fun hk => ?_
  refine read_one w f p 1 1 _ _ rfl rfl _ _ a b 9 rfl hk fun hk => ?_
  refine read_one w f p 1 0 _ _ rfl rfl _ _ a b 8 rfl hk fun hk => ?_
  refine read_one w f p 0 7 _ _ rfl rfl _ _ a b 7 rfl hk fun hk => ?_
  refine read_one w f p 0 6 _ _ rfl rfl _ _ a b 6 rfl hk fun hk => ?_
  refine read_one w f p 0 5 _ _ rfl rfl _ _ a b 5 rfl hk fun hk => ?_
  refine read_one w f p 0 4 _ _ rfl rfl _ _ a b 4 rfl hk fun hk => ?_
  refine read_one w f p 0 3 _ _ rfl rfl _ _ a b 3 rfl hk fun hk => ?_
  refine read_one w f p 0 2 _ _ rfl rfl _ _ a b 2 rfl hk fun hk => ?_
  refine read_one w f p 0 1 _ _ rfl rfl _ _ a b 1 rfl hk fun hk => ?_
  refine read_one w f p 0 0 _ _ rfl rfl _ _ a b 0 rfl hk fun hk => ?_
  exact absurd hk (Nat.not_lt_zero _)

end Stores

section Steps

variable {F : FTy → Type} [FloatOps F]
variable (m : (ℓ : Loc nD τ sig) → Buf (Elt F) ℓ) (c : Dev nD) (t : Fin cfg0.N)

/-- The rotated queries and keys, the masks, and the halves' windows of keys and values. -/
abbrev qV : FVec F S256x512 .f32 := k0_pay7 (iblk m c 5 t) (iblk m c 6 t) (X0_0 m c t)
abbrev kcV : FVec F S256x128 .f32 :=
  k0_pay10 (k0_pay6 (iblk m c 6 t)) (iblk m c 1 t) (k0_pay8 (iblk m c 5 t) (iblk m c 1 t)) (Scalar.select (Scalar.cmpi .eq 64#32 0#32) 1#32 64#32) k0_pay9
abbrev kpV : FVec F S128x128 .f32 :=
  k0_pay14 (iblk m c 2 t) (k0_pay11 (iblk m c 8 t)) (k0_pay12 (iblk m c 2 t) (iblk m c 7 t)) k0_pay13
def maskV (i : BitVec 32) : Fin 2 → IVec S256x128 1 := ![k0_pay16 i, k0_pay17]

def catV (o : ℕ) (hp : S128x128.Slices ![0, o] S128x64) (hc : S256x128.Slices ![0, o] S128x64) (p : FVec F S128x128 .f32) (u : FVec F S256x128 .f32) :
    FVec F S256x64 .f32 :=
  concatenate S256x64 0 [⟨S128x64, extractStridedSlice S128x64 ![0, o] p hp⟩, ⟨S128x64, extractStridedSlice S128x64 ![0, o] u hc⟩]
    concatenates_S128x64_S128x64_S256x64_d0
def windowV (p : FVec F S128x128 .f32) (u : FVec F S256x128 .f32) : Fin 2 → Fin 2 → FVec F S256x64 .f32 :=
  ![![catV 0 slices_S128x128_o0_0_S128x64 slices_S256x128_o0_0_S128x64 p u, catV 64 slices_S128x128_o0_64_S128x64 slices_S256x128_o0_64_S128x64 p u],
    ![extractStridedSlice S256x64 ![0, 0] u slices_S256x128_o0_0_S256x64, extractStridedSlice S256x64 ![0, 64] u slices_S256x128_o0_64_S256x64]]
def turnedV (w : Fin 2 → Fin 2 → FVec F S256x64 .f32) (s g : Fin 2) : FVec F S64x256 .f32 := transpose S64x256 [1, 0] (w s g) transposes_S256x64_p1_0_S64x256

/-- A point's sixteen blocks. -/
def blockV : Fin 2 → Fin 8 → Vec F S128x64 .bf16 :=
  headV (k0_pay15 (iblk m c 9 t)) (maskV (BitVec.ofNat 32 (grid0.coords t 0).val)) (qV m c t) (windowV (kpV m c t) (kcV m c t))
    (turnedV (windowV (iblk m c 4 t) (iblk m c 3 t)))

theorem point (a : Fin 256) (b : Fin 512) : outsAt0 m c t (ix2 a b) = tile (blockV m c t) a b := by
  unfold outsAt0
  unfold out0_A_10
  unfold kernelRun0_A
  dsimp only
  try sl_unfold_words
  simp only [View.readAt_eq_ld, Memref.IsWhole.read_unread, View.ld_unit_zero (S := S256x512) hz, View.ld_unit_zero (S := S256x128) hz,
    View.ld_unit_zero (S := S128x128) hz, View.ld_unit_zero (S := S1x128) hz]
  refine Eq.trans ?_ (read_tiles VO0_10 VO0_10.junk (blockV m c t) a b)
  rfl

end Steps

end Cert.Kernel21Ideal.Point
-- ==== Proof.AttnMath.lean ====
/-
  Attention of one query over a window of 256 keys, of which some are valid, with a sink beside them, as arithmetic on
  extended reals; and the rotary embedding of a row of 64.
-/
module

public import Idealize.ShloMosaic.PureOps.Ideal.Laws

@[expose] public section

noncomputable section

open Idealize.ShloMosaic

namespace Cert.Attn

/-- Zero, one, the scores' scale and minus infinity. -/
abbrev zero : EReal := Ideal.ofBits .f32 0x00000000#32
abbrev one : EReal := Ideal.ofBits .f32 0x3F800000#32
abbrev scale : EReal := Ideal.ofBits .f32 0x3E000000#32
abbrev low : EReal := Ideal.ofBits .f32 0xFF800000#32

theorem low_eq : low = ⊥ := by simp [low, Ideal.ofBits, Ideal.ieee]

section Window

variable (v : Fin 256 → Prop) [DecidablePred v] (q : Fin 64 → EReal) (K V : Fin 256 → Fin 64 → EReal) (sk : EReal)

/-- A key's score: minus infinity where the key is not valid. -/
def score (c : Fin 256) : EReal := if v c then (∑ d, K c d * q d) * scale else low

/-- The greatest of the scores and the sink. -/
def top : EReal := max ((Finset.univ : Finset (Fin 256)).fold max low (score v q K)) sk

/-- A key's exponential, zero where the key is not valid; their sum with the sink's; a key's share of it. -/
def ex (c : Fin 256) : EReal := if v c then Ideal.exp (score v q K c - top v q K sk) else zero
def total : EReal := (∑ c, ex v q K sk c) + Ideal.exp (sk - top v q K sk)
def share (c : Fin 256) : EReal := ex v q K sk c * Ideal.div one (total v q K sk)

/-- The query's value. -/
def out (d : Fin 64) : EReal := ∑ c, V c d * share v q K sk c

end Window

/-- The exponential needs no second mask: the score already is minus infinity there. -/
theorem ex_eq (v : Fin 256 → Prop) [DecidablePred v] (q : Fin 64 → EReal) (K : Fin 256 → Fin 64 → EReal) (sk : EReal) (c : Fin 256) :
    Ideal.exp (score v q K c - top v q K sk) = ex v q K sk c := by
  unfold ex
  split
  · rfl
  · next h =>
    have : score v q K c = ⊥ := by unfold score; rw [if_neg h, low_eq]
    rw [this, sub_eq_add_neg, EReal.bot_add, Ideal.exp_bot]
    exact Ideal.ofBits_zero_f32.symm

/-- Only the valid keys and their values count. -/
theorem out_congr (v v' : Fin 256 → Prop) [DecidablePred v] [DecidablePred v'] (q q' : Fin 64 → EReal) (K K' V V' : Fin 256 → Fin 64 → EReal)
    (sk sk' : EReal) (hv : ∀ c, v c ↔ v' c) (hq : q = q') (hK : ∀ c, v c → K c = K' c) (hV : ∀ c, v c → V c = V' c) (hs : sk = sk') (d : Fin 64) :
    out v q K V sk d = out v' q' K' V' sk' d := by
  subst hq hs
  have e1 : score v q K = score v' q K' := funext fun c => by
    unfold score
    by_cases h : v c
    · rw [if_pos h, if_pos ((hv c).1 h), hK c h]
    · rw [if_neg h, if_neg (fun h' => h ((hv c).2 h'))]
  have e2 : top v q K sk = top v' q K' sk := by unfold top; rw [e1]
  have e3 : ex v q K sk = ex v' q K' sk := funext fun c => by
    unfold ex
    rw [e1, e2]
    by_cases h : v c
    · rw [if_pos h, if_pos ((hv c).1 h)]
    · rw [if_neg h, if_neg (fun h' => h ((hv c).2 h'))]
  have e4 : share v q K sk = share v' q K' sk := funext fun c => by
    unfold share total
    rw [e3, e2]
  unfold out
  refine Finset.sum_congr rfl fun c _ => ?_
  rw [← e4]
  by_cases h : v c
  · rw [hV c h]
  · have : share v q K sk c = 0 := by
      unfold share ex
      rw [if_neg h, show zero = 0 from Ideal.ofBits_zero_f32, zero_mul]
    rw [this, mul_zero, mul_zero]

/-- The rotary embedding of a row of 64: its two halves turned by the 32 angles. -/
def rot (t : Fin 64 → EReal) (c s : Fin 32 → EReal) (d : Fin 64) : EReal :=
  if h : d.val < 32 then t d * c ⟨d.val, h⟩ - t ⟨d.val + 32, by omega⟩ * s ⟨d.val, h⟩
  else t d * c ⟨d.val - 32, by omega⟩ + t ⟨d.val - 32, by omega⟩ * s ⟨d.val - 32, by omega⟩

section Rows

variable (p : Fin 4096 → Fin 768 → EReal) (c s : Fin 4096 → Fin 32 → EReal) (k : Fin 8 → EReal)

/-- A row's queries by head, its keys and values by pair of heads' quartet. -/
def qrow (i : Fin 4096) (h : Fin 8) : Fin 64 → EReal := rot (fun d => p i ⟨64 * h.val + d.val, by omega⟩) (c i) (s i)
def krow (i : Fin 4096) (g : Fin 2) : Fin 64 → EReal := rot (fun d => p i ⟨512 + 64 * g.val + d.val, by omega⟩) (c i) (s i)
def vrow (i : Fin 4096) (g : Fin 2) : Fin 64 → EReal := fun d => p i ⟨640 + 64 * g.val + d.val, by omega⟩

/-- The window of a block of 128 rows: the block before it, then itself; zero before the first. -/
def win (f : Fin 4096 → Fin 2 → Fin 64 → EReal) (n : Fin 32) (g : Fin 2) (e : Fin 256) : Fin 64 → EReal :=
  if h : 128 ≤ 128 * n.val + e.val then f ⟨128 * n.val + e.val - 128, by omega⟩ g else fun _ => zero

/-- The keys a query of its block sees: the 128 up to itself, none before the first row. -/
def seen (n : Fin 32) (r : Fin 128) (e : Fin 256) : Prop := (r.val < e.val ∧ e.val ≤ r.val + 128) ∧ 128 ≤ 128 * n.val + e.val

instance (n : Fin 32) (r : Fin 128) : DecidablePred (seen n r) := fun e => by unfold seen; infer_instance

/-- The attention's value at a block's row, a head and a column. -/
def att (n : Fin 32) (r : Fin 128) (h : Fin 8) (d : Fin 64) : EReal :=
  out (seen n r) (qrow p c s ⟨128 * n.val + r.val, by omega⟩ h) (win (krow p c s) n ⟨h.val / 4, by omega⟩)
    (win (vrow p) n ⟨h.val / 4, by omega⟩) (k h) d

end Rows

end Cert.Attn
-- ==== Proof.AttnPay.lean ====
/-
  The attention call: each of the body's values at an element, and a half's block of one head as the attention of its
  queries over their windows.
-/
module

public import proofs.«01_k».proof.Proof.AttnMath
public import proofs.«01_k».proof.Proof.AttnPoint
public import proofs.«01_k».proof.Proof.Shared
public import Idealize.ShloMosaic.Lib.WordCmp
public import Idealize.ShloMosaic.Lib.KernelVsHost
public import Idealize.ShloMosaic.PureOps.Ideal.Laws

@[expose] public section

set_option maxRecDepth 16384

noncomputable section

open Idealize.ShloMosaic Idealize.ShloMosaic.TcCoe Idealize.ShloMosaic.ValueIdx Idealize.SL.Sem

namespace Cert.Kernel21Ideal.Pay

open Cert.Kernel21Ideal Cert.Kernel21Ideal.Gen Cert.Kernel21Ideal.Point Cert.Attn Cert.Shared

/-! ## The rotary embedding -/

theorem rot_kernel (t : Fin 64 → EReal) (c s : Fin 32 → EReal) (d : Fin 64) (x y C S : EReal) (hx : x = t d)
    (hy : y = if h : d.val < 32 then t ⟨d.val + 32, by omega⟩ else t ⟨d.val - 32, by omega⟩) (hC : C = c ⟨d.val % 32, by omega⟩)
    (hS : S = if d.val < 32 then -(s ⟨d.val % 32, by omega⟩) else s ⟨d.val % 32, by omega⟩) : x * C + y * S = rot t c s d := by
  subst hx hy hC hS
  unfold rot
  by_cases h : d.val < 32
  · rw [dif_pos h, dif_pos h, if_pos h, mul_neg, sub_eq_add_neg]
    rw [show (⟨d.val % 32, by omega⟩ : Fin 32) = ⟨d.val, h⟩ from Fin.ext (Nat.mod_eq_of_lt h)]
  · rw [dif_neg h, dif_neg h, if_neg h]
    rw [show (⟨d.val % 32, by omega⟩ : Fin 32) = ⟨d.val - 32, by omega⟩ from Fin.ext (show d.val % 32 = d.val - 32 by omega)]

/-- Whether a lane is in the first half of its 64, as the body decides it. -/
def laneW (x : BitVec 32) : BitVec 1 :=
  IntOp.cmpi .slt (Scalar.select (IntOp.andi (IntOp.xori (IntOp.cmpi .slt (IntOp.remsi .vector x 64#32) 0#32) 0#1)
    (IntOp.cmpi .ne (IntOp.remsi .vector x 64#32) 0#32)) (IntOp.addi (IntOp.remsi .vector x 64#32) 64#32) (IntOp.remsi .vector x 64#32)) 32#32

theorem laneW_eq : ∀ l : Fin 512, laneW (BitVec.ofNat 32 l.val) = BitVec.ofBool (decide (l.val % 64 < 32)) := by decide +kernel

/-- The divisor is not zero, and not negative. -/
theorem wordC : Scalar.select (Scalar.cmpi .eq 64#32 0#32) 1#32 64#32 = 64#32 := by decide
theorem wordS : Scalar.cmpi .slt 64#32 0#32 = 0#1 := by decide

theorem lane_select (l : ℕ) (hl : l < 512) (x y : EReal) :
    Scalar.select (laneW (BitVec.ofNat 32 l)) x y = if l % 64 < 32 then x else y := by
  rw [laneW_eq ⟨l, hl⟩]
  unfold Scalar.select
  by_cases h : l % 64 < 32
  · rw [if_pos h, if_pos (by rw [decide_eq_true h]; rfl)]
  · rw [if_neg h, if_neg (by rw [decide_eq_false h]; decide)]

/-- The tables' rows: the cosine repeated, and the sine with its sign. -/
abbrev Cos {n : ℕ} (x : Fin n → Fin 128 → EReal) (cx : Fin n → Fin 32 → EReal) : Prop := ∀ a b, x a b = cx a ⟨b.val % 32, by omega⟩
abbrev Sin {n : ℕ} (x : Fin n → Fin 128 → EReal) (sx : Fin n → Fin 32 → EReal) : Prop :=
  ∀ a b, x a b = if b.val % 64 < 32 then -(sx a ⟨b.val % 32, by omega⟩) else sx a ⟨b.val % 32, by omega⟩

theorem tile4 (u : FVec Ideal S256x128 .f32) (a : Fin 256) (b : Fin 512) :
    concatenate S256x512 1 [⟨S256x128, u⟩, ⟨S256x128, u⟩, ⟨S256x128, u⟩, ⟨S256x128, u⟩] concatenates_S256x128_S256x128_S256x128_S256x128_S256x512_d1 (ix2 a b)
      = u (ix2 a ⟨b.val % 128, by omega⟩) := by
  have off : ∀ (d : Fin 2), d.cast rfl ≠ (1 : Fin 2) → ((ix2 a (⟨b.val % 128, by omega⟩ : Fin 128)) d).val = ((ix2 a b) (d.cast rfl)).val := fun d hd => by
    match d, hd with
    | ⟨0, _⟩, _ => rfl
    | ⟨1, _⟩, h => exact absurd rfl h
  by_cases h0 : b.val < 128
  · exact concatenate_apply_piece _ _ _ (ix2 a b) 0 (by exact (show (0:ℕ) < 4 by decide)) S256x128 _ rfl rfl 0 rfl (ix2 a ⟨b.val % 128, by omega⟩) off
      (by show 0 + b.val % 128 = b.val; omega)
  by_cases h1 : b.val < 256
  · exact concatenate_apply_piece _ _ _ (ix2 a b) 1 (by exact (show (1:ℕ) < 4 by decide)) S256x128 _ rfl rfl 128 rfl (ix2 a ⟨b.val % 128, by omega⟩) off
      (by show 128 + b.val % 128 = b.val; omega)
  by_cases h2 : b.val < 384
  · exact concatenate_apply_piece _ _ _ (ix2 a b) 2 (by exact (show (2:ℕ) < 4 by decide)) S256x128 _ rfl rfl 256 rfl (ix2 a ⟨b.val % 128, by omega⟩) off
      (by show 256 + b.val % 128 = b.val; omega)
  · exact concatenate_apply_piece _ _ _ (ix2 a b) 3 (by exact (show (3:ℕ) < 4 by decide)) S256x128 _ rfl rfl 384 rfl (ix2 a ⟨b.val % 128, by omega⟩) off
      (by show 384 + b.val % 128 = b.val; omega)

/-- A rotation of the lanes, read at a lane. -/
theorem turn {n w : ℕ} (k : BitVec 32) (x : FVec Ideal ⟨2, ![n, w]⟩ .f32) (h : (⟨2, ![n, w]⟩ : Shape).Rotates 1 none) (a : Fin n) (b b' : Fin w)
    (hb : b'.val = (b.val + w - k.toNat % w) % w) : dynamicRotate 1 k none x h (ix2 a b) = x (ix2 a b') :=
  dynamicRotate_apply 1 k x h (ix2 a b) (ix2 a b') fun d => by
    match d with
    | ⟨0, _⟩ => rfl
    | ⟨1, _⟩ => exact hb

theorem q_apply (x5 x6 : FVec Ideal S256x128 .f32) (x0 : FVec Ideal S256x512 .f32) (cx sx : Fin 256 → Fin 32 → EReal)
    (hc : Cos (fun a b => x5 (ix2 a b)) cx) (hs : Sin (fun a b => x6 (ix2 a b)) sx) (a : Fin 256) (h : Fin 8) (d : Fin 64) :
    (k0_pay7 (F := Ideal) x5 x6 x0 (ix2 a ⟨64 * h.val + d.val, by omega⟩) : EReal)
      = rot (fun d => x0 (ix2 a ⟨64 * h.val + d.val, by omega⟩)) (cx a) (sx a) d := by
  have e : (k0_pay7 (F := Ideal) x5 x6 x0 (ix2 a ⟨64 * h.val + d.val, by omega⟩) : EReal)
      = x0 (ix2 a ⟨64 * h.val + d.val, by omega⟩)
          * concatenate S256x512 1 [⟨S256x128, k0_pay5 (F := Ideal) x5⟩, ⟨S256x128, k0_pay5 (F := Ideal) x5⟩, ⟨S256x128, k0_pay5 (F := Ideal) x5⟩, ⟨S256x128, k0_pay5 (F := Ideal) x5⟩] concatenates_S256x128_S256x128_S256x128_S256x128_S256x512_d1 (ix2 a ⟨64 * h.val + d.val, by omega⟩)
        + Scalar.select (laneW (iota .tc S256x512 32 [1] iota_S256x512_d1_w32 (ix2 a ⟨64 * h.val + d.val, by omega⟩)))
            (dynamicRotate 1 480#32 none x0 rotates_S256x512_d1 (ix2 a ⟨64 * h.val + d.val, by omega⟩))
            (dynamicRotate 1 32#32 none x0 rotates_S256x512_d1 (ix2 a ⟨64 * h.val + d.val, by omega⟩))
          * concatenate S256x512 1 [⟨S256x128, k0_pay6 (F := Ideal) x6⟩, ⟨S256x128, k0_pay6 (F := Ideal) x6⟩, ⟨S256x128, k0_pay6 (F := Ideal) x6⟩, ⟨S256x128, k0_pay6 (F := Ideal) x6⟩] concatenates_S256x128_S256x128_S256x128_S256x128_S256x512_d1 (ix2 a ⟨64 * h.val + d.val, by omega⟩) := rfl
  rw [e, tile4, tile4, iota_single_apply]
  rw [show k0_pay5 (F := Ideal) x5 = x5 from shapeCast_self _ _, show k0_pay6 (F := Ideal) x6 = x6 from shapeCast_self _ _]
  refine rot_kernel (fun d => x0 (ix2 a ⟨64 * h.val + d.val, by omega⟩)) (cx a) (sx a) d _ _ _ _ rfl ?_ ?_ ?_
  · refine (lane_select (64 * h.val + d.val) (by omega) _ _).trans ?_
    by_cases hd : d.val < 32
    · rw [if_pos (by omega), dif_pos hd]
      exact turn 480#32 x0 rotates_S256x512_d1 a _ _ (by show 64 * h.val + (d.val + 32) = (64 * h.val + d.val + 512 - 480 % 512) % 512; omega)
    · rw [if_neg (by omega), dif_neg hd]
      exact turn 32#32 x0 rotates_S256x512_d1 a _ _ (by show 64 * h.val + (d.val - 32) = (64 * h.val + d.val + 512 - 32 % 512) % 512; omega)
  · exact (hc a _).trans <| congrArg (cx a) (Fin.ext (show (64 * h.val + d.val) % 128 % 32 = d.val % 32 by omega))
  · have e2 : (⟨(64 * h.val + d.val) % 128 % 32, by omega⟩ : Fin 32) = ⟨d.val % 32, by omega⟩ := Fin.ext (show (64 * h.val + d.val) % 128 % 32 = d.val % 32 by omega)
    refine (hs a _).trans ?_
    by_cases hd : d.val < 32
    · refine (if_pos (show (64 * h.val + d.val) % 128 % 64 < 32 by omega)).trans ?_
      rw [if_pos hd]
      exact congrArg (fun z => -(sx a z)) e2
    · refine (if_neg (show ¬(64 * h.val + d.val) % 128 % 64 < 32 by omega)).trans ?_
      rw [if_neg hd]
      exact congrArg (sx a) e2

/-- The keys' form of it, on 128 lanes and any number of rows. -/
theorem rope128 {n : ℕ} (x : FVec Ideal ⟨2, ![n, 128]⟩ .f32) (C S : Fin n → Fin 128 → EReal) (cx sx : Fin n → Fin 32 → EReal) (hc : Cos C cx) (hs : Sin S sx)
    (hr : (⟨2, ![n, 128]⟩ : Shape).Rotates 1 none) (a : Fin n) (g : Fin 2) (d : Fin 64) (b : Fin 128) (hb : b.val = 64 * g.val + d.val) :
    (x (ix2 a b) : EReal) * C a b + Scalar.select (laneW (BitVec.ofNat 32 b.val)) (dynamicRotate 1 96#32 none x hr (ix2 a b))
        (dynamicRotate 1 32#32 none x hr (ix2 a b)) * S a b
      = rot (fun d => x (ix2 a ⟨64 * g.val + d.val, by omega⟩)) (cx a) (sx a) d := by
  rw [hc, hs]
  refine rot_kernel (fun d => x (ix2 a ⟨64 * g.val + d.val, by omega⟩)) (cx a) (sx a) d _ _ _ _ ?_ ?_ ?_ ?_
  · exact congrArg (fun z => x (ix2 a z)) (Fin.ext hb)
  · refine (lane_select b.val (by omega) _ _).trans ?_
    by_cases hd : d.val < 32
    · rw [if_pos (by omega), dif_pos hd]
      exact turn 96#32 x hr a _ _ (by show 64 * g.val + (d.val + 32) = (b.val + 128 - 96 % 128) % 128; omega)
    · rw [if_neg (by omega), dif_neg hd]
      exact turn 32#32 x hr a _ _ (by show 64 * g.val + (d.val - 32) = (b.val + 128 - 32 % 128) % 128; omega)
  · exact congrArg (cx a) (Fin.ext (show b.val % 32 = d.val % 32 by omega))
  · have e2 : (⟨b.val % 32, by omega⟩ : Fin 32) = ⟨d.val % 32, by omega⟩ := Fin.ext (show b.val % 32 = d.val % 32 by omega)
    rw [e2]
    by_cases hd : d.val < 32
    · rw [if_pos (by omega), if_pos hd]
    · rw [if_neg (by omega), if_neg hd]

theorem kc_apply (x1 x5 x6 : FVec Ideal S256x128 .f32) (cx sx : Fin 256 → Fin 32 → EReal)
    (hc : Cos (fun a b => x5 (ix2 a b)) cx) (hs : Sin (fun a b => x6 (ix2 a b)) sx) (a : Fin 256) (g : Fin 2) (d : Fin 64) :
    (k0_pay10 (F := Ideal) (k0_pay6 x6) x1 (k0_pay8 x5 x1) (Scalar.select (Scalar.cmpi .eq 64#32 0#32) 1#32 64#32) k0_pay9 (ix2 a ⟨64 * g.val + d.val, by omega⟩) : EReal)
      = rot (fun d => x1 (ix2 a ⟨64 * g.val + d.val, by omega⟩)) (cx a) (sx a) d := by
  refine Eq.trans ?_ (rope128 x1 (fun a b => x5 (ix2 a b)) (fun a b => x6 (ix2 a b)) cx sx hc hs rotates_S256x128_d1 a g d ⟨64 * g.val + d.val, by omega⟩ rfl)
  unfold k0_pay10 k0_pay8 k0_pay9
  simp only [wordC, wordS]
  rw [show k0_pay5 (F := Ideal) x5 = x5 from shapeCast_self _ _, show k0_pay6 (F := Ideal) x6 = x6 from shapeCast_self _ _]
  rw [← iota_single_apply .tc S256x128 32 1 iota_S256x128_d1_w32 (ix2 a (⟨64 * g.val + d.val, by omega⟩ : Fin 128))]
  rfl

theorem kp_apply (x2 x7 x8 : FVec Ideal S128x128 .f32) (cx sx : Fin 128 → Fin 32 → EReal)
    (hc : Cos (fun a b => x7 (ix2 a b)) cx) (hs : Sin (fun a b => x8 (ix2 a b)) sx) (a : Fin 128) (g : Fin 2) (d : Fin 64) :
    (k0_pay14 (F := Ideal) x2 (k0_pay11 x8) (k0_pay12 x2 x7) k0_pay13 (ix2 a ⟨64 * g.val + d.val, by omega⟩) : EReal)
      = rot (fun d => x2 (ix2 a ⟨64 * g.val + d.val, by omega⟩)) (cx a) (sx a) d := by
  refine Eq.trans ?_ (rope128 x2 (fun a b => x7 (ix2 a b)) (fun a b => x8 (ix2 a b)) cx sx hc hs rotates_S128x128_d1 a g d ⟨64 * g.val + d.val, by omega⟩ rfl)
  unfold k0_pay14 k0_pay12 k0_pay13
  rw [show k0_pay11 (F := Ideal) x8 = x8 from shapeCast_self _ _]
  simp only [shapeCast_self, wordC, wordS]
  rw [← iota_single_apply .tc S128x128 32 1 iota_S128x128_d1_w32 (ix2 a (⟨64 * g.val + d.val, by omega⟩ : Fin 128))]
  rfl

/-! ## The masks -/

theorem toInt_of (k : ℕ) (h : k < 2 ^ 31) : (BitVec.ofNat 32 k).toInt = (k : ℤ) := WordCmp.toInt_ofNat_of_lt (w := 32) h

theorem band (e r : ℕ) (he : e < 256) (hr : r < 128) :
    IntOp.andi (IntOp.cmpi .sgt (BitVec.ofNat 32 e) (BitVec.ofNat 32 r)) (IntOp.cmpi .sle (BitVec.ofNat 32 e) (IntOp.addi (BitVec.ofNat 32 r) 128#32))
      = BitVec.ofBool (decide (r < e ∧ e ≤ r + 128)) := by
  have e1 : IntOp.addi (BitVec.ofNat 32 r) 128#32 = BitVec.ofNat 32 (r + 128) := (BitVec.ofNat_add r 128).symm
  rw [e1, WordCmp.cmpi_sgt_eq, WordCmp.cmpi_sle_eq, WordCmp.andi_ofBool, toInt_of e (by omega), toInt_of r (by omega), toInt_of (r + 128) (by omega)]
  congr 1
  rw [Bool.eq_iff_iff]
  simp only [Bool.and_eq_true, decide_eq_true_eq]
  omega

theorem late (e : ℕ) (he : e < 256) (x : BitVec 1) (p : Prop) [Decidable p] (hx : x = BitVec.ofBool (decide p)) :
    IntOp.ori (IntOp.cmpi .sge (BitVec.ofNat 32 e) 128#32) x = BitVec.ofBool (decide (128 ≤ e ∨ p)) := by
  subst hx
  rw [WordCmp.cmpi_sge_eq, WordCmp.ori_ofBool, toInt_of e (by omega), show (128#32 : BitVec 32).toInt = 128 by decide]
  congr 1
  rw [Bool.eq_iff_iff]
  simp only [Bool.or_eq_true, decide_eq_true_eq]
  exact or_congr (by omega) Iff.rfl

theorem first_word : ∀ i : Fin 16, Scalar.xori (Scalar.cmpi .eq (BitVec.ofNat 32 i.val) 0#32) 1#1 = BitVec.ofBool (decide (i.val ≠ 0)) := by decide

theorem mask_apply (i : Fin 16) (s : Fin 2) (e : Fin 256) (r : Fin 128) (n : Fin 32) (hn : n.val = 2 * i.val + s.val) :
    maskV (BitVec.ofNat 32 i.val) s (ix2 e r) = BitVec.ofBool (decide (seen n r e)) := by
  have hw : ∀ (p : Prop) [Decidable p] (x : BitVec 1), x = BitVec.ofBool (decide p) → (seen n r e ↔ (r.val < e.val ∧ e.val ≤ r.val + 128) ∧ (128 ≤ e.val ∨ p)) →
      IntOp.andi (IntOp.andi (IntOp.cmpi .sgt (BitVec.ofNat 32 e.val) (BitVec.ofNat 32 r.val)) (IntOp.cmpi .sle (BitVec.ofNat 32 e.val) (IntOp.addi (BitVec.ofNat 32 r.val) 128#32)))
        (IntOp.ori (IntOp.cmpi .sge (BitVec.ofNat 32 e.val) 128#32) x) = BitVec.ofBool (decide (seen n r e)) := fun p _ x hx hp => by
    rw [band e.val r.val e.isLt r.isLt, late e.val e.isLt x p hx, WordCmp.andi_ofBool]
    congr 1
    rw [Bool.eq_iff_iff]
    simp only [Bool.and_eq_true, decide_eq_true_eq]
    exact hp.symm
  have i0 : iota .tc S256x128 32 [0] iota_S256x128_d0_w32 (ix2 e r) = BitVec.ofNat 32 e.val := iota_single_apply ..
  have i1 : iota .tc S256x128 32 [1] iota_S256x128_d1_w32 (ix2 e r) = BitVec.ofNat 32 r.val := iota_single_apply ..
  match s, hn with
  | ⟨0, _⟩, hn =>
    refine Eq.trans ?_ (hw (i.val ≠ 0) _ (first_word i) (by unfold seen; have hn' : n.val = 2 * i.val + 0 := hn; omega))
    rw [← i0, ← i1]
    rfl
  | ⟨1, _⟩, hn =>
    refine Eq.trans ?_ (hw True (Scalar.xori 0#1 1#1) (by decide) (by unfold seen; have hn' : n.val = 2 * i.val + 1 := hn; simp only [or_true, and_true]; omega))
    rw [← i0, ← i1]
    rfl

theorem sel {α : Type} (p : Prop) [Decidable p] (x y : α) : Scalar.select (BitVec.ofBool (decide p)) x y = if p then x else y := by
  unfold Scalar.select
  by_cases h : p
  · rw [if_pos h, if_pos (by rw [decide_eq_true h]; rfl)]
  · rw [if_neg h, if_neg (by rw [decide_eq_false h]; decide)]

/-! ## The windows -/

/-- A window's row: of the block before, or of the block. -/
def past (p : Fin 128 → Fin 128 → EReal) (u : Fin 256 → Fin 128 → EReal) (s : Fin 2) (e : Fin 256) (b : Fin 128) : EReal :=
  if h : 128 * s.val + e.val < 128 then p ⟨e.val, by omega⟩ b else u ⟨(128 * s.val + e.val - 128) % 256, by omega⟩ b

theorem cat_apply (o : ℕ) (hp : S128x128.Slices ![0, o] S128x64) (hc : S256x128.Slices ![0, o] S128x64) (p : FVec Ideal S128x128 .f32) (u : FVec Ideal S256x128 .f32)
    (e : Fin 256) (d : Fin 64) (b : Fin 128) (hb : b.val = o + d.val) :
    (catV o hp hc p u (ix2 e d) : EReal) = past (fun a b => p (ix2 a b)) (fun a b => u (ix2 a b)) 0 e b := by
  unfold catV past
  by_cases h : e.val < 128
  · refine Eq.trans ?_ (dif_pos (show 128 * 0 + e.val < 128 by omega)).symm
    refine (concatenate_apply_piece _ _ _ (ix2 e d) 0 (by exact (show (0:ℕ) < 2 by decide)) S128x64 _ rfl rfl 0 rfl (ix2 ⟨e.val, h⟩ d) (fun d' hd => ?_) ?_).trans ?_
    · match d', hd with
      | ⟨0, _⟩, h => exact absurd rfl h
      | ⟨1, _⟩, _ => rfl
    · exact Nat.zero_add _
    · exact extractStridedSlice_apply ![0, o] p hp _ (ix2 ⟨e.val, h⟩ b) (fun d => match d with
        | ⟨0, _⟩ => (Nat.zero_add _).symm
        | ⟨1, _⟩ => hb)
  · refine Eq.trans ?_ (dif_neg (show ¬128 * 0 + e.val < 128 by omega)).symm
    refine (concatenate_apply_piece _ _ _ (ix2 e d) 1 (by exact (show (1:ℕ) < 2 by decide)) S128x64 _ rfl rfl 128 rfl (ix2 ⟨e.val - 128, by omega⟩ d) (fun d' hd => ?_) ?_).trans ?_
    · match d', hd with
      | ⟨0, _⟩, h => exact absurd rfl h
      | ⟨1, _⟩, _ => rfl
    · show 128 + (e.val - 128) = e.val
      omega
    · exact extractStridedSlice_apply ![0, o] u hc _ (ix2 ⟨(128 * 0 + e.val - 128) % 256, by omega⟩ b) (fun d => match d with
        | ⟨0, _⟩ => by show (128 * 0 + e.val - 128) % 256 = 0 + (e.val - 128); omega
        | ⟨1, _⟩ => hb)

theorem own_apply (o : ℕ) (h : S256x128.Slices ![0, o] S256x64) (p : FVec Ideal S128x128 .f32) (u : FVec Ideal S256x128 .f32)
    (e : Fin 256) (d : Fin 64) (b : Fin 128) (hb : b.val = o + d.val) :
    (extractStridedSlice S256x64 ![0, o] u h (ix2 e d) : EReal) = past (fun a b => p (ix2 a b)) (fun a b => u (ix2 a b)) 1 e b := by
  unfold past
  refine Eq.trans ?_ (dif_neg (show ¬128 * 1 + e.val < 128 by omega)).symm
  exact extractStridedSlice_apply ![0, o] u h (ix2 e d) (ix2 ⟨(128 * 1 + e.val - 128) % 256, by omega⟩ b) (fun d => match d with
    | ⟨0, _⟩ => by show (128 * 1 + e.val - 128) % 256 = 0 + e.val; omega
    | ⟨1, _⟩ => hb)

theorem window_apply (p : FVec Ideal S128x128 .f32) (u : FVec Ideal S256x128 .f32) (s g : Fin 2) (e : Fin 256) (d : Fin 64) :
    (windowV p u s g (ix2 e d) : EReal) = past (fun a b => p (ix2 a b)) (fun a b => u (ix2 a b)) s e ⟨64 * g.val + d.val, by omega⟩ := by
  match s, g with
  | ⟨0, _⟩, ⟨0, _⟩ => exact cat_apply 0 _ _ p u e d _ rfl
  | ⟨0, _⟩, ⟨1, _⟩ => exact cat_apply 64 _ _ p u e d _ rfl
  | ⟨1, _⟩, ⟨0, _⟩ => exact own_apply 0 slices_S256x128_o0_0_S256x64 p u e d _ rfl
  | ⟨1, _⟩, ⟨1, _⟩ => exact own_apply 64 slices_S256x128_o0_64_S256x64 p u e d _ rfl

theorem turned_apply (w : Fin 2 → Fin 2 → FVec Ideal S256x64 .f32) (s g : Fin 2) (d : Fin 64) (e : Fin 256) :
    turnedV w s g (ix2 d e) = w s g (ix2 e d) :=
  transpose_apply [1, 0] _ transposes_S256x64_p1_0_S64x256 (ix2 d e) (ix2 e d) fun b => by
    match b with
    | ⟨0, _⟩ => rfl
    | ⟨1, _⟩ => rfl

/-! ## Scores, shares, and a block -/

theorem score_apply (o0 o1 : ℕ) (h : S256x512.Slices ![o0, o1] S128x64) (q : FVec Ideal S256x512 .f32) (K : FVec Ideal S256x64 .f32)
    (e : Fin 256) (r : Fin 128) (h0 : o0 + 128 ≤ 256) (h1 : o1 + 64 ≤ 512) :
    (scoreV o0 o1 h q K (ix2 e r) : EReal) = ∑ d : Fin 64, K (ix2 e d) * q (ix2 ⟨o0 + r.val, by omega⟩ ⟨o1 + d.val, by omega⟩) := by
  refine (nt_apply (φ := .f32) (ψ := .f32) dot_S256x64_S128x64_S256x128_1_1_0_0_n_n rfl rfl (fun _ _ => rfl)
      (fun j k => dot_S256x64_S128x64_S256x128_1_1_0_0_n_n.lhsIdx_val_of_single rfl j k) (fun _ _ => rfl)
      (fun j k => dot_S256x64_S128x64_S256x128_1_1_0_0_n_n.rhsIdx_val_of_single rfl j k) K _ e r).trans ?_
  refine Finset.sum_congr rfl fun d _ => congrArg (fun z : EReal => (K (ix2 e d) : EReal) * z) ?_
  exact extractStridedSlice_apply ![o0, o1] q h (ix2 r d) (ix2 ⟨o0 + r.val, by omega⟩ ⟨o1 + d.val, by omega⟩) (fun d => match d with
    | ⟨0, _⟩ => rfl
    | ⟨1, _⟩ => rfl)

theorem sink_word (h : Fin 8) : ∀ k : Fin 128, IntOp.cmpi .eq (BitVec.ofNat 32 k.val) (BitVec.ofNat 32 h.val) = BitVec.ofBool (decide (k.val = h.val)) := by
  revert h; decide +kernel

theorem sink_apply (h : Fin 8) (sk : FVec Ideal S1x128 .f32) :
    (sinkV (BitVec.ofNat 32 h.val) sk (ix2 0 0) : EReal) = sk (ix2 0 ⟨h.val, by omega⟩) := by
  refine (shapeCast_apply _ shapeCasts_S1_S1x1 (ix2 0 0) (ix1 0) ?_).trans ?_
  · rewrite [Shape.rowMajor_val_one, Shape.rowMajor_val_two]
    rfl
  refine (Ideal.multiReduction_add_single _ 0x00000000#32 reduces_S1x128_S1 (.inl rfl) rfl (ix1 0)).trans ?_
  have e : ∀ k : Fin 128, (select (cmpi .eq (iota .tc S1x128 32 [1] iota_S1x128_d1_w32) (broadcast S1x128 (BitVec.ofNat 32 h.val))) sk
      (broadcast S1x128 (Scalar.ofBits .f32 0x00000000#32 : Ideal .f32)) (reduces_S1x128_S1.lift (ix1 0) k) : EReal)
        = if k.val = h.val then (sk (ix2 0 k) : EReal) else 0 := fun k => by
    have ei : reduces_S1x128_S1.lift (ix1 0) k = ix2 0 k := funext fun d => Fin.ext (by match d with | ⟨0, _⟩ => rfl | ⟨1, _⟩ => rfl)
    rw [ei]
    show Scalar.select (IntOp.cmpi .eq (iota .tc S1x128 32 [1] iota_S1x128_d1_w32 (ix2 0 k)) (BitVec.ofNat 32 h.val)) (sk (ix2 0 k) : EReal) (Ideal.ofBits .f32 0x00000000#32) = _
    rw [iota_single_apply, show ((ix2 (0 : Fin 1) k) 1).val = k.val from rfl, sink_word h k, sel, Ideal.ofBits_zero_f32]
  refine (Finset.sum_congr rfl fun k _ => e k).trans ?_
  refine (Finset.sum_eq_single (⟨h.val, by omega⟩ : Fin 128) (fun k _ hk => ?_) (fun hn => absurd (Finset.mem_univ _) hn)).trans ?_
  · exact if_neg (fun he => hk (Fin.ext he))
  · exact if_pos rfl

theorem spreadOne (u : FVec Ideal S1x1 .f32) (r : Fin 128) : broadcastTo S1x128 u broadcasts_S1x1_S1x128 (ix2 0 r) = u (ix2 0 0) :=
  broadcastTo_apply u broadcasts_S1x1_S1x128 (ix2 0 r) (ix2 0 0) (fun d => match d with
    | ⟨0, _⟩ => by show 0 = if (1 : Nat) = 1 then 0 else 0; rw [if_pos rfl]
    | ⟨1, _⟩ => by show 0 = if (1 : Nat) = 1 then 0 else r.val; rw [if_pos rfl])

theorem spreadRow (u : FVec Ideal S1x128 .f32) (e : Fin 256) (r : Fin 128) : broadcastTo S256x128 u broadcasts_S1x128_S256x128 (ix2 e r) = u (ix2 0 r) :=
  broadcastTo_apply u broadcasts_S1x128_S256x128 (ix2 e r) (ix2 0 r) (fun d => match d with
    | ⟨0, _⟩ => by show 0 = if (1 : Nat) = 1 then 0 else e.val; rw [if_pos rfl]
    | ⟨1, _⟩ => by show r.val = if (128 : Nat) = 1 then 0 else r.val; rw [if_neg (by decide)])

theorem asRow (u : FVec Ideal S128 .f32) (r : Fin 128) : shapeCast S1x128 u shapeCasts_S128_S1x128 (ix2 0 r) = u (ix1 r) := by
  refine shapeCast_apply u shapeCasts_S128_S1x128 (ix2 0 r) (ix1 r) ?_
  rewrite [Shape.rowMajor_val_one, Shape.rowMajor_val_two]
  show r.val = 0 * 128 + r.val
  omega

theorem lift_eq (r : Fin 128) (e : Fin 256) : reduces_S256x128_S128.lift (ix1 r) e = ix2 e r :=
  funext fun d => Fin.ext (by match d with | ⟨0, _⟩ => rfl | ⟨1, _⟩ => rfl)

theorem maxRow (u : FVec Ideal S256x128 .f32) (r : Fin 128) :
    (multiReduction .maximumf [0] S128 u 0xFF800000#32 reduces_S256x128_S128 (.inl rfl) rfl (ix1 r) : EReal)
      = (Finset.univ : Finset (Fin 256)).fold max low (fun e => (u (ix2 e r) : EReal)) := by
  refine (Ideal.multiReduction_maximumf_single u 0xFF800000#32 reduces_S256x128_S128 (.inl rfl) rfl (ix1 r)).trans ?_
  exact congrArg (fun f => (Finset.univ : Finset (Fin 256)).fold max low f) (funext fun e => congrArg u (lift_eq r e))

theorem sumRow (u : FVec Ideal S256x128 .f32) (r : Fin 128) :
    (multiReduction .add [0] S128 u 0x00000000#32 reduces_S256x128_S128 (.inl rfl) rfl (ix1 r) : EReal) = ∑ e : Fin 256, (u (ix2 e r) : EReal) := by
  refine (Ideal.multiReduction_add_single u 0x00000000#32 reduces_S256x128_S128 (.inl rfl) rfl (ix1 r)).trans ?_
  exact Finset.sum_congr rfl fun e _ => congrArg u (lift_eq r e)

section Shares

variable (v : Fin 256 → Prop) [DecidablePred v] (q : Fin 64 → EReal) (K : Fin 256 → Fin 64 → EReal) (r : Fin 128)
variable (mask : IVec S256x128 1) (hm : ∀ e, mask (ix2 e r) = BitVec.ofBool (decide (v e)))
variable (st : FVec Ideal S256x128 .f32) (hst : ∀ e, (st (ix2 e r) : EReal) = ∑ d, K e d * q d)
variable (s1 : FVec Ideal S1x1 .f32) (sk : EReal) (hs : (s1 (ix2 0 0) : EReal) = sk)

include hm hst in
theorem masked_apply (e : Fin 256) : (maskedV mask st (ix2 e r) : EReal) = score v q K e := by
  show Scalar.select (mask (ix2 e r)) ((st (ix2 e r) : EReal) * scale) low = _
  rw [hm, sel, hst]
  rfl

include hm hst hs in
theorem top_apply : (topV s1 (maskedV mask st) (ix2 0 r) : EReal) = top v q K sk := by
  show max (shapeCast S1x128 (multiReduction .maximumf [0] S128 (maskedV mask st) 0xFF800000#32 reduces_S256x128_S128 (.inl rfl) rfl) shapeCasts_S128_S1x128 (ix2 0 r) : EReal)
    (broadcastTo S1x128 s1 broadcasts_S1x1_S1x128 (ix2 0 r)) = _
  rw [asRow, spreadOne, hs]
  unfold top
  refine congrArg (fun z => max z sk) ?_
  refine (maxRow (maskedV mask st) r).trans ?_
  exact congrArg (fun f => (Finset.univ : Finset (Fin 256)).fold max low f) (funext fun e => masked_apply v q K r mask hm st hst e)

include hm hst hs in
theorem exp_apply (e : Fin 256) : (expV mask (maskedV mask st) (topV s1 (maskedV mask st)) (ix2 e r) : EReal) = ex v q K sk e := by
  show Scalar.select (mask (ix2 e r)) (Ideal.exp ((maskedV mask st (ix2 e r) : EReal)
    - broadcastTo S256x128 (topV s1 (maskedV mask st)) broadcasts_S1x128_S256x128 (ix2 e r))) zero = _
  rw [hm, sel, spreadRow, masked_apply v q K r mask hm st hst, top_apply v q K r mask hm st hst s1 sk hs]
  rfl

include hm hst hs in
theorem total_apply : (totalV s1 (expV mask (maskedV mask st) (topV s1 (maskedV mask st))) (topV s1 (maskedV mask st)) (ix2 0 r) : EReal)
    = total v q K sk := by
  show (shapeCast S1x128 (multiReduction .add [0] S128 (expV mask (maskedV mask st) (topV s1 (maskedV mask st))) 0x00000000#32 reduces_S256x128_S128 (.inl rfl) rfl) shapeCasts_S128_S1x128 (ix2 0 r) : EReal)
    + Ideal.exp ((broadcastTo S1x128 s1 broadcasts_S1x1_S1x128 (ix2 0 r) : EReal) - topV s1 (maskedV mask st) (ix2 0 r)) = _
  rw [asRow, spreadOne, hs, top_apply v q K r mask hm st hst s1 sk hs]
  unfold total
  refine congrArg (fun z => z + Ideal.exp (sk - top v q K sk)) ?_
  refine (sumRow _ r).trans ?_
  refine Finset.sum_congr rfl fun e _ => ?_
  exact exp_apply v q K r mask hm st hst s1 sk hs e

include hm hst hs in
theorem share_apply (e : Fin 256) : (shareV s1 mask (maskedV mask st) (ix2 e r) : EReal) = share v q K sk e := by
  show (expV mask (maskedV mask st) (topV s1 (maskedV mask st)) (ix2 e r) : EReal)
    * broadcastTo S256x128 (divf (broadcast S1x128 (Scalar.ofBits .f32 0x3F800000#32 : Ideal .f32))
        (totalV s1 (expV mask (maskedV mask st) (topV s1 (maskedV mask st))) (topV s1 (maskedV mask st)))) broadcasts_S1x128_S256x128 (ix2 e r) = _
  rw [exp_apply v q K r mask hm st hst s1 sk hs, spreadRow]
  unfold share
  refine congrArg (fun z => ex v q K sk e * z) ?_
  show Ideal.div one (totalV s1 (expV mask (maskedV mask st) (topV s1 (maskedV mask st))) (topV s1 (maskedV mask st)) (ix2 0 r) : EReal) = _
  rw [total_apply v q K r mask hm st hst s1 sk hs]

end Shares

theorem out_apply (Vt : FVec Ideal S64x256 .f32) (p : FVec Ideal S256x128 .f32) (r : Fin 128) (d : Fin 64) :
    (outV Vt p (ix2 r d) : EReal) = ∑ e : Fin 256, Vt (ix2 d e) * p (ix2 e r) := by
  show (transpose S128x64 [1, 0] (matmul dot_S64x256_S256x128_S64x128_1_0_0_1_n_n none Vt p (constant S64x128 .f32 0x00000000#32))
    transposes_S64x128_p1_0_S128x64 (ix2 r d) : EReal) = _
  refine (transpose_apply [1, 0] _ transposes_S64x128_p1_0_S128x64 (ix2 r d) (ix2 d r) fun b => ?_).trans ?_
  · match b with
    | ⟨0, _⟩ => rfl
    | ⟨1, _⟩ => rfl
  · exact nn_apply (φ := .f32) (ψ := .f32) dot_S64x256_S256x128_S64x128_1_0_0_1_n_n rfl rfl (fun _ _ => rfl)
      (fun j k => dot_S64x256_S256x128_S64x128_1_0_0_1_n_n.lhsIdx_val_of_single rfl j k)
      (fun j k => dot_S64x256_S256x128_S64x128_1_0_0_1_n_n.rhsIdx_val_of_single rfl j k) (fun _ _ => rfl) Vt p d r

/-- A half's block of one head. -/
theorem head_apply (sk : FVec Ideal S1x128 .f32) (q : FVec Ideal S256x512 .f32) (K : Fin 2 → Fin 2 → FVec Ideal S256x64 .f32)
    (W : Fin 2 → Fin 2 → FVec Ideal S256x64 .f32) (i : Fin 16) (s : Fin 2) (h : Fin 8) (n : Fin 32) (hn : n.val = 2 * i.val + s.val) (r : Fin 128) (d : Fin 64) :
    (headV sk (maskV (BitVec.ofNat 32 i.val)) q K (turnedV W) s h (ix2 r d) : EReal)
      = out (seen n r) (fun d => q (ix2 ⟨128 * s.val + r.val, by omega⟩ ⟨64 * h.val + d.val, by omega⟩)) (fun e d => K s ⟨h.val / 4, by omega⟩ (ix2 e d))
          (fun e d => W s ⟨h.val / 4, by omega⟩ (ix2 e d)) (sk (ix2 0 ⟨h.val, by omega⟩)) d := by
  unfold headV
  rw [out_apply]
  unfold out
  refine Finset.sum_congr rfl fun e _ => ?_
  rw [turned_apply]
  refine congrArg (fun z : EReal => (W s ⟨h.val / 4, by omega⟩ (ix2 e d) : EReal) * z) ?_
  exact share_apply (seen n r) _ (fun e d => K s ⟨h.val / 4, by omega⟩ (ix2 e d)) r _ (fun e => mask_apply i s e r n hn) _
    (fun e => score_apply (128 * s.val) (64 * h.val) (slc s h) q _ e r (by omega) (by omega)) _ _ (sink_apply h sk) e

end Cert.Kernel21Ideal.Pay
-- ==== Proof.AttnRef.lean ====
/-
  The attention's reference, element by element: the embedded rows, the windows, the masked scores and their softmax
  with the sink, and the result.
-/
module

public import proofs.«01_k».proof.Proof.AttnMath
public import proofs.«01_k».proof.Proof.Shared
public import proofs.«01_k».proof.Proof.Gen.Reference21Ideal.Read
public import Idealize.ShloMosaic.Lib.ValueIdx
public import Idealize.ShloMosaic.Lib.WordCmp
public import Idealize.ShloMosaic.Lib.KernelVsHost

@[expose] public section

set_option maxRecDepth 16384

noncomputable section

open Idealize.ShloMosaic Idealize.ShloMosaic.TcCoe Idealize.ShloMosaic.ValueIdx Idealize.SL.Sem

namespace Cert.Kernel21Ideal.Ref

open Cert.Reference21Ideal Cert.Reference21Ideal.Gen Cert.Reference21Ideal.Read Cert.Attn

/-! ## An index by its coordinates -/

theorem at2 {n0 n1 : ℕ} {α : Type} (u : (⟨2, ![n0, n1]⟩ : Shape).Idx → α) (j : (⟨2, ![n0, n1]⟩ : Shape).Idx) (a : Fin n0) (b : Fin n1)
    (h0 : (j 0).val = a.val) (h1 : (j 1).val = b.val) : u j = u (ix2 a b) :=
  congrArg u (funext fun d => Fin.ext (by match d with | ⟨0, _⟩ => exact h0 | ⟨1, _⟩ => exact h1))

theorem at3 {n0 n1 n2 : ℕ} {α : Type} (u : (⟨3, ![n0, n1, n2]⟩ : Shape).Idx → α) (j : (⟨3, ![n0, n1, n2]⟩ : Shape).Idx) (a : Fin n0) (b : Fin n1) (c : Fin n2)
    (h0 : (j 0).val = a.val) (h1 : (j 1).val = b.val) (h2 : (j 2).val = c.val) : u j = u (ix3 a b c) :=
  congrArg u (funext fun d => Fin.ext (by match d with | ⟨0, _⟩ => exact h0 | ⟨1, _⟩ => exact h1 | ⟨2, _⟩ => exact h2))

theorem at4 {n0 n1 n2 n3 : ℕ} {α : Type} (u : (⟨4, ![n0, n1, n2, n3]⟩ : Shape).Idx → α) (j : (⟨4, ![n0, n1, n2, n3]⟩ : Shape).Idx)
    (a : Fin n0) (b : Fin n1) (c : Fin n2) (e : Fin n3)
    (h0 : (j 0).val = a.val) (h1 : (j 1).val = b.val) (h2 : (j 2).val = c.val) (h3 : (j 3).val = e.val) : u j = u (ix4 a b c e) :=
  congrArg u (funext fun d => Fin.ext (by match d with | ⟨0, _⟩ => exact h0 | ⟨1, _⟩ => exact h1 | ⟨2, _⟩ => exact h2 | ⟨3, _⟩ => exact h3))

theorem at5 {n0 n1 n2 n3 n4 : ℕ} {α : Type} (u : (⟨5, ![n0, n1, n2, n3, n4]⟩ : Shape).Idx → α) (j : (⟨5, ![n0, n1, n2, n3, n4]⟩ : Shape).Idx)
    (a : Fin n0) (b : Fin n1) (c : Fin n2) (e : Fin n3) (f : Fin n4)
    (h0 : (j 0).val = a.val) (h1 : (j 1).val = b.val) (h2 : (j 2).val = c.val) (h3 : (j 3).val = e.val) (h4 : (j 4).val = f.val) : u j = u (ix5 a b c e f) :=
  congrArg u (funext fun d => Fin.ext (by match d with | ⟨0, _⟩ => exact h0 | ⟨1, _⟩ => exact h1 | ⟨2, _⟩ => exact h2 | ⟨3, _⟩ => exact h3 | ⟨4, _⟩ => exact h4))

variable (p : S4096x768.Idx → EReal) (c s : S4096x32.Idx → EReal) (k : S8.Idx → EReal)

/-- The arguments by their coordinates. -/
abbrev px (i : Fin 4096) (b : Fin 768) : EReal := p (ix2 i b)
abbrev cx (i : Fin 4096) (b : Fin 32) : EReal := c (ix2 i b)
abbrev kx (h : Fin 8) : EReal := k (ix1 h)

/-! ## The rotary embedding -/

theorem q3 (i : Fin 4096) (h : Fin 8) (d : Fin 64) : (val_main_v3 (F := Ideal) p (ix3 i h d) : EReal) = p (ix2 i ⟨64 * h.val + d.val, by omega⟩) := by
  rw [val_main_v3_apply, val_main_v0_apply]
  exact at2 p _ i _ (by show ((i.val * 8 + h.val) * 64 + d.val) / 512 = i.val; omega) (by show ((i.val * 8 + h.val) * 64 + d.val) % 512 = 64 * h.val + d.val; omega)

theorem k3 (i : Fin 4096) (g : Fin 2) (d : Fin 64) : (val_main_v19 (F := Ideal) p (ix3 i g d) : EReal) = p (ix2 i ⟨512 + 64 * g.val + d.val, by omega⟩) := by
  rw [val_main_v19_apply, val_main_v1_apply]
  exact at2 p _ i _ (by show ((i.val * 2 + g.val) * 64 + d.val) / 128 = i.val; omega)
    (by show 512 + ((i.val * 2 + g.val) * 64 + d.val) % 128 = 512 + 64 * g.val + d.val; omega)

theorem v4 (n : Fin 32) (e : Fin 128) (g : Fin 2) (d : Fin 64) :
    (val_main_v37 (F := Ideal) p (ix4 n e g d) : EReal) = vrow (px p) ⟨128 * n.val + e.val, by omega⟩ g d := by
  rw [val_main_v37_apply, val_main_v2_apply]
  exact at2 p _ _ _ (by show (((n.val * 128 + e.val) * 2 + g.val) * 64 + d.val) / 128 = 128 * n.val + e.val; omega)
    (by show 640 + (((n.val * 128 + e.val) * 2 + g.val) * 64 + d.val) % 128 = 640 + 64 * g.val + d.val; omega)

/-- The two halves, put side by side. -/
theorem halves {n : ℕ} (x y : (⟨3, ![4096, n, 32]⟩ : Shape).Idx → EReal) (hc) (t : Fin 64 → EReal) (cc ss : Fin 32 → EReal) (i : Fin 4096) (h : Fin n)
    (hx : ∀ e : Fin 32, x (ix3 i h e) = t ⟨e.val, by omega⟩ * cc e - t ⟨e.val + 32, by omega⟩ * ss e)
    (hy : ∀ e : Fin 32, y (ix3 i h e) = t ⟨e.val + 32, by omega⟩ * cc e + t ⟨e.val, by omega⟩ * ss e) (d : Fin 64) :
    concatenate (⟨3, ![4096, n, 64]⟩ : Shape) 2 [⟨(⟨3, ![4096, n, 32]⟩ : Shape), x⟩, ⟨(⟨3, ![4096, n, 32]⟩ : Shape), y⟩] hc (ix3 i h d) = rot t cc ss d := by
  unfold rot
  by_cases hd : d.val < 32
  · rw [dif_pos hd]
    refine (concatenate_apply_piece _ _ _ (ix3 i h d) 0 (by exact (show (0:ℕ) < 2 by decide)) (⟨3, ![4096, n, 32]⟩ : Shape) _ rfl rfl 0 rfl (ix3 i h ⟨d.val, hd⟩) (fun a ha => ?_) ?_).trans (hx ⟨d.val, hd⟩)
    · match a, ha with
      | ⟨0, _⟩, _ => rfl
      | ⟨1, _⟩, _ => rfl
      | ⟨2, _⟩, ha => exact absurd rfl ha
    · exact Nat.zero_add _
  · rw [dif_neg hd]
    refine (concatenate_apply_piece _ _ _ (ix3 i h d) 1 (by exact (show (1:ℕ) < 2 by decide)) (⟨3, ![4096, n, 32]⟩ : Shape) _ rfl rfl 32 rfl (ix3 i h ⟨d.val - 32, by omega⟩) (fun a ha => ?_) ?_).trans
      ((hy ⟨d.val - 32, by omega⟩).trans ?_)
    · match a, ha with
      | ⟨0, _⟩, _ => rfl
      | ⟨1, _⟩, _ => rfl
      | ⟨2, _⟩, ha => exact absurd rfl ha
    · show 32 + (d.val - 32) = d.val
      omega
    · rw [show (⟨d.val - 32 + 32, by omega⟩ : Fin 64) = d from Fin.ext (show d.val - 32 + 32 = d.val by omega)]

theorem q_eq (i : Fin 4096) (h : Fin 8) (d : Fin 64) : (val_main_v18 (F := Ideal) p c s (ix3 i h d) : EReal) = qrow (px p) (cx c) (cx s) i h d := by
  unfold val_main_v18 qrow
  refine halves _ _ _ (fun d => px p i ⟨64 * h.val + d.val, by omega⟩) (cx c i) (cx s i) i h (fun e => ?_) (fun e => ?_) d
  · refine Eq.trans (show _ = (val_main_v3 (F := Ideal) p (idx_main_v6 (ix3 i h e)) : EReal) * c (idx_main_v4 (idx_main_v8 (ix3 i h e)))
      - val_main_v3 (F := Ideal) p (idx_main_v7 (ix3 i h e)) * s (idx_main_v5 (idx_main_v10 (ix3 i h e))) by
        rw [val_main_v12_apply, val_main_v9_apply, val_main_v11_apply, val_main_v6_apply, val_main_v7_apply, val_main_v8_apply, val_main_v10_apply, val_main_v4_apply, val_main_v5_apply]
        rfl) ?_
    rw [at3 (val_main_v3 (F := Ideal) p) (idx_main_v6 (ix3 i h e)) i h ⟨e.val, by omega⟩ rfl rfl rfl,
      at3 (val_main_v3 (F := Ideal) p) (idx_main_v7 (ix3 i h e)) i h ⟨e.val + 32, by omega⟩ rfl rfl (Nat.add_comm _ _),
      at2 c (idx_main_v4 (idx_main_v8 (ix3 i h e))) i e rfl rfl, at2 s (idx_main_v5 (idx_main_v10 (ix3 i h e))) i e rfl rfl, q3, q3]
  · refine Eq.trans (show _ = (val_main_v3 (F := Ideal) p (idx_main_v7 (ix3 i h e)) : EReal) * c (idx_main_v4 (idx_main_v13 (ix3 i h e)))
      + val_main_v3 (F := Ideal) p (idx_main_v6 (ix3 i h e)) * s (idx_main_v5 (idx_main_v15 (ix3 i h e))) by
        rw [val_main_v17_apply, val_main_v14_apply, val_main_v16_apply, val_main_v6_apply, val_main_v7_apply, val_main_v13_apply, val_main_v15_apply, val_main_v4_apply, val_main_v5_apply]
        rfl) ?_
    rw [at3 (val_main_v3 (F := Ideal) p) (idx_main_v6 (ix3 i h e)) i h ⟨e.val, by omega⟩ rfl rfl rfl,
      at3 (val_main_v3 (F := Ideal) p) (idx_main_v7 (ix3 i h e)) i h ⟨e.val + 32, by omega⟩ rfl rfl (Nat.add_comm _ _),
      at2 c (idx_main_v4 (idx_main_v13 (ix3 i h e))) i e rfl rfl, at2 s (idx_main_v5 (idx_main_v15 (ix3 i h e))) i e rfl rfl, q3, q3]

theorem k_eq (i : Fin 4096) (g : Fin 2) (d : Fin 64) : (val_main_v34 (F := Ideal) p c s (ix3 i g d) : EReal) = krow (px p) (cx c) (cx s) i g d := by
  unfold val_main_v34 krow
  refine halves _ _ _ (fun d => px p i ⟨512 + 64 * g.val + d.val, by omega⟩) (cx c i) (cx s i) i g (fun e => ?_) (fun e => ?_) d
  · refine Eq.trans (show _ = (val_main_v19 (F := Ideal) p (idx_main_v22 (ix3 i g e)) : EReal) * c (idx_main_v20 (idx_main_v24 (ix3 i g e)))
      - val_main_v19 (F := Ideal) p (idx_main_v23 (ix3 i g e)) * s (idx_main_v21 (idx_main_v26 (ix3 i g e))) by
        rw [val_main_v28_apply, val_main_v25_apply, val_main_v27_apply, val_main_v22_apply, val_main_v23_apply, val_main_v24_apply, val_main_v26_apply, val_main_v20_apply, val_main_v21_apply]
        rfl) ?_
    rw [at3 (val_main_v19 (F := Ideal) p) (idx_main_v22 (ix3 i g e)) i g ⟨e.val, by omega⟩ rfl rfl rfl,
      at3 (val_main_v19 (F := Ideal) p) (idx_main_v23 (ix3 i g e)) i g ⟨e.val + 32, by omega⟩ rfl rfl (Nat.add_comm _ _),
      at2 c (idx_main_v20 (idx_main_v24 (ix3 i g e))) i e rfl rfl, at2 s (idx_main_v21 (idx_main_v26 (ix3 i g e))) i e rfl rfl, k3, k3]
  · refine Eq.trans (show _ = (val_main_v19 (F := Ideal) p (idx_main_v23 (ix3 i g e)) : EReal) * c (idx_main_v20 (idx_main_v29 (ix3 i g e)))
      + val_main_v19 (F := Ideal) p (idx_main_v22 (ix3 i g e)) * s (idx_main_v21 (idx_main_v31 (ix3 i g e))) by
        rw [val_main_v33_apply, val_main_v30_apply, val_main_v32_apply, val_main_v22_apply, val_main_v23_apply, val_main_v29_apply, val_main_v31_apply, val_main_v20_apply, val_main_v21_apply]
        rfl) ?_
    rw [at3 (val_main_v19 (F := Ideal) p) (idx_main_v22 (ix3 i g e)) i g ⟨e.val, by omega⟩ rfl rfl rfl,
      at3 (val_main_v19 (F := Ideal) p) (idx_main_v23 (ix3 i g e)) i g ⟨e.val + 32, by omega⟩ rfl rfl (Nat.add_comm _ _),
      at2 c (idx_main_v20 (idx_main_v29 (ix3 i g e))) i e rfl rfl, at2 s (idx_main_v21 (idx_main_v31 (ix3 i g e))) i e rfl rfl, k3, k3]

theorem k4 (n : Fin 32) (e : Fin 128) (g : Fin 2) (d : Fin 64) :
    (val_main_v36 (F := Ideal) p c s (ix4 n e g d) : EReal) = krow (px p) (cx c) (cx s) ⟨128 * n.val + e.val, by omega⟩ g d := by
  rw [val_main_v36_apply, ← k_eq]
  exact at3 (val_main_v34 (F := Ideal) p c s) _ _ _ _ (by show (((n.val * 128 + e.val) * 2 + g.val) * 64 + d.val) / 128 = 128 * n.val + e.val; omega)
    (by show (((n.val * 128 + e.val) * 2 + g.val) * 64 + d.val) / 64 % 2 = g.val; omega)
    (by show (((n.val * 128 + e.val) * 2 + g.val) * 64 + d.val) % 64 = d.val; omega)

/-! ## The windows -/

theorem window (B : S32x128x2x64.Idx → EReal) (Z : S1x128x2x64.Idx → EReal) (S : S31x128x2x64.Idx → EReal) (f : Fin 4096 → Fin 2 → Fin 64 → EReal)
    (hB : ∀ n e g d, B (ix4 n e g d) = f ⟨128 * n.val + e.val, by omega⟩ g d) (hZ : ∀ j, Z j = zero)
    (hS : ∀ (n : Fin 31) e g d, S (ix4 n e g d) = B (ix4 ⟨n.val, by omega⟩ e g d)) (n : Fin 32) (e : Fin 256) (g : Fin 2) (d : Fin 64) :
    concatenate S32x256x2x64 1 [⟨S32x128x2x64, concatenate S32x128x2x64 0 [⟨S1x128x2x64, Z⟩, ⟨S31x128x2x64, S⟩] concatenates_S1x128x2x64_S31x128x2x64_S32x128x2x64_d0⟩,
      ⟨S32x128x2x64, B⟩] concatenates_S32x128x2x64_S32x128x2x64_S32x256x2x64_d1 (ix4 n e g d) = win f n g e d := by
  unfold win
  by_cases he : e.val < 128
  · refine (concatenate_apply_piece _ _ _ (ix4 n e g d) 0 (by exact (show (0:ℕ) < 2 by decide)) S32x128x2x64 _ rfl rfl 0 rfl (ix4 n ⟨e.val, he⟩ g d) (fun a ha => ?_) ?_).trans ?_
    · match a, ha with
      | ⟨0, _⟩, _ => rfl
      | ⟨1, _⟩, ha => exact absurd rfl ha
      | ⟨2, _⟩, _ => rfl
      | ⟨3, _⟩, _ => rfl
    · exact Nat.zero_add _
    by_cases hn : n.val = 0
    · rw [dif_neg (show ¬128 ≤ 128 * n.val + e.val by omega)]
      refine (concatenate_apply_piece _ _ _ (ix4 n ⟨e.val, he⟩ g d) 0 (by exact (show (0:ℕ) < 2 by decide)) S1x128x2x64 _ rfl rfl 0 rfl (ix4 0 ⟨e.val, he⟩ g d) (fun a ha => ?_) ?_).trans (hZ _)
      · match a, ha with
        | ⟨0, _⟩, ha => exact absurd rfl ha
        | ⟨1, _⟩, _ => rfl
        | ⟨2, _⟩, _ => rfl
        | ⟨3, _⟩, _ => rfl
      · show 0 + 0 = n.val
        omega
    · rw [dif_pos (show 128 ≤ 128 * n.val + e.val by omega)]
      refine (concatenate_apply_piece _ _ _ (ix4 n ⟨e.val, he⟩ g d) 1 (by exact (show (1:ℕ) < 2 by decide)) S31x128x2x64 _ rfl rfl 1 rfl (ix4 ⟨n.val - 1, by omega⟩ ⟨e.val, he⟩ g d) (fun a ha => ?_) ?_).trans ?_
      · match a, ha with
        | ⟨0, _⟩, ha => exact absurd rfl ha
        | ⟨1, _⟩, _ => rfl
        | ⟨2, _⟩, _ => rfl
        | ⟨3, _⟩, _ => rfl
      · show 1 + (n.val - 1) = n.val
        omega
      · rw [hS, hB]
        exact congrArg (fun i => f i g d) (Fin.ext (show 128 * (n.val - 1) + e.val = 128 * n.val + e.val - 128 by omega))
  · rw [dif_pos (show 128 ≤ 128 * n.val + e.val by omega)]
    refine (concatenate_apply_piece _ _ _ (ix4 n e g d) 1 (by exact (show (1:ℕ) < 2 by decide)) S32x128x2x64 _ rfl rfl 128 rfl (ix4 n ⟨e.val - 128, by omega⟩ g d) (fun a ha => ?_) ?_).trans ?_
    · match a, ha with
      | ⟨0, _⟩, _ => rfl
      | ⟨1, _⟩, ha => exact absurd rfl ha
      | ⟨2, _⟩, _ => rfl
      | ⟨3, _⟩, _ => rfl
    · show 128 + (e.val - 128) = e.val
      omega
    · rw [hB]
      exact congrArg (fun i => f i g d) (Fin.ext (show 128 * n.val + (e.val - 128) = 128 * n.val + e.val - 128 by omega))

theorem kwin (n : Fin 32) (e : Fin 256) (g : Fin 2) (d : Fin 64) :
    (val_main_v42 (F := Ideal) p c s (ix4 n e g d) : EReal) = win (krow (px p) (cx c) (cx s)) n g e d := by
  unfold val_main_v42 val_main_v41
  refine window _ _ _ _ (k4 p c s) (fun j => ?_) (fun n e g d => ?_) n e g d
  · rw [val_main_v39_apply]
    rfl
  · rw [val_main_v40_apply]
    exact at4 (val_main_v36 (F := Ideal) p c s) _ _ _ _ _ rfl rfl rfl rfl

theorem vwin (n : Fin 32) (e : Fin 256) (g : Fin 2) (d : Fin 64) :
    (val_main_v47 (F := Ideal) p (ix4 n e g d) : EReal) = win (vrow (px p)) n g e d := by
  unfold val_main_v47 val_main_v46
  refine window _ _ _ _ (v4 p) (fun j => ?_) (fun n e g d => ?_) n e g d
  · rw [val_main_v44_apply]
    rfl
  · rw [val_main_v45_apply]
    exact at4 (val_main_v37 (F := Ideal) p) _ _ _ _ _ rfl rfl rfl rfl

/-! ## The mask -/

theorem mask_word (n : Fin 32) (r : Fin 128) (e : Fin 256) :
    IntOp.andi (IntOp.andi
        (IntOp.cmpi .sle (IntOp.addi (IntOp.subi (IntOp.muli (BitVec.ofNat 32 n.val) 128#32) 128#32) (BitVec.ofNat 32 e.val))
          (IntOp.addi (IntOp.muli (BitVec.ofNat 32 n.val) 128#32) (BitVec.ofNat 32 r.val)))
        (IntOp.cmpi .slt (IntOp.subi (IntOp.addi (IntOp.muli (BitVec.ofNat 32 n.val) 128#32) (BitVec.ofNat 32 r.val))
          (IntOp.addi (IntOp.subi (IntOp.muli (BitVec.ofNat 32 n.val) 128#32) 128#32) (BitVec.ofNat 32 e.val))) 128#32))
      (IntOp.cmpi .sge (IntOp.addi (IntOp.subi (IntOp.muli (BitVec.ofNat 32 n.val) 128#32) 128#32) (BitVec.ofNat 32 e.val)) 0#32)
      = BitVec.ofBool (decide (seen n r e)) := by
  have hK : (BitVec.ofNat 32 n.val * 128#32 - 128#32 + BitVec.ofNat 32 e.val).toInt = 128 * (n.val : ℤ) - 128 + e.val := by
    rw [BitVec.toInt_eq_toNat_cond]
    simp only [BitVec.toNat_add, BitVec.toNat_sub, BitVec.toNat_mul, BitVec.toNat_ofNat]
    split <;> omega
  have hQ : (BitVec.ofNat 32 n.val * 128#32 + BitVec.ofNat 32 r.val).toInt = 128 * (n.val : ℤ) + r.val := by
    rw [BitVec.toInt_eq_toNat_cond]
    simp only [BitVec.toNat_add, BitVec.toNat_mul, BitVec.toNat_ofNat]
    split <;> omega
  have hD : (BitVec.ofNat 32 n.val * 128#32 + BitVec.ofNat 32 r.val - (BitVec.ofNat 32 n.val * 128#32 - 128#32 + BitVec.ofNat 32 e.val)).toInt
      = 128 + (r.val : ℤ) - e.val := by
    rw [BitVec.toInt_eq_toNat_cond]
    simp only [BitVec.toNat_add, BitVec.toNat_sub, BitVec.toNat_mul, BitVec.toNat_ofNat]
    split <;> omega
  unfold IntOp.addi IntOp.subi IntOp.muli
  rw [WordCmp.cmpi_sle_eq, WordCmp.cmpi_slt_eq, WordCmp.cmpi_sge_eq, hK, hQ, hD, WordCmp.andi_ofBool, WordCmp.andi_ofBool,
    show (128#32 : BitVec 32).toInt = 128 by decide, show (0#32 : BitVec 32).toInt = 0 by decide]
  congr 1
  rw [Bool.eq_iff_iff]
  simp only [Bool.and_eq_true, decide_eq_true_eq]
  unfold seen
  omega

theorem mask_eq (n : Fin 32) (g : Fin 2) (h : Fin 4) (r : Fin 128) (e : Fin 256) :
    val_main_call0_v1 (F := Ideal) (ix5 n g h r e) = BitVec.ofBool (decide (seen n r e)) := by
  rw [← mask_word]
  rw [val_main_call0_v1_apply, val_main_v83_apply, val_main_v82_apply, val_main_v81_apply, val_main_v80_apply, val_main_v79_apply, val_main_v78_apply,
    val_main_v77_apply, val_main_v76_apply, val_main_v75_apply, val_main_v74_apply, val_main_v73_apply, val_main_v72_apply, val_main_v71_apply, val_main_v70_apply]
  simp only [val_main_v69_apply, val_main_v68_apply, val_main_v67_apply, val_main_v66_apply, val_main_v65_apply, val_main_v64_apply, val_main_v63_apply,
    val_main_v62_apply, val_main_v61_apply, val_main_v60_apply, val_main_v59_apply, val_main_v58_apply, val_main_v57_apply, val_main_v56_apply,
    val_main_v55_apply, val_main_v54_apply, val_main_v53_apply, val_main_v52_apply]
  rfl

/-! ## The softmax -/

section Rows

variable (n : Fin 32) (g : Fin 2) (h : Fin 4) (r : Fin 128)

/-- The query's row and head, its window's keys, and its sink. -/
abbrev qq : Fin 64 → EReal := qrow (px p) (cx c) (cx s) ⟨128 * n.val + r.val, by omega⟩ ⟨4 * g.val + h.val, by omega⟩
abbrev kk : Fin 256 → Fin 64 → EReal := win (krow (px p) (cx c) (cx s)) n g
abbrev sk : EReal := kx k ⟨4 * g.val + h.val, by omega⟩

theorem q5 (d : Fin 64) : (val_main_v35 (F := Ideal) p c s (ix5 n r g h d) : EReal) = qq p c s n g h r d := by
  rw [val_main_v35_apply]
  refine Eq.trans ?_ (q_eq p c s ⟨128 * n.val + r.val, by omega⟩ ⟨4 * g.val + h.val, by omega⟩ d)
  exact at3 (val_main_v18 (F := Ideal) p c s) _ _ _ _
    (by show ((((n.val * 128 + r.val) * 2 + g.val) * 4 + h.val) * 64 + d.val) / 512 = 128 * n.val + r.val; omega)
    (by show ((((n.val * 128 + r.val) * 2 + g.val) * 4 + h.val) * 64 + d.val) / 64 % 8 = 4 * g.val + h.val; omega)
    (by show ((((n.val * 128 + r.val) * 2 + g.val) * 4 + h.val) * 64 + d.val) % 64 = d.val; omega)

theorem score_eq (e : Fin 256) : (val_main_v84 (F := Ideal) p c s (ix5 n g h r e) : EReal) = score (seen n r) (qq p c s n g h r) (kk p c s n g) e := by
  rw [val_main_v84_apply, mask_eq, val_main_v51_apply, val_main_v50_apply, val_main_call0_v2_apply, val_main_v49_apply, val_main_v48_apply]
  have e1 : ∀ d : Fin 64, (val_main_v42 (F := Ideal) p c s (lidx_main_v48 (idx_main_v49 (ix5 n g h r e)) d) : EReal)
      * val_main_v35 (F := Ideal) p c s (ridx_main_v48 (idx_main_v49 (ix5 n g h r e)) d) = kk p c s n g e d * qq p c s n g h r d := fun d => by
    rw [at4 (val_main_v42 (F := Ideal) p c s) (lidx_main_v48 (idx_main_v49 (ix5 n g h r e)) d) n e g d rfl rfl rfl rfl,
      at5 (val_main_v35 (F := Ideal) p c s) (ridx_main_v48 (idx_main_v49 (ix5 n g h r e)) d) n r g h d rfl rfl rfl rfl rfl, kwin, q5]
  rw [Finset.sum_congr rfl fun d _ => e1 d]
  unfold score Scalar.select
  by_cases hv : seen n r e
  · rw [if_pos hv, if_pos (by rw [decide_eq_true hv]; rfl)]
    rfl
  · rw [if_neg hv, if_neg (by rw [decide_eq_false hv]; decide)]
    rfl

theorem sink_eq : (val_main_v86 (F := Ideal) k (ix4 n g h r) : EReal) = sk k g h := by
  rw [val_main_v86_apply, val_main_v85_apply]
  refine congrArg k (funext fun d => Fin.ext ?_)
  match d with
  | ⟨0, _⟩ => show ((0 * 2 + g.val) * 4 + h.val) * 1 + 0 = 4 * g.val + h.val; omega

theorem top_eq : (val_main_v88 (F := Ideal) p c s k (ix4 n g h r) : EReal) = top (seen n r) (qq p c s n g h r) (kk p c s n g) (sk k g h) := by
  rw [val_main_v88_apply, sink_eq]
  unfold top
  refine congrArg (fun z : EReal => max z (sk k g h)) ?_
  unfold val_main_v87
  rw [Host.reduce_eq_fold_single FloatOps.maximumf _ _ reducesTo_S32x2x4x128x256_S32x2x4x128_d4 (by decide) h_S_]
  refine congrArg (fun f => (Finset.univ : Finset (Fin 256)).fold max low f) (funext fun e => ?_)
  exact (at5 (val_main_v84 (F := Ideal) p c s) _ n g h r e rfl rfl rfl rfl rfl).trans (score_eq p c s n g h r e)

theorem exp_eq (e : Fin 256) : (val_main_v92 (F := Ideal) p c s k (ix5 n g h r e) : EReal)
    = ex (seen n r) (qq p c s n g h r) (kk p c s n g) (sk k g h) e := by
  rw [val_main_v92_apply, val_main_v91_apply, score_eq, val_main_v90_apply, val_main_v89_apply,
    at4 (val_main_v88 (F := Ideal) p c s k) (idx_main_v89 (idx_main_v90 (ix5 n g h r e))) n g h r rfl rfl rfl rfl, top_eq, ← ex_eq]
  rfl

theorem total_eq : (val_main_v96 (F := Ideal) p c s k (ix4 n g h r) : EReal) = total (seen n r) (qq p c s n g h r) (kk p c s n g) (sk k g h) := by
  rw [val_main_v96_apply, val_main_v95_apply, val_main_v94_apply, sink_eq, top_eq, val_main_v93_apply]
  have e1 : ∀ e : Fin 256, (val_main_v92 (F := Ideal) p c s k (idx_main_v93 (ix4 n g h r) e) : EReal)
      = ex (seen n r) (qq p c s n g h r) (kk p c s n g) (sk k g h) e := fun e =>
    (at5 (val_main_v92 (F := Ideal) p c s k) _ n g h r e rfl rfl rfl rfl rfl).trans (exp_eq p c s k n g h r e)
  rw [Finset.sum_congr rfl fun e _ => e1 e]
  unfold total
  refine congrArg (fun z : EReal => z + Ideal.exp (sk k g h - top (seen n r) (qq p c s n g h r) (kk p c s n g) (sk k g h))) ?_
  show zero + _ = _
  rw [show zero = 0 from Ideal.ofBits_zero_f32, zero_add]

theorem share_eq (e : Fin 256) : (val_main_v101 (F := Ideal) p c s k (ix5 n g h r e) : EReal)
    = share (seen n r) (qq p c s n g h r) (kk p c s n g) (sk k g h) e := by
  rw [val_main_v101_apply, exp_eq, val_main_v100_apply, val_main_v99_apply,
    at4 (val_main_v98 (F := Ideal) p c s k) (idx_main_v99 (idx_main_v100 (ix5 n g h r e))) n g h r rfl rfl rfl rfl, val_main_v98_apply, total_eq, val_main_v97_apply]
  rfl

theorem out_eq (d : Fin 64) : (val_main_v102 (F := Ideal) p c s k (ix5 n g d h r) : EReal)
    = att (px p) (cx c) (cx s) (kx k) n r ⟨4 * g.val + h.val, by omega⟩ d := by
  rw [val_main_v102_apply]
  unfold att out
  rw [show (⟨(4 * g.val + h.val) / 4, by omega⟩ : Fin 2) = g from Fin.ext (show (4 * g.val + h.val) / 4 = g.val by omega)]
  refine Finset.sum_congr rfl fun e _ => ?_
  rw [at4 (val_main_v47 (F := Ideal) p) (lidx_main_v102 (ix5 n g d h r) e) n e g d rfl rfl rfl rfl,
    at5 (val_main_v101 (F := Ideal) p c s k) (ridx_main_v102 (ix5 n g d h r) e) n g h r e rfl rfl rfl rfl rfl, vwin, share_eq]

end Rows

theorem result_eq (i : Fin 4096) (b : Fin 512) : (val_main_v105 (F := Ideal) p c s k (ix2 i b) : EReal)
    = att (px p) (cx c) (cx s) (kx k) ⟨i.val / 128, by omega⟩ ⟨i.val % 128, by omega⟩ ⟨b.val / 64, by omega⟩ ⟨b.val % 64, by omega⟩ := by
  rw [val_main_v105_apply]
  show (val_main_v104 (F := Ideal) p c s k (ix2 i b) : EReal) = _
  rw [val_main_v104_apply, val_main_v103_apply]
  refine (at5 (val_main_v102 (F := Ideal) p c s k) _ ⟨i.val / 128, by omega⟩ ⟨b.val / 256, by omega⟩ ⟨b.val % 64, by omega⟩ ⟨b.val / 64 % 4, by omega⟩ ⟨i.val % 128, by omega⟩
    (by show (i.val * 512 + b.val) / 65536 = i.val / 128; omega) (by show (i.val * 512 + b.val) / 256 % 2 = b.val / 256; omega)
    (by show (i.val * 512 + b.val) % 64 = b.val % 64; omega) (by show (i.val * 512 + b.val) / 64 % 4 = b.val / 64 % 4; omega)
    (by show (i.val * 512 + b.val) / 512 % 128 = i.val % 128; omega)).trans ?_
  rw [out_eq]
  exact congrArg (fun h => att (px p) (cx c) (cx s) (kx k) ⟨i.val / 128, by omega⟩ ⟨i.val % 128, by omega⟩ h ⟨b.val % 64, by omega⟩)
    (Fin.ext (show 4 * (b.val / 256) + b.val / 64 % 4 = b.val / 64 by omega))

end Cert.Kernel21Ideal.Ref
-- ==== Proof.AttnRun.lean ====
/-
  The attention call: the result array is the reference's.

    V_…, blk_…       the call's tables and a point's blocks, from the program's arguments;
    head_at          a half's block of one head is the attention of its rows;
    arr_o            the result array, element by element;
    algebraic_attn   the claim.
-/
module

public import proofs.«01_k».proof.Defs
public import proofs.«01_k».proof.Proof.AttnPoint
public import proofs.«01_k».proof.Proof.AttnPay
public import proofs.«01_k».proof.Proof.AttnRef
public import Idealize.ShloMosaic.Lib.StableHlo.RunRead

@[expose] public section

set_option maxRecDepth 16384

noncomputable section

open Idealize.ShloMosaic Idealize.ShloMosaic.TcCoe Idealize.ShloMosaic.ValueIdx Idealize.SL.Sem

namespace Cert.Kernel21Ideal.Result

open Cert.Kernel21Ideal Cert.Kernel21Ideal.Gen Cert.Kernel21Ideal.Value Cert.Kernel21Ideal.Point Cert.Kernel21Ideal.Pay Cert.Shared Cert.Attn

section Kernel

variable (m : (ℓ : Loc nD τ sig) → Buf (Elt Ideal) ℓ) (c : Dev nD)

/-- The arguments: the projections, the rotary tables and the sinks. -/
abbrev p : S4096x768.Idx → EReal := m ((c : Thread nD τ).loc main_arg0)
abbrev co : S4096x32.Idx → EReal := m ((c : Thread nD τ).loc main_arg1)
abbrev si : S4096x32.Idx → EReal := m ((c : Thread nD τ).loc main_arg2)
abbrev sk : S8.Idx → EReal := m ((c : Thread nD τ).loc main_arg3)

/-! ## The call's tables -/

/-- Four pieces of 32 columns, side by side. -/
theorem quarters (x0 x1 x2 x3 : S4096x32.Idx → EReal) (i : Fin 4096) (b : Fin 128) :
    concatenate S4096x128 1 [⟨S4096x32, x0⟩, ⟨S4096x32, x1⟩, ⟨S4096x32, x2⟩, ⟨S4096x32, x3⟩]
        concatenates_S4096x32_S4096x32_S4096x32_S4096x32_S4096x128_d1 (ix2 i b)
      = (if b.val < 32 then x0 else if b.val < 64 then x1 else if b.val < 96 then x2 else x3) (ix2 i ⟨b.val % 32, by omega⟩) := by
  have off : ∀ (d : Fin 2), d.cast rfl ≠ (1 : Fin 2) → ((ix2 i (⟨b.val % 32, by omega⟩ : Fin 32)) d).val = ((ix2 i b) (d.cast rfl)).val := fun d hd => by
    match d, hd with
    | ⟨0, _⟩, _ => rfl
    | ⟨1, _⟩, h => exact absurd rfl h
  by_cases h0 : b.val < 32
  · rw [if_pos h0]
    exact concatenate_apply_piece _ _ _ (ix2 i b) 0 (by exact (show (0:ℕ) < 4 by decide)) S4096x32 _ rfl rfl 0 rfl (ix2 i ⟨b.val % 32, by omega⟩) off
      (by show 0 + b.val % 32 = b.val; omega)
  rw [if_neg h0]
  by_cases h1 : b.val < 64
  · rw [if_pos h1]
    exact concatenate_apply_piece _ _ _ (ix2 i b) 1 (by exact (show (1:ℕ) < 4 by decide)) S4096x32 _ rfl rfl 32 rfl (ix2 i ⟨b.val % 32, by omega⟩) off
      (by show 32 + b.val % 32 = b.val; omega)
  rw [if_neg h1]
  by_cases h2 : b.val < 96
  · rw [if_pos h2]
    exact concatenate_apply_piece _ _ _ (ix2 i b) 2 (by exact (show (2:ℕ) < 4 by decide)) S4096x32 _ rfl rfl 64 rfl (ix2 i ⟨b.val % 32, by omega⟩) off
      (by show 64 + b.val % 32 = b.val; omega)
  · rw [if_neg h2]
    exact concatenate_apply_piece _ _ _ (ix2 i b) 3 (by exact (show (3:ℕ) < 4 by decide)) S4096x32 _ rfl rfl 96 rfl (ix2 i ⟨b.val % 32, by omega⟩) off
      (by show 96 + b.val % 32 = b.val; omega)

theorem V_cos (i : Fin 4096) (b : Fin 128) : (V m c main_v0 : S4096x128.Idx → EReal) (ix2 i b) = co m c (ix2 i ⟨b.val % 32, by omega⟩) := by
  have e : (V m c main_v0 : S4096x128.Idx → EReal) = concatenate S4096x128 1 [⟨S4096x32, co m c⟩, ⟨S4096x32, co m c⟩, ⟨S4096x32, co m c⟩, ⟨S4096x32, co m c⟩]
      concatenates_S4096x32_S4096x32_S4096x32_S4096x32_S4096x128_d1 := by
    unfold V hostOps0 hostOps0_1 hostOps0_2
    simp only [List.flatten_cons, List.flatten_nil, List.append_nil, List.cons_append, List.nil_append]
    after_reads_simp
    rfl
  rw [e, quarters, ite_self, ite_self, ite_self]

theorem V_sin (i : Fin 4096) (b : Fin 128) : (V m c main_v3 : S4096x128.Idx → EReal) (ix2 i b)
    = if b.val % 64 < 32 then -(si m c (ix2 i ⟨b.val % 32, by omega⟩)) else si m c (ix2 i ⟨b.val % 32, by omega⟩) := by
  have e : (V m c main_v3 : S4096x128.Idx → EReal) = concatenate S4096x128 1 [⟨S4096x32, fun j => -(si m c j)⟩, ⟨S4096x32, si m c⟩, ⟨S4096x32, fun j => -(si m c j)⟩, ⟨S4096x32, si m c⟩]
      concatenates_S4096x32_S4096x32_S4096x32_S4096x32_S4096x128_d1 := by
    unfold V hostOps0 hostOps0_1 hostOps0_2
    simp only [List.flatten_cons, List.flatten_nil, List.append_nil, List.cons_append, List.nil_append]
    after_reads_simp
    rfl
  rw [e, quarters]
  by_cases h0 : b.val < 32
  · rw [if_pos h0, if_pos (by omega)]
  rw [if_neg h0]
  by_cases h1 : b.val < 64
  · rw [if_pos h1, if_neg (by omega)]
  rw [if_neg h1]
  by_cases h2 : b.val < 96
  · rw [if_pos h2, if_pos (by omega)]
  · rw [if_neg h2, if_neg (by omega)]

abbrev padv : (⟨S_, .f32⟩ : BufTy).Contents (Elt Ideal) := sitofp (F := Ideal) .f32 (constantI S_ 32 0#32 : (⟨S_, .i32⟩ : BufTy).Contents (Elt Ideal))

theorem V_sk (h : Fin 8) : (V m c main_v5 : S1x128.Idx → EReal) (ix2 0 ⟨h.val, by omega⟩) = sk m c (ix1 h) := by
  have e : (V m c main_v5 : S1x128.Idx → EReal) = broadcastInDim S1x128 ![1] bcast_S128_S1x128_1 (pad S128 ![0] ![120] ![0]
      (sk m c : (⟨S8, .f32⟩ : BufTy).Contents (Elt Ideal)) padv pads_S8_S128_01200 h_S_) := by
    unfold V hostOps0 hostOps0_1 hostOps0_2
    simp only [List.flatten_cons, List.flatten_nil, List.append_nil, List.cons_append, List.nil_append]
    after_reads_simp
    rfl
  rw [e]
  refine (broadcastInDim_apply _ bcast_S128_S1x128_1 _ (ix2 0 ⟨h.val, by omega⟩) (ix1 ⟨h.val, by omega⟩) (fun a => match a with
    | ⟨0, _⟩ => by show h.val = if (128 : Nat) = 1 then 0 else h.val; rw [if_neg (by decide)])).trans ?_
  refine pad_apply_of_inside _ _ _ _ _ _ _ (ix1 ⟨h.val, by omega⟩) (ix1 h) fun a => ?_
  match a with
  | ⟨0, _⟩ => show h.val = 0 + h.val * (0 + 1); omega

/-! ## A point's blocks

Point `t` of the grid has the rows from `256 t` on, and reads the 128 before them. -/

theorem N_eq (t : Fin cfg0.N) : t.val < 16 := lt_of_lt_of_eq t.isLt N_0

/-- Row `a` of point `t`, and row `a` of the block before it. -/
abbrev rw' (t : Fin cfg0.N) (a : Fin 256) : Fin 4096 := ⟨256 * t.val + a.val, by have := N_eq t; omega⟩
abbrev pv' (t : Fin cfg0.N) (a : Fin 128) : Fin 4096 := ⟨128 * (2 * t.val - 1) + a.val, by have := N_eq t; omega⟩

theorem crd : ∀ t : Fin grid0.N, (grid0.coords t 0).val = t.val := by decide +kernel
theorem idx_0 : ∀ t : Fin grid0.N, (win0_0.index t 0 = t.val) ∧ (win0_0.index t 1 = 0) := by decide +kernel
theorem idx_1 : ∀ t : Fin grid0.N, (win0_1.index t 0 = t.val) ∧ (win0_1.index t 1 = 4) := by decide +kernel
theorem idx_2 : ∀ t : Fin grid0.N, (win0_2.index t 0 = 2 * t.val - 1) ∧ (win0_2.index t 1 = 4) := by decide +kernel
theorem idx_3 : ∀ t : Fin grid0.N, (win0_3.index t 0 = t.val) ∧ (win0_3.index t 1 = 5) := by decide +kernel
theorem idx_4 : ∀ t : Fin grid0.N, (win0_4.index t 0 = 2 * t.val - 1) ∧ (win0_4.index t 1 = 5) := by decide +kernel
theorem idx_5 : ∀ t : Fin grid0.N, (win0_5.index t 0 = t.val) ∧ (win0_5.index t 1 = 0) := by decide +kernel
theorem idx_6 : ∀ t : Fin grid0.N, (win0_6.index t 0 = t.val) ∧ (win0_6.index t 1 = 0) := by decide +kernel
theorem idx_7 : ∀ t : Fin grid0.N, (win0_7.index t 0 = 2 * t.val - 1) ∧ (win0_7.index t 1 = 0) := by decide +kernel
theorem idx_8 : ∀ t : Fin grid0.N, (win0_8.index t 0 = 2 * t.val - 1) ∧ (win0_8.index t 1 = 0) := by decide +kernel
theorem idx_9 : ∀ t : Fin grid0.N, (win0_9.index t 0 = 0) ∧ (win0_9.index t 1 = 0) := by decide +kernel
theorem idx_10 : ∀ t : Fin grid0.N, (win0_10.index t 0 = t.val) ∧ (win0_10.index t 1 = 0) := by decide +kernel

theorem blk_q (t : Fin cfg0.N) (a : Fin 256) (b : Fin 512) : (X0_0 m c t (ix2 a b) : EReal) = p m c (ix2 (rw' t a) ⟨b.val, by omega⟩) := by
  unfold X0_0 Pipeline.Window.fill
  rw [dif_pos (moved0_0 t (ix2 a b))]
  unfold iblk
  rw [View.read_apply]
  show V m c main_arg0 _ = _
  rw [V_main_arg0]
  refine congrArg (p m c) (funext fun d => Fin.ext ?_)
  match d with
  | ⟨0, _⟩ => show win0_0.index t 0 * 256 + 1 * a.val = 256 * t.val + a.val; rw [(idx_0 t).1]; omega
  | ⟨1, _⟩ => show win0_0.index t 1 * 512 + 1 * b.val = b.val; rw [(idx_0 t).2]; omega

theorem blk_kc (t : Fin cfg0.N) (a : Fin 256) (b : Fin 128) : ((iblk m c 1 t : S256x128.Idx → EReal) (ix2 a b) : EReal) = p m c (ix2 (rw' t a) ⟨512 + b.val, by omega⟩) := by
  unfold iblk
  rw [View.read_apply]
  show V m c main_arg0 _ = _
  rw [V_main_arg0]
  refine congrArg (p m c) (funext fun d => Fin.ext ?_)
  match d with
  | ⟨0, _⟩ => show win0_1.index t 0 * 256 + 1 * a.val = 256 * t.val + a.val; rw [(idx_1 t).1]; omega
  | ⟨1, _⟩ => show win0_1.index t 1 * 128 + 1 * b.val = 512 + b.val; rw [(idx_1 t).2]; omega

theorem blk_kp (t : Fin cfg0.N) (a : Fin 128) (b : Fin 128) : ((iblk m c 2 t : S128x128.Idx → EReal) (ix2 a b) : EReal) = p m c (ix2 (pv' t a) ⟨512 + b.val, by omega⟩) := by
  unfold iblk
  rw [View.read_apply]
  show V m c main_arg0 _ = _
  rw [V_main_arg0]
  refine congrArg (p m c) (funext fun d => Fin.ext ?_)
  match d with
  | ⟨0, _⟩ => show win0_2.index t 0 * 128 + 1 * a.val = 128 * (2 * t.val - 1) + a.val; rw [(idx_2 t).1]; omega
  | ⟨1, _⟩ => show win0_2.index t 1 * 128 + 1 * b.val = 512 + b.val; rw [(idx_2 t).2]; omega

theorem blk_vc (t : Fin cfg0.N) (a : Fin 256) (b : Fin 128) : ((iblk m c 3 t : S256x128.Idx → EReal) (ix2 a b) : EReal) = p m c (ix2 (rw' t a) ⟨640 + b.val, by omega⟩) := by
  unfold iblk
  rw [View.read_apply]
  show V m c main_arg0 _ = _
  rw [V_main_arg0]
  refine congrArg (p m c) (funext fun d => Fin.ext ?_)
  match d with
  | ⟨0, _⟩ => show win0_3.index t 0 * 256 + 1 * a.val = 256 * t.val + a.val; rw [(idx_3 t).1]; omega
  | ⟨1, _⟩ => show win0_3.index t 1 * 128 + 1 * b.val = 640 + b.val; rw [(idx_3 t).2]; omega

theorem blk_vp (t : Fin cfg0.N) (a : Fin 128) (b : Fin 128) : ((iblk m c 4 t : S128x128.Idx → EReal) (ix2 a b) : EReal) = p m c (ix2 (pv' t a) ⟨640 + b.val, by omega⟩) := by
  unfold iblk
  rw [View.read_apply]
  show V m c main_arg0 _ = _
  rw [V_main_arg0]
  refine congrArg (p m c) (funext fun d => Fin.ext ?_)
  match d with
  | ⟨0, _⟩ => show win0_4.index t 0 * 128 + 1 * a.val = 128 * (2 * t.val - 1) + a.val; rw [(idx_4 t).1]; omega
  | ⟨1, _⟩ => show win0_4.index t 1 * 128 + 1 * b.val = 640 + b.val; rw [(idx_4 t).2]; omega

theorem blk_cc (t : Fin cfg0.N) : Cos (fun a b => (iblk m c 5 t : S256x128.Idx → EReal) (ix2 a b)) (fun a => Ref.cx (co m c) (rw' t a)) := fun a b => by
  show (iblk m c 5 t : S256x128.Idx → EReal) (ix2 a b) = _
  unfold iblk
  rw [View.read_apply]
  refine Eq.trans (congrArg (V m c main_v0 : S4096x128.Idx → EReal) (funext fun d => Fin.ext ?_)) (V_cos m c (rw' t a) b)
  match d with
  | ⟨0, _⟩ => show win0_5.index t 0 * 256 + 1 * a.val = 256 * t.val + a.val; rw [(idx_5 t).1]; omega
  | ⟨1, _⟩ => show win0_5.index t 1 * 128 + 1 * b.val = b.val; rw [(idx_5 t).2]; omega

theorem blk_sc (t : Fin cfg0.N) : Sin (fun a b => (iblk m c 6 t : S256x128.Idx → EReal) (ix2 a b)) (fun a => Ref.cx (si m c) (rw' t a)) := fun a b => by
  show (iblk m c 6 t : S256x128.Idx → EReal) (ix2 a b) = _
  unfold iblk
  rw [View.read_apply]
  refine Eq.trans (congrArg (V m c main_v3 : S4096x128.Idx → EReal) (funext fun d => Fin.ext ?_)) (V_sin m c (rw' t a) b)
  match d with
  | ⟨0, _⟩ => show win0_6.index t 0 * 256 + 1 * a.val = 256 * t.val + a.val; rw [(idx_6 t).1]; omega
  | ⟨1, _⟩ => show win0_6.index t 1 * 128 + 1 * b.val = b.val; rw [(idx_6 t).2]; omega

theorem blk_cp (t : Fin cfg0.N) : Cos (fun a b => (iblk m c 7 t : S128x128.Idx → EReal) (ix2 a b)) (fun a => Ref.cx (co m c) (pv' t a)) := fun a b => by
  show (iblk m c 7 t : S128x128.Idx → EReal) (ix2 a b) = _
  unfold iblk
  rw [View.read_apply]
  refine Eq.trans (congrArg (V m c main_v0 : S4096x128.Idx → EReal) (funext fun d => Fin.ext ?_)) (V_cos m c (pv' t a) b)
  match d with
  | ⟨0, _⟩ => show win0_7.index t 0 * 128 + 1 * a.val = 128 * (2 * t.val - 1) + a.val; rw [(idx_7 t).1]; omega
  | ⟨1, _⟩ => show win0_7.index t 1 * 128 + 1 * b.val = b.val; rw [(idx_7 t).2]; omega

theorem blk_sp (t : Fin cfg0.N) : Sin (fun a b => (iblk m c 8 t : S128x128.Idx → EReal) (ix2 a b)) (fun a => Ref.cx (si m c) (pv' t a)) := fun a b => by
  show (iblk m c 8 t : S128x128.Idx → EReal) (ix2 a b) = _
  unfold iblk
  rw [View.read_apply]
  refine Eq.trans (congrArg (V m c main_v3 : S4096x128.Idx → EReal) (funext fun d => Fin.ext ?_)) (V_sin m c (pv' t a) b)
  match d with
  | ⟨0, _⟩ => show win0_8.index t 0 * 128 + 1 * a.val = 128 * (2 * t.val - 1) + a.val; rw [(idx_8 t).1]; omega
  | ⟨1, _⟩ => show win0_8.index t 1 * 128 + 1 * b.val = b.val; rw [(idx_8 t).2]; omega

theorem blk_sk (t : Fin cfg0.N) (h : Fin 8) : (k0_pay15 (F := Ideal) (iblk m c 9 t) (ix2 0 ⟨h.val, by omega⟩) : EReal) = sk m c (ix1 h) := by
  unfold k0_pay15
  rw [shapeCast_self]
  unfold iblk
  rw [View.read_apply]
  refine Eq.trans (congrArg (V m c main_v5 : S1x128.Idx → EReal) (funext fun d => Fin.ext ?_)) (V_sk m c h)
  match d with
  | ⟨0, _⟩ => show win0_9.index t 0 * 1 + 1 * 0 = 0; rw [(idx_9 t).1]
  | ⟨1, _⟩ => show win0_9.index t 1 * 128 + 1 * h.val = h.val; rw [(idx_9 t).2]; omega

/-! ## A block -/

/-- The body's window is the rows' window, from the first row on. -/
theorem past_win (f : Fin 4096 → Fin 2 → Fin 64 → EReal) (x : Fin 128 → Fin 128 → EReal) (u : Fin 256 → Fin 128 → EReal) (t : Fin cfg0.N) (s : Fin 2) (n : Fin 32)
    (hn : n.val = 2 * t.val + s.val) (e : Fin 256) (g : Fin 2) (d : Fin 64) (b : Fin 128) (hv : 128 ≤ 128 * n.val + e.val)
    (hx : ∀ a, x a b = f (pv' t a) g d) (hu : ∀ a, u a b = f (rw' t a) g d) : past x u s e b = win f n g e d := by
  unfold past win
  rw [dif_pos hv]
  by_cases h : 128 * s.val + e.val < 128
  · rw [dif_pos h, hx]
    exact congrArg (fun i => f i g d) (Fin.ext (show 128 * (2 * t.val - 1) + e.val = 128 * n.val + e.val - 128 by omega))
  · rw [dif_neg h, hu]
    exact congrArg (fun i => f i g d) (Fin.ext (show 256 * t.val + (128 * s.val + e.val - 128) % 256 = 128 * n.val + e.val - 128 by omega))

theorem keys_at (t : Fin cfg0.N) (s : Fin 2) (n : Fin 32) (hn : n.val = 2 * t.val + s.val) (e : Fin 256) (g : Fin 2) (d : Fin 64) (hv : 128 ≤ 128 * n.val + e.val) :
    (windowV (F := Ideal) (kpV m c t) (kcV m c t) s g (ix2 e d) : EReal) = win (krow (Ref.px (p m c)) (Ref.cx (co m c)) (Ref.cx (si m c))) n g e d := by
  refine (window_apply _ _ s g e d).trans (past_win _ _ _ t s n hn e g d _ hv (fun a => ?_) (fun a => ?_))
  · refine (kp_apply (iblk m c 2 t) (iblk m c 7 t) (iblk m c 8 t) _ _ (blk_cp m c t) (blk_sp m c t) a g d).trans ?_
    unfold krow
    refine congrArg (fun q => rot q (Ref.cx (co m c) (pv' t a)) (Ref.cx (si m c) (pv' t a)) d) (funext fun d => (blk_kp m c t a _).trans ?_)
    exact congrArg (fun b => p m c (ix2 (pv' t a) b)) (Fin.ext (show 512 + (64 * g.val + d.val) = 512 + 64 * g.val + d.val by omega))
  · refine (kc_apply (iblk m c 1 t) (iblk m c 5 t) (iblk m c 6 t) _ _ (blk_cc m c t) (blk_sc m c t) a g d).trans ?_
    unfold krow
    refine congrArg (fun q => rot q (Ref.cx (co m c) (rw' t a)) (Ref.cx (si m c) (rw' t a)) d) (funext fun d => (blk_kc m c t a _).trans ?_)
    exact congrArg (fun b => p m c (ix2 (rw' t a) b)) (Fin.ext (show 512 + (64 * g.val + d.val) = 512 + 64 * g.val + d.val by omega))

theorem values_at (t : Fin cfg0.N) (s : Fin 2) (n : Fin 32) (hn : n.val = 2 * t.val + s.val) (e : Fin 256) (g : Fin 2) (d : Fin 64) (hv : 128 ≤ 128 * n.val + e.val) :
    (windowV (F := Ideal) (iblk m c 4 t) (iblk m c 3 t) s g (ix2 e d) : EReal) = win (vrow (Ref.px (p m c))) n g e d := by
  refine (window_apply _ _ s g e d).trans (past_win _ _ _ t s n hn e g d _ hv (fun a => ?_) (fun a => ?_))
  · refine (blk_vp m c t a _).trans ?_
    exact congrArg (fun b => p m c (ix2 (pv' t a) b)) (Fin.ext (show 640 + (64 * g.val + d.val) = 640 + 64 * g.val + d.val by omega))
  · refine (blk_vc m c t a _).trans ?_
    exact congrArg (fun b => p m c (ix2 (rw' t a) b)) (Fin.ext (show 640 + (64 * g.val + d.val) = 640 + 64 * g.val + d.val by omega))

theorem query_at (t : Fin cfg0.N) (a : Fin 256) (i : Fin 4096) (hi : i = rw' t a) (h : Fin 8) (d : Fin 64) :
    (qV (F := Ideal) m c t (ix2 a ⟨64 * h.val + d.val, by omega⟩) : EReal) = qrow (Ref.px (p m c)) (Ref.cx (co m c)) (Ref.cx (si m c)) i h d := by
  subst hi
  refine (q_apply (iblk m c 5 t) (iblk m c 6 t) (X0_0 m c t) _ _ (blk_cc m c t) (blk_sc m c t) a h d).trans ?_
  unfold qrow
  exact congrArg (fun q => rot q (Ref.cx (co m c) (rw' t a)) (Ref.cx (si m c) (rw' t a)) d) (funext fun d => blk_q m c t a _)

theorem head_at (t : Fin cfg0.N) (s : Fin 2) (n : Fin 32) (hn : n.val = 2 * t.val + s.val) (h : Fin 8) (r : Fin 128) (d : Fin 64) :
    (blockV (F := Ideal) m c t s h (ix2 r d) : EReal) = att (Ref.px (p m c)) (Ref.cx (co m c)) (Ref.cx (si m c)) (Ref.kx (sk m c)) n r h d := by
  unfold blockV
  rw [crd t]
  refine (head_apply _ _ _ _ ⟨t.val, N_eq t⟩ s h n hn r d).trans ?_
  unfold att
  refine out_congr _ _ _ _ _ _ _ _ _ _ (fun _ => Iff.rfl) (funext fun d => ?_) (fun e he => funext fun d => ?_) (fun e he => funext fun d => ?_) (blk_sk m c t h) d
  · exact query_at m c t _ _ (Fin.ext (show 128 * n.val + r.val = 256 * t.val + (128 * s.val + r.val) by omega)) h d
  · exact keys_at m c t s n hn e _ d he.2
  · exact values_at m c t s n hn e _ d he.2

/-! ## The result array -/

/-- Every row is a row of a point. -/
theorem row_of (i : Fin 4096) : ∃ (t : Fin cfg0.N) (a : Fin 256), i = rw' t a :=
  ⟨⟨i.val / 256, by rw [show cfg0.N = 16 from N_0]; omega⟩, ⟨i.val % 256, Nat.mod_lt _ (by norm_num)⟩,
    Fin.ext (by show i.val = 256 * (i.val / 256) + i.val % 256; omega)⟩

theorem o_at (t : Fin cfg0.N) (a : Fin 256) (b : Fin 512) : (outsAt0 m c t (ix2 a b) : EReal)
    = att (Ref.px (p m c)) (Ref.cx (co m c)) (Ref.cx (si m c)) (Ref.kx (sk m c)) ⟨(rw' t a).val / 128, by omega⟩ ⟨(rw' t a).val % 128, by omega⟩
        ⟨b.val / 64, by omega⟩ ⟨b.val % 64, by omega⟩ := by
  refine (point m c t a b).trans ((head_at m c t ⟨a.val / 128, by omega⟩ ⟨(rw' t a).val / 128, by omega⟩
    (show (256 * t.val + a.val) / 128 = 2 * t.val + a.val / 128 by omega) ⟨b.val / 64, by omega⟩ ⟨a.val % 128, by omega⟩ ⟨b.val % 64, by omega⟩).trans ?_)
  rw [show (⟨a.val % 128, by omega⟩ : Fin 128) = ⟨(rw' t a).val % 128, by omega⟩ from Fin.ext (show a.val % 128 = (256 * t.val + a.val) % 128 by omega)]

theorem arr_o (i : Fin 4096) (b : Fin 512) : ((dats m 0 c).arrAt 10 cfg0.N : S4096x512.Idx → EReal) (ix2 i b)
    = att (Ref.px (p m c)) (Ref.cx (co m c)) (Ref.cx (si m c)) (Ref.kx (sk m c)) ⟨i.val / 128, by omega⟩ ⟨i.val % 128, by omega⟩ ⟨b.val / 64, by omega⟩ ⟨b.val % 64, by omega⟩ := by
  obtain ⟨t, a, rfl⟩ := row_of i
  have hb := congrFun (blocks10 m c t (flush0_10 t)) (ix2 (n0 := 256) (n1 := 512) a b)
  rw [View.read_apply, flushed10] at hb
  refine Eq.trans (congrArg ((dats m 0 c).arrAt 10 cfg0.N : S4096x512.Idx → EReal) (funext fun d => Fin.ext ?_)) (hb.trans (Eq.trans ?_ (o_at m c t a b)))
  · match d with
    | ⟨0, _⟩ => show 256 * t.val + a.val = win0_10.index t 0 * 256 + 1 * a.val; rw [(idx_10 t).1]; omega
    | ⟨1, _⟩ => show b.val = win0_10.index t 1 * 512 + 1 * b.val; rw [(idx_10 t).2]; omega
  · refine congrArg (outsAt0 m c t : S256x512.Idx → EReal) (funext fun d => Fin.ext ?_)
    match d with
    | ⟨0, _⟩ => rfl
    | ⟨1, _⟩ => rfl

end Kernel

end Cert.Kernel21Ideal.Result

namespace Cert.Proof

open Cert.Kernel21Ideal.Result Cert.Reference21Ideal.Read Cert.Shared

/-- The reference's run leaves its arguments and closes every semaphore. -/
theorem frame_reference21 : Cert.quiescent_Reference21Ideal := fun m ρ _ =>
  (θ_run Cert.Reference21Ideal.defs _ _).mono (fun r h => ⟨fun c => (h c).2,
      Idealize.ShloMosaic.sem_eq_zero_of_no_sems (by decide) r.2⟩)
    (Cert.Reference21Ideal.Value.run (F := Ideal) m ρ)

/-- The two programs, run on memories that hold the same arguments, leave the same result. -/
theorem algebraic_attn : Cert.algebraic_Kernel21Ideal_Reference21Ideal := by
  intro m ρ m' ρ' _ hagree
  refine ⟨fun c => val_main_v105 (F := Ideal) (p m c) (co m c) (si m c) (sk m c), ?_, ?_⟩
  · refine (θ_run Cert.Kernel21Ideal.defs _ _).mono (fun r hr c => ?_) (Cert.Kernel21Ideal.Value.run_blocks (F := Ideal) m ρ)
    obtain ⟨h0, ha⟩ := hr c
    exact ⟨h0.trans (ext2 _ _ fun i b => (arr_o m c i b).trans (Cert.Kernel21Ideal.Ref.result_eq _ _ _ _ i b).symm), ha⟩
  · refine (θ_run Cert.Reference21Ideal.defs _ _).mono (fun r hr c => ?_) (Cert.Reference21Ideal.Value.run (F := Ideal) m' ρ')
    obtain ⟨h0, ha⟩ := hr c
    obtain ⟨a0, a1, a2, a3⟩ := hagree c
    refine ⟨(h0.trans (val_main_v105_eq m' c)).trans ?_, ha⟩
    rw [a0, a1, a2, a3]

end Cert.Proof

end
-- ==== Proof.lean ====
/-
  The certificate: `Cert.Claim` is, of every call of the training step taken here, that the call as printed runs and restores
  its semaphores (at the words), that its idealized print and the reference do so over the extended reals, that the idealized
  print is the call's own text, and that over the extended reals the call and the reference leave the same results.
  The value claims are proved in the modules under Proof/, one call in each module or group of modules; what they state is
  said at their heads.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Kernel19
public import proofs.«01_k».proof.Proof.Gen.Kernel19Ideal
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.MlpRun
public import proofs.«01_k».proof.Proof.InprojBwdRun
public import proofs.«01_k».proof.Proof.WgradUp
public import proofs.«01_k».proof.Proof.WgradDown
public import proofs.«01_k».proof.Proof.PleRun
public import proofs.«01_k».proof.Proof.WgradIn
public import proofs.«01_k».proof.Proof.WgradO
public import proofs.«01_k».proof.Proof.WgradGate
public import proofs.«01_k».proof.Proof.WgradProj
public import proofs.«01_k».proof.Proof.Inproj
public import proofs.«01_k».proof.Proof.Oproj
public import proofs.«01_k».proof.Proof.AdamO
public import proofs.«01_k».proof.Proof.AdamUp
public import proofs.«01_k».proof.Proof.AdamDown
public import proofs.«01_k».proof.Proof.AdamGate
public import proofs.«01_k».proof.Proof.AdamProj
public import proofs.«01_k».proof.Proof.AdamIn
public import proofs.«01_k».proof.Proof.AdamSmall
public import proofs.«01_k».proof.Proof.MlpFwdValue
public import proofs.«01_k».proof.Proof.PrepRun
public import proofs.«01_k».proof.Proof.AttnRun
public import Idealize.ShloMosaic.Adequacy
public import Idealize.ShloMosaic.Init

@[expose] public section

noncomputable section

namespace Cert.Proof

open Idealize.ShloMosaic Idealize.SL.Sem

/-- The claims of all calls: five of each. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  fun m ρ _ => Cert.Kernel.Gen.frame m ρ,
  fun m ρ _ => Cert.KernelIdeal.Gen.frame m ρ,
  frame_reference,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  fun m ρ _ => Cert.Kernel12.Gen.frame m ρ,
  fun m ρ _ => Cert.Kernel12Ideal.Gen.frame m ρ,
  frame_reference12,
  fun m ρ _ => Cert.Kernel13.Gen.frame m ρ,
  fun m ρ _ => Cert.Kernel13Ideal.Gen.frame m ρ,
  frame_reference13,
  fun m ρ _ => Cert.Kernel14.Gen.frame m ρ,
  fun m ρ _ => Cert.Kernel14Ideal.Gen.frame m ρ,
  frame_reference14,
  fun m ρ _ => Cert.Kernel15.Gen.frame m ρ,
  fun m ρ _ => Cert.Kernel15Ideal.Gen.frame m ρ,
  frame_reference15,
  fun m ρ _ => Cert.Kernel16.Gen.frame m ρ,
  fun m ρ _ => Cert.Kernel16Ideal.Gen.frame m ρ,
  frame_reference16,
  fun m ρ _ => Cert.Kernel17.Gen.frame m ρ,
  fun m ρ _ => Cert.Kernel17Ideal.Gen.frame m ρ,
  frame_reference17,
  fun m ρ _ => Cert.Kernel18.Gen.frame m ρ,
  fun m ρ _ => Cert.Kernel18Ideal.Gen.frame m ρ,
  frame_reference18,
  frame_kernel19,
  frame_kernel19Ideal,
  frame_reference19,
  fun m ρ _ => Cert.Kernel20.Gen.frame m ρ,
  fun m ρ _ => Cert.Kernel20Ideal.Gen.frame m ρ,
  frame_reference20,
  fun m ρ _ => Cert.Kernel21.Gen.frame m ρ,
  fun m ρ _ => Cert.Kernel21Ideal.Gen.frame m ρ,
  frame_reference21,
  trivial, algebraic_mlp,
  trivial, algebraic_in,
  trivial, algebraic_up,
  trivial, algebraic_down,
  trivial, algebraic_ple,
  trivial, algebraic_wwin,
  trivial, algebraic_wo,
  trivial, algebraic_gate,
  trivial, algebraic_proj,
  trivial, algebraic_inproj,
  trivial, algebraic_oproj,
  trivial, algebraic_adam_o,
  trivial, algebraic_adam_up,
  trivial, algebraic_adam_down,
  trivial, algebraic_adam_gate,
  trivial, algebraic_adam_proj,
  trivial, algebraic_adam_in,
  trivial, algebraic_adam_small,
  trivial, algebraic_mlp_fwd,
  trivial, algebraic_prep,
  trivial, algebraic_attn⟩

end Cert.Proof

end
